-- ==== Defs.lean ====
def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_WGate (m : (ℓ : Loc Cert.WGate.nD Cert.WGate.τ Cert.WGate.sig) → Buf (Elt Bits) ℓ) : Prop :=
  True

def Pre_WGateIdeal (m : (ℓ : Loc Cert.WGateIdeal.nD Cert.WGateIdeal.τ Cert.WGateIdeal.sig) → Buf (Elt Ideal) ℓ) : Prop :=
  True

def Pre_WGateRefIdeal (m : (ℓ : Loc Cert.WGateRefIdeal.nD Cert.WGateRefIdeal.τ Cert.WGateRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_fwd_finite [hPre_fwd_finite : Cert.Pre_fwd_finite.Facts] (m : (ℓ : Loc Cert.FwdIdeal.nD Cert.FwdIdeal.τ Cert.FwdIdeal.sig) → Buf (Elt Ideal) ℓ) : Prop :=
  ∀ c : Dev Cert.FwdIdeal.nD,
    (Cert.Pre_fwd_finite.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2)) (m ((c.tc : Thread Cert.FwdIdeal.nD Cert.FwdIdeal.τ).loc Cert.FwdIdeal.main_arg3)) (m ((c.tc : Thread Cert.FwdIdeal.nD Cert.FwdIdeal.τ).loc Cert.FwdIdeal.main_arg4)) (m ((c.tc : Thread Cert.FwdIdeal.nD Cert.FwdIdeal.τ).loc Cert.FwdIdeal.main_arg5)) (m ((c.tc : Thread Cert.FwdIdeal.nD Cert.FwdIdeal.τ).loc Cert.FwdIdeal.main_arg6)) (m ((c.tc : Thread Cert.FwdIdeal.nD Cert.FwdIdeal.τ).loc Cert.FwdIdeal.main_arg7)) (m ((c.tc : Thread Cert.FwdIdeal.nD Cert.FwdIdeal.τ).loc Cert.FwdIdeal.main_arg8)) (m ((c.tc : Thread Cert.FwdIdeal.nD Cert.FwdIdeal.τ).loc Cert.FwdIdeal.main_arg9)) (m ((c.tc : Thread Cert.FwdIdeal.nD Cert.FwdIdeal.τ).loc Cert.FwdIdeal.main_arg10)) (m ((c.tc : Thread Cert.FwdIdeal.nD Cert.FwdIdeal.τ).loc Cert.FwdIdeal.main_arg11)) (m ((c.tc : Thread Cert.FwdIdeal.nD Cert.FwdIdeal.τ).loc Cert.FwdIdeal.main_arg12)) (m ((c.tc : Thread Cert.FwdIdeal.nD Cert.FwdIdeal.τ).loc Cert.FwdIdeal.main_arg13))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_fwd_finite [hPre_fwd_finite : Cert.Pre_fwd_finite.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_fwd_finite.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2)) (m ((c.tc : Thread Cert.FwdRefIdeal.nD Cert.FwdRefIdeal.τ).loc Cert.FwdRefIdeal.main_arg3)) (m ((c.tc : Thread Cert.FwdRefIdeal.nD Cert.FwdRefIdeal.τ).loc Cert.FwdRefIdeal.main_arg4)) (m ((c.tc : Thread Cert.FwdRefIdeal.nD Cert.FwdRefIdeal.τ).loc Cert.FwdRefIdeal.main_arg5)) (m ((c.tc : Thread Cert.FwdRefIdeal.nD Cert.FwdRefIdeal.τ).loc Cert.FwdRefIdeal.main_arg6)) (m ((c.tc : Thread Cert.FwdRefIdeal.nD Cert.FwdRefIdeal.τ).loc Cert.FwdRefIdeal.main_arg7)) (m ((c.tc : Thread Cert.FwdRefIdeal.nD Cert.FwdRefIdeal.τ).loc Cert.FwdRefIdeal.main_arg8)) (m ((c.tc : Thread Cert.FwdRefIdeal.nD Cert.FwdRefIdeal.τ).loc Cert.FwdRefIdeal.main_arg9)) (m ((c.tc : Thread Cert.FwdRefIdeal.nD Cert.FwdRefIdeal.τ).loc Cert.FwdRefIdeal.main_arg10)) (m ((c.tc : Thread Cert.FwdRefIdeal.nD Cert.FwdRefIdeal.τ).loc Cert.FwdRefIdeal.main_arg11)) (m ((c.tc : Thread Cert.FwdRefIdeal.nD Cert.FwdRefIdeal.τ).loc Cert.FwdRefIdeal.main_arg12)) (m ((c.tc : Thread Cert.FwdRefIdeal.nD Cert.FwdRefIdeal.τ).loc Cert.FwdRefIdeal.main_arg13))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8)) (m ((c.tc : Thread Cert.LossIdeal.nD Cert.LossIdeal.τ).loc Cert.LossIdeal.main_arg9)) (m ((c.tc : Thread Cert.LossIdeal.nD Cert.LossIdeal.τ).loc Cert.LossIdeal.main_arg10)) (m ((c.tc : Thread Cert.LossIdeal.nD Cert.LossIdeal.τ).loc Cert.LossIdeal.main_arg11)) (m ((c.tc : Thread Cert.LossIdeal.nD Cert.LossIdeal.τ).loc Cert.LossIdeal.main_arg12)) (m ((c.tc : Thread Cert.LossIdeal.nD Cert.LossIdeal.τ).loc Cert.LossIdeal.main_arg13)) (m ((c.tc : Thread Cert.LossIdeal.nD Cert.LossIdeal.τ).loc Cert.LossIdeal.main_arg14))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8)) (m ((c.tc : Thread Cert.LossRefIdeal.nD Cert.LossRefIdeal.τ).loc Cert.LossRefIdeal.main_arg9)) (m ((c.tc : Thread Cert.LossRefIdeal.nD Cert.LossRefIdeal.τ).loc Cert.LossRefIdeal.main_arg10)) (m ((c.tc : Thread Cert.LossRefIdeal.nD Cert.LossRefIdeal.τ).loc Cert.LossRefIdeal.main_arg11)) (m ((c.tc : Thread Cert.LossRefIdeal.nD Cert.LossRefIdeal.τ).loc Cert.LossRefIdeal.main_arg12)) (m ((c.tc : Thread Cert.LossRefIdeal.nD Cert.LossRefIdeal.τ).loc Cert.LossRefIdeal.main_arg13)) (m ((c.tc : Thread Cert.LossRefIdeal.nD Cert.LossRefIdeal.τ).loc Cert.LossRefIdeal.main_arg14))) = (fun _ => 1#1)

def Pre_AdamAdaW (m : (ℓ : Loc Cert.AdamAdaW.nD Cert.AdamAdaW.τ Cert.AdamAdaW.sig) → Buf (Elt Bits) ℓ) : Prop :=
  True

def Pre_AdamAdaWIdeal (m : (ℓ : Loc Cert.AdamAdaWIdeal.nD Cert.AdamAdaWIdeal.τ Cert.AdamAdaWIdeal.sig) → Buf (Elt Ideal) ℓ) : Prop :=
  True

def Pre_AdamAdaWRefIdeal (m : (ℓ : Loc Cert.AdamAdaWRefIdeal.nD Cert.AdamAdaWRefIdeal.τ Cert.AdamAdaWRefIdeal.sig) → Buf (Elt Ideal) ℓ) : Prop :=
  True

def Pre_AdamAdaB (m : (ℓ : Loc Cert.AdamAdaB.nD Cert.AdamAdaB.τ Cert.AdamAdaB.sig) → Buf (Elt Bits) ℓ) : Prop :=
  True

def Pre_AdamAdaBIdeal (m : (ℓ : Loc Cert.AdamAdaBIdeal.nD Cert.AdamAdaBIdeal.τ Cert.AdamAdaBIdeal.sig) → Buf (Elt Ideal) ℓ) : Prop :=
  True

def Pre_AdamAdaBRefIdeal (m : (ℓ : Loc Cert.AdamAdaBRefIdeal.nD Cert.AdamAdaBRefIdeal.τ Cert.AdamAdaBRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBIn (m : (ℓ : Loc Cert.AdamBIn.nD Cert.AdamBIn.τ Cert.AdamBIn.sig) → Buf (Elt Bits) ℓ) : Prop :=
  True

def Pre_AdamBInIdeal (m : (ℓ : Loc Cert.AdamBInIdeal.nD Cert.AdamBInIdeal.τ Cert.AdamBInIdeal.sig) → Buf (Elt Ideal) ℓ) : Prop :=
  True

def Pre_AdamBInRefIdeal (m : (ℓ : Loc Cert.AdamBInRefIdeal.nD Cert.AdamBInRefIdeal.τ Cert.AdamBInRefIdeal.sig) → Buf (Elt Ideal) ℓ) : Prop :=
  True

def Pre_AdamSinks (m : (ℓ : Loc Cert.AdamSinks.nD Cert.AdamSinks.τ Cert.AdamSinks.sig) → Buf (Elt Bits) ℓ) : Prop :=
  True

def Pre_AdamSinksIdeal (m : (ℓ : Loc Cert.AdamSinksIdeal.nD Cert.AdamSinksIdeal.τ Cert.AdamSinksIdeal.sig) → Buf (Elt Ideal) ℓ) : Prop :=
  True

def Pre_AdamSinksRefIdeal (m : (ℓ : Loc Cert.AdamSinksRefIdeal.nD Cert.AdamSinksRefIdeal.τ Cert.AdamSinksRefIdeal.sig) → Buf (Elt Ideal) ℓ) : Prop :=
  True

def Pre_AdamPoolW (m : (ℓ : Loc Cert.AdamPoolW.nD Cert.AdamPoolW.τ Cert.AdamPoolW.sig) → Buf (Elt Bits) ℓ) : Prop :=
  True

def Pre_AdamPoolWIdeal (m : (ℓ : Loc Cert.AdamPoolWIdeal.nD Cert.AdamPoolWIdeal.τ Cert.AdamPoolWIdeal.sig) → Buf (Elt Ideal) ℓ) : Prop :=
  True

def Pre_AdamPoolWRefIdeal (m : (ℓ : Loc Cert.AdamPoolWRefIdeal.nD Cert.AdamPoolWRefIdeal.τ Cert.AdamPoolWRefIdeal.sig) → Buf (Elt Ideal) ℓ) : Prop :=
  True

def Pre_AdamPoolS (m : (ℓ : Loc Cert.AdamPoolS.nD Cert.AdamPoolS.τ Cert.AdamPoolS.sig) → Buf (Elt Bits) ℓ) : Prop :=
  True

def Pre_AdamPoolSIdeal (m : (ℓ : Loc Cert.AdamPoolSIdeal.nD Cert.AdamPoolSIdeal.τ Cert.AdamPoolSIdeal.sig) → Buf (Elt Ideal) ℓ) : Prop :=
  True

def Pre_AdamPoolSRefIdeal (m : (ℓ : Loc Cert.AdamPoolSRefIdeal.nD Cert.AdamPoolSRefIdeal.τ Cert.AdamPoolSRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamG (m : (ℓ : Loc Cert.AdamG.nD Cert.AdamG.τ Cert.AdamG.sig) → Buf (Elt Bits) ℓ) : Prop :=
  True

def Pre_AdamGIdeal (m : (ℓ : Loc Cert.AdamGIdeal.nD Cert.AdamGIdeal.τ Cert.AdamGIdeal.sig) → Buf (Elt Ideal) ℓ) : Prop :=
  True

def Pre_AdamGRefIdeal (m : (ℓ : Loc Cert.AdamGRefIdeal.nD Cert.AdamGRefIdeal.τ Cert.AdamGRefIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradRefIdeal (m : (ℓ : Loc Cert.AdaGradRefIdeal.nD Cert.AdaGradRefIdeal.τ Cert.AdaGradRefIdeal.sig) → Buf (Elt Ideal) ℓ) : Prop :=
  True

def Pre_SumDev (m : (ℓ : Loc Cert.SumDev.nD Cert.SumDev.τ Cert.SumDev.sig) → Buf (Elt Bits) ℓ) : Prop :=
  True

def Pre_SumDevIdeal (m : (ℓ : Loc Cert.SumDevIdeal.nD Cert.SumDevIdeal.τ Cert.SumDevIdeal.sig) → Buf (Elt Ideal) ℓ) : Prop :=
  True

def Pre_SumDevRefIdeal (m : (ℓ : Loc Cert.SumDevRefIdeal.nD Cert.SumDevRefIdeal.τ Cert.SumDevRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4)) (m ((c.tc : Thread Cert.InBwdIdeal.nD Cert.InBwdIdeal.τ).loc Cert.InBwdIdeal.main_arg5)) (m ((c.tc : Thread Cert.InBwdIdeal.nD Cert.InBwdIdeal.τ).loc Cert.InBwdIdeal.main_arg6)) (m ((c.tc : Thread Cert.InBwdIdeal.nD Cert.InBwdIdeal.τ).loc Cert.InBwdIdeal.main_arg7)) (m ((c.tc : Thread Cert.InBwdIdeal.nD Cert.InBwdIdeal.τ).loc Cert.InBwdIdeal.main_arg8)) (m ((c.tc : Thread Cert.InBwdIdeal.nD Cert.InBwdIdeal.τ).loc Cert.InBwdIdeal.main_arg9)) (m ((c.tc : Thread Cert.InBwdIdeal.nD Cert.InBwdIdeal.τ).loc Cert.InBwdIdeal.main_arg10)) (m ((c.tc : Thread Cert.InBwdIdeal.nD Cert.InBwdIdeal.τ).loc Cert.InBwdIdeal.main_arg11)) (m ((c.tc : Thread Cert.InBwdIdeal.nD Cert.InBwdIdeal.τ).loc Cert.InBwdIdeal.main_arg12))) = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_finite [hPre_in_finite : Cert.Pre_in_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4)) (m ((c.tc : Thread Cert.InBwdRefIdeal.nD Cert.InBwdRefIdeal.τ).loc Cert.InBwdRefIdeal.main_arg5)) (m ((c.tc : Thread Cert.InBwdRefIdeal.nD Cert.InBwdRefIdeal.τ).loc Cert.InBwdRefIdeal.main_arg6)) (m ((c.tc : Thread Cert.InBwdRefIdeal.nD Cert.InBwdRefIdeal.τ).loc Cert.InBwdRefIdeal.main_arg7)) (m ((c.tc : Thread Cert.InBwdRefIdeal.nD Cert.InBwdRefIdeal.τ).loc Cert.InBwdRefIdeal.main_arg8)) (m ((c.tc : Thread Cert.InBwdRefIdeal.nD Cert.InBwdRefIdeal.τ).loc Cert.InBwdRefIdeal.main_arg9)) (m ((c.tc : Thread Cert.InBwdRefIdeal.nD Cert.InBwdRefIdeal.τ).loc Cert.InBwdRefIdeal.main_arg10)) (m ((c.tc : Thread Cert.InBwdRefIdeal.nD Cert.InBwdRefIdeal.τ).loc Cert.InBwdRefIdeal.main_arg11)) (m ((c.tc : Thread Cert.InBwdRefIdeal.nD Cert.InBwdRefIdeal.τ).loc Cert.InBwdRefIdeal.main_arg12))) = (fun _ => 1#1)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_WGate [hWGate : Cert.WGate.Facts] : Prop :=
  ∀ (m : (ℓ : Loc Cert.WGate.nD Cert.WGate.τ Cert.WGate.sig) → Buf (Elt Bits) ℓ) (g : Dev Cert.WGate.nD → PrngReg), Pre_WGate m →
    θ_run (Cert.WGate.defs (F := Bits)) (onTc (τ := Cert.WGate.τ) (Cert.WGate.main (F := Bits))) ⟨m, fun _ => 0, g⟩ (fun r => (∀ c : Dev Cert.WGate.nD,
      r.2.mem ((c.tc : Thread Cert.WGate.nD Cert.WGate.τ).loc Cert.WGate.main_arg0) = m ((c.tc : Thread Cert.WGate.nD Cert.WGate.τ).loc Cert.WGate.main_arg0)
      ∧ r.2.mem ((c.tc : Thread Cert.WGate.nD Cert.WGate.τ).loc Cert.WGate.main_arg1) = m ((c.tc : Thread Cert.WGate.nD Cert.WGate.τ).loc Cert.WGate.main_arg1))
      ∧ r.2.sem = fun _ => 0)

def quiescent_WGateIdeal [hWGateIdeal : Cert.WGateIdeal.Facts] : Prop :=
  ∀ (m : (ℓ : Loc Cert.WGateIdeal.nD Cert.WGateIdeal.τ Cert.WGateIdeal.sig) → Buf (Elt Ideal) ℓ) (g : Dev Cert.WGateIdeal.nD → PrngReg), Pre_WGateIdeal m →
    θ_run (Cert.WGateIdeal.defs (F := Ideal)) (onTc (τ := Cert.WGateIdeal.τ) (Cert.WGateIdeal.main (F := Ideal))) ⟨m, fun _ => 0, g⟩ (fun r => (∀ c : Dev Cert.WGateIdeal.nD,
      r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
      ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ r.2.sem = fun _ => 0)

def quiescent_WGateRefIdeal [hWGateRefIdeal : Cert.WGateRefIdeal.Facts] : Prop :=
  ∀ (m : (ℓ : Loc Cert.WGateRefIdeal.nD Cert.WGateRefIdeal.τ Cert.WGateRefIdeal.sig) → Buf (Elt Ideal) ℓ) (g : Dev Cert.WGateRefIdeal.nD → PrngReg), Pre_WGateRefIdeal m →
    θ_run (Cert.WGateRefIdeal.defs (F := Ideal)) (onTc (τ := Cert.WGateRefIdeal.τ) (Cert.WGateRefIdeal.main (F := Ideal))) ⟨m, fun _ => 0, g⟩ (fun r => (∀ c : Dev Cert.WGateRefIdeal.nD,
      r.2.mem ((c.tc : Thread Cert.WGateRefIdeal.nD Cert.WGateRefIdeal.τ).loc Cert.WGateRefIdeal.main_arg0) = m ((c.tc : Thread Cert.WGateRefIdeal.nD Cert.WGateRefIdeal.τ).loc Cert.WGateRefIdeal.main_arg0)
      ∧ r.2.mem ((c.tc : Thread Cert.WGateRefIdeal.nD Cert.WGateRefIdeal.τ).loc Cert.WGateRefIdeal.main_arg1) = m ((c.tc : Thread Cert.WGateRefIdeal.nD Cert.WGateRefIdeal.τ).loc Cert.WGateRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4)
      ∧ r.2.mem ((c.tc : Thread Cert.Fwd.nD Cert.Fwd.τ).loc Cert.Fwd.main_arg5) = m ((c.tc : Thread Cert.Fwd.nD Cert.Fwd.τ).loc Cert.Fwd.main_arg5)
      ∧ r.2.mem ((c.tc : Thread Cert.Fwd.nD Cert.Fwd.τ).loc Cert.Fwd.main_arg6) = m ((c.tc : Thread Cert.Fwd.nD Cert.Fwd.τ).loc Cert.Fwd.main_arg6)
      ∧ r.2.mem ((c.tc : Thread Cert.Fwd.nD Cert.Fwd.τ).loc Cert.Fwd.main_arg7) = m ((c.tc : Thread Cert.Fwd.nD Cert.Fwd.τ).loc Cert.Fwd.main_arg7)
      ∧ r.2.mem ((c.tc : Thread Cert.Fwd.nD Cert.Fwd.τ).loc Cert.Fwd.main_arg8) = m ((c.tc : Thread Cert.Fwd.nD Cert.Fwd.τ).loc Cert.Fwd.main_arg8)
      ∧ r.2.mem ((c.tc : Thread Cert.Fwd.nD Cert.Fwd.τ).loc Cert.Fwd.main_arg9) = m ((c.tc : Thread Cert.Fwd.nD Cert.Fwd.τ).loc Cert.Fwd.main_arg9)
      ∧ r.2.mem ((c.tc : Thread Cert.Fwd.nD Cert.Fwd.τ).loc Cert.Fwd.main_arg10) = m ((c.tc : Thread Cert.Fwd.nD Cert.Fwd.τ).loc Cert.Fwd.main_arg10)
      ∧ r.2.mem ((c.tc : Thread Cert.Fwd.nD Cert.Fwd.τ).loc Cert.Fwd.main_arg11) = m ((c.tc : Thread Cert.Fwd.nD Cert.Fwd.τ).loc Cert.Fwd.main_arg11)
      ∧ r.2.mem ((c.tc : Thread Cert.Fwd.nD Cert.Fwd.τ).loc Cert.Fwd.main_arg12) = m ((c.tc : Thread Cert.Fwd.nD Cert.Fwd.τ).loc Cert.Fwd.main_arg12)
      ∧ r.2.mem ((c.tc : Thread Cert.Fwd.nD Cert.Fwd.τ).loc Cert.Fwd.main_arg13) = m ((c.tc : Thread Cert.Fwd.nD Cert.Fwd.τ).loc Cert.Fwd.main_arg13))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
      ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11)
      ∧ r.2.mem ((c.tc : Thread Cert.FwdIdeal.nD Cert.FwdIdeal.τ).loc Cert.FwdIdeal.main_arg12) = m ((c.tc : Thread Cert.FwdIdeal.nD Cert.FwdIdeal.τ).loc Cert.FwdIdeal.main_arg12)
      ∧ r.2.mem ((c.tc : Thread Cert.FwdIdeal.nD Cert.FwdIdeal.τ).loc Cert.FwdIdeal.main_arg13) = m ((c.tc : Thread Cert.FwdIdeal.nD Cert.FwdIdeal.τ).loc Cert.FwdIdeal.main_arg13))
      ∧ r.2.sem = fun _ => 0)

def quiescent_FwdIdeal_pre_fwd_finite [hFwdIdeal : Cert.FwdIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_fwd_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
      ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
      ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
      ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
      ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
      ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
      ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
      ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11)
      ∧ r.2.mem ((c.tc : Thread Cert.FwdIdeal.nD Cert.FwdIdeal.τ).loc Cert.FwdIdeal.main_arg12) = m ((c.tc : Thread Cert.FwdIdeal.nD Cert.FwdIdeal.τ).loc Cert.FwdIdeal.main_arg12)
      ∧ r.2.mem ((c.tc : Thread Cert.FwdIdeal.nD Cert.FwdIdeal.τ).loc Cert.FwdIdeal.main_arg13) = m ((c.tc : Thread Cert.FwdIdeal.nD Cert.FwdIdeal.τ).loc Cert.FwdIdeal.main_arg13))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9)
      ∧ r.2.mem ((c.tc : Thread Cert.FwdRefIdeal.nD Cert.FwdRefIdeal.τ).loc Cert.FwdRefIdeal.main_arg10) = m ((c.tc : Thread Cert.FwdRefIdeal.nD Cert.FwdRefIdeal.τ).loc Cert.FwdRefIdeal.main_arg10)
      ∧ r.2.mem ((c.tc : Thread Cert.FwdRefIdeal.nD Cert.FwdRefIdeal.τ).loc Cert.FwdRefIdeal.main_arg11) = m ((c.tc : Thread Cert.FwdRefIdeal.nD Cert.FwdRefIdeal.τ).loc Cert.FwdRefIdeal.main_arg11)
      ∧ r.2.mem ((c.tc : Thread Cert.FwdRefIdeal.nD Cert.FwdRefIdeal.τ).loc Cert.FwdRefIdeal.main_arg12) = m ((c.tc : Thread Cert.FwdRefIdeal.nD Cert.FwdRefIdeal.τ).loc Cert.FwdRefIdeal.main_arg12)
      ∧ r.2.mem ((c.tc : Thread Cert.FwdRefIdeal.nD Cert.FwdRefIdeal.τ).loc Cert.FwdRefIdeal.main_arg13) = m ((c.tc : Thread Cert.FwdRefIdeal.nD Cert.FwdRefIdeal.τ).loc Cert.FwdRefIdeal.main_arg13))
      ∧ r.2.sem = fun _ => 0)

def quiescent_FwdRefIdeal_pre_fwd_finite [hFwdRefIdeal : Cert.FwdRefIdeal.Facts] [hPre_fwd_finite : Cert.Pre_fwd_finite.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_fwd_finite m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4)
      ∧ r.2.mem ((c.tc : Thread Cert.FwdRefIdeal.nD Cert.FwdRefIdeal.τ).loc Cert.FwdRefIdeal.main_arg5) = m ((c.tc : Thread Cert.FwdRefIdeal.nD Cert.FwdRefIdeal.τ).loc Cert.FwdRefIdeal.main_arg5)
      ∧ r.2.mem ((c.tc : Thread Cert.FwdRefIdeal.nD Cert.FwdRefIdeal.τ).loc Cert.FwdRefIdeal.main_arg6) = m ((c.tc : Thread Cert.FwdRefIdeal.nD Cert.FwdRefIdeal.τ).loc Cert.FwdRefIdeal.main_arg6)
      ∧ r.2.mem ((c.tc : Thread Cert.FwdRefIdeal.nD Cert.FwdRefIdeal.τ).loc Cert.FwdRefIdeal.main_arg7) = m ((c.tc : Thread Cert.FwdRefIdeal.nD Cert.FwdRefIdeal.τ).loc Cert.FwdRefIdeal.main_arg7)
      ∧ r.2.mem ((c.tc : Thread Cert.FwdRefIdeal.nD Cert.FwdRefIdeal.τ).loc Cert.FwdRefIdeal.main_arg8) = m ((c.tc : Thread Cert.FwdRefIdeal.nD Cert.FwdRefIdeal.τ).loc Cert.FwdRefIdeal.main_arg8)
      ∧ r.2.mem ((c.tc : Thread Cert.FwdRefIdeal.nD Cert.FwdRefIdeal.τ).loc Cert.FwdRefIdeal.main_arg9) = m ((c.tc : Thread Cert.FwdRefIdeal.nD Cert.FwdRefIdeal.τ).loc Cert.FwdRefIdeal.main_arg9)
      ∧ r.2.mem ((c.tc : Thread Cert.FwdRefIdeal.nD Cert.FwdRefIdeal.τ).loc Cert.FwdRefIdeal.main_arg10) = m ((c.tc : Thread Cert.FwdRefIdeal.nD Cert.FwdRefIdeal.τ).loc Cert.FwdRefIdeal.main_arg10)
      ∧ r.2.mem ((c.tc : Thread Cert.FwdRefIdeal.nD Cert.FwdRefIdeal.τ).loc Cert.FwdRefIdeal.main_arg11) = m ((c.tc : Thread Cert.FwdRefIdeal.nD Cert.FwdRefIdeal.τ).loc Cert.FwdRefIdeal.main_arg11)
      ∧ r.2.mem ((c.tc : Thread Cert.FwdRefIdeal.nD Cert.FwdRefIdeal.τ).loc Cert.FwdRefIdeal.main_arg12) = m ((c.tc : Thread Cert.FwdRefIdeal.nD Cert.FwdRefIdeal.τ).loc Cert.FwdRefIdeal.main_arg12)
      ∧ r.2.mem ((c.tc : Thread Cert.FwdRefIdeal.nD Cert.FwdRefIdeal.τ).loc Cert.FwdRefIdeal.main_arg13) = m ((c.tc : Thread Cert.FwdRefIdeal.nD Cert.FwdRefIdeal.τ).loc Cert.FwdRefIdeal.main_arg13))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8)
      ∧ r.2.mem ((c.tc : Thread Cert.Loss.nD Cert.Loss.τ).loc Cert.Loss.main_arg9) = m ((c.tc : Thread Cert.Loss.nD Cert.Loss.τ).loc Cert.Loss.main_arg9)
      ∧ r.2.mem ((c.tc : Thread Cert.Loss.nD Cert.Loss.τ).loc Cert.Loss.main_arg10) = m ((c.tc : Thread Cert.Loss.nD Cert.Loss.τ).loc Cert.Loss.main_arg10)
      ∧ r.2.mem ((c.tc : Thread Cert.Loss.nD Cert.Loss.τ).loc Cert.Loss.main_arg11) = m ((c.tc : Thread Cert.Loss.nD Cert.Loss.τ).loc Cert.Loss.main_arg11)
      ∧ r.2.mem ((c.tc : Thread Cert.Loss.nD Cert.Loss.τ).loc Cert.Loss.main_arg12) = m ((c.tc : Thread Cert.Loss.nD Cert.Loss.τ).loc Cert.Loss.main_arg12)
      ∧ r.2.mem ((c.tc : Thread Cert.Loss.nD Cert.Loss.τ).loc Cert.Loss.main_arg13) = m ((c.tc : Thread Cert.Loss.nD Cert.Loss.τ).loc Cert.Loss.main_arg13)
      ∧ r.2.mem ((c.tc : Thread Cert.Loss.nD Cert.Loss.τ).loc Cert.Loss.main_arg14) = m ((c.tc : Thread Cert.Loss.nD Cert.Loss.τ).loc Cert.Loss.main_arg14))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
      ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
      ∧ r.2.mem ((c.tc : Thread Cert.LossIdeal.nD Cert.LossIdeal.τ).loc Cert.LossIdeal.main_arg10) = m ((c.tc : Thread Cert.LossIdeal.nD Cert.LossIdeal.τ).loc Cert.LossIdeal.main_arg10)
      ∧ r.2.mem ((c.tc : Thread Cert.LossIdeal.nD Cert.LossIdeal.τ).loc Cert.LossIdeal.main_arg11) = m ((c.tc : Thread Cert.LossIdeal.nD Cert.LossIdeal.τ).loc Cert.LossIdeal.main_arg11)
      ∧ r.2.mem ((c.tc : Thread Cert.LossIdeal.nD Cert.LossIdeal.τ).loc Cert.LossIdeal.main_arg12) = m ((c.tc : Thread Cert.LossIdeal.nD Cert.LossIdeal.τ).loc Cert.LossIdeal.main_arg12)
      ∧ r.2.mem ((c.tc : Thread Cert.LossIdeal.nD Cert.LossIdeal.τ).loc Cert.LossIdeal.main_arg13) = m ((c.tc : Thread Cert.LossIdeal.nD Cert.LossIdeal.τ).loc Cert.LossIdeal.main_arg13)
      ∧ r.2.mem ((c.tc : Thread Cert.LossIdeal.nD Cert.LossIdeal.τ).loc Cert.LossIdeal.main_arg14) = m ((c.tc : Thread Cert.LossIdeal.nD Cert.LossIdeal.τ).loc Cert.LossIdeal.main_arg14))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
      ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
      ∧ r.2.mem ((c.tc : Thread Cert.LossIdeal.nD Cert.LossIdeal.τ).loc Cert.LossIdeal.main_arg10) = m ((c.tc : Thread Cert.LossIdeal.nD Cert.LossIdeal.τ).loc Cert.LossIdeal.main_arg10)
      ∧ r.2.mem ((c.tc : Thread Cert.LossIdeal.nD Cert.LossIdeal.τ).loc Cert.LossIdeal.main_arg11) = m ((c.tc : Thread Cert.LossIdeal.nD Cert.LossIdeal.τ).loc Cert.LossIdeal.main_arg11)
      ∧ r.2.mem ((c.tc : Thread Cert.LossIdeal.nD Cert.LossIdeal.τ).loc Cert.LossIdeal.main_arg12) = m ((c.tc : Thread Cert.LossIdeal.nD Cert.LossIdeal.τ).loc Cert.LossIdeal.main_arg12)
      ∧ r.2.mem ((c.tc : Thread Cert.LossIdeal.nD Cert.LossIdeal.τ).loc Cert.LossIdeal.main_arg13) = m ((c.tc : Thread Cert.LossIdeal.nD Cert.LossIdeal.τ).loc Cert.LossIdeal.main_arg13)
      ∧ r.2.mem ((c.tc : Thread Cert.LossIdeal.nD Cert.LossIdeal.τ).loc Cert.LossIdeal.main_arg14) = m ((c.tc : Thread Cert.LossIdeal.nD Cert.LossIdeal.τ).loc Cert.LossIdeal.main_arg14))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8)
      ∧ r.2.mem ((c.tc : Thread Cert.LossRefIdeal.nD Cert.LossRefIdeal.τ).loc Cert.LossRefIdeal.main_arg9) = m ((c.tc : Thread Cert.LossRefIdeal.nD Cert.LossRefIdeal.τ).loc Cert.LossRefIdeal.main_arg9)
      ∧ r.2.mem ((c.tc : Thread Cert.LossRefIdeal.nD Cert.LossRefIdeal.τ).loc Cert.LossRefIdeal.main_arg10) = m ((c.tc : Thread Cert.LossRefIdeal.nD Cert.LossRefIdeal.τ).loc Cert.LossRefIdeal.main_arg10)
      ∧ r.2.mem ((c.tc : Thread Cert.LossRefIdeal.nD Cert.LossRefIdeal.τ).loc Cert.LossRefIdeal.main_arg11) = m ((c.tc : Thread Cert.LossRefIdeal.nD Cert.LossRefIdeal.τ).loc Cert.LossRefIdeal.main_arg11)
      ∧ r.2.mem ((c.tc : Thread Cert.LossRefIdeal.nD Cert.LossRefIdeal.τ).loc Cert.LossRefIdeal.main_arg12) = m ((c.tc : Thread Cert.LossRefIdeal.nD Cert.LossRefIdeal.τ).loc Cert.LossRefIdeal.main_arg12)
      ∧ r.2.mem ((c.tc : Thread Cert.LossRefIdeal.nD Cert.LossRefIdeal.τ).loc Cert.LossRefIdeal.main_arg13) = m ((c.tc : Thread Cert.LossRefIdeal.nD Cert.LossRefIdeal.τ).loc Cert.LossRefIdeal.main_arg13)
      ∧ r.2.mem ((c.tc : Thread Cert.LossRefIdeal.nD Cert.LossRefIdeal.τ).loc Cert.LossRefIdeal.main_arg14) = m ((c.tc : Thread Cert.LossRefIdeal.nD Cert.LossRefIdeal.τ).loc Cert.LossRefIdeal.main_arg14))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8)
      ∧ r.2.mem ((c.tc : Thread Cert.LossRefIdeal.nD Cert.LossRefIdeal.τ).loc Cert.LossRefIdeal.main_arg9) = m ((c.tc : Thread Cert.LossRefIdeal.nD Cert.LossRefIdeal.τ).loc Cert.LossRefIdeal.main_arg9)
      ∧ r.2.mem ((c.tc : Thread Cert.LossRefIdeal.nD Cert.LossRefIdeal.τ).loc Cert.LossRefIdeal.main_arg10) = m ((c.tc : Thread Cert.LossRefIdeal.nD Cert.LossRefIdeal.τ).loc Cert.LossRefIdeal.main_arg10)
      ∧ r.2.mem ((c.tc : Thread Cert.LossRefIdeal.nD Cert.LossRefIdeal.τ).loc Cert.LossRefIdeal.main_arg11) = m ((c.tc : Thread Cert.LossRefIdeal.nD Cert.LossRefIdeal.τ).loc Cert.LossRefIdeal.main_arg11)
      ∧ r.2.mem ((c.tc : Thread Cert.LossRefIdeal.nD Cert.LossRefIdeal.τ).loc Cert.LossRefIdeal.main_arg12) = m ((c.tc : Thread Cert.LossRefIdeal.nD Cert.LossRefIdeal.τ).loc Cert.LossRefIdeal.main_arg12)
      ∧ r.2.mem ((c.tc : Thread Cert.LossRefIdeal.nD Cert.LossRefIdeal.τ).loc Cert.LossRefIdeal.main_arg13) = m ((c.tc : Thread Cert.LossRefIdeal.nD Cert.LossRefIdeal.τ).loc Cert.LossRefIdeal.main_arg13)
      ∧ r.2.mem ((c.tc : Thread Cert.LossRefIdeal.nD Cert.LossRefIdeal.τ).loc Cert.LossRefIdeal.main_arg14) = m ((c.tc : Thread Cert.LossRefIdeal.nD Cert.LossRefIdeal.τ).loc Cert.LossRefIdeal.main_arg14))
      ∧ r.2.sem = fun _ => 0)

def quiescent_AdamAdaW [hAdamAdaW : Cert.AdamAdaW.Facts] : Prop :=
  ∀ (m : (ℓ : Loc Cert.AdamAdaW.nD Cert.AdamAdaW.τ Cert.AdamAdaW.sig) → Buf (Elt Bits) ℓ) (g : Dev Cert.AdamAdaW.nD → PrngReg), Pre_AdamAdaW m →
    θ_run (Cert.AdamAdaW.defs (F := Bits)) (onTc (τ := Cert.AdamAdaW.τ) (Cert.AdamAdaW.main (F := Bits))) ⟨m, fun _ => 0, g⟩ (fun r => (∀ c : Dev Cert.AdamAdaW.nD,
      r.2.mem ((c.tc : Thread Cert.AdamAdaW.nD Cert.AdamAdaW.τ).loc Cert.AdamAdaW.main_arg0) = m ((c.tc : Thread Cert.AdamAdaW.nD Cert.AdamAdaW.τ).loc Cert.AdamAdaW.main_arg0)
      ∧ r.2.mem ((c.tc : Thread Cert.AdamAdaW.nD Cert.AdamAdaW.τ).loc Cert.AdamAdaW.main_arg1) = m ((c.tc : Thread Cert.AdamAdaW.nD Cert.AdamAdaW.τ).loc Cert.AdamAdaW.main_arg1)
      ∧ r.2.mem ((c.tc : Thread Cert.AdamAdaW.nD Cert.AdamAdaW.τ).loc Cert.AdamAdaW.main_arg2) = m ((c.tc : Thread Cert.AdamAdaW.nD Cert.AdamAdaW.τ).loc Cert.AdamAdaW.main_arg2)
      ∧ r.2.mem ((c.tc : Thread Cert.AdamAdaW.nD Cert.AdamAdaW.τ).loc Cert.AdamAdaW.main_arg3) = m ((c.tc : Thread Cert.AdamAdaW.nD Cert.AdamAdaW.τ).loc Cert.AdamAdaW.main_arg3))
      ∧ r.2.sem = fun _ => 0)

def quiescent_AdamAdaWIdeal [hAdamAdaWIdeal : Cert.AdamAdaWIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg), Pre_AdamAdaWIdeal m →
    θ_run (Cert.AdamAdaWIdeal.defs (F := Ideal)) (onTc (τ := Cert.AdamAdaWIdeal.τ) (Cert.AdamAdaWIdeal.main (F := Ideal))) ⟨m, fun _ => 0, g⟩ (fun r => (∀ c : Dev Cert.AdamAdaWIdeal.nD,
      r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
      ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
      ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
      ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ r.2.sem = fun _ => 0)

def quiescent_AdamAdaWRefIdeal [hAdamAdaWRefIdeal : Cert.AdamAdaWRefIdeal.Facts] : Prop :=
  ∀ (m : (ℓ : Loc Cert.AdamAdaWRefIdeal.nD Cert.AdamAdaWRefIdeal.τ Cert.AdamAdaWRefIdeal.sig) → Buf (Elt Ideal) ℓ) (g : Dev Cert.AdamAdaWRefIdeal.nD → PrngReg), Pre_AdamAdaWRefIdeal m →
    θ_run (Cert.AdamAdaWRefIdeal.defs (F := Ideal)) (onTc (τ := Cert.AdamAdaWRefIdeal.τ) (Cert.AdamAdaWRefIdeal.main (F := Ideal))) ⟨m, fun _ => 0, g⟩ (fun r => (∀ c : Dev Cert.AdamAdaWRefIdeal.nD,
      r.2.mem ((c.tc : Thread Cert.AdamAdaWRefIdeal.nD Cert.AdamAdaWRefIdeal.τ).loc Cert.AdamAdaWRefIdeal.main_arg0) = m ((c.tc : Thread Cert.AdamAdaWRefIdeal.nD Cert.AdamAdaWRefIdeal.τ).loc Cert.AdamAdaWRefIdeal.main_arg0)
      ∧ r.2.mem ((c.tc : Thread Cert.AdamAdaWRefIdeal.nD Cert.AdamAdaWRefIdeal.τ).loc Cert.AdamAdaWRefIdeal.main_arg1) = m ((c.tc : Thread Cert.AdamAdaWRefIdeal.nD Cert.AdamAdaWRefIdeal.τ).loc Cert.AdamAdaWRefIdeal.main_arg1)
      ∧ r.2.mem ((c.tc : Thread Cert.AdamAdaWRefIdeal.nD Cert.AdamAdaWRefIdeal.τ).loc Cert.AdamAdaWRefIdeal.main_arg2) = m ((c.tc : Thread Cert.AdamAdaWRefIdeal.nD Cert.AdamAdaWRefIdeal.τ).loc Cert.AdamAdaWRefIdeal.main_arg2)
      ∧ r.2.mem ((c.tc : Thread Cert.AdamAdaWRefIdeal.nD Cert.AdamAdaWRefIdeal.τ).loc Cert.AdamAdaWRefIdeal.main_arg3) = m ((c.tc : Thread Cert.AdamAdaWRefIdeal.nD Cert.AdamAdaWRefIdeal.τ).loc Cert.AdamAdaWRefIdeal.main_arg3))
      ∧ r.2.sem = fun _ => 0)

def quiescent_AdamAdaB [hAdamAdaB : Cert.AdamAdaB.Facts] : Prop :=
  ∀ (m : (ℓ : Loc Cert.AdamAdaB.nD Cert.AdamAdaB.τ Cert.AdamAdaB.sig) → Buf (Elt Bits) ℓ) (g : Dev Cert.AdamAdaB.nD → PrngReg), Pre_AdamAdaB m →
    θ_run (Cert.AdamAdaB.defs (F := Bits)) (onTc (τ := Cert.AdamAdaB.τ) (Cert.AdamAdaB.main (F := Bits))) ⟨m, fun _ => 0, g⟩ (fun r => (∀ c : Dev Cert.AdamAdaB.nD,
      r.2.mem ((c.tc : Thread Cert.AdamAdaB.nD Cert.AdamAdaB.τ).loc Cert.AdamAdaB.main_arg0) = m ((c.tc : Thread Cert.AdamAdaB.nD Cert.AdamAdaB.τ).loc Cert.AdamAdaB.main_arg0)
      ∧ r.2.mem ((c.tc : Thread Cert.AdamAdaB.nD Cert.AdamAdaB.τ).loc Cert.AdamAdaB.main_arg1) = m ((c.tc : Thread Cert.AdamAdaB.nD Cert.AdamAdaB.τ).loc Cert.AdamAdaB.main_arg1)
      ∧ r.2.mem ((c.tc : Thread Cert.AdamAdaB.nD Cert.AdamAdaB.τ).loc Cert.AdamAdaB.main_arg2) = m ((c.tc : Thread Cert.AdamAdaB.nD Cert.AdamAdaB.τ).loc Cert.AdamAdaB.main_arg2)
      ∧ r.2.mem ((c.tc : Thread Cert.AdamAdaB.nD Cert.AdamAdaB.τ).loc Cert.AdamAdaB.main_arg3) = m ((c.tc : Thread Cert.AdamAdaB.nD Cert.AdamAdaB.τ).loc Cert.AdamAdaB.main_arg3))
      ∧ r.2.sem = fun _ => 0)

def quiescent_AdamAdaBIdeal [hAdamAdaBIdeal : Cert.AdamAdaBIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg), Pre_AdamAdaBIdeal m →
    θ_run (Cert.AdamAdaBIdeal.defs (F := Ideal)) (onTc (τ := Cert.AdamAdaBIdeal.τ) (Cert.AdamAdaBIdeal.main (F := Ideal))) ⟨m, fun _ => 0, g⟩ (fun r => (∀ c : Dev Cert.AdamAdaBIdeal.nD,
      r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
      ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
      ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
      ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ r.2.sem = fun _ => 0)

def quiescent_AdamAdaBRefIdeal [hAdamAdaBRefIdeal : Cert.AdamAdaBRefIdeal.Facts] : Prop :=
  ∀ (m : (ℓ : Loc Cert.AdamAdaBRefIdeal.nD Cert.AdamAdaBRefIdeal.τ Cert.AdamAdaBRefIdeal.sig) → Buf (Elt Ideal) ℓ) (g : Dev Cert.AdamAdaBRefIdeal.nD → PrngReg), Pre_AdamAdaBRefIdeal m →
    θ_run (Cert.AdamAdaBRefIdeal.defs (F := Ideal)) (onTc (τ := Cert.AdamAdaBRefIdeal.τ) (Cert.AdamAdaBRefIdeal.main (F := Ideal))) ⟨m, fun _ => 0, g⟩ (fun r => (∀ c : Dev Cert.AdamAdaBRefIdeal.nD,
      r.2.mem ((c.tc : Thread Cert.AdamAdaBRefIdeal.nD Cert.AdamAdaBRefIdeal.τ).loc Cert.AdamAdaBRefIdeal.main_arg0) = m ((c.tc : Thread Cert.AdamAdaBRefIdeal.nD Cert.AdamAdaBRefIdeal.τ).loc Cert.AdamAdaBRefIdeal.main_arg0)
      ∧ r.2.mem ((c.tc : Thread Cert.AdamAdaBRefIdeal.nD Cert.AdamAdaBRefIdeal.τ).loc Cert.AdamAdaBRefIdeal.main_arg1) = m ((c.tc : Thread Cert.AdamAdaBRefIdeal.nD Cert.AdamAdaBRefIdeal.τ).loc Cert.AdamAdaBRefIdeal.main_arg1)
      ∧ r.2.mem ((c.tc : Thread Cert.AdamAdaBRefIdeal.nD Cert.AdamAdaBRefIdeal.τ).loc Cert.AdamAdaBRefIdeal.main_arg2) = m ((c.tc : Thread Cert.AdamAdaBRefIdeal.nD Cert.AdamAdaBRefIdeal.τ).loc Cert.AdamAdaBRefIdeal.main_arg2)
      ∧ r.2.mem ((c.tc : Thread Cert.AdamAdaBRefIdeal.nD Cert.AdamAdaBRefIdeal.τ).loc Cert.AdamAdaBRefIdeal.main_arg3) = m ((c.tc : Thread Cert.AdamAdaBRefIdeal.nD Cert.AdamAdaBRefIdeal.τ).loc Cert.AdamAdaBRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamBIn [hAdamBIn : Cert.AdamBIn.Facts] : Prop :=
  ∀ (m : (ℓ : Loc Cert.AdamBIn.nD Cert.AdamBIn.τ Cert.AdamBIn.sig) → Buf (Elt Bits) ℓ) (g : Dev Cert.AdamBIn.nD → PrngReg), Pre_AdamBIn m →
    θ_run (Cert.AdamBIn.defs (F := Bits)) (onTc (τ := Cert.AdamBIn.τ) (Cert.AdamBIn.main (F := Bits))) ⟨m, fun _ => 0, g⟩ (fun r => (∀ c : Dev Cert.AdamBIn.nD,
      r.2.mem ((c.tc : Thread Cert.AdamBIn.nD Cert.AdamBIn.τ).loc Cert.AdamBIn.main_arg0) = m ((c.tc : Thread Cert.AdamBIn.nD Cert.AdamBIn.τ).loc Cert.AdamBIn.main_arg0)
      ∧ r.2.mem ((c.tc : Thread Cert.AdamBIn.nD Cert.AdamBIn.τ).loc Cert.AdamBIn.main_arg1) = m ((c.tc : Thread Cert.AdamBIn.nD Cert.AdamBIn.τ).loc Cert.AdamBIn.main_arg1)
      ∧ r.2.mem ((c.tc : Thread Cert.AdamBIn.nD Cert.AdamBIn.τ).loc Cert.AdamBIn.main_arg2) = m ((c.tc : Thread Cert.AdamBIn.nD Cert.AdamBIn.τ).loc Cert.AdamBIn.main_arg2)
      ∧ r.2.mem ((c.tc : Thread Cert.AdamBIn.nD Cert.AdamBIn.τ).loc Cert.AdamBIn.main_arg3) = m ((c.tc : Thread Cert.AdamBIn.nD Cert.AdamBIn.τ).loc Cert.AdamBIn.main_arg3))
      ∧ r.2.sem = fun _ => 0)

def quiescent_AdamBInIdeal [hAdamBInIdeal : Cert.AdamBInIdeal.Facts] : Prop :=
  ∀ (m : (ℓ : Loc Cert.AdamBInIdeal.nD Cert.AdamBInIdeal.τ Cert.AdamBInIdeal.sig) → Buf (Elt Ideal) ℓ) (g : Dev Cert.AdamBInIdeal.nD → PrngReg), Pre_AdamBInIdeal m →
    θ_run (Cert.AdamBInIdeal.defs (F := Ideal)) (onTc (τ := Cert.AdamBInIdeal.τ) (Cert.AdamBInIdeal.main (F := Ideal))) ⟨m, fun _ => 0, g⟩ (fun r => (∀ c : Dev Cert.AdamBInIdeal.nD,
      r.2.mem ((c.tc : Thread Cert.AdamBInIdeal.nD Cert.AdamBInIdeal.τ).loc Cert.AdamBInIdeal.main_arg0) = m ((c.tc : Thread Cert.AdamBInIdeal.nD Cert.AdamBInIdeal.τ).loc Cert.AdamBInIdeal.main_arg0)
      ∧ r.2.mem ((c.tc : Thread Cert.AdamBInIdeal.nD Cert.AdamBInIdeal.τ).loc Cert.AdamBInIdeal.main_arg1) = m ((c.tc : Thread Cert.AdamBInIdeal.nD Cert.AdamBInIdeal.τ).loc Cert.AdamBInIdeal.main_arg1)
      ∧ r.2.mem ((c.tc : Thread Cert.AdamBInIdeal.nD Cert.AdamBInIdeal.τ).loc Cert.AdamBInIdeal.main_arg2) = m ((c.tc : Thread Cert.AdamBInIdeal.nD Cert.AdamBInIdeal.τ).loc Cert.AdamBInIdeal.main_arg2)
      ∧ r.2.mem ((c.tc : Thread Cert.AdamBInIdeal.nD Cert.AdamBInIdeal.τ).loc Cert.AdamBInIdeal.main_arg3) = m ((c.tc : Thread Cert.AdamBInIdeal.nD Cert.AdamBInIdeal.τ).loc Cert.AdamBInIdeal.main_arg3))
      ∧ r.2.sem = fun _ => 0)

def quiescent_AdamBInRefIdeal [hAdamBInRefIdeal : Cert.AdamBInRefIdeal.Facts] : Prop :=
  ∀ (m : (ℓ : Loc Cert.AdamBInRefIdeal.nD Cert.AdamBInRefIdeal.τ Cert.AdamBInRefIdeal.sig) → Buf (Elt Ideal) ℓ) (g : Dev Cert.AdamBInRefIdeal.nD → PrngReg), Pre_AdamBInRefIdeal m →
    θ_run (Cert.AdamBInRefIdeal.defs (F := Ideal)) (onTc (τ := Cert.AdamBInRefIdeal.τ) (Cert.AdamBInRefIdeal.main (F := Ideal))) ⟨m, fun _ => 0, g⟩ (fun r => (∀ c : Dev Cert.AdamBInRefIdeal.nD,
      r.2.mem ((c.tc : Thread Cert.AdamBInRefIdeal.nD Cert.AdamBInRefIdeal.τ).loc Cert.AdamBInRefIdeal.main_arg0) = m ((c.tc : Thread Cert.AdamBInRefIdeal.nD Cert.AdamBInRefIdeal.τ).loc Cert.AdamBInRefIdeal.main_arg0)
      ∧ r.2.mem ((c.tc : Thread Cert.AdamBInRefIdeal.nD Cert.AdamBInRefIdeal.τ).loc Cert.AdamBInRefIdeal.main_arg1) = m ((c.tc : Thread Cert.AdamBInRefIdeal.nD Cert.AdamBInRefIdeal.τ).loc Cert.AdamBInRefIdeal.main_arg1)
      ∧ r.2.mem ((c.tc : Thread Cert.AdamBInRefIdeal.nD Cert.AdamBInRefIdeal.τ).loc Cert.AdamBInRefIdeal.main_arg2) = m ((c.tc : Thread Cert.AdamBInRefIdeal.nD Cert.AdamBInRefIdeal.τ).loc Cert.AdamBInRefIdeal.main_arg2)
      ∧ r.2.mem ((c.tc : Thread Cert.AdamBInRefIdeal.nD Cert.AdamBInRefIdeal.τ).loc Cert.AdamBInRefIdeal.main_arg3) = m ((c.tc : Thread Cert.AdamBInRefIdeal.nD Cert.AdamBInRefIdeal.τ).loc Cert.AdamBInRefIdeal.main_arg3))
      ∧ r.2.sem = fun _ => 0)

def quiescent_AdamSinks [hAdamSinks : Cert.AdamSinks.Facts] : Prop :=
  ∀ (m : (ℓ : Loc Cert.AdamSinks.nD Cert.AdamSinks.τ Cert.AdamSinks.sig) → Buf (Elt Bits) ℓ) (g : Dev Cert.AdamSinks.nD → PrngReg), Pre_AdamSinks m →
    θ_run (Cert.AdamSinks.defs (F := Bits)) (onTc (τ := Cert.AdamSinks.τ) (Cert.AdamSinks.main (F := Bits))) ⟨m, fun _ => 0, g⟩ (fun r => (∀ c : Dev Cert.AdamSinks.nD,
      r.2.mem ((c.tc : Thread Cert.AdamSinks.nD Cert.AdamSinks.τ).loc Cert.AdamSinks.main_arg0) = m ((c.tc : Thread Cert.AdamSinks.nD Cert.AdamSinks.τ).loc Cert.AdamSinks.main_arg0)
      ∧ r.2.mem ((c.tc : Thread Cert.AdamSinks.nD Cert.AdamSinks.τ).loc Cert.AdamSinks.main_arg1) = m ((c.tc : Thread Cert.AdamSinks.nD Cert.AdamSinks.τ).loc Cert.AdamSinks.main_arg1)
      ∧ r.2.mem ((c.tc : Thread Cert.AdamSinks.nD Cert.AdamSinks.τ).loc Cert.AdamSinks.main_arg2) = m ((c.tc : Thread Cert.AdamSinks.nD Cert.AdamSinks.τ).loc Cert.AdamSinks.main_arg2)
      ∧ r.2.mem ((c.tc : Thread Cert.AdamSinks.nD Cert.AdamSinks.τ).loc Cert.AdamSinks.main_arg3) = m ((c.tc : Thread Cert.AdamSinks.nD Cert.AdamSinks.τ).loc Cert.AdamSinks.main_arg3))
      ∧ r.2.sem = fun _ => 0)

def quiescent_AdamSinksIdeal [hAdamSinksIdeal : Cert.AdamSinksIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg), Pre_AdamSinksIdeal m →
    θ_run (Cert.AdamSinksIdeal.defs (F := Ideal)) (onTc (τ := Cert.AdamSinksIdeal.τ) (Cert.AdamSinksIdeal.main (F := Ideal))) ⟨m, fun _ => 0, g⟩ (fun r => (∀ c : Dev Cert.AdamSinksIdeal.nD,
      r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
      ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
      ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
      ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ r.2.sem = fun _ => 0)

def quiescent_AdamSinksRefIdeal [hAdamSinksRefIdeal : Cert.AdamSinksRefIdeal.Facts] : Prop :=
  ∀ (m : (ℓ : Loc Cert.AdamSinksRefIdeal.nD Cert.AdamSinksRefIdeal.τ Cert.AdamSinksRefIdeal.sig) → Buf (Elt Ideal) ℓ) (g : Dev Cert.AdamSinksRefIdeal.nD → PrngReg), Pre_AdamSinksRefIdeal m →
    θ_run (Cert.AdamSinksRefIdeal.defs (F := Ideal)) (onTc (τ := Cert.AdamSinksRefIdeal.τ) (Cert.AdamSinksRefIdeal.main (F := Ideal))) ⟨m, fun _ => 0, g⟩ (fun r => (∀ c : Dev Cert.AdamSinksRefIdeal.nD,
      r.2.mem ((c.tc : Thread Cert.AdamSinksRefIdeal.nD Cert.AdamSinksRefIdeal.τ).loc Cert.AdamSinksRefIdeal.main_arg0) = m ((c.tc : Thread Cert.AdamSinksRefIdeal.nD Cert.AdamSinksRefIdeal.τ).loc Cert.AdamSinksRefIdeal.main_arg0)
      ∧ r.2.mem ((c.tc : Thread Cert.AdamSinksRefIdeal.nD Cert.AdamSinksRefIdeal.τ).loc Cert.AdamSinksRefIdeal.main_arg1) = m ((c.tc : Thread Cert.AdamSinksRefIdeal.nD Cert.AdamSinksRefIdeal.τ).loc Cert.AdamSinksRefIdeal.main_arg1)
      ∧ r.2.mem ((c.tc : Thread Cert.AdamSinksRefIdeal.nD Cert.AdamSinksRefIdeal.τ).loc Cert.AdamSinksRefIdeal.main_arg2) = m ((c.tc : Thread Cert.AdamSinksRefIdeal.nD Cert.AdamSinksRefIdeal.τ).loc Cert.AdamSinksRefIdeal.main_arg2)
      ∧ r.2.mem ((c.tc : Thread Cert.AdamSinksRefIdeal.nD Cert.AdamSinksRefIdeal.τ).loc Cert.AdamSinksRefIdeal.main_arg3) = m ((c.tc : Thread Cert.AdamSinksRefIdeal.nD Cert.AdamSinksRefIdeal.τ).loc Cert.AdamSinksRefIdeal.main_arg3))
      ∧ r.2.sem = fun _ => 0)

def quiescent_AdamPoolW [hAdamPoolW : Cert.AdamPoolW.Facts] : Prop :=
  ∀ (m : (ℓ : Loc Cert.AdamPoolW.nD Cert.AdamPoolW.τ Cert.AdamPoolW.sig) → Buf (Elt Bits) ℓ) (g : Dev Cert.AdamPoolW.nD → PrngReg), Pre_AdamPoolW m →
    θ_run (Cert.AdamPoolW.defs (F := Bits)) (onTc (τ := Cert.AdamPoolW.τ) (Cert.AdamPoolW.main (F := Bits))) ⟨m, fun _ => 0, g⟩ (fun r => (∀ c : Dev Cert.AdamPoolW.nD,
      r.2.mem ((c.tc : Thread Cert.AdamPoolW.nD Cert.AdamPoolW.τ).loc Cert.AdamPoolW.main_arg0) = m ((c.tc : Thread Cert.AdamPoolW.nD Cert.AdamPoolW.τ).loc Cert.AdamPoolW.main_arg0)
      ∧ r.2.mem ((c.tc : Thread Cert.AdamPoolW.nD Cert.AdamPoolW.τ).loc Cert.AdamPoolW.main_arg1) = m ((c.tc : Thread Cert.AdamPoolW.nD Cert.AdamPoolW.τ).loc Cert.AdamPoolW.main_arg1)
      ∧ r.2.mem ((c.tc : Thread Cert.AdamPoolW.nD Cert.AdamPoolW.τ).loc Cert.AdamPoolW.main_arg2) = m ((c.tc : Thread Cert.AdamPoolW.nD Cert.AdamPoolW.τ).loc Cert.AdamPoolW.main_arg2)
      ∧ r.2.mem ((c.tc : Thread Cert.AdamPoolW.nD Cert.AdamPoolW.τ).loc Cert.AdamPoolW.main_arg3) = m ((c.tc : Thread Cert.AdamPoolW.nD Cert.AdamPoolW.τ).loc Cert.AdamPoolW.main_arg3))
      ∧ r.2.sem = fun _ => 0)

def quiescent_AdamPoolWIdeal [hAdamPoolWIdeal : Cert.AdamPoolWIdeal.Facts] : Prop :=
  ∀ (m : (ℓ : Loc Cert.AdamPoolWIdeal.nD Cert.AdamPoolWIdeal.τ Cert.AdamPoolWIdeal.sig) → Buf (Elt Ideal) ℓ) (g : Dev Cert.AdamPoolWIdeal.nD → PrngReg), Pre_AdamPoolWIdeal m →
    θ_run (Cert.AdamPoolWIdeal.defs (F := Ideal)) (onTc (τ := Cert.AdamPoolWIdeal.τ) (Cert.AdamPoolWIdeal.main (F := Ideal))) ⟨m, fun _ => 0, g⟩ (fun r => (∀ c : Dev Cert.AdamPoolWIdeal.nD,
      r.2.mem ((c.tc : Thread Cert.AdamPoolWIdeal.nD Cert.AdamPoolWIdeal.τ).loc Cert.AdamPoolWIdeal.main_arg0) = m ((c.tc : Thread Cert.AdamPoolWIdeal.nD Cert.AdamPoolWIdeal.τ).loc Cert.AdamPoolWIdeal.main_arg0)
      ∧ r.2.mem ((c.tc : Thread Cert.AdamPoolWIdeal.nD Cert.AdamPoolWIdeal.τ).loc Cert.AdamPoolWIdeal.main_arg1) = m ((c.tc : Thread Cert.AdamPoolWIdeal.nD Cert.AdamPoolWIdeal.τ).loc Cert.AdamPoolWIdeal.main_arg1)
      ∧ r.2.mem ((c.tc : Thread Cert.AdamPoolWIdeal.nD Cert.AdamPoolWIdeal.τ).loc Cert.AdamPoolWIdeal.main_arg2) = m ((c.tc : Thread Cert.AdamPoolWIdeal.nD Cert.AdamPoolWIdeal.τ).loc Cert.AdamPoolWIdeal.main_arg2)
      ∧ r.2.mem ((c.tc : Thread Cert.AdamPoolWIdeal.nD Cert.AdamPoolWIdeal.τ).loc Cert.AdamPoolWIdeal.main_arg3) = m ((c.tc : Thread Cert.AdamPoolWIdeal.nD Cert.AdamPoolWIdeal.τ).loc Cert.AdamPoolWIdeal.main_arg3))
      ∧ r.2.sem = fun _ => 0)

def quiescent_AdamPoolWRefIdeal [hAdamPoolWRefIdeal : Cert.AdamPoolWRefIdeal.Facts] : Prop :=
  ∀ (m : (ℓ : Loc Cert.AdamPoolWRefIdeal.nD Cert.AdamPoolWRefIdeal.τ Cert.AdamPoolWRefIdeal.sig) → Buf (Elt Ideal) ℓ) (g : Dev Cert.AdamPoolWRefIdeal.nD → PrngReg), Pre_AdamPoolWRefIdeal m →
    θ_run (Cert.AdamPoolWRefIdeal.defs (F := Ideal)) (onTc (τ := Cert.AdamPoolWRefIdeal.τ) (Cert.AdamPoolWRefIdeal.main (F := Ideal))) ⟨m, fun _ => 0, g⟩ (fun r => (∀ c : Dev Cert.AdamPoolWRefIdeal.nD,
      r.2.mem ((c.tc : Thread Cert.AdamPoolWRefIdeal.nD Cert.AdamPoolWRefIdeal.τ).loc Cert.AdamPoolWRefIdeal.main_arg0) = m ((c.tc : Thread Cert.AdamPoolWRefIdeal.nD Cert.AdamPoolWRefIdeal.τ).loc Cert.AdamPoolWRefIdeal.main_arg0)
      ∧ r.2.mem ((c.tc : Thread Cert.AdamPoolWRefIdeal.nD Cert.AdamPoolWRefIdeal.τ).loc Cert.AdamPoolWRefIdeal.main_arg1) = m ((c.tc : Thread Cert.AdamPoolWRefIdeal.nD Cert.AdamPoolWRefIdeal.τ).loc Cert.AdamPoolWRefIdeal.main_arg1)
      ∧ r.2.mem ((c.tc : Thread Cert.AdamPoolWRefIdeal.nD Cert.AdamPoolWRefIdeal.τ).loc Cert.AdamPoolWRefIdeal.main_arg2) = m ((c.tc : Thread Cert.AdamPoolWRefIdeal.nD Cert.AdamPoolWRefIdeal.τ).loc Cert.AdamPoolWRefIdeal.main_arg2)
      ∧ r.2.mem ((c.tc : Thread Cert.AdamPoolWRefIdeal.nD Cert.AdamPoolWRefIdeal.τ).loc Cert.AdamPoolWRefIdeal.main_arg3) = m ((c.tc : Thread Cert.AdamPoolWRefIdeal.nD Cert.AdamPoolWRefIdeal.τ).loc Cert.AdamPoolWRefIdeal.main_arg3))
      ∧ r.2.sem = fun _ => 0)

def quiescent_AdamPoolS [hAdamPoolS : Cert.AdamPoolS.Facts] : Prop :=
  ∀ (m : (ℓ : Loc Cert.AdamPoolS.nD Cert.AdamPoolS.τ Cert.AdamPoolS.sig) → Buf (Elt Bits) ℓ) (g : Dev Cert.AdamPoolS.nD → PrngReg), Pre_AdamPoolS m →
    θ_run (Cert.AdamPoolS.defs (F := Bits)) (onTc (τ := Cert.AdamPoolS.τ) (Cert.AdamPoolS.main (F := Bits))) ⟨m, fun _ => 0, g⟩ (fun r => (∀ c : Dev Cert.AdamPoolS.nD,
      r.2.mem ((c.tc : Thread Cert.AdamPoolS.nD Cert.AdamPoolS.τ).loc Cert.AdamPoolS.main_arg0) = m ((c.tc : Thread Cert.AdamPoolS.nD Cert.AdamPoolS.τ).loc Cert.AdamPoolS.main_arg0)
      ∧ r.2.mem ((c.tc : Thread Cert.AdamPoolS.nD Cert.AdamPoolS.τ).loc Cert.AdamPoolS.main_arg1) = m ((c.tc : Thread Cert.AdamPoolS.nD Cert.AdamPoolS.τ).loc Cert.AdamPoolS.main_arg1)
      ∧ r.2.mem ((c.tc : Thread Cert.AdamPoolS.nD Cert.AdamPoolS.τ).loc Cert.AdamPoolS.main_arg2) = m ((c.tc : Thread Cert.AdamPoolS.nD Cert.AdamPoolS.τ).loc Cert.AdamPoolS.main_arg2)
      ∧ r.2.mem ((c.tc : Thread Cert.AdamPoolS.nD Cert.AdamPoolS.τ).loc Cert.AdamPoolS.main_arg3) = m ((c.tc : Thread Cert.AdamPoolS.nD Cert.AdamPoolS.τ).loc Cert.AdamPoolS.main_arg3))
      ∧ r.2.sem = fun _ => 0)

def quiescent_AdamPoolSIdeal [hAdamPoolSIdeal : Cert.AdamPoolSIdeal.Facts] : Prop :=
  ∀ (m : (ℓ : Loc Cert.AdamPoolSIdeal.nD Cert.AdamPoolSIdeal.τ Cert.AdamPoolSIdeal.sig) → Buf (Elt Ideal) ℓ) (g : Dev Cert.AdamPoolSIdeal.nD → PrngReg), Pre_AdamPoolSIdeal m →
    θ_run (Cert.AdamPoolSIdeal.defs (F := Ideal)) (onTc (τ := Cert.AdamPoolSIdeal.τ) (Cert.AdamPoolSIdeal.main (F := Ideal))) ⟨m, fun _ => 0, g⟩ (fun r => (∀ c : Dev Cert.AdamPoolSIdeal.nD,
      r.2.mem ((c.tc : Thread Cert.AdamPoolSIdeal.nD Cert.AdamPoolSIdeal.τ).loc Cert.AdamPoolSIdeal.main_arg0) = m ((c.tc : Thread Cert.AdamPoolSIdeal.nD Cert.AdamPoolSIdeal.τ).loc Cert.AdamPoolSIdeal.main_arg0)
      ∧ r.2.mem ((c.tc : Thread Cert.AdamPoolSIdeal.nD Cert.AdamPoolSIdeal.τ).loc Cert.AdamPoolSIdeal.main_arg1) = m ((c.tc : Thread Cert.AdamPoolSIdeal.nD Cert.AdamPoolSIdeal.τ).loc Cert.AdamPoolSIdeal.main_arg1)
      ∧ r.2.mem ((c.tc : Thread Cert.AdamPoolSIdeal.nD Cert.AdamPoolSIdeal.τ).loc Cert.AdamPoolSIdeal.main_arg2) = m ((c.tc : Thread Cert.AdamPoolSIdeal.nD Cert.AdamPoolSIdeal.τ).loc Cert.AdamPoolSIdeal.main_arg2)
      ∧ r.2.mem ((c.tc : Thread Cert.AdamPoolSIdeal.nD Cert.AdamPoolSIdeal.τ).loc Cert.AdamPoolSIdeal.main_arg3) = m ((c.tc : Thread Cert.AdamPoolSIdeal.nD Cert.AdamPoolSIdeal.τ).loc Cert.AdamPoolSIdeal.main_arg3))
      ∧ r.2.sem = fun _ => 0)

def quiescent_AdamPoolSRefIdeal [hAdamPoolSRefIdeal : Cert.AdamPoolSRefIdeal.Facts] : Prop :=
  ∀ (m : (ℓ : Loc Cert.AdamPoolSRefIdeal.nD Cert.AdamPoolSRefIdeal.τ Cert.AdamPoolSRefIdeal.sig) → Buf (Elt Ideal) ℓ) (g : Dev Cert.AdamPoolSRefIdeal.nD → PrngReg), Pre_AdamPoolSRefIdeal m →
    θ_run (Cert.AdamPoolSRefIdeal.defs (F := Ideal)) (onTc (τ := Cert.AdamPoolSRefIdeal.τ) (Cert.AdamPoolSRefIdeal.main (F := Ideal))) ⟨m, fun _ => 0, g⟩ (fun r => (∀ c : Dev Cert.AdamPoolSRefIdeal.nD,
      r.2.mem ((c.tc : Thread Cert.AdamPoolSRefIdeal.nD Cert.AdamPoolSRefIdeal.τ).loc Cert.AdamPoolSRefIdeal.main_arg0) = m ((c.tc : Thread Cert.AdamPoolSRefIdeal.nD Cert.AdamPoolSRefIdeal.τ).loc Cert.AdamPoolSRefIdeal.main_arg0)
      ∧ r.2.mem ((c.tc : Thread Cert.AdamPoolSRefIdeal.nD Cert.AdamPoolSRefIdeal.τ).loc Cert.AdamPoolSRefIdeal.main_arg1) = m ((c.tc : Thread Cert.AdamPoolSRefIdeal.nD Cert.AdamPoolSRefIdeal.τ).loc Cert.AdamPoolSRefIdeal.main_arg1)
      ∧ r.2.mem ((c.tc : Thread Cert.AdamPoolSRefIdeal.nD Cert.AdamPoolSRefIdeal.τ).loc Cert.AdamPoolSRefIdeal.main_arg2) = m ((c.tc : Thread Cert.AdamPoolSRefIdeal.nD Cert.AdamPoolSRefIdeal.τ).loc Cert.AdamPoolSRefIdeal.main_arg2)
      ∧ r.2.mem ((c.tc : Thread Cert.AdamPoolSRefIdeal.nD Cert.AdamPoolSRefIdeal.τ).loc Cert.AdamPoolSRefIdeal.main_arg3) = m ((c.tc : Thread Cert.AdamPoolSRefIdeal.nD Cert.AdamPoolSRefIdeal.τ).loc Cert.AdamPoolSRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamG [hAdamG : Cert.AdamG.Facts] : Prop :=
  ∀ (m : (ℓ : Loc Cert.AdamG.nD Cert.AdamG.τ Cert.AdamG.sig) → Buf (Elt Bits) ℓ) (g : Dev Cert.AdamG.nD → PrngReg), Pre_AdamG m →
    θ_run (Cert.AdamG.defs (F := Bits)) (onTc (τ := Cert.AdamG.τ) (Cert.AdamG.main (F := Bits))) ⟨m, fun _ => 0, g⟩ (fun r => (∀ c : Dev Cert.AdamG.nD,
      r.2.mem ((c.tc : Thread Cert.AdamG.nD Cert.AdamG.τ).loc Cert.AdamG.main_arg0) = m ((c.tc : Thread Cert.AdamG.nD Cert.AdamG.τ).loc Cert.AdamG.main_arg0)
      ∧ r.2.mem ((c.tc : Thread Cert.AdamG.nD Cert.AdamG.τ).loc Cert.AdamG.main_arg1) = m ((c.tc : Thread Cert.AdamG.nD Cert.AdamG.τ).loc Cert.AdamG.main_arg1)
      ∧ r.2.mem ((c.tc : Thread Cert.AdamG.nD Cert.AdamG.τ).loc Cert.AdamG.main_arg2) = m ((c.tc : Thread Cert.AdamG.nD Cert.AdamG.τ).loc Cert.AdamG.main_arg2)
      ∧ r.2.mem ((c.tc : Thread Cert.AdamG.nD Cert.AdamG.τ).loc Cert.AdamG.main_arg3) = m ((c.tc : Thread Cert.AdamG.nD Cert.AdamG.τ).loc Cert.AdamG.main_arg3))
      ∧ r.2.sem = fun _ => 0)

def quiescent_AdamGIdeal [hAdamGIdeal : Cert.AdamGIdeal.Facts] : Prop :=
  ∀ (m : (ℓ : Loc Cert.AdamGIdeal.nD Cert.AdamGIdeal.τ Cert.AdamGIdeal.sig) → Buf (Elt Ideal) ℓ) (g : Dev Cert.AdamGIdeal.nD → PrngReg), Pre_AdamGIdeal m →
    θ_run (Cert.AdamGIdeal.defs (F := Ideal)) (onTc (τ := Cert.AdamGIdeal.τ) (Cert.AdamGIdeal.main (F := Ideal))) ⟨m, fun _ => 0, g⟩ (fun r => (∀ c : Dev Cert.AdamGIdeal.nD,
      r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
      ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
      ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
      ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3))
      ∧ r.2.sem = fun _ => 0)

def quiescent_AdamGRefIdeal [hAdamGRefIdeal : Cert.AdamGRefIdeal.Facts] : Prop :=
  ∀ (m : (ℓ : Loc Cert.AdamGRefIdeal.nD Cert.AdamGRefIdeal.τ Cert.AdamGRefIdeal.sig) → Buf (Elt Ideal) ℓ) (g : Dev Cert.AdamGRefIdeal.nD → PrngReg), Pre_AdamGRefIdeal m →
    θ_run (Cert.AdamGRefIdeal.defs (F := Ideal)) (onTc (τ := Cert.AdamGRefIdeal.τ) (Cert.AdamGRefIdeal.main (F := Ideal))) ⟨m, fun _ => 0, g⟩ (fun r => (∀ c : Dev Cert.AdamGRefIdeal.nD,
      r.2.mem ((c.tc : Thread Cert.AdamGRefIdeal.nD Cert.AdamGRefIdeal.τ).loc Cert.AdamGRefIdeal.main_arg0) = m ((c.tc : Thread Cert.AdamGRefIdeal.nD Cert.AdamGRefIdeal.τ).loc Cert.AdamGRefIdeal.main_arg0)
      ∧ r.2.mem ((c.tc : Thread Cert.AdamGRefIdeal.nD Cert.AdamGRefIdeal.τ).loc Cert.AdamGRefIdeal.main_arg1) = m ((c.tc : Thread Cert.AdamGRefIdeal.nD Cert.AdamGRefIdeal.τ).loc Cert.AdamGRefIdeal.main_arg1)
      ∧ r.2.mem ((c.tc : Thread Cert.AdamGRefIdeal.nD Cert.AdamGRefIdeal.τ).loc Cert.AdamGRefIdeal.main_arg2) = m ((c.tc : Thread Cert.AdamGRefIdeal.nD Cert.AdamGRefIdeal.τ).loc Cert.AdamGRefIdeal.main_arg2)
      ∧ r.2.mem ((c.tc : Thread Cert.AdamGRefIdeal.nD Cert.AdamGRefIdeal.τ).loc Cert.AdamGRefIdeal.main_arg3) = m ((c.tc : Thread Cert.AdamGRefIdeal.nD Cert.AdamGRefIdeal.τ).loc Cert.AdamGRefIdeal.main_arg3))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradRefIdeal [hAdaGradRefIdeal : Cert.AdaGradRefIdeal.Facts] : Prop :=
  ∀ (m : (ℓ : Loc Cert.AdaGradRefIdeal.nD Cert.AdaGradRefIdeal.τ Cert.AdaGradRefIdeal.sig) → Buf (Elt Ideal) ℓ) (g : Dev Cert.AdaGradRefIdeal.nD → PrngReg), Pre_AdaGradRefIdeal m →
    θ_run (Cert.AdaGradRefIdeal.defs (F := Ideal)) (onTc (τ := Cert.AdaGradRefIdeal.τ) (Cert.AdaGradRefIdeal.main (F := Ideal))) ⟨m, fun _ => 0, g⟩ (fun r => (∀ c : Dev Cert.AdaGradRefIdeal.nD,
      r.2.mem ((c.tc : Thread Cert.AdaGradRefIdeal.nD Cert.AdaGradRefIdeal.τ).loc Cert.AdaGradRefIdeal.main_arg0) = m ((c.tc : Thread Cert.AdaGradRefIdeal.nD Cert.AdaGradRefIdeal.τ).loc Cert.AdaGradRefIdeal.main_arg0)
      ∧ r.2.mem ((c.tc : Thread Cert.AdaGradRefIdeal.nD Cert.AdaGradRefIdeal.τ).loc Cert.AdaGradRefIdeal.main_arg1) = m ((c.tc : Thread Cert.AdaGradRefIdeal.nD Cert.AdaGradRefIdeal.τ).loc Cert.AdaGradRefIdeal.main_arg1))
      ∧ r.2.sem = fun _ => 0)

def quiescent_SumDev [hSumDev : Cert.SumDev.Facts] : Prop :=
  ∀ (m : (ℓ : Loc Cert.SumDev.nD Cert.SumDev.τ Cert.SumDev.sig) → Buf (Elt Bits) ℓ) (g : Dev Cert.SumDev.nD → PrngReg), Pre_SumDev m →
    θ_run (Cert.SumDev.defs (F := Bits)) (onTc (τ := Cert.SumDev.τ) (Cert.SumDev.main (F := Bits))) ⟨m, fun _ => 0, g⟩ (fun r => (∀ c : Dev Cert.SumDev.nD,
      r.2.mem ((c.tc : Thread Cert.SumDev.nD Cert.SumDev.τ).loc Cert.SumDev.main_arg0) = m ((c.tc : Thread Cert.SumDev.nD Cert.SumDev.τ).loc Cert.SumDev.main_arg0)
      ∧ r.2.mem ((c.tc : Thread Cert.SumDev.nD Cert.SumDev.τ).loc Cert.SumDev.main_arg1) = m ((c.tc : Thread Cert.SumDev.nD Cert.SumDev.τ).loc Cert.SumDev.main_arg1)
      ∧ r.2.mem ((c.tc : Thread Cert.SumDev.nD Cert.SumDev.τ).loc Cert.SumDev.main_arg2) = m ((c.tc : Thread Cert.SumDev.nD Cert.SumDev.τ).loc Cert.SumDev.main_arg2)
      ∧ r.2.mem ((c.tc : Thread Cert.SumDev.nD Cert.SumDev.τ).loc Cert.SumDev.main_arg3) = m ((c.tc : Thread Cert.SumDev.nD Cert.SumDev.τ).loc Cert.SumDev.main_arg3)
      ∧ r.2.mem ((c.tc : Thread Cert.SumDev.nD Cert.SumDev.τ).loc Cert.SumDev.main_arg4) = m ((c.tc : Thread Cert.SumDev.nD Cert.SumDev.τ).loc Cert.SumDev.main_arg4)
      ∧ r.2.mem ((c.tc : Thread Cert.SumDev.nD Cert.SumDev.τ).loc Cert.SumDev.main_arg5) = m ((c.tc : Thread Cert.SumDev.nD Cert.SumDev.τ).loc Cert.SumDev.main_arg5)
      ∧ r.2.mem ((c.tc : Thread Cert.SumDev.nD Cert.SumDev.τ).loc Cert.SumDev.main_arg6) = m ((c.tc : Thread Cert.SumDev.nD Cert.SumDev.τ).loc Cert.SumDev.main_arg6)
      ∧ r.2.mem ((c.tc : Thread Cert.SumDev.nD Cert.SumDev.τ).loc Cert.SumDev.main_arg7) = m ((c.tc : Thread Cert.SumDev.nD Cert.SumDev.τ).loc Cert.SumDev.main_arg7)
      ∧ r.2.mem ((c.tc : Thread Cert.SumDev.nD Cert.SumDev.τ).loc Cert.SumDev.main_arg8) = m ((c.tc : Thread Cert.SumDev.nD Cert.SumDev.τ).loc Cert.SumDev.main_arg8))
      ∧ r.2.sem = fun _ => 0)

def quiescent_SumDevIdeal [hSumDevIdeal : Cert.SumDevIdeal.Facts] : Prop :=
  ∀ (m : (ℓ : Loc Cert.SumDevIdeal.nD Cert.SumDevIdeal.τ Cert.SumDevIdeal.sig) → Buf (Elt Ideal) ℓ) (g : Dev Cert.SumDevIdeal.nD → PrngReg), Pre_SumDevIdeal m →
    θ_run (Cert.SumDevIdeal.defs (F := Ideal)) (onTc (τ := Cert.SumDevIdeal.τ) (Cert.SumDevIdeal.main (F := Ideal))) ⟨m, fun _ => 0, g⟩ (fun r => (∀ c : Dev Cert.SumDevIdeal.nD,
      r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0)
      ∧ r.2.mem ((c.tc : Thread Cert.SumDevIdeal.nD Cert.SumDevIdeal.τ).loc Cert.SumDevIdeal.main_arg1) = m ((c.tc : Thread Cert.SumDevIdeal.nD Cert.SumDevIdeal.τ).loc Cert.SumDevIdeal.main_arg1)
      ∧ r.2.mem ((c.tc : Thread Cert.SumDevIdeal.nD Cert.SumDevIdeal.τ).loc Cert.SumDevIdeal.main_arg2) = m ((c.tc : Thread Cert.SumDevIdeal.nD Cert.SumDevIdeal.τ).loc Cert.SumDevIdeal.main_arg2)
      ∧ r.2.mem ((c.tc : Thread Cert.SumDevIdeal.nD Cert.SumDevIdeal.τ).loc Cert.SumDevIdeal.main_arg3) = m ((c.tc : Thread Cert.SumDevIdeal.nD Cert.SumDevIdeal.τ).loc Cert.SumDevIdeal.main_arg3)
      ∧ r.2.mem ((c.tc : Thread Cert.SumDevIdeal.nD Cert.SumDevIdeal.τ).loc Cert.SumDevIdeal.main_arg4) = m ((c.tc : Thread Cert.SumDevIdeal.nD Cert.SumDevIdeal.τ).loc Cert.SumDevIdeal.main_arg4)
      ∧ r.2.mem ((c.tc : Thread Cert.SumDevIdeal.nD Cert.SumDevIdeal.τ).loc Cert.SumDevIdeal.main_arg5) = m ((c.tc : Thread Cert.SumDevIdeal.nD Cert.SumDevIdeal.τ).loc Cert.SumDevIdeal.main_arg5)
      ∧ r.2.mem ((c.tc : Thread Cert.SumDevIdeal.nD Cert.SumDevIdeal.τ).loc Cert.SumDevIdeal.main_arg6) = m ((c.tc : Thread Cert.SumDevIdeal.nD Cert.SumDevIdeal.τ).loc Cert.SumDevIdeal.main_arg6)
      ∧ r.2.mem ((c.tc : Thread Cert.SumDevIdeal.nD Cert.SumDevIdeal.τ).loc Cert.SumDevIdeal.main_arg7) = m ((c.tc : Thread Cert.SumDevIdeal.nD Cert.SumDevIdeal.τ).loc Cert.SumDevIdeal.main_arg7)
      ∧ r.2.mem ((c.tc : Thread Cert.SumDevIdeal.nD Cert.SumDevIdeal.τ).loc Cert.SumDevIdeal.main_arg8) = m ((c.tc : Thread Cert.SumDevIdeal.nD Cert.SumDevIdeal.τ).loc Cert.SumDevIdeal.main_arg8))
      ∧ r.2.sem = fun _ => 0)

def quiescent_SumDevRefIdeal [hSumDevRefIdeal : Cert.SumDevRefIdeal.Facts] : Prop :=
  ∀ (m : (ℓ : Loc Cert.SumDevRefIdeal.nD Cert.SumDevRefIdeal.τ Cert.SumDevRefIdeal.sig) → Buf (Elt Ideal) ℓ) (g : Dev Cert.SumDevRefIdeal.nD → PrngReg), Pre_SumDevRefIdeal m →
    θ_run (Cert.SumDevRefIdeal.defs (F := Ideal)) (onTc (τ := Cert.SumDevRefIdeal.τ) (Cert.SumDevRefIdeal.main (F := Ideal))) ⟨m, fun _ => 0, g⟩ (fun r => (∀ c : Dev Cert.SumDevRefIdeal.nD,
      r.2.mem ((c.tc : Thread Cert.SumDevRefIdeal.nD Cert.SumDevRefIdeal.τ).loc Cert.SumDevRefIdeal.main_arg0) = m ((c.tc : Thread Cert.SumDevRefIdeal.nD Cert.SumDevRefIdeal.τ).loc Cert.SumDevRefIdeal.main_arg0)
      ∧ r.2.mem ((c.tc : Thread Cert.SumDevRefIdeal.nD Cert.SumDevRefIdeal.τ).loc Cert.SumDevRefIdeal.main_arg1) = m ((c.tc : Thread Cert.SumDevRefIdeal.nD Cert.SumDevRefIdeal.τ).loc Cert.SumDevRefIdeal.main_arg1)
      ∧ r.2.mem ((c.tc : Thread Cert.SumDevRefIdeal.nD Cert.SumDevRefIdeal.τ).loc Cert.SumDevRefIdeal.main_arg2) = m ((c.tc : Thread Cert.SumDevRefIdeal.nD Cert.SumDevRefIdeal.τ).loc Cert.SumDevRefIdeal.main_arg2)
      ∧ r.2.mem ((c.tc : Thread Cert.SumDevRefIdeal.nD Cert.SumDevRefIdeal.τ).loc Cert.SumDevRefIdeal.main_arg3) = m ((c.tc : Thread Cert.SumDevRefIdeal.nD Cert.SumDevRefIdeal.τ).loc Cert.SumDevRefIdeal.main_arg3)
      ∧ r.2.mem ((c.tc : Thread Cert.SumDevRefIdeal.nD Cert.SumDevRefIdeal.τ).loc Cert.SumDevRefIdeal.main_arg4) = m ((c.tc : Thread Cert.SumDevRefIdeal.nD Cert.SumDevRefIdeal.τ).loc Cert.SumDevRefIdeal.main_arg4)
      ∧ r.2.mem ((c.tc : Thread Cert.SumDevRefIdeal.nD Cert.SumDevRefIdeal.τ).loc Cert.SumDevRefIdeal.main_arg5) = m ((c.tc : Thread Cert.SumDevRefIdeal.nD Cert.SumDevRefIdeal.τ).loc Cert.SumDevRefIdeal.main_arg5)
      ∧ r.2.mem ((c.tc : Thread Cert.SumDevRefIdeal.nD Cert.SumDevRefIdeal.τ).loc Cert.SumDevRefIdeal.main_arg6) = m ((c.tc : Thread Cert.SumDevRefIdeal.nD Cert.SumDevRefIdeal.τ).loc Cert.SumDevRefIdeal.main_arg6)
      ∧ r.2.mem ((c.tc : Thread Cert.SumDevRefIdeal.nD Cert.SumDevRefIdeal.τ).loc Cert.SumDevRefIdeal.main_arg7) = m ((c.tc : Thread Cert.SumDevRefIdeal.nD Cert.SumDevRefIdeal.τ).loc Cert.SumDevRefIdeal.main_arg7)
      ∧ r.2.mem ((c.tc : Thread Cert.SumDevRefIdeal.nD Cert.SumDevRefIdeal.τ).loc Cert.SumDevRefIdeal.main_arg8) = m ((c.tc : Thread Cert.SumDevRefIdeal.nD Cert.SumDevRefIdeal.τ).loc Cert.SumDevRefIdeal.main_arg8))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9)
      ∧ r.2.mem ((c.tc : Thread Cert.InBwd.nD Cert.InBwd.τ).loc Cert.InBwd.main_arg10) = m ((c.tc : Thread Cert.InBwd.nD Cert.InBwd.τ).loc Cert.InBwd.main_arg10)
      ∧ r.2.mem ((c.tc : Thread Cert.InBwd.nD Cert.InBwd.τ).loc Cert.InBwd.main_arg11) = m ((c.tc : Thread Cert.InBwd.nD Cert.InBwd.τ).loc Cert.InBwd.main_arg11)
      ∧ r.2.mem ((c.tc : Thread Cert.InBwd.nD Cert.InBwd.τ).loc Cert.InBwd.main_arg12) = m ((c.tc : Thread Cert.InBwd.nD Cert.InBwd.τ).loc Cert.InBwd.main_arg12))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
      ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
      ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
      ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
      ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
      ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10)
      ∧ r.2.mem ((c.tc : Thread Cert.InBwdRefIdeal.nD Cert.InBwdRefIdeal.τ).loc Cert.InBwdRefIdeal.main_arg11) = m ((c.tc : Thread Cert.InBwdRefIdeal.nD Cert.InBwdRefIdeal.τ).loc Cert.InBwdRefIdeal.main_arg11)
      ∧ r.2.mem ((c.tc : Thread Cert.InBwdRefIdeal.nD Cert.InBwdRefIdeal.τ).loc Cert.InBwdRefIdeal.main_arg12) = m ((c.tc : Thread Cert.InBwdRefIdeal.nD Cert.InBwdRefIdeal.τ).loc Cert.InBwdRefIdeal.main_arg12))
      ∧ r.2.sem = fun _ => 0)

def quiescent_InBwdRefIdeal_pre_in_finite [hInBwdRefIdeal : Cert.InBwdRefIdeal.Facts] [hPre_in_finite : Cert.Pre_in_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4)
      ∧ r.2.mem ((c.tc : Thread Cert.InBwdRefIdeal.nD Cert.InBwdRefIdeal.τ).loc Cert.InBwdRefIdeal.main_arg5) = m ((c.tc : Thread Cert.InBwdRefIdeal.nD Cert.InBwdRefIdeal.τ).loc Cert.InBwdRefIdeal.main_arg5)
      ∧ r.2.mem ((c.tc : Thread Cert.InBwdRefIdeal.nD Cert.InBwdRefIdeal.τ).loc Cert.InBwdRefIdeal.main_arg6) = m ((c.tc : Thread Cert.InBwdRefIdeal.nD Cert.InBwdRefIdeal.τ).loc Cert.InBwdRefIdeal.main_arg6)
      ∧ r.2.mem ((c.tc : Thread Cert.InBwdRefIdeal.nD Cert.InBwdRefIdeal.τ).loc Cert.InBwdRefIdeal.main_arg7) = m ((c.tc : Thread Cert.InBwdRefIdeal.nD Cert.InBwdRefIdeal.τ).loc Cert.InBwdRefIdeal.main_arg7)
      ∧ r.2.mem ((c.tc : Thread Cert.InBwdRefIdeal.nD Cert.InBwdRefIdeal.τ).loc Cert.InBwdRefIdeal.main_arg8) = m ((c.tc : Thread Cert.InBwdRefIdeal.nD Cert.InBwdRefIdeal.τ).loc Cert.InBwdRefIdeal.main_arg8)
      ∧ r.2.mem ((c.tc : Thread Cert.InBwdRefIdeal.nD Cert.InBwdRefIdeal.τ).loc Cert.InBwdRefIdeal.main_arg9) = m ((c.tc : Thread Cert.InBwdRefIdeal.nD Cert.InBwdRefIdeal.τ).loc Cert.InBwdRefIdeal.main_arg9)
      ∧ r.2.mem ((c.tc : Thread Cert.InBwdRefIdeal.nD Cert.InBwdRefIdeal.τ).loc Cert.InBwdRefIdeal.main_arg10) = m ((c.tc : Thread Cert.InBwdRefIdeal.nD Cert.InBwdRefIdeal.τ).loc Cert.InBwdRefIdeal.main_arg10)
      ∧ r.2.mem ((c.tc : Thread Cert.InBwdRefIdeal.nD Cert.InBwdRefIdeal.τ).loc Cert.InBwdRefIdeal.main_arg11) = m ((c.tc : Thread Cert.InBwdRefIdeal.nD Cert.InBwdRefIdeal.τ).loc Cert.InBwdRefIdeal.main_arg11)
      ∧ r.2.mem ((c.tc : Thread Cert.InBwdRefIdeal.nD Cert.InBwdRefIdeal.τ).loc Cert.InBwdRefIdeal.main_arg12) = m ((c.tc : Thread Cert.InBwdRefIdeal.nD Cert.InBwdRefIdeal.τ).loc Cert.InBwdRefIdeal.main_arg12))
      ∧ r.2.sem = fun _ => 0)

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v58_0)) (v1 : (c : Dev Cert.PoolIdeal.nD) → Buf (Elt Ideal) ((c.tc : Thread Cert.PoolIdeal.nD Cert.PoolIdeal.τ).loc Cert.PoolIdeal.main_v58_1)) (v2 : (c : Dev Cert.PoolIdeal.nD) → Buf (Elt Ideal) ((c.tc : Thread Cert.PoolIdeal.nD Cert.PoolIdeal.τ).loc Cert.PoolIdeal.main_v58_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v58_0) = v0 c
          ∧ r.2.mem ((c.tc : Thread Cert.PoolIdeal.nD Cert.PoolIdeal.τ).loc Cert.PoolIdeal.main_v58_1) = v1 c
          ∧ r.2.mem ((c.tc : Thread Cert.PoolIdeal.nD Cert.PoolIdeal.τ).loc Cert.PoolIdeal.main_v58_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v153) = v0 c
          ∧ r.2.mem ((c.tc : Thread Cert.PoolRefIdeal.nD Cert.PoolRefIdeal.τ).loc Cert.PoolRefIdeal.main_v106) = v1 c
          ∧ r.2.mem ((c.tc : Thread Cert.PoolRefIdeal.nD Cert.PoolRefIdeal.τ).loc Cert.PoolRefIdeal.main_v156) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_WGate_WGateIdeal : Prop :=
  True

def algebraic_WGateIdeal_WGateRefIdeal [hWGateIdeal : Cert.WGateIdeal.Facts] [hWGateRefIdeal : Cert.WGateRefIdeal.Facts] : Prop :=
  ∀ (m : (ℓ : Loc Cert.WGateIdeal.nD Cert.WGateIdeal.τ Cert.WGateIdeal.sig) → Buf (Elt Ideal) ℓ) (g : Dev Cert.WGateIdeal.nD → PrngReg)
    (m' : (ℓ : Loc Cert.WGateRefIdeal.nD Cert.WGateRefIdeal.τ Cert.WGateRefIdeal.sig) → Buf (Elt Ideal) ℓ) (g' : Dev Cert.WGateRefIdeal.nD → PrngReg), Pre_WGateIdeal m →
    (∀ c : Dev Cert.WGateIdeal.nD,
      m' ((c.tc : Thread Cert.WGateRefIdeal.nD Cert.WGateRefIdeal.τ).loc Cert.WGateRefIdeal.main_arg0) = m ((c.tc : Thread Cert.WGateIdeal.nD Cert.WGateIdeal.τ).loc Cert.WGateIdeal.main_arg0)
      ∧ m' ((c.tc : Thread Cert.WGateRefIdeal.nD Cert.WGateRefIdeal.τ).loc Cert.WGateRefIdeal.main_arg1) = m ((c.tc : Thread Cert.WGateIdeal.nD Cert.WGateIdeal.τ).loc Cert.WGateIdeal.main_arg1)) →
    ∃ (v0 : (c : Dev Cert.WGateIdeal.nD) → Buf (Elt Ideal) ((c.tc : Thread Cert.WGateIdeal.nD Cert.WGateIdeal.τ).loc Cert.WGateIdeal.main_v2)),
      θ_run (Cert.WGateIdeal.defs (F := Ideal)) (onTc (τ := Cert.WGateIdeal.τ) (Cert.WGateIdeal.main (F := Ideal))) ⟨m, fun _ => 0, g⟩ (fun r => ∀ c : Dev Cert.WGateIdeal.nD,
          r.2.mem ((c.tc : Thread Cert.WGateIdeal.nD Cert.WGateIdeal.τ).loc Cert.WGateIdeal.main_v2) = v0 c
          ∧ r.2.mem ((c.tc : Thread Cert.WGateIdeal.nD Cert.WGateIdeal.τ).loc Cert.WGateIdeal.main_arg0) = m ((c.tc : Thread Cert.WGateIdeal.nD Cert.WGateIdeal.τ).loc Cert.WGateIdeal.main_arg0)
          ∧ r.2.mem ((c.tc : Thread Cert.WGateIdeal.nD Cert.WGateIdeal.τ).loc Cert.WGateIdeal.main_arg1) = m ((c.tc : Thread Cert.WGateIdeal.nD Cert.WGateIdeal.τ).loc Cert.WGateIdeal.main_arg1))
      ∧ θ_run (Cert.WGateRefIdeal.defs (F := Ideal)) (onTc (τ := Cert.WGateRefIdeal.τ) (Cert.WGateRefIdeal.main (F := Ideal))) ⟨m', fun _ => 0, g'⟩ (fun r => ∀ c : Dev Cert.WGateRefIdeal.nD,
          r.2.mem ((c.tc : Thread Cert.WGateRefIdeal.nD Cert.WGateRefIdeal.τ).loc Cert.WGateRefIdeal.main_v4) = v0 c
          ∧ r.2.mem ((c.tc : Thread Cert.WGateRefIdeal.nD Cert.WGateRefIdeal.τ).loc Cert.WGateRefIdeal.main_arg0) = m' ((c.tc : Thread Cert.WGateRefIdeal.nD Cert.WGateRefIdeal.τ).loc Cert.WGateRefIdeal.main_arg0)
          ∧ r.2.mem ((c.tc : Thread Cert.WGateRefIdeal.nD Cert.WGateRefIdeal.τ).loc Cert.WGateRefIdeal.main_arg1) = m' ((c.tc : Thread Cert.WGateRefIdeal.nD Cert.WGateRefIdeal.τ).loc Cert.WGateRefIdeal.main_arg1))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v63_0)) (v1 : (c : Dev Cert.FfnIdeal.nD) → Buf (Elt Ideal) ((c.tc : Thread Cert.FfnIdeal.nD Cert.FfnIdeal.τ).loc Cert.FfnIdeal.main_v63_1)) (v2 : (c : Dev Cert.FfnIdeal.nD) → Buf (Elt Ideal) ((c.tc : Thread Cert.FfnIdeal.nD Cert.FfnIdeal.τ).loc Cert.FfnIdeal.main_v63_2)) (v3 : (c : Dev Cert.FfnIdeal.nD) → Buf (Elt Ideal) ((c.tc : Thread Cert.FfnIdeal.nD Cert.FfnIdeal.τ).loc Cert.FfnIdeal.main_v63_3)) (v4 : (c : Dev Cert.FfnIdeal.nD) → Buf (Elt Ideal) ((c.tc : Thread Cert.FfnIdeal.nD Cert.FfnIdeal.τ).loc Cert.FfnIdeal.main_v63_4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v63_0) = v0 c
          ∧ r.2.mem ((c.tc : Thread Cert.FfnIdeal.nD Cert.FfnIdeal.τ).loc Cert.FfnIdeal.main_v63_1) = v1 c
          ∧ r.2.mem ((c.tc : Thread Cert.FfnIdeal.nD Cert.FfnIdeal.τ).loc Cert.FfnIdeal.main_v63_2) = v2 c
          ∧ r.2.mem ((c.tc : Thread Cert.FfnIdeal.nD Cert.FfnIdeal.τ).loc Cert.FfnIdeal.main_v63_3) = v3 c
          ∧ r.2.mem ((c.tc : Thread Cert.FfnIdeal.nD Cert.FfnIdeal.τ).loc Cert.FfnIdeal.main_v63_4) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v112) = v0 c
          ∧ r.2.mem ((c.tc : Thread Cert.FfnRefIdeal.nD Cert.FfnRefIdeal.τ).loc Cert.FfnRefIdeal.main_v113) = v1 c
          ∧ r.2.mem ((c.tc : Thread Cert.FfnRefIdeal.nD Cert.FfnRefIdeal.τ).loc Cert.FfnRefIdeal.main_v114) = v2 c
          ∧ r.2.mem ((c.tc : Thread Cert.FfnRefIdeal.nD Cert.FfnRefIdeal.τ).loc Cert.FfnRefIdeal.main_v115) = v3 c
          ∧ r.2.mem ((c.tc : Thread Cert.FfnRefIdeal.nD Cert.FfnRefIdeal.τ).loc Cert.FfnRefIdeal.main_v123) = v4 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Fwd_FwdIdeal : Prop :=
  True

def algebraic_FwdIdeal_FwdRefIdeal_pre_fwd_finite [hFwdIdeal : Cert.FwdIdeal.Facts] [hFwdRefIdeal : Cert.FwdRefIdeal.Facts] [hPre_fwd_finite : Cert.Pre_fwd_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_fwd_finite m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)
      ∧ m' ((c.tc : Thread Cert.FwdRefIdeal.nD Cert.FwdRefIdeal.τ).loc Cert.FwdRefIdeal.main_arg5) = m ((c.tc : Thread Cert.FwdIdeal.nD Cert.FwdIdeal.τ).loc Cert.FwdIdeal.main_arg5)
      ∧ m' ((c.tc : Thread Cert.FwdRefIdeal.nD Cert.FwdRefIdeal.τ).loc Cert.FwdRefIdeal.main_arg6) = m ((c.tc : Thread Cert.FwdIdeal.nD Cert.FwdIdeal.τ).loc Cert.FwdIdeal.main_arg6)
      ∧ m' ((c.tc : Thread Cert.FwdRefIdeal.nD Cert.FwdRefIdeal.τ).loc Cert.FwdRefIdeal.main_arg7) = m ((c.tc : Thread Cert.FwdIdeal.nD Cert.FwdIdeal.τ).loc Cert.FwdIdeal.main_arg7)
      ∧ m' ((c.tc : Thread Cert.FwdRefIdeal.nD Cert.FwdRefIdeal.τ).loc Cert.FwdRefIdeal.main_arg8) = m ((c.tc : Thread Cert.FwdIdeal.nD Cert.FwdIdeal.τ).loc Cert.FwdIdeal.main_arg8)
      ∧ m' ((c.tc : Thread Cert.FwdRefIdeal.nD Cert.FwdRefIdeal.τ).loc Cert.FwdRefIdeal.main_arg9) = m ((c.tc : Thread Cert.FwdIdeal.nD Cert.FwdIdeal.τ).loc Cert.FwdIdeal.main_arg9)
      ∧ m' ((c.tc : Thread Cert.FwdRefIdeal.nD Cert.FwdRefIdeal.τ).loc Cert.FwdRefIdeal.main_arg10) = m ((c.tc : Thread Cert.FwdIdeal.nD Cert.FwdIdeal.τ).loc Cert.FwdIdeal.main_arg10)
      ∧ m' ((c.tc : Thread Cert.FwdRefIdeal.nD Cert.FwdRefIdeal.τ).loc Cert.FwdRefIdeal.main_arg11) = m ((c.tc : Thread Cert.FwdIdeal.nD Cert.FwdIdeal.τ).loc Cert.FwdIdeal.main_arg11)
      ∧ m' ((c.tc : Thread Cert.FwdRefIdeal.nD Cert.FwdRefIdeal.τ).loc Cert.FwdRefIdeal.main_arg12) = m ((c.tc : Thread Cert.FwdIdeal.nD Cert.FwdIdeal.τ).loc Cert.FwdIdeal.main_arg12)
      ∧ m' ((c.tc : Thread Cert.FwdRefIdeal.nD Cert.FwdRefIdeal.τ).loc Cert.FwdRefIdeal.main_arg13) = m ((c.tc : Thread Cert.FwdIdeal.nD Cert.FwdIdeal.τ).loc Cert.FwdIdeal.main_arg13)) →
    ∃ (v0 : (c : Dev Cert.FwdIdeal.nD) → Buf (Elt Ideal) ((c.tc : Thread Cert.FwdIdeal.nD Cert.FwdIdeal.τ).loc Cert.FwdIdeal.main_v25_0)) (v1 : (c : Dev Cert.FwdIdeal.nD) → Buf (Elt Ideal) ((c.tc : Thread Cert.FwdIdeal.nD Cert.FwdIdeal.τ).loc Cert.FwdIdeal.main_v25_1)) (v2 : (c : Dev Cert.FwdIdeal.nD) → Buf (Elt Ideal) ((c.tc : Thread Cert.FwdIdeal.nD Cert.FwdIdeal.τ).loc Cert.FwdIdeal.main_v25_2)) (v3 : (c : Dev Cert.FwdIdeal.nD) → Buf (Elt Ideal) ((c.tc : Thread Cert.FwdIdeal.nD Cert.FwdIdeal.τ).loc Cert.FwdIdeal.main_v25_3)) (v4 : (c : Dev Cert.FwdIdeal.nD) → Buf (Elt Ideal) ((c.tc : Thread Cert.FwdIdeal.nD Cert.FwdIdeal.τ).loc Cert.FwdIdeal.main_v25_4)) (v5 : (c : Dev Cert.FwdIdeal.nD) → Buf (Elt Ideal) ((c.tc : Thread Cert.FwdIdeal.nD Cert.FwdIdeal.τ).loc Cert.FwdIdeal.main_v25_5)) (v6 : (c : Dev Cert.FwdIdeal.nD) → Buf (Elt Ideal) ((c.tc : Thread Cert.FwdIdeal.nD Cert.FwdIdeal.τ).loc Cert.FwdIdeal.main_v25_6)) (v7 : (c : Dev Cert.FwdIdeal.nD) → Buf (Elt Ideal) ((c.tc : Thread Cert.FwdIdeal.nD Cert.FwdIdeal.τ).loc Cert.FwdIdeal.main_v25_7)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v25_0) = v0 c
          ∧ r.2.mem ((c.tc : Thread Cert.FwdIdeal.nD Cert.FwdIdeal.τ).loc Cert.FwdIdeal.main_v25_1) = v1 c
          ∧ r.2.mem ((c.tc : Thread Cert.FwdIdeal.nD Cert.FwdIdeal.τ).loc Cert.FwdIdeal.main_v25_2) = v2 c
          ∧ r.2.mem ((c.tc : Thread Cert.FwdIdeal.nD Cert.FwdIdeal.τ).loc Cert.FwdIdeal.main_v25_3) = v3 c
          ∧ r.2.mem ((c.tc : Thread Cert.FwdIdeal.nD Cert.FwdIdeal.τ).loc Cert.FwdIdeal.main_v25_4) = v4 c
          ∧ r.2.mem ((c.tc : Thread Cert.FwdIdeal.nD Cert.FwdIdeal.τ).loc Cert.FwdIdeal.main_v25_5) = v5 c
          ∧ r.2.mem ((c.tc : Thread Cert.FwdIdeal.nD Cert.FwdIdeal.τ).loc Cert.FwdIdeal.main_v25_6) = v6 c
          ∧ r.2.mem ((c.tc : Thread Cert.FwdIdeal.nD Cert.FwdIdeal.τ).loc Cert.FwdIdeal.main_v25_7) = v7 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4)
          ∧ r.2.mem ((c.tc : Thread Cert.FwdIdeal.nD Cert.FwdIdeal.τ).loc Cert.FwdIdeal.main_arg5) = m ((c.tc : Thread Cert.FwdIdeal.nD Cert.FwdIdeal.τ).loc Cert.FwdIdeal.main_arg5)
          ∧ r.2.mem ((c.tc : Thread Cert.FwdIdeal.nD Cert.FwdIdeal.τ).loc Cert.FwdIdeal.main_arg6) = m ((c.tc : Thread Cert.FwdIdeal.nD Cert.FwdIdeal.τ).loc Cert.FwdIdeal.main_arg6)
          ∧ r.2.mem ((c.tc : Thread Cert.FwdIdeal.nD Cert.FwdIdeal.τ).loc Cert.FwdIdeal.main_arg7) = m ((c.tc : Thread Cert.FwdIdeal.nD Cert.FwdIdeal.τ).loc Cert.FwdIdeal.main_arg7)
          ∧ r.2.mem ((c.tc : Thread Cert.FwdIdeal.nD Cert.FwdIdeal.τ).loc Cert.FwdIdeal.main_arg8) = m ((c.tc : Thread Cert.FwdIdeal.nD Cert.FwdIdeal.τ).loc Cert.FwdIdeal.main_arg8)
          ∧ r.2.mem ((c.tc : Thread Cert.FwdIdeal.nD Cert.FwdIdeal.τ).loc Cert.FwdIdeal.main_arg9) = m ((c.tc : Thread Cert.FwdIdeal.nD Cert.FwdIdeal.τ).loc Cert.FwdIdeal.main_arg9)
          ∧ r.2.mem ((c.tc : Thread Cert.FwdIdeal.nD Cert.FwdIdeal.τ).loc Cert.FwdIdeal.main_arg10) = m ((c.tc : Thread Cert.FwdIdeal.nD Cert.FwdIdeal.τ).loc Cert.FwdIdeal.main_arg10)
          ∧ r.2.mem ((c.tc : Thread Cert.FwdIdeal.nD Cert.FwdIdeal.τ).loc Cert.FwdIdeal.main_arg11) = m ((c.tc : Thread Cert.FwdIdeal.nD Cert.FwdIdeal.τ).loc Cert.FwdIdeal.main_arg11)
          ∧ r.2.mem ((c.tc : Thread Cert.FwdIdeal.nD Cert.FwdIdeal.τ).loc Cert.FwdIdeal.main_arg12) = m ((c.tc : Thread Cert.FwdIdeal.nD Cert.FwdIdeal.τ).loc Cert.FwdIdeal.main_arg12)
          ∧ r.2.mem ((c.tc : Thread Cert.FwdIdeal.nD Cert.FwdIdeal.τ).loc Cert.FwdIdeal.main_arg13) = m ((c.tc : Thread Cert.FwdIdeal.nD Cert.FwdIdeal.τ).loc Cert.FwdIdeal.main_arg13))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v1) = v0 c
          ∧ r.2.mem ((c.tc : Thread Cert.FwdRefIdeal.nD Cert.FwdRefIdeal.τ).loc Cert.FwdRefIdeal.main_v18) = v1 c
          ∧ r.2.mem ((c.tc : Thread Cert.FwdRefIdeal.nD Cert.FwdRefIdeal.τ).loc Cert.FwdRefIdeal.main_v45) = v2 c
          ∧ r.2.mem ((c.tc : Thread Cert.FwdRefIdeal.nD Cert.FwdRefIdeal.τ).loc Cert.FwdRefIdeal.main_v46) = v3 c
          ∧ r.2.mem ((c.tc : Thread Cert.FwdRefIdeal.nD Cert.FwdRefIdeal.τ).loc Cert.FwdRefIdeal.main_v48) = v4 c
          ∧ r.2.mem ((c.tc : Thread Cert.FwdRefIdeal.nD Cert.FwdRefIdeal.τ).loc Cert.FwdRefIdeal.main_v49) = v5 c
          ∧ r.2.mem ((c.tc : Thread Cert.FwdRefIdeal.nD Cert.FwdRefIdeal.τ).loc Cert.FwdRefIdeal.main_v44) = v6 c
          ∧ r.2.mem ((c.tc : Thread Cert.FwdRefIdeal.nD Cert.FwdRefIdeal.τ).loc Cert.FwdRefIdeal.main_v66) = v7 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4)
          ∧ r.2.mem ((c.tc : Thread Cert.FwdRefIdeal.nD Cert.FwdRefIdeal.τ).loc Cert.FwdRefIdeal.main_arg5) = m' ((c.tc : Thread Cert.FwdRefIdeal.nD Cert.FwdRefIdeal.τ).loc Cert.FwdRefIdeal.main_arg5)
          ∧ r.2.mem ((c.tc : Thread Cert.FwdRefIdeal.nD Cert.FwdRefIdeal.τ).loc Cert.FwdRefIdeal.main_arg6) = m' ((c.tc : Thread Cert.FwdRefIdeal.nD Cert.FwdRefIdeal.τ).loc Cert.FwdRefIdeal.main_arg6)
          ∧ r.2.mem ((c.tc : Thread Cert.FwdRefIdeal.nD Cert.FwdRefIdeal.τ).loc Cert.FwdRefIdeal.main_arg7) = m' ((c.tc : Thread Cert.FwdRefIdeal.nD Cert.FwdRefIdeal.τ).loc Cert.FwdRefIdeal.main_arg7)
          ∧ r.2.mem ((c.tc : Thread Cert.FwdRefIdeal.nD Cert.FwdRefIdeal.τ).loc Cert.FwdRefIdeal.main_arg8) = m' ((c.tc : Thread Cert.FwdRefIdeal.nD Cert.FwdRefIdeal.τ).loc Cert.FwdRefIdeal.main_arg8)
          ∧ r.2.mem ((c.tc : Thread Cert.FwdRefIdeal.nD Cert.FwdRefIdeal.τ).loc Cert.FwdRefIdeal.main_arg9) = m' ((c.tc : Thread Cert.FwdRefIdeal.nD Cert.FwdRefIdeal.τ).loc Cert.FwdRefIdeal.main_arg9)
          ∧ r.2.mem ((c.tc : Thread Cert.FwdRefIdeal.nD Cert.FwdRefIdeal.τ).loc Cert.FwdRefIdeal.main_arg10) = m' ((c.tc : Thread Cert.FwdRefIdeal.nD Cert.FwdRefIdeal.τ).loc Cert.FwdRefIdeal.main_arg10)
          ∧ r.2.mem ((c.tc : Thread Cert.FwdRefIdeal.nD Cert.FwdRefIdeal.τ).loc Cert.FwdRefIdeal.main_arg11) = m' ((c.tc : Thread Cert.FwdRefIdeal.nD Cert.FwdRefIdeal.τ).loc Cert.FwdRefIdeal.main_arg11)
          ∧ r.2.mem ((c.tc : Thread Cert.FwdRefIdeal.nD Cert.FwdRefIdeal.τ).loc Cert.FwdRefIdeal.main_arg12) = m' ((c.tc : Thread Cert.FwdRefIdeal.nD Cert.FwdRefIdeal.τ).loc Cert.FwdRefIdeal.main_arg12)
          ∧ r.2.mem ((c.tc : Thread Cert.FwdRefIdeal.nD Cert.FwdRefIdeal.τ).loc Cert.FwdRefIdeal.main_arg13) = m' ((c.tc : Thread Cert.FwdRefIdeal.nD Cert.FwdRefIdeal.τ).loc Cert.FwdRefIdeal.main_arg13))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)
      ∧ m' ((c.tc : Thread Cert.LossRefIdeal.nD Cert.LossRefIdeal.τ).loc Cert.LossRefIdeal.main_arg8) = m ((c.tc : Thread Cert.LossIdeal.nD Cert.LossIdeal.τ).loc Cert.LossIdeal.main_arg8)
      ∧ m' ((c.tc : Thread Cert.LossRefIdeal.nD Cert.LossRefIdeal.τ).loc Cert.LossRefIdeal.main_arg9) = m ((c.tc : Thread Cert.LossIdeal.nD Cert.LossIdeal.τ).loc Cert.LossIdeal.main_arg9)
      ∧ m' ((c.tc : Thread Cert.LossRefIdeal.nD Cert.LossRefIdeal.τ).loc Cert.LossRefIdeal.main_arg10) = m ((c.tc : Thread Cert.LossIdeal.nD Cert.LossIdeal.τ).loc Cert.LossIdeal.main_arg10)
      ∧ m' ((c.tc : Thread Cert.LossRefIdeal.nD Cert.LossRefIdeal.τ).loc Cert.LossRefIdeal.main_arg11) = m ((c.tc : Thread Cert.LossIdeal.nD Cert.LossIdeal.τ).loc Cert.LossIdeal.main_arg11)
      ∧ m' ((c.tc : Thread Cert.LossRefIdeal.nD Cert.LossRefIdeal.τ).loc Cert.LossRefIdeal.main_arg12) = m ((c.tc : Thread Cert.LossIdeal.nD Cert.LossIdeal.τ).loc Cert.LossIdeal.main_arg12)
      ∧ m' ((c.tc : Thread Cert.LossRefIdeal.nD Cert.LossRefIdeal.τ).loc Cert.LossRefIdeal.main_arg13) = m ((c.tc : Thread Cert.LossIdeal.nD Cert.LossIdeal.τ).loc Cert.LossIdeal.main_arg13)
      ∧ m' ((c.tc : Thread Cert.LossRefIdeal.nD Cert.LossRefIdeal.τ).loc Cert.LossRefIdeal.main_arg14) = m ((c.tc : Thread Cert.LossIdeal.nD Cert.LossIdeal.τ).loc Cert.LossIdeal.main_arg14)) →
    ∃ (v0 : (c : Dev Cert.LossIdeal.nD) → Buf (Elt Ideal) ((c.tc : Thread Cert.LossIdeal.nD Cert.LossIdeal.τ).loc Cert.LossIdeal.main_v25_0)) (v1 : (c : Dev Cert.LossIdeal.nD) → Buf (Elt Ideal) ((c.tc : Thread Cert.LossIdeal.nD Cert.LossIdeal.τ).loc Cert.LossIdeal.main_v25_1)) (v2 : (c : Dev Cert.LossIdeal.nD) → Buf (Elt Ideal) ((c.tc : Thread Cert.LossIdeal.nD Cert.LossIdeal.τ).loc Cert.LossIdeal.main_v25_2)) (v3 : (c : Dev Cert.LossIdeal.nD) → Buf (Elt Ideal) ((c.tc : Thread Cert.LossIdeal.nD Cert.LossIdeal.τ).loc Cert.LossIdeal.main_v25_3)) (v4 : (c : Dev Cert.LossIdeal.nD) → Buf (Elt Ideal) ((c.tc : Thread Cert.LossIdeal.nD Cert.LossIdeal.τ).loc Cert.LossIdeal.main_v25_4)) (v5 : (c : Dev Cert.LossIdeal.nD) → Buf (Elt Ideal) ((c.tc : Thread Cert.LossIdeal.nD Cert.LossIdeal.τ).loc Cert.LossIdeal.main_v25_5)) (v6 : (c : Dev Cert.LossIdeal.nD) → Buf (Elt Ideal) ((c.tc : Thread Cert.LossIdeal.nD Cert.LossIdeal.τ).loc Cert.LossIdeal.main_v25_6)) (v7 : (c : Dev Cert.LossIdeal.nD) → Buf (Elt Ideal) ((c.tc : Thread Cert.LossIdeal.nD Cert.LossIdeal.τ).loc Cert.LossIdeal.main_v25_7)) (v8 : (c : Dev Cert.LossIdeal.nD) → Buf (Elt Ideal) ((c.tc : Thread Cert.LossIdeal.nD Cert.LossIdeal.τ).loc Cert.LossIdeal.main_v25_8)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v25_0) = v0 c
          ∧ r.2.mem ((c.tc : Thread Cert.LossIdeal.nD Cert.LossIdeal.τ).loc Cert.LossIdeal.main_v25_1) = v1 c
          ∧ r.2.mem ((c.tc : Thread Cert.LossIdeal.nD Cert.LossIdeal.τ).loc Cert.LossIdeal.main_v25_2) = v2 c
          ∧ r.2.mem ((c.tc : Thread Cert.LossIdeal.nD Cert.LossIdeal.τ).loc Cert.LossIdeal.main_v25_3) = v3 c
          ∧ r.2.mem ((c.tc : Thread Cert.LossIdeal.nD Cert.LossIdeal.τ).loc Cert.LossIdeal.main_v25_4) = v4 c
          ∧ r.2.mem ((c.tc : Thread Cert.LossIdeal.nD Cert.LossIdeal.τ).loc Cert.LossIdeal.main_v25_5) = v5 c
          ∧ r.2.mem ((c.tc : Thread Cert.LossIdeal.nD Cert.LossIdeal.τ).loc Cert.LossIdeal.main_v25_6) = v6 c
          ∧ r.2.mem ((c.tc : Thread Cert.LossIdeal.nD Cert.LossIdeal.τ).loc Cert.LossIdeal.main_v25_7) = v7 c
          ∧ r.2.mem ((c.tc : Thread Cert.LossIdeal.nD Cert.LossIdeal.τ).loc Cert.LossIdeal.main_v25_8) = v8 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8)
          ∧ r.2.mem ((c.tc : Thread Cert.LossIdeal.nD Cert.LossIdeal.τ).loc Cert.LossIdeal.main_arg9) = m ((c.tc : Thread Cert.LossIdeal.nD Cert.LossIdeal.τ).loc Cert.LossIdeal.main_arg9)
          ∧ r.2.mem ((c.tc : Thread Cert.LossIdeal.nD Cert.LossIdeal.τ).loc Cert.LossIdeal.main_arg10) = m ((c.tc : Thread Cert.LossIdeal.nD Cert.LossIdeal.τ).loc Cert.LossIdeal.main_arg10)
          ∧ r.2.mem ((c.tc : Thread Cert.LossIdeal.nD Cert.LossIdeal.τ).loc Cert.LossIdeal.main_arg11) = m ((c.tc : Thread Cert.LossIdeal.nD Cert.LossIdeal.τ).loc Cert.LossIdeal.main_arg11)
          ∧ r.2.mem ((c.tc : Thread Cert.LossIdeal.nD Cert.LossIdeal.τ).loc Cert.LossIdeal.main_arg12) = m ((c.tc : Thread Cert.LossIdeal.nD Cert.LossIdeal.τ).loc Cert.LossIdeal.main_arg12)
          ∧ r.2.mem ((c.tc : Thread Cert.LossIdeal.nD Cert.LossIdeal.τ).loc Cert.LossIdeal.main_arg13) = m ((c.tc : Thread Cert.LossIdeal.nD Cert.LossIdeal.τ).loc Cert.LossIdeal.main_arg13)
          ∧ r.2.mem ((c.tc : Thread Cert.LossIdeal.nD Cert.LossIdeal.τ).loc Cert.LossIdeal.main_arg14) = m ((c.tc : Thread Cert.LossIdeal.nD Cert.LossIdeal.τ).loc Cert.LossIdeal.main_arg14))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v1) = v0 c
          ∧ r.2.mem ((c.tc : Thread Cert.LossRefIdeal.nD Cert.LossRefIdeal.τ).loc Cert.LossRefIdeal.main_v18) = v1 c
          ∧ r.2.mem ((c.tc : Thread Cert.LossRefIdeal.nD Cert.LossRefIdeal.τ).loc Cert.LossRefIdeal.main_v45) = v2 c
          ∧ r.2.mem ((c.tc : Thread Cert.LossRefIdeal.nD Cert.LossRefIdeal.τ).loc Cert.LossRefIdeal.main_v46) = v3 c
          ∧ r.2.mem ((c.tc : Thread Cert.LossRefIdeal.nD Cert.LossRefIdeal.τ).loc Cert.LossRefIdeal.main_v48) = v4 c
          ∧ r.2.mem ((c.tc : Thread Cert.LossRefIdeal.nD Cert.LossRefIdeal.τ).loc Cert.LossRefIdeal.main_v49) = v5 c
          ∧ r.2.mem ((c.tc : Thread Cert.LossRefIdeal.nD Cert.LossRefIdeal.τ).loc Cert.LossRefIdeal.main_v44) = v6 c
          ∧ r.2.mem ((c.tc : Thread Cert.LossRefIdeal.nD Cert.LossRefIdeal.τ).loc Cert.LossRefIdeal.main_v81) = v7 c
          ∧ r.2.mem ((c.tc : Thread Cert.LossRefIdeal.nD Cert.LossRefIdeal.τ).loc Cert.LossRefIdeal.main_v82) = v8 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8)
          ∧ r.2.mem ((c.tc : Thread Cert.LossRefIdeal.nD Cert.LossRefIdeal.τ).loc Cert.LossRefIdeal.main_arg9) = m' ((c.tc : Thread Cert.LossRefIdeal.nD Cert.LossRefIdeal.τ).loc Cert.LossRefIdeal.main_arg9)
          ∧ r.2.mem ((c.tc : Thread Cert.LossRefIdeal.nD Cert.LossRefIdeal.τ).loc Cert.LossRefIdeal.main_arg10) = m' ((c.tc : Thread Cert.LossRefIdeal.nD Cert.LossRefIdeal.τ).loc Cert.LossRefIdeal.main_arg10)
          ∧ r.2.mem ((c.tc : Thread Cert.LossRefIdeal.nD Cert.LossRefIdeal.τ).loc Cert.LossRefIdeal.main_arg11) = m' ((c.tc : Thread Cert.LossRefIdeal.nD Cert.LossRefIdeal.τ).loc Cert.LossRefIdeal.main_arg11)
          ∧ r.2.mem ((c.tc : Thread Cert.LossRefIdeal.nD Cert.LossRefIdeal.τ).loc Cert.LossRefIdeal.main_arg12) = m' ((c.tc : Thread Cert.LossRefIdeal.nD Cert.LossRefIdeal.τ).loc Cert.LossRefIdeal.main_arg12)
          ∧ r.2.mem ((c.tc : Thread Cert.LossRefIdeal.nD Cert.LossRefIdeal.τ).loc Cert.LossRefIdeal.main_arg13) = m' ((c.tc : Thread Cert.LossRefIdeal.nD Cert.LossRefIdeal.τ).loc Cert.LossRefIdeal.main_arg13)
          ∧ r.2.mem ((c.tc : Thread Cert.LossRefIdeal.nD Cert.LossRefIdeal.τ).loc Cert.LossRefIdeal.main_arg14) = m' ((c.tc : Thread Cert.LossRefIdeal.nD Cert.LossRefIdeal.τ).loc Cert.LossRefIdeal.main_arg14))

def preserves_AdamAdaW_AdamAdaWIdeal : Prop :=
  True

def algebraic_AdamAdaWIdeal_AdamAdaWRefIdeal [hAdamAdaWIdeal : Cert.AdamAdaWIdeal.Facts] [hAdamAdaWRefIdeal : Cert.AdamAdaWRefIdeal.Facts] : Prop :=
  ∀ (m : (ℓ : Loc Cert.AdamAdaWIdeal.nD Cert.AdamAdaWIdeal.τ Cert.AdamAdaWIdeal.sig) → Buf (Elt Ideal) ℓ) (g : Dev Cert.AdamAdaWIdeal.nD → PrngReg)
    (m' : (ℓ : Loc Cert.AdamAdaWRefIdeal.nD Cert.AdamAdaWRefIdeal.τ Cert.AdamAdaWRefIdeal.sig) → Buf (Elt Ideal) ℓ) (g' : Dev Cert.AdamAdaWRefIdeal.nD → PrngReg), Pre_AdamAdaWIdeal m →
    (∀ c : Dev Cert.AdamAdaWIdeal.nD,
      m' ((c.tc : Thread Cert.AdamAdaWRefIdeal.nD Cert.AdamAdaWRefIdeal.τ).loc Cert.AdamAdaWRefIdeal.main_arg0) = m ((c.tc : Thread Cert.AdamAdaWIdeal.nD Cert.AdamAdaWIdeal.τ).loc Cert.AdamAdaWIdeal.main_arg0)
      ∧ m' ((c.tc : Thread Cert.AdamAdaWRefIdeal.nD Cert.AdamAdaWRefIdeal.τ).loc Cert.AdamAdaWRefIdeal.main_arg1) = m ((c.tc : Thread Cert.AdamAdaWIdeal.nD Cert.AdamAdaWIdeal.τ).loc Cert.AdamAdaWIdeal.main_arg1)
      ∧ m' ((c.tc : Thread Cert.AdamAdaWRefIdeal.nD Cert.AdamAdaWRefIdeal.τ).loc Cert.AdamAdaWRefIdeal.main_arg2) = m ((c.tc : Thread Cert.AdamAdaWIdeal.nD Cert.AdamAdaWIdeal.τ).loc Cert.AdamAdaWIdeal.main_arg2)
      ∧ m' ((c.tc : Thread Cert.AdamAdaWRefIdeal.nD Cert.AdamAdaWRefIdeal.τ).loc Cert.AdamAdaWRefIdeal.main_arg3) = m ((c.tc : Thread Cert.AdamAdaWIdeal.nD Cert.AdamAdaWIdeal.τ).loc Cert.AdamAdaWIdeal.main_arg3)) →
    ∃ (v0 : (c : Dev Cert.AdamAdaWIdeal.nD) → Buf (Elt Ideal) ((c.tc : Thread Cert.AdamAdaWIdeal.nD Cert.AdamAdaWIdeal.τ).loc Cert.AdamAdaWIdeal.main_v4_0)) (v1 : (c : Dev Cert.AdamAdaWIdeal.nD) → Buf (Elt Ideal) ((c.tc : Thread Cert.AdamAdaWIdeal.nD Cert.AdamAdaWIdeal.τ).loc Cert.AdamAdaWIdeal.main_v4_1)) (v2 : (c : Dev Cert.AdamAdaWIdeal.nD) → Buf (Elt Ideal) ((c.tc : Thread Cert.AdamAdaWIdeal.nD Cert.AdamAdaWIdeal.τ).loc Cert.AdamAdaWIdeal.main_v4_2)),
      θ_run (Cert.AdamAdaWIdeal.defs (F := Ideal)) (onTc (τ := Cert.AdamAdaWIdeal.τ) (Cert.AdamAdaWIdeal.main (F := Ideal))) ⟨m, fun _ => 0, g⟩ (fun r => ∀ c : Dev Cert.AdamAdaWIdeal.nD,
          r.2.mem ((c.tc : Thread Cert.AdamAdaWIdeal.nD Cert.AdamAdaWIdeal.τ).loc Cert.AdamAdaWIdeal.main_v4_0) = v0 c
          ∧ r.2.mem ((c.tc : Thread Cert.AdamAdaWIdeal.nD Cert.AdamAdaWIdeal.τ).loc Cert.AdamAdaWIdeal.main_v4_1) = v1 c
          ∧ r.2.mem ((c.tc : Thread Cert.AdamAdaWIdeal.nD Cert.AdamAdaWIdeal.τ).loc Cert.AdamAdaWIdeal.main_v4_2) = v2 c
          ∧ r.2.mem ((c.tc : Thread Cert.AdamAdaWIdeal.nD Cert.AdamAdaWIdeal.τ).loc Cert.AdamAdaWIdeal.main_arg0) = m ((c.tc : Thread Cert.AdamAdaWIdeal.nD Cert.AdamAdaWIdeal.τ).loc Cert.AdamAdaWIdeal.main_arg0)
          ∧ r.2.mem ((c.tc : Thread Cert.AdamAdaWIdeal.nD Cert.AdamAdaWIdeal.τ).loc Cert.AdamAdaWIdeal.main_arg1) = m ((c.tc : Thread Cert.AdamAdaWIdeal.nD Cert.AdamAdaWIdeal.τ).loc Cert.AdamAdaWIdeal.main_arg1)
          ∧ r.2.mem ((c.tc : Thread Cert.AdamAdaWIdeal.nD Cert.AdamAdaWIdeal.τ).loc Cert.AdamAdaWIdeal.main_arg2) = m ((c.tc : Thread Cert.AdamAdaWIdeal.nD Cert.AdamAdaWIdeal.τ).loc Cert.AdamAdaWIdeal.main_arg2)
          ∧ r.2.mem ((c.tc : Thread Cert.AdamAdaWIdeal.nD Cert.AdamAdaWIdeal.τ).loc Cert.AdamAdaWIdeal.main_arg3) = m ((c.tc : Thread Cert.AdamAdaWIdeal.nD Cert.AdamAdaWIdeal.τ).loc Cert.AdamAdaWIdeal.main_arg3))
      ∧ θ_run (Cert.AdamAdaWRefIdeal.defs (F := Ideal)) (onTc (τ := Cert.AdamAdaWRefIdeal.τ) (Cert.AdamAdaWRefIdeal.main (F := Ideal))) ⟨m', fun _ => 0, g'⟩ (fun r => ∀ c : Dev Cert.AdamAdaWRefIdeal.nD,
          r.2.mem ((c.tc : Thread Cert.AdamAdaWRefIdeal.nD Cert.AdamAdaWRefIdeal.τ).loc Cert.AdamAdaWRefIdeal.main_v24) = v0 c
          ∧ r.2.mem ((c.tc : Thread Cert.AdamAdaWRefIdeal.nD Cert.AdamAdaWRefIdeal.τ).loc Cert.AdamAdaWRefIdeal.main_v25) = v1 c
          ∧ r.2.mem ((c.tc : Thread Cert.AdamAdaWRefIdeal.nD Cert.AdamAdaWRefIdeal.τ).loc Cert.AdamAdaWRefIdeal.main_v26) = v2 c
          ∧ r.2.mem ((c.tc : Thread Cert.AdamAdaWRefIdeal.nD Cert.AdamAdaWRefIdeal.τ).loc Cert.AdamAdaWRefIdeal.main_arg0) = m' ((c.tc : Thread Cert.AdamAdaWRefIdeal.nD Cert.AdamAdaWRefIdeal.τ).loc Cert.AdamAdaWRefIdeal.main_arg0)
          ∧ r.2.mem ((c.tc : Thread Cert.AdamAdaWRefIdeal.nD Cert.AdamAdaWRefIdeal.τ).loc Cert.AdamAdaWRefIdeal.main_arg1) = m' ((c.tc : Thread Cert.AdamAdaWRefIdeal.nD Cert.AdamAdaWRefIdeal.τ).loc Cert.AdamAdaWRefIdeal.main_arg1)
          ∧ r.2.mem ((c.tc : Thread Cert.AdamAdaWRefIdeal.nD Cert.AdamAdaWRefIdeal.τ).loc Cert.AdamAdaWRefIdeal.main_arg2) = m' ((c.tc : Thread Cert.AdamAdaWRefIdeal.nD Cert.AdamAdaWRefIdeal.τ).loc Cert.AdamAdaWRefIdeal.main_arg2)
          ∧ r.2.mem ((c.tc : Thread Cert.AdamAdaWRefIdeal.nD Cert.AdamAdaWRefIdeal.τ).loc Cert.AdamAdaWRefIdeal.main_arg3) = m' ((c.tc : Thread Cert.AdamAdaWRefIdeal.nD Cert.AdamAdaWRefIdeal.τ).loc Cert.AdamAdaWRefIdeal.main_arg3))

def preserves_AdamAdaB_AdamAdaBIdeal : Prop :=
  True

def algebraic_AdamAdaBIdeal_AdamAdaBRefIdeal [hAdamAdaBIdeal : Cert.AdamAdaBIdeal.Facts] [hAdamAdaBRefIdeal : Cert.AdamAdaBRefIdeal.Facts] : Prop :=
  ∀ (m : (ℓ : Loc Cert.AdamAdaBIdeal.nD Cert.AdamAdaBIdeal.τ Cert.AdamAdaBIdeal.sig) → Buf (Elt Ideal) ℓ) (g : Dev Cert.AdamAdaBIdeal.nD → PrngReg)
    (m' : (ℓ : Loc Cert.AdamAdaBRefIdeal.nD Cert.AdamAdaBRefIdeal.τ Cert.AdamAdaBRefIdeal.sig) → Buf (Elt Ideal) ℓ) (g' : Dev Cert.AdamAdaBRefIdeal.nD → PrngReg), Pre_AdamAdaBIdeal m →
    (∀ c : Dev Cert.AdamAdaBIdeal.nD,
      m' ((c.tc : Thread Cert.AdamAdaBRefIdeal.nD Cert.AdamAdaBRefIdeal.τ).loc Cert.AdamAdaBRefIdeal.main_arg0) = m ((c.tc : Thread Cert.AdamAdaBIdeal.nD Cert.AdamAdaBIdeal.τ).loc Cert.AdamAdaBIdeal.main_arg0)
      ∧ m' ((c.tc : Thread Cert.AdamAdaBRefIdeal.nD Cert.AdamAdaBRefIdeal.τ).loc Cert.AdamAdaBRefIdeal.main_arg1) = m ((c.tc : Thread Cert.AdamAdaBIdeal.nD Cert.AdamAdaBIdeal.τ).loc Cert.AdamAdaBIdeal.main_arg1)
      ∧ m' ((c.tc : Thread Cert.AdamAdaBRefIdeal.nD Cert.AdamAdaBRefIdeal.τ).loc Cert.AdamAdaBRefIdeal.main_arg2) = m ((c.tc : Thread Cert.AdamAdaBIdeal.nD Cert.AdamAdaBIdeal.τ).loc Cert.AdamAdaBIdeal.main_arg2)
      ∧ m' ((c.tc : Thread Cert.AdamAdaBRefIdeal.nD Cert.AdamAdaBRefIdeal.τ).loc Cert.AdamAdaBRefIdeal.main_arg3) = m ((c.tc : Thread Cert.AdamAdaBIdeal.nD Cert.AdamAdaBIdeal.τ).loc Cert.AdamAdaBIdeal.main_arg3)) →
    ∃ (v0 : (c : Dev Cert.AdamAdaBIdeal.nD) → Buf (Elt Ideal) ((c.tc : Thread Cert.AdamAdaBIdeal.nD Cert.AdamAdaBIdeal.τ).loc Cert.AdamAdaBIdeal.main_v0_0)) (v1 : (c : Dev Cert.AdamAdaBIdeal.nD) → Buf (Elt Ideal) ((c.tc : Thread Cert.AdamAdaBIdeal.nD Cert.AdamAdaBIdeal.τ).loc Cert.AdamAdaBIdeal.main_v0_1)) (v2 : (c : Dev Cert.AdamAdaBIdeal.nD) → Buf (Elt Ideal) ((c.tc : Thread Cert.AdamAdaBIdeal.nD Cert.AdamAdaBIdeal.τ).loc Cert.AdamAdaBIdeal.main_v0_2)),
      θ_run (Cert.AdamAdaBIdeal.defs (F := Ideal)) (onTc (τ := Cert.AdamAdaBIdeal.τ) (Cert.AdamAdaBIdeal.main (F := Ideal))) ⟨m, fun _ => 0, g⟩ (fun r => ∀ c : Dev Cert.AdamAdaBIdeal.nD,
          r.2.mem ((c.tc : Thread Cert.AdamAdaBIdeal.nD Cert.AdamAdaBIdeal.τ).loc Cert.AdamAdaBIdeal.main_v0_0) = v0 c
          ∧ r.2.mem ((c.tc : Thread Cert.AdamAdaBIdeal.nD Cert.AdamAdaBIdeal.τ).loc Cert.AdamAdaBIdeal.main_v0_1) = v1 c
          ∧ r.2.mem ((c.tc : Thread Cert.AdamAdaBIdeal.nD Cert.AdamAdaBIdeal.τ).loc Cert.AdamAdaBIdeal.main_v0_2) = v2 c
          ∧ r.2.mem ((c.tc : Thread Cert.AdamAdaBIdeal.nD Cert.AdamAdaBIdeal.τ).loc Cert.AdamAdaBIdeal.main_arg0) = m ((c.tc : Thread Cert.AdamAdaBIdeal.nD Cert.AdamAdaBIdeal.τ).loc Cert.AdamAdaBIdeal.main_arg0)
          ∧ r.2.mem ((c.tc : Thread Cert.AdamAdaBIdeal.nD Cert.AdamAdaBIdeal.τ).loc Cert.AdamAdaBIdeal.main_arg1) = m ((c.tc : Thread Cert.AdamAdaBIdeal.nD Cert.AdamAdaBIdeal.τ).loc Cert.AdamAdaBIdeal.main_arg1)
          ∧ r.2.mem ((c.tc : Thread Cert.AdamAdaBIdeal.nD Cert.AdamAdaBIdeal.τ).loc Cert.AdamAdaBIdeal.main_arg2) = m ((c.tc : Thread Cert.AdamAdaBIdeal.nD Cert.AdamAdaBIdeal.τ).loc Cert.AdamAdaBIdeal.main_arg2)
          ∧ r.2.mem ((c.tc : Thread Cert.AdamAdaBIdeal.nD Cert.AdamAdaBIdeal.τ).loc Cert.AdamAdaBIdeal.main_arg3) = m ((c.tc : Thread Cert.AdamAdaBIdeal.nD Cert.AdamAdaBIdeal.τ).loc Cert.AdamAdaBIdeal.main_arg3))
      ∧ θ_run (Cert.AdamAdaBRefIdeal.defs (F := Ideal)) (onTc (τ := Cert.AdamAdaBRefIdeal.τ) (Cert.AdamAdaBRefIdeal.main (F := Ideal))) ⟨m', fun _ => 0, g'⟩ (fun r => ∀ c : Dev Cert.AdamAdaBRefIdeal.nD,
          r.2.mem ((c.tc : Thread Cert.AdamAdaBRefIdeal.nD Cert.AdamAdaBRefIdeal.τ).loc Cert.AdamAdaBRefIdeal.main_v23) = v0 c
          ∧ r.2.mem ((c.tc : Thread Cert.AdamAdaBRefIdeal.nD Cert.AdamAdaBRefIdeal.τ).loc Cert.AdamAdaBRefIdeal.main_v4) = v1 c
          ∧ r.2.mem ((c.tc : Thread Cert.AdamAdaBRefIdeal.nD Cert.AdamAdaBRefIdeal.τ).loc Cert.AdamAdaBRefIdeal.main_v10) = v2 c
          ∧ r.2.mem ((c.tc : Thread Cert.AdamAdaBRefIdeal.nD Cert.AdamAdaBRefIdeal.τ).loc Cert.AdamAdaBRefIdeal.main_arg0) = m' ((c.tc : Thread Cert.AdamAdaBRefIdeal.nD Cert.AdamAdaBRefIdeal.τ).loc Cert.AdamAdaBRefIdeal.main_arg0)
          ∧ r.2.mem ((c.tc : Thread Cert.AdamAdaBRefIdeal.nD Cert.AdamAdaBRefIdeal.τ).loc Cert.AdamAdaBRefIdeal.main_arg1) = m' ((c.tc : Thread Cert.AdamAdaBRefIdeal.nD Cert.AdamAdaBRefIdeal.τ).loc Cert.AdamAdaBRefIdeal.main_arg1)
          ∧ r.2.mem ((c.tc : Thread Cert.AdamAdaBRefIdeal.nD Cert.AdamAdaBRefIdeal.τ).loc Cert.AdamAdaBRefIdeal.main_arg2) = m' ((c.tc : Thread Cert.AdamAdaBRefIdeal.nD Cert.AdamAdaBRefIdeal.τ).loc Cert.AdamAdaBRefIdeal.main_arg2)
          ∧ r.2.mem ((c.tc : Thread Cert.AdamAdaBRefIdeal.nD Cert.AdamAdaBRefIdeal.τ).loc Cert.AdamAdaBRefIdeal.main_arg3) = m' ((c.tc : Thread Cert.AdamAdaBRefIdeal.nD Cert.AdamAdaBRefIdeal.τ).loc Cert.AdamAdaBRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v8_0)) (v1 : (c : Dev Cert.AdamInIdeal.nD) → Buf (Elt Ideal) ((c.tc : Thread Cert.AdamInIdeal.nD Cert.AdamInIdeal.τ).loc Cert.AdamInIdeal.main_v8_1)) (v2 : (c : Dev Cert.AdamInIdeal.nD) → Buf (Elt Ideal) ((c.tc : Thread Cert.AdamInIdeal.nD Cert.AdamInIdeal.τ).loc Cert.AdamInIdeal.main_v8_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v8_0) = v0 c
          ∧ r.2.mem ((c.tc : Thread Cert.AdamInIdeal.nD Cert.AdamInIdeal.τ).loc Cert.AdamInIdeal.main_v8_1) = v1 c
          ∧ r.2.mem ((c.tc : Thread Cert.AdamInIdeal.nD Cert.AdamInIdeal.τ).loc Cert.AdamInIdeal.main_v8_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v25) = v0 c
          ∧ r.2.mem ((c.tc : Thread Cert.AdamInRefIdeal.nD Cert.AdamInRefIdeal.τ).loc Cert.AdamInRefIdeal.main_v27) = v1 c
          ∧ r.2.mem ((c.tc : Thread Cert.AdamInRefIdeal.nD Cert.AdamInRefIdeal.τ).loc Cert.AdamInRefIdeal.main_v29) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamBIn_AdamBInIdeal : Prop :=
  True

def algebraic_AdamBInIdeal_AdamBInRefIdeal [hAdamBInIdeal : Cert.AdamBInIdeal.Facts] [hAdamBInRefIdeal : Cert.AdamBInRefIdeal.Facts] : Prop :=
  ∀ (m : (ℓ : Loc Cert.AdamBInIdeal.nD Cert.AdamBInIdeal.τ Cert.AdamBInIdeal.sig) → Buf (Elt Ideal) ℓ) (g : Dev Cert.AdamBInIdeal.nD → PrngReg)
    (m' : (ℓ : Loc Cert.AdamBInRefIdeal.nD Cert.AdamBInRefIdeal.τ Cert.AdamBInRefIdeal.sig) → Buf (Elt Ideal) ℓ) (g' : Dev Cert.AdamBInRefIdeal.nD → PrngReg), Pre_AdamBInIdeal m →
    (∀ c : Dev Cert.AdamBInIdeal.nD,
      m' ((c.tc : Thread Cert.AdamBInRefIdeal.nD Cert.AdamBInRefIdeal.τ).loc Cert.AdamBInRefIdeal.main_arg0) = m ((c.tc : Thread Cert.AdamBInIdeal.nD Cert.AdamBInIdeal.τ).loc Cert.AdamBInIdeal.main_arg0)
      ∧ m' ((c.tc : Thread Cert.AdamBInRefIdeal.nD Cert.AdamBInRefIdeal.τ).loc Cert.AdamBInRefIdeal.main_arg1) = m ((c.tc : Thread Cert.AdamBInIdeal.nD Cert.AdamBInIdeal.τ).loc Cert.AdamBInIdeal.main_arg1)
      ∧ m' ((c.tc : Thread Cert.AdamBInRefIdeal.nD Cert.AdamBInRefIdeal.τ).loc Cert.AdamBInRefIdeal.main_arg2) = m ((c.tc : Thread Cert.AdamBInIdeal.nD Cert.AdamBInIdeal.τ).loc Cert.AdamBInIdeal.main_arg2)
      ∧ m' ((c.tc : Thread Cert.AdamBInRefIdeal.nD Cert.AdamBInRefIdeal.τ).loc Cert.AdamBInRefIdeal.main_arg3) = m ((c.tc : Thread Cert.AdamBInIdeal.nD Cert.AdamBInIdeal.τ).loc Cert.AdamBInIdeal.main_arg3)) →
    ∃ (v0 : (c : Dev Cert.AdamBInIdeal.nD) → Buf (Elt Ideal) ((c.tc : Thread Cert.AdamBInIdeal.nD Cert.AdamBInIdeal.τ).loc Cert.AdamBInIdeal.main_v0_0)) (v1 : (c : Dev Cert.AdamBInIdeal.nD) → Buf (Elt Ideal) ((c.tc : Thread Cert.AdamBInIdeal.nD Cert.AdamBInIdeal.τ).loc Cert.AdamBInIdeal.main_v0_1)) (v2 : (c : Dev Cert.AdamBInIdeal.nD) → Buf (Elt Ideal) ((c.tc : Thread Cert.AdamBInIdeal.nD Cert.AdamBInIdeal.τ).loc Cert.AdamBInIdeal.main_v0_2)),
      θ_run (Cert.AdamBInIdeal.defs (F := Ideal)) (onTc (τ := Cert.AdamBInIdeal.τ) (Cert.AdamBInIdeal.main (F := Ideal))) ⟨m, fun _ => 0, g⟩ (fun r => ∀ c : Dev Cert.AdamBInIdeal.nD,
          r.2.mem ((c.tc : Thread Cert.AdamBInIdeal.nD Cert.AdamBInIdeal.τ).loc Cert.AdamBInIdeal.main_v0_0) = v0 c
          ∧ r.2.mem ((c.tc : Thread Cert.AdamBInIdeal.nD Cert.AdamBInIdeal.τ).loc Cert.AdamBInIdeal.main_v0_1) = v1 c
          ∧ r.2.mem ((c.tc : Thread Cert.AdamBInIdeal.nD Cert.AdamBInIdeal.τ).loc Cert.AdamBInIdeal.main_v0_2) = v2 c
          ∧ r.2.mem ((c.tc : Thread Cert.AdamBInIdeal.nD Cert.AdamBInIdeal.τ).loc Cert.AdamBInIdeal.main_arg0) = m ((c.tc : Thread Cert.AdamBInIdeal.nD Cert.AdamBInIdeal.τ).loc Cert.AdamBInIdeal.main_arg0)
          ∧ r.2.mem ((c.tc : Thread Cert.AdamBInIdeal.nD Cert.AdamBInIdeal.τ).loc Cert.AdamBInIdeal.main_arg1) = m ((c.tc : Thread Cert.AdamBInIdeal.nD Cert.AdamBInIdeal.τ).loc Cert.AdamBInIdeal.main_arg1)
          ∧ r.2.mem ((c.tc : Thread Cert.AdamBInIdeal.nD Cert.AdamBInIdeal.τ).loc Cert.AdamBInIdeal.main_arg2) = m ((c.tc : Thread Cert.AdamBInIdeal.nD Cert.AdamBInIdeal.τ).loc Cert.AdamBInIdeal.main_arg2)
          ∧ r.2.mem ((c.tc : Thread Cert.AdamBInIdeal.nD Cert.AdamBInIdeal.τ).loc Cert.AdamBInIdeal.main_arg3) = m ((c.tc : Thread Cert.AdamBInIdeal.nD Cert.AdamBInIdeal.τ).loc Cert.AdamBInIdeal.main_arg3))
      ∧ θ_run (Cert.AdamBInRefIdeal.defs (F := Ideal)) (onTc (τ := Cert.AdamBInRefIdeal.τ) (Cert.AdamBInRefIdeal.main (F := Ideal))) ⟨m', fun _ => 0, g'⟩ (fun r => ∀ c : Dev Cert.AdamBInRefIdeal.nD,
          r.2.mem ((c.tc : Thread Cert.AdamBInRefIdeal.nD Cert.AdamBInRefIdeal.τ).loc Cert.AdamBInRefIdeal.main_v23) = v0 c
          ∧ r.2.mem ((c.tc : Thread Cert.AdamBInRefIdeal.nD Cert.AdamBInRefIdeal.τ).loc Cert.AdamBInRefIdeal.main_v4) = v1 c
          ∧ r.2.mem ((c.tc : Thread Cert.AdamBInRefIdeal.nD Cert.AdamBInRefIdeal.τ).loc Cert.AdamBInRefIdeal.main_v10) = v2 c
          ∧ r.2.mem ((c.tc : Thread Cert.AdamBInRefIdeal.nD Cert.AdamBInRefIdeal.τ).loc Cert.AdamBInRefIdeal.main_arg0) = m' ((c.tc : Thread Cert.AdamBInRefIdeal.nD Cert.AdamBInRefIdeal.τ).loc Cert.AdamBInRefIdeal.main_arg0)
          ∧ r.2.mem ((c.tc : Thread Cert.AdamBInRefIdeal.nD Cert.AdamBInRefIdeal.τ).loc Cert.AdamBInRefIdeal.main_arg1) = m' ((c.tc : Thread Cert.AdamBInRefIdeal.nD Cert.AdamBInRefIdeal.τ).loc Cert.AdamBInRefIdeal.main_arg1)
          ∧ r.2.mem ((c.tc : Thread Cert.AdamBInRefIdeal.nD Cert.AdamBInRefIdeal.τ).loc Cert.AdamBInRefIdeal.main_arg2) = m' ((c.tc : Thread Cert.AdamBInRefIdeal.nD Cert.AdamBInRefIdeal.τ).loc Cert.AdamBInRefIdeal.main_arg2)
          ∧ r.2.mem ((c.tc : Thread Cert.AdamBInRefIdeal.nD Cert.AdamBInRefIdeal.τ).loc Cert.AdamBInRefIdeal.main_arg3) = m' ((c.tc : Thread Cert.AdamBInRefIdeal.nD Cert.AdamBInRefIdeal.τ).loc Cert.AdamBInRefIdeal.main_arg3))

def preserves_AdamSinks_AdamSinksIdeal : Prop :=
  True

def algebraic_AdamSinksIdeal_AdamSinksRefIdeal [hAdamSinksIdeal : Cert.AdamSinksIdeal.Facts] [hAdamSinksRefIdeal : Cert.AdamSinksRefIdeal.Facts] : Prop :=
  ∀ (m : (ℓ : Loc Cert.AdamSinksIdeal.nD Cert.AdamSinksIdeal.τ Cert.AdamSinksIdeal.sig) → Buf (Elt Ideal) ℓ) (g : Dev Cert.AdamSinksIdeal.nD → PrngReg)
    (m' : (ℓ : Loc Cert.AdamSinksRefIdeal.nD Cert.AdamSinksRefIdeal.τ Cert.AdamSinksRefIdeal.sig) → Buf (Elt Ideal) ℓ) (g' : Dev Cert.AdamSinksRefIdeal.nD → PrngReg), Pre_AdamSinksIdeal m →
    (∀ c : Dev Cert.AdamSinksIdeal.nD,
      m' ((c.tc : Thread Cert.AdamSinksRefIdeal.nD Cert.AdamSinksRefIdeal.τ).loc Cert.AdamSinksRefIdeal.main_arg0) = m ((c.tc : Thread Cert.AdamSinksIdeal.nD Cert.AdamSinksIdeal.τ).loc Cert.AdamSinksIdeal.main_arg0)
      ∧ m' ((c.tc : Thread Cert.AdamSinksRefIdeal.nD Cert.AdamSinksRefIdeal.τ).loc Cert.AdamSinksRefIdeal.main_arg1) = m ((c.tc : Thread Cert.AdamSinksIdeal.nD Cert.AdamSinksIdeal.τ).loc Cert.AdamSinksIdeal.main_arg1)
      ∧ m' ((c.tc : Thread Cert.AdamSinksRefIdeal.nD Cert.AdamSinksRefIdeal.τ).loc Cert.AdamSinksRefIdeal.main_arg2) = m ((c.tc : Thread Cert.AdamSinksIdeal.nD Cert.AdamSinksIdeal.τ).loc Cert.AdamSinksIdeal.main_arg2)
      ∧ m' ((c.tc : Thread Cert.AdamSinksRefIdeal.nD Cert.AdamSinksRefIdeal.τ).loc Cert.AdamSinksRefIdeal.main_arg3) = m ((c.tc : Thread Cert.AdamSinksIdeal.nD Cert.AdamSinksIdeal.τ).loc Cert.AdamSinksIdeal.main_arg3)) →
    ∃ (v0 : (c : Dev Cert.AdamSinksIdeal.nD) → Buf (Elt Ideal) ((c.tc : Thread Cert.AdamSinksIdeal.nD Cert.AdamSinksIdeal.τ).loc Cert.AdamSinksIdeal.main_v4_0)) (v1 : (c : Dev Cert.AdamSinksIdeal.nD) → Buf (Elt Ideal) ((c.tc : Thread Cert.AdamSinksIdeal.nD Cert.AdamSinksIdeal.τ).loc Cert.AdamSinksIdeal.main_v4_1)) (v2 : (c : Dev Cert.AdamSinksIdeal.nD) → Buf (Elt Ideal) ((c.tc : Thread Cert.AdamSinksIdeal.nD Cert.AdamSinksIdeal.τ).loc Cert.AdamSinksIdeal.main_v4_2)),
      θ_run (Cert.AdamSinksIdeal.defs (F := Ideal)) (onTc (τ := Cert.AdamSinksIdeal.τ) (Cert.AdamSinksIdeal.main (F := Ideal))) ⟨m, fun _ => 0, g⟩ (fun r => ∀ c : Dev Cert.AdamSinksIdeal.nD,
          r.2.mem ((c.tc : Thread Cert.AdamSinksIdeal.nD Cert.AdamSinksIdeal.τ).loc Cert.AdamSinksIdeal.main_v4_0) = v0 c
          ∧ r.2.mem ((c.tc : Thread Cert.AdamSinksIdeal.nD Cert.AdamSinksIdeal.τ).loc Cert.AdamSinksIdeal.main_v4_1) = v1 c
          ∧ r.2.mem ((c.tc : Thread Cert.AdamSinksIdeal.nD Cert.AdamSinksIdeal.τ).loc Cert.AdamSinksIdeal.main_v4_2) = v2 c
          ∧ r.2.mem ((c.tc : Thread Cert.AdamSinksIdeal.nD Cert.AdamSinksIdeal.τ).loc Cert.AdamSinksIdeal.main_arg0) = m ((c.tc : Thread Cert.AdamSinksIdeal.nD Cert.AdamSinksIdeal.τ).loc Cert.AdamSinksIdeal.main_arg0)
          ∧ r.2.mem ((c.tc : Thread Cert.AdamSinksIdeal.nD Cert.AdamSinksIdeal.τ).loc Cert.AdamSinksIdeal.main_arg1) = m ((c.tc : Thread Cert.AdamSinksIdeal.nD Cert.AdamSinksIdeal.τ).loc Cert.AdamSinksIdeal.main_arg1)
          ∧ r.2.mem ((c.tc : Thread Cert.AdamSinksIdeal.nD Cert.AdamSinksIdeal.τ).loc Cert.AdamSinksIdeal.main_arg2) = m ((c.tc : Thread Cert.AdamSinksIdeal.nD Cert.AdamSinksIdeal.τ).loc Cert.AdamSinksIdeal.main_arg2)
          ∧ r.2.mem ((c.tc : Thread Cert.AdamSinksIdeal.nD Cert.AdamSinksIdeal.τ).loc Cert.AdamSinksIdeal.main_arg3) = m ((c.tc : Thread Cert.AdamSinksIdeal.nD Cert.AdamSinksIdeal.τ).loc Cert.AdamSinksIdeal.main_arg3))
      ∧ θ_run (Cert.AdamSinksRefIdeal.defs (F := Ideal)) (onTc (τ := Cert.AdamSinksRefIdeal.τ) (Cert.AdamSinksRefIdeal.main (F := Ideal))) ⟨m', fun _ => 0, g'⟩ (fun r => ∀ c : Dev Cert.AdamSinksRefIdeal.nD,
          r.2.mem ((c.tc : Thread Cert.AdamSinksRefIdeal.nD Cert.AdamSinksRefIdeal.τ).loc Cert.AdamSinksRefIdeal.main_v24) = v0 c
          ∧ r.2.mem ((c.tc : Thread Cert.AdamSinksRefIdeal.nD Cert.AdamSinksRefIdeal.τ).loc Cert.AdamSinksRefIdeal.main_v25) = v1 c
          ∧ r.2.mem ((c.tc : Thread Cert.AdamSinksRefIdeal.nD Cert.AdamSinksRefIdeal.τ).loc Cert.AdamSinksRefIdeal.main_v26) = v2 c
          ∧ r.2.mem ((c.tc : Thread Cert.AdamSinksRefIdeal.nD Cert.AdamSinksRefIdeal.τ).loc Cert.AdamSinksRefIdeal.main_arg0) = m' ((c.tc : Thread Cert.AdamSinksRefIdeal.nD Cert.AdamSinksRefIdeal.τ).loc Cert.AdamSinksRefIdeal.main_arg0)
          ∧ r.2.mem ((c.tc : Thread Cert.AdamSinksRefIdeal.nD Cert.AdamSinksRefIdeal.τ).loc Cert.AdamSinksRefIdeal.main_arg1) = m' ((c.tc : Thread Cert.AdamSinksRefIdeal.nD Cert.AdamSinksRefIdeal.τ).loc Cert.AdamSinksRefIdeal.main_arg1)
          ∧ r.2.mem ((c.tc : Thread Cert.AdamSinksRefIdeal.nD Cert.AdamSinksRefIdeal.τ).loc Cert.AdamSinksRefIdeal.main_arg2) = m' ((c.tc : Thread Cert.AdamSinksRefIdeal.nD Cert.AdamSinksRefIdeal.τ).loc Cert.AdamSinksRefIdeal.main_arg2)
          ∧ r.2.mem ((c.tc : Thread Cert.AdamSinksRefIdeal.nD Cert.AdamSinksRefIdeal.τ).loc Cert.AdamSinksRefIdeal.main_arg3) = m' ((c.tc : Thread Cert.AdamSinksRefIdeal.nD Cert.AdamSinksRefIdeal.τ).loc Cert.AdamSinksRefIdeal.main_arg3))

def preserves_AdamPoolW_AdamPoolWIdeal : Prop :=
  True

def algebraic_AdamPoolWIdeal_AdamPoolWRefIdeal [hAdamPoolWIdeal : Cert.AdamPoolWIdeal.Facts] [hAdamPoolWRefIdeal : Cert.AdamPoolWRefIdeal.Facts] : Prop :=
  ∀ (m : (ℓ : Loc Cert.AdamPoolWIdeal.nD Cert.AdamPoolWIdeal.τ Cert.AdamPoolWIdeal.sig) → Buf (Elt Ideal) ℓ) (g : Dev Cert.AdamPoolWIdeal.nD → PrngReg)
    (m' : (ℓ : Loc Cert.AdamPoolWRefIdeal.nD Cert.AdamPoolWRefIdeal.τ Cert.AdamPoolWRefIdeal.sig) → Buf (Elt Ideal) ℓ) (g' : Dev Cert.AdamPoolWRefIdeal.nD → PrngReg), Pre_AdamPoolWIdeal m →
    (∀ c : Dev Cert.AdamPoolWIdeal.nD,
      m' ((c.tc : Thread Cert.AdamPoolWRefIdeal.nD Cert.AdamPoolWRefIdeal.τ).loc Cert.AdamPoolWRefIdeal.main_arg0) = m ((c.tc : Thread Cert.AdamPoolWIdeal.nD Cert.AdamPoolWIdeal.τ).loc Cert.AdamPoolWIdeal.main_arg0)
      ∧ m' ((c.tc : Thread Cert.AdamPoolWRefIdeal.nD Cert.AdamPoolWRefIdeal.τ).loc Cert.AdamPoolWRefIdeal.main_arg1) = m ((c.tc : Thread Cert.AdamPoolWIdeal.nD Cert.AdamPoolWIdeal.τ).loc Cert.AdamPoolWIdeal.main_arg1)
      ∧ m' ((c.tc : Thread Cert.AdamPoolWRefIdeal.nD Cert.AdamPoolWRefIdeal.τ).loc Cert.AdamPoolWRefIdeal.main_arg2) = m ((c.tc : Thread Cert.AdamPoolWIdeal.nD Cert.AdamPoolWIdeal.τ).loc Cert.AdamPoolWIdeal.main_arg2)
      ∧ m' ((c.tc : Thread Cert.AdamPoolWRefIdeal.nD Cert.AdamPoolWRefIdeal.τ).loc Cert.AdamPoolWRefIdeal.main_arg3) = m ((c.tc : Thread Cert.AdamPoolWIdeal.nD Cert.AdamPoolWIdeal.τ).loc Cert.AdamPoolWIdeal.main_arg3)) →
    ∃ (v0 : (c : Dev Cert.AdamPoolWIdeal.nD) → Buf (Elt Ideal) ((c.tc : Thread Cert.AdamPoolWIdeal.nD Cert.AdamPoolWIdeal.τ).loc Cert.AdamPoolWIdeal.main_v4_0)) (v1 : (c : Dev Cert.AdamPoolWIdeal.nD) → Buf (Elt Ideal) ((c.tc : Thread Cert.AdamPoolWIdeal.nD Cert.AdamPoolWIdeal.τ).loc Cert.AdamPoolWIdeal.main_v4_1)) (v2 : (c : Dev Cert.AdamPoolWIdeal.nD) → Buf (Elt Ideal) ((c.tc : Thread Cert.AdamPoolWIdeal.nD Cert.AdamPoolWIdeal.τ).loc Cert.AdamPoolWIdeal.main_v4_2)),
      θ_run (Cert.AdamPoolWIdeal.defs (F := Ideal)) (onTc (τ := Cert.AdamPoolWIdeal.τ) (Cert.AdamPoolWIdeal.main (F := Ideal))) ⟨m, fun _ => 0, g⟩ (fun r => ∀ c : Dev Cert.AdamPoolWIdeal.nD,
          r.2.mem ((c.tc : Thread Cert.AdamPoolWIdeal.nD Cert.AdamPoolWIdeal.τ).loc Cert.AdamPoolWIdeal.main_v4_0) = v0 c
          ∧ r.2.mem ((c.tc : Thread Cert.AdamPoolWIdeal.nD Cert.AdamPoolWIdeal.τ).loc Cert.AdamPoolWIdeal.main_v4_1) = v1 c
          ∧ r.2.mem ((c.tc : Thread Cert.AdamPoolWIdeal.nD Cert.AdamPoolWIdeal.τ).loc Cert.AdamPoolWIdeal.main_v4_2) = v2 c
          ∧ r.2.mem ((c.tc : Thread Cert.AdamPoolWIdeal.nD Cert.AdamPoolWIdeal.τ).loc Cert.AdamPoolWIdeal.main_arg0) = m ((c.tc : Thread Cert.AdamPoolWIdeal.nD Cert.AdamPoolWIdeal.τ).loc Cert.AdamPoolWIdeal.main_arg0)
          ∧ r.2.mem ((c.tc : Thread Cert.AdamPoolWIdeal.nD Cert.AdamPoolWIdeal.τ).loc Cert.AdamPoolWIdeal.main_arg1) = m ((c.tc : Thread Cert.AdamPoolWIdeal.nD Cert.AdamPoolWIdeal.τ).loc Cert.AdamPoolWIdeal.main_arg1)
          ∧ r.2.mem ((c.tc : Thread Cert.AdamPoolWIdeal.nD Cert.AdamPoolWIdeal.τ).loc Cert.AdamPoolWIdeal.main_arg2) = m ((c.tc : Thread Cert.AdamPoolWIdeal.nD Cert.AdamPoolWIdeal.τ).loc Cert.AdamPoolWIdeal.main_arg2)
          ∧ r.2.mem ((c.tc : Thread Cert.AdamPoolWIdeal.nD Cert.AdamPoolWIdeal.τ).loc Cert.AdamPoolWIdeal.main_arg3) = m ((c.tc : Thread Cert.AdamPoolWIdeal.nD Cert.AdamPoolWIdeal.τ).loc Cert.AdamPoolWIdeal.main_arg3))
      ∧ θ_run (Cert.AdamPoolWRefIdeal.defs (F := Ideal)) (onTc (τ := Cert.AdamPoolWRefIdeal.τ) (Cert.AdamPoolWRefIdeal.main (F := Ideal))) ⟨m', fun _ => 0, g'⟩ (fun r => ∀ c : Dev Cert.AdamPoolWRefIdeal.nD,
          r.2.mem ((c.tc : Thread Cert.AdamPoolWRefIdeal.nD Cert.AdamPoolWRefIdeal.τ).loc Cert.AdamPoolWRefIdeal.main_v24) = v0 c
          ∧ r.2.mem ((c.tc : Thread Cert.AdamPoolWRefIdeal.nD Cert.AdamPoolWRefIdeal.τ).loc Cert.AdamPoolWRefIdeal.main_v25) = v1 c
          ∧ r.2.mem ((c.tc : Thread Cert.AdamPoolWRefIdeal.nD Cert.AdamPoolWRefIdeal.τ).loc Cert.AdamPoolWRefIdeal.main_v26) = v2 c
          ∧ r.2.mem ((c.tc : Thread Cert.AdamPoolWRefIdeal.nD Cert.AdamPoolWRefIdeal.τ).loc Cert.AdamPoolWRefIdeal.main_arg0) = m' ((c.tc : Thread Cert.AdamPoolWRefIdeal.nD Cert.AdamPoolWRefIdeal.τ).loc Cert.AdamPoolWRefIdeal.main_arg0)
          ∧ r.2.mem ((c.tc : Thread Cert.AdamPoolWRefIdeal.nD Cert.AdamPoolWRefIdeal.τ).loc Cert.AdamPoolWRefIdeal.main_arg1) = m' ((c.tc : Thread Cert.AdamPoolWRefIdeal.nD Cert.AdamPoolWRefIdeal.τ).loc Cert.AdamPoolWRefIdeal.main_arg1)
          ∧ r.2.mem ((c.tc : Thread Cert.AdamPoolWRefIdeal.nD Cert.AdamPoolWRefIdeal.τ).loc Cert.AdamPoolWRefIdeal.main_arg2) = m' ((c.tc : Thread Cert.AdamPoolWRefIdeal.nD Cert.AdamPoolWRefIdeal.τ).loc Cert.AdamPoolWRefIdeal.main_arg2)
          ∧ r.2.mem ((c.tc : Thread Cert.AdamPoolWRefIdeal.nD Cert.AdamPoolWRefIdeal.τ).loc Cert.AdamPoolWRefIdeal.main_arg3) = m' ((c.tc : Thread Cert.AdamPoolWRefIdeal.nD Cert.AdamPoolWRefIdeal.τ).loc Cert.AdamPoolWRefIdeal.main_arg3))

def preserves_AdamPoolS_AdamPoolSIdeal : Prop :=
  True

def algebraic_AdamPoolSIdeal_AdamPoolSRefIdeal [hAdamPoolSIdeal : Cert.AdamPoolSIdeal.Facts] [hAdamPoolSRefIdeal : Cert.AdamPoolSRefIdeal.Facts] : Prop :=
  ∀ (m : (ℓ : Loc Cert.AdamPoolSIdeal.nD Cert.AdamPoolSIdeal.τ Cert.AdamPoolSIdeal.sig) → Buf (Elt Ideal) ℓ) (g : Dev Cert.AdamPoolSIdeal.nD → PrngReg)
    (m' : (ℓ : Loc Cert.AdamPoolSRefIdeal.nD Cert.AdamPoolSRefIdeal.τ Cert.AdamPoolSRefIdeal.sig) → Buf (Elt Ideal) ℓ) (g' : Dev Cert.AdamPoolSRefIdeal.nD → PrngReg), Pre_AdamPoolSIdeal m →
    (∀ c : Dev Cert.AdamPoolSIdeal.nD,
      m' ((c.tc : Thread Cert.AdamPoolSRefIdeal.nD Cert.AdamPoolSRefIdeal.τ).loc Cert.AdamPoolSRefIdeal.main_arg0) = m ((c.tc : Thread Cert.AdamPoolSIdeal.nD Cert.AdamPoolSIdeal.τ).loc Cert.AdamPoolSIdeal.main_arg0)
      ∧ m' ((c.tc : Thread Cert.AdamPoolSRefIdeal.nD Cert.AdamPoolSRefIdeal.τ).loc Cert.AdamPoolSRefIdeal.main_arg1) = m ((c.tc : Thread Cert.AdamPoolSIdeal.nD Cert.AdamPoolSIdeal.τ).loc Cert.AdamPoolSIdeal.main_arg1)
      ∧ m' ((c.tc : Thread Cert.AdamPoolSRefIdeal.nD Cert.AdamPoolSRefIdeal.τ).loc Cert.AdamPoolSRefIdeal.main_arg2) = m ((c.tc : Thread Cert.AdamPoolSIdeal.nD Cert.AdamPoolSIdeal.τ).loc Cert.AdamPoolSIdeal.main_arg2)
      ∧ m' ((c.tc : Thread Cert.AdamPoolSRefIdeal.nD Cert.AdamPoolSRefIdeal.τ).loc Cert.AdamPoolSRefIdeal.main_arg3) = m ((c.tc : Thread Cert.AdamPoolSIdeal.nD Cert.AdamPoolSIdeal.τ).loc Cert.AdamPoolSIdeal.main_arg3)) →
    ∃ (v0 : (c : Dev Cert.AdamPoolSIdeal.nD) → Buf (Elt Ideal) ((c.tc : Thread Cert.AdamPoolSIdeal.nD Cert.AdamPoolSIdeal.τ).loc Cert.AdamPoolSIdeal.main_v0_0)) (v1 : (c : Dev Cert.AdamPoolSIdeal.nD) → Buf (Elt Ideal) ((c.tc : Thread Cert.AdamPoolSIdeal.nD Cert.AdamPoolSIdeal.τ).loc Cert.AdamPoolSIdeal.main_v0_1)) (v2 : (c : Dev Cert.AdamPoolSIdeal.nD) → Buf (Elt Ideal) ((c.tc : Thread Cert.AdamPoolSIdeal.nD Cert.AdamPoolSIdeal.τ).loc Cert.AdamPoolSIdeal.main_v0_2)),
      θ_run (Cert.AdamPoolSIdeal.defs (F := Ideal)) (onTc (τ := Cert.AdamPoolSIdeal.τ) (Cert.AdamPoolSIdeal.main (F := Ideal))) ⟨m, fun _ => 0, g⟩ (fun r => ∀ c : Dev Cert.AdamPoolSIdeal.nD,
          r.2.mem ((c.tc : Thread Cert.AdamPoolSIdeal.nD Cert.AdamPoolSIdeal.τ).loc Cert.AdamPoolSIdeal.main_v0_0) = v0 c
          ∧ r.2.mem ((c.tc : Thread Cert.AdamPoolSIdeal.nD Cert.AdamPoolSIdeal.τ).loc Cert.AdamPoolSIdeal.main_v0_1) = v1 c
          ∧ r.2.mem ((c.tc : Thread Cert.AdamPoolSIdeal.nD Cert.AdamPoolSIdeal.τ).loc Cert.AdamPoolSIdeal.main_v0_2) = v2 c
          ∧ r.2.mem ((c.tc : Thread Cert.AdamPoolSIdeal.nD Cert.AdamPoolSIdeal.τ).loc Cert.AdamPoolSIdeal.main_arg0) = m ((c.tc : Thread Cert.AdamPoolSIdeal.nD Cert.AdamPoolSIdeal.τ).loc Cert.AdamPoolSIdeal.main_arg0)
          ∧ r.2.mem ((c.tc : Thread Cert.AdamPoolSIdeal.nD Cert.AdamPoolSIdeal.τ).loc Cert.AdamPoolSIdeal.main_arg1) = m ((c.tc : Thread Cert.AdamPoolSIdeal.nD Cert.AdamPoolSIdeal.τ).loc Cert.AdamPoolSIdeal.main_arg1)
          ∧ r.2.mem ((c.tc : Thread Cert.AdamPoolSIdeal.nD Cert.AdamPoolSIdeal.τ).loc Cert.AdamPoolSIdeal.main_arg2) = m ((c.tc : Thread Cert.AdamPoolSIdeal.nD Cert.AdamPoolSIdeal.τ).loc Cert.AdamPoolSIdeal.main_arg2)
          ∧ r.2.mem ((c.tc : Thread Cert.AdamPoolSIdeal.nD Cert.AdamPoolSIdeal.τ).loc Cert.AdamPoolSIdeal.main_arg3) = m ((c.tc : Thread Cert.AdamPoolSIdeal.nD Cert.AdamPoolSIdeal.τ).loc Cert.AdamPoolSIdeal.main_arg3))
      ∧ θ_run (Cert.AdamPoolSRefIdeal.defs (F := Ideal)) (onTc (τ := Cert.AdamPoolSRefIdeal.τ) (Cert.AdamPoolSRefIdeal.main (F := Ideal))) ⟨m', fun _ => 0, g'⟩ (fun r => ∀ c : Dev Cert.AdamPoolSRefIdeal.nD,
          r.2.mem ((c.tc : Thread Cert.AdamPoolSRefIdeal.nD Cert.AdamPoolSRefIdeal.τ).loc Cert.AdamPoolSRefIdeal.main_v23) = v0 c
          ∧ r.2.mem ((c.tc : Thread Cert.AdamPoolSRefIdeal.nD Cert.AdamPoolSRefIdeal.τ).loc Cert.AdamPoolSRefIdeal.main_v4) = v1 c
          ∧ r.2.mem ((c.tc : Thread Cert.AdamPoolSRefIdeal.nD Cert.AdamPoolSRefIdeal.τ).loc Cert.AdamPoolSRefIdeal.main_v10) = v2 c
          ∧ r.2.mem ((c.tc : Thread Cert.AdamPoolSRefIdeal.nD Cert.AdamPoolSRefIdeal.τ).loc Cert.AdamPoolSRefIdeal.main_arg0) = m' ((c.tc : Thread Cert.AdamPoolSRefIdeal.nD Cert.AdamPoolSRefIdeal.τ).loc Cert.AdamPoolSRefIdeal.main_arg0)
          ∧ r.2.mem ((c.tc : Thread Cert.AdamPoolSRefIdeal.nD Cert.AdamPoolSRefIdeal.τ).loc Cert.AdamPoolSRefIdeal.main_arg1) = m' ((c.tc : Thread Cert.AdamPoolSRefIdeal.nD Cert.AdamPoolSRefIdeal.τ).loc Cert.AdamPoolSRefIdeal.main_arg1)
          ∧ r.2.mem ((c.tc : Thread Cert.AdamPoolSRefIdeal.nD Cert.AdamPoolSRefIdeal.τ).loc Cert.AdamPoolSRefIdeal.main_arg2) = m' ((c.tc : Thread Cert.AdamPoolSRefIdeal.nD Cert.AdamPoolSRefIdeal.τ).loc Cert.AdamPoolSRefIdeal.main_arg2)
          ∧ r.2.mem ((c.tc : Thread Cert.AdamPoolSRefIdeal.nD Cert.AdamPoolSRefIdeal.τ).loc Cert.AdamPoolSRefIdeal.main_arg3) = m' ((c.tc : Thread Cert.AdamPoolSRefIdeal.nD Cert.AdamPoolSRefIdeal.τ).loc Cert.AdamPoolSRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v8_0)) (v1 : (c : Dev Cert.AdamUpIdeal.nD) → Buf (Elt Ideal) ((c.tc : Thread Cert.AdamUpIdeal.nD Cert.AdamUpIdeal.τ).loc Cert.AdamUpIdeal.main_v8_1)) (v2 : (c : Dev Cert.AdamUpIdeal.nD) → Buf (Elt Ideal) ((c.tc : Thread Cert.AdamUpIdeal.nD Cert.AdamUpIdeal.τ).loc Cert.AdamUpIdeal.main_v8_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v8_0) = v0 c
          ∧ r.2.mem ((c.tc : Thread Cert.AdamUpIdeal.nD Cert.AdamUpIdeal.τ).loc Cert.AdamUpIdeal.main_v8_1) = v1 c
          ∧ r.2.mem ((c.tc : Thread Cert.AdamUpIdeal.nD Cert.AdamUpIdeal.τ).loc Cert.AdamUpIdeal.main_v8_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v25) = v0 c
          ∧ r.2.mem ((c.tc : Thread Cert.AdamUpRefIdeal.nD Cert.AdamUpRefIdeal.τ).loc Cert.AdamUpRefIdeal.main_v27) = v1 c
          ∧ r.2.mem ((c.tc : Thread Cert.AdamUpRefIdeal.nD Cert.AdamUpRefIdeal.τ).loc Cert.AdamUpRefIdeal.main_v29) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamG_AdamGIdeal : Prop :=
  True

def algebraic_AdamGIdeal_AdamGRefIdeal [hAdamGIdeal : Cert.AdamGIdeal.Facts] [hAdamGRefIdeal : Cert.AdamGRefIdeal.Facts] : Prop :=
  ∀ (m : (ℓ : Loc Cert.AdamGIdeal.nD Cert.AdamGIdeal.τ Cert.AdamGIdeal.sig) → Buf (Elt Ideal) ℓ) (g : Dev Cert.AdamGIdeal.nD → PrngReg)
    (m' : (ℓ : Loc Cert.AdamGRefIdeal.nD Cert.AdamGRefIdeal.τ Cert.AdamGRefIdeal.sig) → Buf (Elt Ideal) ℓ) (g' : Dev Cert.AdamGRefIdeal.nD → PrngReg), Pre_AdamGIdeal m →
    (∀ c : Dev Cert.AdamGIdeal.nD,
      m' ((c.tc : Thread Cert.AdamGRefIdeal.nD Cert.AdamGRefIdeal.τ).loc Cert.AdamGRefIdeal.main_arg0) = m ((c.tc : Thread Cert.AdamGIdeal.nD Cert.AdamGIdeal.τ).loc Cert.AdamGIdeal.main_arg0)
      ∧ m' ((c.tc : Thread Cert.AdamGRefIdeal.nD Cert.AdamGRefIdeal.τ).loc Cert.AdamGRefIdeal.main_arg1) = m ((c.tc : Thread Cert.AdamGIdeal.nD Cert.AdamGIdeal.τ).loc Cert.AdamGIdeal.main_arg1)
      ∧ m' ((c.tc : Thread Cert.AdamGRefIdeal.nD Cert.AdamGRefIdeal.τ).loc Cert.AdamGRefIdeal.main_arg2) = m ((c.tc : Thread Cert.AdamGIdeal.nD Cert.AdamGIdeal.τ).loc Cert.AdamGIdeal.main_arg2)
      ∧ m' ((c.tc : Thread Cert.AdamGRefIdeal.nD Cert.AdamGRefIdeal.τ).loc Cert.AdamGRefIdeal.main_arg3) = m ((c.tc : Thread Cert.AdamGIdeal.nD Cert.AdamGIdeal.τ).loc Cert.AdamGIdeal.main_arg3)) →
    ∃ (v0 : (c : Dev Cert.AdamGIdeal.nD) → Buf (Elt Ideal) ((c.tc : Thread Cert.AdamGIdeal.nD Cert.AdamGIdeal.τ).loc Cert.AdamGIdeal.main_v0_0)) (v1 : (c : Dev Cert.AdamGIdeal.nD) → Buf (Elt Ideal) ((c.tc : Thread Cert.AdamGIdeal.nD Cert.AdamGIdeal.τ).loc Cert.AdamGIdeal.main_v0_1)) (v2 : (c : Dev Cert.AdamGIdeal.nD) → Buf (Elt Ideal) ((c.tc : Thread Cert.AdamGIdeal.nD Cert.AdamGIdeal.τ).loc Cert.AdamGIdeal.main_v0_2)),
      θ_run (Cert.AdamGIdeal.defs (F := Ideal)) (onTc (τ := Cert.AdamGIdeal.τ) (Cert.AdamGIdeal.main (F := Ideal))) ⟨m, fun _ => 0, g⟩ (fun r => ∀ c : Dev Cert.AdamGIdeal.nD,
          r.2.mem ((c.tc : Thread Cert.AdamGIdeal.nD Cert.AdamGIdeal.τ).loc Cert.AdamGIdeal.main_v0_0) = v0 c
          ∧ r.2.mem ((c.tc : Thread Cert.AdamGIdeal.nD Cert.AdamGIdeal.τ).loc Cert.AdamGIdeal.main_v0_1) = v1 c
          ∧ r.2.mem ((c.tc : Thread Cert.AdamGIdeal.nD Cert.AdamGIdeal.τ).loc Cert.AdamGIdeal.main_v0_2) = v2 c
          ∧ r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
          ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
          ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
          ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3))
      ∧ θ_run (Cert.AdamGRefIdeal.defs (F := Ideal)) (onTc (τ := Cert.AdamGRefIdeal.τ) (Cert.AdamGRefIdeal.main (F := Ideal))) ⟨m', fun _ => 0, g'⟩ (fun r => ∀ c : Dev Cert.AdamGRefIdeal.nD,
          r.2.mem ((c.tc : Thread Cert.AdamGRefIdeal.nD Cert.AdamGRefIdeal.τ).loc Cert.AdamGRefIdeal.main_v23) = v0 c
          ∧ r.2.mem ((c.tc : Thread Cert.AdamGRefIdeal.nD Cert.AdamGRefIdeal.τ).loc Cert.AdamGRefIdeal.main_v4) = v1 c
          ∧ r.2.mem ((c.tc : Thread Cert.AdamGRefIdeal.nD Cert.AdamGRefIdeal.τ).loc Cert.AdamGRefIdeal.main_v10) = v2 c
          ∧ r.2.mem ((c.tc : Thread Cert.AdamGRefIdeal.nD Cert.AdamGRefIdeal.τ).loc Cert.AdamGRefIdeal.main_arg0) = m' ((c.tc : Thread Cert.AdamGRefIdeal.nD Cert.AdamGRefIdeal.τ).loc Cert.AdamGRefIdeal.main_arg0)
          ∧ r.2.mem ((c.tc : Thread Cert.AdamGRefIdeal.nD Cert.AdamGRefIdeal.τ).loc Cert.AdamGRefIdeal.main_arg1) = m' ((c.tc : Thread Cert.AdamGRefIdeal.nD Cert.AdamGRefIdeal.τ).loc Cert.AdamGRefIdeal.main_arg1)
          ∧ r.2.mem ((c.tc : Thread Cert.AdamGRefIdeal.nD Cert.AdamGRefIdeal.τ).loc Cert.AdamGRefIdeal.main_arg2) = m' ((c.tc : Thread Cert.AdamGRefIdeal.nD Cert.AdamGRefIdeal.τ).loc Cert.AdamGRefIdeal.main_arg2)
          ∧ r.2.mem ((c.tc : Thread Cert.AdamGRefIdeal.nD Cert.AdamGRefIdeal.τ).loc Cert.AdamGRefIdeal.main_arg3) = m' ((c.tc : Thread Cert.AdamGRefIdeal.nD Cert.AdamGRefIdeal.τ).loc Cert.AdamGRefIdeal.main_arg3))

def preserves_AdaGrad_AdaGradIdeal : Prop :=
  True

def algebraic_AdaGradIdeal_AdaGradRefIdeal [hAdaGradIdeal : Cert.AdaGradIdeal.Facts] [hAdaGradRefIdeal : Cert.AdaGradRefIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradRefIdeal.nD Cert.AdaGradRefIdeal.τ Cert.AdaGradRefIdeal.sig) → Buf (Elt Ideal) ℓ) (g' : Dev Cert.AdaGradRefIdeal.nD → PrngReg), Pre_AdaGradIdeal m →
    (∀ c : Dev Cert.AdaGradIdeal.nD,
      m' ((c.tc : Thread Cert.AdaGradRefIdeal.nD Cert.AdaGradRefIdeal.τ).loc Cert.AdaGradRefIdeal.main_arg0) = m ((c.tc : Thread Cert.AdaGradIdeal.nD Cert.AdaGradIdeal.τ).loc Cert.AdaGradIdeal.main_arg0)
      ∧ m' ((c.tc : Thread Cert.AdaGradRefIdeal.nD Cert.AdaGradRefIdeal.τ).loc Cert.AdaGradRefIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v2)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v2) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradRefIdeal.defs (F := Ideal)) (onTc (τ := Cert.AdaGradRefIdeal.τ) (Cert.AdaGradRefIdeal.main (F := Ideal))) ⟨m', fun _ => 0, g'⟩ (fun r => ∀ c : Dev Cert.AdaGradRefIdeal.nD,
          r.2.mem ((c.tc : Thread Cert.AdaGradRefIdeal.nD Cert.AdaGradRefIdeal.τ).loc Cert.AdaGradRefIdeal.main_v18) = v0 c
          ∧ r.2.mem ((c.tc : Thread Cert.AdaGradRefIdeal.nD Cert.AdaGradRefIdeal.τ).loc Cert.AdaGradRefIdeal.main_arg0) = m' ((c.tc : Thread Cert.AdaGradRefIdeal.nD Cert.AdaGradRefIdeal.τ).loc Cert.AdaGradRefIdeal.main_arg0)
          ∧ r.2.mem ((c.tc : Thread Cert.AdaGradRefIdeal.nD Cert.AdaGradRefIdeal.τ).loc Cert.AdaGradRefIdeal.main_arg1) = m' ((c.tc : Thread Cert.AdaGradRefIdeal.nD Cert.AdaGradRefIdeal.τ).loc Cert.AdaGradRefIdeal.main_arg1))

def preserves_SumDev_SumDevIdeal : Prop :=
  True

def algebraic_SumDevIdeal_SumDevRefIdeal [hSumDevIdeal : Cert.SumDevIdeal.Facts] [hSumDevRefIdeal : Cert.SumDevRefIdeal.Facts] : Prop :=
  ∀ (m : (ℓ : Loc Cert.SumDevIdeal.nD Cert.SumDevIdeal.τ Cert.SumDevIdeal.sig) → Buf (Elt Ideal) ℓ) (g : Dev Cert.SumDevIdeal.nD → PrngReg)
    (m' : (ℓ : Loc Cert.SumDevRefIdeal.nD Cert.SumDevRefIdeal.τ Cert.SumDevRefIdeal.sig) → Buf (Elt Ideal) ℓ) (g' : Dev Cert.SumDevRefIdeal.nD → PrngReg), Pre_SumDevIdeal m →
    (∀ c : Dev Cert.SumDevIdeal.nD,
      m' ((c.tc : Thread Cert.SumDevRefIdeal.nD Cert.SumDevRefIdeal.τ).loc Cert.SumDevRefIdeal.main_arg0) = m ((c.tc : Thread Cert.SumDevIdeal.nD Cert.SumDevIdeal.τ).loc Cert.SumDevIdeal.main_arg0)
      ∧ m' ((c.tc : Thread Cert.SumDevRefIdeal.nD Cert.SumDevRefIdeal.τ).loc Cert.SumDevRefIdeal.main_arg1) = m ((c.tc : Thread Cert.SumDevIdeal.nD Cert.SumDevIdeal.τ).loc Cert.SumDevIdeal.main_arg1)
      ∧ m' ((c.tc : Thread Cert.SumDevRefIdeal.nD Cert.SumDevRefIdeal.τ).loc Cert.SumDevRefIdeal.main_arg2) = m ((c.tc : Thread Cert.SumDevIdeal.nD Cert.SumDevIdeal.τ).loc Cert.SumDevIdeal.main_arg2)
      ∧ m' ((c.tc : Thread Cert.SumDevRefIdeal.nD Cert.SumDevRefIdeal.τ).loc Cert.SumDevRefIdeal.main_arg3) = m ((c.tc : Thread Cert.SumDevIdeal.nD Cert.SumDevIdeal.τ).loc Cert.SumDevIdeal.main_arg3)
      ∧ m' ((c.tc : Thread Cert.SumDevRefIdeal.nD Cert.SumDevRefIdeal.τ).loc Cert.SumDevRefIdeal.main_arg4) = m ((c.tc : Thread Cert.SumDevIdeal.nD Cert.SumDevIdeal.τ).loc Cert.SumDevIdeal.main_arg4)
      ∧ m' ((c.tc : Thread Cert.SumDevRefIdeal.nD Cert.SumDevRefIdeal.τ).loc Cert.SumDevRefIdeal.main_arg5) = m ((c.tc : Thread Cert.SumDevIdeal.nD Cert.SumDevIdeal.τ).loc Cert.SumDevIdeal.main_arg5)
      ∧ m' ((c.tc : Thread Cert.SumDevRefIdeal.nD Cert.SumDevRefIdeal.τ).loc Cert.SumDevRefIdeal.main_arg6) = m ((c.tc : Thread Cert.SumDevIdeal.nD Cert.SumDevIdeal.τ).loc Cert.SumDevIdeal.main_arg6)
      ∧ m' ((c.tc : Thread Cert.SumDevRefIdeal.nD Cert.SumDevRefIdeal.τ).loc Cert.SumDevRefIdeal.main_arg7) = m ((c.tc : Thread Cert.SumDevIdeal.nD Cert.SumDevIdeal.τ).loc Cert.SumDevIdeal.main_arg7)
      ∧ m' ((c.tc : Thread Cert.SumDevRefIdeal.nD Cert.SumDevRefIdeal.τ).loc Cert.SumDevRefIdeal.main_arg8) = m ((c.tc : Thread Cert.SumDevIdeal.nD Cert.SumDevIdeal.τ).loc Cert.SumDevIdeal.main_arg8)) →
    ∃ (v0 : (c : Dev Cert.SumDevIdeal.nD) → Buf (Elt Ideal) ((c.tc : Thread Cert.SumDevIdeal.nD Cert.SumDevIdeal.τ).loc Cert.SumDevIdeal.main_v8)),
      θ_run (Cert.SumDevIdeal.defs (F := Ideal)) (onTc (τ := Cert.SumDevIdeal.τ) (Cert.SumDevIdeal.main (F := Ideal))) ⟨m, fun _ => 0, g⟩ (fun r => ∀ c : Dev Cert.SumDevIdeal.nD,
          r.2.mem ((c.tc : Thread Cert.SumDevIdeal.nD Cert.SumDevIdeal.τ).loc Cert.SumDevIdeal.main_v8) = v0 c
          ∧ r.2.mem ((c.tc : Thread Cert.SumDevIdeal.nD Cert.SumDevIdeal.τ).loc Cert.SumDevIdeal.main_arg0) = m ((c.tc : Thread Cert.SumDevIdeal.nD Cert.SumDevIdeal.τ).loc Cert.SumDevIdeal.main_arg0)
          ∧ r.2.mem ((c.tc : Thread Cert.SumDevIdeal.nD Cert.SumDevIdeal.τ).loc Cert.SumDevIdeal.main_arg1) = m ((c.tc : Thread Cert.SumDevIdeal.nD Cert.SumDevIdeal.τ).loc Cert.SumDevIdeal.main_arg1)
          ∧ r.2.mem ((c.tc : Thread Cert.SumDevIdeal.nD Cert.SumDevIdeal.τ).loc Cert.SumDevIdeal.main_arg2) = m ((c.tc : Thread Cert.SumDevIdeal.nD Cert.SumDevIdeal.τ).loc Cert.SumDevIdeal.main_arg2)
          ∧ r.2.mem ((c.tc : Thread Cert.SumDevIdeal.nD Cert.SumDevIdeal.τ).loc Cert.SumDevIdeal.main_arg3) = m ((c.tc : Thread Cert.SumDevIdeal.nD Cert.SumDevIdeal.τ).loc Cert.SumDevIdeal.main_arg3)
          ∧ r.2.mem ((c.tc : Thread Cert.SumDevIdeal.nD Cert.SumDevIdeal.τ).loc Cert.SumDevIdeal.main_arg4) = m ((c.tc : Thread Cert.SumDevIdeal.nD Cert.SumDevIdeal.τ).loc Cert.SumDevIdeal.main_arg4)
          ∧ r.2.mem ((c.tc : Thread Cert.SumDevIdeal.nD Cert.SumDevIdeal.τ).loc Cert.SumDevIdeal.main_arg5) = m ((c.tc : Thread Cert.SumDevIdeal.nD Cert.SumDevIdeal.τ).loc Cert.SumDevIdeal.main_arg5)
          ∧ r.2.mem ((c.tc : Thread Cert.SumDevIdeal.nD Cert.SumDevIdeal.τ).loc Cert.SumDevIdeal.main_arg6) = m ((c.tc : Thread Cert.SumDevIdeal.nD Cert.SumDevIdeal.τ).loc Cert.SumDevIdeal.main_arg6)
          ∧ r.2.mem ((c.tc : Thread Cert.SumDevIdeal.nD Cert.SumDevIdeal.τ).loc Cert.SumDevIdeal.main_arg7) = m ((c.tc : Thread Cert.SumDevIdeal.nD Cert.SumDevIdeal.τ).loc Cert.SumDevIdeal.main_arg7)
          ∧ r.2.mem ((c.tc : Thread Cert.SumDevIdeal.nD Cert.SumDevIdeal.τ).loc Cert.SumDevIdeal.main_arg8) = m ((c.tc : Thread Cert.SumDevIdeal.nD Cert.SumDevIdeal.τ).loc Cert.SumDevIdeal.main_arg8))
      ∧ θ_run (Cert.SumDevRefIdeal.defs (F := Ideal)) (onTc (τ := Cert.SumDevRefIdeal.τ) (Cert.SumDevRefIdeal.main (F := Ideal))) ⟨m', fun _ => 0, g'⟩ (fun r => ∀ c : Dev Cert.SumDevRefIdeal.nD,
          r.2.mem ((c.tc : Thread Cert.SumDevRefIdeal.nD Cert.SumDevRefIdeal.τ).loc Cert.SumDevRefIdeal.main_v16) = v0 c
          ∧ r.2.mem ((c.tc : Thread Cert.SumDevRefIdeal.nD Cert.SumDevRefIdeal.τ).loc Cert.SumDevRefIdeal.main_arg0) = m' ((c.tc : Thread Cert.SumDevRefIdeal.nD Cert.SumDevRefIdeal.τ).loc Cert.SumDevRefIdeal.main_arg0)
          ∧ r.2.mem ((c.tc : Thread Cert.SumDevRefIdeal.nD Cert.SumDevRefIdeal.τ).loc Cert.SumDevRefIdeal.main_arg1) = m' ((c.tc : Thread Cert.SumDevRefIdeal.nD Cert.SumDevRefIdeal.τ).loc Cert.SumDevRefIdeal.main_arg1)
          ∧ r.2.mem ((c.tc : Thread Cert.SumDevRefIdeal.nD Cert.SumDevRefIdeal.τ).loc Cert.SumDevRefIdeal.main_arg2) = m' ((c.tc : Thread Cert.SumDevRefIdeal.nD Cert.SumDevRefIdeal.τ).loc Cert.SumDevRefIdeal.main_arg2)
          ∧ r.2.mem ((c.tc : Thread Cert.SumDevRefIdeal.nD Cert.SumDevRefIdeal.τ).loc Cert.SumDevRefIdeal.main_arg3) = m' ((c.tc : Thread Cert.SumDevRefIdeal.nD Cert.SumDevRefIdeal.τ).loc Cert.SumDevRefIdeal.main_arg3)
          ∧ r.2.mem ((c.tc : Thread Cert.SumDevRefIdeal.nD Cert.SumDevRefIdeal.τ).loc Cert.SumDevRefIdeal.main_arg4) = m' ((c.tc : Thread Cert.SumDevRefIdeal.nD Cert.SumDevRefIdeal.τ).loc Cert.SumDevRefIdeal.main_arg4)
          ∧ r.2.mem ((c.tc : Thread Cert.SumDevRefIdeal.nD Cert.SumDevRefIdeal.τ).loc Cert.SumDevRefIdeal.main_arg5) = m' ((c.tc : Thread Cert.SumDevRefIdeal.nD Cert.SumDevRefIdeal.τ).loc Cert.SumDevRefIdeal.main_arg5)
          ∧ r.2.mem ((c.tc : Thread Cert.SumDevRefIdeal.nD Cert.SumDevRefIdeal.τ).loc Cert.SumDevRefIdeal.main_arg6) = m' ((c.tc : Thread Cert.SumDevRefIdeal.nD Cert.SumDevRefIdeal.τ).loc Cert.SumDevRefIdeal.main_arg6)
          ∧ r.2.mem ((c.tc : Thread Cert.SumDevRefIdeal.nD Cert.SumDevRefIdeal.τ).loc Cert.SumDevRefIdeal.main_arg7) = m' ((c.tc : Thread Cert.SumDevRefIdeal.nD Cert.SumDevRefIdeal.τ).loc Cert.SumDevRefIdeal.main_arg7)
          ∧ r.2.mem ((c.tc : Thread Cert.SumDevRefIdeal.nD Cert.SumDevRefIdeal.τ).loc Cert.SumDevRefIdeal.main_arg8) = m' ((c.tc : Thread Cert.SumDevRefIdeal.nD Cert.SumDevRefIdeal.τ).loc Cert.SumDevRefIdeal.main_arg8))

def preserves_InBwd_InBwdIdeal : Prop :=
  True

def algebraic_InBwdIdeal_InBwdRefIdeal_pre_in_finite [hInBwdIdeal : Cert.InBwdIdeal.Facts] [hInBwdRefIdeal : Cert.InBwdRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)
      ∧ m' ((c.tc : Thread Cert.InBwdRefIdeal.nD Cert.InBwdRefIdeal.τ).loc Cert.InBwdRefIdeal.main_arg5) = m ((c.tc : Thread Cert.InBwdIdeal.nD Cert.InBwdIdeal.τ).loc Cert.InBwdIdeal.main_arg5)
      ∧ m' ((c.tc : Thread Cert.InBwdRefIdeal.nD Cert.InBwdRefIdeal.τ).loc Cert.InBwdRefIdeal.main_arg6) = m ((c.tc : Thread Cert.InBwdIdeal.nD Cert.InBwdIdeal.τ).loc Cert.InBwdIdeal.main_arg6)
      ∧ m' ((c.tc : Thread Cert.InBwdRefIdeal.nD Cert.InBwdRefIdeal.τ).loc Cert.InBwdRefIdeal.main_arg7) = m ((c.tc : Thread Cert.InBwdIdeal.nD Cert.InBwdIdeal.τ).loc Cert.InBwdIdeal.main_arg7)
      ∧ m' ((c.tc : Thread Cert.InBwdRefIdeal.nD Cert.InBwdRefIdeal.τ).loc Cert.InBwdRefIdeal.main_arg8) = m ((c.tc : Thread Cert.InBwdIdeal.nD Cert.InBwdIdeal.τ).loc Cert.InBwdIdeal.main_arg8)
      ∧ m' ((c.tc : Thread Cert.InBwdRefIdeal.nD Cert.InBwdRefIdeal.τ).loc Cert.InBwdRefIdeal.main_arg9) = m ((c.tc : Thread Cert.InBwdIdeal.nD Cert.InBwdIdeal.τ).loc Cert.InBwdIdeal.main_arg9)
      ∧ m' ((c.tc : Thread Cert.InBwdRefIdeal.nD Cert.InBwdRefIdeal.τ).loc Cert.InBwdRefIdeal.main_arg10) = m ((c.tc : Thread Cert.InBwdIdeal.nD Cert.InBwdIdeal.τ).loc Cert.InBwdIdeal.main_arg10)
      ∧ m' ((c.tc : Thread Cert.InBwdRefIdeal.nD Cert.InBwdRefIdeal.τ).loc Cert.InBwdRefIdeal.main_arg11) = m ((c.tc : Thread Cert.InBwdIdeal.nD Cert.InBwdIdeal.τ).loc Cert.InBwdIdeal.main_arg11)
      ∧ m' ((c.tc : Thread Cert.InBwdRefIdeal.nD Cert.InBwdRefIdeal.τ).loc Cert.InBwdRefIdeal.main_arg12) = m ((c.tc : Thread Cert.InBwdIdeal.nD Cert.InBwdIdeal.τ).loc Cert.InBwdIdeal.main_arg12)) →
    ∃ (v0 : (c : Dev Cert.InBwdIdeal.nD) → Buf (Elt Ideal) ((c.tc : Thread Cert.InBwdIdeal.nD Cert.InBwdIdeal.τ).loc Cert.InBwdIdeal.main_v31_0)) (v1 : (c : Dev Cert.InBwdIdeal.nD) → Buf (Elt Ideal) ((c.tc : Thread Cert.InBwdIdeal.nD Cert.InBwdIdeal.τ).loc Cert.InBwdIdeal.main_v31_1)) (v2 : (c : Dev Cert.InBwdIdeal.nD) → Buf (Elt Ideal) ((c.tc : Thread Cert.InBwdIdeal.nD Cert.InBwdIdeal.τ).loc Cert.InBwdIdeal.main_v31_2)) (v3 : (c : Dev Cert.InBwdIdeal.nD) → Buf (Elt Ideal) ((c.tc : Thread Cert.InBwdIdeal.nD Cert.InBwdIdeal.τ).loc Cert.InBwdIdeal.main_v31_3)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v31_0) = v0 c
          ∧ r.2.mem ((c.tc : Thread Cert.InBwdIdeal.nD Cert.InBwdIdeal.τ).loc Cert.InBwdIdeal.main_v31_1) = v1 c
          ∧ r.2.mem ((c.tc : Thread Cert.InBwdIdeal.nD Cert.InBwdIdeal.τ).loc Cert.InBwdIdeal.main_v31_2) = v2 c
          ∧ r.2.mem ((c.tc : Thread Cert.InBwdIdeal.nD Cert.InBwdIdeal.τ).loc Cert.InBwdIdeal.main_v31_3) = v3 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9)
          ∧ r.2.mem ((c.tc : Thread Cert.InBwdIdeal.nD Cert.InBwdIdeal.τ).loc Cert.InBwdIdeal.main_arg10) = m ((c.tc : Thread Cert.InBwdIdeal.nD Cert.InBwdIdeal.τ).loc Cert.InBwdIdeal.main_arg10)
          ∧ r.2.mem ((c.tc : Thread Cert.InBwdIdeal.nD Cert.InBwdIdeal.τ).loc Cert.InBwdIdeal.main_arg11) = m ((c.tc : Thread Cert.InBwdIdeal.nD Cert.InBwdIdeal.τ).loc Cert.InBwdIdeal.main_arg11)
          ∧ r.2.mem ((c.tc : Thread Cert.InBwdIdeal.nD Cert.InBwdIdeal.τ).loc Cert.InBwdIdeal.main_arg12) = m ((c.tc : Thread Cert.InBwdIdeal.nD Cert.InBwdIdeal.τ).loc Cert.InBwdIdeal.main_arg12))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v148) = v0 c
          ∧ r.2.mem ((c.tc : Thread Cert.InBwdRefIdeal.nD Cert.InBwdRefIdeal.τ).loc Cert.InBwdRefIdeal.main_v149) = v1 c
          ∧ r.2.mem ((c.tc : Thread Cert.InBwdRefIdeal.nD Cert.InBwdRefIdeal.τ).loc Cert.InBwdRefIdeal.main_v155) = v2 c
          ∧ r.2.mem ((c.tc : Thread Cert.InBwdRefIdeal.nD Cert.InBwdRefIdeal.τ).loc Cert.InBwdRefIdeal.main_v158) = v3 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4)
          ∧ r.2.mem ((c.tc : Thread Cert.InBwdRefIdeal.nD Cert.InBwdRefIdeal.τ).loc Cert.InBwdRefIdeal.main_arg5) = m' ((c.tc : Thread Cert.InBwdRefIdeal.nD Cert.InBwdRefIdeal.τ).loc Cert.InBwdRefIdeal.main_arg5)
          ∧ r.2.mem ((c.tc : Thread Cert.InBwdRefIdeal.nD Cert.InBwdRefIdeal.τ).loc Cert.InBwdRefIdeal.main_arg6) = m' ((c.tc : Thread Cert.InBwdRefIdeal.nD Cert.InBwdRefIdeal.τ).loc Cert.InBwdRefIdeal.main_arg6)
          ∧ r.2.mem ((c.tc : Thread Cert.InBwdRefIdeal.nD Cert.InBwdRefIdeal.τ).loc Cert.InBwdRefIdeal.main_arg7) = m' ((c.tc : Thread Cert.InBwdRefIdeal.nD Cert.InBwdRefIdeal.τ).loc Cert.InBwdRefIdeal.main_arg7)
          ∧ r.2.mem ((c.tc : Thread Cert.InBwdRefIdeal.nD Cert.InBwdRefIdeal.τ).loc Cert.InBwdRefIdeal.main_arg8) = m' ((c.tc : Thread Cert.InBwdRefIdeal.nD Cert.InBwdRefIdeal.τ).loc Cert.InBwdRefIdeal.main_arg8)
          ∧ r.2.mem ((c.tc : Thread Cert.InBwdRefIdeal.nD Cert.InBwdRefIdeal.τ).loc Cert.InBwdRefIdeal.main_arg9) = m' ((c.tc : Thread Cert.InBwdRefIdeal.nD Cert.InBwdRefIdeal.τ).loc Cert.InBwdRefIdeal.main_arg9)
          ∧ r.2.mem ((c.tc : Thread Cert.InBwdRefIdeal.nD Cert.InBwdRefIdeal.τ).loc Cert.InBwdRefIdeal.main_arg10) = m' ((c.tc : Thread Cert.InBwdRefIdeal.nD Cert.InBwdRefIdeal.τ).loc Cert.InBwdRefIdeal.main_arg10)
          ∧ r.2.mem ((c.tc : Thread Cert.InBwdRefIdeal.nD Cert.InBwdRefIdeal.τ).loc Cert.InBwdRefIdeal.main_arg11) = m' ((c.tc : Thread Cert.InBwdRefIdeal.nD Cert.InBwdRefIdeal.τ).loc Cert.InBwdRefIdeal.main_arg11)
          ∧ r.2.mem ((c.tc : Thread Cert.InBwdRefIdeal.nD Cert.InBwdRefIdeal.τ).loc Cert.InBwdRefIdeal.main_arg12) = m' ((c.tc : Thread Cert.InBwdRefIdeal.nD Cert.InBwdRefIdeal.τ).loc Cert.InBwdRefIdeal.main_arg12))

def Claim : Prop :=
  ∃ (hPool : Cert.Pool.Facts) (hPoolIdeal : Cert.PoolIdeal.Facts) (hPoolRefIdeal : Cert.PoolRefIdeal.Facts) (hWGate : Cert.WGate.Facts) (hWGateIdeal : Cert.WGateIdeal.Facts) (hWGateRefIdeal : Cert.WGateRefIdeal.Facts) (hFfn : Cert.Ffn.Facts) (hFfnIdeal : Cert.FfnIdeal.Facts) (hFfnRefIdeal : Cert.FfnRefIdeal.Facts) (hFwd : Cert.Fwd.Facts) (hFwdIdeal : Cert.FwdIdeal.Facts) (hFwdRefIdeal : Cert.FwdRefIdeal.Facts) (hLoss : Cert.Loss.Facts) (hLossIdeal : Cert.LossIdeal.Facts) (hLossRefIdeal : Cert.LossRefIdeal.Facts) (hAdamAdaW : Cert.AdamAdaW.Facts) (hAdamAdaWIdeal : Cert.AdamAdaWIdeal.Facts) (hAdamAdaWRefIdeal : Cert.AdamAdaWRefIdeal.Facts) (hAdamAdaB : Cert.AdamAdaB.Facts) (hAdamAdaBIdeal : Cert.AdamAdaBIdeal.Facts) (hAdamAdaBRefIdeal : Cert.AdamAdaBRefIdeal.Facts) (hAdamIn : Cert.AdamIn.Facts) (hAdamInIdeal : Cert.AdamInIdeal.Facts) (hAdamInRefIdeal : Cert.AdamInRefIdeal.Facts) (hAdamBIn : Cert.AdamBIn.Facts) (hAdamBInIdeal : Cert.AdamBInIdeal.Facts) (hAdamBInRefIdeal : Cert.AdamBInRefIdeal.Facts) (hAdamSinks : Cert.AdamSinks.Facts) (hAdamSinksIdeal : Cert.AdamSinksIdeal.Facts) (hAdamSinksRefIdeal : Cert.AdamSinksRefIdeal.Facts) (hAdamPoolW : Cert.AdamPoolW.Facts) (hAdamPoolWIdeal : Cert.AdamPoolWIdeal.Facts) (hAdamPoolWRefIdeal : Cert.AdamPoolWRefIdeal.Facts) (hAdamPoolS : Cert.AdamPoolS.Facts) (hAdamPoolSIdeal : Cert.AdamPoolSIdeal.Facts) (hAdamPoolSRefIdeal : Cert.AdamPoolSRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamG : Cert.AdamG.Facts) (hAdamGIdeal : Cert.AdamGIdeal.Facts) (hAdamGRefIdeal : Cert.AdamGRefIdeal.Facts) (hAdaGrad : Cert.AdaGrad.Facts) (hAdaGradIdeal : Cert.AdaGradIdeal.Facts) (hAdaGradRefIdeal : Cert.AdaGradRefIdeal.Facts) (hSumDev : Cert.SumDev.Facts) (hSumDevIdeal : Cert.SumDevIdeal.Facts) (hSumDevRefIdeal : Cert.SumDevRefIdeal.Facts) (hInBwd : Cert.InBwd.Facts) (hInBwdIdeal : Cert.InBwdIdeal.Facts) (hInBwdRefIdeal : Cert.InBwdRefIdeal.Facts) (hPre_pool_finite : Cert.Pre_pool_finite.Facts) (hPre_ffn_finite : Cert.Pre_ffn_finite.Facts) (hPre_fwd_finite : Cert.Pre_fwd_finite.Facts) (hPre_loss_finite : Cert.Pre_loss_finite.Facts) (hPre_in_finite : Cert.Pre_in_finite.Facts),
    quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_WGate (hWGate := hWGate)
    ∧ quiescent_WGateIdeal (hWGateIdeal := hWGateIdeal)
    ∧ quiescent_WGateRefIdeal (hWGateRefIdeal := hWGateRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Fwd (hFwd := hFwd)
    ∧ quiescent_FwdIdeal (hFwdIdeal := hFwdIdeal)
    ∧ quiescent_FwdIdeal_pre_fwd_finite (hFwdIdeal := hFwdIdeal) (hPre_fwd_finite := hPre_fwd_finite)
    ∧ quiescent_FwdRefIdeal (hFwdRefIdeal := hFwdRefIdeal)
    ∧ quiescent_FwdRefIdeal_pre_fwd_finite (hFwdRefIdeal := hFwdRefIdeal) (hPre_fwd_finite := hPre_fwd_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_AdamAdaW (hAdamAdaW := hAdamAdaW)
    ∧ quiescent_AdamAdaWIdeal (hAdamAdaWIdeal := hAdamAdaWIdeal)
    ∧ quiescent_AdamAdaWRefIdeal (hAdamAdaWRefIdeal := hAdamAdaWRefIdeal)
    ∧ quiescent_AdamAdaB (hAdamAdaB := hAdamAdaB)
    ∧ quiescent_AdamAdaBIdeal (hAdamAdaBIdeal := hAdamAdaBIdeal)
    ∧ quiescent_AdamAdaBRefIdeal (hAdamAdaBRefIdeal := hAdamAdaBRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBIn (hAdamBIn := hAdamBIn)
    ∧ quiescent_AdamBInIdeal (hAdamBInIdeal := hAdamBInIdeal)
    ∧ quiescent_AdamBInRefIdeal (hAdamBInRefIdeal := hAdamBInRefIdeal)
    ∧ quiescent_AdamSinks (hAdamSinks := hAdamSinks)
    ∧ quiescent_AdamSinksIdeal (hAdamSinksIdeal := hAdamSinksIdeal)
    ∧ quiescent_AdamSinksRefIdeal (hAdamSinksRefIdeal := hAdamSinksRefIdeal)
    ∧ quiescent_AdamPoolW (hAdamPoolW := hAdamPoolW)
    ∧ quiescent_AdamPoolWIdeal (hAdamPoolWIdeal := hAdamPoolWIdeal)
    ∧ quiescent_AdamPoolWRefIdeal (hAdamPoolWRefIdeal := hAdamPoolWRefIdeal)
    ∧ quiescent_AdamPoolS (hAdamPoolS := hAdamPoolS)
    ∧ quiescent_AdamPoolSIdeal (hAdamPoolSIdeal := hAdamPoolSIdeal)
    ∧ quiescent_AdamPoolSRefIdeal (hAdamPoolSRefIdeal := hAdamPoolSRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamG (hAdamG := hAdamG)
    ∧ quiescent_AdamGIdeal (hAdamGIdeal := hAdamGIdeal)
    ∧ quiescent_AdamGRefIdeal (hAdamGRefIdeal := hAdamGRefIdeal)
    ∧ quiescent_AdaGrad (hAdaGrad := hAdaGrad)
    ∧ quiescent_AdaGradIdeal (hAdaGradIdeal := hAdaGradIdeal)
    ∧ quiescent_AdaGradRefIdeal (hAdaGradRefIdeal := hAdaGradRefIdeal)
    ∧ quiescent_SumDev (hSumDev := hSumDev)
    ∧ quiescent_SumDevIdeal (hSumDevIdeal := hSumDevIdeal)
    ∧ quiescent_SumDevRefIdeal (hSumDevRefIdeal := hSumDevRefIdeal)
    ∧ quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InBwdRefIdeal (hInBwdRefIdeal := hInBwdRefIdeal)
    ∧ quiescent_InBwdRefIdeal_pre_in_finite (hInBwdRefIdeal := hInBwdRefIdeal) (hPre_in_finite := hPre_in_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_WGate_WGateIdeal
    ∧ algebraic_WGateIdeal_WGateRefIdeal (hWGateIdeal := hWGateIdeal) (hWGateRefIdeal := hWGateRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Fwd_FwdIdeal
    ∧ algebraic_FwdIdeal_FwdRefIdeal_pre_fwd_finite (hFwdIdeal := hFwdIdeal) (hFwdRefIdeal := hFwdRefIdeal) (hPre_fwd_finite := hPre_fwd_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_AdamAdaW_AdamAdaWIdeal
    ∧ algebraic_AdamAdaWIdeal_AdamAdaWRefIdeal (hAdamAdaWIdeal := hAdamAdaWIdeal) (hAdamAdaWRefIdeal := hAdamAdaWRefIdeal)
    ∧ preserves_AdamAdaB_AdamAdaBIdeal
    ∧ algebraic_AdamAdaBIdeal_AdamAdaBRefIdeal (hAdamAdaBIdeal := hAdamAdaBIdeal) (hAdamAdaBRefIdeal := hAdamAdaBRefIdeal)
    ∧ preserves_AdamIn_AdamInIdeal
    ∧ algebraic_AdamInIdeal_AdamInRefIdeal (hAdamInIdeal := hAdamInIdeal) (hAdamInRefIdeal := hAdamInRefIdeal)
    ∧ preserves_AdamBIn_AdamBInIdeal
    ∧ algebraic_AdamBInIdeal_AdamBInRefIdeal (hAdamBInIdeal := hAdamBInIdeal) (hAdamBInRefIdeal := hAdamBInRefIdeal)
    ∧ preserves_AdamSinks_AdamSinksIdeal
    ∧ algebraic_AdamSinksIdeal_AdamSinksRefIdeal (hAdamSinksIdeal := hAdamSinksIdeal) (hAdamSinksRefIdeal := hAdamSinksRefIdeal)
    ∧ preserves_AdamPoolW_AdamPoolWIdeal
    ∧ algebraic_AdamPoolWIdeal_AdamPoolWRefIdeal (hAdamPoolWIdeal := hAdamPoolWIdeal) (hAdamPoolWRefIdeal := hAdamPoolWRefIdeal)
    ∧ preserves_AdamPoolS_AdamPoolSIdeal
    ∧ algebraic_AdamPoolSIdeal_AdamPoolSRefIdeal (hAdamPoolSIdeal := hAdamPoolSIdeal) (hAdamPoolSRefIdeal := hAdamPoolSRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamG_AdamGIdeal
    ∧ algebraic_AdamGIdeal_AdamGRefIdeal (hAdamGIdeal := hAdamGIdeal) (hAdamGRefIdeal := hAdamGRefIdeal)
    ∧ preserves_AdaGrad_AdaGradIdeal
    ∧ algebraic_AdaGradIdeal_AdaGradRefIdeal (hAdaGradIdeal := hAdaGradIdeal) (hAdaGradRefIdeal := hAdaGradRefIdeal)
    ∧ preserves_SumDev_SumDevIdeal
    ∧ algebraic_SumDevIdeal_SumDevRefIdeal (hSumDevIdeal := hSumDevIdeal) (hSumDevRefIdeal := hSumDevRefIdeal)
    ∧ preserves_InBwd_InBwdIdeal
    ∧ algebraic_InBwdIdeal_InBwdRefIdeal_pre_in_finite (hInBwdIdeal := hInBwdIdeal) (hInBwdRefIdeal := hInBwdRefIdeal) (hPre_in_finite := hPre_in_finite)
-- ==== Pre_ffn_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S1024x2816 .f32) (main_arg8 : FVec F S2816x1024 .f32) (main_arg9 : FVec F S8192x1024 .f32) (main_v33 : IVec S_ 1) : IVec S_ 1 :=
  let main_v34 : FVec F S1024x2816 .f32 := Host.absf main_arg7
  let main_cst_12 : FVec F S_ .f32 := constant S_ .f32 0x7F800000#32
  let main_v35 : FVec F S1024x2816 .f32 := broadcastInDim S1024x2816 ![] bcast_S_S1024x2816 main_cst_12
  let main_v36 : IVec S1024x2816 1 := cmpf .olt main_v34 main_v35
  let main_c_13 : IVec S_ 1 := constantI S_ 1 1#1
  let main_v37 : IVec S_ 1 := (fun x v => Host.reduce IntOp.andi x v reducesTo_S1024x2816_S_d0_1 h_S_) main_v36 main_c_13
  let main_v38 : IVec S_ 1 := andi main_v33 main_v37
  let main_v39 : FVec F S2816x1024 .f32 := Host.absf main_arg8
  let main_cst_14 : FVec F S_ .f32 := constant S_ .f32 0x7F800000#32
  let main_v40 : FVec F S2816x1024 .f32 := broadcastInDim S2816x1024 ![] bcast_S_S2816x1024 main_cst_14
  let main_v41 : IVec S2816x1024 1 := cmpf .olt main_v39 main_v40
  let main_c_15 : IVec S_ 1 := constantI S_ 1 1#1
  let main_v42 : IVec S_ 1 := (fun x v => Host.reduce IntOp.andi x v reducesTo_S2816x1024_S_d0_1 h_S_) main_v41 main_c_15
  let main_v43 : IVec S_ 1 := andi main_v38 main_v42
  let main_v44 : FVec F S8192x1024 .f32 := Host.absf main_arg9
  let main_cst_16 : FVec F S_ .f32 := constant S_ .f32 0x7F800000#32
  let main_v45 : FVec F S8192x1024 .f32 := broadcastInDim S8192x1024 ![] bcast_S_S8192x1024 main_cst_16
  let main_v46 : IVec S8192x1024 1 := cmpf .olt main_v44 main_v45
  let main_c_17 : IVec S_ 1 := constantI S_ 1 1#1
  let main_v47 : IVec S_ 1 := (fun x v => Host.reduce IntOp.andi x v reducesTo_S8192x1024_S_d0_1 h_S_) main_v46 main_c_17
  let main_v48 : IVec S_ 1 := andi main_v43 main_v47
  main_v48

def fn_part1 {F : FTy → Type} [FloatOps F] (main_arg4 : FVec F S1024 .f32) (main_arg5 : FVec F S1024 .f32) (main_arg6 : FVec F S1024x2816 .f32) (main_arg7 : FVec F S1024x2816 .f32) (main_arg8 : FVec F S2816x1024 .f32) (main_arg9 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2816 .f32 := Host.absf main_arg6
  let main_cst_10 : FVec F S_ .f32 := constant S_ .f32 0x7F800000#32
  let main_v30 : FVec F S1024x2816 .f32 := broadcastInDim S1024x2816 ![] bcast_S_S1024x2816 main_cst_10
  let main_v31 : IVec S1024x2816 1 := cmpf .olt main_v29 main_v30
  let main_c_11 : IVec S_ 1 := constantI S_ 1 1#1
  let main_v32 : IVec S_ 1 := (fun x v => Host.reduce IntOp.andi x v reducesTo_S1024x2816_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S1024 .f32) (main_arg2 : FVec F S1024 .f32) (main_arg3 : FVec F S1024 .f32) (main_arg4 : FVec F S1024 .f32) (main_arg5 : FVec F S1024 .f32) (main_arg6 : FVec F S1024x2816 .f32) (main_arg7 : FVec F S1024x2816 .f32) (main_arg8 : FVec F S2816x1024 .f32) (main_arg9 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Pre_fwd_finite.lean ====
abbrev S8192x512 : Shape := ⟨2, ![8192, 512]⟩
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x2816 .f32) (main_arg12 : FVec F S1024x2816 .f32) (main_arg13 : FVec F S2816x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x2816 .f32 := Host.absf main_arg11
  let main_cst_20 : FVec F S_ .f32 := constant S_ .f32 0x7F800000#32
  let main_v55 : FVec F S1024x2816 .f32 := broadcastInDim S1024x2816 ![] bcast_S_S1024x2816 main_cst_20
  let main_v56 : IVec S1024x2816 1 := cmpf .olt main_v54 main_v55
  let main_c_21 : IVec S_ 1 := constantI S_ 1 1#1
  let main_v57 : IVec S_ 1 := (fun x v => Host.reduce IntOp.andi x v reducesTo_S1024x2816_S_d0_1 h_S_) main_v56 main_c_21
  let main_v58 : IVec S_ 1 := andi main_v53 main_v57
  let main_v59 : FVec F S1024x2816 .f32 := Host.absf main_arg12
  let main_cst_22 : FVec F S_ .f32 := constant S_ .f32 0x7F800000#32
  let main_v60 : FVec F S1024x2816 .f32 := broadcastInDim S1024x2816 ![] bcast_S_S1024x2816 main_cst_22
  let main_v61 : IVec S1024x2816 1 := cmpf .olt main_v59 main_v60
  let main_c_23 : IVec S_ 1 := constantI S_ 1 1#1
  let main_v62 : IVec S_ 1 := (fun x v => Host.reduce IntOp.andi x v reducesTo_S1024x2816_S_d0_1 h_S_) main_v61 main_c_23
  let main_v63 : IVec S_ 1 := andi main_v58 main_v62
  let main_v64 : FVec F S2816x1024 .f32 := Host.absf main_arg13
  let main_cst_24 : FVec F S_ .f32 := constant S_ .f32 0x7F800000#32
  let main_v65 : FVec F S2816x1024 .f32 := broadcastInDim S2816x1024 ![] bcast_S_S2816x1024 main_cst_24
  let main_v66 : IVec S2816x1024 1 := cmpf .olt main_v64 main_v65
  let main_c_25 : IVec S_ 1 := constantI S_ 1 1#1
  let main_v67 : IVec S_ 1 := (fun x v => Host.reduce IntOp.andi x v reducesTo_S2816x1024_S_d0_1 h_S_) main_v66 main_c_25
  fn_part4 (F := F) main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024x2816 .f32) (main_arg12 : FVec F S1024x2816 .f32) (main_arg13 : FVec F S2816x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024x2816 .f32) (main_arg12 : FVec F S1024x2816 .f32) (main_arg13 : FVec F S2816x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x512 .f32) (main_arg1 : FVec F S8192x512 .f32) (main_arg2 : FVec F S8192x1024 .f32) (main_arg3 : FVec F S1024x1024 .f32) (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024x2816 .f32) (main_arg12 : FVec F S1024x2816 .f32) (main_arg13 : FVec F S2816x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Pre_in_finite.lean ====
abbrev S8192x1024 : Shape := ⟨2, ![8192, 1024]⟩
abbrev S1024 : Shape := ⟨1, ![1024]⟩
abbrev S1280 : Shape := ⟨1, ![1280]⟩
abbrev S8192x8 : Shape := ⟨2, ![8192, 8]⟩
abbrev S1024x1280 : Shape := ⟨2, ![1024, 1280]⟩
abbrev S8192x8x64 : Shape := ⟨3, ![8192, 8, 64]⟩
abbrev S8192x2x2x64 : Shape := ⟨4, ![8192, 2, 2, 64]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8192x8 : S_.BroadcastsInDim S8192x8 (![] : Fin 0 → Fin S8192x8.rank)
  reducesTo_S8192x8_S_d0_1 : S8192x8.ReducesTo [0, 1] S_
  bcast_S_S1024x1280 : S_.BroadcastsInDim S1024x1280 (![] : Fin 0 → Fin S1024x1280.rank)
  reducesTo_S1024x1280_S_d0_1 : S1024x1280.ReducesTo [0, 1] S_
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x2x2x64 : S_.BroadcastsInDim S8192x2x2x64 (![] : Fin 0 → Fin S8192x2x2x64.rank)
  reducesTo_S8192x2x2x64_S_d0_1_2_3 : S8192x2x2x64.ReducesTo [0, 1, 2, 3] S_
  bcast_S_S8192x512 : S_.BroadcastsInDim S8192x512 (![] : Fin 0 → Fin S8192x512.rank)
  reducesTo_S8192x512_S_d0_1 : S8192x512.ReducesTo [0, 1] S_

variable [Facts]

def fn_part3 {F : FTy → Type} [FloatOps F] (main_v48 : IVec S_ 1) (main_v49 : FVec F S8192x1024 .f32) (main_v50 : FVec F S8192x1024 .f32) : IVec S_ 1 :=
  let main_v51 : IVec S8192x1024 1 := cmpf .olt main_v49 main_v50
  let main_c_19 : IVec S_ 1 := constantI S_ 1 1#1
  let main_v52 : IVec S_ 1 := (fun x v => Host.reduce IntOp.andi x v reducesTo_S8192x1024_S_d0_1 h_S_) main_v51 main_c_19
  let main_v53 : IVec S_ 1 := andi main_v48 main_v52
  main_v53

def fn_part2 {F : FTy → Type} [FloatOps F] (main_arg9 : FVec F S8192x2x2x64 .f32) (main_arg10 : FVec F S8192x2x2x64 .f32) (main_arg11 : FVec F S8192x512 .f32) (main_arg12 : FVec F S8192x1024 .f32) (main_v33 : IVec S_ 1) : IVec S_ 1 :=
  let main_v34 : FVec F S8192x2x2x64 .f32 := Host.absf main_arg9
  let main_cst_12 : FVec F S_ .f32 := constant S_ .f32 0x7F800000#32
  let main_v35 : FVec F S8192x2x2x64 .f32 := broadcastInDim S8192x2x2x64 ![] bcast_S_S8192x2x2x64 main_cst_12
  let main_v36 : IVec S8192x2x2x64 1 := cmpf .olt main_v34 main_v35
  let main_c_13 : IVec S_ 1 := constantI S_ 1 1#1
  let main_v37 : IVec S_ 1 := (fun x v => Host.reduce IntOp.andi x v reducesTo_S8192x2x2x64_S_d0_1_2_3 h_S_) main_v36 main_c_13
  let main_v38 : IVec S_ 1 := andi main_v33 main_v37
  let main_v39 : FVec F S8192x2x2x64 .f32 := Host.absf main_arg10
  let main_cst_14 : FVec F S_ .f32 := constant S_ .f32 0x7F800000#32
  let main_v40 : FVec F S8192x2x2x64 .f32 := broadcastInDim S8192x2x2x64 ![] bcast_S_S8192x2x2x64 main_cst_14
  let main_v41 : IVec S8192x2x2x64 1 := cmpf .olt main_v39 main_v40
  let main_c_15 : IVec S_ 1 := constantI S_ 1 1#1
  let main_v42 : IVec S_ 1 := (fun x v => Host.reduce IntOp.andi x v reducesTo_S8192x2x2x64_S_d0_1_2_3 h_S_) main_v41 main_c_15
  let main_v43 : IVec S_ 1 := andi main_v38 main_v42
  let main_v44 : FVec F S8192x512 .f32 := Host.absf main_arg11
  let main_cst_16 : FVec F S_ .f32 := constant S_ .f32 0x7F800000#32
  let main_v45 : FVec F S8192x512 .f32 := broadcastInDim S8192x512 ![] bcast_S_S8192x512 main_cst_16
  let main_v46 : IVec S8192x512 1 := cmpf .olt main_v44 main_v45
  let main_c_17 : IVec S_ 1 := constantI S_ 1 1#1
  let main_v47 : IVec S_ 1 := (fun x v => Host.reduce IntOp.andi x v reducesTo_S8192x512_S_d0_1 h_S_) main_v46 main_c_17
  let main_v48 : IVec S_ 1 := andi main_v43 main_v47
  let main_v49 : FVec F S8192x1024 .f32 := Host.absf main_arg12
  let main_cst_18 : FVec F S_ .f32 := constant S_ .f32 0x7F800000#32
  let main_v50 : FVec F S8192x1024 .f32 := broadcastInDim S8192x1024 ![] bcast_S_S8192x1024 main_cst_18
  fn_part3 (F := F) main_v48 main_v49 main_v50

def fn_part1 {F : FTy → Type} [FloatOps F] (main_arg6 : FVec F S8192x8 .f32) (main_arg7 : FVec F S1024x1280 .f32) (main_arg8 : FVec F S8192x8x64 .f32) (main_arg9 : FVec F S8192x2x2x64 .f32) (main_arg10 : FVec F S8192x2x2x64 .f32) (main_arg11 : FVec F S8192x512 .f32) (main_arg12 : FVec F S8192x1024 .f32) (main_v13 : IVec S_ 1) (main_v16 : IVec S8192x8 1) : IVec S_ 1 :=
  let main_c_5 : IVec S_ 1 := constantI S_ 1 1#1
  let main_v17 : IVec S_ 1 := (fun x v => Host.reduce IntOp.andi x v reducesTo_S8192x8_S_d0_1 h_S_) main_v16 main_c_5
  let main_v18 : IVec S_ 1 := andi main_v13 main_v17
  let main_v19 : FVec F S8192x8 .f32 := Host.absf main_arg6
  let main_cst_6 : FVec F S_ .f32 := constant S_ .f32 0x7F800000#32
  let main_v20 : FVec F S8192x8 .f32 := broadcastInDim S8192x8 ![] bcast_S_S8192x8 main_cst_6
  let main_v21 : IVec S8192x8 1 := cmpf .olt main_v19 main_v20
  let main_c_7 : IVec S_ 1 := constantI S_ 1 1#1
  let main_v22 : IVec S_ 1 := (fun x v => Host.reduce IntOp.andi x v reducesTo_S8192x8_S_d0_1 h_S_) main_v21 main_c_7
  let main_v23 : IVec S_ 1 := andi main_v18 main_v22
  let main_v24 : FVec F S1024x1280 .f32 := Host.absf main_arg7
  let main_cst_8 : FVec F S_ .f32 := constant S_ .f32 0x7F800000#32
  let main_v25 : FVec F S1024x1280 .f32 := broadcastInDim S1024x1280 ![] bcast_S_S1024x1280 main_cst_8
  let main_v26 : IVec S1024x1280 1 := cmpf .olt main_v24 main_v25
  let main_c_9 : IVec S_ 1 := constantI S_ 1 1#1
  let main_v27 : IVec S_ 1 := (fun x v => Host.reduce IntOp.andi x v reducesTo_S1024x1280_S_d0_1 h_S_) main_v26 main_c_9
  let main_v28 : IVec S_ 1 := andi main_v23 main_v27
  let main_v29 : FVec F S8192x8x64 .f32 := Host.absf main_arg8
  let main_cst_10 : FVec F S_ .f32 := constant S_ .f32 0x7F800000#32
  let main_v30 : FVec F S8192x8x64 .f32 := broadcastInDim S8192x8x64 ![] bcast_S_S8192x8x64 main_cst_10
  let main_v31 : IVec S8192x8x64 1 := cmpf .olt main_v29 main_v30
  let main_c_11 : IVec S_ 1 := constantI S_ 1 1#1
  let main_v32 : IVec S_ 1 := (fun x v => Host.reduce IntOp.andi x v reducesTo_S8192x8x64_S_d0_1_2 h_S_) main_v31 main_c_11
  let main_v33 : IVec S_ 1 := andi main_v28 main_v32
  fn_part2 (F := F) main_arg9 main_arg10 main_arg11 main_arg12 main_v33

def fn {F : FTy → Type} [FloatOps F] (main_arg0 : FVec F S8192x1024 .f32) (main_arg1 : FVec F S1024 .f32) (main_arg2 : FVec F S1024 .f32) (main_arg3 : FVec F S1024 .f32) (main_arg4 : FVec F S1280 .f32) (main_arg5 : FVec F S8192x8 .f32) (main_arg6 : FVec F S8192x8 .f32) (main_arg7 : FVec F S1024x1280 .f32) (main_arg8 : FVec F S8192x8x64 .f32) (main_arg9 : FVec F S8192x2x2x64 .f32) (main_arg10 : FVec F S8192x2x2x64 .f32) (main_arg11 : FVec F S8192x512 .f32) (main_arg12 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x8 .f32 := Host.absf main_arg5
  let main_cst_4 : FVec F S_ .f32 := constant S_ .f32 0x7F800000#32
  let main_v15 : FVec F S8192x8 .f32 := broadcastInDim S8192x8 ![] bcast_S_S8192x8 main_cst_4
  let main_v16 : IVec S8192x8 1 := cmpf .olt main_v14 main_v15
  fn_part1 (F := F) main_arg6 main_arg7 main_arg8 main_arg9 main_arg10 main_arg11 main_arg12 main_v13 main_v16
-- ==== Pre_loss_finite.lean ====
abbrev S8192x512 : Shape := ⟨2, ![8192, 512]⟩
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part4 {F : FTy → Type} [FloatOps F] (main_arg14 : FVec F S8192x1024 .f32) (main_v63 : IVec S_ 1) (main_v67 : IVec S_ 1) : IVec S_ 1 :=
  let main_v68 : IVec S_ 1 := andi main_v63 main_v67
  let main_v69 : FVec F S8192x1024 .f32 := Host.absf main_arg14
  let main_cst_26 : FVec F S_ .f32 := constant S_ .f32 0x7F800000#32
  let main_v70 : FVec F S8192x1024 .f32 := broadcastInDim S8192x1024 ![] bcast_S_S8192x1024 main_cst_26
  let main_v71 : IVec S8192x1024 1 := cmpf .olt main_v69 main_v70
  let main_c_27 : IVec S_ 1 := constantI S_ 1 1#1
  let main_v72 : IVec S_ 1 := (fun x v => Host.reduce IntOp.andi x v reducesTo_S8192x1024_S_d0_1 h_S_) main_v71 main_c_27
  let main_v73 : IVec S_ 1 := andi main_v68 main_v72
  main_v73

def fn_part3 {F : FTy → Type} [FloatOps F] (main_arg11 : FVec F S1024x2816 .f32) (main_arg12 : FVec F S1024x2816 .f32) (main_arg13 : FVec F S2816x1024 .f32) (main_arg14 : FVec F S8192x1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x2816 .f32 := Host.absf main_arg11
  let main_cst_20 : FVec F S_ .f32 := constant S_ .f32 0x7F800000#32
  let main_v55 : FVec F S1024x2816 .f32 := broadcastInDim S1024x2816 ![] bcast_S_S1024x2816 main_cst_20
  let main_v56 : IVec S1024x2816 1 := cmpf .olt main_v54 main_v55
  let main_c_21 : IVec S_ 1 := constantI S_ 1 1#1
  let main_v57 : IVec S_ 1 := (fun x v => Host.reduce IntOp.andi x v reducesTo_S1024x2816_S_d0_1 h_S_) main_v56 main_c_21
  let main_v58 : IVec S_ 1 := andi main_v53 main_v57
  let main_v59 : FVec F S1024x2816 .f32 := Host.absf main_arg12
  let main_cst_22 : FVec F S_ .f32 := constant S_ .f32 0x7F800000#32
  let main_v60 : FVec F S1024x2816 .f32 := broadcastInDim S1024x2816 ![] bcast_S_S1024x2816 main_cst_22
  let main_v61 : IVec S1024x2816 1 := cmpf .olt main_v59 main_v60
  let main_c_23 : IVec S_ 1 := constantI S_ 1 1#1
  let main_v62 : IVec S_ 1 := (fun x v => Host.reduce IntOp.andi x v reducesTo_S1024x2816_S_d0_1 h_S_) main_v61 main_c_23
  let main_v63 : IVec S_ 1 := andi main_v58 main_v62
  let main_v64 : FVec F S2816x1024 .f32 := Host.absf main_arg13
  let main_cst_24 : FVec F S_ .f32 := constant S_ .f32 0x7F800000#32
  let main_v65 : FVec F S2816x1024 .f32 := broadcastInDim S2816x1024 ![] bcast_S_S2816x1024 main_cst_24
  let main_v66 : IVec S2816x1024 1 := cmpf .olt main_v64 main_v65
  let main_c_25 : IVec S_ 1 := constantI S_ 1 1#1
  let main_v67 : IVec S_ 1 := (fun x v => Host.reduce IntOp.andi x v reducesTo_S2816x1024_S_d0_1 h_S_) main_v66 main_c_25
  fn_part4 (F := F) main_arg14 main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024x2816 .f32) (main_arg12 : FVec F S1024x2816 .f32) (main_arg13 : FVec F S2816x1024 .f32) (main_arg14 : FVec F S8192x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024x2816 .f32) (main_arg12 : FVec F S1024x2816 .f32) (main_arg13 : FVec F S2816x1024 .f32) (main_arg14 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x512 .f32) (main_arg1 : FVec F S8192x512 .f32) (main_arg2 : FVec F S8192x1024 .f32) (main_arg3 : FVec F S1024x1024 .f32) (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024x2816 .f32) (main_arg12 : FVec F S1024x2816 .f32) (main_arg13 : FVec F S2816x1024 .f32) (main_arg14 : FVec F S8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Pre_pool_finite.lean ====
abbrev S8192x512 : Shape := ⟨2, ![8192, 512]⟩
abbrev S4x128x128 : Shape := ⟨3, ![4, 128, 128]⟩
abbrev S512 : Shape := ⟨1, ![512]⟩
abbrev S_ : Shape := ⟨0, ![]⟩

class Facts : Prop where
  bcast_S_S4x128x128 : S_.BroadcastsInDim S4x128x128 (![] : Fin 0 → Fin S4x128x128.rank)
  reducesTo_S4x128x128_S_d0_1_2 : S4x128x128.ReducesTo [0, 1, 2] S_
  h_S_ : 0 < S_.numel
  bcast_S_S512 : S_.BroadcastsInDim S512 (![] : Fin 0 → Fin S512.rank)
  reducesTo_S512_S_d0 : S512.ReducesTo [0] S_
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x512 .f32) (main_arg1 : FVec F S4x128x128 .f32) (main_arg2 : FVec F S512 .f32) (main_arg3 : FVec F S8192x512 .f32) : IVec S_ 1 :=
  let main_v0 : FVec F S4x128x128 .f32 := Host.absf main_arg1
  let main_cst : FVec F S_ .f32 := constant S_ .f32 0x7F800000#32
  let main_v1 : FVec F S4x128x128 .f32 := broadcastInDim S4x128x128 ![] bcast_S_S4x128x128 main_cst
  let main_v2 : IVec S4x128x128 1 := cmpf .olt main_v0 main_v1
  let main_c : IVec S_ 1 := constantI S_ 1 1#1
  let main_v3 : IVec S_ 1 := (fun x v => Host.reduce IntOp.andi x v reducesTo_S4x128x128_S_d0_1_2 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  main_v13
-- ==== Pool.lean ====
abbrev S8192x512 : Shape := ⟨2, ![8192, 512]⟩
abbrev S4x128x128 : Shape := ⟨3, ![4, 128, 128]⟩
abbrev S512 : Shape := ⟨1, ![512]⟩
abbrev S8192 : Shape := ⟨1, ![8192]⟩
abbrev S8192x1 : Shape := ⟨2, ![8192, 1]⟩
abbrev S8192x128 : Shape := ⟨2, ![8192, 128]⟩
abbrev S_ : Shape := ⟨0, ![]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S1x512 : Shape := ⟨2, ![1, 512]⟩
abbrev S8x512 : Shape := ⟨2, ![8, 512]⟩
abbrev S1024x512 : Shape := ⟨2, ![1024, 512]⟩
abbrev S16x512 : Shape := ⟨2, ![16, 512]⟩
abbrev S1024x1 : Shape := ⟨2, ![1024, 1]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1040x128 : Shape := ⟨2, ![1040, 128]⟩

abbrev nBuf : Space → Nat
  | .hbm => 85
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S4x128x128, .f32⟩
  | .hbm, ⟨2, _⟩ => ⟨S512, .f32⟩
  | .hbm, ⟨3, _⟩ => ⟨S8192x512, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S_, .f32⟩
  | .hbm, ⟨9, _⟩ => ⟨S8192x128, .f32⟩
  | .hbm, ⟨10, _⟩ => ⟨S_, .f32⟩
  | .hbm, ⟨11, _⟩ => ⟨S2x128, .f32⟩
  | .hbm, ⟨12, _⟩ => ⟨S8190x128, .f32⟩
  | .hbm, ⟨13, _⟩ => ⟨S8192x128, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x128, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S_, .f32⟩
  | .hbm, ⟨27, _⟩ => ⟨S8192x128, .f32⟩
  | .hbm, ⟨28, _⟩ => ⟨S_, .f32⟩
  | .hbm, ⟨29, _⟩ => ⟨S4x128, .f32⟩
  | .hbm, ⟨30, _⟩ => ⟨S8188x128, .f32⟩
  | .hbm, ⟨31, _⟩ => ⟨S8192x128, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x128, .f32⟩
  | .hbm, ⟨39, _⟩ => ⟨S8192x128, .f32⟩
  | .hbm, ⟨40, _⟩ => ⟨S8192x128, .f32⟩
  | .hbm, ⟨41, _⟩ => ⟨S8192x128, .f32⟩
  | .hbm, ⟨42, _⟩ => ⟨S8192x128, .f32⟩
  | .hbm, ⟨43, _⟩ => ⟨S_, .f32⟩
  | .hbm, ⟨44, _⟩ => ⟨S_, .f32⟩
  | .hbm, ⟨45, _⟩ => ⟨S8192x128, .f32⟩
  | .hbm, ⟨46, _⟩ => ⟨S_, .f32⟩
  | .hbm, ⟨47, _⟩ => ⟨S8x128, .f32⟩
  | .hbm, ⟨48, _⟩ => ⟨S8184x128, .f32⟩
  | .hbm, ⟨49, _⟩ => ⟨S8192x128, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x128, .f32⟩
  | .hbm, ⟨57, _⟩ => ⟨S8192x128, .f32⟩
  | .hbm, ⟨58, _⟩ => ⟨S8192x128, .f32⟩
  | .hbm, ⟨59, _⟩ => ⟨S8192x128, .f32⟩
  | .hbm, ⟨60, _⟩ => ⟨S8192x128, .f32⟩
  | .hbm, ⟨61, _⟩ => ⟨S_, .f32⟩
  | .hbm, ⟨62, _⟩ => ⟨S_, .f32⟩
  | .hbm, ⟨63, _⟩ => ⟨S8192x128, .f32⟩
  | .hbm, ⟨64, _⟩ => ⟨S_, .f32⟩
  | .hbm, ⟨65, _⟩ => ⟨S16x128, .f32⟩
  | .hbm, ⟨66, _⟩ => ⟨S8176x128, .f32⟩
  | .hbm, ⟨67, _⟩ => ⟨S8192x128, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x128, .f32⟩
  | .hbm, ⟨75, _⟩ => ⟨S8192x128, .f32⟩
  | .hbm, ⟨76, _⟩ => ⟨S8192x128, .f32⟩
  | .hbm, ⟨77, _⟩ => ⟨S8192x128, .f32⟩
  | .hbm, ⟨78, _⟩ => ⟨S8192x512, .f32⟩
  | .hbm, ⟨79, _⟩ => ⟨S8192x512, .bf16⟩
  | .hbm, ⟨80, _⟩ => ⟨S8192x512, .bf16⟩
  | .hbm, ⟨81, _⟩ => ⟨S1x512, .f32⟩
  | .hbm, ⟨82, _⟩ => ⟨S8192x512, .f32⟩
  | .hbm, ⟨83, _⟩ => ⟨S4x128x128, .f32⟩
  | .hbm, ⟨84, _⟩ => ⟨S8x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S4x128x128, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S4x128x128, .f32⟩
  | .local _ .vmem, ⟨9, _⟩ => ⟨S8x512, .f32⟩
  | .local _ .vmem, ⟨10, _⟩ => ⟨S16x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call1_call0_cst : Ref sig .tc := ⟨.hbm, 25, rfl⟩
abbrev main_call1_call0_v0 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call2_call0_cst : Ref sig .tc := ⟨.hbm, 43, rfl⟩
abbrev main_call2_call0_v0 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call3_call0_cst : Ref sig .tc := ⟨.hbm, 61, rfl⟩
abbrev main_call3_call0_v0 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58_0 : Ref sig .tc := ⟨.hbm, 82, rfl⟩
abbrev main_v58_1 : Ref sig .tc := ⟨.hbm, 83, rfl⟩
abbrev main_v58_2 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolRefIdeal.lean ====
abbrev S8192x512 : Shape := ⟨2, ![8192, 512]⟩
abbrev S4x128x128 : Shape := ⟨3, ![4, 128, 128]⟩
abbrev S512 : Shape := ⟨1, ![512]⟩
abbrev S8192 : Shape := ⟨1, ![8192]⟩
abbrev S8192x1 : Shape := ⟨2, ![8192, 1]⟩
abbrev S8192x128 : Shape := ⟨2, ![8192, 128]⟩
abbrev S_ : Shape := ⟨0, ![]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S1x128x128 : Shape := ⟨3, ![1, 128, 128]⟩
abbrev S128x128 : Shape := ⟨2, ![128, 128]⟩
abbrev S1x512 : Shape := ⟨2, ![1, 512]⟩
abbrev S7x512 : Shape := ⟨2, ![7, 512]⟩
abbrev S8x512 : Shape := ⟨2, ![8, 512]⟩

abbrev nBuf : Space → Nat
  | .hbm => 208
  | .vmem => 0
  | .smem => 0
  | _ => 0

abbrev hbmTy0_0 (i : Nat) : BufTy := match i % 128 with
  | 0 => ⟨S8192x512, .f32⟩
  | 1 => ⟨S4x128x128, .f32⟩
  | 2 => ⟨S512, .f32⟩
  | 3 => ⟨S8192x512, .f32⟩
  | 4 => ⟨S8192, .f32⟩
  | 5 => ⟨S8192x1, .f32⟩
  | 6 => ⟨S8192x128, .f32⟩
  | 7 => ⟨S_, .f32⟩
  | 8 => ⟨S_, .f32⟩
  | 9 => ⟨S8192x128, .f32⟩
  | 10 => ⟨S_, .f32⟩
  | 11 => ⟨S2x128, .f32⟩
  | 12 => ⟨S8190x128, .f32⟩
  | 13 => ⟨S8192x128, .f32⟩
  | 14 => ⟨S_, .f32⟩
  | 15 => ⟨S2x128, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x128, .f32⟩
  | 23 => ⟨S8192x128, .f32⟩
  | 24 => ⟨S8192x128, .f32⟩
  | 25 => ⟨S8192x128, .f32⟩
  | 26 => ⟨S8192x128, .f32⟩
  | 27 => ⟨S_, .f32⟩
  | 28 => ⟨S_, .f32⟩
  | 29 => ⟨S8192x128, .f32⟩
  | 30 => ⟨S_, .f32⟩
  | 31 => ⟨S4x128, .f32⟩
  | 32 => ⟨S8188x128, .f32⟩
  | 33 => ⟨S8192x128, .f32⟩
  | 34 => ⟨S_, .f32⟩
  | 35 => ⟨S4x128, .f32⟩
  | 36 => ⟨S_, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x128, .f32⟩
  | 43 => ⟨S8192x128, .f32⟩
  | 44 => ⟨S8192x128, .f32⟩
  | 45 => ⟨S8192x128, .f32⟩
  | 46 => ⟨S8192x128, .f32⟩
  | 47 => ⟨S_, .f32⟩
  | 48 => ⟨S_, .f32⟩
  | 49 => ⟨S8192x128, .f32⟩
  | 50 => ⟨S_, .f32⟩
  | 51 => ⟨S8x128, .f32⟩
  | 52 => ⟨S8184x128, .f32⟩
  | 53 => ⟨S8192x128, .f32⟩
  | 54 => ⟨S_, .f32⟩
  | 55 => ⟨S8x128, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x128, .f32⟩
  | 63 => ⟨S8192x128, .f32⟩
  | 64 => ⟨S8192x128, .f32⟩
  | 65 => ⟨S8192x128, .f32⟩
  | 66 => ⟨S8192x128, .f32⟩
  | 67 => ⟨S_, .f32⟩
  | 68 => ⟨S_, .f32⟩
  | 69 => ⟨S8192x128, .f32⟩
  | 70 => ⟨S_, .f32⟩
  | 71 => ⟨S16x128, .f32⟩
  | 72 => ⟨S8176x128, .f32⟩
  | 73 => ⟨S8192x128, .f32⟩
  | 74 => ⟨S_, .f32⟩
  | 75 => ⟨S16x128, .f32⟩
  | 76 => ⟨S_, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x128, .f32⟩
  | 83 => ⟨S8192x128, .f32⟩
  | 84 => ⟨S8192x128, .f32⟩
  | 85 => ⟨S8192x128, .f32⟩
  | 86 => ⟨S1x128x128, .f32⟩
  | 87 => ⟨S128x128, .f32⟩
  | 88 => ⟨S8192x128, .f32⟩
  | 89 => ⟨S1x128x128, .f32⟩
  | 90 => ⟨S128x128, .f32⟩
  | 91 => ⟨S8192x128, .f32⟩
  | 92 => ⟨S1x128x128, .f32⟩
  | 93 => ⟨S128x128, .f32⟩
  | 94 => ⟨S8192x128, .f32⟩
  | 95 => ⟨S1x128x128, .f32⟩
  | 96 => ⟨S128x128, .f32⟩
  | 97 => ⟨S8192x128, .f32⟩
  | 98 => ⟨S8192x512, .f32⟩
  | 99 => ⟨S1x512, .f32⟩
  | 100 => ⟨S8192x512, .f32⟩
  | 101 => ⟨S8192x512, .f32⟩
  | 102 => ⟨S8192x512, .f32⟩
  | 103 => ⟨S_, .f32⟩
  | 104 => ⟨S512, .f32⟩
  | 105 => ⟨S1x512, .f32⟩
  | 106 => ⟨S8192x512, .f32⟩
  | 107 => ⟨S8192x512, .f32⟩
  | 108 => ⟨S_, .f32⟩
  | 109 => ⟨S512, .f32⟩
  | 110 => ⟨S8192x128, .f32⟩
  | 111 => ⟨S8192x128, .f32⟩
  | 112 => ⟨S8192x128, .f32⟩
  | 113 => ⟨S8192x128, .f32⟩
  | 114 => ⟨S128x128, .f32⟩
  | 115 => ⟨S128x128, .f32⟩
  | 116 => ⟨S8192x128, .f32⟩
  | 117 => ⟨S1x128x128, .f32⟩
  | 118 => ⟨S_, .f32⟩
  | 119 => ⟨S4x128x128, .f32⟩
  | 120 => ⟨S128x128, .f32⟩
  | 121 => ⟨S128x128, .f32⟩
  | 122 => ⟨S8192x128, .f32⟩
  | 123 => ⟨S1x128x128, .f32⟩
  | 124 => ⟨S_, .f32⟩
  | 125 => ⟨S4x128x128, .f32⟩
  | 126 => ⟨S4x128x128, .f32⟩
  | 127 => ⟨S128x128, .f32⟩
  | _ => ⟨S8192x512, .f32⟩

abbrev hbmTy0_1 (i : Nat) : BufTy := match i % 128 with
  | 0 => ⟨S128x128, .f32⟩
  | 1 => ⟨S8192x128, .f32⟩
  | 2 => ⟨S1x128x128, .f32⟩
  | 3 => ⟨S_, .f32⟩
  | 4 => ⟨S4x128x128, .f32⟩
  | 5 => ⟨S4x128x128, .f32⟩
  | 6 => ⟨S128x128, .f32⟩
  | 7 => ⟨S128x128, .f32⟩
  | 8 => ⟨S8192x128, .f32⟩
  | 9 => ⟨S1x128x128, .f32⟩
  | 10 => ⟨S_, .f32⟩
  | 11 => ⟨S4x128x128, .f32⟩
  | 12 => ⟨S4x128x128, .f32⟩
  | 13 => ⟨S8192x128, .f32⟩
  | 14 => ⟨S8192x128, .f32⟩
  | 15 => ⟨S8192x128, .f32⟩
  | 16 => ⟨S8192x128, .f32⟩
  | 17 => ⟨S16x128, .f32⟩
  | 18 => ⟨S8176x128, .f32⟩
  | 19 => ⟨S_, .f32⟩
  | 20 => ⟨S8192x128, .f32⟩
  | 21 => ⟨S8192x128, .f32⟩
  | 22 => ⟨S_, .f32⟩
  | 23 => ⟨S_, .f32⟩
  | 24 => ⟨S8192x128, .f32⟩
  | 25 => ⟨S8192x128, .f32⟩
  | 26 => ⟨S_, .f32⟩
  | 27 => ⟨S8192x512, .f32⟩
  | 28 => ⟨S8192x128, .f32⟩
  | 29 => ⟨S8192x128, .f32⟩
  | 30 => ⟨S8192x128, .f32⟩
  | 31 => ⟨S8192x128, .f32⟩
  | 32 => ⟨S8x128, .f32⟩
  | 33 => ⟨S8184x128, .f32⟩
  | 34 => ⟨S_, .f32⟩
  | 35 => ⟨S8192x128, .f32⟩
  | 36 => ⟨S8192x128, .f32⟩
  | 37 => ⟨S_, .f32⟩
  | 38 => ⟨S_, .f32⟩
  | 39 => ⟨S8192x128, .f32⟩
  | 40 => ⟨S8192x128, .f32⟩
  | 41 => ⟨S_, .f32⟩
  | 42 => ⟨S8192x512, .f32⟩
  | 43 => ⟨S8192x512, .f32⟩
  | 44 => ⟨S8192x128, .f32⟩
  | 45 => ⟨S8192x128, .f32⟩
  | 46 => ⟨S8192x128, .f32⟩
  | 47 => ⟨S8192x128, .f32⟩
  | 48 => ⟨S4x128, .f32⟩
  | 49 => ⟨S8188x128, .f32⟩
  | 50 => ⟨S_, .f32⟩
  | 51 => ⟨S8192x128, .f32⟩
  | 52 => ⟨S8192x128, .f32⟩
  | 53 => ⟨S_, .f32⟩
  | 54 => ⟨S_, .f32⟩
  | 55 => ⟨S8192x128, .f32⟩
  | 56 => ⟨S8192x128, .f32⟩
  | 57 => ⟨S_, .f32⟩
  | 58 => ⟨S8192x512, .f32⟩
  | 59 => ⟨S8192x512, .f32⟩
  | 60 => ⟨S8192x128, .f32⟩
  | 61 => ⟨S8192x128, .f32⟩
  | 62 => ⟨S8192x128, .f32⟩
  | 63 => ⟨S8192x128, .f32⟩
  | 64 => ⟨S2x128, .f32⟩
  | 65 => ⟨S8190x128, .f32⟩
  | 66 => ⟨S_, .f32⟩
  | 67 => ⟨S8192x128, .f32⟩
  | 68 => ⟨S8192x128, .f32⟩
  | 69 => ⟨S_, .f32⟩
  | 70 => ⟨S_, .f32⟩
  | 71 => ⟨S8192x128, .f32⟩
  | 72 => ⟨S8192x128, .f32⟩
  | 73 => ⟨S_, .f32⟩
  | 74 => ⟨S8192x512, .f32⟩
  | 75 => ⟨S8192x512, .f32⟩
  | 76 => ⟨S1x512, .f32⟩
  | 77 => ⟨S_, .f32⟩
  | 78 => ⟨S7x512, .f32⟩
  | 79 => ⟨S8x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_call0_cst : Ref sig .tc := ⟨.hbm, 7, rfl⟩
abbrev main_call0_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_call0_cst : Ref sig .tc := ⟨.hbm, 27, rfl⟩
abbrev main_call1_call0_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call2_call0_cst : Ref sig .tc := ⟨.hbm, 47, rfl⟩
abbrev main_call2_call0_v0 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call3_call0_cst : Ref sig .tc := ⟨.hbm, 67, rfl⟩
abbrev main_call3_call0_v0 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_12 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_19 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_20 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_21 : Ref sig .tc := ⟨.hbm, 147, rfl⟩
abbrev main_v113 : Ref sig .tc := ⟨.hbm, 148, rfl⟩
abbrev main_v114 : Ref sig .tc := ⟨.hbm, 149, rfl⟩
abbrev main_call4_call0_cst : Ref sig .tc := ⟨.hbm, 150, rfl⟩
abbrev main_call4_call0_v0 : Ref sig .tc := ⟨.hbm, 151, rfl⟩
abbrev main_v115 : Ref sig .tc := ⟨.hbm, 152, rfl⟩
abbrev main_v116 : Ref sig .tc := ⟨.hbm, 153, rfl⟩
abbrev main_cst_22 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_23 : Ref sig .tc := ⟨.hbm, 162, rfl⟩
abbrev main_v124 : Ref sig .tc := ⟨.hbm, 163, rfl⟩
abbrev main_v125 : Ref sig .tc := ⟨.hbm, 164, rfl⟩
abbrev main_call5_call0_cst : Ref sig .tc := ⟨.hbm, 165, rfl⟩
abbrev main_call5_call0_v0 : Ref sig .tc := ⟨.hbm, 166, rfl⟩
abbrev main_v126 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_cst_25 : Ref sig .tc := ⟨.hbm, 178, rfl⟩
abbrev main_v136 : Ref sig .tc := ⟨.hbm, 179, rfl⟩
abbrev main_v137 : Ref sig .tc := ⟨.hbm, 180, rfl⟩
abbrev main_call6_call0_cst : Ref sig .tc := ⟨.hbm, 181, rfl⟩
abbrev main_call6_call0_v0 : Ref sig .tc := ⟨.hbm, 182, rfl⟩
abbrev main_v138 : Ref sig .tc := ⟨.hbm, 183, rfl⟩
abbrev main_v139 : Ref sig .tc := ⟨.hbm, 184, rfl⟩
abbrev main_cst_26 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_27 : Ref sig .tc := ⟨.hbm, 194, rfl⟩
abbrev main_v148 : Ref sig .tc := ⟨.hbm, 195, rfl⟩
abbrev main_v149 : Ref sig .tc := ⟨.hbm, 196, rfl⟩
abbrev main_call7_call0_cst : Ref sig .tc := ⟨.hbm, 197, rfl⟩
abbrev main_call7_call0_v0 : Ref sig .tc := ⟨.hbm, 198, rfl⟩
abbrev main_v150 : Ref sig .tc := ⟨.hbm, 199, rfl⟩
abbrev main_v151 : Ref sig .tc := ⟨.hbm, 200, rfl⟩
abbrev main_cst_28 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_29 : Ref sig .tc := ⟨.hbm, 205, rfl⟩
abbrev main_v155 : Ref sig .tc := ⟨.hbm, 206, rfl⟩
abbrev main_v156 : Ref sig .tc := ⟨.hbm, 207, rfl⟩

abbrev nD : Nat := 1
abbrev τ : Topo := Topo.v7x

variable {F : FTy → Type} [FloatOps F]
-- ==== WGate.lean ====
abbrev S8192x1024 : Shape := ⟨2, ![8192, 1024]⟩
abbrev S8192x2816 : Shape := ⟨2, ![8192, 2816]⟩
abbrev S2816x1024 : Shape := ⟨2, ![2816, 1024]⟩
abbrev S1408x1024 : Shape := ⟨2, ![1408, 1024]⟩
abbrev S3x2048x1408 : Shape := ⟨3, ![3, 2048, 1408]⟩
abbrev S3x2048x1024 : Shape := ⟨3, ![3, 2048, 1024]⟩
abbrev S2x3 : Shape := ⟨2, ![2, 3]⟩
abbrev S1x1 : Shape := ⟨2, ![1, 1]⟩
abbrev S_ : Shape := ⟨0, ![]⟩
abbrev S1x2048x1408 : Shape := ⟨3, ![1, 2048, 1408]⟩
abbrev S2048x1408 : Shape := ⟨2, ![2048, 1408]⟩
abbrev S1x2048x1024 : Shape := ⟨3, ![1, 2048, 1024]⟩
abbrev S2048x1024 : Shape := ⟨2, ![2048, 1024]⟩

abbrev nBuf : Space → Nat
  | .hbm => 5
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .bf16⟩
  | .hbm, ⟨3, _⟩ => ⟨S8192x1024, .bf16⟩
  | .hbm, ⟨4, _⟩ => ⟨S2816x1024, .f32⟩
  | .local _ .vmem, ⟨0, _⟩ => ⟨S1408x1024, .f32⟩
  | .local _ .vmem, ⟨1, _⟩ => ⟨S1408x1024, .f32⟩
  | .local _ .vmem, ⟨2, _⟩ => ⟨S3x2048x1408, .bf16⟩
  | .local _ .vmem, ⟨3, _⟩ => ⟨S3x2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c8_i32 : BitVec 32 := 8#32
  let v7 : BitVec 1 := Scalar.cmpi .slt v6 c8_i32
  let v8 : BitVec 32 := Scalar.extui v7
  let c0_i32_1 : BitVec 32 := 0#32
  let v9 : BitVec 1 := Scalar.cmpi .ne v8 c0_i32_1
  v9

def k0_off1 (i : grid0.Coords) : Fin 2 → Nat :=
  let c0_i32_66 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_43 : BitVec 32 := 3#32
  let v83 : BitVec 32 := Scalar.addi v1 c3_i32_43
  let c1_i32_44 : BitVec 32 := 1#32
  let v84 : BitVec 32 := Scalar.subi v83 c1_i32_44
  let c3_i32_45 : BitVec 32 := 3#32
  let c0_i32_46 : BitVec 32 := 0#32
  let v85 : BitVec 1 := Scalar.cmpi .eq c3_i32_45 c0_i32_46
  let c1_i32_47 : BitVec 32 := 1#32
  let v86 : BitVec 32 := Scalar.select v85 c1_i32_47 c3_i32_45
  let v87 : BitVec 32 := Scalar.remsi v84 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  ![0, v94.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_43 : BitVec 32 := 3#32
  let v83 : BitVec 32 := Scalar.addi v1 c3_i32_43
  let c1_i32_44 : BitVec 32 := 1#32
  let v84 : BitVec 32 := Scalar.subi v83 c1_i32_44
  let c3_i32_45 : BitVec 32 := 3#32
  let c0_i32_46 : BitVec 32 := 0#32
  let v85 : BitVec 1 := Scalar.cmpi .eq c3_i32_45 c0_i32_46
  let c1_i32_47 : BitVec 32 := 1#32
  let v86 : BitVec 32 := Scalar.select v85 c1_i32_47 c3_i32_45
  let v87 : BitVec 32 := Scalar.remsi v84 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  let c0_i32_67 : BitVec 32 := 0#32
  let c0_i32_68 : BitVec 32 := 0#32
  ![v94.toNat, 0, 0]
def k0_off3 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_43 : BitVec 32 := 3#32
  let v83 : BitVec 32 := Scalar.addi v1 c3_i32_43
  let c1_i32_44 : BitVec 32 := 1#32
  let v84 : BitVec 32 := Scalar.subi v83 c1_i32_44
  let c4_i32_51 : BitVec 32 := 4#32
  let c0_i32_52 : BitVec 32 := 0#32
  let v95 : BitVec 1 := Scalar.cmpi .eq c4_i32_51 c0_i32_52
  let c1_i32_53 : BitVec 32 := 1#32
  let v96 : BitVec 32 := Scalar.select v95 c1_i32_53 c4_i32_51
  let v97 : BitVec 32 := Scalar.remsi v84 v96
  let c0_i32_55 : BitVec 32 := 0#32
  let v99 : BitVec 1 := Scalar.cmpi .slt v97 c0_i32_55
  let c0_i32_56 : BitVec 32 := 0#32
  let v100 : BitVec 1 := Scalar.cmpi .slt v96 c0_i32_56
  let v101 : BitVec 1 := Scalar.xori v99 v100
  let c0_i32_54 : BitVec 32 := 0#32
  let v98 : BitVec 1 := Scalar.cmpi .ne v97 c0_i32_54
  let v102 : BitVec 1 := Scalar.andi v101 v98
  let v103 : BitVec 32 := Scalar.addi v97 v96
  let v104 : BitVec 32 := Scalar.select v102 v103 v97
  let c2048_i32_57 : BitVec 32 := 2048#32
  let v105 : BitVec 32 := Scalar.muli v104 c2048_i32_57
  let c0_i32_59 : BitVec 32 := 0#32
  let v107 : BitVec 1 := Scalar.cmpi .sgt v84 c0_i32_59
  let v108 : BitVec 32 := Scalar.extui v107
  let c0_i32_60 : BitVec 32 := 0#32
  let v109 : BitVec 1 := Scalar.cmpi .slt v84 c0_i32_60
  let v110 : BitVec 32 := Scalar.extui v109
  let v111 : BitVec 32 := Scalar.subi v108 v110
  let c4_i32_58 : BitVec 32 := 4#32
  let c0_i32_61 : BitVec 32 := 0#32
  let v112 : BitVec 1 := Scalar.cmpi .sgt c4_i32_58 c0_i32_61
  let v113 : BitVec 32 := Scalar.extui v112
  let c0_i32_62 : BitVec 32 := 0#32
  let v114 : BitVec 1 := Scalar.cmpi .slt c4_i32_58 c0_i32_62
  let v115 : BitVec 32 := Scalar.extui v114
  let v116 : BitVec 32 := Scalar.subi v113 v115
  let v117 : BitVec 1 := Scalar.cmpi .ne v111 v116
  let v118 : BitVec 32 := Scalar.remsi v84 c4_i32_58
  let c0_i32_63 : BitVec 32 := 0#32
  let v119 : BitVec 1 := Scalar.cmpi .ne v118 c0_i32_63
  let v120 : BitVec 1 := Scalar.andi v117 v119
  let v106 : BitVec 32 := Scalar.divsi v84 c4_i32_58
  let c1_i32_64 : BitVec 32 := 1#32
  let v121 : BitVec 32 := Scalar.subi v106 c1_i32_64
  let v122 : BitVec 32 := Scalar.select v120 v121 v106
  let c1408_i32_65 : BitVec 32 := 1408#32
  let v123 : BitVec 32 := Scalar.muli v122 c1408_i32_65
  ![v105.toNat, v123.toNat]
def k0_off4 (i : grid0.Coords) : Fin 2 → Nat :=
  let c1_i32_69 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_43 : BitVec 32 := 3#32
  let v83 : BitVec 32 := Scalar.addi v1 c3_i32_43
  let c1_i32_44 : BitVec 32 := 1#32
  let v84 : BitVec 32 := Scalar.subi v83 c1_i32_44
  let c3_i32_45 : BitVec 32 := 3#32
  let c0_i32_46 : BitVec 32 := 0#32
  let v85 : BitVec 1 := Scalar.cmpi .eq c3_i32_45 c0_i32_46
  let c1_i32_47 : BitVec 32 := 1#32
  let v86 : BitVec 32 := Scalar.select v85 c1_i32_47 c3_i32_45
  let v87 : BitVec 32 := Scalar.remsi v84 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  ![1, v94.toNat]
def k0_off5 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_43 : BitVec 32 := 3#32
  let v83 : BitVec 32 := Scalar.addi v1 c3_i32_43
  let c1_i32_44 : BitVec 32 := 1#32
  let v84 : BitVec 32 := Scalar.subi v83 c1_i32_44
  let c3_i32_45 : BitVec 32 := 3#32
  let c0_i32_46 : BitVec 32 := 0#32
  let v85 : BitVec 1 := Scalar.cmpi .eq c3_i32_45 c0_i32_46
  let c1_i32_47 : BitVec 32 := 1#32
  let v86 : BitVec 32 := Scalar.select v85 c1_i32_47 c3_i32_45
  let v87 : BitVec 32 := Scalar.remsi v84 v86
  let c0_i32_49 : BitVec 32 := 0#32
  let v89 : BitVec 1 := Scalar.cmpi .slt v87 c0_i32_49
  let c0_i32_50 : BitVec 32 := 0#32
  let v90 : BitVec 1 := Scalar.cmpi .slt v86 c0_i32_50
  let v91 : BitVec 1 := Scalar.xori v89 v90
  let c0_i32_48 : BitVec 32 := 0#32
  let v88 : BitVec 1 := Scalar.cmpi .ne v87 c0_i32_48
  let v92 : BitVec 1 := Scalar.andi v91 v88
  let v93 : BitVec 32 := Scalar.addi v87 v86
  let v94 : BitVec 32 := Scalar.select v92 v93 v87
  let c0_i32_70 : BitVec 32 := 0#32
  let c0_i32_71 : BitVec 32 := 0#32
  ![v94.toNat, 0, 0]
def k0_off6 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_43 : BitVec 32 := 3#32
  let v83 : BitVec 32 := Scalar.addi v1 c3_i32_43
  let c1_i32_44 : BitVec 32 := 1#32
  let v84 : BitVec 32 := Scalar.subi v83 c1_i32_44
  let c4_i32_51 : BitVec 32 := 4#32
  let c0_i32_52 : BitVec 32 := 0#32
  let v95 : BitVec 1 := Scalar.cmpi .eq c4_i32_51 c0_i32_52
  let c1_i32_53 : BitVec 32 := 1#32
  let v96 : BitVec 32 := Scalar.select v95 c1_i32_53 c4_i32_51
  let v97 : BitVec 32 := Scalar.remsi v84 v96
  let c0_i32_55 : BitVec 32 := 0#32
  let v99 : BitVec 1 := Scalar.cmpi .slt v97 c0_i32_55
  let c0_i32_56 : BitVec 32 := 0#32
  let v100 : BitVec 1 := Scalar.cmpi .slt v96 c0_i32_56
  let v101 : BitVec 1 := Scalar.xori v99 v100
  let c0_i32_54 : BitVec 32 := 0#32
  let v98 : BitVec 1 := Scalar.cmpi .ne v97 c0_i32_54
  let v102 : BitVec 1 := Scalar.andi v101 v98
  let v103 : BitVec 32 := Scalar.addi v97 v96
  let v104 : BitVec 32 := Scalar.select v102 v103 v97
  let c2048_i32_57 : BitVec 32 := 2048#32
  let v105 : BitVec 32 := Scalar.muli v104 c2048_i32_57
  let c0_i32_72 : BitVec 32 := 0#32
  ![v105.toNat, 0]
def k0_off7 (i : grid0.Coords) : Fin 2 → Nat :=
  let c0_i32_21 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![0, v19.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_22 : BitVec 32 := 0#32
  let c0_i32_23 : BitVec 32 := 0#32
  ![v19.toNat, 0, 0]
def k0_off9 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c2048_i32 : BitVec 32 := 2048#32
  let v30 : BitVec 32 := Scalar.muli v29 c2048_i32
  let c0_i32_15 : BitVec 32 := 0#32
  let v32 : BitVec 1 := Scalar.cmpi .sgt v1 c0_i32_15
  let v33 : BitVec 32 := Scalar.extui v32
  let c0_i32_16 : BitVec 32 := 0#32
  let v34 : BitVec 1 := Scalar.cmpi .slt v1 c0_i32_16
  let v35 : BitVec 32 := Scalar.extui v34
  let v36 : BitVec 32 := Scalar.subi v33 v35
  let c4_i32_14 : BitVec 32 := 4#32
  let c0_i32_17 : BitVec 32 := 0#32
  let v37 : BitVec 1 := Scalar.cmpi .sgt c4_i32_14 c0_i32_17
  let v38 : BitVec 32 := Scalar.extui v37
  let c0_i32_18 : BitVec 32 := 0#32
  let v39 : BitVec 1 := Scalar.cmpi .slt c4_i32_14 c0_i32_18
  let v40 : BitVec 32 := Scalar.extui v39
  let v41 : BitVec 32 := Scalar.subi v38 v40
  let v42 : BitVec 1 := Scalar.cmpi .ne v36 v41
  let v43 : BitVec 32 := Scalar.remsi v1 c4_i32_14
  let c0_i32_19 : BitVec 32 := 0#32
  let v44 : BitVec 1 := Scalar.cmpi .ne v43 c0_i32_19
  let v45 : BitVec 1 := Scalar.andi v42 v44
  let v31 : BitVec 32 := Scalar.divsi v1 c4_i32_14
  let c1_i32_20 : BitVec 32 := 1#32
  let v46 : BitVec 32 := Scalar.subi v31 c1_i32_20
  let v47 : BitVec 32 := Scalar.select v45 v46 v31
  let c1408_i32 : BitVec 32 := 1408#32
  let v48 : BitVec 32 := Scalar.muli v47 c1408_i32
  ![v30.toNat, v48.toNat]
def k0_off10 (i : grid0.Coords) : Fin 2 → Nat :=
  let c1_i32_24 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![1, v19.toNat]
def k0_off11 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_25 : BitVec 32 := 0#32
  let c0_i32_26 : BitVec 32 := 0#32
  ![v19.toNat, 0, 0]
def k0_off12 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_8 : BitVec 32 := 4#32
  let c0_i32_9 : BitVec 32 := 0#32
  let v20 : BitVec 1 := Scalar.cmpi .eq c4_i32_8 c0_i32_9
  let c1_i32_10 : BitVec 32 := 1#32
  let v21 : BitVec 32 := Scalar.select v20 c1_i32_10 c4_i32_8
  let v22 : BitVec 32 := Scalar.remsi v1 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c2048_i32 : BitVec 32 := 2048#32
  let v30 : BitVec 32 := Scalar.muli v29 c2048_i32
  let c0_i32_27 : BitVec 32 := 0#32
  ![v30.toNat, 0]
def k0_off13 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_30 : BitVec 32 := 3#32
  let c0_i32_31 : BitVec 32 := 0#32
  let v62 : BitVec 1 := Scalar.cmpi .eq c3_i32_30 c0_i32_31
  let c1_i32_32 : BitVec 32 := 1#32
  let v63 : BitVec 32 := Scalar.select v62 c1_i32_32 c3_i32_30
  let v64 : BitVec 32 := Scalar.remsi v1 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let v74 : Index := Scalar.indexCast v71
  let c0_37 : Index := 0#32
  let c0_38 : Index := 0#32
  ![v74.toNat, 0, 0]
def k0_off14 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_30 : BitVec 32 := 3#32
  let c0_i32_31 : BitVec 32 := 0#32
  let v62 : BitVec 1 := Scalar.cmpi .eq c3_i32_30 c0_i32_31
  let c1_i32_32 : BitVec 32 := 1#32
  let v63 : BitVec 32 := Scalar.select v62 c1_i32_32 c3_i32_30
  let v64 : BitVec 32 := Scalar.remsi v1 v63
  let c0_i32_34 : BitVec 32 := 0#32
  let v66 : BitVec 1 := Scalar.cmpi .slt v64 c0_i32_34
  let c0_i32_35 : BitVec 32 := 0#32
  let v67 : BitVec 1 := Scalar.cmpi .slt v63 c0_i32_35
  let v68 : BitVec 1 := Scalar.xori v66 v67
  let c0_i32_33 : BitVec 32 := 0#32
  let v65 : BitVec 1 := Scalar.cmpi .ne v64 c0_i32_33
  let v69 : BitVec 1 := Scalar.andi v68 v65
  let v70 : BitVec 32 := Scalar.addi v64 v63
  let v71 : BitVec 32 := Scalar.select v69 v70 v64
  let v77 : Index := Scalar.indexCast v71
  let c0_39 : Index := 0#32
  let c0_40 : Index := 0#32
  ![v77.toNat, 0, 0]
def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]
-- ==== WGateRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ffn.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S6x1024 : Shape := ⟨2, ![6, 1024]⟩
abbrev S2x1024 : Shape := ⟨2, ![2, 1024]⟩
abbrev S8x1024 : Shape := ⟨2, ![8, 1024]⟩
abbrev S4x1024 : Shape := ⟨2, ![4, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩

abbrev nBuf : Space → Nat
  | .hbm => 89
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S_, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .bf16⟩
  | .hbm, ⟨56, _⟩ => ⟨S8192x2816, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x2816, .bf16⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S6x1024, .f32⟩
  | .hbm, ⟨68, _⟩ => ⟨S_, .f32⟩
  | .hbm, ⟨69, _⟩ => ⟨S2x1024, .f32⟩
  | .hbm, ⟨70, _⟩ => ⟨S8x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S4x1024, .f32⟩
  | .hbm, ⟨76, _⟩ => ⟨S_, .f32⟩
  | .hbm, ⟨77, _⟩ => ⟨S4x1024, .f32⟩
  | .hbm, ⟨78, _⟩ => ⟨S8x1024, .f32⟩
  | .hbm, ⟨79, _⟩ => ⟨S2816x1024, .f32⟩
  | .hbm, ⟨80, _⟩ => ⟨S2816x1024, .bf16⟩
  | .hbm, ⟨81, _⟩ => ⟨S2816x1024, .f32⟩
  | .hbm, ⟨82, _⟩ => ⟨S2816x1024, .bf16⟩
  | .hbm, ⟨83, _⟩ => ⟨S2816x1024, .bf16⟩
  | .hbm, ⟨84, _⟩ => ⟨S8192x1024, .f32⟩
  | .hbm, ⟨85, _⟩ => ⟨S8192x1024, .bf16⟩
  | .hbm, ⟨86, _⟩ => ⟨S8192x2816, .bf16⟩
  | .hbm, ⟨87, _⟩ => ⟨S8192x2816, .bf16⟩
  | .hbm, ⟨88, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S8x1024, .f32⟩
  | .local _ .vmem, ⟨12, _⟩ => ⟨S2816x1024, .bf16⟩
  | .local _ .vmem, ⟨13, _⟩ => ⟨S2816x1024, .bf16⟩
  | .local _ .vmem, ⟨14, _⟩ => ⟨S2816x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63_0 : Ref sig .tc := ⟨.hbm, 84, rfl⟩
abbrev main_v63_1 : Ref sig .tc := ⟨.hbm, 85, rfl⟩
abbrev main_v63_2 : Ref sig .tc := ⟨.hbm, 86, rfl⟩
abbrev main_v63_3 : Ref sig .tc := ⟨.hbm, 87, rfl⟩
abbrev main_v63_4 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnRefIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S5x1024 : Shape := ⟨2, ![5, 1024]⟩
abbrev S3x1024 : Shape := ⟨2, ![3, 1024]⟩
abbrev S8x1024 : Shape := ⟨2, ![8, 1024]⟩

abbrev nBuf : Space → Nat
  | .hbm => 175
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024x2816, .f32⟩
  | 7 => ⟨S1024x2816, .f32⟩
  | 8 => ⟨S2816x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192x1, .f32⟩
  | 19 => ⟨S8192x1, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S_, .f32⟩
  | 31 => ⟨S1024, .f32⟩
  | 32 => ⟨S1024, .f32⟩
  | 33 => ⟨S1x1024, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S8192x2816, .f32⟩
  | 40 => ⟨S8192x2816, .f32⟩
  | 41 => ⟨S8192x2816, .f32⟩
  | 42 => ⟨S8192x2816, .f32⟩
  | 43 => ⟨S_, .f32⟩
  | 44 => ⟨S8192x2816, .f32⟩
  | 45 => ⟨S8192x2816, .f32⟩
  | 46 => ⟨S_, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S8192x2816, .f32⟩
  | 53 => ⟨S8192x2816, .f32⟩
  | 54 => ⟨S8192x2816, .f32⟩
  | 55 => ⟨S8192x1024, .f32⟩
  | 56 => ⟨S8192x1024, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1024, .f32⟩
  | 72 => ⟨S8192x1024, .f32⟩
  | 73 => ⟨S1x1024, .f32⟩
  | 74 => ⟨S8192x1024, .f32⟩
  | 75 => ⟨S8192x1024, .f32⟩
  | 76 => ⟨S1x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S_, .f32⟩
  | 85 => ⟨S1024, .f32⟩
  | 86 => ⟨S1x1024, .f32⟩
  | 87 => ⟨S_, .f32⟩
  | 88 => ⟨S1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S8192x1024, .f32⟩
  | 95 => ⟨S_, .f32⟩
  | 96 => ⟨S1024, .f32⟩
  | 97 => ⟨S8192x1024, .f32⟩
  | 98 => ⟨S_, .f32⟩
  | 99 => ⟨S8192, .f32⟩
  | 100 => ⟨S8192x1, .f32⟩
  | 101 => ⟨S8192x1024, .f32⟩
  | 102 => ⟨S8192x1024, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x2816, .f32⟩
  | 120 => ⟨S8192x2816, .f32⟩
  | 121 => ⟨S8192x1024, .f32⟩
  | 122 => ⟨S8192x1024, .f32⟩
  | 123 => ⟨S8192x1024, .f32⟩
  | 124 => ⟨S_, .f32⟩
  | 125 => ⟨S1024, .f32⟩
  | 126 => ⟨S1x1024, .f32⟩
  | 127 => ⟨S_, .f32⟩
  | _ => ⟨S8192x1024, .f32⟩

abbrev hbmTy0_1 (i : Nat) : BufTy := match i % 128 with
  | 0 => ⟨S1024, .f32⟩
  | 1 => ⟨S8192x1024, .f32⟩
  | 2 => ⟨S_, .f32⟩
  | 3 => ⟨S1024, .f32⟩
  | 4 => ⟨S1x1024, .f32⟩
  | 5 => ⟨S8192x1024, .f32⟩
  | 6 => ⟨S8192x1024, .f32⟩
  | 7 => ⟨S_, .f32⟩
  | 8 => ⟨S1024, .f32⟩
  | 9 => ⟨S8192x1024, .f32⟩
  | 10 => ⟨S_, .f32⟩
  | 11 => ⟨S1024, .f32⟩
  | 12 => ⟨S1x1024, .f32⟩
  | 13 => ⟨S8192x1024, .f32⟩
  | 14 => ⟨S8192x1024, .f32⟩
  | 15 => ⟨S_, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1024, .bf16⟩
  | 36 => ⟨S8192x2816, .bf16⟩
  | 37 => ⟨S8192x2816, .bf16⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S5x1024, .f32⟩
  | 44 => ⟨S_, .f32⟩
  | 45 => ⟨S3x1024, .f32⟩
  | 46 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v26_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v26_1 : Ref sig .tc := ⟨.hbm, 52, rfl⟩
abbrev main_v26_0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_4 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_13 : Ref sig .tc := ⟨.hbm, 104, rfl⟩
abbrev main_v68 : Ref sig .tc := ⟨.hbm, 105, rfl⟩
abbrev main_v69 : Ref sig .tc := ⟨.hbm, 106, rfl⟩
abbrev main_cst_14 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_15 : Ref sig .tc := ⟨.hbm, 124, rfl⟩
abbrev main_v83 : Ref sig .tc := ⟨.hbm, 125, rfl⟩
abbrev main_v84 : Ref sig .tc := ⟨.hbm, 126, rfl⟩
abbrev main_cst_16 : Ref sig .tc := ⟨.hbm, 127, rfl⟩
abbrev main_v85 : Ref sig .tc := ⟨.hbm, 128, rfl⟩
abbrev main_v86 : Ref sig .tc := ⟨.hbm, 129, rfl⟩
abbrev main_cst_17 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_18 : Ref sig .tc := ⟨.hbm, 135, rfl⟩
abbrev main_v91 : Ref sig .tc := ⟨.hbm, 136, rfl⟩
abbrev main_v92 : Ref sig .tc := ⟨.hbm, 137, rfl⟩
abbrev main_cst_19 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_20 : Ref sig .tc := ⟨.hbm, 143, rfl⟩
abbrev main_v97 : Ref sig .tc := ⟨.hbm, 144, rfl⟩
abbrev main_v98 : Ref sig .tc := ⟨.hbm, 145, rfl⟩
abbrev main_cst_21 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_22 : Ref sig .tc := ⟨.hbm, 152, rfl⟩
abbrev main_v104 : Ref sig .tc := ⟨.hbm, 153, rfl⟩
abbrev main_v105 : Ref sig .tc := ⟨.hbm, 154, rfl⟩
abbrev main_cst_23 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_24 : Ref sig .tc := ⟨.hbm, 172, rfl⟩
abbrev main_v122 : Ref sig .tc := ⟨.hbm, 173, rfl⟩
abbrev main_v123 : Ref sig .tc := ⟨.hbm, 174, rfl⟩

abbrev nD : Nat := 1
abbrev τ : Topo := Topo.v7x

variable {F : FTy → Type} [FloatOps F]
-- ==== Fwd.lean ====
abbrev S8192x512 : Shape := ⟨2, ![8192, 512]⟩
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S6x1024 : Shape := ⟨2, ![6, 1024]⟩
abbrev S2x1024 : Shape := ⟨2, ![2, 1024]⟩
abbrev S8x1024 : Shape := ⟨2, ![8, 1024]⟩
abbrev S4x1024 : Shape := ⟨2, ![4, 1024]⟩
abbrev S8192x2816 : Shape := ⟨2, ![8192, 2816]⟩
abbrev S256x512 : Shape := ⟨2, ![256, 512]⟩
abbrev S256x1024 : Shape := ⟨2, ![256, 1024]⟩
abbrev S256x2816 : Shape := ⟨2, ![256, 2816]⟩
abbrev S512x1024 : Shape := ⟨2, ![512, 1024]⟩
abbrev S256 : Shape := ⟨1, ![256]⟩
abbrev S256x1 : Shape := ⟨2, ![256, 1]⟩
abbrev S768x1024 : Shape := ⟨2, ![768, 1024]⟩
abbrev S256x768 : Shape := ⟨2, ![256, 768]⟩

abbrev nBuf : Space → Nat
  | .hbm => 50
  | .vmem => 28
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S_, .f32⟩
  | .hbm, ⟨15, _⟩ => ⟨S1024, .f32⟩
  | .hbm, ⟨16, _⟩ => ⟨S8192x512, .bf16⟩
  | .hbm, ⟨17, _⟩ => ⟨S8192x512, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S6x1024, .f32⟩
  | .hbm, ⟨26, _⟩ => ⟨S_, .f32⟩
  | .hbm, ⟨27, _⟩ => ⟨S2x1024, .f32⟩
  | .hbm, ⟨28, _⟩ => ⟨S8x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S8x1024, .f32⟩
  | .hbm, ⟨37, _⟩ => ⟨S2816x1024, .f32⟩
  | .hbm, ⟨38, _⟩ => ⟨S2816x1024, .bf16⟩
  | .hbm, ⟨39, _⟩ => ⟨S2816x1024, .f32⟩
  | .hbm, ⟨40, _⟩ => ⟨S2816x1024, .bf16⟩
  | .hbm, ⟨41, _⟩ => ⟨S2816x1024, .bf16⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x2816, .bf16⟩
  | .hbm, ⟨46, _⟩ => ⟨S8192x2816, .bf16⟩
  | .hbm, ⟨47, _⟩ => ⟨S8192x2816, .bf16⟩
  | .hbm, ⟨48, _⟩ => ⟨S8192x1024, .f32⟩
  | .hbm, ⟨49, _⟩ => ⟨S8192x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S8x1024, .f32⟩
  | .local _ .vmem, ⟨8, _⟩ => ⟨S8x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25_0 : Ref sig .tc := ⟨.hbm, 42, rfl⟩
abbrev main_v25_1 : Ref sig .tc := ⟨.hbm, 43, rfl⟩
abbrev main_v25_2 : Ref sig .tc := ⟨.hbm, 44, rfl⟩
abbrev main_v25_3 : Ref sig .tc := ⟨.hbm, 45, rfl⟩
abbrev main_v25_4 : Ref sig .tc := ⟨.hbm, 46, rfl⟩
abbrev main_v25_5 : Ref sig .tc := ⟨.hbm, 47, rfl⟩
abbrev main_v25_6 : Ref sig .tc := ⟨.hbm, 48, rfl⟩
abbrev main_v25_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FwdRefIdeal.lean ====
abbrev S8192x512 : Shape := ⟨2, ![8192, 512]⟩
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 106
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S_, .f32⟩
  | .hbm, ⟨66, _⟩ => ⟨S8192x2816, .f32⟩
  | .hbm, ⟨67, _⟩ => ⟨S8192x2816, .f32⟩
  | .hbm, ⟨68, _⟩ => ⟨S_, .f32⟩
  | .hbm, ⟨69, _⟩ => ⟨S8192x2816, .f32⟩
  | .hbm, ⟨70, _⟩ => ⟨S8192x2816, .f32⟩
  | .hbm, ⟨71, _⟩ => ⟨S_, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S8192x1024, .f32⟩
  | .hbm, ⟨78, _⟩ => ⟨S8192x1024, .bf16⟩
  | .hbm, ⟨79, _⟩ => ⟨S8192x2816, .bf16⟩
  | .hbm, ⟨80, _⟩ => ⟨S8192x2816, .f32⟩
  | .hbm, ⟨81, _⟩ => ⟨S8192x2816, .f32⟩
  | .hbm, ⟨82, _⟩ => ⟨S8192x2816, .f32⟩
  | .hbm, ⟨83, _⟩ => ⟨S8192x2816, .f32⟩
  | .hbm, ⟨84, _⟩ => ⟨S8192x2816, .bf16⟩
  | .hbm, ⟨85, _⟩ => ⟨S8192x2816, .bf16⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S8192x1, .f32⟩
  | .hbm, ⟨97, _⟩ => ⟨S8192x1024, .f32⟩
  | .hbm, ⟨98, _⟩ => ⟨S8192x1024, .f32⟩
  | .hbm, ⟨99, _⟩ => ⟨S1x1024, .f32⟩
  | .hbm, ⟨100, _⟩ => ⟨S8192x1024, .f32⟩
  | .hbm, ⟨101, _⟩ => ⟨S8192x1024, .f32⟩
  | .hbm, ⟨102, _⟩ => ⟨S1x1024, .f32⟩
  | .hbm, ⟨103, _⟩ => ⟨S8192x1024, .f32⟩
  | .hbm, ⟨104, _⟩ => ⟨S8192x1024, .f32⟩
  | .hbm, ⟨105, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v42_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v42_1 : Ref sig .tc := ⟨.hbm, 74, rfl⟩
abbrev main_v42_0 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_6 : Ref sig .tc := ⟨.hbm, 87, rfl⟩
abbrev main_v51 : Ref sig .tc := ⟨.hbm, 88, rfl⟩
abbrev main_v52 : Ref sig .tc := ⟨.hbm, 89, rfl⟩
abbrev main_cst_7 : Ref sig .tc := ⟨.hbm, 90, rfl⟩
abbrev main_v53 : Ref sig .tc := ⟨.hbm, 91, rfl⟩
abbrev main_v54 : Ref sig .tc := ⟨.hbm, 92, rfl⟩
abbrev main_cst_8 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩

abbrev nD : Nat := 1
abbrev τ : Topo := Topo.v7x

variable {F : FTy → Type} [FloatOps F]
-- ==== Loss.lean ====
abbrev S8192x512 : Shape := ⟨2, ![8192, 512]⟩
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S6x1024 : Shape := ⟨2, ![6, 1024]⟩
abbrev S2x1024 : Shape := ⟨2, ![2, 1024]⟩
abbrev S8x1024 : Shape := ⟨2, ![8, 1024]⟩
abbrev S4x1024 : Shape := ⟨2, ![4, 1024]⟩
abbrev S8192x2816 : Shape := ⟨2, ![8192, 2816]⟩
abbrev S8x128 : Shape := ⟨2, ![8, 128]⟩
abbrev S256x512 : Shape := ⟨2, ![256, 512]⟩
abbrev S256x1024 : Shape := ⟨2, ![256, 1024]⟩
abbrev S256x2816 : Shape := ⟨2, ![256, 2816]⟩
abbrev S512x1024 : Shape := ⟨2, ![512, 1024]⟩
abbrev S256 : Shape := ⟨1, ![256]⟩
abbrev S256x1 : Shape := ⟨2, ![256, 1]⟩
abbrev S768x1024 : Shape := ⟨2, ![768, 1024]⟩
abbrev S256x768 : Shape := ⟨2, ![256, 768]⟩
abbrev S1 : Shape := ⟨1, ![1]⟩
abbrev S1x1 : Shape := ⟨2, ![1, 1]⟩

abbrev nBuf : Space → Nat
  | .hbm => 52
  | .vmem => 31
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S8192x1024, .f32⟩
  | .hbm, ⟨15, _⟩ => ⟨S_, .f32⟩
  | .hbm, ⟨16, _⟩ => ⟨S1024, .f32⟩
  | .hbm, ⟨17, _⟩ => ⟨S8192x512, .bf16⟩
  | .hbm, ⟨18, _⟩ => ⟨S8192x512, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S6x1024, .f32⟩
  | .hbm, ⟨27, _⟩ => ⟨S_, .f32⟩
  | .hbm, ⟨28, _⟩ => ⟨S2x1024, .f32⟩
  | .hbm, ⟨29, _⟩ => ⟨S8x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S4x1024, .f32⟩
  | .hbm, ⟨35, _⟩ => ⟨S_, .f32⟩
  | .hbm, ⟨36, _⟩ => ⟨S4x1024, .f32⟩
  | .hbm, ⟨37, _⟩ => ⟨S8x1024, .f32⟩
  | .hbm, ⟨38, _⟩ => ⟨S2816x1024, .f32⟩
  | .hbm, ⟨39, _⟩ => ⟨S2816x1024, .bf16⟩
  | .hbm, ⟨40, _⟩ => ⟨S2816x1024, .f32⟩
  | .hbm, ⟨41, _⟩ => ⟨S2816x1024, .bf16⟩
  | .hbm, ⟨42, _⟩ => ⟨S2816x1024, .bf16⟩
  | .hbm, ⟨43, _⟩ => ⟨S8192x1024, .f32⟩
  | .hbm, ⟨44, _⟩ => ⟨S8192x1024, .f32⟩
  | .hbm, ⟨45, _⟩ => ⟨S8192x1024, .bf16⟩
  | .hbm, ⟨46, _⟩ => ⟨S8192x2816, .bf16⟩
  | .hbm, ⟨47, _⟩ => ⟨S8192x2816, .bf16⟩
  | .hbm, ⟨48, _⟩ => ⟨S8192x2816, .bf16⟩
  | .hbm, ⟨49, _⟩ => ⟨S8192x1024, .f32⟩
  | .hbm, ⟨50, _⟩ => ⟨S8192x1024, .f32⟩
  | .hbm, ⟨51, _⟩ => ⟨S8x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S8x1024, .f32⟩
  | .local _ .vmem, ⟨8, _⟩ => ⟨S8x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S256x2816, .bf16⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_v25_2 : Ref sig .tc := ⟨.hbm, 45, rfl⟩
abbrev main_v25_3 : Ref sig .tc := ⟨.hbm, 46, rfl⟩
abbrev main_v25_4 : Ref sig .tc := ⟨.hbm, 47, rfl⟩
abbrev main_v25_5 : Ref sig .tc := ⟨.hbm, 48, rfl⟩
abbrev main_v25_6 : Ref sig .tc := ⟨.hbm, 49, rfl⟩
abbrev main_v25_7 : Ref sig .tc := ⟨.hbm, 50, rfl⟩
abbrev main_v25_8 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2816 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== LossRefIdeal.lean ====
abbrev S8192x512 : Shape := ⟨2, ![8192, 512]⟩
abbrev S8192x1024 : Shape := ⟨2, ![8192, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x128 : Shape := ⟨2, ![8, 128]⟩

abbrev nBuf : Space → Nat
  | .hbm => 131
  | .vmem => 0
  | .smem => 0
  | _ => 0

abbrev hbmTy0_0 (i : Nat) : BufTy := match i % 128 with
  | 0 => ⟨S8192x512, .f32⟩
  | 1 => ⟨S8192x512, .f32⟩
  | 2 => ⟨S8192x1024, .f32⟩
  | 3 => ⟨S1024x1024, .f32⟩
  | 4 => ⟨S1024, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024x2816, .f32⟩
  | 12 => ⟨S1024x2816, .f32⟩
  | 13 => ⟨S2816x1024, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S8192, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S_, .f32⟩
  | 54 => ⟨S1024, .f32⟩
  | 55 => ⟨S1024, .f32⟩
  | 56 => ⟨S1x1024, .f32⟩
  | 57 => ⟨S8192x1024, .f32⟩
  | 58 => ⟨S8192x1024, .f32⟩
  | 59 => ⟨S1x1024, .f32⟩
  | 60 => ⟨S8192x1024, .f32⟩
  | 61 => ⟨S8192x1024, .f32⟩
  | 62 => ⟨S8192x2816, .f32⟩
  | 63 => ⟨S8192x2816, .f32⟩
  | 64 => ⟨S8192x2816, .f32⟩
  | 65 => ⟨S8192x2816, .f32⟩
  | 66 => ⟨S_, .f32⟩
  | 67 => ⟨S8192x2816, .f32⟩
  | 68 => ⟨S8192x2816, .f32⟩
  | 69 => ⟨S_, .f32⟩
  | 70 => ⟨S8192x2816, .f32⟩
  | 71 => ⟨S8192x2816, .f32⟩
  | 72 => ⟨S_, .f32⟩
  | 73 => ⟨S8192x2816, .f32⟩
  | 74 => ⟨S8192x2816, .f32⟩
  | 75 => ⟨S8192x2816, .f32⟩
  | 76 => ⟨S8192x2816, .f32⟩
  | 77 => ⟨S8192x2816, .f32⟩
  | 78 => ⟨S8192x1024, .f32⟩
  | 79 => ⟨S8192x1024, .bf16⟩
  | 80 => ⟨S8192x2816, .bf16⟩
  | 81 => ⟨S8192x2816, .f32⟩
  | 82 => ⟨S8192x2816, .f32⟩
  | 83 => ⟨S8192x2816, .f32⟩
  | 84 => ⟨S8192x2816, .f32⟩
  | 85 => ⟨S8192x2816, .bf16⟩
  | 86 => ⟨S8192x2816, .bf16⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S1x1024, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S_, .f32⟩
  | 110 => ⟨S8192x1024, .f32⟩
  | 111 => ⟨S8192x1024, .f32⟩
  | 112 => ⟨S_, .f32⟩
  | 113 => ⟨S8192, .f32⟩
  | 114 => ⟨S_, .f32⟩
  | 115 => ⟨S8192, .f32⟩
  | 116 => ⟨S8192, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S8192, .f32⟩
  | 125 => ⟨S_, .f32⟩
  | 126 => ⟨S8192, .f32⟩
  | 127 => ⟨S8192, .f32⟩
  | _ => ⟨S8192x512, .f32⟩

abbrev hbmTy0_1 (i : Nat) : BufTy := match i % 128 with
  | 0 => ⟨S8192x1024, .f32⟩
  | 1 => ⟨S8192x1024, .f32⟩
  | 2 => ⟨S8x128, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_v42_2 : Ref sig .tc := ⟨.hbm, 71, rfl⟩
abbrev main_call0_cst_1 : Ref sig .tc := ⟨.hbm, 72, rfl⟩
abbrev main_call0_v6 : Ref sig .tc := ⟨.hbm, 73, rfl⟩
abbrev main_call0_v7 : Ref sig .tc := ⟨.hbm, 74, rfl⟩
abbrev main_v42_1 : Ref sig .tc := ⟨.hbm, 75, rfl⟩
abbrev main_v42_0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_6 : Ref sig .tc := ⟨.hbm, 88, rfl⟩
abbrev main_v51 : Ref sig .tc := ⟨.hbm, 89, rfl⟩
abbrev main_v52 : Ref sig .tc := ⟨.hbm, 90, rfl⟩
abbrev main_cst_7 : Ref sig .tc := ⟨.hbm, 91, rfl⟩
abbrev main_v53 : Ref sig .tc := ⟨.hbm, 92, rfl⟩
abbrev main_v54 : Ref sig .tc := ⟨.hbm, 93, rfl⟩
abbrev main_cst_8 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_9 : Ref sig .tc := ⟨.hbm, 109, rfl⟩
abbrev main_v69 : Ref sig .tc := ⟨.hbm, 110, rfl⟩
abbrev main_v70 : Ref sig .tc := ⟨.hbm, 111, rfl⟩
abbrev main_cst_10 : Ref sig .tc := ⟨.hbm, 112, rfl⟩
abbrev main_v71 : Ref sig .tc := ⟨.hbm, 113, rfl⟩
abbrev main_cst_11 : Ref sig .tc := ⟨.hbm, 114, rfl⟩
abbrev main_v72 : Ref sig .tc := ⟨.hbm, 115, rfl⟩
abbrev main_v73 : Ref sig .tc := ⟨.hbm, 116, rfl⟩
abbrev main_cst_12 : Ref sig .tc := ⟨.hbm, 117, rfl⟩
abbrev main_v74 : Ref sig .tc := ⟨.hbm, 118, rfl⟩
abbrev main_cst_13 : Ref sig .tc := ⟨.hbm, 119, rfl⟩
abbrev main_v75 : Ref sig .tc := ⟨.hbm, 120, rfl⟩
abbrev main_cst_14 : Ref sig .tc := ⟨.hbm, 121, rfl⟩
abbrev main_cst_15 : Ref sig .tc := ⟨.hbm, 122, rfl⟩
abbrev main_v76 : Ref sig .tc := ⟨.hbm, 123, rfl⟩
abbrev main_v77 : Ref sig .tc := ⟨.hbm, 124, rfl⟩
abbrev main_cst_16 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩

abbrev nD : Nat := 1
abbrev τ : Topo := Topo.v7x

variable {F : FTy → Type} [FloatOps F]
-- ==== AdamAdaW.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWIdeal.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaWRefIdeal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamAdaB.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBIdeal.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAdaBRefIdeal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2x1024x320 : Shape := ⟨3, ![2, 1024, 320]⟩
abbrev S2x320x1024 : Shape := ⟨3, ![2, 320, 1024]⟩
abbrev S640x1024 : Shape := ⟨2, ![640, 1024]⟩
abbrev S128x1024 : Shape := ⟨2, ![128, 1024]⟩

abbrev nBuf : Space → Nat
  | .hbm => 15
  | .vmem => 14
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S2x1024x320, .f32⟩
  | .hbm, ⟨4, _⟩ => ⟨S2x320x1024, .f32⟩
  | .hbm, ⟨5, _⟩ => ⟨S2x320x1024, .f32⟩
  | .hbm, ⟨6, _⟩ => ⟨S2x320x1024, .f32⟩
  | .hbm, ⟨7, _⟩ => ⟨S2x320x1024, .f32⟩
  | .hbm, ⟨8, _⟩ => ⟨S640x1024, .f32⟩
  | .hbm, ⟨9, _⟩ => ⟨S640x1024, .f32⟩
  | .hbm, ⟨10, _⟩ => ⟨S640x1024, .f32⟩
  | .hbm, ⟨11, _⟩ => ⟨S640x1024, .f32⟩
  | .hbm, ⟨12, _⟩ => ⟨S640x1024, .f32⟩
  | .hbm, ⟨13, _⟩ => ⟨S640x1024, .f32⟩
  | .hbm, ⟨14, _⟩ => ⟨S640x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S2x1024x320 : Shape := ⟨3, ![2, 1024, 320]⟩
abbrev S2x320x1024 : Shape := ⟨3, ![2, 320, 1024]⟩
abbrev S640x1024 : Shape := ⟨2, ![640, 1024]⟩
abbrev S128x1024 : Shape := ⟨2, ![128, 1024]⟩

abbrev nBuf : Space → Nat
  | .hbm => 15
  | .vmem => 14
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S2x1024x320, .f32⟩
  | .hbm, ⟨4, _⟩ => ⟨S2x320x1024, .f32⟩
  | .hbm, ⟨5, _⟩ => ⟨S2x320x1024, .f32⟩
  | .hbm, ⟨6, _⟩ => ⟨S2x320x1024, .f32⟩
  | .hbm, ⟨7, _⟩ => ⟨S2x320x1024, .f32⟩
  | .hbm, ⟨8, _⟩ => ⟨S640x1024, .f32⟩
  | .hbm, ⟨9, _⟩ => ⟨S640x1024, .f32⟩
  | .hbm, ⟨10, _⟩ => ⟨S640x1024, .f32⟩
  | .hbm, ⟨11, _⟩ => ⟨S640x1024, .f32⟩
  | .hbm, ⟨12, _⟩ => ⟨S640x1024, .f32⟩
  | .hbm, ⟨13, _⟩ => ⟨S640x1024, .f32⟩
  | .hbm, ⟨14, _⟩ => ⟨S640x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S2x1024x320 : Shape := ⟨3, ![2, 1024, 320]⟩
abbrev S_ : Shape := ⟨0, ![]⟩
abbrev S2x320x1024 : Shape := ⟨3, ![2, 320, 1024]⟩
abbrev S640x1024 : Shape := ⟨2, ![640, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x320, .f32⟩
  | .hbm, ⟨1, _⟩ => ⟨S2x1024x320, .f32⟩
  | .hbm, ⟨2, _⟩ => ⟨S2x1024x320, .f32⟩
  | .hbm, ⟨3, _⟩ => ⟨S2x1024x320, .f32⟩
  | .hbm, ⟨4, _⟩ => ⟨S_, .f32⟩
  | .hbm, ⟨5, _⟩ => ⟨S2x1024x320, .f32⟩
  | .hbm, ⟨6, _⟩ => ⟨S2x1024x320, .f32⟩
  | .hbm, ⟨7, _⟩ => ⟨S_, .f32⟩
  | .hbm, ⟨8, _⟩ => ⟨S2x1024x320, .f32⟩
  | .hbm, ⟨9, _⟩ => ⟨S2x1024x320, .f32⟩
  | .hbm, ⟨10, _⟩ => ⟨S2x1024x320, .f32⟩
  | .hbm, ⟨11, _⟩ => ⟨S_, .f32⟩
  | .hbm, ⟨12, _⟩ => ⟨S2x1024x320, .f32⟩
  | .hbm, ⟨13, _⟩ => ⟨S2x1024x320, .f32⟩
  | .hbm, ⟨14, _⟩ => ⟨S2x1024x320, .f32⟩
  | .hbm, ⟨15, _⟩ => ⟨S_, .f32⟩
  | .hbm, ⟨16, _⟩ => ⟨S2x1024x320, .f32⟩
  | .hbm, ⟨17, _⟩ => ⟨S2x1024x320, .f32⟩
  | .hbm, ⟨18, _⟩ => ⟨S2x1024x320, .f32⟩
  | .hbm, ⟨19, _⟩ => ⟨S_, .f32⟩
  | .hbm, ⟨20, _⟩ => ⟨S2x1024x320, .f32⟩
  | .hbm, ⟨21, _⟩ => ⟨S2x1024x320, .f32⟩
  | .hbm, ⟨22, _⟩ => ⟨S_, .f32⟩
  | .hbm, ⟨23, _⟩ => ⟨S2x1024x320, .f32⟩
  | .hbm, ⟨24, _⟩ => ⟨S2x1024x320, .f32⟩
  | .hbm, ⟨25, _⟩ => ⟨S2x1024x320, .f32⟩
  | .hbm, ⟨26, _⟩ => ⟨S_, .f32⟩
  | .hbm, ⟨27, _⟩ => ⟨S2x1024x320, .f32⟩
  | .hbm, ⟨28, _⟩ => ⟨S2x1024x320, .f32⟩
  | .hbm, ⟨29, _⟩ => ⟨S2x1024x320, .f32⟩
  | .hbm, ⟨30, _⟩ => ⟨S_, .f32⟩
  | .hbm, ⟨31, _⟩ => ⟨S2x1024x320, .f32⟩
  | .hbm, ⟨32, _⟩ => ⟨S2x1024x320, .f32⟩
  | .hbm, ⟨33, _⟩ => ⟨S2x1024x320, .f32⟩
  | .hbm, ⟨34, _⟩ => ⟨S_, .f32⟩
  | .hbm, ⟨35, _⟩ => ⟨S2x1024x320, .f32⟩
  | .hbm, ⟨36, _⟩ => ⟨S2x1024x320, .f32⟩
  | .hbm, ⟨37, _⟩ => ⟨S2x320x1024, .f32⟩
  | .hbm, ⟨38, _⟩ => ⟨S640x1024, .f32⟩
  | .hbm, ⟨39, _⟩ => ⟨S2x320x1024, .f32⟩
  | .hbm, ⟨40, _⟩ => ⟨S640x1024, .f32⟩
  | .hbm, ⟨41, _⟩ => ⟨S2x320x1024, .f32⟩
  | .hbm, ⟨42, _⟩ => ⟨S640x1024, .f32⟩
  | _, _ => ⟨S2x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdamBIn.lean ====
abbrev S2x1280 : Shape := ⟨2, ![2, 1280]⟩

abbrev nBuf : Space → Nat
  | .hbm => 7
  | .vmem => 7
  | .smem => 0
  | _ => 0

abbrev bufTy : (tb : Table) → Fin (tcTables nBuf tb) → BufTy
  | .hbm, ⟨0, _⟩ => ⟨S2x1280, .f32⟩
  | .hbm, ⟨1, _⟩ => ⟨S2x1280, .f32⟩
  | .hbm, ⟨2, _⟩ => ⟨S2x1280, .f32⟩
  | .hbm, ⟨3, _⟩ => ⟨S2x1280, .f32⟩
  | .hbm, ⟨4, _⟩ => ⟨S2x1280, .f32⟩
  | .hbm, ⟨5, _⟩ => ⟨S2x1280, .f32⟩
  | .hbm, ⟨6, _⟩ => ⟨S2x1280, .f32⟩
  | .local _ .vmem, ⟨0, _⟩ => ⟨S2x1280, .f32⟩
  | .local _ .vmem, ⟨1, _⟩ => ⟨S2x1280, .f32⟩
  | .local _ .vmem, ⟨2, _⟩ => ⟨S2x1280, .f32⟩
  | .local _ .vmem, ⟨3, _⟩ => ⟨S2x1280, .f32⟩
  | .local _ .vmem, ⟨4, _⟩ => ⟨S2x1280, .f32⟩
  | .local _ .vmem, ⟨5, _⟩ => ⟨S2x1280, .f32⟩
  | .local _ .vmem, ⟨6, _⟩ => ⟨S2x1280, .f32⟩
  | _, _ => ⟨S2x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBInIdeal.lean ====
abbrev S2x1280 : Shape := ⟨2, ![2, 1280]⟩

abbrev nBuf : Space → Nat
  | .hbm => 7
  | .vmem => 7
  | .smem => 0
  | _ => 0

abbrev bufTy : (tb : Table) → Fin (tcTables nBuf tb) → BufTy
  | .hbm, ⟨0, _⟩ => ⟨S2x1280, .f32⟩
  | .hbm, ⟨1, _⟩ => ⟨S2x1280, .f32⟩
  | .hbm, ⟨2, _⟩ => ⟨S2x1280, .f32⟩
  | .hbm, ⟨3, _⟩ => ⟨S2x1280, .f32⟩
  | .hbm, ⟨4, _⟩ => ⟨S2x1280, .f32⟩
  | .hbm, ⟨5, _⟩ => ⟨S2x1280, .f32⟩
  | .hbm, ⟨6, _⟩ => ⟨S2x1280, .f32⟩
  | .local _ .vmem, ⟨0, _⟩ => ⟨S2x1280, .f32⟩
  | .local _ .vmem, ⟨1, _⟩ => ⟨S2x1280, .f32⟩
  | .local _ .vmem, ⟨2, _⟩ => ⟨S2x1280, .f32⟩
  | .local _ .vmem, ⟨3, _⟩ => ⟨S2x1280, .f32⟩
  | .local _ .vmem, ⟨4, _⟩ => ⟨S2x1280, .f32⟩
  | .local _ .vmem, ⟨5, _⟩ => ⟨S2x1280, .f32⟩
  | .local _ .vmem, ⟨6, _⟩ => ⟨S2x1280, .f32⟩
  | _, _ => ⟨S2x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBInRefIdeal.lean ====
abbrev S2x1280 : Shape := ⟨2, ![2, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1280, .f32⟩
  | .hbm, ⟨1, _⟩ => ⟨S2x1280, .f32⟩
  | .hbm, ⟨2, _⟩ => ⟨S2x1280, .f32⟩
  | .hbm, ⟨3, _⟩ => ⟨S2x1280, .f32⟩
  | .hbm, ⟨4, _⟩ => ⟨S_, .f32⟩
  | .hbm, ⟨5, _⟩ => ⟨S2x1280, .f32⟩
  | .hbm, ⟨6, _⟩ => ⟨S2x1280, .f32⟩
  | .hbm, ⟨7, _⟩ => ⟨S_, .f32⟩
  | .hbm, ⟨8, _⟩ => ⟨S2x1280, .f32⟩
  | .hbm, ⟨9, _⟩ => ⟨S2x1280, .f32⟩
  | .hbm, ⟨10, _⟩ => ⟨S2x1280, .f32⟩
  | .hbm, ⟨11, _⟩ => ⟨S_, .f32⟩
  | .hbm, ⟨12, _⟩ => ⟨S2x1280, .f32⟩
  | .hbm, ⟨13, _⟩ => ⟨S2x1280, .f32⟩
  | .hbm, ⟨14, _⟩ => ⟨S2x1280, .f32⟩
  | .hbm, ⟨15, _⟩ => ⟨S_, .f32⟩
  | .hbm, ⟨16, _⟩ => ⟨S2x1280, .f32⟩
  | .hbm, ⟨17, _⟩ => ⟨S2x1280, .f32⟩
  | .hbm, ⟨18, _⟩ => ⟨S2x1280, .f32⟩
  | .hbm, ⟨19, _⟩ => ⟨S_, .f32⟩
  | .hbm, ⟨20, _⟩ => ⟨S2x1280, .f32⟩
  | .hbm, ⟨21, _⟩ => ⟨S2x1280, .f32⟩
  | .hbm, ⟨22, _⟩ => ⟨S_, .f32⟩
  | .hbm, ⟨23, _⟩ => ⟨S2x1280, .f32⟩
  | .hbm, ⟨24, _⟩ => ⟨S2x1280, .f32⟩
  | .hbm, ⟨25, _⟩ => ⟨S2x1280, .f32⟩
  | .hbm, ⟨26, _⟩ => ⟨S_, .f32⟩
  | .hbm, ⟨27, _⟩ => ⟨S2x1280, .f32⟩
  | .hbm, ⟨28, _⟩ => ⟨S2x1280, .f32⟩
  | .hbm, ⟨29, _⟩ => ⟨S2x1280, .f32⟩
  | .hbm, ⟨30, _⟩ => ⟨S_, .f32⟩
  | .hbm, ⟨31, _⟩ => ⟨S2x1280, .f32⟩
  | .hbm, ⟨32, _⟩ => ⟨S2x1280, .f32⟩
  | .hbm, ⟨33, _⟩ => ⟨S2x1280, .f32⟩
  | .hbm, ⟨34, _⟩ => ⟨S_, .f32⟩
  | .hbm, ⟨35, _⟩ => ⟨S2x1280, .f32⟩
  | .hbm, ⟨36, _⟩ => ⟨S2x1280, .f32⟩
  | _, _ => ⟨S2x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSinks.lean ====
abbrev S2x8 : Shape := ⟨2, ![2, 8]⟩
abbrev S1x16 : Shape := ⟨2, ![1, 16]⟩

abbrev nBuf : Space → Nat
  | .hbm => 11
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S1x16, .f32⟩
  | .hbm, ⟨5, _⟩ => ⟨S1x16, .f32⟩
  | .hbm, ⟨6, _⟩ => ⟨S1x16, .f32⟩
  | .hbm, ⟨7, _⟩ => ⟨S1x16, .f32⟩
  | .hbm, ⟨8, _⟩ => ⟨S1x16, .f32⟩
  | .hbm, ⟨9, _⟩ => ⟨S1x16, .f32⟩
  | .hbm, ⟨10, _⟩ => ⟨S1x16, .f32⟩
  | .local _ .vmem, ⟨0, _⟩ => ⟨S1x16, .f32⟩
  | .local _ .vmem, ⟨1, _⟩ => ⟨S1x16, .f32⟩
  | .local _ .vmem, ⟨2, _⟩ => ⟨S1x16, .f32⟩
  | .local _ .vmem, ⟨3, _⟩ => ⟨S1x16, .f32⟩
  | .local _ .vmem, ⟨4, _⟩ => ⟨S1x16, .f32⟩
  | .local _ .vmem, ⟨5, _⟩ => ⟨S1x16, .f32⟩
  | .local _ .vmem, ⟨6, _⟩ => ⟨S1x16, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSinksRefIdeal.lean ====
abbrev S2x8 : Shape := ⟨2, ![2, 8]⟩
abbrev S_ : Shape := ⟨0, ![]⟩
abbrev S1x16 : Shape := ⟨2, ![1, 16]⟩

abbrev nBuf : Space → Nat
  | .hbm => 40
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | .hbm, ⟨37, _⟩ => ⟨S1x16, .f32⟩
  | .hbm, ⟨38, _⟩ => ⟨S1x16, .f32⟩
  | .hbm, ⟨39, _⟩ => ⟨S1x16, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPoolW.lean ====
abbrev S2x4x128x128 : Shape := ⟨4, ![2, 4, 128, 128]⟩
abbrev S1024x128 : Shape := ⟨2, ![1024, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPoolWIdeal.lean ====
abbrev S2x4x128x128 : Shape := ⟨4, ![2, 4, 128, 128]⟩
abbrev S1024x128 : Shape := ⟨2, ![1024, 128]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S2x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPoolWRefIdeal.lean ====
abbrev S2x4x128x128 : Shape := ⟨4, ![2, 4, 128, 128]⟩
abbrev S_ : Shape := ⟨0, ![]⟩
abbrev S1024x128 : Shape := ⟨2, ![1024, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x4x128x128, .f32⟩
  | .hbm, ⟨1, _⟩ => ⟨S2x4x128x128, .f32⟩
  | .hbm, ⟨2, _⟩ => ⟨S2x4x128x128, .f32⟩
  | .hbm, ⟨3, _⟩ => ⟨S2x4x128x128, .f32⟩
  | .hbm, ⟨4, _⟩ => ⟨S_, .f32⟩
  | .hbm, ⟨5, _⟩ => ⟨S2x4x128x128, .f32⟩
  | .hbm, ⟨6, _⟩ => ⟨S2x4x128x128, .f32⟩
  | .hbm, ⟨7, _⟩ => ⟨S_, .f32⟩
  | .hbm, ⟨8, _⟩ => ⟨S2x4x128x128, .f32⟩
  | .hbm, ⟨9, _⟩ => ⟨S2x4x128x128, .f32⟩
  | .hbm, ⟨10, _⟩ => ⟨S2x4x128x128, .f32⟩
  | .hbm, ⟨11, _⟩ => ⟨S_, .f32⟩
  | .hbm, ⟨12, _⟩ => ⟨S2x4x128x128, .f32⟩
  | .hbm, ⟨13, _⟩ => ⟨S2x4x128x128, .f32⟩
  | .hbm, ⟨14, _⟩ => ⟨S2x4x128x128, .f32⟩
  | .hbm, ⟨15, _⟩ => ⟨S_, .f32⟩
  | .hbm, ⟨16, _⟩ => ⟨S2x4x128x128, .f32⟩
  | .hbm, ⟨17, _⟩ => ⟨S2x4x128x128, .f32⟩
  | .hbm, ⟨18, _⟩ => ⟨S2x4x128x128, .f32⟩
  | .hbm, ⟨19, _⟩ => ⟨S_, .f32⟩
  | .hbm, ⟨20, _⟩ => ⟨S2x4x128x128, .f32⟩
  | .hbm, ⟨21, _⟩ => ⟨S2x4x128x128, .f32⟩
  | .hbm, ⟨22, _⟩ => ⟨S_, .f32⟩
  | .hbm, ⟨23, _⟩ => ⟨S2x4x128x128, .f32⟩
  | .hbm, ⟨24, _⟩ => ⟨S2x4x128x128, .f32⟩
  | .hbm, ⟨25, _⟩ => ⟨S2x4x128x128, .f32⟩
  | .hbm, ⟨26, _⟩ => ⟨S_, .f32⟩
  | .hbm, ⟨27, _⟩ => ⟨S2x4x128x128, .f32⟩
  | .hbm, ⟨28, _⟩ => ⟨S2x4x128x128, .f32⟩
  | .hbm, ⟨29, _⟩ => ⟨S2x4x128x128, .f32⟩
  | .hbm, ⟨30, _⟩ => ⟨S_, .f32⟩
  | .hbm, ⟨31, _⟩ => ⟨S2x4x128x128, .f32⟩
  | .hbm, ⟨32, _⟩ => ⟨S2x4x128x128, .f32⟩
  | .hbm, ⟨33, _⟩ => ⟨S2x4x128x128, .f32⟩
  | .hbm, ⟨34, _⟩ => ⟨S_, .f32⟩
  | .hbm, ⟨35, _⟩ => ⟨S2x4x128x128, .f32⟩
  | .hbm, ⟨36, _⟩ => ⟨S2x4x128x128, .f32⟩
  | .hbm, ⟨37, _⟩ => ⟨S1024x128, .f32⟩
  | .hbm, ⟨38, _⟩ => ⟨S1024x128, .f32⟩
  | .hbm, ⟨39, _⟩ => ⟨S1024x128, .f32⟩
  | _, _ => ⟨S2x4x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPoolS.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolSIdeal.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamPoolSRefIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamUp.lean ====
abbrev S2x1024x704 : Shape := ⟨3, ![2, 1024, 704]⟩
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 15
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S1408x1024, .f32⟩
  | .hbm, ⟨13, _⟩ => ⟨S1408x1024, .f32⟩
  | .hbm, ⟨14, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S2x1024x704 : Shape := ⟨3, ![2, 1024, 704]⟩
abbrev S_ : Shape := ⟨0, ![]⟩
abbrev S2x704x1024 : Shape := ⟨3, ![2, 704, 1024]⟩
abbrev S1408x1024 : Shape := ⟨2, ![1408, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x704x1024, .f32⟩
  | .hbm, ⟨38, _⟩ => ⟨S1408x1024, .f32⟩
  | .hbm, ⟨39, _⟩ => ⟨S2x704x1024, .f32⟩
  | .hbm, ⟨40, _⟩ => ⟨S1408x1024, .f32⟩
  | .hbm, ⟨41, _⟩ => ⟨S2x704x1024, .f32⟩
  | .hbm, ⟨42, _⟩ => ⟨S1408x1024, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdamDown.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamG.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaGrad.lean ====
abbrev S8x1024 : Shape := ⟨2, ![8, 1024]⟩
abbrev S8x2x1536 : Shape := ⟨3, ![8, 2, 1536]⟩
abbrev S1024x8 : Shape := ⟨2, ![1024, 8]⟩
abbrev S2x8x1536 : Shape := ⟨3, ![2, 8, 1536]⟩
abbrev S2x1024x1536 : Shape := ⟨3, ![2, 1024, 1536]⟩
abbrev S1x8x512 : Shape := ⟨3, ![1, 8, 512]⟩
abbrev S1x1024x512 : Shape := ⟨3, ![1, 1024, 512]⟩
abbrev S8x512 : Shape := ⟨2, ![8, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x2x1536, .f32⟩
  | .hbm, ⟨2, _⟩ => ⟨S1024x8, .f32⟩
  | .hbm, ⟨3, _⟩ => ⟨S2x8x1536, .f32⟩
  | .hbm, ⟨4, _⟩ => ⟨S2x1024x1536, .f32⟩
  | .local _ .vmem, ⟨0, _⟩ => ⟨S1024x8, .f32⟩
  | .local _ .vmem, ⟨1, _⟩ => ⟨S1x8x512, .f32⟩
  | .local _ .vmem, ⟨2, _⟩ => ⟨S1x8x512, .f32⟩
  | .local _ .vmem, ⟨3, _⟩ => ⟨S1x1024x512, .f32⟩
  | .local _ .vmem, ⟨4, _⟩ => ⟨S1x1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaGradRefIdeal.lean ====
abbrev S8x1024 : Shape := ⟨2, ![8, 1024]⟩
abbrev S8x2x1536 : Shape := ⟨3, ![8, 2, 1536]⟩
abbrev S_ : Shape := ⟨0, ![]⟩
abbrev S2x1024x1536 : Shape := ⟨3, ![2, 1024, 1536]⟩
abbrev S1x1024x1536 : Shape := ⟨3, ![1, 1024, 1536]⟩
abbrev S1024x1536 : Shape := ⟨2, ![1024, 1536]⟩
abbrev S8x1536 : Shape := ⟨2, ![8, 1536]⟩
abbrev S8x1x1536 : Shape := ⟨3, ![8, 1, 1536]⟩
abbrev S1536x1024 : Shape := ⟨2, ![1536, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S2x1024x1536, .f32⟩
  | .hbm, ⟨13, _⟩ => ⟨S1x1024x1536, .f32⟩
  | .hbm, ⟨14, _⟩ => ⟨S1024x1536, .f32⟩
  | .hbm, ⟨15, _⟩ => ⟨S8x1536, .f32⟩
  | .hbm, ⟨16, _⟩ => ⟨S8x1x1536, .f32⟩
  | .hbm, ⟨17, _⟩ => ⟨S8x1536, .f32⟩
  | .hbm, ⟨18, _⟩ => ⟨S1536x1024, .f32⟩
  | .hbm, ⟨19, _⟩ => ⟨S1024x1536, .f32⟩
  | .hbm, ⟨20, _⟩ => ⟨S1x1024x1536, .f32⟩
  | .hbm, ⟨21, _⟩ => ⟨S1024x1536, .f32⟩
  | .hbm, ⟨22, _⟩ => ⟨S8x1536, .f32⟩
  | .hbm, ⟨23, _⟩ => ⟨S8x1x1536, .f32⟩
  | .hbm, ⟨24, _⟩ => ⟨S8x1536, .f32⟩
  | .hbm, ⟨25, _⟩ => ⟨S1536x1024, .f32⟩
  | .hbm, ⟨26, _⟩ => ⟨S1024x1536, .f32⟩
  | .hbm, ⟨27, _⟩ => ⟨S1x1024x1536, .f32⟩
  | .hbm, ⟨28, _⟩ => ⟨S1x1024x1536, .f32⟩
  | .hbm, ⟨29, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== SumDev.lean ====
abbrev S8x2x1024 : Shape := ⟨3, ![8, 2, 1024]⟩
abbrev S8x2x1280 : Shape := ⟨3, ![8, 2, 1280]⟩
abbrev S8x2x512 : Shape := ⟨3, ![8, 2, 512]⟩
abbrev S8x2x8 : Shape := ⟨3, ![8, 2, 8]⟩
abbrev S8x2x4x128x128 : Shape := ⟨5, ![8, 2, 4, 128, 128]⟩
abbrev S8x2x6144 : Shape := ⟨3, ![8, 2, 6144]⟩
abbrev S_ : Shape := ⟨0, ![]⟩
abbrev S8x2x120 : Shape := ⟨3, ![8, 2, 120]⟩
abbrev S8x2x65536 : Shape := ⟨3, ![8, 2, 65536]⟩
abbrev S8x2x71552 : Shape := ⟨3, ![8, 2, 71552]⟩
abbrev S8x143104 : Shape := ⟨2, ![8, 143104]⟩
abbrev S8x12288 : Shape := ⟨2, ![8, 12288]⟩
abbrev S8x256 : Shape := ⟨2, ![8, 256]⟩
abbrev S8x155648 : Shape := ⟨2, ![8, 155648]⟩
abbrev S8x1216x128 : Shape := ⟨3, ![8, 1216, 128]⟩
abbrev S1216x128 : Shape := ⟨2, ![1216, 128]⟩
abbrev S1x1216x128 : Shape := ⟨3, ![1, 1216, 128]⟩

abbrev nBuf : Space → Nat
  | .hbm => 20
  | .vmem => 2
  | .smem => 0
  | _ => 0

abbrev bufTy : (tb : Table) → Fin (tcTables nBuf tb) → BufTy
  | .hbm, ⟨0, _⟩ => ⟨S8x2x1024, .f32⟩
  | .hbm, ⟨1, _⟩ => ⟨S8x2x1024, .f32⟩
  | .hbm, ⟨2, _⟩ => ⟨S8x2x1024, .f32⟩
  | .hbm, ⟨3, _⟩ => ⟨S8x2x1024, .f32⟩
  | .hbm, ⟨4, _⟩ => ⟨S8x2x1280, .f32⟩
  | .hbm, ⟨5, _⟩ => ⟨S8x2x512, .f32⟩
  | .hbm, ⟨6, _⟩ => ⟨S8x2x8, .f32⟩
  | .hbm, ⟨7, _⟩ => ⟨S8x2x4x128x128, .f32⟩
  | .hbm, ⟨8, _⟩ => ⟨S8x2x6144, .f32⟩
  | .hbm, ⟨9, _⟩ => ⟨S_, .f32⟩
  | .hbm, ⟨10, _⟩ => ⟨S8x2x120, .f32⟩
  | .hbm, ⟨11, _⟩ => ⟨S8x2x65536, .f32⟩
  | .hbm, ⟨12, _⟩ => ⟨S8x2x71552, .f32⟩
  | .hbm, ⟨13, _⟩ => ⟨S8x143104, .f32⟩
  | .hbm, ⟨14, _⟩ => ⟨S8x12288, .f32⟩
  | .hbm, ⟨15, _⟩ => ⟨S_, .f32⟩
  | .hbm, ⟨16, _⟩ => ⟨S8x256, .f32⟩
  | .hbm, ⟨17, _⟩ => ⟨S8x155648, .f32⟩
  | .hbm, ⟨18, _⟩ => ⟨S8x1216x128, .f32⟩
  | .hbm, ⟨19, _⟩ => ⟨S1216x128, .f32⟩
  | .local _ .vmem, ⟨0, _⟩ => ⟨S8x1216x128, .f32⟩
  | .local _ .vmem, ⟨1, _⟩ => ⟨S1216x128, .f32⟩
  | _, _ => ⟨S8x2x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumDevRefIdeal.lean ====
abbrev S8x2x1024 : Shape := ⟨3, ![8, 2, 1024]⟩
abbrev S8x2x1280 : Shape := ⟨3, ![8, 2, 1280]⟩
abbrev S8x2x512 : Shape := ⟨3, ![8, 2, 512]⟩
abbrev S8x2x8 : Shape := ⟨3, ![8, 2, 8]⟩
abbrev S8x2x4x128x128 : Shape := ⟨5, ![8, 2, 4, 128, 128]⟩
abbrev S8x2x6144 : Shape := ⟨3, ![8, 2, 6144]⟩
abbrev S_ : Shape := ⟨0, ![]⟩
abbrev S2x1024 : Shape := ⟨2, ![2, 1024]⟩
abbrev S2x1280 : Shape := ⟨2, ![2, 1280]⟩
abbrev S2x512 : Shape := ⟨2, ![2, 512]⟩
abbrev S2x8 : Shape := ⟨2, ![2, 8]⟩
abbrev S2x120 : Shape := ⟨2, ![2, 120]⟩
abbrev S2x4x128x128 : Shape := ⟨4, ![2, 4, 128, 128]⟩
abbrev S2x65536 : Shape := ⟨2, ![2, 65536]⟩
abbrev S2x71552 : Shape := ⟨2, ![2, 71552]⟩
abbrev S143104 : Shape := ⟨1, ![143104]⟩
abbrev S2x6144 : Shape := ⟨2, ![2, 6144]⟩
abbrev S12288 : Shape := ⟨1, ![12288]⟩
abbrev S256 : Shape := ⟨1, ![256]⟩
abbrev S155648 : Shape := ⟨1, ![155648]⟩
abbrev S1216x128 : Shape := ⟨2, ![1216, 128]⟩

abbrev nBuf : Space → Nat
  | .hbm => 37
  | .vmem => 0
  | .smem => 0
  | _ => 0

abbrev bufTy : (tb : Table) → Fin (tcTables nBuf tb) → BufTy
  | .hbm, ⟨0, _⟩ => ⟨S8x2x1024, .f32⟩
  | .hbm, ⟨1, _⟩ => ⟨S8x2x1024, .f32⟩
  | .hbm, ⟨2, _⟩ => ⟨S8x2x1024, .f32⟩
  | .hbm, ⟨3, _⟩ => ⟨S8x2x1024, .f32⟩
  | .hbm, ⟨4, _⟩ => ⟨S8x2x1280, .f32⟩
  | .hbm, ⟨5, _⟩ => ⟨S8x2x512, .f32⟩
  | .hbm, ⟨6, _⟩ => ⟨S8x2x8, .f32⟩
  | .hbm, ⟨7, _⟩ => ⟨S8x2x4x128x128, .f32⟩
  | .hbm, ⟨8, _⟩ => ⟨S8x2x6144, .f32⟩
  | .hbm, ⟨9, _⟩ => ⟨S_, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S_, .f32⟩
  | .hbm, ⟨18, _⟩ => ⟨S2x1280, .f32⟩
  | .hbm, ⟨19, _⟩ => ⟨S_, .f32⟩
  | .hbm, ⟨20, _⟩ => ⟨S2x512, .f32⟩
  | .hbm, ⟨21, _⟩ => ⟨S_, .f32⟩
  | .hbm, ⟨22, _⟩ => ⟨S2x8, .f32⟩
  | .hbm, ⟨23, _⟩ => ⟨S_, .f32⟩
  | .hbm, ⟨24, _⟩ => ⟨S2x120, .f32⟩
  | .hbm, ⟨25, _⟩ => ⟨S_, .f32⟩
  | .hbm, ⟨26, _⟩ => ⟨S2x4x128x128, .f32⟩
  | .hbm, ⟨27, _⟩ => ⟨S2x65536, .f32⟩
  | .hbm, ⟨28, _⟩ => ⟨S2x71552, .f32⟩
  | .hbm, ⟨29, _⟩ => ⟨S143104, .f32⟩
  | .hbm, ⟨30, _⟩ => ⟨S_, .f32⟩
  | .hbm, ⟨31, _⟩ => ⟨S2x6144, .f32⟩
  | .hbm, ⟨32, _⟩ => ⟨S12288, .f32⟩
  | .hbm, ⟨33, _⟩ => ⟨S_, .f32⟩
  | .hbm, ⟨34, _⟩ => ⟨S256, .f32⟩
  | .hbm, ⟨35, _⟩ => ⟨S155648, .f32⟩
  | .hbm, ⟨36, _⟩ => ⟨S1216x128, .f32⟩
  | _, _ => ⟨S8x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_cst_3 : Ref sig .tc := ⟨.hbm, 17, rfl⟩
abbrev main_v4 : Ref sig .tc := ⟨.hbm, 18, rfl⟩
abbrev main_cst_4 : Ref sig .tc := ⟨.hbm, 19, rfl⟩
abbrev main_v5 : Ref sig .tc := ⟨.hbm, 20, rfl⟩
abbrev main_cst_5 : Ref sig .tc := ⟨.hbm, 21, rfl⟩
abbrev main_v6 : Ref sig .tc := ⟨.hbm, 22, rfl⟩
abbrev main_cst_6 : Ref sig .tc := ⟨.hbm, 23, rfl⟩
abbrev main_v7 : Ref sig .tc := ⟨.hbm, 24, rfl⟩
abbrev main_cst_7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_8 : Ref sig .tc := ⟨.hbm, 30, rfl⟩
abbrev main_v12 : Ref sig .tc := ⟨.hbm, 31, rfl⟩
abbrev main_v13 : Ref sig .tc := ⟨.hbm, 32, rfl⟩
abbrev main_cst_9 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== InBwd.lean ====
abbrev S8192x1024 : Shape := ⟨2, ![8192, 1024]⟩
abbrev S1024 : Shape := ⟨1, ![1024]⟩
abbrev S1280 : Shape := ⟨1, ![1280]⟩
abbrev S8192x8 : Shape := ⟨2, ![8192, 8]⟩
abbrev S1024x1280 : Shape := ⟨2, ![1024, 1280]⟩
abbrev S8192x8x64 : Shape := ⟨3, ![8192, 8, 64]⟩
abbrev S8192x2x2x64 : Shape := ⟨4, ![8192, 2, 2, 64]⟩
abbrev S8192x512 : Shape := ⟨2, ![8192, 512]⟩
abbrev S_ : Shape := ⟨0, ![]⟩
abbrev S8192x48 : Shape := ⟨2, ![8192, 48]⟩
abbrev S8192x64 : Shape := ⟨2, ![8192, 64]⟩
abbrev S8192x128 : Shape := ⟨2, ![8192, 128]⟩
abbrev S8x1024x256 : Shape := ⟨3, ![8, 1024, 256]⟩
abbrev S8x896x256 : Shape := ⟨3, ![8, 896, 256]⟩
abbrev S7168x256 : Shape := ⟨2, ![7168, 256]⟩
abbrev S8x128x256 : Shape := ⟨3, ![8, 128, 256]⟩
abbrev S1024x256 : Shape := ⟨2, ![1024, 256]⟩
abbrev S1x1024 : Shape := ⟨2, ![1, 1024]⟩
abbrev S2x1024 : Shape := ⟨2, ![2, 1024]⟩
abbrev S6x1024 : Shape := ⟨2, ![6, 1024]⟩
abbrev S8x1024 : Shape := ⟨2, ![8, 1024]⟩
abbrev S7x1024 : Shape := ⟨2, ![7, 1024]⟩
abbrev S1280x1024 : Shape := ⟨2, ![1280, 1024]⟩
abbrev S8192x1280 : Shape := ⟨2, ![8192, 1280]⟩
abbrev S8x1280 : Shape := ⟨2, ![8, 1280]⟩
abbrev S1024x512 : Shape := ⟨2, ![1024, 512]⟩
abbrev S896x256 : Shape := ⟨2, ![896, 256]⟩
abbrev S128x256 : Shape := ⟨2, ![128, 256]⟩
abbrev S1024x128 : Shape := ⟨2, ![1024, 128]⟩
abbrev S1024x1024 : Shape := ⟨2, ![1024, 1024]⟩
abbrev S1x1280 : Shape := ⟨2, ![1, 1280]⟩
abbrev S512 : Shape := ⟨1, ![512]⟩
abbrev S1x512 : Shape := ⟨2, ![1, 512]⟩
abbrev S128 : Shape := ⟨1, ![128]⟩
abbrev S1x128 : Shape := ⟨2, ![1, 128]⟩
abbrev S1024x1 : Shape := ⟨2, ![1024, 1]⟩

abbrev nBuf : Space → Nat
  | .hbm => 53
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1280, .f32⟩
  | .hbm, ⟨5, _⟩ => ⟨S8192x8, .f32⟩
  | .hbm, ⟨6, _⟩ => ⟨S8192x8, .f32⟩
  | .hbm, ⟨7, _⟩ => ⟨S1024x1280, .f32⟩
  | .hbm, ⟨8, _⟩ => ⟨S8192x8x64, .f32⟩
  | .hbm, ⟨9, _⟩ => ⟨S8192x2x2x64, .f32⟩
  | .hbm, ⟨10, _⟩ => ⟨S8192x2x2x64, .f32⟩
  | .hbm, ⟨11, _⟩ => ⟨S8192x512, .f32⟩
  | .hbm, ⟨12, _⟩ => ⟨S8192x1024, .f32⟩
  | .hbm, ⟨13, _⟩ => ⟨S_, .f32⟩
  | .hbm, ⟨14, _⟩ => ⟨S8192x8, .f32⟩
  | .hbm, ⟨15, _⟩ => ⟨S_, .f32⟩
  | .hbm, ⟨16, _⟩ => ⟨S8192x48, .f32⟩
  | .hbm, ⟨17, _⟩ => ⟨S_, .f32⟩
  | .hbm, ⟨18, _⟩ => ⟨S8192x48, .f32⟩
  | .hbm, ⟨19, _⟩ => ⟨S8192x64, .f32⟩
  | .hbm, ⟨20, _⟩ => ⟨S8192x128, .f32⟩
  | .hbm, ⟨21, _⟩ => ⟨S8192x8, .f32⟩
  | .hbm, ⟨22, _⟩ => ⟨S8192x64, .f32⟩
  | .hbm, ⟨23, _⟩ => ⟨S8192x128, .f32⟩
  | .hbm, ⟨24, _⟩ => ⟨S8192x64, .f32⟩
  | .hbm, ⟨25, _⟩ => ⟨S8192x128, .f32⟩
  | .hbm, ⟨26, _⟩ => ⟨S8192x512, .f32⟩
  | .hbm, ⟨27, _⟩ => ⟨S8x1024x256, .f32⟩
  | .hbm, ⟨28, _⟩ => ⟨S8x896x256, .f32⟩
  | .hbm, ⟨29, _⟩ => ⟨S7168x256, .f32⟩
  | .hbm, ⟨30, _⟩ => ⟨S8x128x256, .f32⟩
  | .hbm, ⟨31, _⟩ => ⟨S1024x256, .f32⟩
  | .hbm, ⟨32, _⟩ => ⟨S8x1024x256, .f32⟩
  | .hbm, ⟨33, _⟩ => ⟨S8x896x256, .f32⟩
  | .hbm, ⟨34, _⟩ => ⟨S7168x256, .f32⟩
  | .hbm, ⟨35, _⟩ => ⟨S8x128x256, .f32⟩
  | .hbm, ⟨36, _⟩ => ⟨S1024x256, .f32⟩
  | .hbm, ⟨37, _⟩ => ⟨S1x1024, .f32⟩
  | .hbm, ⟨38, _⟩ => ⟨S1x1024, .f32⟩
  | .hbm, ⟨39, _⟩ => ⟨S2x1024, .f32⟩
  | .hbm, ⟨40, _⟩ => ⟨S_, .f32⟩
  | .hbm, ⟨41, _⟩ => ⟨S6x1024, .f32⟩
  | .hbm, ⟨42, _⟩ => ⟨S8x1024, .f32⟩
  | .hbm, ⟨43, _⟩ => ⟨S1x1024, .f32⟩
  | .hbm, ⟨44, _⟩ => ⟨S_, .f32⟩
  | .hbm, ⟨45, _⟩ => ⟨S7x1024, .f32⟩
  | .hbm, ⟨46, _⟩ => ⟨S8x1024, .f32⟩
  | .hbm, ⟨47, _⟩ => ⟨S1280x1024, .f32⟩
  | .hbm, ⟨48, _⟩ => ⟨S1280x1024, .bf16⟩
  | .hbm, ⟨49, _⟩ => ⟨S8192x1024, .f32⟩
  | .hbm, ⟨50, _⟩ => ⟨S8192x1280, .bf16⟩
  | .hbm, ⟨51, _⟩ => ⟨S8x1024, .f32⟩
  | .hbm, ⟨52, _⟩ => ⟨S8x1280, .f32⟩
  | .local _ .vmem, ⟨0, _⟩ => ⟨S1024x512, .f32⟩
  | .local _ .vmem, ⟨1, _⟩ => ⟨S1024x512, .f32⟩
  | .local _ .vmem, ⟨2, _⟩ => ⟨S896x256, .f32⟩
  | .local _ .vmem, ⟨3, _⟩ => ⟨S896x256, .f32⟩
  | .local _ .vmem, ⟨4, _⟩ => ⟨S128x256, .f32⟩
  | .local _ .vmem, ⟨5, _⟩ => ⟨S128x256, .f32⟩
  | .local _ .vmem, ⟨6, _⟩ => ⟨S896x256, .f32⟩
  | .local _ .vmem, ⟨7, _⟩ => ⟨S896x256, .f32⟩
  | .local _ .vmem, ⟨8, _⟩ => ⟨S128x256, .f32⟩
  | .local _ .vmem, ⟨9, _⟩ => ⟨S128x256, .f32⟩
  | .local _ .vmem, ⟨10, _⟩ => ⟨S1024x512, .f32⟩
  | .local _ .vmem, ⟨11, _⟩ => ⟨S1024x512, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S8x1024, .f32⟩
  | .local _ .vmem, ⟨23, _⟩ => ⟨S8x1024, .f32⟩
  | .local _ .vmem, ⟨24, _⟩ => ⟨S1280x1024, .bf16⟩
  | .local _ .vmem, ⟨25, _⟩ => ⟨S1024x1024, .f32⟩
  | .local _ .vmem, ⟨26, _⟩ => ⟨S1024x1024, .f32⟩
  | .local _ .vmem, ⟨27, _⟩ => ⟨S1024x1280, .bf16⟩
  | .local _ .vmem, ⟨28, _⟩ => ⟨S1024x1280, .bf16⟩
  | .local _ .vmem, ⟨29, _⟩ => ⟨S8x1024, .f32⟩
  | .local _ .vmem, ⟨30, _⟩ => ⟨S8x1280, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_v31_2 : Ref sig .tc := ⟨.hbm, 51, rfl⟩
abbrev main_v31_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S896x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S896x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1280x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1280 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x1280 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== InBwdRefIdeal.lean ====
abbrev S8192x1024 : Shape := ⟨2, ![8192, 1024]⟩
abbrev S1024 : Shape := ⟨1, ![1024]⟩
abbrev S1280 : Shape := ⟨1, ![1280]⟩
abbrev S8192x8 : Shape := ⟨2, ![8192, 8]⟩
abbrev S1024x1280 : Shape := ⟨2, ![1024, 1280]⟩
abbrev S8192x8x64 : Shape := ⟨3, ![8192, 8, 64]⟩
abbrev S8192x2x2x64 : Shape := ⟨4, ![8192, 2, 2, 64]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1280 : Shape := ⟨2, ![8192, 1280]⟩
abbrev S1x1280 : Shape := ⟨2, ![1, 1280]⟩
abbrev S8192x128 : Shape := ⟨2, ![8192, 128]⟩
abbrev S8192x1x8 : Shape := ⟨3, ![8192, 1, 8]⟩
abbrev S8192x8x8 : Shape := ⟨3, ![8192, 8, 8]⟩
abbrev S8192x8x48 : Shape := ⟨3, ![8192, 8, 48]⟩
abbrev S8192x2x64 : Shape := ⟨3, ![8192, 2, 64]⟩
abbrev S8192x2x8 : Shape := ⟨3, ![8192, 2, 8]⟩
abbrev S8192x2x48 : Shape := ⟨3, ![8192, 2, 48]⟩
abbrev S8192x2x1x64 : Shape := ⟨4, ![8192, 2, 1, 64]⟩
abbrev S3x1024 : Shape := ⟨2, ![3, 1024]⟩
abbrev S5x1024 : Shape := ⟨2, ![5, 1024]⟩
abbrev S8x1024 : Shape := ⟨2, ![8, 1024]⟩
abbrev S7x1280 : Shape := ⟨2, ![7, 1280]⟩
abbrev S8x1280 : Shape := ⟨2, ![8, 1280]⟩

abbrev nBuf : Space → Nat
  | .hbm => 196
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1280, .f32⟩
  | 5 => ⟨S8192x8, .f32⟩
  | 6 => ⟨S8192x8, .f32⟩
  | 7 => ⟨S1024x1280, .f32⟩
  | 8 => ⟨S8192x8x64, .f32⟩
  | 9 => ⟨S8192x2x2x64, .f32⟩
  | 10 => ⟨S8192x2x2x64, .f32⟩
  | 11 => ⟨S8192x512, .f32⟩
  | 12 => ⟨S8192x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1, .f32⟩
  | 25 => ⟨S_, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S_, .f32⟩
  | 34 => ⟨S1024, .f32⟩
  | 35 => ⟨S1024, .f32⟩
  | 36 => ⟨S1x1024, .f32⟩
  | 37 => ⟨S8192x1024, .f32⟩
  | 38 => ⟨S8192x1024, .f32⟩
  | 39 => ⟨S1x1024, .f32⟩
  | 40 => ⟨S8192x1024, .f32⟩
  | 41 => ⟨S8192x1024, .f32⟩
  | 42 => ⟨S8192x1280, .f32⟩
  | 43 => ⟨S1x1280, .f32⟩
  | 44 => ⟨S8192x1280, .f32⟩
  | 45 => ⟨S8192x1280, .f32⟩
  | 46 => ⟨S8192x512, .f32⟩
  | 47 => ⟨S8192x128, .f32⟩
  | 48 => ⟨S8192x128, .f32⟩
  | 49 => ⟨S8192x512, .f32⟩
  | 50 => ⟨S8192x8x64, .f32⟩
  | 51 => ⟨S8192x1x8, .f32⟩
  | 52 => ⟨S8192x1x8, .f32⟩
  | 53 => ⟨S8192x8x8, .f32⟩
  | 54 => ⟨S8192x8x8, .f32⟩
  | 55 => ⟨S8192x8x48, .f32⟩
  | 56 => ⟨S8192x8x8, .f32⟩
  | 57 => ⟨S8192x8x8, .f32⟩
  | 58 => ⟨S8192x8x8, .f32⟩
  | 59 => ⟨S8192x8x8, .f32⟩
  | 60 => ⟨S8192x8x8, .f32⟩
  | 61 => ⟨S8192x8x8, .f32⟩
  | 62 => ⟨S8192x8x8, .f32⟩
  | 63 => ⟨S8192x8x8, .f32⟩
  | 64 => ⟨S8192x8x8, .f32⟩
  | 65 => ⟨S8192x8x8, .f32⟩
  | 66 => ⟨S8192x8x64, .f32⟩
  | 67 => ⟨S_, .f32⟩
  | 68 => ⟨S8192x8x64, .f32⟩
  | 69 => ⟨S8192x8x64, .f32⟩
  | 70 => ⟨S8192x2x64, .f32⟩
  | 71 => ⟨S8192x1x8, .f32⟩
  | 72 => ⟨S8192x1x8, .f32⟩
  | 73 => ⟨S8192x2x8, .f32⟩
  | 74 => ⟨S8192x2x8, .f32⟩
  | 75 => ⟨S8192x2x48, .f32⟩
  | 76 => ⟨S8192x2x8, .f32⟩
  | 77 => ⟨S8192x2x8, .f32⟩
  | 78 => ⟨S8192x2x8, .f32⟩
  | 79 => ⟨S8192x2x8, .f32⟩
  | 80 => ⟨S8192x2x8, .f32⟩
  | 81 => ⟨S8192x2x8, .f32⟩
  | 82 => ⟨S8192x2x8, .f32⟩
  | 83 => ⟨S8192x2x8, .f32⟩
  | 84 => ⟨S8192x2x8, .f32⟩
  | 85 => ⟨S8192x2x8, .f32⟩
  | 86 => ⟨S8192x2x64, .f32⟩
  | 87 => ⟨S8192x2x64, .f32⟩
  | 88 => ⟨S8192x2x1x64, .f32⟩
  | 89 => ⟨S8192x2x2x64, .f32⟩
  | 90 => ⟨S8192x2x1x64, .f32⟩
  | 91 => ⟨S8192x2x2x64, .f32⟩
  | 92 => ⟨S_, .f32⟩
  | 93 => ⟨S8192x2x64, .f32⟩
  | 94 => ⟨S8192x2x1x64, .f32⟩
  | 95 => ⟨S_, .f32⟩
  | 96 => ⟨S8192x2x64, .f32⟩
  | 97 => ⟨S_, .f32⟩
  | 98 => ⟨S8192x2x64, .f32⟩
  | 99 => ⟨S8192x2x1x64, .f32⟩
  | 100 => ⟨S_, .f32⟩
  | 101 => ⟨S8192x2x64, .f32⟩
  | 102 => ⟨S8192x128, .f32⟩
  | 103 => ⟨S8192x2x8, .f32⟩
  | 104 => ⟨S8192x2x8, .f32⟩
  | 105 => ⟨S8192x2x48, .f32⟩
  | 106 => ⟨S8192x2x8, .f32⟩
  | 107 => ⟨S8192x2x8, .f32⟩
  | 108 => ⟨S8192x2x8, .f32⟩
  | 109 => ⟨S8192x2x8, .f32⟩
  | 110 => ⟨S8192x2x8, .f32⟩
  | 111 => ⟨S8192x2x8, .f32⟩
  | 112 => ⟨S8192x2x8, .f32⟩
  | 113 => ⟨S8192x2x8, .f32⟩
  | 114 => ⟨S8192x2x8, .f32⟩
  | 115 => ⟨S8192x2x8, .f32⟩
  | 116 => ⟨S8192x2x8, .f32⟩
  | 117 => ⟨S8192x2x64, .f32⟩
  | 118 => ⟨S8192x128, .f32⟩
  | 119 => ⟨S_, .f32⟩
  | 120 => ⟨S8192x8x64, .f32⟩
  | 121 => ⟨S8192x8x64, .f32⟩
  | 122 => ⟨S8192x8x8, .f32⟩
  | 123 => ⟨S8192x8x8, .f32⟩
  | 124 => ⟨S8192x8x48, .f32⟩
  | 125 => ⟨S8192x8x8, .f32⟩
  | 126 => ⟨S8192x8x8, .f32⟩
  | 127 => ⟨S8192x8x8, .f32⟩
  | _ => ⟨S8192x1024, .f32⟩

abbrev hbmTy0_1 (i : Nat) : BufTy := match i % 128 with
  | 0 => ⟨S8192x8x8, .f32⟩
  | 1 => ⟨S8192x8x8, .f32⟩
  | 2 => ⟨S8192x8x8, .f32⟩
  | 3 => ⟨S8192x8x8, .f32⟩
  | 4 => ⟨S8192x8x8, .f32⟩
  | 5 => ⟨S8192x8x8, .f32⟩
  | 6 => ⟨S8192x8x8, .f32⟩
  | 7 => ⟨S8192x8x8, .f32⟩
  | 8 => ⟨S8192x8x64, .f32⟩
  | 9 => ⟨S8192x512, .f32⟩
  | 10 => ⟨S8192x1280, .f32⟩
  | 11 => ⟨S_, .f32⟩
  | 12 => ⟨S1280, .f32⟩
  | 13 => ⟨S1x1280, .f32⟩
  | 14 => ⟨S_, .f32⟩
  | 15 => ⟨S1280, .f32⟩
  | 16 => ⟨S8192x1024, .f32⟩
  | 17 => ⟨S_, .f32⟩
  | 18 => ⟨S1024, .f32⟩
  | 19 => ⟨S1x1024, .f32⟩
  | 20 => ⟨S_, .f32⟩
  | 21 => ⟨S1024, .f32⟩
  | 22 => ⟨S8192x1024, .f32⟩
  | 23 => ⟨S_, .f32⟩
  | 24 => ⟨S1024, .f32⟩
  | 25 => ⟨S1x1024, .f32⟩
  | 26 => ⟨S8192x1024, .f32⟩
  | 27 => ⟨S8192x1024, .f32⟩
  | 28 => ⟨S_, .f32⟩
  | 29 => ⟨S1024, .f32⟩
  | 30 => ⟨S8192x1024, .f32⟩
  | 31 => ⟨S_, .f32⟩
  | 32 => ⟨S1024, .f32⟩
  | 33 => ⟨S1x1024, .f32⟩
  | 34 => ⟨S8192x1024, .f32⟩
  | 35 => ⟨S8192x1024, .f32⟩
  | 36 => ⟨S_, .f32⟩
  | 37 => ⟨S1024, .f32⟩
  | 38 => ⟨S8192x1024, .f32⟩
  | 39 => ⟨S_, .f32⟩
  | 40 => ⟨S8192, .f32⟩
  | 41 => ⟨S8192x1, .f32⟩
  | 42 => ⟨S8192x1024, .f32⟩
  | 43 => ⟨S8192x1024, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1280, .bf16⟩
  | 57 => ⟨S1x1024, .f32⟩
  | 58 => ⟨S1x1024, .f32⟩
  | 59 => ⟨S1x1024, .f32⟩
  | 60 => ⟨S3x1024, .f32⟩
  | 61 => ⟨S_, .f32⟩
  | 62 => ⟨S5x1024, .f32⟩
  | 63 => ⟨S8x1024, .f32⟩
  | 64 => ⟨S1x1280, .f32⟩
  | 65 => ⟨S_, .f32⟩
  | 66 => ⟨S7x1280, .f32⟩
  | 67 => ⟨S8x1280, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_5 : Ref sig .tc := ⟨.hbm, 92, rfl⟩
abbrev main_v73 : Ref sig .tc := ⟨.hbm, 93, rfl⟩
abbrev main_v74 : Ref sig .tc := ⟨.hbm, 94, rfl⟩
abbrev main_cst_6 : Ref sig .tc := ⟨.hbm, 95, rfl⟩
abbrev main_v75 : Ref sig .tc := ⟨.hbm, 96, rfl⟩
abbrev main_cst_7 : Ref sig .tc := ⟨.hbm, 97, rfl⟩
abbrev main_v76 : Ref sig .tc := ⟨.hbm, 98, rfl⟩
abbrev main_v77 : Ref sig .tc := ⟨.hbm, 99, rfl⟩
abbrev main_cst_8 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_9 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_10 : Ref sig .tc := ⟨.hbm, 139, rfl⟩
abbrev main_v115 : Ref sig .tc := ⟨.hbm, 140, rfl⟩
abbrev main_v116 : Ref sig .tc := ⟨.hbm, 141, rfl⟩
abbrev main_cst_11 : Ref sig .tc := ⟨.hbm, 142, rfl⟩
abbrev main_v117 : Ref sig .tc := ⟨.hbm, 143, rfl⟩
abbrev main_v118 : Ref sig .tc := ⟨.hbm, 144, rfl⟩
abbrev main_cst_12 : Ref sig .tc := ⟨.hbm, 145, rfl⟩
abbrev main_v119 : Ref sig .tc := ⟨.hbm, 146, rfl⟩
abbrev main_v120 : Ref sig .tc := ⟨.hbm, 147, rfl⟩
abbrev main_cst_13 : Ref sig .tc := ⟨.hbm, 148, rfl⟩
abbrev main_v121 : Ref sig .tc := ⟨.hbm, 149, rfl⟩
abbrev main_v122 : Ref sig .tc := ⟨.hbm, 150, rfl⟩
abbrev main_cst_14 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_15 : Ref sig .tc := ⟨.hbm, 156, rfl⟩
abbrev main_v127 : Ref sig .tc := ⟨.hbm, 157, rfl⟩
abbrev main_v128 : Ref sig .tc := ⟨.hbm, 158, rfl⟩
abbrev main_cst_16 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_17 : Ref sig .tc := ⟨.hbm, 164, rfl⟩
abbrev main_v133 : Ref sig .tc := ⟨.hbm, 165, rfl⟩
abbrev main_v134 : Ref sig .tc := ⟨.hbm, 166, rfl⟩
abbrev main_cst_18 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_cst_19 : Ref sig .tc := ⟨.hbm, 173, rfl⟩
abbrev main_v140 : Ref sig .tc := ⟨.hbm, 174, rfl⟩
abbrev main_v141 : Ref sig .tc := ⟨.hbm, 175, rfl⟩
abbrev main_cst_20 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_cst_21 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_cst_22 : Ref sig .tc := ⟨.hbm, 193, rfl⟩
abbrev main_v157 : Ref sig .tc := ⟨.hbm, 194, rfl⟩
abbrev main_v158 : Ref sig .tc := ⟨.hbm, 195, rfl⟩

abbrev nD : Nat := 1
abbrev τ : Topo := Topo.v7x

variable {F : FTy → Type} [FloatOps F]
-- ==== Proof.Pool.Block.lean ====
/-
  One grid point of the pooling's backward kernel: what its body leaves in the four buffers that it writes (the
  gradient of the mixer's input, of the group weights, of the scale, and the sixteen rows handed to the next point),
  index by index, from what it found in them.
-/
module

public import proofs.«01_k».proof.Proof.Gen.PoolIdeal.Value
public import Idealize.ShloMosaic.Lib.Pointwise
public import Idealize.ShloMosaic.Lib.Pipeline.ValueKit
public import Idealize.ShloMosaic.Lib.Pipeline.ReadBack
public import Idealize.ShloMosaic.Lib.WritesUnit
public import Idealize.ShloMosaic.Lib.VecWindow

@[expose] public section

set_option maxRecDepth 16384

noncomputable section

open Idealize.ShloMosaic Idealize.ShloMosaic.TcCoe Idealize.SL.Sem

namespace Cert.PoolIdeal.Blocks

open Cert.PoolIdeal Cert.PoolIdeal.Gen

/-- Channel `k` of group `g`, as a column of the 512. -/
def col (g : Fin 4) (k : Fin 128) : Fin 512 := ⟨128 * g.val + k.val, by omega⟩

/-- A read where the last store of 128 columns put something finds it. -/
theorem hit2 {κ : Kind} {sp : Space} {e : EltTy} {R n : ℕ} (v : View sig κ sp ⟨2, ![R, 512]⟩ e) (f : v.ty.Contents (Elt Ideal)) (o : ℕ)
    (inb : ∀ a : Fin 2, (![0, o] : Fin 2 → ℕ) a + (![n, 128] : Fin 2 → ℕ) a ≤ (⟨2, ![R, 512]⟩ : Shape).size a)
    (w : (Rect.unit (s := ⟨2, ![R, 512]⟩) ![0, o] ![n, 128] inb).shape.Idx → Elt Ideal e) (L : List (View.Piece (Elt Ideal) ⟨2, ![R, 512]⟩ e))
    (r : Fin R) (k : Fin 512) (r' : Fin n) (d : Fin 128) (hr : r.val = r'.val) (hk : k.val = o + d.val) :
    v.read (Elt Ideal) (v.writes (Elt Ideal) f ((⟨Rect.unit (s := ⟨2, ![R, 512]⟩) ![0, o] ![n, 128] inb, w⟩ : View.Piece (Elt Ideal) ⟨2, ![R, 512]⟩ e) :: L)) (ix2 r k)
      = w (ix2 r' d) :=
  View.read_writes_cons_unit_of_mem v f inb w L _ (ix2 r' d) rfl (fun a => by
    match a with
    | 0 => show r.val = 0 + r'.val; omega
    | 1 => exact hk)

/-- A read off the last store's columns looks further back; -/
theorem miss2 {κ : Kind} {sp : Space} {e : EltTy} {R n : ℕ} (v : View sig κ sp ⟨2, ![R, 512]⟩ e) (f : v.ty.Contents (Elt Ideal)) (o : ℕ)
    (inb : ∀ a : Fin 2, (![0, o] : Fin 2 → ℕ) a + (![n, 128] : Fin 2 → ℕ) a ≤ (⟨2, ![R, 512]⟩ : Shape).size a)
    (w : (Rect.unit (s := ⟨2, ![R, 512]⟩) ![0, o] ![n, 128] inb).shape.Idx → Elt Ideal e) (L : List (View.Piece (Elt Ideal) ⟨2, ![R, 512]⟩ e))
    (r : Fin R) (k : Fin 512) (hk : k.val < o ∨ o + 128 ≤ k.val) :
    v.read (Elt Ideal) (v.writes (Elt Ideal) f ((⟨Rect.unit (s := ⟨2, ![R, 512]⟩) ![0, o] ![n, 128] inb, w⟩ : View.Piece (Elt Ideal) ⟨2, ![R, 512]⟩ e) :: L)) (ix2 r k)
      = v.read (Elt Ideal) (v.writes (Elt Ideal) f L) (ix2 r k) :=
  View.read_writes_cons_unit_of_not_mem v f inb w L _ rfl 1 hk

/-- and so does one below its rows. -/
theorem below2 {κ : Kind} {sp : Space} {e : EltTy} {R n : ℕ} (v : View sig κ sp ⟨2, ![R, 512]⟩ e) (f : v.ty.Contents (Elt Ideal)) (o : ℕ)
    (inb : ∀ a : Fin 2, (![0, o] : Fin 2 → ℕ) a + (![n, 128] : Fin 2 → ℕ) a ≤ (⟨2, ![R, 512]⟩ : Shape).size a)
    (w : (Rect.unit (s := ⟨2, ![R, 512]⟩) ![0, o] ![n, 128] inb).shape.Idx → Elt Ideal e) (L : List (View.Piece (Elt Ideal) ⟨2, ![R, 512]⟩ e))
    (r : Fin R) (k : Fin 512) (hr : 0 + n ≤ r.val) :
    v.read (Elt Ideal) (v.writes (Elt Ideal) f ((⟨Rect.unit (s := ⟨2, ![R, 512]⟩) ![0, o] ![n, 128] inb, w⟩ : View.Piece (Elt Ideal) ⟨2, ![R, 512]⟩ e) :: L)) (ix2 r k)
      = v.read (Elt Ideal) (v.writes (Elt Ideal) f L) (ix2 r k) :=
  View.read_writes_cons_unit_of_not_mem v f inb w L _ rfl 0 (Or.inr hr)

/-- The same two for the weights' gradient, one store per group. -/
theorem hit3 {κ : Kind} {sp : Space} {e : EltTy} (v : View sig κ sp S4x128x128 e) (f : v.ty.Contents (Elt Ideal)) (o : ℕ)
    (inb : ∀ a : Fin 3, (![o, 0, 0] : Fin 3 → ℕ) a + (![1, 128, 128] : Fin 3 → ℕ) a ≤ S4x128x128.size a)
    (w : (Rect.unit (s := S4x128x128) ![o, 0, 0] ![1, 128, 128] inb).shape.Idx → Elt Ideal e) (L : List (View.Piece (Elt Ideal) S4x128x128 e))
    (g : Fin 4) (a b : Fin 128) (hg : g.val = o) :
    v.read (Elt Ideal) (v.writes (Elt Ideal) f ((⟨Rect.unit (s := S4x128x128) ![o, 0, 0] ![1, 128, 128] inb, w⟩ : View.Piece (Elt Ideal) S4x128x128 e) :: L)) (ix3 g a b)
      = w (ix3 0 a b) :=
  View.read_writes_cons_unit_of_mem v f inb w L _ (ix3 0 a b) rfl (fun x => by
    match x with
    | 0 => show g.val = o + 0; omega
    | 1 => show a.val = 0 + a.val; omega
    | 2 => show b.val = 0 + b.val; omega)
theorem miss3 {κ : Kind} {sp : Space} {e : EltTy} (v : View sig κ sp S4x128x128 e) (f : v.ty.Contents (Elt Ideal)) (o : ℕ)
    (inb : ∀ a : Fin 3, (![o, 0, 0] : Fin 3 → ℕ) a + (![1, 128, 128] : Fin 3 → ℕ) a ≤ S4x128x128.size a)
    (w : (Rect.unit (s := S4x128x128) ![o, 0, 0] ![1, 128, 128] inb).shape.Idx → Elt Ideal e) (L : List (View.Piece (Elt Ideal) S4x128x128 e))
    (g : Fin 4) (a b : Fin 128) (hg : g.val < o) :
    v.read (Elt Ideal) (v.writes (Elt Ideal) f ((⟨Rect.unit (s := S4x128x128) ![o, 0, 0] ![1, 128, 128] inb, w⟩ : View.Piece (Elt Ideal) S4x128x128 e) :: L)) (ix3 g a b)
      = v.read (Elt Ideal) (v.writes (Elt Ideal) f L) (ix3 g a b) :=
  View.read_writes_cons_unit_of_not_mem v f inb w L _ rfl 0 (Or.inl hg)

theorem col0 (k : Fin 128) : col 0 k = ⟨k.val, by omega⟩ := Fin.ext (by show 128 * 0 + k.val = k.val; omega)
theorem group (g : Fin 4) : g = 0 ∨ g = 1 ∨ g = 2 ∨ g = 3 := by revert g; decide

section Payloads

variable (i : grid0.Coords) (x0 x1 : Vec Ideal S1024x512 .bf16) (x2 : Vec Ideal S4x128x128 .f32) (x3 : Vec Ideal S1x512 .f32)
  (xs0 : Vec Ideal S16x512 .f32) (g : Fin 4)

/-- The gradient that reaches the pooled array: the output's gradient, scaled, through the group's weight. -/
def dpl (r : Fin 1024) (d : Fin 128) : EReal :=
  ∑ k : Fin 128, x0 (ix2 r (col g k)) * x3 (ix2 0 (col g k)) * x2 (ix3 g d k)

/-- The window's length, 2, 4, 8 or 16. -/
def wlit : EReal :=
  ![Ideal.ofBits FTy.f32 1073741824#32, Ideal.ofBits FTy.f32 1082130432#32, Ideal.ofBits FTy.f32 1090519040#32,
    Ideal.ofBits FTy.f32 1098907648#32] g

/-- How many rows the mean at a row is over. -/
def cnt (r : Fin 1024) : EReal := min (k0_pay4 (F := Ideal) i (ix2 r 0) + 1) (wlit g)

/-- The gradient of the window's sum, at a row of the block. -/
def gq (r : Fin 1024) (d : Fin 128) : EReal := Ideal.div (dpl x0 x2 x3 g r d) (cnt i g r)

/-- The block's rows, then the sixteen rows handed over by the point before. -/
def ext (d : Fin 128) (n : ℕ) : EReal :=
  if h : n < 1024 then gq i x0 x2 x3 g ⟨n, h⟩ d else if h : n - 1024 < 16 then xs0 (ix2 ⟨n - 1024, h⟩ (col g d)) else 0

end Payloads

section Windows

variable (d : Fin 128) (f : ℕ → EReal)

/-- The block's rows and the sixteen rows behind them, one under the other. -/
theorem cat_apply (a : FVec Ideal S1024x128 .f32) (b : FVec Ideal S16x128 .f32)
    (hf : ∀ n (h : n < 1024), f n = a (ix2 ⟨n, h⟩ d)) (hf' : ∀ n (h : ¬ n < 1024) (h' : n - 1024 < 16), f n = b (ix2 ⟨n - 1024, h'⟩ d))
    (n : ℕ) (hn : n < 1040) (_ : n + 0 < 1040) :
    concatenate S1040x128 0 [⟨S1024x128, a⟩, ⟨S16x128, b⟩] concatenates_S1024x128_S16x128_S1040x128_d0 (ix2 ⟨n, hn⟩ d)
      = ∑ j ∈ Finset.range 1, f (n + j) := by
  rw [Finset.sum_range_one, Nat.add_zero]
  pointwise
  split
  · rename_i h; exact (hf n h).symm
  · rename_i h; exact (hf' n h (by omega)).symm

/-- Adding what the rotation brings up from 1 row below doubles the window of 1. -/
theorem double1 (x : FVec Ideal S1040x128 .f32)
    (hx : ∀ n (hn : n < 1040), n + 0 < 1040 → x (ix2 ⟨n, hn⟩ d) = ∑ j ∈ Finset.range 1, f (n + j)) (n : ℕ) (hn : n < 1040) (h : n + 1 < 1040) :
    addf x (dynamicRotate 0 1039#32 none x rotates_S1040x128_d0) (ix2 ⟨n, hn⟩ d) = ∑ j ∈ Finset.range 2, f (n + j) := by
  have e : (n + 1040 - 1039) % 1040 = n + 1 := by rw [Nat.mod_eq_of_lt] <;> omega
  pointwise
  refine (congrArg₂ (· + ·) (hx n hn (by omega))
    ((congrArg (fun a => x (ix2 a d)) (Fin.ext e)).trans (hx (n + 1) (by omega) (by omega)))).trans ?_
  refine Eq.trans ?_ (Finset.sum_range_add (fun j => f (n + j)) 1 1).symm
  refine congrArg₂ (· + ·) rfl ?_
  exact Finset.sum_congr rfl fun j _ => by rw [Nat.add_assoc]

/-- Adding what the rotation brings up from 2 rows below doubles the window of 2. -/
theorem double2 (x : FVec Ideal S1040x128 .f32)
    (hx : ∀ n (hn : n < 1040), n + 1 < 1040 → x (ix2 ⟨n, hn⟩ d) = ∑ j ∈ Finset.range 2, f (n + j)) (n : ℕ) (hn : n < 1040) (h : n + 3 < 1040) :
    addf x (dynamicRotate 0 1038#32 none x rotates_S1040x128_d0) (ix2 ⟨n, hn⟩ d) = ∑ j ∈ Finset.range 4, f (n + j) := by
  have e : (n + 1040 - 1038) % 1040 = n + 2 := by rw [Nat.mod_eq_of_lt] <;> omega
  pointwise
  refine (congrArg₂ (· + ·) (hx n hn (by omega))
    ((congrArg (fun a => x (ix2 a d)) (Fin.ext e)).trans (hx (n + 2) (by omega) (by omega)))).trans ?_
  refine Eq.trans ?_ (Finset.sum_range_add (fun j => f (n + j)) 2 2).symm
  refine congrArg₂ (· + ·) rfl ?_
  exact Finset.sum_congr rfl fun j _ => by rw [Nat.add_assoc]

/-- Adding what the rotation brings up from 4 rows below doubles the window of 4. -/
theorem double4 (x : FVec Ideal S1040x128 .f32)
    (hx : ∀ n (hn : n < 1040), n + 3 < 1040 → x (ix2 ⟨n, hn⟩ d) = ∑ j ∈ Finset.range 4, f (n + j)) (n : ℕ) (hn : n < 1040) (h : n + 7 < 1040) :
    addf x (dynamicRotate 0 1036#32 none x rotates_S1040x128_d0) (ix2 ⟨n, hn⟩ d) = ∑ j ∈ Finset.range 8, f (n + j) := by
  have e : (n + 1040 - 1036) % 1040 = n + 4 := by rw [Nat.mod_eq_of_lt] <;> omega
  pointwise
  refine (congrArg₂ (· + ·) (hx n hn (by omega))
    ((congrArg (fun a => x (ix2 a d)) (Fin.ext e)).trans (hx (n + 4) (by omega) (by omega)))).trans ?_
  refine Eq.trans ?_ (Finset.sum_range_add (fun j => f (n + j)) 4 4).symm
  refine congrArg₂ (· + ·) rfl ?_
  exact Finset.sum_congr rfl fun j _ => by rw [Nat.add_assoc]

/-- Adding what the rotation brings up from 8 rows below doubles the window of 8. -/
theorem double8 (x : FVec Ideal S1040x128 .f32)
    (hx : ∀ n (hn : n < 1040), n + 7 < 1040 → x (ix2 ⟨n, hn⟩ d) = ∑ j ∈ Finset.range 8, f (n + j)) (n : ℕ) (hn : n < 1040) (h : n + 15 < 1040) :
    addf x (dynamicRotate 0 1032#32 none x rotates_S1040x128_d0) (ix2 ⟨n, hn⟩ d) = ∑ j ∈ Finset.range 16, f (n + j) := by
  have e : (n + 1040 - 1032) % 1040 = n + 8 := by rw [Nat.mod_eq_of_lt] <;> omega
  pointwise
  refine (congrArg₂ (· + ·) (hx n hn (by omega))
    ((congrArg (fun a => x (ix2 a d)) (Fin.ext e)).trans (hx (n + 8) (by omega) (by omega)))).trans ?_
  refine Eq.trans ?_ (Finset.sum_range_add (fun j => f (n + j)) 8 8).symm
  refine congrArg₂ (· + ·) rfl ?_
  exact Finset.sum_congr rfl fun j _ => by rw [Nat.add_assoc]

theorem top_apply (x : FVec Ideal S1040x128 .f32) (r : Fin 1024) :
    extractStridedSlice S1024x128 ![0, 0] x slices_S1040x128_o0_0_S1024x128 (ix2 r d) = x (ix2 ⟨r.val, by omega⟩ d) := by
  pointwise

end Windows

section Out

variable (c : Dev nD) (i : grid0.Coords) (arg1 : Memref sig .tc .vmem S1024x512 .bf16) (h1 : arg1.IsWhole)
    (arg2 : Memref sig .tc .vmem S1024x512 .bf16) (h2 : arg2.IsWhole) (arg3 : Memref sig .tc .vmem S4x128x128 .f32) (h3 : arg3.IsWhole)
    (arg4 : Memref sig .tc .vmem S1x512 .f32) (h4 : arg4.IsWhole) (arg5 : Memref sig .tc .vmem S1024x512 .f32) (h5 : arg5.IsWhole)
    (arg6 : Memref sig .tc .vmem S4x128x128 .f32) (h6 : arg6.IsWhole) (arg7 : Memref sig .tc .vmem S8x512 .f32) (h7 : arg7.IsWhole)
    (arg8 : Memref sig .tc .vmem S16x512 .f32) (h8 : arg8.IsWhole)
    (x0 x1 : Vec Ideal S1024x512 .bf16) (x2 : Vec Ideal S4x128x128 .f32) (x3 : Vec Ideal S1x512 .f32)
    (xo5 : Vec Ideal S4x128x128 .f32) (xo6 : Vec Ideal S8x512 .f32) (xs0 : Vec Ideal S16x512 .f32)

theorem out0_A_5_apply (hc : cond0_0 i) (g : Fin 4) (a b : Fin 128) :
    out0_A_5 c i arg1 h1 arg2 h2 arg3 h3 arg4 h4 arg5 h5 arg6 h6 arg7 h7 arg8 h8 hc x0 x1 x2 x3 (ix3 g a b)
      = 0 + ∑ r : Fin 1024, x1 (ix2 r (col g a)) * (x0 (ix2 r (col g b)) * x3 (ix2 0 (col g b))) := by
  unfold out0_A_5
  unfold kernelRun0_A; dsimp only; sl_unfold_words
  simp only [View.readAt_eq_ld, h1.read_unread, h2.read_unread, h3.read_unread, h4.read_unread]
  simp (disch := decide) only [↓ View.readCov_skip, ↓ View.readCov_cons_toLoadRect, ↓ View.readCov_fill]
  rcases group g with rfl | rfl | rfl | rfl
  · refine (miss3 _ _ _ _ _ _ _ _ _ (by decide)).trans ?_
    refine (miss3 _ _ _ _ _ _ _ _ _ (by decide)).trans ?_
    refine (miss3 _ _ _ _ _ _ _ _ _ (by decide)).trans ?_
    refine (hit3 _ _ _ _ _ _ _ _ _ (by rfl)).trans ?_
    pointwise [k0_pay1, k0_pay2, k0_pay3, k0_pay5, k0_pay6, k0_pay7, k0_pay8, k0_pay9, k0_pay10, k0_pay11, k0_pay12, k0_pay13, k0_pay14, k0_pay15]
    first | done | (simp only [col0]; done) | rfl
  · refine (miss3 _ _ _ _ _ _ _ _ _ (by decide)).trans ?_
    refine (miss3 _ _ _ _ _ _ _ _ _ (by decide)).trans ?_
    refine (hit3 _ _ _ _ _ _ _ _ _ (by rfl)).trans ?_
    pointwise [k0_pay1, k0_pay2, k0_pay3, k0_pay16, k0_pay17, k0_pay18, k0_pay19, k0_pay20, k0_pay21, k0_pay22, k0_pay23, k0_pay24, k0_pay25, k0_pay26, k0_pay27]
    first | done | (simp only [col0]; done) | rfl
  · refine (miss3 _ _ _ _ _ _ _ _ _ (by decide)).trans ?_
    refine (hit3 _ _ _ _ _ _ _ _ _ (by rfl)).trans ?_
    pointwise [k0_pay1, k0_pay2, k0_pay3, k0_pay28, k0_pay29, k0_pay30, k0_pay31, k0_pay32, k0_pay33, k0_pay34, k0_pay35, k0_pay36, k0_pay37, k0_pay38]
    first | done | (simp only [col0]; done) | rfl
  · refine (hit3 _ _ _ _ _ _ _ _ _ (by rfl)).trans ?_
    pointwise [k0_pay1, k0_pay2, k0_pay3, k0_pay39, k0_pay40, k0_pay41, k0_pay42, k0_pay43, k0_pay44, k0_pay45, k0_pay46, k0_pay47, k0_pay48]
    first | done | (simp only [col0]; done) | rfl

theorem out0_B_5_apply (hc : ¬ cond0_0 i) (g : Fin 4) (a b : Fin 128) :
    out0_B_5 c i arg1 h1 arg2 h2 arg3 h3 arg4 h4 arg5 h5 arg6 h6 arg7 h7 arg8 h8 hc x0 x1 x2 x3 xo5 xo6 xs0 (ix3 g a b)
      = xo5 (ix3 g a b) + ∑ r : Fin 1024, x1 (ix2 r (col g a)) * (x0 (ix2 r (col g b)) * x3 (ix2 0 (col g b))) := by
  unfold out0_B_5
  unfold kernelRun0_B; dsimp only; sl_unfold_words
  simp only [View.readAt_eq_ld, h1.read_unread, h2.read_unread, h3.read_unread, h4.read_unread, h6.read_unread, h7.read_unread, h8.read_unread]
  rcases group g with rfl | rfl | rfl | rfl
  · refine (miss3 _ _ _ _ _ _ _ _ _ (by decide)).trans ?_
    refine (miss3 _ _ _ _ _ _ _ _ _ (by decide)).trans ?_
    refine (miss3 _ _ _ _ _ _ _ _ _ (by decide)).trans ?_
    refine (hit3 _ _ _ _ _ _ _ _ _ (by rfl)).trans ?_
    pointwise [k0_pay1, k0_pay2, k0_pay3, k0_pay5, k0_pay6, k0_pay7, k0_pay8, k0_pay9, k0_pay10, k0_pay11, k0_pay12, k0_pay13, k0_pay14, k0_pay15]
    first | done | (simp only [col0]; done) | rfl
  · refine (miss3 _ _ _ _ _ _ _ _ _ (by decide)).trans ?_
    refine (miss3 _ _ _ _ _ _ _ _ _ (by decide)).trans ?_
    refine (hit3 _ _ _ _ _ _ _ _ _ (by rfl)).trans ?_
    pointwise [k0_pay1, k0_pay2, k0_pay3, k0_pay16, k0_pay17, k0_pay18, k0_pay19, k0_pay20, k0_pay21, k0_pay22, k0_pay23, k0_pay24, k0_pay25, k0_pay26, k0_pay27]
    first | done | (simp only [col0]; done) | rfl
  · refine (miss3 _ _ _ _ _ _ _ _ _ (by decide)).trans ?_
    refine (hit3 _ _ _ _ _ _ _ _ _ (by rfl)).trans ?_
    pointwise [k0_pay1, k0_pay2, k0_pay3, k0_pay28, k0_pay29, k0_pay30, k0_pay31, k0_pay32, k0_pay33, k0_pay34, k0_pay35, k0_pay36, k0_pay37, k0_pay38]
    first | done | (simp only [col0]; done) | rfl
  · refine (hit3 _ _ _ _ _ _ _ _ _ (by rfl)).trans ?_
    pointwise [k0_pay1, k0_pay2, k0_pay3, k0_pay39, k0_pay40, k0_pay41, k0_pay42, k0_pay43, k0_pay44, k0_pay45, k0_pay46, k0_pay47, k0_pay48]
    first | done | (simp only [col0]; done) | rfl

theorem out0_A_6_apply (hc : cond0_0 i) (g : Fin 4) (d : Fin 128) :
    out0_A_6 c i arg1 h1 arg2 h2 arg3 h3 arg4 h4 arg5 h5 arg6 h6 arg7 h7 arg8 h8 hc x0 x1 x2 x3 (ix2 0 (col g d))
      = 0 + ∑ r : Fin 1024, x0 (ix2 r (col g d)) * ∑ k : Fin 128, x1 (ix2 r (col g k)) * x2 (ix3 g k d) := by
  unfold out0_A_6
  unfold kernelRun0_A; dsimp only; sl_unfold_words
  simp only [View.readAt_eq_ld, h1.read_unread, h2.read_unread, h3.read_unread, h4.read_unread]
  simp (disch := decide) only [↓ View.readCov_skip, ↓ View.readCov_cons_toLoadRect, ↓ View.readCov_fill]
  rcases group g with rfl | rfl | rfl | rfl
  · refine (miss2 _ _ _ _ _ _ _ _ (Or.inl (show 128 * 0 + d.val < 384 by omega))).trans ?_
    refine (miss2 _ _ _ _ _ _ _ _ (Or.inl (show 128 * 0 + d.val < 256 by omega))).trans ?_
    refine (miss2 _ _ _ _ _ _ _ _ (Or.inl (show 128 * 0 + d.val < 128 by omega))).trans ?_
    refine (hit2 _ _ _ _ _ _ _ _ 0 d (by rfl) (by first | rfl | (show 128 * 0 + d.val = 0 + d.val; omega))).trans ?_
    pointwise [k0_pay1, k0_pay2, k0_pay3, k0_pay5, k0_pay6, k0_pay7, k0_pay8, k0_pay9, k0_pay10, k0_pay11, k0_pay12, k0_pay13, k0_pay14, k0_pay15]
    first | done | (simp only [col0]; done) | rfl
  · refine (miss2 _ _ _ _ _ _ _ _ (Or.inl (show 128 * 1 + d.val < 384 by omega))).trans ?_
    refine (miss2 _ _ _ _ _ _ _ _ (Or.inl (show 128 * 1 + d.val < 256 by omega))).trans ?_
    refine (hit2 _ _ _ _ _ _ _ _ 0 d (by rfl) (by first | rfl | (show 128 * 1 + d.val = 128 + d.val; omega))).trans ?_
    pointwise [k0_pay1, k0_pay2, k0_pay3, k0_pay16, k0_pay17, k0_pay18, k0_pay19, k0_pay20, k0_pay21, k0_pay22, k0_pay23, k0_pay24, k0_pay25, k0_pay26, k0_pay27]
    first | done | (simp only [col0]; done) | rfl
  · refine (miss2 _ _ _ _ _ _ _ _ (Or.inl (show 128 * 2 + d.val < 384 by omega))).trans ?_
    refine (hit2 _ _ _ _ _ _ _ _ 0 d (by rfl) (by first | rfl | (show 128 * 2 + d.val = 256 + d.val; omega))).trans ?_
    pointwise [k0_pay1, k0_pay2, k0_pay3, k0_pay28, k0_pay29, k0_pay30, k0_pay31, k0_pay32, k0_pay33, k0_pay34, k0_pay35, k0_pay36, k0_pay37, k0_pay38]
    first | done | (simp only [col0]; done) | rfl
  · refine (hit2 _ _ _ _ _ _ _ _ 0 d (by rfl) (by first | rfl | (show 128 * 3 + d.val = 384 + d.val; omega))).trans ?_
    pointwise [k0_pay1, k0_pay2, k0_pay3, k0_pay39, k0_pay40, k0_pay41, k0_pay42, k0_pay43, k0_pay44, k0_pay45, k0_pay46, k0_pay47, k0_pay48]
    first | done | (simp only [col0]; done) | rfl

theorem out0_A_6_rest (hc : cond0_0 i) (r : Fin 8) (hr : 0 + 1 ≤ r.val) (k : Fin 512) :
    out0_A_6 c i arg1 h1 arg2 h2 arg3 h3 arg4 h4 arg5 h5 arg6 h6 arg7 h7 arg8 h8 hc x0 x1 x2 x3 (ix2 r k) = 0 := by
  unfold out0_A_6
  unfold kernelRun0_A; dsimp only; sl_unfold_words
  simp only [View.readAt_eq_ld, h1.read_unread, h2.read_unread, h3.read_unread, h4.read_unread]
  simp (disch := decide) only [↓ View.readCov_skip, ↓ View.readCov_cons_toLoadRect, ↓ View.readCov_fill]
  refine (below2 _ _ _ _ _ _ _ _ hr).trans ?_
  refine (below2 _ _ _ _ _ _ _ _ hr).trans ?_
  refine (below2 _ _ _ _ _ _ _ _ hr).trans ?_
  refine (below2 _ _ _ _ _ _ _ _ hr).trans ?_
  refine (congrFun (View.read_writes_full _ _ _ _ _) _).trans ?_
  pointwise [k0_pay3]

theorem out0_B_6_apply (hc : ¬ cond0_0 i) (g : Fin 4) (d : Fin 128) :
    out0_B_6 c i arg1 h1 arg2 h2 arg3 h3 arg4 h4 arg5 h5 arg6 h6 arg7 h7 arg8 h8 hc x0 x1 x2 x3 xo5 xo6 xs0 (ix2 0 (col g d))
      = xo6 (ix2 0 (col g d)) + ∑ r : Fin 1024, x0 (ix2 r (col g d)) * ∑ k : Fin 128, x1 (ix2 r (col g k)) * x2 (ix3 g k d) := by
  unfold out0_B_6
  unfold kernelRun0_B; dsimp only; sl_unfold_words
  simp only [View.readAt_eq_ld, h1.read_unread, h2.read_unread, h3.read_unread, h4.read_unread, h6.read_unread, h7.read_unread, h8.read_unread]
  rcases group g with rfl | rfl | rfl | rfl
  · refine (miss2 _ _ _ _ _ _ _ _ (Or.inl (show 128 * 0 + d.val < 384 by omega))).trans ?_
    refine (miss2 _ _ _ _ _ _ _ _ (Or.inl (show 128 * 0 + d.val < 256 by omega))).trans ?_
    refine (miss2 _ _ _ _ _ _ _ _ (Or.inl (show 128 * 0 + d.val < 128 by omega))).trans ?_
    refine (hit2 _ _ _ _ _ _ _ _ 0 d (by rfl) (by first | rfl | (show 128 * 0 + d.val = 0 + d.val; omega))).trans ?_
    pointwise [k0_pay1, k0_pay2, k0_pay3, k0_pay5, k0_pay6, k0_pay7, k0_pay8, k0_pay9, k0_pay10, k0_pay11, k0_pay12, k0_pay13, k0_pay14, k0_pay15]
    first | done | (simp only [col0]; done) | rfl
  · refine (miss2 _ _ _ _ _ _ _ _ (Or.inl (show 128 * 1 + d.val < 384 by omega))).trans ?_
    refine (miss2 _ _ _ _ _ _ _ _ (Or.inl (show 128 * 1 + d.val < 256 by omega))).trans ?_
    refine (hit2 _ _ _ _ _ _ _ _ 0 d (by rfl) (by first | rfl | (show 128 * 1 + d.val = 128 + d.val; omega))).trans ?_
    pointwise [k0_pay1, k0_pay2, k0_pay3, k0_pay16, k0_pay17, k0_pay18, k0_pay19, k0_pay20, k0_pay21, k0_pay22, k0_pay23, k0_pay24, k0_pay25, k0_pay26, k0_pay27]
    first | done | (simp only [col0]; done) | rfl
  · refine (miss2 _ _ _ _ _ _ _ _ (Or.inl (show 128 * 2 + d.val < 384 by omega))).trans ?_
    refine (hit2 _ _ _ _ _ _ _ _ 0 d (by rfl) (by first | rfl | (show 128 * 2 + d.val = 256 + d.val; omega))).trans ?_
    pointwise [k0_pay1, k0_pay2, k0_pay3, k0_pay28, k0_pay29, k0_pay30, k0_pay31, k0_pay32, k0_pay33, k0_pay34, k0_pay35, k0_pay36, k0_pay37, k0_pay38]
    first | done | (simp only [col0]; done) | rfl
  · refine (hit2 _ _ _ _ _ _ _ _ 0 d (by rfl) (by first | rfl | (show 128 * 3 + d.val = 384 + d.val; omega))).trans ?_
    pointwise [k0_pay1, k0_pay2, k0_pay3, k0_pay39, k0_pay40, k0_pay41, k0_pay42, k0_pay43, k0_pay44, k0_pay45, k0_pay46, k0_pay47, k0_pay48]
    first | done | (simp only [col0]; done) | rfl

theorem out0_B_6_rest (hc : ¬ cond0_0 i) (r : Fin 8) (hr : 0 + 1 ≤ r.val) (k : Fin 512) :
    out0_B_6 c i arg1 h1 arg2 h2 arg3 h3 arg4 h4 arg5 h5 arg6 h6 arg7 h7 arg8 h8 hc x0 x1 x2 x3 xo5 xo6 xs0 (ix2 r k) = xo6 (ix2 r k) := by
  unfold out0_B_6
  unfold kernelRun0_B; dsimp only; sl_unfold_words
  simp only [View.readAt_eq_ld, h1.read_unread, h2.read_unread, h3.read_unread, h4.read_unread, h6.read_unread, h7.read_unread, h8.read_unread]
  refine (below2 _ _ _ _ _ _ _ _ hr).trans ?_
  refine (below2 _ _ _ _ _ _ _ _ hr).trans ?_
  refine (below2 _ _ _ _ _ _ _ _ hr).trans ?_
  refine (below2 _ _ _ _ _ _ _ _ hr).trans ?_
  rw [View.writes_nil, h7.read_unread]

theorem sout0_A_0_apply (hc : cond0_0 i) (g : Fin 4) (r : Fin 16) (d : Fin 128) :
    sout0_A_0 c i arg1 h1 arg2 h2 arg3 h3 arg4 h4 arg5 h5 arg6 h6 arg7 h7 arg8 h8 hc x0 x1 x2 x3 (ix2 r (col g d)) = gq i x0 x2 x3 g ⟨r.val, by omega⟩ d := by
  unfold sout0_A_0
  unfold kernelRun0_A; dsimp only; sl_unfold_words
  simp only [View.readAt_eq_ld, h1.read_unread, h2.read_unread, h3.read_unread, h4.read_unread]
  rcases group g with rfl | rfl | rfl | rfl
  · refine (miss2 _ _ _ _ _ _ _ _ (Or.inl (show 128 * 0 + d.val < 384 by omega))).trans ?_
    refine (miss2 _ _ _ _ _ _ _ _ (Or.inl (show 128 * 0 + d.val < 256 by omega))).trans ?_
    refine (miss2 _ _ _ _ _ _ _ _ (Or.inl (show 128 * 0 + d.val < 128 by omega))).trans ?_
    refine (hit2 _ _ _ _ _ _ _ _ r d (by rfl) (by first | rfl | (show 128 * 0 + d.val = 0 + d.val; omega))).trans ?_
    pointwise [k0_pay1, k0_pay2, k0_pay3, k0_pay5, k0_pay6, k0_pay7, k0_pay8, k0_pay9, k0_pay10, k0_pay11, k0_pay12, k0_pay13, k0_pay14, k0_pay15, gq, dpl, cnt, wlit]
    first | done | (simp only [col0]; done) | rfl
  · refine (miss2 _ _ _ _ _ _ _ _ (Or.inl (show 128 * 1 + d.val < 384 by omega))).trans ?_
    refine (miss2 _ _ _ _ _ _ _ _ (Or.inl (show 128 * 1 + d.val < 256 by omega))).trans ?_
    refine (hit2 _ _ _ _ _ _ _ _ r d (by rfl) (by first | rfl | (show 128 * 1 + d.val = 128 + d.val; omega))).trans ?_
    pointwise [k0_pay1, k0_pay2, k0_pay3, k0_pay16, k0_pay17, k0_pay18, k0_pay19, k0_pay20, k0_pay21, k0_pay22, k0_pay23, k0_pay24, k0_pay25, k0_pay26, k0_pay27, gq, dpl, cnt, wlit]
    first | done | (simp only [col0]; done) | rfl
  · refine (miss2 _ _ _ _ _ _ _ _ (Or.inl (show 128 * 2 + d.val < 384 by omega))).trans ?_
    refine (hit2 _ _ _ _ _ _ _ _ r d (by rfl) (by first | rfl | (show 128 * 2 + d.val = 256 + d.val; omega))).trans ?_
    pointwise [k0_pay1, k0_pay2, k0_pay3, k0_pay28, k0_pay29, k0_pay30, k0_pay31, k0_pay32, k0_pay33, k0_pay34, k0_pay35, k0_pay36, k0_pay37, k0_pay38, gq, dpl, cnt, wlit]
    first | done | (simp only [col0]; done) | rfl
  · refine (hit2 _ _ _ _ _ _ _ _ r d (by rfl) (by first | rfl | (show 128 * 3 + d.val = 384 + d.val; omega))).trans ?_
    pointwise [k0_pay1, k0_pay2, k0_pay3, k0_pay39, k0_pay40, k0_pay41, k0_pay42, k0_pay43, k0_pay44, k0_pay45, k0_pay46, k0_pay47, k0_pay48, gq, dpl, cnt, wlit]
    first | done | (simp only [col0]; done) | rfl

theorem sout0_B_0_apply (hc : ¬ cond0_0 i) (g : Fin 4) (r : Fin 16) (d : Fin 128) :
    sout0_B_0 c i arg1 h1 arg2 h2 arg3 h3 arg4 h4 arg5 h5 arg6 h6 arg7 h7 arg8 h8 hc x0 x1 x2 x3 xo5 xo6 xs0 (ix2 r (col g d)) = gq i x0 x2 x3 g ⟨r.val, by omega⟩ d := by
  unfold sout0_B_0
  unfold kernelRun0_B; dsimp only; sl_unfold_words
  simp only [View.readAt_eq_ld, h1.read_unread, h2.read_unread, h3.read_unread, h4.read_unread, h6.read_unread, h7.read_unread, h8.read_unread]
  rcases group g with rfl | rfl | rfl | rfl
  · refine (miss2 _ _ _ _ _ _ _ _ (Or.inl (show 128 * 0 + d.val < 384 by omega))).trans ?_
    refine (miss2 _ _ _ _ _ _ _ _ (Or.inl (show 128 * 0 + d.val < 256 by omega))).trans ?_
    refine (miss2 _ _ _ _ _ _ _ _ (Or.inl (show 128 * 0 + d.val < 128 by omega))).trans ?_
    refine (hit2 _ _ _ _ _ _ _ _ r d (by rfl) (by first | rfl | (show 128 * 0 + d.val = 0 + d.val; omega))).trans ?_
    pointwise [k0_pay1, k0_pay2, k0_pay3, k0_pay5, k0_pay6, k0_pay7, k0_pay8, k0_pay9, k0_pay10, k0_pay11, k0_pay12, k0_pay13, k0_pay14, k0_pay15, gq, dpl, cnt, wlit]
    first | done | (simp only [col0]; done) | rfl
  · refine (miss2 _ _ _ _ _ _ _ _ (Or.inl (show 128 * 1 + d.val < 384 by omega))).trans ?_
    refine (miss2 _ _ _ _ _ _ _ _ (Or.inl (show 128 * 1 + d.val < 256 by omega))).trans ?_
    refine (hit2 _ _ _ _ _ _ _ _ r d (by rfl) (by first | rfl | (show 128 * 1 + d.val = 128 + d.val; omega))).trans ?_
    pointwise [k0_pay1, k0_pay2, k0_pay3, k0_pay16, k0_pay17, k0_pay18, k0_pay19, k0_pay20, k0_pay21, k0_pay22, k0_pay23, k0_pay24, k0_pay25, k0_pay26, k0_pay27, gq, dpl, cnt, wlit]
    first | done | (simp only [col0]; done) | rfl
  · refine (miss2 _ _ _ _ _ _ _ _ (Or.inl (show 128 * 2 + d.val < 384 by omega))).trans ?_
    refine (hit2 _ _ _ _ _ _ _ _ r d (by rfl) (by first | rfl | (show 128 * 2 + d.val = 256 + d.val; omega))).trans ?_
    pointwise [k0_pay1, k0_pay2, k0_pay3, k0_pay28, k0_pay29, k0_pay30, k0_pay31, k0_pay32, k0_pay33, k0_pay34, k0_pay35, k0_pay36, k0_pay37, k0_pay38, gq, dpl, cnt, wlit]
    first | done | (simp only [col0]; done) | rfl
  · refine (hit2 _ _ _ _ _ _ _ _ r d (by rfl) (by first | rfl | (show 128 * 3 + d.val = 384 + d.val; omega))).trans ?_
    pointwise [k0_pay1, k0_pay2, k0_pay3, k0_pay39, k0_pay40, k0_pay41, k0_pay42, k0_pay43, k0_pay44, k0_pay45, k0_pay46, k0_pay47, k0_pay48, gq, dpl, cnt, wlit]
    first | done | (simp only [col0]; done) | rfl

theorem out0_A_4_apply (hc : cond0_0 i) (g : Fin 4) (r : Fin 1024) (d : Fin 128) :
    out0_A_4 c i arg1 h1 arg2 h2 arg3 h3 arg4 h4 arg5 h5 arg6 h6 arg7 h7 arg8 h8 hc x0 x1 x2 x3 (ix2 r (col g d))
      = (∑ j ∈ Finset.range (2 ^ (g.val + 1)), ext i x0 x2 x3 (fun _ => 0) g d (r.val + j)) - dpl x0 x2 x3 g r d := by
  unfold out0_A_4
  unfold kernelRun0_A; dsimp only; sl_unfold_words
  simp only [View.readAt_eq_ld, h1.read_unread, h2.read_unread, h3.read_unread, h4.read_unread]
  simp (disch := decide) only [↓ View.readCov_skip, ↓ View.readCov_cons_toLoadRect, ↓ View.readCov_fill]
  rcases group g with rfl | rfl | rfl | rfl
  · refine (miss2 _ _ _ _ _ _ _ _ (Or.inl (show 128 * 0 + d.val < 384 by omega))).trans ?_
    refine (miss2 _ _ _ _ _ _ _ _ (Or.inl (show 128 * 0 + d.val < 256 by omega))).trans ?_
    refine (miss2 _ _ _ _ _ _ _ _ (Or.inl (show 128 * 0 + d.val < 128 by omega))).trans ?_
    refine (hit2 _ _ _ _ _ _ _ _ r d (by rfl) (by first | rfl | (show 128 * 0 + d.val = 0 + d.val; omega))).trans ?_
    refine congrArg₂ (· - ·) ((top_apply _ _ _).trans (double1 _ _ _ (cat_apply _ _ _ _ ?_ ?_) _ _ (by omega))) ?_
    · intro n h
      rw [ext, dif_pos h]
      pointwise [k0_pay5, k0_pay6, k0_pay7, k0_pay9, k0_pay12, k0_pay13, k0_pay14, gq, dpl, cnt, wlit]
      first | done | (simp only [col0]; done) | rfl
    · intro n h h'
      rw [ext, dif_neg h, dif_pos h']
      pointwise [k0_pay1]
      first | done | (simp only [col0]; done) | rfl
    · pointwise [k0_pay5, k0_pay6, k0_pay7, k0_pay9, k0_pay12, k0_pay13, k0_pay14, dpl]
      first | done | (simp only [col0]; done) | rfl
  · refine (miss2 _ _ _ _ _ _ _ _ (Or.inl (show 128 * 1 + d.val < 384 by omega))).trans ?_
    refine (miss2 _ _ _ _ _ _ _ _ (Or.inl (show 128 * 1 + d.val < 256 by omega))).trans ?_
    refine (hit2 _ _ _ _ _ _ _ _ r d (by rfl) (by first | rfl | (show 128 * 1 + d.val = 128 + d.val; omega))).trans ?_
    refine congrArg₂ (· - ·) ((top_apply _ _ _).trans (double2 _ _ _ (double1 _ _ _ (cat_apply _ _ _ _ ?_ ?_)) _ _ (by omega))) ?_
    · intro n h
      rw [ext, dif_pos h]
      pointwise [k0_pay16, k0_pay17, k0_pay18, k0_pay24, k0_pay25, k0_pay22, k0_pay19, k0_pay20, gq, dpl, cnt, wlit]
      first | done | (simp only [col0]; done) | rfl
    · intro n h h'
      rw [ext, dif_neg h, dif_pos h']
      pointwise [k0_pay1]
      first | done | (simp only [col0]; done) | rfl
    · pointwise [k0_pay16, k0_pay17, k0_pay18, k0_pay24, k0_pay25, k0_pay22, k0_pay19, k0_pay20, dpl]
      first | done | (simp only [col0]; done) | rfl
  · refine (miss2 _ _ _ _ _ _ _ _ (Or.inl (show 128 * 2 + d.val < 384 by omega))).trans ?_
    refine (hit2 _ _ _ _ _ _ _ _ r d (by rfl) (by first | rfl | (show 128 * 2 + d.val = 256 + d.val; omega))).trans ?_
    refine congrArg₂ (· - ·) ((top_apply _ _ _).trans (double4 _ _ _ (double2 _ _ _ (double1 _ _ _ (cat_apply _ _ _ _ ?_ ?_))) _ _ (by omega))) ?_
    · intro n h
      rw [ext, dif_pos h]
      pointwise [k0_pay28, k0_pay29, k0_pay30, k0_pay32, k0_pay34, k0_pay35, k0_pay36, gq, dpl, cnt, wlit]
      first | done | (simp only [col0]; done) | rfl
    · intro n h h'
      rw [ext, dif_neg h, dif_pos h']
      pointwise [k0_pay1]
      first | done | (simp only [col0]; done) | rfl
    · pointwise [k0_pay28, k0_pay29, k0_pay30, k0_pay32, k0_pay34, k0_pay35, k0_pay36, dpl]
      first | done | (simp only [col0]; done) | rfl
  · refine (hit2 _ _ _ _ _ _ _ _ r d (by rfl) (by first | rfl | (show 128 * 3 + d.val = 384 + d.val; omega))).trans ?_
    refine congrArg₂ (· - ·) ((top_apply _ _ _).trans (double8 _ _ _ (double4 _ _ _ (double2 _ _ _ (double1 _ _ _ (cat_apply _ _ _ _ ?_ ?_)))) _ _ (by omega))) ?_
    · intro n h
      rw [ext, dif_pos h]
      pointwise [k0_pay39, k0_pay40, k0_pay41, k0_pay43, k0_pay45, k0_pay46, gq, dpl, cnt, wlit]
      first | done | (simp only [col0]; done) | rfl
    · intro n h h'
      rw [ext, dif_neg h, dif_pos h']
      pointwise [k0_pay1]
      first | done | (simp only [col0]; done) | rfl
    · pointwise [k0_pay39, k0_pay40, k0_pay41, k0_pay43, k0_pay45, k0_pay46, dpl]
      first | done | (simp only [col0]; done) | rfl

theorem out0_B_4_apply (hc : ¬ cond0_0 i) (g : Fin 4) (r : Fin 1024) (d : Fin 128) :
    out0_B_4 c i arg1 h1 arg2 h2 arg3 h3 arg4 h4 arg5 h5 arg6 h6 arg7 h7 arg8 h8 hc x0 x1 x2 x3 xo5 xo6 xs0 (ix2 r (col g d))
      = (∑ j ∈ Finset.range (2 ^ (g.val + 1)), ext i x0 x2 x3 xs0 g d (r.val + j)) - dpl x0 x2 x3 g r d := by
  unfold out0_B_4
  unfold kernelRun0_B; dsimp only; sl_unfold_words
  simp only [View.readAt_eq_ld, h1.read_unread, h2.read_unread, h3.read_unread, h4.read_unread, h6.read_unread, h7.read_unread, h8.read_unread]
  rcases group g with rfl | rfl | rfl | rfl
  · refine (miss2 _ _ _ _ _ _ _ _ (Or.inl (show 128 * 0 + d.val < 384 by omega))).trans ?_
    refine (miss2 _ _ _ _ _ _ _ _ (Or.inl (show 128 * 0 + d.val < 256 by omega))).trans ?_
    refine (miss2 _ _ _ _ _ _ _ _ (Or.inl (show 128 * 0 + d.val < 128 by omega))).trans ?_
    refine (hit2 _ _ _ _ _ _ _ _ r d (by rfl) (by first | rfl | (show 128 * 0 + d.val = 0 + d.val; omega))).trans ?_
    refine congrArg₂ (· - ·) ((top_apply _ _ _).trans (double1 _ _ _ (cat_apply _ _ _ _ ?_ ?_) _ _ (by omega))) ?_
    · intro n h
      rw [ext, dif_pos h]
      pointwise [k0_pay5, k0_pay6, k0_pay7, k0_pay9, k0_pay12, k0_pay13, k0_pay14, gq, dpl, cnt, wlit]
      first | done | (simp only [col0]; done) | rfl
    · intro n h h'
      rw [ext, dif_neg h, dif_pos h']
      pointwise [k0_pay1]
      first | done | (simp only [col0]; done) | rfl
    · pointwise [k0_pay5, k0_pay6, k0_pay7, k0_pay9, k0_pay12, k0_pay13, k0_pay14, dpl]
      first | done | (simp only [col0]; done) | rfl
  · refine (miss2 _ _ _ _ _ _ _ _ (Or.inl (show 128 * 1 + d.val < 384 by omega))).trans ?_
    refine (miss2 _ _ _ _ _ _ _ _ (Or.inl (show 128 * 1 + d.val < 256 by omega))).trans ?_
    refine (hit2 _ _ _ _ _ _ _ _ r d (by rfl) (by first | rfl | (show 128 * 1 + d.val = 128 + d.val; omega))).trans ?_
    refine congrArg₂ (· - ·) ((top_apply _ _ _).trans (double2 _ _ _ (double1 _ _ _ (cat_apply _ _ _ _ ?_ ?_)) _ _ (by omega))) ?_
    · intro n h
      rw [ext, dif_pos h]
      pointwise [k0_pay16, k0_pay17, k0_pay18, k0_pay24, k0_pay25, k0_pay22, k0_pay19, k0_pay20, gq, dpl, cnt, wlit]
      first | done | (simp only [col0]; done) | rfl
    · intro n h h'
      rw [ext, dif_neg h, dif_pos h']
      pointwise [k0_pay1]
      first | done | (simp only [col0]; done) | rfl
    · pointwise [k0_pay16, k0_pay17, k0_pay18, k0_pay24, k0_pay25, k0_pay22, k0_pay19, k0_pay20, dpl]
      first | done | (simp only [col0]; done) | rfl
  · refine (miss2 _ _ _ _ _ _ _ _ (Or.inl (show 128 * 2 + d.val < 384 by omega))).trans ?_
    refine (hit2 _ _ _ _ _ _ _ _ r d (by rfl) (by first | rfl | (show 128 * 2 + d.val = 256 + d.val; omega))).trans ?_
    refine congrArg₂ (· - ·) ((top_apply _ _ _).trans (double4 _ _ _ (double2 _ _ _ (double1 _ _ _ (cat_apply _ _ _ _ ?_ ?_))) _ _ (by omega))) ?_
    · intro n h
      rw [ext, dif_pos h]
      pointwise [k0_pay28, k0_pay29, k0_pay30, k0_pay32, k0_pay34, k0_pay35, k0_pay36, gq, dpl, cnt, wlit]
      first | done | (simp only [col0]; done) | rfl
    · intro n h h'
      rw [ext, dif_neg h, dif_pos h']
      pointwise [k0_pay1]
      first | done | (simp only [col0]; done) | rfl
    · pointwise [k0_pay28, k0_pay29, k0_pay30, k0_pay32, k0_pay34, k0_pay35, k0_pay36, dpl]
      first | done | (simp only [col0]; done) | rfl
  · refine (hit2 _ _ _ _ _ _ _ _ r d (by rfl) (by first | rfl | (show 128 * 3 + d.val = 384 + d.val; omega))).trans ?_
    refine congrArg₂ (· - ·) ((top_apply _ _ _).trans (double8 _ _ _ (double4 _ _ _ (double2 _ _ _ (double1 _ _ _ (cat_apply _ _ _ _ ?_ ?_)))) _ _ (by omega))) ?_
    · intro n h
      rw [ext, dif_pos h]
      pointwise [k0_pay39, k0_pay40, k0_pay41, k0_pay43, k0_pay45, k0_pay46, gq, dpl, cnt, wlit]
      first | done | (simp only [col0]; done) | rfl
    · intro n h h'
      rw [ext, dif_neg h, dif_pos h']
      pointwise [k0_pay1]
      first | done | (simp only [col0]; done) | rfl
    · pointwise [k0_pay39, k0_pay40, k0_pay41, k0_pay43, k0_pay45, k0_pay46, dpl]
      first | done | (simp only [col0]; done) | rfl

end Out

end Cert.PoolIdeal.Blocks
-- ==== Proof.Pool.Math.lean ====
/-
  The gradient of the causal average pooling, as functions of a row, a group and a channel: what the kernel's arrays
  and the reference's arrays are both shown to hold. Four groups of 128 channels, pooled over windows of 2, 4, 8 and
  16 rows; row `t` of a group is the mean over the rows `t - w + 1 … t` that exist, less row `t`.
-/
module

public import proofs.«01_k».proof.Proof.Pool.Block

@[expose] public section

noncomputable section

open Idealize.ShloMosaic Idealize.ShloMosaic.TcCoe Idealize.SL.Sem

namespace Cert.Proof.Pool

open Cert.PoolIdeal.Blocks (col wlit)

variable (ct pb : Fin 8192 → Fin 512 → EReal) (W : Fin 4 → Fin 128 → Fin 128 → EReal) (sc : Fin 512 → EReal)

/-- The gradient of the pooled array: the output's gradient times the scale, through the group's weight. -/
def DP (g : Fin 4) (t : Fin 8192) (d : Fin 128) : EReal := ∑ k : Fin 128, ct t (col g k) * sc (col g k) * W g d k

/-- How many rows the mean at row `t` is over: `t + 1`, and no more than the window. -/
def CN (g : Fin 4) (t : ℕ) : EReal := min (((t : ℝ) : EReal) + 1) (wlit g)

/-- The gradient of the window's sum at row `n`, nothing below the last row. -/
def EQ (g : Fin 4) (d : Fin 128) (n : ℕ) : EReal := if h : n < 8192 then Ideal.div (DP ct W sc g ⟨n, h⟩ d) (CN g n) else 0

/-- The gradient of the mixer's input: the windows that row `t` lies in are those of rows `t … t + w - 1`. -/
def DU (g : Fin 4) (t : Fin 8192) (d : Fin 128) : EReal :=
  (∑ j ∈ Finset.range (2 ^ (g.val + 1)), EQ ct W sc g d (t.val + j)) - DP ct W sc g t d

/-- The gradient of the group's weight. -/
def DW (g : Fin 4) (a b : Fin 128) : EReal := ∑ t : Fin 8192, pb t (col g a) * (ct t (col g b) * sc (col g b))

/-- The gradient of the scale. -/
def DS (g : Fin 4) (d : Fin 128) : EReal := ∑ t : Fin 8192, ct t (col g d) * ∑ k : Fin 128, pb t (col g k) * W g k d

end Cert.Proof.Pool
-- ==== Proof.Pool.Arrays.lean ====
/-
  What the pooling's backward kernel leaves in its three result arrays, from the arrays its windows read: the blocks of
  rows go from the last to the first, each point hands the gradient at its first sixteen rows to the next, and the
  gradients of the weights and of the scale are summed over the points.
-/
module

public import proofs.«01_k».proof.Proof.Pool.Math

@[expose] public section

set_option maxRecDepth 16384

noncomputable section

open Idealize.ShloMosaic Idealize.ShloMosaic.TcCoe Idealize.SL.Sem

namespace Cert.PoolIdeal.Blocks

open Cert.PoolIdeal Cert.PoolIdeal.Gen Cert.PoolIdeal.Value Cert.Proof.Pool

variable (m : (ℓ : Loc nD τ sig) → Buf (Elt Ideal) ℓ) (c : Dev nD)

/-- The output's gradient, the pooled rows, the weights and the scale, as the windows' arrays hold them. -/
def ct (n : Fin 8192) (k : Fin 512) : EReal := V m c main_v56 (ix2 n k)
def pb (n : Fin 8192) (k : Fin 512) : EReal := V m c main_v55 (ix2 n k)
def wt (g : Fin 4) (a b : Fin 128) : EReal := V m c main_arg1 (ix3 g a b)
def sc (k : Fin 512) : EReal := V m c main_v57 (ix2 0 k)

theorem size : cfg0.N = 8 := N_0

/-- Row `r` of the block that point `t` works on. -/
def row (t : Fin cfg0.N) (r : Fin 1024) : Fin 8192 := ⟨1024 * (7 - t.val) + r.val, by omega⟩

theorem i0 : ∀ t : Fin cfg0.N, win0_0.index t = ![7 - t.val, 0] := by decide +kernel
theorem i1 : ∀ t : Fin cfg0.N, win0_1.index t = ![7 - t.val, 0] := by decide +kernel
theorem i2 : ∀ t : Fin cfg0.N, win0_2.index t = ![0, 0, 0] := by decide +kernel
theorem i3 : ∀ t : Fin cfg0.N, win0_3.index t = ![0, 0] := by decide +kernel
theorem i4 : ∀ t : Fin cfg0.N, win0_4.index t = ![7 - t.val, 0] := by decide +kernel

theorem blk0 (t : Fin cfg0.N) (r : Fin 1024) (k : Fin 512) : iblk m c 0 t (ix2 r k) = ct m c (row t r) k := by
  unfold ct row
  blk_simp [iblk]
  refine congrArg _ ?_
  blk_ext [i0]
theorem blk1 (t : Fin cfg0.N) (r : Fin 1024) (k : Fin 512) : iblk m c 1 t (ix2 r k) = pb m c (row t r) k := by
  unfold pb row
  blk_simp [iblk]
  refine congrArg _ ?_
  blk_ext [i1]
theorem blk2 (t : Fin cfg0.N) (g : Fin 4) (a b : Fin 128) : iblk m c 2 t (ix3 g a b) = wt m c g a b := by
  unfold wt
  blk_simp [iblk]
  refine congrArg _ ?_
  blk_ext [i2]
theorem blk3 (t : Fin cfg0.N) (k : Fin 512) : iblk m c 3 t (ix2 0 k) = sc m c k := by
  unfold sc
  blk_simp [iblk]
  refine congrArg _ ?_
  blk_ext [i3]

theorem coords0 : ∀ t : Fin cfg0.N, ((grid0.coords t) 0).val = t.val := by decide +kernel

/-- The kernel counts a row's own number with words: no word wraps. -/
theorem pay4_apply (t : Fin cfg0.N) (r : Fin 1024) : k0_pay4 (F := Ideal) (grid0.coords t) (ix2 r 0) = (((row t r).val : ℝ) : EReal) := by
  have ht : t.val < 8 := lt_of_lt_of_eq t.isLt size
  have e := coords0 t
  pointwise [k0_pay4]
  rw [e]
  have hw : (IntOp.addi (Scalar.muli (Scalar.subi 7#32 (BitVec.ofNat 32 t.val)) 1024#32) (BitVec.ofNat 32 r.val)).toInt = ((row t r).val : ℤ) := by
    have hr := r.isLt
    have : (IntOp.addi (Scalar.muli (Scalar.subi 7#32 (BitVec.ofNat 32 t.val)) 1024#32) (BitVec.ofNat 32 r.val)) = BitVec.ofNat 32 (row t r).val := by
      show (7#32 - BitVec.ofNat 32 t.val) * 1024#32 + BitVec.ofNat 32 r.val = _
      apply BitVec.eq_of_toNat_eq
      simp only [row, BitVec.toNat_add, BitVec.toNat_mul, BitVec.toNat_sub, BitVec.toNat_ofNat]
      omega
    rw [this, BitVec.toInt_eq_toNat_of_lt] <;> simp only [row, BitVec.toNat_ofNat] <;> omega
  show (((_ : ℤ) : ℝ) : EReal) = _
  rw [hw]
  simp

/-- The block functions, at the arrays. -/
theorem dpl_eq (t : Fin cfg0.N) (g : Fin 4) (r : Fin 1024) (d : Fin 128) :
    dpl (iblk m c 0 t) (iblk m c 2 t) (iblk m c 3 t) g r d = DP (ct m c) (wt m c) (sc m c) g (row t r) d :=
  Finset.sum_congr rfl fun k _ => by rw [blk0, blk2, blk3]
theorem gq_eq (t : Fin cfg0.N) (g : Fin 4) (r : Fin 1024) (d : Fin 128) :
    gq (grid0.coords t) (iblk m c 0 t) (iblk m c 2 t) (iblk m c 3 t) g r d = EQ (ct m c) (wt m c) (sc m c) g d (row t r).val := by
  rw [EQ, dif_pos (row t r).isLt, gq, dpl_eq, cnt, pay4_apply]; rfl

/-- What point `t` hands over: the gradient at its block's first sixteen rows. -/
theorem scratch (t : Fin cfg0.N) (g : Fin 4) (r : Fin 16) (d : Fin 128) :
    (outsAt0 m c t.val t.isLt).2.2.2 (ix2 r (col g d)) = EQ (ct m c) (wt m c) (sc m c) g d (row t ⟨r.val, by omega⟩).val := by
  rw [← gq_eq]
  by_cases h : t.val % 8 = 0
  · rw [outsAt0_A m c t h]; dsimp only; rw [sout0_A_0_apply]
  · rw [outsAt0_B m c t h]; dsimp only; rw [sout0_B_0_apply]

theorem ext_A (t : Fin cfg0.N) (h : t.val % 8 = 0) (g : Fin 4) (d : Fin 128) (n : ℕ) (hn : n < 1040) :
    ext (grid0.coords t) (iblk m c 0 t) (iblk m c 2 t) (iblk m c 3 t) (fun _ => 0) g d n
      = EQ (ct m c) (wt m c) (sc m c) g d (1024 * (7 - t.val) + n) := by
  have ht : t.val < 8 := lt_of_lt_of_eq t.isLt size
  unfold ext
  by_cases h1 : n < 1024
  · rw [dif_pos h1, gq_eq]; rfl
  · rw [dif_neg h1, dif_pos (by omega), EQ, dif_neg (by omega)]

theorem ext_B (t : Fin cfg0.N) (h : ¬ t.val % 8 = 0) (g : Fin 4) (d : Fin 128) (n : ℕ) (hn : n < 1040) :
    ext (grid0.coords t) (iblk m c 0 t) (iblk m c 2 t) (iblk m c 3 t)
        (outsAt0 m c (t.val - 1) (Nat.lt_of_le_of_lt (Nat.sub_le _ _) t.isLt)).2.2.2 g d n
      = EQ (ct m c) (wt m c) (sc m c) g d (1024 * (7 - t.val) + n) := by
  have ht : t.val < 8 := lt_of_lt_of_eq t.isLt size
  unfold ext
  by_cases h1 : n < 1024
  · rw [dif_pos h1, gq_eq]; rfl
  · rw [dif_neg h1, dif_pos (by omega)]
    refine (scratch m c ⟨t.val - 1, Nat.lt_of_le_of_lt (Nat.sub_le _ _) t.isLt⟩ g ⟨n - 1024, by omega⟩ d).trans (congrArg _ ?_)
    simp only [row]
    omega

/-- The input's gradient over a point's block. -/
theorem out4 (t : Fin cfg0.N) (g : Fin 4) (r : Fin 1024) (d : Fin 128) :
    (outsAt0 m c t.val t.isLt).1 (ix2 r (col g d)) = DU (ct m c) (wt m c) (sc m c) g (row t r) d := by
  have hr := r.isLt
  have hw : 2 ^ (g.val + 1) ≤ 16 := (Nat.pow_le_pow_right (by decide) (by omega : g.val + 1 ≤ 4)).trans (by decide)
  by_cases h : t.val % 8 = 0
  · rw [outsAt0_A m c t h]; dsimp only; rw [out0_A_4_apply, dpl_eq, DU]
    congr 1
    refine Finset.sum_congr rfl fun j hj => ?_
    have := Finset.mem_range.mp hj
    rw [ext_A m c t h g d _ (by omega), ← Nat.add_assoc]; rfl
  · rw [outsAt0_B m c t h]; dsimp only; rw [out0_B_4_apply, dpl_eq, DU]
    congr 1
    refine Finset.sum_congr rfl fun j hj => ?_
    have := Finset.mem_range.mp hj
    rw [ext_B m c t h g d _ (by omega), ← Nat.add_assoc]; rfl

/-- A sum over all rows, block by block from the last. -/
theorem sum_rows (f : Fin 8192 → EReal) : ∑ t : Fin cfg0.N, ∑ r : Fin 1024, f (row t r) = ∑ n : Fin 8192, f n := by
  rw [Fintype.sum_prod_type' (f := fun (t : Fin cfg0.N) (r : Fin 1024) => f (row t r)) |>.symm]
  refine Fintype.sum_bijective (fun x : Fin cfg0.N × Fin 1024 => row x.1 x.2) ?_ _ _ fun _ => rfl
  constructor
  · rintro ⟨a, r⟩ ⟨b, s⟩ h
    have ha : a.val < 8 := lt_of_lt_of_eq a.isLt size
    have hb : b.val < 8 := lt_of_lt_of_eq b.isLt size
    have h' := congrArg Fin.val h
    simp only [row] at h'
    have := r.isLt
    have := s.isLt
    exact Prod.ext (Fin.ext (by show a.val = b.val; omega)) (Fin.ext (by show r.val = s.val; omega))
  · intro n
    have := n.isLt
    refine ⟨(⟨7 - n.val / 1024, by rw [size]; omega⟩, ⟨n.val % 1024, by omega⟩), Fin.ext ?_⟩
    simp only [row]
    omega

/-- What has been added up to point `n`. -/
def upto (f : Fin 8192 → EReal) (n : ℕ) : EReal := ∑ i ∈ Finset.range (n + 1), if h : i < cfg0.N then ∑ r : Fin 1024, f (row ⟨i, h⟩ r) else 0

theorem upto_succ (f : Fin 8192 → EReal) (n : ℕ) (h : n + 1 < cfg0.N) : upto f (n + 1) = upto f n + ∑ r : Fin 1024, f (row ⟨n + 1, h⟩ r) := by
  rw [upto, Finset.sum_range_succ, dif_pos h]; rfl
theorem upto_zero (f : Fin 8192 → EReal) (h : 0 < cfg0.N) : upto f 0 = 0 + ∑ r : Fin 1024, f (row ⟨0, h⟩ r) := by
  rw [upto, Finset.sum_range_one, dif_pos h, zero_add]
theorem upto_last (f : Fin 8192 → EReal) : upto f 7 = ∑ n : Fin 8192, f n := by
  rw [← sum_rows, upto, ← Fin.sum_univ_eq_sum_range (fun i => if h : i < cfg0.N then ∑ r : Fin 1024, f (row ⟨i, h⟩ r) else 0)]
  exact Fintype.sum_equiv (finCongr size.symm) _ _ fun x => dif_pos (lt_of_lt_of_eq x.isLt size.symm)

theorem out5 (g : Fin 4) (a b : Fin 128) : ∀ (n : ℕ) (h : n < cfg0.N),
    (outsAt0 m c n h).2.1 (ix3 g a b) = upto (fun t => pb m c t (col g a) * (ct m c t (col g b) * sc m c (col g b))) n
  | 0, h => by
    rw [outsAt0_A m c ⟨0, h⟩ rfl, upto_zero _ h]; dsimp only; rw [out0_A_5_apply]
    exact congrArg (0 + ·) (Finset.sum_congr rfl fun r _ => by rw [blk1, blk0, blk3])
  | n + 1, h => by
    have hB : ¬ (⟨n + 1, h⟩ : Fin cfg0.N).val % 8 = 0 := by rw [size] at h; show ¬ (n + 1) % 8 = 0; omega
    rw [outsAt0_B m c ⟨n + 1, h⟩ hB, upto_succ _ n h]; dsimp only; rw [out0_B_5_apply]
    exact congrArg₂ (· + ·) (out5 g a b n _) (Finset.sum_congr rfl fun r _ => by rw [blk1, blk0, blk3])

theorem out6 (g : Fin 4) (d : Fin 128) : ∀ (n : ℕ) (h : n < cfg0.N),
    (outsAt0 m c n h).2.2.1 (ix2 0 (col g d)) = upto (fun t => ct m c t (col g d) * ∑ k : Fin 128, pb m c t (col g k) * wt m c g k d) n
  | 0, h => by
    rw [outsAt0_A m c ⟨0, h⟩ rfl, upto_zero _ h]; dsimp only; rw [out0_A_6_apply]
    refine congrArg (0 + ·) (Finset.sum_congr rfl fun r _ => ?_)
    rw [blk0]
    exact congrArg _ (Finset.sum_congr rfl fun k _ => by rw [blk1, blk2])
  | n + 1, h => by
    have hB : ¬ (⟨n + 1, h⟩ : Fin cfg0.N).val % 8 = 0 := by rw [size] at h; show ¬ (n + 1) % 8 = 0; omega
    rw [outsAt0_B m c ⟨n + 1, h⟩ hB, upto_succ _ n h]; dsimp only; rw [out0_B_6_apply]
    refine congrArg₂ (· + ·) (out6 g d n _) (Finset.sum_congr rfl fun r _ => ?_)
    rw [blk0]
    exact congrArg _ (Finset.sum_congr rfl fun k _ => by rw [blk1, blk2])

theorem out6_rest (r : Fin 8) (hr : 0 + 1 ≤ r.val) (k : Fin 512) : ∀ (n : ℕ) (h : n < cfg0.N), (outsAt0 m c n h).2.2.1 (ix2 r k) = 0
  | 0, h => by
    rw [outsAt0_A m c ⟨0, h⟩ rfl]; dsimp only; rw [out0_A_6_rest (hr := hr)]
  | n + 1, h => by
    have hB : ¬ (⟨n + 1, h⟩ : Fin cfg0.N).val % 8 = 0 := by rw [size] at h; show ¬ (n + 1) % 8 = 0; omega
    rw [outsAt0_B m c ⟨n + 1, h⟩ hB]; dsimp only; rw [out0_B_6_rest (hr := hr)]
    exact out6_rest r hr k n _

/-- A column of the 512 is a channel of a group. -/
theorem col_surj (k : Fin 512) : ∃ (g : Fin 4) (d : Fin 128), k = col g d :=
  ⟨⟨k.val / 128, by omega⟩, ⟨k.val % 128, by omega⟩, Fin.ext (by show k.val = 128 * (k.val / 128) + k.val % 128; omega)⟩

/-- A function of the group and the channel, as one of the column. -/
def flat (f : Fin 4 → Fin 128 → EReal) (k : Fin 512) : EReal := f ⟨k.val / 128, by omega⟩ ⟨k.val % 128, by omega⟩
theorem flat_col (f : Fin 4 → Fin 128 → EReal) (g : Fin 4) (d : Fin 128) : flat f (col g d) = f g d := by
  have hd := d.isLt
  exact congrArg₂ f (Fin.ext (by show (128 * g.val + d.val) / 128 = g.val; omega)) (Fin.ext (by show (128 * g.val + d.val) % 128 = d.val; omega))

/-- The three result arrays. -/
def G4 : S8192x512.Idx → EReal := fun y => flat (fun g d => DU (ct m c) (wt m c) (sc m c) g (y 0) d) (y 1)
def G5 : S4x128x128.Idx → EReal := fun y => DW (ct m c) (pb m c) (sc m c) (y 0) (y 1) (y 2)
def G6 : S8x512.Idx → EReal := fun y => if (y 0).val = 0 then flat (fun g d => DS (ct m c) (pb m c) (wt m c) g d) (y 1) else 0

theorem final4 : (dats m 0 c).arrAt 4 cfg0.N = G4 m c := by
  refine (dats m 0 c).arrAt_eq_of_covers 4 (G4 m c) (by decide +kernel) fun t hf y => ?_
  blk_simp
  rw [after0_4]
  idx_vars y
  obtain ⟨g, d, rfl⟩ := col_surj y1
  refine (out4 m c t g y0 d).trans ?_
  have e : ((View.whole main_v58_0).slice (win0_4.rect t)).emb (ix2 y0 (col g d)) = ix2 (row t y0) (col g d) := by
    unfold row
    blk_ext [i4]
  rw [e]
  exact (flat_col (fun g d => DU (ct m c) (wt m c) (sc m c) g (row t y0) d) g d).symm

theorem final5 : (dats m 0 c).arrAt 5 cfg0.N = G5 m c := by
  refine (dats m 0 c).arrAt_eq_of_after_last 5 t0_7 (by decide +kernel) (G5 m c) fun y => ?_
  blk_simp
  rw [after0_5]
  idx_vars y
  exact (out5 m c y0 y1 y2 7 (by rw [size]; decide)).trans (upto_last _)

theorem final6 : (dats m 0 c).arrAt 6 cfg0.N = G6 m c := by
  refine (dats m 0 c).arrAt_eq_of_after_last 6 t0_7 (by decide +kernel) (G6 m c) fun y => ?_
  blk_simp
  rw [after0_6]
  idx_vars y
  by_cases h : y0.val = 0
  · obtain ⟨g, d, rfl⟩ := col_surj y1
    obtain rfl : y0 = 0 := Fin.ext h
    refine (out6 m c g d 7 (by rw [size]; decide)).trans ((upto_last _).trans ?_)
    exact (flat_col (fun g d => DS (ct m c) (pb m c) (wt m c) g d) g d).symm
  · exact (out6_rest m c y0 (by omega) y1 7 (by rw [size]; decide)).trans (if_neg h).symm

end Cert.PoolIdeal.Blocks
-- ==== Proof.Real.lean ====
/-
  Extended reals that are real numbers: what a sum, a product, a difference and a quotient of them are, and how a
  precondition that says of every element of an array that its absolute value is below infinity is read.
-/
module

public import Idealize.ShloMosaic.Lib.Pointwise
public import Idealize.ShloMosaic.Lib.ReduceAll

@[expose] public section

noncomputable section

open Idealize.ShloMosaic

namespace Cert.Proof

/-- `x` is a real number. -/
def IsReal (x : EReal) : Prop := ∃ r : ℝ, x = (r : EReal)

namespace IsReal

variable {x y : EReal}

theorem coe (r : ℝ) : IsReal (r : EReal) := ⟨r, rfl⟩
theorem zero : IsReal 0 := ⟨0, rfl⟩
theorem one : IsReal 1 := ⟨1, rfl⟩
theorem add (hx : IsReal x) (hy : IsReal y) : IsReal (x + y) := by
  obtain ⟨a, rfl⟩ := hx; obtain ⟨b, rfl⟩ := hy; exact ⟨a + b, (EReal.coe_add a b).symm⟩
theorem mul (hx : IsReal x) (hy : IsReal y) : IsReal (x * y) := by
  obtain ⟨a, rfl⟩ := hx; obtain ⟨b, rfl⟩ := hy; exact ⟨a * b, (EReal.coe_mul a b).symm⟩
theorem neg (hx : IsReal x) : IsReal (-x) := by
  obtain ⟨a, rfl⟩ := hx; exact ⟨-a, (EReal.coe_neg a).symm⟩
theorem sub (hx : IsReal x) (hy : IsReal y) : IsReal (x - y) := by
  obtain ⟨a, rfl⟩ := hx; obtain ⟨b, rfl⟩ := hy; exact ⟨a - b, (EReal.coe_sub a b).symm⟩
theorem sum {ι : Type*} (s : Finset ι) {f : ι → EReal} (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))
theorem div {b : ℝ} (hx : IsReal x) (hb : b ≠ 0) : IsReal (Ideal.div x (b : EReal)) := by
  obtain ⟨a, rfl⟩ := hx
  refine ⟨a * b⁻¹, ?_⟩
  rw [Ideal.div, if_neg (by exact_mod_cast hb), ← EReal.coe_inv, EReal.coe_mul]
theorem min (hx : IsReal x) (hy : IsReal y) : IsReal (x ⊓ y) := by
  rcases min_choice x y with h | h <;> rw [h] <;> assumption

end IsReal

theorem ofBits_inf : Ideal.ofBits FTy.f32 0x7F800000#32 = ⊤ := by simp [Ideal.ofBits, Ideal.ieee]

/-- An absolute value below infinity is a real number's. -/
theorem isReal_of_abs_lt (x : EReal) (h : max x (-x) < ⊤) : IsReal x := by
  induction x with
  | bot => simp at h
  | coe r => exact ⟨r, rfl⟩
  | top => simp at h

theorem isReal_of_cmp (x : EReal) (h : Ideal.cmp .olt (max x (-x)) (Ideal.ofBits FTy.f32 0x7F800000#32) = 1#1) : IsReal x := by
  refine isReal_of_abs_lt x ?_
  rw [ofBits_inf] at h
  by_contra hn
  rw [Ideal.cmp] at h
  simp [hn] at h

end Cert.Proof
-- ==== Proof.Pool.Reference.lean ====
/-
  What the reference's three results hold, index by index. A group's share of the input's gradient is the transpose of
  a cumulative sum less the same sum a window earlier: the sum from a row down of the gradient less the gradient a
  window below, which telescopes.
-/
module

public import proofs.«01_k».proof.Proof.Pool.Math
public import proofs.«01_k».proof.Proof.Real
public import proofs.«01_k».proof.Proof.Gen.PoolRefIdeal.Run

@[expose] public section

set_option maxRecDepth 16384

noncomputable section

open Idealize.ShloMosaic Idealize.ShloMosaic.TcCoe Idealize.SL.Sem

namespace Cert.Proof.Pool

open Cert.PoolIdeal.Blocks (col wlit)

/-! ## Sums of a window -/

theorem foldl_add {ι : Type*} (f : ι → EReal) : ∀ (l : List ι) (v : EReal), l.foldl (fun r n => r + f n) v = v + (l.map f).sum
  | [], v => by simp
  | a :: l, v => by rw [List.foldl_cons, foldl_add f l, List.map_cons, List.sum_cons, add_assoc]

/-- The host's window sum from zero is the sum over the window's positions, those outside the operand counting nothing. -/
theorem window_sum {s t u : Shape} (window strides lo hi : Fin s.rank → ℕ) (x : FVec Ideal s .f32) (init : u.Idx → Ideal .f32)
    (h : s.ReduceWindows window strides lo hi t) (hu : 0 < u.numel) (h0 : init (Shape.Idx.first hu) = (0 : EReal)) (j : t.Idx) :
    Host.reduceWindowAdd window strides lo hi x init h hu j
      = ∑ w : (⟨s.rank, window⟩ : Shape).Idx,
        if hin : ∀ a, lo a ≤ (j (a.cast h.1.symm)).val * strides a + (w a).val ∧ (j (a.cast h.1.symm)).val * strides a + (w a).val - lo a < s.size a
        then x (fun a => ⟨(j (a.cast h.1.symm)).val * strides a + (w a).val - lo a, (hin a).2⟩) else (0 : EReal) := by
  have start : Host.reduceWindowAdd window strides lo hi x init h hu j = _ + _ := foldl_add _ _ _
  rw [start, h0, zero_add, ← List.ofFn_eq_map, List.sum_ofFn]
  refine Fintype.sum_equiv (⟨s.rank, window⟩ : Shape).rowMajor.symm _ _ fun k => ?_
  exact dite_congr rfl (fun _ => rfl) fun _ => rfl

/-- The host's window sum over every row from this one down. -/
theorem down_apply (x : FVec Ideal ⟨2, ![8192, 128]⟩ .f32) (init : (⟨0, ![]⟩ : Shape).Idx → Ideal .f32)
    (h : (⟨2, ![8192, 128]⟩ : Shape).ReduceWindows ![8192, 1] ![1, 1] ![0, 0] ![8191, 0] ⟨2, ![8192, 128]⟩) (hu : 0 < (⟨0, ![]⟩ : Shape).numel)
    (h0 : init (Shape.Idx.first hu) = (0 : EReal)) (n : Fin 8192) (d : Fin 128) :
    Host.reduceWindowAdd ![8192, 1] ![1, 1] ![0, 0] ![8191, 0] x init h hu (ix2 n d)
      = ∑ k : Fin 8192, if hk : n.val + k.val < 8192 then x (ix2 ⟨n.val + k.val, hk⟩ d) else (0 : EReal) := by
  refine (window_sum _ _ _ _ x init h hu h0 (ix2 n d)).trans ?_
  refine (sum_idx2 _).trans (Finset.sum_congr rfl fun k _ => (Fin.sum_univ_one _).trans ?_)
  have hd := d.isLt
  by_cases hk : n.val + k.val < 8192
  · refine (dif_pos ?_).trans ?_
    · intro a
      match a with
      | 0 => exact ⟨Nat.zero_le _, by show n.val * 1 + k.val - 0 < 8192; omega⟩
      | 1 => exact ⟨Nat.zero_le _, by show d.val * 1 + 0 - 0 < 128; omega⟩
    · rw [dif_pos hk]
      refine congrArg x (funext fun a => Fin.ext ?_)
      match a with
      | 0 => show n.val * 1 + k.val - 0 = n.val + k.val; omega
      | 1 => show d.val * 1 + 0 - 0 = d.val; omega
  · refine (dif_neg fun hin => hk ?_).trans ?_
    · have e : n.val * 1 + k.val - 0 < 8192 := (hin 0).2
      omega
    · rw [dif_neg hk]

/-- A sequence of reals less the same sequence `w` later, summed over `M` terms. -/
theorem telescope (f : ℕ → ℝ) (w M : ℕ) :
    ∑ k ∈ Finset.range M, (f k - f (k + w)) = ∑ j ∈ Finset.range w, f j - ∑ j ∈ Finset.range w, f (M + j) := by
  have h1 := Finset.sum_range_add f w M
  have h2 := Finset.sum_range_add f M w
  rw [Finset.sum_sub_distrib]
  have h3 : ∑ k ∈ Finset.range M, f (k + w) = ∑ k ∈ Finset.range M, f (w + k) := Finset.sum_congr rfl fun k _ => by rw [add_comm]
  rw [h3]
  have h4 : ∑ k ∈ Finset.range (w + M), f k = ∑ k ∈ Finset.range (M + w), f k := by rw [add_comm]
  linarith

/-- Over rows from `n` down, a sequence that vanishes below the last row less the same `w` rows below is the window of `w`. -/
theorem window_eq (e : ℕ → EReal) (hr : ∀ n, IsReal (e n)) (h0 : ∀ n, 8192 ≤ n → e n = 0) (w : ℕ) (hw : w ≤ 8192) (n : Fin 8192) :
    (∑ k : Fin 8192, if n.val + k.val < 8192 then e (n.val + k.val) + (if n.val + k.val + w < 8192 then -e (n.val + k.val + w) else 0) else 0)
      = ∑ j ∈ Finset.range w, e (n.val + j) := by
  choose f hf using hr
  have f0 : ∀ n, 8192 ≤ n → f n = 0 := fun n h => by have := hf n; rw [h0 n h] at this; exact_mod_cast this.symm
  have step : ∀ k : ℕ, (if n.val + k < 8192 then e (n.val + k) + (if n.val + k + w < 8192 then -e (n.val + k + w) else 0) else 0)
      = ((f (n.val + k) - f (n.val + (k + w)) : ℝ) : EReal) := by
    intro k
    rw [← Nat.add_assoc]
    by_cases h1 : n.val + k < 8192
    · rw [if_pos h1]
      by_cases h2 : n.val + k + w < 8192
      · rw [if_pos h2, hf, hf, sub_eq_add_neg, EReal.coe_add, EReal.coe_neg]
      · rw [if_neg h2, hf, f0 (n.val + k + w) (by omega), add_zero, sub_zero]
    · rw [if_neg h1, f0 (n.val + k) (by omega), f0 (n.val + k + w) (by omega), sub_zero]; rfl
  rw [Fin.sum_univ_eq_sum_range (fun k => if n.val + k < 8192 then e (n.val + k) + (if n.val + k + w < 8192 then -e (n.val + k + w) else 0) else 0)]
  rw [Finset.sum_congr rfl fun k _ => step k, Finset.sum_congr rfl fun j _ => hf (n.val + j)]
  have key := telescope (fun k => f (n.val + k)) w 8192
  have z : ∑ j ∈ Finset.range w, f (n.val + (8192 + j)) = 0 := Finset.sum_eq_zero fun j _ => f0 _ (by omega)
  rw [z, sub_zero] at key
  have cs : ∀ (s : Finset ℕ) (g : ℕ → ℝ), ∑ i ∈ s, ((g i : ℝ) : EReal) = ((∑ i ∈ s, g i : ℝ) : EReal) := fun s g =>
    (map_sum (⟨⟨(↑·), EReal.coe_zero⟩, EReal.coe_add⟩ : ℝ →+ EReal) g s).symm
  rw [cs, cs]
  exact congrArg _ key

/-! ## The gradient of the window's sum is real where the arguments are -/

theorem wlit_pos (g : Fin 4) : ∃ r : ℝ, 0 < r ∧ wlit g = (r : EReal) := by
  rcases Cert.PoolIdeal.Blocks.group g with rfl | rfl | rfl | rfl
  · exact ⟨2, by norm_num, by show Ideal.ofBits FTy.f32 1073741824#32 = _; simp [Ideal.ofBits, Ideal.ieee, zpow_ofNat]; rw [← EReal.coe_mul]; norm_num⟩
  · exact ⟨4, by norm_num, by show Ideal.ofBits FTy.f32 1082130432#32 = _; simp [Ideal.ofBits, Ideal.ieee, zpow_ofNat]; rw [← EReal.coe_mul]; norm_num⟩
  · exact ⟨8, by norm_num, by show Ideal.ofBits FTy.f32 1090519040#32 = _; simp [Ideal.ofBits, Ideal.ieee, zpow_ofNat]; rw [← EReal.coe_mul]; norm_num⟩
  · exact ⟨16, by norm_num, by show Ideal.ofBits FTy.f32 1098907648#32 = _; simp [Ideal.ofBits, Ideal.ieee, zpow_ofNat]; rw [← EReal.coe_mul]; norm_num⟩

theorem CN_pos (g : Fin 4) (t : ℕ) : ∃ r : ℝ, r ≠ 0 ∧ CN g t = (r : EReal) := by
  obtain ⟨w, hw, e⟩ := wlit_pos g
  refine ⟨min ((t : ℝ) + 1) w, (lt_min (by positivity) hw).ne', ?_⟩
  rw [CN, e]
  exact (EReal.coe_strictMono.monotone.map_min (a := (t : ℝ) + 1) (b := w)).symm

theorem EQ_real (ct : Fin 8192 → Fin 512 → EReal) (W : Fin 4 → Fin 128 → Fin 128 → EReal) (sc : Fin 512 → EReal)
    (h1 : ∀ n k, IsReal (ct n k)) (h2 : ∀ g a b, IsReal (W g a b)) (h3 : ∀ k, IsReal (sc k)) (g : Fin 4) (d : Fin 128) (n : ℕ) :
    IsReal (EQ ct W sc g d n) := by
  unfold EQ
  split
  · obtain ⟨r, hr, e⟩ := CN_pos g n
    rw [e]
    exact IsReal.div (IsReal.sum _ fun k _ => ((h1 _ _).mul (h3 _)).mul (h2 _ _ _)) hr
  · exact IsReal.zero

end Cert.Proof.Pool

namespace Cert.PoolRefIdeal.Value

open Cert.PoolRefIdeal Cert.PoolRefIdeal.Gen Idealize.ShloMosaic.StableHlo
open Cert.PoolIdeal.Blocks (col wlit col0 group)
open Cert.Proof Cert.Proof.Pool

variable (V0 : Valuation τ sig (Elt Ideal))

/-- The output's gradient, the weights, the scale and the pooled rows. -/
def ct (n : Fin 8192) (k : Fin 512) : EReal := V0 (Proc.devRef .tc main_arg3) (ix2 n k)
def wt (g : Fin 4) (a b : Fin 128) : EReal := V0 (Proc.devRef .tc main_arg1) (ix3 g a b)
def sc (k : Fin 512) : EReal := V0 (Proc.devRef .tc main_arg2) (ix1 k)
def pooled (g : Fin 4) : FVec Ideal S8192x128 .f32 := ![res_main_v15 V0, res_main_v29 V0, res_main_v43 V0, res_main_v57 V0] g

theorem counter (n : Fin 8192) : FloatOps.sitofp (F := Ideal) FTy.f32 (BitVec.ofNat 32 n.val) = ((n.val : ℝ) : EReal) := by
  show (((BitVec.ofNat 32 n.val).toInt : ℝ) : EReal) = _
  have hn := n.isLt
  rw [BitVec.toInt_eq_toNat_of_lt (by simp only [BitVec.toNat_ofNat]; omega), BitVec.toNat_ofNat, Nat.mod_eq_of_lt (by omega)]
  simp

/-! ## Group 0 -/

theorem dp0 (n : Fin 8192) (d : Fin 128) : res_main_v103 V0 (ix2 n d) = DP (ct V0) (wt V0) (sc V0) 0 n d := by
  pointwise [res_main_v103, res_main_v80, res_main_v78, res_main_v59, res_main_v71, DP, ct, wt, sc]
  first | done | (simp only [col0]; done) | rfl

theorem cn0 (n : Fin 8192) : res_main_v11 V0 (ix2 n 0) = CN 0 n.val := by
  pointwise [res_main_v11, res_main_v1, CN, wlit]
  rw [counter]

theorem eq0 (n : Fin 8192) (d : Fin 128) : res_main_v144 V0 (ix2 n d) = EQ (ct V0) (wt V0) (sc V0) 0 d n.val := by
  rw [EQ, dif_pos n.isLt, ← dp0, ← cn0 V0]
  pointwise [res_main_v144]

/-- The gradient of a window's sum less the one `2` rows below it, and the group's share of the input's gradient. -/
def ed0 : FVec Ideal S8192x128 .f32 :=
  addf (res_main_v144 V0) (pad S8192x128 ![0, 0] ![2, 0] ![0, 0] (extractStridedSlice S8190x128 ![2, 0] (res_main_v145 V0) slices_S8192x128_S8190x128_2_0) (constant S_ .f32 0x00000000#32) pads_S8190x128_S8192x128_020_000 h_S_)

def du0 : FVec Ideal S8192x128 .f32 :=
  addf (Host.negf (res_main_v103 V0)) (Host.reduceWindowAdd ![8192, 1] ![1, 1] ![0, 0] ![8191, 0] (ed0 V0) (broadcastInDim S_ ![] bcast_S_S_ (constant S_ .f32 0x00000000#32)) reduceWindows_S8192x128_S8192x128_w8192s1p0_8191_w1s1p0_0 h_S_)

theorem ed0_apply (n : Fin 8192) (d : Fin 128) :
    ed0 V0 (ix2 n d) = EQ (ct V0) (wt V0) (sc V0) 0 d n.val + if n.val + 2 < 8192 then -EQ (ct V0) (wt V0) (sc V0) 0 d (n.val + 2) else 0 := by
  have E := fun n => (eq0 V0 n d).symm
  by_cases h : n.val + 2 < 8192
  · rw [if_pos h, E n, E ⟨n.val + 2, h⟩]
    pointwise [ed0, res_main_v145]
    rw [dif_pos (by omega)]
    simp only [Nat.add_comm]
  · rw [if_neg h, E n]
    pointwise [ed0, res_main_v145]
    rw [dif_neg (by omega), add_zero]

theorem du0_apply (h1 : ∀ n k, IsReal (ct V0 n k)) (h2 : ∀ g a b, IsReal (wt V0 g a b)) (h3 : ∀ k, IsReal (sc V0 k)) (n : Fin 8192) (d : Fin 128) :
    du0 V0 (ix2 n d) = DU (ct V0) (wt V0) (sc V0) 0 n d := by
  have h : du0 V0 (ix2 n d) = -(show EReal from res_main_v103 V0 (ix2 n d)) + Host.reduceWindowAdd ![8192, 1] ![1, 1] ![0, 0] ![8191, 0] (ed0 V0) (broadcastInDim S_ ![] bcast_S_S_ (constant S_ .f32 0x00000000#32)) reduceWindows_S8192x128_S8192x128_w8192s1p0_8191_w1s1p0_0 h_S_ (ix2 n d) := rfl
  rw [h, down_apply (ed0 V0) _ _ _ (by pointwise) n d, dp0]
  simp only [ed0_apply]
  rw [DU, sub_eq_add_neg, add_comm, ← window_eq (EQ (ct V0) (wt V0) (sc V0) 0 d) (EQ_real _ _ _ h1 h2 h3 0 d) (fun n h => dif_neg h.not_gt) (2 ^ ((0 : Fin 4).val + 1)) (by norm_num) n]
  rfl

theorem dw0 (a b : Fin 128) :
    (Host.dotGeneral (φ₁ := .f32) (φ₂ := .f32) dot_S8192x128_S8192x128_S128x128_0_0_1_1_n_n none (res_main_v80 V0) (res_main_v15 V0 : FVec Ideal S8192x128 .f32) : FVec Ideal S128x128 .f32) (ix2 b a)
      = ∑ t : Fin 8192, pooled V0 0 (ix2 t a) * (ct V0 t (col 0 b) * sc V0 (col 0 b)) := by
  pointwise [res_main_v80, res_main_v78, res_main_v71, ct, sc]
  refine Finset.sum_congr rfl fun t _ => ?_
  rw [mul_comm]
  first | rfl | (simp only [col0]; rfl)

/-! ## Group 1 -/

theorem dp1 (n : Fin 8192) (d : Fin 128) : res_main_v97 V0 (ix2 n d) = DP (ct V0) (wt V0) (sc V0) 1 n d := by
  pointwise [res_main_v97, res_main_v81, res_main_v78, res_main_v62, res_main_v71, DP, ct, wt, sc]
  first | done | (simp only [col0]; done) | rfl

theorem cn1 (n : Fin 8192) : res_main_v25 V0 (ix2 n 0) = CN 1 n.val := by
  pointwise [res_main_v25, res_main_v1, CN, wlit]
  rw [counter]

theorem eq1 (n : Fin 8192) (d : Fin 128) : res_main_v132 V0 (ix2 n d) = EQ (ct V0) (wt V0) (sc V0) 1 d n.val := by
  rw [EQ, dif_pos n.isLt, ← dp1, ← cn1 V0]
  pointwise [res_main_v132]

/-- The gradient of a window's sum less the one `4` rows below it, and the group's share of the input's gradient. -/
def ed1 : FVec Ideal S8192x128 .f32 :=
  addf (res_main_v132 V0) (pad S8192x128 ![0, 0] ![4, 0] ![0, 0] (extractStridedSlice S8188x128 ![4, 0] (res_main_v133 V0) slices_S8192x128_S8188x128_4_0) (constant S_ .f32 0x00000000#32) pads_S8188x128_S8192x128_040_000 h_S_)

def du1 : FVec Ideal S8192x128 .f32 :=
  addf (Host.negf (res_main_v97 V0)) (Host.reduceWindowAdd ![8192, 1] ![1, 1] ![0, 0] ![8191, 0] (ed1 V0) (broadcastInDim S_ ![] bcast_S_S_ (constant S_ .f32 0x00000000#32)) reduceWindows_S8192x128_S8192x128_w8192s1p0_8191_w1s1p0_0 h_S_)

theorem ed1_apply (n : Fin 8192) (d : Fin 128) :
    ed1 V0 (ix2 n d) = EQ (ct V0) (wt V0) (sc V0) 1 d n.val + if n.val + 4 < 8192 then -EQ (ct V0) (wt V0) (sc V0) 1 d (n.val + 4) else 0 := by
  have E := fun n => (eq1 V0 n d).symm
  by_cases h : n.val + 4 < 8192
  · rw [if_pos h, E n, E ⟨n.val + 4, h⟩]
    pointwise [ed1, res_main_v133]
    rw [dif_pos (by omega)]
    simp only [Nat.add_comm]
  · rw [if_neg h, E n]
    pointwise [ed1, res_main_v133]
    rw [dif_neg (by omega), add_zero]

theorem du1_apply (h1 : ∀ n k, IsReal (ct V0 n k)) (h2 : ∀ g a b, IsReal (wt V0 g a b)) (h3 : ∀ k, IsReal (sc V0 k)) (n : Fin 8192) (d : Fin 128) :
    du1 V0 (ix2 n d) = DU (ct V0) (wt V0) (sc V0) 1 n d := by
  have h : du1 V0 (ix2 n d) = -(show EReal from res_main_v97 V0 (ix2 n d)) + Host.reduceWindowAdd ![8192, 1] ![1, 1] ![0, 0] ![8191, 0] (ed1 V0) (broadcastInDim S_ ![] bcast_S_S_ (constant S_ .f32 0x00000000#32)) reduceWindows_S8192x128_S8192x128_w8192s1p0_8191_w1s1p0_0 h_S_ (ix2 n d) := rfl
  rw [h, down_apply (ed1 V0) _ _ _ (by pointwise) n d, dp1]
  simp only [ed1_apply]
  rw [DU, sub_eq_add_neg, add_comm, ← window_eq (EQ (ct V0) (wt V0) (sc V0) 1 d) (EQ_real _ _ _ h1 h2 h3 1 d) (fun n h => dif_neg h.not_gt) (2 ^ ((1 : Fin 4).val + 1)) (by norm_num) n]
  rfl

theorem dw1 (a b : Fin 128) :
    (Host.dotGeneral (φ₁ := .f32) (φ₂ := .f32) dot_S8192x128_S8192x128_S128x128_0_0_1_1_n_n none (res_main_v81 V0) (res_main_v29 V0 : FVec Ideal S8192x128 .f32) : FVec Ideal S128x128 .f32) (ix2 b a)
      = ∑ t : Fin 8192, pooled V0 1 (ix2 t a) * (ct V0 t (col 1 b) * sc V0 (col 1 b)) := by
  pointwise [res_main_v81, res_main_v78, res_main_v71, ct, sc]
  refine Finset.sum_congr rfl fun t _ => ?_
  rw [mul_comm]
  first | rfl | (simp only [col0]; rfl)

/-! ## Group 2 -/

theorem dp2 (n : Fin 8192) (d : Fin 128) : res_main_v91 V0 (ix2 n d) = DP (ct V0) (wt V0) (sc V0) 2 n d := by
  pointwise [res_main_v91, res_main_v82, res_main_v78, res_main_v65, res_main_v71, DP, ct, wt, sc]
  first | done | (simp only [col0]; done) | rfl

theorem cn2 (n : Fin 8192) : res_main_v39 V0 (ix2 n 0) = CN 2 n.val := by
  pointwise [res_main_v39, res_main_v1, CN, wlit]
  rw [counter]

theorem eq2 (n : Fin 8192) (d : Fin 128) : res_main_v120 V0 (ix2 n d) = EQ (ct V0) (wt V0) (sc V0) 2 d n.val := by
  rw [EQ, dif_pos n.isLt, ← dp2, ← cn2 V0]
  pointwise [res_main_v120]

/-- The gradient of a window's sum less the one `8` rows below it, and the group's share of the input's gradient. -/
def ed2 : FVec Ideal S8192x128 .f32 :=
  addf (res_main_v120 V0) (pad S8192x128 ![0, 0] ![8, 0] ![0, 0] (extractStridedSlice S8184x128 ![8, 0] (res_main_v121 V0) slices_S8192x128_S8184x128_8_0) (constant S_ .f32 0x00000000#32) pads_S8184x128_S8192x128_080_000 h_S_)

def du2 : FVec Ideal S8192x128 .f32 :=
  addf (Host.negf (res_main_v91 V0)) (Host.reduceWindowAdd ![8192, 1] ![1, 1] ![0, 0] ![8191, 0] (ed2 V0) (broadcastInDim S_ ![] bcast_S_S_ (constant S_ .f32 0x00000000#32)) reduceWindows_S8192x128_S8192x128_w8192s1p0_8191_w1s1p0_0 h_S_)

theorem ed2_apply (n : Fin 8192) (d : Fin 128) :
    ed2 V0 (ix2 n d) = EQ (ct V0) (wt V0) (sc V0) 2 d n.val + if n.val + 8 < 8192 then -EQ (ct V0) (wt V0) (sc V0) 2 d (n.val + 8) else 0 := by
  have E := fun n => (eq2 V0 n d).symm
  by_cases h : n.val + 8 < 8192
  · rw [if_pos h, E n, E ⟨n.val + 8, h⟩]
    pointwise [ed2, res_main_v121]
    rw [dif_pos (by omega)]
    simp only [Nat.add_comm]
  · rw [if_neg h, E n]
    pointwise [ed2, res_main_v121]
    rw [dif_neg (by omega), add_zero]

theorem du2_apply (h1 : ∀ n k, IsReal (ct V0 n k)) (h2 : ∀ g a b, IsReal (wt V0 g a b)) (h3 : ∀ k, IsReal (sc V0 k)) (n : Fin 8192) (d : Fin 128) :
    du2 V0 (ix2 n d) = DU (ct V0) (wt V0) (sc V0) 2 n d := by
  have h : du2 V0 (ix2 n d) = -(show EReal from res_main_v91 V0 (ix2 n d)) + Host.reduceWindowAdd ![8192, 1] ![1, 1] ![0, 0] ![8191, 0] (ed2 V0) (broadcastInDim S_ ![] bcast_S_S_ (constant S_ .f32 0x00000000#32)) reduceWindows_S8192x128_S8192x128_w8192s1p0_8191_w1s1p0_0 h_S_ (ix2 n d) := rfl
  rw [h, down_apply (ed2 V0) _ _ _ (by pointwise) n d, dp2]
  simp only [ed2_apply]
  rw [DU, sub_eq_add_neg, add_comm, ← window_eq (EQ (ct V0) (wt V0) (sc V0) 2 d) (EQ_real _ _ _ h1 h2 h3 2 d) (fun n h => dif_neg h.not_gt) (2 ^ ((2 : Fin 4).val + 1)) (by norm_num) n]
  rfl

theorem dw2 (a b : Fin 128) :
    (Host.dotGeneral (φ₁ := .f32) (φ₂ := .f32) dot_S8192x128_S8192x128_S128x128_0_0_1_1_n_n none (res_main_v82 V0) (res_main_v43 V0 : FVec Ideal S8192x128 .f32) : FVec Ideal S128x128 .f32) (ix2 b a)
      = ∑ t : Fin 8192, pooled V0 2 (ix2 t a) * (ct V0 t (col 2 b) * sc V0 (col 2 b)) := by
  pointwise [res_main_v82, res_main_v78, res_main_v71, ct, sc]
  refine Finset.sum_congr rfl fun t _ => ?_
  rw [mul_comm]
  first | rfl | (simp only [col0]; rfl)

/-! ## Group 3 -/

theorem dp3 (n : Fin 8192) (d : Fin 128) : res_main_v86 V0 (ix2 n d) = DP (ct V0) (wt V0) (sc V0) 3 n d := by
  pointwise [res_main_v86, res_main_v83, res_main_v78, res_main_v68, res_main_v71, DP, ct, wt, sc]
  first | done | (simp only [col0]; done) | rfl

theorem cn3 (n : Fin 8192) : res_main_v53 V0 (ix2 n 0) = CN 3 n.val := by
  pointwise [res_main_v53, res_main_v1, CN, wlit]
  rw [counter]

theorem eq3 (n : Fin 8192) (d : Fin 128) : res_main_v109 V0 (ix2 n d) = EQ (ct V0) (wt V0) (sc V0) 3 d n.val := by
  rw [EQ, dif_pos n.isLt, ← dp3, ← cn3 V0]
  pointwise [res_main_v109]

/-- The gradient of a window's sum less the one `16` rows below it, and the group's share of the input's gradient. -/
def ed3 : FVec Ideal S8192x128 .f32 :=
  addf (res_main_v109 V0) (pad S8192x128 ![0, 0] ![16, 0] ![0, 0] (extractStridedSlice S8176x128 ![16, 0] (res_main_v110 V0) slices_S8192x128_S8176x128_16_0) (constant S_ .f32 0x00000000#32) pads_S8176x128_S8192x128_0160_000 h_S_)

def du3 : FVec Ideal S8192x128 .f32 :=
  addf (Host.negf (res_main_v86 V0)) (Host.reduceWindowAdd ![8192, 1] ![1, 1] ![0, 0] ![8191, 0] (ed3 V0) (broadcastInDim S_ ![] bcast_S_S_ (constant S_ .f32 0x00000000#32)) reduceWindows_S8192x128_S8192x128_w8192s1p0_8191_w1s1p0_0 h_S_)

theorem ed3_apply (n : Fin 8192) (d : Fin 128) :
    ed3 V0 (ix2 n d) = EQ (ct V0) (wt V0) (sc V0) 3 d n.val + if n.val + 16 < 8192 then -EQ (ct V0) (wt V0) (sc V0) 3 d (n.val + 16) else 0 := by
  have E := fun n => (eq3 V0 n d).symm
  by_cases h : n.val + 16 < 8192
  · rw [if_pos h, E n, E ⟨n.val + 16, h⟩]
    pointwise [ed3, res_main_v110]
    rw [dif_pos (by omega)]
    simp only [Nat.add_comm]
  · rw [if_neg h, E n]
    pointwise [ed3, res_main_v110]
    rw [dif_neg (by omega), add_zero]

theorem du3_apply (h1 : ∀ n k, IsReal (ct V0 n k)) (h2 : ∀ g a b, IsReal (wt V0 g a b)) (h3 : ∀ k, IsReal (sc V0 k)) (n : Fin 8192) (d : Fin 128) :
    du3 V0 (ix2 n d) = DU (ct V0) (wt V0) (sc V0) 3 n d := by
  have h : du3 V0 (ix2 n d) = -(show EReal from res_main_v86 V0 (ix2 n d)) + Host.reduceWindowAdd ![8192, 1] ![1, 1] ![0, 0] ![8191, 0] (ed3 V0) (broadcastInDim S_ ![] bcast_S_S_ (constant S_ .f32 0x00000000#32)) reduceWindows_S8192x128_S8192x128_w8192s1p0_8191_w1s1p0_0 h_S_ (ix2 n d) := rfl
  rw [h, down_apply (ed3 V0) _ _ _ (by pointwise) n d, dp3]
  simp only [ed3_apply]
  rw [DU, sub_eq_add_neg, add_comm, ← window_eq (EQ (ct V0) (wt V0) (sc V0) 3 d) (EQ_real _ _ _ h1 h2 h3 3 d) (fun n h => dif_neg h.not_gt) (2 ^ ((3 : Fin 4).val + 1)) (by norm_num) n]
  rfl

theorem dw3 (a b : Fin 128) :
    (Host.dotGeneral (φ₁ := .f32) (φ₂ := .f32) dot_S8192x128_S8192x128_S128x128_0_0_1_1_n_n none (res_main_v83 V0) (res_main_v57 V0 : FVec Ideal S8192x128 .f32) : FVec Ideal S128x128 .f32) (ix2 b a)
      = ∑ t : Fin 8192, pooled V0 3 (ix2 t a) * (ct V0 t (col 3 b) * sc V0 (col 3 b)) := by
  pointwise [res_main_v83, res_main_v78, res_main_v71, ct, sc]
  refine Finset.sum_congr rfl fun t _ => ?_
  rw [mul_comm]
  first | rfl | (simp only [col0]; rfl)

end Cert.PoolRefIdeal.Value
-- ==== Proof.Pool.Results.lean ====
/-
  The reference's three result arrays, index by index, as the functions of Pool.Math.
-/
module

public import proofs.«01_k».proof.Proof.Pool.Reference

@[expose] public section

set_option maxRecDepth 16384

noncomputable section

open Idealize.ShloMosaic Idealize.ShloMosaic.TcCoe Idealize.SL.Sem

namespace Cert.PoolRefIdeal.Value

open Cert.PoolRefIdeal Cert.PoolRefIdeal.Gen Idealize.ShloMosaic.StableHlo
open Cert.PoolIdeal.Blocks (col wlit col0 group)
open Cert.Proof Cert.Proof.Pool

variable (V0 : Valuation τ sig (Elt Ideal))

/-- The gradient of the input: each group's columns in their place. -/
def R1 : FVec Ideal S8192x512 .f32 :=
  addf (addf (addf (pad S8192x512 ![0, 384] ![0, 0] ![0, 0] (du3 V0) (constant S_ .f32 0x00000000#32) pads_S8192x128_S8192x512_000_38400 h_S_) (pad S8192x512 ![0, 256] ![0, 128] ![0, 0] (du2 V0) (constant S_ .f32 0x00000000#32) pads_S8192x128_S8192x512_000_2561280 h_S_)) (pad S8192x512 ![0, 128] ![0, 256] ![0, 0] (du1 V0) (constant S_ .f32 0x00000000#32) pads_S8192x128_S8192x512_000_1282560 h_S_)) (pad S8192x512 ![0, 0] ![0, 384] ![0, 0] (du0 V0) (constant S_ .f32 0x00000000#32) pads_S8192x128_S8192x512_000_03840 h_S_)

theorem R1_at (g : Fin 4) (n : Fin 8192) (d : Fin 128) : R1 V0 (ix2 n (col g d)) = ![du0 V0, du1 V0, du2 V0, du3 V0] g (ix2 n d) := by
  have hd := d.isLt
  generalize hk : col g d = k
  have hv : k.val = 128 * g.val + d.val := by rw [← hk]; rfl
  pointwise [R1]
  rcases group g with rfl | rfl | rfl | rfl
  · replace hv : k.val = 0 + d.val := hv
    rw [dif_neg (by omega), dif_neg (by omega), dif_neg (by omega), dif_pos (by omega), zero_add, zero_add, zero_add]
    exact congrArg (fun z => du0 V0 (ix2 n z)) (Fin.ext (by show k.val = d.val; omega))
  · replace hv : k.val = 128 + d.val := hv
    rw [dif_neg (by omega), dif_neg (by omega), dif_pos (by omega), dif_neg (by omega), zero_add, zero_add, add_zero]
    exact congrArg (fun z => du1 V0 (ix2 n z)) (Fin.ext (by show k.val - 128 = d.val; omega))
  · replace hv : k.val = 256 + d.val := hv
    rw [dif_neg (by omega), dif_pos (by omega), dif_neg (by omega), dif_neg (by omega), zero_add, add_zero, add_zero]
    exact congrArg (fun z => du2 V0 (ix2 n z)) (Fin.ext (by show k.val - 256 = d.val; omega))
  · replace hv : k.val = 384 + d.val := hv
    rw [dif_pos (by omega), dif_neg (by omega), dif_neg (by omega), dif_neg (by omega), add_zero, add_zero, add_zero]
    exact congrArg (fun z => du3 V0 (ix2 n z)) (Fin.ext (by show k.val - 384 = d.val; omega))

theorem R1_apply (h1 : ∀ n k, IsReal (ct V0 n k)) (h2 : ∀ g a b, IsReal (wt V0 g a b)) (h3 : ∀ k, IsReal (sc V0 k)) (g : Fin 4) (n : Fin 8192) (d : Fin 128) :
    R1 V0 (ix2 n (col g d)) = DU (ct V0) (wt V0) (sc V0) g n d := by
  rw [R1_at]
  rcases group g with rfl | rfl | rfl | rfl
  · exact du0_apply V0 h1 h2 h3 n d
  · exact du1_apply V0 h1 h2 h3 n d
  · exact du2_apply V0 h1 h2 h3 n d
  · exact du3_apply V0 h1 h2 h3 n d

/-- A group's product of the pooled rows with the gradient. -/
def P0 : FVec Ideal S128x128 .f32 := Host.dotGeneral (φ₁ := .f32) (φ₂ := .f32) dot_S8192x128_S8192x128_S128x128_0_0_1_1_n_n none (res_main_v80 V0) (res_main_v15 V0)
def P1 : FVec Ideal S128x128 .f32 := Host.dotGeneral (φ₁ := .f32) (φ₂ := .f32) dot_S8192x128_S8192x128_S128x128_0_0_1_1_n_n none (res_main_v81 V0) (res_main_v29 V0)
def P2 : FVec Ideal S128x128 .f32 := Host.dotGeneral (φ₁ := .f32) (φ₂ := .f32) dot_S8192x128_S8192x128_S128x128_0_0_1_1_n_n none (res_main_v82 V0) (res_main_v43 V0)
def P3 : FVec Ideal S128x128 .f32 := Host.dotGeneral (φ₁ := .f32) (φ₂ := .f32) dot_S8192x128_S8192x128_S128x128_0_0_1_1_n_n none (res_main_v83 V0) (res_main_v57 V0)

/-- The gradient of the weights. -/
def R2 : FVec Ideal S4x128x128 .f32 :=
  addf (addf (addf (pad S4x128x128 ![3, 0, 0] ![0, 0, 0] ![0, 0, 0] (broadcastInDim S1x128x128 ![1, 2] bcast_S128x128_S1x128x128_1_2 (transpose S128x128 [1, 0] (P3 V0) transposes_S128x128_S128x128_1_0)) (constant S_ .f32 0x00000000#32) pads_S1x128x128_S4x128x128_300_000_000 h_S_) (pad S4x128x128 ![2, 0, 0] ![1, 0, 0] ![0, 0, 0] (broadcastInDim S1x128x128 ![1, 2] bcast_S128x128_S1x128x128_1_2 (transpose S128x128 [1, 0] (P2 V0) transposes_S128x128_S128x128_1_0)) (constant S_ .f32 0x00000000#32) pads_S1x128x128_S4x128x128_210_000_000 h_S_)) (pad S4x128x128 ![1, 0, 0] ![2, 0, 0] ![0, 0, 0] (broadcastInDim S1x128x128 ![1, 2] bcast_S128x128_S1x128x128_1_2 (transpose S128x128 [1, 0] (P1 V0) transposes_S128x128_S128x128_1_0)) (constant S_ .f32 0x00000000#32) pads_S1x128x128_S4x128x128_120_000_000 h_S_)) (pad S4x128x128 ![0, 0, 0] ![3, 0, 0] ![0, 0, 0] (broadcastInDim S1x128x128 ![1, 2] bcast_S128x128_S1x128x128_1_2 (transpose S128x128 [1, 0] (P0 V0) transposes_S128x128_S128x128_1_0)) (constant S_ .f32 0x00000000#32) pads_S1x128x128_S4x128x128_030_000_000 h_S_)

theorem R2_apply (g : Fin 4) (a b : Fin 128) :
    R2 V0 (ix3 g a b) = ∑ t : Fin 8192, pooled V0 g (ix2 t a) * (ct V0 t (col g b) * sc V0 (col g b)) := by
  pointwise [R2]
  rcases group g with rfl | rfl | rfl | rfl
  · rw [dif_neg (by decide), dif_neg (by decide), dif_neg (by decide), dif_pos (by decide), zero_add, zero_add, zero_add]
    exact dw0 V0 a b
  · rw [dif_neg (by decide), dif_neg (by decide), dif_pos (by decide), dif_neg (by decide), zero_add, zero_add, add_zero]
    exact dw1 V0 a b
  · rw [dif_neg (by decide), dif_pos (by decide), dif_neg (by decide), dif_neg (by decide), zero_add, add_zero, add_zero]
    exact dw2 V0 a b
  · rw [dif_pos (by decide), dif_neg (by decide), dif_neg (by decide), dif_neg (by decide), add_zero, add_zero, add_zero]
    exact dw3 V0 a b

/-- The gradient of the scale, one row of eight. -/
def R3 : FVec Ideal S8x512 .f32 :=
  concatenate S8x512 0 [⟨S1x512, (broadcastInDim S1x512 ![1] bcast_S512_S1x512_1 (Host.reduceAdd (shapeCast _ (Host.reduceAdd (mulf (res_main_v70 V0) (V0 (Proc.devRef .tc main_arg3))) (constant S_ .f32 0x00000000#32) reducesTo_S8192x512_S512_d0 h_S_) shapeCasts_S512_S1x512) (constant S_ .f32 0x00000000#32) reducesTo_S1x512_S512_d0 h_S_))⟩, ⟨S7x512, (broadcastInDim S7x512 ![] bcast_S_S7x512 (constant S_ .f32 0x00000000#32))⟩] concatenates_S1x512_S7x512_S8x512_d0

theorem R3_apply (g : Fin 4) (d : Fin 128) :
    R3 V0 (ix2 0 (col g d)) = ∑ t : Fin 8192, ct V0 t (col g d) * ∑ k : Fin 128, pooled V0 g (ix2 t k) * wt V0 g k d := by
  have hd := d.isLt
  generalize hk : col g d = k
  have hv : k.val = 128 * g.val + d.val := by rw [← hk]; rfl
  pointwise [R3, res_main_v70, res_main_v59, res_main_v62, res_main_v65, res_main_v68]
  try rw [dif_pos (by decide)]
  refine (Fin.sum_univ_one _).trans (Finset.sum_congr rfl fun t _ => ?_)
  rw [mul_comm]
  refine congrArg (fun z : EReal => ct V0 t k * z) ?_
  rcases group g with rfl | rfl | rfl | rfl
  · replace hv : k.val = 0 + d.val := hv
    rw [dif_pos (by omega)]
    refine Finset.sum_congr rfl fun x _ => congrArg (fun z : EReal => pooled V0 0 (ix2 t x) * z) (congrArg (fun z => V0 (Proc.devRef .tc main_arg1) (ix3 0 x z)) (Fin.ext ?_))
    show k.val = d.val
    omega
  · replace hv : k.val = 128 + d.val := hv
    rw [dif_neg (by omega), dif_pos (by omega)]
    refine Finset.sum_congr rfl fun x _ => congrArg (fun z : EReal => pooled V0 1 (ix2 t x) * z) (congrArg (fun z => V0 (Proc.devRef .tc main_arg1) (ix3 1 x z)) (Fin.ext ?_))
    show k.val - 128 = d.val
    omega
  · replace hv : k.val = 256 + d.val := hv
    rw [dif_neg (by omega), dif_neg (by omega), dif_pos (by omega)]
    refine Finset.sum_congr rfl fun x _ => congrArg (fun z : EReal => pooled V0 2 (ix2 t x) * z) (congrArg (fun z => V0 (Proc.devRef .tc main_arg1) (ix3 2 x z)) (Fin.ext ?_))
    show k.val - 128 - 128 = d.val
    omega
  · replace hv : k.val = 384 + d.val := hv
    rw [dif_neg (by omega), dif_neg (by omega), dif_neg (by omega)]
    refine Finset.sum_congr rfl fun x _ => congrArg (fun z : EReal => pooled V0 3 (ix2 t x) * z) (congrArg (fun z => V0 (Proc.devRef .tc main_arg1) (ix3 3 x z)) (Fin.ext ?_))
    show k.val - 128 - 128 - 128 = d.val
    omega

theorem R3_rest (a : Fin 8) (ha : a.val ≠ 0) (k : Fin 512) : R3 V0 (ix2 a k) = (0 : EReal) := by
  pointwise [R3]
  rw [dif_neg (by omega)]

end Cert.PoolRefIdeal.Value
-- ==== Proof.Pool.Equation.lean ====
/-
  The kernel's three arrays are the reference's, where the weights, the scale and the output's gradient are finite.
-/
module

public import proofs.«01_k».proof.Proof.Pool.Arrays
public import proofs.«01_k».proof.Proof.Pool.Results
public import proofs.«01_k».proof.Proof.Gen.PoolIdeal.Value
public import proofs.«01_k».proof.Proof.Gen.Pre_pool_finite
public import proofs.«01_k».proof.Defs
public import Idealize.ShloMosaic.Lib.ReduceAll
public import Idealize.ShloMosaic.Lib.StableHlo.ReadAt

@[expose] public section

set_option maxRecDepth 16384

noncomputable section

open Idealize.ShloMosaic Idealize.ShloMosaic.TcCoe Idealize.SL.Sem

namespace Cert.Proof.Pool

open Cert.PoolIdeal.Blocks (col col0 group flat flat_col col_surj G4 G5 G6)

section Finite

open Cert.Pre_pool_finite Cert.Pre_pool_finite.Gen

instance : Subsingleton Cert.Pre_pool_finite.S_.Idx := ⟨fun a b => funext fun i => i.elim0⟩

/-- The precondition says of each of three arrays that its elements are real. -/
theorem finite (x0 : FVec Ideal Cert.Pre_pool_finite.S8192x512 .f32) (x1 : FVec Ideal Cert.Pre_pool_finite.S4x128x128 .f32) (x2 : FVec Ideal Cert.Pre_pool_finite.S512 .f32)
    (x3 : FVec Ideal Cert.Pre_pool_finite.S8192x512 .f32) (h : Cert.Pre_pool_finite.fn (F := Ideal) x0 x1 x2 x3 = fun _ => 1#1) :
    (∀ i, IsReal (x1 i)) ∧ (∀ i, IsReal (x2 i)) ∧ ∀ i, IsReal (x3 i) := by
  have h' := congrFun h (fun i => i.elim0)
  obtain ⟨h12, h3⟩ := IntOp.andi_eq_one.1 h'
  obtain ⟨h1, h2⟩ := IntOp.andi_eq_one.1 h12
  exact ⟨fun i => isReal_of_cmp _ (Host.reduce_andi_all _ _ _ _ _ h1 i), fun i => isReal_of_cmp _ (Host.reduce_andi_all _ _ _ _ _ h2 i),
    fun i => isReal_of_cmp _ (Host.reduce_andi_all _ _ _ _ _ h3 i)⟩

end Finite

section Entry

open Cert.PoolIdeal Cert.PoolIdeal.Gen

variable (m : (ℓ : Loc Cert.PoolIdeal.nD Cert.PoolIdeal.τ Cert.PoolIdeal.sig) → Buf (Elt Ideal) ℓ) (c : Dev Cert.PoolIdeal.nD)

/-- What the kernel is called with, in the arguments. -/
theorem entry_ct (n : Fin 8192) (k : Fin 512) : Cert.PoolIdeal.Blocks.ct m c n k = m ((c.tc : Thread nD τ).loc main_arg3) (ix2 n k) := by
  unfold Cert.PoolIdeal.Blocks.ct V
  after_reads_at

theorem entry_wt (g : Fin 4) (a b : Fin 128) : Cert.PoolIdeal.Blocks.wt m c g a b = m ((c.tc : Thread nD τ).loc main_arg1) (ix3 g a b) := by
  unfold Cert.PoolIdeal.Blocks.wt
  rw [V_main_arg1]

theorem entry_sc (k : Fin 512) : Cert.PoolIdeal.Blocks.sc m c k = m ((c.tc : Thread nD τ).loc main_arg2) (ix1 k) := by
  unfold Cert.PoolIdeal.Blocks.sc V
  after_reads_at

/-- The pooled rows that the forward pass saves are the reference's. -/
theorem entry_pb (V0 : Valuation Cert.PoolRefIdeal.τ Cert.PoolRefIdeal.sig (Elt Ideal))
    (h : m (c, Proc.devRef .tc main_arg0) = V0 (Proc.devRef .tc Cert.PoolRefIdeal.main_arg0)) (g : Fin 4) (n : Fin 8192) (d : Fin 128) :
    Cert.PoolIdeal.Blocks.pb m c n (col g d) = Cert.PoolRefIdeal.Value.pooled V0 g (ix2 n d) := by
  have hd := d.isLt
  generalize hk : col g d = k
  have hv : k.val = 128 * g.val + d.val := by rw [← hk]; rfl
  unfold Cert.PoolIdeal.Blocks.pb V
  after_reads_at
  rcases group g with rfl | rfl | rfl | rfl
  · replace hv : k.val = 0 + d.val := hv
    rw [dif_pos (by omega)]
    have e : (⟨k.val, by omega⟩ : Fin 128) = d := Fin.ext (by show k.val = d.val; omega)
    simp only [e]
    show _ = Cert.PoolRefIdeal.Value.res_main_v15 V0 (ix2 n d)
    after_reads_at
    after_reads_at
    pointwise [Cert.PoolRefIdeal.Value.res_main_v15, Cert.PoolRefIdeal.Value.res_main_v2, Cert.PoolRefIdeal.Value.res_main_v11, Cert.PoolRefIdeal.Value.res_main_v1]
    rw [Cert.PoolRefIdeal.Value.res_main_v3, Cert.PoolRefIdeal.Value.res_main_v2, ← h]
  · replace hv : k.val = 128 + d.val := hv
    rw [dif_neg (by omega), dif_pos (by omega)]
    have e : (⟨k.val - 128, by omega⟩ : Fin 128) = d := Fin.ext (by show k.val - 128 = d.val; omega)
    simp only [e]
    show _ = Cert.PoolRefIdeal.Value.res_main_v29 V0 (ix2 n d)
    after_reads_at
    after_reads_at
    pointwise [Cert.PoolRefIdeal.Value.res_main_v29, Cert.PoolRefIdeal.Value.res_main_v16, Cert.PoolRefIdeal.Value.res_main_v25, Cert.PoolRefIdeal.Value.res_main_v1]
    rw [Cert.PoolRefIdeal.Value.res_main_v17, Cert.PoolRefIdeal.Value.res_main_v16, ← h]
  · replace hv : k.val = 256 + d.val := hv
    rw [dif_neg (by omega), dif_neg (by omega), dif_pos (by omega)]
    have e : (⟨k.val - 128 - 128, by omega⟩ : Fin 128) = d := Fin.ext (by show k.val - 128 - 128 = d.val; omega)
    simp only [e]
    show _ = Cert.PoolRefIdeal.Value.res_main_v43 V0 (ix2 n d)
    after_reads_at
    after_reads_at
    pointwise [Cert.PoolRefIdeal.Value.res_main_v43, Cert.PoolRefIdeal.Value.res_main_v30, Cert.PoolRefIdeal.Value.res_main_v39, Cert.PoolRefIdeal.Value.res_main_v1]
    rw [Cert.PoolRefIdeal.Value.res_main_v31, Cert.PoolRefIdeal.Value.res_main_v30, ← h]
  · replace hv : k.val = 384 + d.val := hv
    rw [dif_neg (by omega), dif_neg (by omega), dif_neg (by omega)]
    have e : (⟨k.val - 128 - 128 - 128, by omega⟩ : Fin 128) = d := Fin.ext (by show k.val - 128 - 128 - 128 = d.val; omega)
    simp only [e]
    show _ = Cert.PoolRefIdeal.Value.res_main_v57 V0 (ix2 n d)
    after_reads_at
    after_reads_at
    pointwise [Cert.PoolRefIdeal.Value.res_main_v57, Cert.PoolRefIdeal.Value.res_main_v44, Cert.PoolRefIdeal.Value.res_main_v53, Cert.PoolRefIdeal.Value.res_main_v1]
    rw [Cert.PoolRefIdeal.Value.res_main_v45, Cert.PoolRefIdeal.Value.res_main_v44, ← h]

end Entry

section Equal

open Cert.PoolRefIdeal.Value (R1 R2 R3 R1_apply R2_apply R3_apply R3_rest)

variable (m : (ℓ : Loc Cert.PoolIdeal.nD Cert.PoolIdeal.τ Cert.PoolIdeal.sig) → Buf (Elt Ideal) ℓ)
  (V0 : Valuation Cert.PoolRefIdeal.τ Cert.PoolRefIdeal.sig (Elt Ideal)) (c : Dev Cert.PoolIdeal.nD)
  (h0 : m (c, Proc.devRef .tc Cert.PoolIdeal.main_arg0) = V0 (Proc.devRef .tc Cert.PoolRefIdeal.main_arg0))
  (h1 : m (c, Proc.devRef .tc Cert.PoolIdeal.main_arg1) = V0 (Proc.devRef .tc Cert.PoolRefIdeal.main_arg1))
  (h2 : m (c, Proc.devRef .tc Cert.PoolIdeal.main_arg2) = V0 (Proc.devRef .tc Cert.PoolRefIdeal.main_arg2))
  (h3 : m (c, Proc.devRef .tc Cert.PoolIdeal.main_arg3) = V0 (Proc.devRef .tc Cert.PoolRefIdeal.main_arg3))
include h0 h1 h2 h3

theorem same_ct : Cert.PoolIdeal.Blocks.ct m c = Cert.PoolRefIdeal.Value.ct V0 :=
  funext fun n => funext fun k => (entry_ct m c n k).trans (congrFun h3 _)
theorem same_wt : Cert.PoolIdeal.Blocks.wt m c = Cert.PoolRefIdeal.Value.wt V0 :=
  funext fun g => funext fun a => funext fun b => (entry_wt m c g a b).trans (congrFun h1 _)
theorem same_sc : Cert.PoolIdeal.Blocks.sc m c = Cert.PoolRefIdeal.Value.sc V0 :=
  funext fun k => (entry_sc m c k).trans (congrFun h2 _)

/-- The gradient of the input. -/
theorem equal1 (r1 : ∀ n k, IsReal (Cert.PoolRefIdeal.Value.ct V0 n k)) (r2 : ∀ g a b, IsReal (Cert.PoolRefIdeal.Value.wt V0 g a b))
    (r3 : ∀ k, IsReal (Cert.PoolRefIdeal.Value.sc V0 k)) : G4 m c = R1 V0 := by
  funext y
  idx_vars y
  obtain ⟨g, d, rfl⟩ := col_surj y1
  refine (flat_col _ g d).trans ?_
  rw [R1_apply V0 r1 r2 r3, same_ct m V0 c h0 h1 h2 h3, same_wt m V0 c h0 h1 h2 h3, same_sc m V0 c h0 h1 h2 h3]
  rfl

/-- The gradient of the weights. -/
theorem equal2 : G5 m c = R2 V0 := by
  funext y
  idx_vars y
  rw [R2_apply]
  show DW _ _ _ y0 y1 y2 = _
  unfold DW
  refine Finset.sum_congr rfl fun t _ => ?_
  rw [same_ct m V0 c h0 h1 h2 h3, same_sc m V0 c h0 h1 h2 h3]
  exact congrArg (· * _) (entry_pb m c V0 h0 y0 t y1)

/-- The gradient of the scale. -/
theorem equal3 : G6 m c = R3 V0 := by
  funext y
  idx_vars y
  by_cases h : y0.val = 0
  · obtain rfl : y0 = 0 := Fin.ext h
    obtain ⟨g, d, rfl⟩ := col_surj y1
    refine (if_pos rfl).trans ((flat_col _ g d).trans ?_)
    rw [R3_apply, same_ct m V0 c h0 h1 h2 h3, same_wt m V0 c h0 h1 h2 h3]
    refine Finset.sum_congr rfl fun t _ => congrArg (fun z : EReal => Cert.PoolRefIdeal.Value.ct V0 t (col g d) * z) (Finset.sum_congr rfl fun k _ => ?_)
    exact congrArg (· * _) (entry_pb m c V0 h0 g t k)
  · rw [R3_rest V0 y0 h]
    exact if_neg h

end Equal

/-- The kernel and the reference end with the same three arrays. -/
theorem algebraic : Cert.algebraic_PoolIdeal_PoolRefIdeal_pre_pool_finite := by
  intro m g m' g' hpre hagree
  have h0 : ∀ c : Dev Cert.PoolIdeal.nD, m (c, Proc.devRef .tc Cert.PoolIdeal.main_arg0) = StableHlo.launchContents m' c (Proc.devRef .tc Cert.PoolRefIdeal.main_arg0) :=
    fun c => (hagree c).1.symm
  have h1 : ∀ c : Dev Cert.PoolIdeal.nD, m (c, Proc.devRef .tc Cert.PoolIdeal.main_arg1) = StableHlo.launchContents m' c (Proc.devRef .tc Cert.PoolRefIdeal.main_arg1) :=
    fun c => (hagree c).2.1.symm
  have h2 : ∀ c : Dev Cert.PoolIdeal.nD, m (c, Proc.devRef .tc Cert.PoolIdeal.main_arg2) = StableHlo.launchContents m' c (Proc.devRef .tc Cert.PoolRefIdeal.main_arg2) :=
    fun c => (hagree c).2.2.1.symm
  have h3 : ∀ c : Dev Cert.PoolIdeal.nD, m (c, Proc.devRef .tc Cert.PoolIdeal.main_arg3) = StableHlo.launchContents m' c (Proc.devRef .tc Cert.PoolRefIdeal.main_arg3) :=
    fun c => (hagree c).2.2.2.symm
  have f : ∀ c : Dev Cert.PoolIdeal.nD, _ := fun c => finite _ _ _ _ (hpre c)
  have r1 : ∀ c n k, IsReal (Cert.PoolRefIdeal.Value.ct (StableHlo.launchContents m' c) n k) := fun c n k => by
    have := (f c).2.2 (ix2 n k)
    rwa [← (hagree c).2.2.2] at this
  have r2 : ∀ c g a b, IsReal (Cert.PoolRefIdeal.Value.wt (StableHlo.launchContents m' c) g a b) := fun c g a b => by
    have := (f c).1 (ix3 g a b)
    rwa [← (hagree c).2.1] at this
  have r3 : ∀ c k, IsReal (Cert.PoolRefIdeal.Value.sc (StableHlo.launchContents m' c) k) := fun c k => by
    have := (f c).2.1 (ix1 k)
    rwa [← (hagree c).2.2.1] at this
  refine ⟨fun c => G4 m c, fun c => G5 m c, fun c => G6 m c, ?_, ?_⟩
  · refine (θ_run Cert.PoolIdeal.defs _ _).mono (fun r h c => ?_) (Cert.PoolIdeal.Value.run_blocks (F := Ideal) m g)
    exact ⟨(h c).1.trans (Cert.PoolIdeal.Blocks.final4 m c), (h c).2.1.trans (Cert.PoolIdeal.Blocks.final5 m c),
      (h c).2.2.1.trans (Cert.PoolIdeal.Blocks.final6 m c), (h c).2.2.2⟩
  · refine (θ_run Cert.PoolRefIdeal.defs _ _).mono (fun r h c => ?_) (Cert.PoolRefIdeal.Value.run (F := Ideal) m' g')
    exact ⟨(h c).1.trans (equal1 m (StableHlo.launchContents m' c) c (h0 c) (h1 c) (h2 c) (h3 c) (r1 c) (r2 c) (r3 c)).symm,
      (h c).2.1.trans (equal2 m (StableHlo.launchContents m' c) c (h0 c) (h1 c) (h2 c) (h3 c)).symm,
      (h c).2.2.1.trans (equal3 m (StableHlo.launchContents m' c) c (h0 c) (h1 c) (h2 c) (h3 c)).symm, (h c).2.2.2⟩

/-- The reference ends, its arguments as they were and its semaphores at zero: it has none. -/
theorem frame_reference : Cert.quiescent_PoolRefIdeal := by
  intro m g _
  refine (θ_run Cert.PoolRefIdeal.defs _ _).mono (fun r h => ⟨fun c => (h c).2.2.2, ?_⟩) (Cert.PoolRefIdeal.Value.run (F := Ideal) m g)
  exact Idealize.ShloMosaic.sem_eq_zero_of_no_sems (by decide) r.2

end Cert.Proof.Pool
-- ==== Proof.WGate.Block.lean ====
/-
  One point of the weight gradient's kernel: it reads its block of rows of the two operands from the slots of the ring the
  copies filled, multiplies them and adds the product to the accumulator, which the first point of a column block zeroes.
-/
module

public import proofs.«01_k».proof.Proof.Gen.WGateIdeal.Value
public import Idealize.ShloMosaic.Lib.Pointwise
public import Idealize.ShloMosaic.Lib.Pipeline.ValueKit
public import Idealize.ShloMosaic.Lib.Pipeline.ReadBack
public import Idealize.ShloMosaic.Lib.WritesUnit
public import Idealize.ShloMosaic.Lib.VecWindow
public import Idealize.ShloMosaic.Lib.Pointwise.Reshape
public import Idealize.ShloMosaic.Lib.ViewIndex

@[expose] public section

set_option maxRecDepth 16384

noncomputable section

open Idealize.ShloMosaic Idealize.ShloMosaic.TcCoe Idealize.SL.Sem

namespace Cert.WGateIdeal.Blocks

open Cert.WGateIdeal Cert.WGateIdeal.Gen

/-- The row and the column of the reshaped slot's element. -/
theorem flat {n k : ℕ} (s : (⟨2, ![n, k]⟩ : Shape).numel = (⟨3, ![1, n, k]⟩ : Shape).numel) (a : Fin n) (b : Fin k) :
    Shape.reshapeEquiv s (ix2 a b) = ix3 0 a b := by
  apply (Shape.rowMajor _).injective
  apply Fin.ext
  rw [Shape.rowMajor_reshapeEquiv, rowMajor_val2 (d := ![n, k]) _ k rfl, rowMajor_val3 (d := ![1, n, k]) _ (n * k) k rfl rfl]
  show a.val * k + b.val = 0 * (n * k) + a.val * k + b.val
  omega

/-- Reading a box of a buffer where a copy filled the box, laid out at another shape, finds what was copied. -/
theorem through {sg : RefSig} {κ : Kind} {sp : Space} {s s' : Shape} {e : EltTy} (v : View sg κ sp s e) (r : Rect s)
    (hn : s'.numel = r.shape.numel) (f : v.ty.Contents (Elt Ideal)) (w : s'.Idx → Elt Ideal e) (x : s'.Idx) :
    v.readAt (Elt Ideal) r.toLoadRect (((v.slice r).reshape s' hn).writes (Elt Ideal) f [⟨Rect.whole s', w⟩]) (Shape.reshapeEquiv hn x) = w x :=
  congrFun (View.read_writes_whole ((v.slice r).reshape s' hn) f w) x

/-- Two indices of a two-dimensional array are equal where both coordinates are. -/
theorem ext2 {d : Fin 2 → ℕ} {x y : (⟨2, d⟩ : Shape).Idx} (h0 : (x 0).val = (y 0).val) (h1 : (x 1).val = (y 1).val) : x = y :=
  funext fun a => Fin.ext (by match a with | 0 => exact h0 | 1 => exact h1)

/-- One store of the whole block is what the block holds. -/
theorem stored {sg : RefSig} {κ : Kind} {sp : Space} {e : EltTy} {n k : ℕ} (v : View sg κ sp ⟨2, ![n, k]⟩ e) (f : v.ty.Contents (Elt Ideal))
    (inb : ∀ a : Fin 2, (![0, 0] : Fin 2 → ℕ) a + (![n, k] : Fin 2 → ℕ) a ≤ (⟨2, ![n, k]⟩ : Shape).size a)
    (w : (Rect.unit (s := ⟨2, ![n, k]⟩) ![0, 0] ![n, k] inb).shape.Idx → Elt Ideal e)
    (L : List (View.Piece (Elt Ideal) ⟨2, ![n, k]⟩ e)) (a : Fin n) (b : Fin k) :
    v.read (Elt Ideal) (v.writes (Elt Ideal) f ((⟨Rect.unit (s := ⟨2, ![n, k]⟩) ![0, 0] ![n, k] inb, w⟩ : View.Piece (Elt Ideal) ⟨2, ![n, k]⟩ e) :: L)) (ix2 a b) = w (ix2 a b) :=
  View.read_writes_cons_unit_of_mem v f inb w L _ (ix2 a b) rfl
    (fun d => by match d with | 0 => exact (Nat.zero_add _).symm | 1 => exact (Nat.zero_add _).symm)

/-- What a point reads of its slot of the ring is the operand's block that was copied there. -/
theorem slot0 (t : Fin cfg0.N) (off : Fin 3 → ℕ) (h : off = ![(Ring.sl 3 t.val).val, 0, 0])
    (inb : ∀ a, off a + S1x2048x1408.size a ≤ S3x2048x1408.size a) (f) (w) (a : Fin 2048) (b : Fin 1408) :
    (View.whole cc0_scratch0).readAt (Elt Ideal) (Rect.unit (s := S3x2048x1408) off S1x2048x1408.size inb).toLoadRect
      ((rslot0_0 (Ring.sl 3 t.val)).view.writes (Elt Ideal) f [⟨Rect.whole S2048x1408, w⟩]) (ix3 0 a b) = w (ix2 a b) := by
  subst h
  have hn : S2048x1408.numel = S1x2048x1408.numel := squeezes_S1x2048x1408_S2048x1408.numel_eq
  rw [← flat hn a b]
  exact through _ _ _ _ _ _

theorem slot1 (t : Fin cfg0.N) (off : Fin 3 → ℕ) (h : off = ![(Ring.sl 3 t.val).val, 0, 0])
    (inb : ∀ a, off a + S1x2048x1024.size a ≤ S3x2048x1024.size a) (f) (w) (a : Fin 2048) (b : Fin 1024) :
    (View.whole cc0_scratch1).readAt (Elt Ideal) (Rect.unit (s := S3x2048x1024) off S1x2048x1024.size inb).toLoadRect
      ((rslot0_1 (Ring.sl 3 t.val)).view.writes (Elt Ideal) f [⟨Rect.whole S2048x1024, w⟩]) (ix3 0 a b) = w (ix2 a b) := by
  subst h
  have hn : S2048x1024.numel = S1x2048x1024.numel := squeezes_S1x2048x1024_S2048x1024.numel_eq
  rw [← flat hn a b]
  exact through _ _ _ _ _ _

/-- The rows and the columns of the operands that point `t` multiplies. -/
def row (t : Fin cfg0.N) (r : Fin 2048) : Fin 8192 := ⟨2048 * (t.val % 4) + r.val, by omega⟩
theorem size : cfg0.N = 8 := N_0
def col (t : Fin cfg0.N) (k : Fin 1408) : Fin 2816 := ⟨1408 * (t.val / 4) + k.val, by have := t.isLt; have := size; omega⟩

theorem step (t : Fin cfg0.N) : (Ring.bk 8 t.val).val = t.val := Nat.mod_eq_of_lt (lt_of_lt_of_eq t.isLt size)

/-- Those elements, as the copies bring them. -/
theorem src0 (c : Dev nD) (t : Fin cfg0.N) (f0 : HbBuf0 (F := Ideal) c hbM0_0) (a : Fin 2048) (b : Fin 1408) :
    ReadAs.same.apply (View.read (Elt Ideal) (srcB0_0 (Ring.bk 8 t.val)).view f0) (ix2 a b) = f0 (ix2 (row t a) (col t b)) := by
  refine congrArg f0 (ext2 ?_ ?_)
  · show 2048 * ((Ring.bk 8 t.val).val % 4) + 1 * a.val = 2048 * (t.val % 4) + a.val
    rw [step]; omega
  · show 1408 * ((Ring.bk 8 t.val).val / 4) + 1 * b.val = 1408 * (t.val / 4) + b.val
    rw [step]; omega
theorem src1 (c : Dev nD) (t : Fin cfg0.N) (f1 : HbBuf0 (F := Ideal) c hbM0_1) (a : Fin 2048) (b : Fin 1024) :
    ReadAs.same.apply (View.read (Elt Ideal) (srcB0_1 (Ring.bk 8 t.val)).view f1) (ix2 a b) = f1 (ix2 (row t a) b) := by
  refine congrArg f1 (ext2 ?_ ?_)
  · show 2048 * ((Ring.bk 8 t.val).val % 4) + 1 * a.val = 2048 * (t.val % 4) + a.val
    rw [step]; omega
  · show 0 + 1 * b.val = b.val
    omega

/-- A point adds its block of rows to what its accumulator holds. -/
theorem pay1_apply (v72 : Vec Ideal S1408x1024 .f32) (v75 : Vec Ideal S1x2048x1408 .bf16) (v78 : Vec Ideal S1x2048x1024 .bf16)
    (k : Fin 1408) (n : Fin 1024) :
    k0_pay1 v72 v75 v78 (ix2 k n) = v72 (ix2 k n) + ∑ r : Fin 2048, v75 (ix3 0 r k) * v78 (ix3 0 r n) := by
  pointwise [k0_pay1]

/-- What the first point of a column block leaves, and what the others add. -/
def part (c : Dev nD) (t : Fin cfg0.N) (f0 : HbBuf0 (F := Ideal) c hbM0_0) (f1 : HbBuf0 (F := Ideal) c hbM0_1) (k : Fin 1408) (n : Fin 1024) : EReal :=
  ∑ r : Fin 2048, (show EReal from f0 (ix2 (row t r) (col t k))) * (show EReal from f1 (ix2 (row t r) n))

section Cases

variable (c : Dev nD) (t : Fin cfg0.N) (a4 : Memref sig .tc .vmem S1408x1024 .f32) (h4 : a4.IsWhole)
  (x : Vec Ideal S1408x1024 .f32) (f0 : HbBuf0 (F := Ideal) c hbM0_0) (f1 : HbBuf0 (F := Ideal) c hbM0_1) (k : Fin 1408) (n : Fin 1024)

theorem out_A (h0 h1 h2) : out0_A_0 (F := Ideal) c t a4 h4 h0 h1 h2 f0 f1 (ix2 k n) = 0 + part c t f0 f1 k n := by
  unfold out0_A_0
  unfold kernelRun0_A
  dsimp only
  rw [stored, pay1_apply]
  unfold kernelRun0_A.sl.v72 kernelRun0_A.sl.H0_1
  simp (disch := decide) only [View.readCov_cons_toLoadRect]
  refine congrArg₂ _ (by pointwise [k0_pay2]) ?_
  refine (Finset.sum_congr rfl fun r _ => congrArg₂ _ ?_ ?_)
  · unfold kernelRun0_A.sl.v75
    rw [slot0 t _ (coff0_0_14 t)]
    exact src0 c t f0 r k
  · unfold kernelRun0_A.sl.v78
    rw [slot1 t _ (coff0_1_14 t)]
    exact src1 c t f1 r n

theorem out_B (h0 h1 h2) : out0_B_0 (F := Ideal) c t a4 h4 h0 h1 h2 x f0 f1 (ix2 k n) = x (ix2 k n) + part c t f0 f1 k n := by
  unfold out0_B_0
  unfold kernelRun0_B
  dsimp only
  simp only [View.readAt_eq_ld, h4.read_unread]
  rw [stored, pay1_apply, View.ld_unit_zero (funext fun a => by match a with | 0 => rfl | 1 => rfl)]
  refine congrArg _ (Finset.sum_congr rfl fun r _ => congrArg₂ _ ?_ ?_)
  · unfold kernelRun0_B.sl.v75
    rw [slot0 t _ (coff0_0_14 t)]
    exact src0 c t f0 r k
  · unfold kernelRun0_B.sl.v78
    rw [slot1 t _ (coff0_1_14 t)]
    exact src1 c t f1 r n

theorem out_C (h0 h1 h2) : out0_C_0 (F := Ideal) c t a4 h4 h0 h1 h2 f0 f1 (ix2 k n) = 0 + part c t f0 f1 k n := by
  unfold out0_C_0
  unfold kernelRun0_C
  dsimp only
  rw [stored, pay1_apply]
  unfold kernelRun0_C.sl.v72 kernelRun0_C.sl.H0_1
  simp (disch := decide) only [View.readCov_cons_toLoadRect]
  refine congrArg₂ _ (by pointwise [k0_pay2]) ?_
  refine (Finset.sum_congr rfl fun r _ => congrArg₂ _ ?_ ?_)
  · unfold kernelRun0_C.sl.v75
    rw [slot0 t _ (coff0_0_14 t)]
    exact src0 c t f0 r k
  · unfold kernelRun0_C.sl.v78
    rw [slot1 t _ (coff0_1_14 t)]
    exact src1 c t f1 r n

theorem out_D (h0 h1 h2) : out0_D_0 (F := Ideal) c t a4 h4 h0 h1 h2 x f0 f1 (ix2 k n) = x (ix2 k n) + part c t f0 f1 k n := by
  unfold out0_D_0
  unfold kernelRun0_D
  dsimp only
  simp only [View.readAt_eq_ld, h4.read_unread]
  rw [stored, pay1_apply, View.ld_unit_zero (funext fun a => by match a with | 0 => rfl | 1 => rfl)]
  refine congrArg _ (Finset.sum_congr rfl fun r _ => congrArg₂ _ ?_ ?_)
  · unfold kernelRun0_D.sl.v75
    rw [slot0 t _ (coff0_0_14 t)]
    exact src0 c t f0 r k
  · unfold kernelRun0_D.sl.v78
    rw [slot1 t _ (coff0_1_14 t)]
    exact src1 c t f1 r n

end Cases

end Cert.WGateIdeal.Blocks
-- ==== Proof.Sums.lean ====
/-
  A sum over all rows is the sum over the blocks of rows of the sums within the blocks.
-/
module

public import Mathlib.Data.EReal.Operations
public import Mathlib.Algebra.BigOperators.Fin

@[expose] public section

namespace Cert.Proof.Sums

/-- The sum of `f` over the rows of block `s`, the blocks having `b` rows; rows beyond the last count as zero. -/
noncomputable def block {N : ℕ} (b : ℕ) (f : Fin N → EReal) (s : ℕ) : EReal :=
  ∑ r : Fin b, if h : b * s + r.val < N then f ⟨b * s + r.val, h⟩ else 0

theorem block_eq {N b : ℕ} (f : Fin N → EReal) (s : ℕ) (hs : b * s + b ≤ N) :
    block b f s = ∑ r : Fin b, f ⟨b * s + r.val, by have := r.isLt; omega⟩ :=
  Finset.sum_congr rfl fun r _ => dif_pos (by have := r.isLt; omega)

/-- The first `n` blocks together are the first `b * n` rows. -/
theorem blocks {N : ℕ} (b : ℕ) (f : Fin N → EReal) (n : ℕ) :
    ∑ s ∈ Finset.range n, block b f s = ∑ i ∈ Finset.range (b * n), if h : i < N then f ⟨i, h⟩ else 0 := by
  induction n with
  | zero => simp
  | succ n ih =>
    rw [Finset.sum_range_succ, ih, Nat.mul_succ, Finset.sum_range_add, block]
    exact congrArg _ (Fin.sum_univ_eq_sum_range (fun r => if h : b * n + r < N then f ⟨b * n + r, h⟩ else 0) b)

theorem all {N : ℕ} (b : ℕ) (f : Fin N → EReal) (n : ℕ) (h : b * n = N) : ∑ s ∈ Finset.range n, block b f s = ∑ i, f i := by
  rw [blocks, h, ← Fin.sum_univ_eq_sum_range (fun i => if h : i < N then f ⟨i, h⟩ else 0) N]
  exact Finset.sum_congr rfl fun i _ => dif_pos i.isLt

end Cert.Proof.Sums
-- ==== Proof.WGate.Arrays.lean ====
/-
  What the weight gradient's kernel leaves in its result: the four blocks of rows of a column block are added one after
  the other, so the result is the product over all rows.
-/
module

public import proofs.«01_k».proof.Proof.WGate.Block
public import proofs.«01_k».proof.Proof.Sums

@[expose] public section

set_option maxRecDepth 16384

noncomputable section

open Idealize.ShloMosaic Idealize.ShloMosaic.TcCoe Idealize.SL.Sem

namespace Cert.WGateIdeal.Blocks

open Cert.WGateIdeal Cert.WGateIdeal.Gen Cert.WGateIdeal.Value Cert.Proof

variable (m : (ℓ : Loc nD τ sig) → Buf (Elt Ideal) ℓ) (c : Dev nD)

/-- The two operands. -/
def lhs (r : Fin 8192) (k : Fin 2816) : EReal := V m c main_v0 (ix2 r k)
def rhs (r : Fin 8192) (n : Fin 1024) : EReal := V m c main_v1 (ix2 r n)

/-- What a point adds is its block of rows of the product. -/
theorem part_eq (t : Fin cfg0.N) (k : Fin 1408) (n : Fin 1024) :
    part c t (V m c main_v0) (V m c main_v1) k n = Sums.block 2048 (fun r => lhs m c r (col t k) * rhs m c r n) (t.val % 4) :=
  (Sums.block_eq (N := 8192) (b := 2048) (fun r => lhs m c r (col t k) * rhs m c r n) (t.val % 4) (by omega)).symm

/-- After a point the accumulator holds the blocks of rows up to the point's. -/
theorem upto (k : Fin 1408) (n : Fin 1024) : ∀ (i : ℕ) (h : i < cfg0.N),
    outsAt0 m c i h (ix2 k n) = ∑ s ∈ Finset.range (i % 4 + 1), Sums.block 2048 (fun r => lhs m c r (col ⟨i, h⟩ k) * rhs m c r n) s := by
  intro i
  induction i with
  | zero =>
    intro h
    refine (congrFun (outsAt0_A m c ⟨0, h⟩ rfl (show 0 < 6 by decide) rfl) _).trans ((out_A c _ _ _ _ _ k n _ _ _).trans ?_)
    rw [part_eq, zero_add]
    exact (Finset.sum_range_one _).symm
  | succ i ih =>
    intro h
    have hN : i + 1 < 8 := lt_of_lt_of_eq h size
    by_cases h2 : (i + 1) % 4 = 0
    · refine (congrFun (outsAt0_C m c ⟨i + 1, h⟩ (show ¬(i + 1) % 8 = 0 by omega) (show i + 1 < 6 by omega) h2) _).trans ((out_C c _ _ _ _ _ k n _ _ _).trans ?_)
      rw [part_eq, zero_add]
      show Sums.block 2048 _ ((i + 1) % 4) = _
      rw [h2]
      exact (Finset.sum_range_one _).symm
    · have hb : (i + 1) / 4 = i / 4 := by omega
      have hs : (i + 1) % 4 = i % 4 + 1 := by omega
      have hc : col ⟨i + 1, h⟩ k = col ⟨i, Nat.lt_of_succ_lt h⟩ k := Fin.ext (by show 1408 * ((i + 1) / 4) + k.val = 1408 * (i / 4) + k.val; rw [hb])
      have e := ih (Nat.lt_of_succ_lt h)
      rw [← hc] at e
      rw [hs, Finset.sum_range_succ, ← e, ← hs]
      by_cases h1 : i + 1 < 6
      · refine (congrFun (outsAt0_B m c ⟨i + 1, h⟩ (show ¬(i + 1) % 8 = 0 by omega) h1 h2) _).trans ((out_B c _ _ _ _ _ _ k n _ _ _).trans ?_)
        rw [part_eq]
        rfl
      · refine (congrFun (outsAt0_D m c ⟨i + 1, h⟩ (show ¬(i + 1) % 8 = 0 by omega) h1 h2) _).trans ((out_D c _ _ _ _ _ _ k n _ _ _).trans ?_)
        rw [part_eq]
        rfl

/-- The product of the two operands over all rows. -/
def G0 : Buf (Elt Ideal) ((c.tc : Thread nD τ).loc main_v2) :=
  fun y => (show EReal from ∑ r : Fin 8192, lhs m c r (y 0) * rhs m c r (y 1))

theorem i0 : ∀ t : Fin cfg0.N, win0_0.index t = ![t.val / 4, 0] := by decide +kernel

theorem last : ∀ t : Fin cfg0.N, (cfg0.win 0).flush t = true → t.val % 4 = 3 := by decide +kernel

theorem final0 : (dats m 0 c).arrAt 0 cfg0.N = G0 m c := by
  refine (dats m 0 c).arrAt_eq_of_covers 0 (G0 m c) (by decide +kernel) fun t hf y => ?_
  have hl := last t hf
  blk_simp
  rw [after0_0]
  idx_vars y
  refine (upto m c y0 y1 t.val t.isLt).trans ?_
  have e : ((View.whole main_v2).slice (win0_0.rect t)).emb (ix2 y0 y1) = ix2 (col t y0) y1 := by
    unfold col
    blk_ext [i0]
  rw [e, hl]
  exact Sums.all 2048 _ 4 rfl

end Cert.WGateIdeal.Blocks
-- ==== Proof.WGate.Equation.lean ====
/-
  The weight gradient's kernel and the reference end with the same array, whatever the arguments.
-/
module

public import proofs.«01_k».proof.Proof.WGate.Arrays
public import proofs.«01_k».proof.Proof.Gen.WGateRefIdeal.Run
public import proofs.«01_k».proof.Defs
public import Idealize.ShloMosaic.Lib.StableHlo.ReadAt

@[expose] public section

set_option maxRecDepth 16384

noncomputable section

open Idealize.ShloMosaic Idealize.ShloMosaic.TcCoe Idealize.SL.Sem

namespace Cert.Proof.WGate

section Entry

open Cert.WGateIdeal Cert.WGateIdeal.Gen

variable (m : (ℓ : Loc Cert.WGateIdeal.nD Cert.WGateIdeal.τ Cert.WGateIdeal.sig) → Buf (Elt Ideal) ℓ) (c : Dev Cert.WGateIdeal.nD)

/-- The kernel's operands are the arguments. -/
theorem entry_lhs (r : Fin 8192) (k : Fin 2816) : Cert.WGateIdeal.Blocks.lhs m c r k = m ((c.tc : Thread nD τ).loc main_arg1) (ix2 r k) := by
  unfold Cert.WGateIdeal.Blocks.lhs V
  after_reads_at

theorem entry_rhs (r : Fin 8192) (n : Fin 1024) : Cert.WGateIdeal.Blocks.rhs m c r n = m ((c.tc : Thread nD τ).loc main_arg0) (ix2 r n) := by
  unfold Cert.WGateIdeal.Blocks.rhs V
  after_reads_at

end Entry

section Reference

open Cert.WGateRefIdeal Cert.WGateRefIdeal.Gen

/-- An element of the reference's array is the sum over the rows. -/
theorem reference (x0 : FVec Ideal S8192x1024 .f32) (x1 : FVec Ideal S8192x2816 .f32) (k : Fin 2816) (n : Fin 1024) :
    transpose S2816x1024 [1, 0] (transpose S1024x2816 [1, 0] (Host.dotGeneral (F := Ideal) (φ₁ := .f32) (φ₂ := .f32) dot_S8192x2816_S8192x1024_S2816x1024_0_0_1_1_n_n none x1 x0) transposes_S2816x1024_S1024x2816_1_0) transposes_S1024x2816_S2816x1024_1_0 (ix2 k n)
      = ∑ r : Fin 8192, x1 (ix2 r k) * x0 (ix2 r n) := by
  pointwise []

end Reference

/-- The kernel and the reference end with the same array. -/
theorem algebraic : Cert.algebraic_WGateIdeal_WGateRefIdeal := by
  intro m g m' g' _ hagree
  refine ⟨fun c => Cert.WGateIdeal.Blocks.G0 m c, ?_, ?_⟩
  · refine (θ_run Cert.WGateIdeal.defs _ _).mono (fun r h c => ?_) (Cert.WGateIdeal.Value.run_blocks (F := Ideal) m g)
    exact ⟨(h c).1.trans (Cert.WGateIdeal.Blocks.final0 m c), (h c).2⟩
  · refine (θ_run Cert.WGateRefIdeal.defs _ _).mono (fun r h c => ?_) (Cert.WGateRefIdeal.Value.run (F := Ideal) m' g')
    refine ⟨(h c).1.trans ?_, (h c).2⟩
    funext y
    idx_vars y
    refine (reference _ _ y0 y1).trans (Finset.sum_congr rfl fun r _ => ?_)
    rw [(hagree c).1, (hagree c).2]
    exact (congrArg₂ (fun a b : EReal => a * b) (entry_lhs m c r y0) (entry_rhs m c r y1)).symm

/-- The reference ends, its arguments as they were and its semaphores at zero: it has none. -/
theorem frame_reference : Cert.quiescent_WGateRefIdeal := by
  intro m g _
  refine (θ_run Cert.WGateRefIdeal.defs _ _).mono (fun r h => ⟨fun c => (h c).2, ?_⟩) (Cert.WGateRefIdeal.Value.run (F := Ideal) m g)
  exact Idealize.ShloMosaic.sem_eq_zero_of_no_sems (by decide) r.2

end Cert.Proof.WGate
-- ==== Proof.Net.Model.lean ====
/-
  The feed-forward block over the real numbers, a row at a time: the norm, the two products, silu and their gradients, and
  how operations on extended reals that are real numbers give real numbers.
-/
module

public import Idealize.ShloMosaic.Lib.Pointwise
public import Mathlib.Analysis.SpecialFunctions.Exp

@[expose] public section

noncomputable section

open Idealize.ShloMosaic

namespace Cert.Proof.Net

/-! ## Real numbers among the extended reals -/

theorem one : (1 : EReal) = ((1 : ℝ) : EReal) := rfl
theorem add (a b : ℝ) : (a : EReal) + (b : EReal) = ((a + b : ℝ) : EReal) := (EReal.coe_add a b).symm
theorem mul (a b : ℝ) : (a : EReal) * (b : EReal) = ((a * b : ℝ) : EReal) := (EReal.coe_mul a b).symm
theorem sub (a b : ℝ) : (a : EReal) - (b : EReal) = ((a - b : ℝ) : EReal) := (EReal.coe_sub a b).symm
theorem neg (a : ℝ) : -(a : EReal) = ((-a : ℝ) : EReal) := (EReal.coe_neg a).symm
theorem sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, add]
theorem div (a b : ℝ) (h : b ≠ 0) : Ideal.div (a : EReal) (b : EReal) = ((a / b : ℝ) : EReal) := by
  rw [Ideal.div, if_neg (by exact_mod_cast h), ← EReal.coe_inv, mul, div_eq_mul_inv]
theorem exp (a : ℝ) : Ideal.exp (a : EReal) = ((Real.exp a : ℝ) : EReal) := rfl
theorem rsqrt (a : ℝ) (h : 0 < a) : Ideal.rsqrt (a : EReal) = (((√a)⁻¹ : ℝ) : EReal) := by
  show (if a < 0 then (⊥ : EReal) else if a = 0 then ⊤ else (((√a)⁻¹ : ℝ) : EReal)) = _
  rw [if_neg (by linarith), if_neg (by linarith)]

/-! ## The constants -/

/-- What the norm adds to the mean square. -/
def eps : ℝ := 8796093 / 2 ^ 43

theorem eps_pos : 0 < eps := by unfold eps; norm_num

theorem bits_zero : Ideal.ofBits FTy.f32 0x00000000#32 = ((0 : ℝ) : EReal) := by simp [Ideal.ofBits, Ideal.ieee]
theorem bits_one : Ideal.ofBits FTy.f32 0x3F800000#32 = ((1 : ℝ) : EReal) := by
  simp [Ideal.ofBits, Ideal.ieee, zpow_ofNat]
  rw [← EReal.coe_mul]
  norm_num
theorem bits_mean : Ideal.ofBits FTy.f32 0x44800000#32 = ((1024 : ℝ) : EReal) := by
  simp [Ideal.ofBits, Ideal.ieee, zpow_ofNat]
  rw [← EReal.coe_mul]
  norm_num
theorem bits_half : Ideal.ofBits FTy.f32 0xBF000000#32 = ((-(1 / 2) : ℝ) : EReal) := by
  simp [Ideal.ofBits, Ideal.ieee, zpow_ofNat]
  rw [← EReal.coe_mul]
  norm_num
theorem bits_eps : Ideal.ofBits FTy.f32 0x358637BD#32 = (eps : EReal) := by
  unfold eps
  simp [Ideal.ofBits, Ideal.ieee, zpow_ofNat]
  rw [← EReal.coe_mul]
  norm_num

/-! ## The block, a row at a time -/

section Rows

variable {n p : ℕ}

/-- The mean square of a row, the norm's factor and the normed row. -/
def var (x : Fin n → ℝ) : ℝ := (∑ k, x k * x k) / 1024 + eps
def inv (x : Fin n → ℝ) : ℝ := (√(var x))⁻¹
def norm (x : Fin n → ℝ) (k : Fin n) : ℝ := x k * inv x

theorem var_pos (x : Fin n → ℝ) : 0 < var x :=
  add_pos_of_nonneg_of_pos (div_nonneg (Finset.sum_nonneg fun k _ => mul_self_nonneg (x k)) (by norm_num)) eps_pos

theorem rsqrt_var (x : Fin n → ℝ) : Ideal.rsqrt (((∑ k, x k * x k) / 1024 + eps : ℝ) : EReal) = ((inv x : ℝ) : EReal) := rsqrt _ (var_pos x)

/-- The row that the two products take. -/
def hid (x g sh sc : Fin n → ℝ) (k : Fin n) : ℝ := norm x k * g k * (1 + sc k) + sh k
/-- A row times a matrix. -/
def lin (h : Fin n → ℝ) (W : Fin n → Fin p → ℝ) (j : Fin p) : ℝ := ∑ k, h k * W k j

def sg (a : ℝ) : ℝ := 1 / (1 + Real.exp (-a))
/-- Silu's derivative. -/
def dsilu (a : ℝ) : ℝ := sg a * (1 + a * (1 - sg a))
def act (a b : Fin p → ℝ) (j : Fin p) : ℝ := a j * sg (a j) * b j

/-- The gradient of the normed row's input, of the gradient `u` of the normed row. -/
def normBwd (x u : Fin n → ℝ) (k : Fin n) : ℝ := inv x * (u k - norm x k * ((∑ i, u i * norm x i) / 1024))

theorem one_add_exp (a : ℝ) : 1 + Real.exp (-a) ≠ 0 := by positivity
theorem sg_eq (a : ℝ) : Ideal.div 1 (1 + Ideal.exp (-(a : EReal))) = ((sg a : ℝ) : EReal) := by
  simp only [neg, exp, one, add, div _ _ (one_add_exp _)]
  rfl

theorem inv_div (x : Fin n → ℝ) : inv x / var x = inv x * inv x * inv x := by
  have h : inv x * inv x = (var x)⁻¹ := by
    unfold inv
    rw [← mul_inv, Real.mul_self_sqrt (var_pos x).le]
  rw [div_eq_mul_inv, ← h, mul_assoc]

/-- The norm's gradient as differentiation gives it, the factor's derivative added twice. -/
theorem normBwd_eq (x u : Fin n → ℝ) (k : Fin n) :
    u k * inv x + x k * ((∑ i, x i * u i) * (-(1 / 2) * (inv x / var x)) / 1024) + ((∑ i, x i * u i) * (-(1 / 2) * (inv x / var x)) / 1024) * x k
      = normBwd x u k := by
  have e : ∑ i, u i * norm x i = (∑ i, x i * u i) * inv x := by
    rw [Finset.sum_mul]
    exact Finset.sum_congr rfl fun i _ => by unfold norm; ring
  unfold normBwd
  rw [e, inv_div]
  unfold norm
  ring

end Rows

end Cert.Proof.Net
-- ==== Proof.Net.Block.lean ====
/-
  The feed-forward block's backward pass over the real numbers: the arrays the kernel and the reference both leave.
-/
module

public import proofs.«01_k».proof.Proof.Net.Model

@[expose] public section

noncomputable section

open Idealize.ShloMosaic

namespace Cert.Proof.Net

/-- The block's input, norms' gains, modulation, weights and the gradient of its output, real numbers. -/
structure Data where
  X : Fin 8192 → Fin 1024 → ℝ
  gp : Fin 1024 → ℝ
  gq : Fin 1024 → ℝ
  sh : Fin 1024 → ℝ
  sc : Fin 1024 → ℝ
  ga : Fin 1024 → ℝ
  WG : Fin 1024 → Fin 2816 → ℝ
  WU : Fin 1024 → Fin 2816 → ℝ
  WD : Fin 2816 → Fin 1024 → ℝ
  CT : Fin 8192 → Fin 1024 → ℝ

namespace Data

variable (d : Data) (t : Fin 8192)

def h : Fin 1024 → ℝ := hid (d.X t) d.gp d.sh d.sc
def a : Fin 2816 → ℝ := lin (d.h t) d.WG
def b : Fin 2816 → ℝ := lin (d.h t) d.WU
def f : Fin 1024 → ℝ := lin (act (d.a t) (d.b t)) d.WD
/-- The gradient of the second norm's output, over its gain. -/
def u (k : Fin 1024) : ℝ := d.ga k * d.CT t k * d.gq k
def df : Fin 1024 → ℝ := normBwd (d.f t) (d.u t)
def dact (j : Fin 2816) : ℝ := ∑ n, d.df t n * d.WD j n
def da (j : Fin 2816) : ℝ := d.dact t j * (d.b t j * dsilu (d.a t j))
def db (j : Fin 2816) : ℝ := d.dact t j * (d.a t j * sg (d.a t j))
def dh (k : Fin 1024) : ℝ := ∑ j, d.da t j * d.WG k j + ∑ j, d.db t j * d.WU k j
def dx (k : Fin 1024) : ℝ := d.CT t k + normBwd (d.X t) (fun k => d.dh t k * (1 + d.sc k) * d.gp k) k
/-- The gradients of the gate, of the second gain, of the shift, of the scale and of the first gain. -/
def rows (n : Fin 1024) : Fin 8 → ℝ
  | 0 => ∑ t, d.CT t n * norm (d.f t) n * d.gq n
  | 1 => ∑ t, d.CT t n * norm (d.f t) n * d.ga n
  | 2 => ∑ t, d.dh t n
  | 3 => ∑ t, d.dh t n * norm (d.X t) n * d.gp n
  | 4 => ∑ t, d.dh t n * norm (d.X t) n * (1 + d.sc n)
  | _ => 0

end Data

end Cert.Proof.Net
-- ==== Proof.Ffn.Payload.lean ====
/-
  What the feed-forward backward kernel computes from a block of 256 rows, value by value, over real numbers: the second
  norm's gradient, the three chunks of the hidden columns and their products, and the first norm's gradient.
-/
module

public import proofs.«01_k».proof.Proof.Gen.FfnIdeal.Value
public import proofs.«01_k».proof.Proof.Net.Block
public import Idealize.ShloMosaic.Lib.Pointwise

@[expose] public section

set_option maxRecDepth 16384

noncomputable section

open Idealize.ShloMosaic Idealize.ShloMosaic.TcCoe Idealize.SL.Sem

namespace Cert.FfnIdeal.Blocks

open Cert.FfnIdeal Cert.FfnIdeal.Gen Cert.Proof.Net

/-- The hidden columns come in chunks of 1024, 1024 and 768. -/
def J0 (j : Fin 1024) : Fin 2816 := ⟨j.val, by omega⟩
def J1 (j : Fin 1024) : Fin 2816 := ⟨1024 + j.val, by omega⟩
def J2 (j : Fin 768) : Fin 2816 := ⟨2048 + j.val, by omega⟩

theorem sum_chunks (F : Fin 2816 → ℝ) : ∑ j, F j = ∑ j, F (J0 j) + ∑ j, F (J1 j) + ∑ j, F (J2 j) := by
  have e1 := Fin.sum_univ_add (a := 2048) (b := 768) F
  have e2 := Fin.sum_univ_add (a := 1024) (b := 1024) fun j => F (Fin.castAdd 768 j)
  exact e1.trans (congrArg₂ (· + ·) e2 rfl)

theorem thousand : (1024 : ℝ) ≠ 0 := by norm_num

section Norm

variable {d : Data} {t : Fin 256 → Fin 8192} {v3 v4 v119 : Vec Ideal S256x1024 .f32} {v16 v18 v130 v132 : Vec Ideal S1x1024 .f32}
  (h3 : ∀ r k, v3 (ix2 r k) = ((d.CT (t r) k : ℝ) : EReal)) (h4 : ∀ r k, v4 (ix2 r k) = ((d.f (t r) k : ℝ) : EReal))
  (h16 : ∀ k, v16 (ix2 0 k) = ((d.gq k : ℝ) : EReal)) (h18 : ∀ k, v18 (ix2 0 k) = ((d.ga k : ℝ) : EReal))
  (h119 : ∀ r k, v119 (ix2 r k) = ((d.X (t r) k : ℝ) : EReal))
  (h130 : ∀ k, v130 (ix2 0 k) = ((d.gp k : ℝ) : EReal)) (h132 : ∀ k, v132 (ix2 0 k) = ((d.sc k : ℝ) : EReal))

include h4 in
theorem pay8_apply (r : Fin 256) : k0_pay8 v4 (ix2 r 0) = ((inv (d.f (t r)) : ℝ) : EReal) := by
  pointwise [k0_pay8, k0_pay7]
  simp only [h4, bits_mean, bits_eps, mul, sum, add, div _ _ thousand, zero_add]
  exact rsqrt _ (var_pos _)

include h4 in
theorem pay9_apply (r : Fin 256) (k : Fin 1024) : k0_pay9 v4 (ix2 r k) = ((norm (d.f (t r)) k : ℝ) : EReal) := by
  pointwise [k0_pay9, k0_pay7]
  simp only [pay8_apply h4, h4, mul]
  rfl

include h3 h4 in
theorem pay12_apply (r : Fin 256) (k : Fin 1024) : k0_pay12 v3 v4 (ix2 r k) = ((d.CT (t r) k * norm (d.f (t r)) k : ℝ) : EReal) := by
  pointwise [k0_pay12]
  simp only [pay9_apply h4, h3, mul]

include h3 h4 h16 h18 in
/-- The gradient of the block's second product. -/
theorem pay13_apply (r : Fin 256) (k : Fin 1024) : k0_pay13 v3 v4 v16 v18 (ix2 r k) = ((d.df (t r) k : ℝ) : EReal) := by
  pointwise [k0_pay13, k0_pay10, k0_pay11]
  simp only [pay8_apply h4, pay9_apply h4, pay12_apply h3 h4, h3, h16, h18, bits_mean, mul, sum, sub, div _ _ thousand, zero_add]
  refine congrArg _ ?_
  unfold Data.df normBwd
  have e : ∀ k, d.CT (t r) k * (d.ga k * d.gq k) = d.u (t r) k := fun k => by unfold Data.u; ring
  have e' : ∀ k, d.CT (t r) k * norm (d.f (t r)) k * (d.ga k * d.gq k) = d.u (t r) k * norm (d.f (t r)) k := fun k => by unfold Data.u; ring
  simp only [e, e']

include h3 h4 in
theorem pay14_apply (k : Fin 1024) : k0_pay14 v3 v4 (ix2 0 k) = ((∑ r, d.CT (t r) k * norm (d.f (t r)) k : ℝ) : EReal) := by
  pointwise [k0_pay14]
  simp only [pay12_apply h3 h4, sum, zero_add]

include h3 h4 h16 in
theorem pay16_apply (k : Fin 1024) : k0_pay16 v3 v4 v16 (ix2 0 k) = ((∑ r, d.CT (t r) k * norm (d.f (t r)) k * d.gq k : ℝ) : EReal) := by
  pointwise [k0_pay16, k0_pay10]
  simp only [pay14_apply h3 h4, h16, mul]
  rw [mul_comm, Finset.sum_mul]

include h119 in
theorem pay32_apply (r : Fin 256) : k0_pay32 v119 (ix2 r 0) = ((inv (d.X (t r)) : ℝ) : EReal) := by
  pointwise [k0_pay32]
  simp only [h119, bits_mean, bits_eps, mul, sum, add, div _ _ thousand, zero_add]
  exact rsqrt _ (var_pos _)

include h119 in
theorem pay33_apply (r : Fin 256) (k : Fin 1024) : k0_pay33 v119 (ix2 r k) = ((norm (d.X (t r)) k : ℝ) : EReal) := by
  pointwise [k0_pay33]
  simp only [pay32_apply h119, h119, mul]
  rfl

include h132 in
theorem pay35_apply (k : Fin 1024) : k0_pay35 v132 (ix2 0 k) = ((1 + d.sc k : ℝ) : EReal) := by
  pointwise [k0_pay35]
  simp only [h132, bits_one, one, add]

include h130 h132 in
theorem pay39_apply (r : Fin 256) (k : Fin 1024) : k0_pay39 v130 v132 (ix2 r k) = (((1 + d.sc k) * d.gp k : ℝ) : EReal) := by
  pointwise [k0_pay39, k0_pay36, k0_pay34]
  simp only [pay35_apply h132, h130, mul]

end Norm

section Chunk

variable {d : Data} {t : Fin 256 → Fin 8192} {v34 : FVec Ideal S256x1024 .f32} {v47 : FVec Ideal S256x1024 .bf16}
  (h34 : ∀ r k, v34 (ix2 r k) = ((d.df (t r) k : ℝ) : EReal)) (h47 : ∀ r k, v47 (ix2 r k) = ((d.df (t r) k : ℝ) : EReal))
  {v50 v73 : Vec Ideal S1024x1024 .bf16} {v96 : Vec Ideal S768x1024 .bf16}
  (h50 : ∀ j k, v50 (ix2 j k) = ((d.WD (J0 j) k : ℝ) : EReal)) (h73 : ∀ j k, v73 (ix2 j k) = ((d.WD (J1 j) k : ℝ) : EReal))
  (h96 : ∀ j k, v96 (ix2 j k) = ((d.WD (J2 j) k : ℝ) : EReal))
  {v53 v58 v76 v81 : Vec Ideal S256x1024 .bf16} {v99 v104 : Vec Ideal S256x768 .bf16}
  (h53 : ∀ r j, v53 (ix2 r j) = ((d.b (t r) (J0 j) * dsilu (d.a (t r) (J0 j)) : ℝ) : EReal))
  (h58 : ∀ r j, v58 (ix2 r j) = ((d.a (t r) (J0 j) * sg (d.a (t r) (J0 j)) : ℝ) : EReal))
  (h76 : ∀ r j, v76 (ix2 r j) = ((d.b (t r) (J1 j) * dsilu (d.a (t r) (J1 j)) : ℝ) : EReal))
  (h81 : ∀ r j, v81 (ix2 r j) = ((d.a (t r) (J1 j) * sg (d.a (t r) (J1 j)) : ℝ) : EReal))
  (h99 : ∀ r j, v99 (ix2 r j) = ((d.b (t r) (J2 j) * dsilu (d.a (t r) (J2 j)) : ℝ) : EReal))
  (h104 : ∀ r j, v104 (ix2 r j) = ((d.a (t r) (J2 j) * sg (d.a (t r) (J2 j)) : ℝ) : EReal))
  {v65 v69 v88 v92 : Vec Ideal S1024x1024 .bf16} {v111 v115 : Vec Ideal S768x1024 .bf16}
  (h65 : ∀ j k, v65 (ix2 j k) = ((d.WG k (J0 j) : ℝ) : EReal)) (h69 : ∀ j k, v69 (ix2 j k) = ((d.WU k (J0 j) : ℝ) : EReal))
  (h88 : ∀ j k, v88 (ix2 j k) = ((d.WG k (J1 j) : ℝ) : EReal)) (h92 : ∀ j k, v92 (ix2 j k) = ((d.WU k (J1 j) : ℝ) : EReal))
  (h111 : ∀ j k, v111 (ix2 j k) = ((d.WG k (J2 j) : ℝ) : EReal)) (h115 : ∀ j k, v115 (ix2 j k) = ((d.WU k (J2 j) : ℝ) : EReal))

include h34 in
theorem pay19_apply (r : Fin 256) (k : Fin 1024) : k0_pay19 v34 (ix2 r k) = ((d.df (t r) k : ℝ) : EReal) := by
  pointwise [k0_pay19]
  exact h34 r k

include h34 h50 in
theorem pay20_apply (r : Fin 256) (j : Fin 1024) : k0_pay20 v34 v50 (ix2 r j) = ((d.dact (t r) (J0 j) : ℝ) : EReal) := by
  pointwise [k0_pay20]
  simp only [pay19_apply h34, h50, mul, sum, zero_add]
  rfl

include h34 h50 h53 in
theorem pay21_apply (r : Fin 256) (j : Fin 1024) : k0_pay21 v34 v50 v53 (ix2 r j) = ((d.da (t r) (J0 j) : ℝ) : EReal) := by
  pointwise [k0_pay21]
  simp only [pay20_apply h34 h50, h53, mul]
  rfl

include h34 h50 h58 in
theorem pay22_apply (r : Fin 256) (j : Fin 1024) : k0_pay22 v34 v50 v58 (ix2 r j) = ((d.db (t r) (J0 j) : ℝ) : EReal) := by
  pointwise [k0_pay22]
  simp only [pay20_apply h34 h50, h58, mul]
  rfl

include h34 h50 h53 h65 in
theorem pay23_apply (r : Fin 256) (k : Fin 1024) :
    k0_pay23 v34 v50 v53 v65 (ix2 r k) = ((∑ j, d.da (t r) (J0 j) * d.WG k (J0 j) : ℝ) : EReal) := by
  pointwise [k0_pay23]
  simp only [pay21_apply h34 h50 h53, h65, mul, sum, zero_add]

include h47 h73 in
theorem pay24_apply (r : Fin 256) (j : Fin 1024) : k0_pay24 v47 v73 (ix2 r j) = ((d.dact (t r) (J1 j) : ℝ) : EReal) := by
  pointwise [k0_pay24]
  simp only [h47, h73, mul, sum, zero_add]
  rfl

include h47 h73 h76 in
theorem pay25_apply (r : Fin 256) (j : Fin 1024) : k0_pay25 v47 v73 v76 (ix2 r j) = ((d.da (t r) (J1 j) : ℝ) : EReal) := by
  pointwise [k0_pay25]
  simp only [pay24_apply h47 h73, h76, mul]
  rfl

include h47 h73 h81 in
theorem pay26_apply (r : Fin 256) (j : Fin 1024) : k0_pay26 v47 v73 v81 (ix2 r j) = ((d.db (t r) (J1 j) : ℝ) : EReal) := by
  pointwise [k0_pay26]
  simp only [pay24_apply h47 h73, h81, mul]
  rfl

include h47 h96 in
theorem pay28_apply (r : Fin 256) (j : Fin 768) : k0_pay28 v47 v96 (ix2 r j) = ((d.dact (t r) (J2 j) : ℝ) : EReal) := by
  pointwise [k0_pay28]
  simp only [h47, h96, mul, sum, zero_add]
  rfl

include h47 h96 h99 in
theorem pay29_apply (r : Fin 256) (j : Fin 768) : k0_pay29 v47 v96 v99 (ix2 r j) = ((d.da (t r) (J2 j) : ℝ) : EReal) := by
  pointwise [k0_pay29]
  simp only [pay28_apply h47 h96, h99, mul]
  rfl

include h104 in
theorem pay30_apply {v98 : FVec Ideal S256x768 .f32} (h98 : ∀ r j, v98 (ix2 r j) = ((d.dact (t r) (J2 j) : ℝ) : EReal)) (r : Fin 256) (j : Fin 768) :
    k0_pay30 v98 v104 (ix2 r j) = ((d.db (t r) (J2 j) : ℝ) : EReal) := by
  pointwise [k0_pay30]
  simp only [h98, h104, mul]
  rfl

include h47 h69 h73 h76 h81 h88 h92 in
theorem pay27_apply {v62 : FVec Ideal S256x1024 .bf16} {v68 : FVec Ideal S256x1024 .f32}
    (h62 : ∀ r j, v62 (ix2 r j) = ((d.db (t r) (J0 j) : ℝ) : EReal))
    (h68 : ∀ r k, v68 (ix2 r k) = ((∑ j, d.da (t r) (J0 j) * d.WG k (J0 j) : ℝ) : EReal)) (r : Fin 256) (k : Fin 1024) :
    k0_pay27 v47 v62 v68 v69 v73 v76 v81 v88 v92 (ix2 r k)
      = ((∑ j, d.da (t r) (J0 j) * d.WG k (J0 j) + ∑ j, d.db (t r) (J0 j) * d.WU k (J0 j)
          + ∑ j, d.da (t r) (J1 j) * d.WG k (J1 j) + ∑ j, d.db (t r) (J1 j) * d.WU k (J1 j) : ℝ) : EReal) := by
  pointwise [k0_pay27]
  simp only [pay25_apply h47 h73 h76, pay26_apply h47 h73 h81, h62, h68, h69, h88, h92, mul, sum, add, zero_add]

include h104 h111 h115 in
/-- The gradient of the two products' input. -/
theorem pay31_apply {v95 : FVec Ideal S256x1024 .f32} {v98 : FVec Ideal S256x768 .f32} {v103 : FVec Ideal S256x768 .bf16}
    (h95 : ∀ r k, v95 (ix2 r k)
      = ((∑ j, d.da (t r) (J0 j) * d.WG k (J0 j) + ∑ j, d.db (t r) (J0 j) * d.WU k (J0 j)
          + ∑ j, d.da (t r) (J1 j) * d.WG k (J1 j) + ∑ j, d.db (t r) (J1 j) * d.WU k (J1 j) : ℝ) : EReal))
    (h98 : ∀ r j, v98 (ix2 r j) = ((d.dact (t r) (J2 j) : ℝ) : EReal)) (h103 : ∀ r j, v103 (ix2 r j) = ((d.da (t r) (J2 j) : ℝ) : EReal))
    (r : Fin 256) (k : Fin 1024) : k0_pay31 v95 v98 v103 v104 v111 v115 (ix2 r k) = ((d.dh (t r) k : ℝ) : EReal) := by
  pointwise [k0_pay31]
  simp only [pay30_apply h104 h98, h95, h103, h111, h115, mul, sum, add, zero_add]
  refine congrArg _ ?_
  unfold Data.dh
  rw [sum_chunks, sum_chunks fun j => d.db (t r) j * d.WU k j]
  ring

include h104 h111 h115 in
/-- That gradient against the first norm's row, and under the first norm's gain and scale. -/
theorem pay37_apply {v95 : FVec Ideal S256x1024 .f32} {v98 : FVec Ideal S256x768 .f32} {v103 : FVec Ideal S256x768 .bf16} {v119 : Vec Ideal S256x1024 .f32}
    (h119 : ∀ r k, v119 (ix2 r k) = ((d.X (t r) k : ℝ) : EReal))
    (h95 : ∀ r k, v95 (ix2 r k)
      = ((∑ j, d.da (t r) (J0 j) * d.WG k (J0 j) + ∑ j, d.db (t r) (J0 j) * d.WU k (J0 j)
          + ∑ j, d.da (t r) (J1 j) * d.WG k (J1 j) + ∑ j, d.db (t r) (J1 j) * d.WU k (J1 j) : ℝ) : EReal))
    (h98 : ∀ r j, v98 (ix2 r j) = ((d.dact (t r) (J2 j) : ℝ) : EReal)) (h103 : ∀ r j, v103 (ix2 r j) = ((d.da (t r) (J2 j) : ℝ) : EReal))
    (r : Fin 256) (k : Fin 1024) :
    k0_pay37 v95 v98 v103 v104 v111 v115 v119 (ix2 r k) = ((d.dh (t r) k * norm (d.X (t r)) k : ℝ) : EReal) := by
  pointwise [k0_pay37]
  simp only [pay31_apply h104 h111 h115 h95 h98 h103, pay33_apply h119, mul]

include h104 h111 h115 in
theorem pay38_apply {v95 : FVec Ideal S256x1024 .f32} {v98 : FVec Ideal S256x768 .f32} {v103 : FVec Ideal S256x768 .bf16}
    {v130 v132 : Vec Ideal S1x1024 .f32} (h130 : ∀ k, v130 (ix2 0 k) = ((d.gp k : ℝ) : EReal)) (h132 : ∀ k, v132 (ix2 0 k) = ((d.sc k : ℝ) : EReal))
    (h95 : ∀ r k, v95 (ix2 r k)
      = ((∑ j, d.da (t r) (J0 j) * d.WG k (J0 j) + ∑ j, d.db (t r) (J0 j) * d.WU k (J0 j)
          + ∑ j, d.da (t r) (J1 j) * d.WG k (J1 j) + ∑ j, d.db (t r) (J1 j) * d.WU k (J1 j) : ℝ) : EReal))
    (h98 : ∀ r j, v98 (ix2 r j) = ((d.dact (t r) (J2 j) : ℝ) : EReal)) (h103 : ∀ r j, v103 (ix2 r j) = ((d.da (t r) (J2 j) : ℝ) : EReal))
    (r : Fin 256) (k : Fin 1024) :
    k0_pay38 v95 v98 v103 v104 v111 v115 v130 v132 (ix2 r k) = ((d.dh (t r) k * ((1 + d.sc k) * d.gp k) : ℝ) : EReal) := by
  pointwise [k0_pay38, k0_pay36, k0_pay34]
  simp only [pay31_apply h104 h111 h115 h95 h98 h103, pay35_apply h132, h130, mul]

end Chunk

section Last

variable {d : Data} {t : Fin 256 → Fin 8192} {v118 v129 v137 v139 v140 : FVec Ideal S256x1024 .f32} {v127 : FVec Ideal S256x1 .f32}
  {v3 : Vec Ideal S256x1024 .f32} {v131 : Vec Ideal S1x1024 .f32} {v135 : FVec Ideal S1x1024 .f32}
  (h137 : ∀ r k, v137 (ix2 r k) = ((d.dh (t r) k * norm (d.X (t r)) k : ℝ) : EReal))

theorem pay17_apply (v37 : Vec Ideal S1x1024 .f32) (v39 : FVec Ideal S1x1024 .f32) (k : Fin 1024) :
    k0_pay17 (k0_pay15 v37) v39 (ix2 0 k) = v37 (ix2 0 k) + v39 (ix2 0 k) := by
  pointwise [k0_pay17, k0_pay15]

theorem pay18_apply (v18 v42 : Vec Ideal S1x1024 .f32) (v36 : FVec Ideal S1x1024 .f32) (h18 : ∀ k, v18 (ix2 0 k) = ((d.ga k : ℝ) : EReal))
    (h36 : ∀ k, v36 (ix2 0 k) = ((∑ r, d.CT (t r) k * norm (d.f (t r)) k : ℝ) : EReal)) (k : Fin 1024) :
    k0_pay18 (k0_pay11 v18) v36 v42 (ix2 0 k) = v42 (ix2 0 k) + ((∑ r, d.CT (t r) k * norm (d.f (t r)) k * d.ga k : ℝ) : EReal) := by
  pointwise [k0_pay18, k0_pay11]
  simp only [h18, h36, mul]
  rw [mul_comm, Finset.sum_mul]

theorem pay2_apply (v153 : Vec Ideal S1x1024 .f32) (h118 : ∀ r k, v118 (ix2 r k) = ((d.dh (t r) k : ℝ) : EReal)) (k : Fin 1024) :
    k0_pay2 v118 v153 (ix2 0 k) = v153 (ix2 0 k) + ((∑ r, d.dh (t r) k : ℝ) : EReal) := by
  pointwise [k0_pay2]
  simp only [h118, sum, zero_add]

include h137 in
theorem pay1_apply (k : Fin 1024) : k0_pay1 v137 (ix2 0 k) = ((∑ r, d.dh (t r) k * norm (d.X (t r)) k : ℝ) : EReal) := by
  pointwise [k0_pay1]
  simp only [h137, sum, zero_add]

include h137 in
theorem pay3_apply (v159 : Vec Ideal S1x1024 .f32) (h131 : ∀ k, v131 (ix2 0 k) = ((d.gp k : ℝ) : EReal)) (k : Fin 1024) :
    k0_pay3 (k0_pay34 v131) v137 v159 (ix2 0 k) = v159 (ix2 0 k) + ((∑ r, d.dh (t r) k * norm (d.X (t r)) k * d.gp k : ℝ) : EReal) := by
  pointwise [k0_pay3, k0_pay34]
  simp only [pay1_apply h137, h131, mul]
  rw [mul_comm, Finset.sum_mul]

include h137 in
theorem pay4_apply (v164 : Vec Ideal S1x1024 .f32) (h135 : ∀ k, v135 (ix2 0 k) = ((1 + d.sc k : ℝ) : EReal)) (k : Fin 1024) :
    k0_pay4 v135 v137 v164 (ix2 0 k) = v164 (ix2 0 k) + ((∑ r, d.dh (t r) k * norm (d.X (t r)) k * (1 + d.sc k) : ℝ) : EReal) := by
  pointwise [k0_pay4]
  simp only [pay1_apply h137, h135, mul]
  rw [mul_comm, Finset.sum_mul]

include h137 in
/-- The gradient of the block's input. -/
theorem pay5_apply (h3 : ∀ r k, v3 (ix2 r k) = ((d.CT (t r) k : ℝ) : EReal)) (h127 : ∀ r, v127 (ix2 r 0) = ((inv (d.X (t r)) : ℝ) : EReal))
    (h129 : ∀ r k, v129 (ix2 r k) = ((norm (d.X (t r)) k : ℝ) : EReal))
    (h139 : ∀ r k, v139 (ix2 r k) = ((d.dh (t r) k * ((1 + d.sc k) * d.gp k) : ℝ) : EReal))
    (h140 : ∀ r k, v140 (ix2 r k) = (((1 + d.sc k) * d.gp k : ℝ) : EReal)) (r : Fin 256) (k : Fin 1024) :
    k0_pay5 v3 v127 v129 v137 v139 v140 (ix2 r k) = ((d.dx (t r) k : ℝ) : EReal) := by
  pointwise [k0_pay5]
  simp only [h3, h127, h129, h137, h139, h140, bits_mean, mul, sum, sub, add, div _ _ thousand, zero_add]
  refine congrArg _ ?_
  unfold Data.dx normBwd
  have e : ∀ k, d.dh (t r) k * norm (d.X (t r)) k * ((1 + d.sc k) * d.gp k) = d.dh (t r) k * (1 + d.sc k) * d.gp k * norm (d.X (t r)) k := fun k => by ring
  have e' : ∀ k, d.dh (t r) k * ((1 + d.sc k) * d.gp k) = d.dh (t r) k * (1 + d.sc k) * d.gp k := fun k => by ring
  simp only [e, e']

end Last

end Cert.FfnIdeal.Blocks
-- ==== Proof.Ffn.Block.lean ====
/-
  One point of the feed-forward backward kernel: what it leaves in its five result buffers, from the blocks it is given, over
  real numbers.
-/
module

public import proofs.«01_k».proof.Proof.Ffn.Payload
public import Idealize.ShloMosaic.Lib.Pipeline.ValueKit
public import Idealize.ShloMosaic.Lib.Pipeline.ReadBack
public import Idealize.ShloMosaic.Lib.WritesUnit
public import Idealize.ShloMosaic.Lib.VecWindow

@[expose] public section

set_option maxRecDepth 16384

noncomputable section

open Idealize.ShloMosaic Idealize.ShloMosaic.TcCoe Idealize.SL.Sem

namespace Cert.FfnIdeal.Blocks

open Cert.FfnIdeal Cert.FfnIdeal.Gen Cert.Proof.Net

/-- A load of a box of a block is the block's elements from the box's corner on. -/
theorem ld2 {e : EltTy} {n m n' m' : ℕ} (x : (⟨2, ![n, m]⟩ : Shape).Idx → Elt Ideal e) (a b : ℕ)
    (inb : ∀ ax : Fin 2, (![a, b] : Fin 2 → ℕ) ax + (![n', m'] : Fin 2 → ℕ) ax ≤ (⟨2, ![n, m]⟩ : Shape).size ax)
    (r : Fin n') (k : Fin m') (R : Fin n) (K : Fin m) (hR : R.val = a + r.val) (hK : K.val = b + k.val) :
    View.ld x (Rect.unit (s := ⟨2, ![n, m]⟩) ![a, b] ![n', m'] inb) (ix2 r k) = x (ix2 R K) := by
  rw [View.ld_unit]
  refine congrArg x (funext fun ax => Fin.ext ?_)
  match ax with
  | 0 => exact hR.symm
  | 1 => exact hK.symm

section Stores

variable {sg : RefSig} {κ : Kind} {sp : Space} {e : EltTy} {n m n' m' : ℕ} (v : View sg κ sp ⟨2, ![n, m]⟩ e) (f : v.ty.Contents (Elt Ideal)) (a b : ℕ)
  (inb : ∀ ax : Fin 2, (![a, b] : Fin 2 → ℕ) ax + (![n', m'] : Fin 2 → ℕ) ax ≤ (⟨2, ![n, m]⟩ : Shape).size ax)
  (w : (Rect.unit (s := ⟨2, ![n, m]⟩) ![a, b] ![n', m'] inb).shape.Idx → Elt Ideal e) (L : List (View.Piece (Elt Ideal) ⟨2, ![n, m]⟩ e))
  (R : Fin n) (K : Fin m)

/-- A read inside the last store's box finds what it stored; -/
theorem hit (r : Fin n') (k : Fin m') (hR : R.val = a + r.val) (hK : K.val = b + k.val) :
    v.read (Elt Ideal) (v.writes (Elt Ideal) f ((⟨Rect.unit (s := ⟨2, ![n, m]⟩) ![a, b] ![n', m'] inb, w⟩ : View.Piece (Elt Ideal) ⟨2, ![n, m]⟩ e) :: L)) (ix2 R K)
      = w (ix2 r k) :=
  View.read_writes_cons_unit_of_mem v f inb w L _ (ix2 r k) rfl fun ax => by
    match ax with
    | 0 => exact hR
    | 1 => exact hK

/-- one above or below it, or beside it, looks further back. -/
theorem missRow (h : R.val < a ∨ a + n' ≤ R.val) :
    v.read (Elt Ideal) (v.writes (Elt Ideal) f ((⟨Rect.unit (s := ⟨2, ![n, m]⟩) ![a, b] ![n', m'] inb, w⟩ : View.Piece (Elt Ideal) ⟨2, ![n, m]⟩ e) :: L)) (ix2 R K)
      = v.read (Elt Ideal) (v.writes (Elt Ideal) f L) (ix2 R K) :=
  View.read_writes_cons_unit_of_not_mem v f inb w L _ rfl 0 h
theorem missCol (h : K.val < b ∨ b + m' ≤ K.val) :
    v.read (Elt Ideal) (v.writes (Elt Ideal) f ((⟨Rect.unit (s := ⟨2, ![n, m]⟩) ![a, b] ![n', m'] inb, w⟩ : View.Piece (Elt Ideal) ⟨2, ![n, m]⟩ e) :: L)) (ix2 R K)
      = v.read (Elt Ideal) (v.writes (Elt Ideal) f L) (ix2 R K) :=
  View.read_writes_cons_unit_of_not_mem v f inb w L _ rfl 1 h

end Stores

/-- A block stored in three chunks of columns, 1024, 1024 and 768, read back. -/
theorem three {sg : RefSig} {κ : Kind} {sp : Space} {e : EltTy} {n : ℕ} (v : View sg κ sp ⟨2, ![n, 2816]⟩ e) (f : v.ty.Contents (Elt Ideal))
    (i0 : ∀ ax : Fin 2, (![0, 0] : Fin 2 → ℕ) ax + (![n, 1024] : Fin 2 → ℕ) ax ≤ (⟨2, ![n, 2816]⟩ : Shape).size ax)
    (i1 : ∀ ax : Fin 2, (![0, 1024] : Fin 2 → ℕ) ax + (![n, 1024] : Fin 2 → ℕ) ax ≤ (⟨2, ![n, 2816]⟩ : Shape).size ax)
    (i2 : ∀ ax : Fin 2, (![0, 2048] : Fin 2 → ℕ) ax + (![n, 768] : Fin 2 → ℕ) ax ≤ (⟨2, ![n, 2816]⟩ : Shape).size ax)
    (w0 : (Rect.unit (s := ⟨2, ![n, 2816]⟩) ![0, 0] ![n, 1024] i0).shape.Idx → Elt Ideal e)
    (w1 : (Rect.unit (s := ⟨2, ![n, 2816]⟩) ![0, 1024] ![n, 1024] i1).shape.Idx → Elt Ideal e)
    (w2 : (Rect.unit (s := ⟨2, ![n, 2816]⟩) ![0, 2048] ![n, 768] i2).shape.Idx → Elt Ideal e)
    (G : Fin 2816 → Elt Ideal e) (r : Fin n)
    (h0 : ∀ j : Fin 1024, w0 (ix2 r j) = G (J0 j)) (h1 : ∀ j : Fin 1024, w1 (ix2 r j) = G (J1 j)) (h2 : ∀ j : Fin 768, w2 (ix2 r j) = G (J2 j))
    (j : Fin 2816) :
    v.read (Elt Ideal) (v.writes (Elt Ideal) f
      [⟨Rect.unit (s := ⟨2, ![n, 2816]⟩) ![0, 2048] ![n, 768] i2, w2⟩, ⟨Rect.unit (s := ⟨2, ![n, 2816]⟩) ![0, 1024] ![n, 1024] i1, w1⟩,
        ⟨Rect.unit (s := ⟨2, ![n, 2816]⟩) ![0, 0] ![n, 1024] i0, w0⟩]) (ix2 r j) = G j := by
  by_cases c2 : 2048 ≤ j.val
  · have e : J2 ⟨j.val - 2048, by omega⟩ = j := Fin.ext (show 2048 + (j.val - 2048) = j.val by omega)
    exact (hit v f 0 2048 i2 w2 _ r j r ⟨j.val - 2048, by omega⟩ (Nat.zero_add _).symm (show j.val = 2048 + (j.val - 2048) by omega)).trans
      ((h2 _).trans (congrArg G e))
  refine (missCol v f 0 2048 i2 w2 _ r j (Or.inl (by omega))).trans ?_
  by_cases c1 : 1024 ≤ j.val
  · have e : J1 ⟨j.val - 1024, by omega⟩ = j := Fin.ext (show 1024 + (j.val - 1024) = j.val by omega)
    exact (hit v f 0 1024 i1 w1 _ r j r ⟨j.val - 1024, by omega⟩ (Nat.zero_add _).symm (show j.val = 1024 + (j.val - 1024) by omega)).trans
      ((h1 _).trans (congrArg G e))
  refine (missCol v f 0 1024 i1 w1 _ r j (Or.inl (by omega))).trans ?_
  exact (hit v f 0 0 i0 w0 _ r j r ⟨j.val, by omega⟩ (Nat.zero_add _).symm (Nat.zero_add _).symm).trans (h0 ⟨j.val, by omega⟩)

/-- The blocks that a point is given hold these real numbers: its rows are the rows `t` of the arrays. -/
structure Blk (d : Data) (t : Fin 256 → Fin 8192) (x0 x1 : Vec Ideal S256x1024 .f32) (x2 x3 : Vec Ideal S256x2816 .bf16)
    (x4 : Vec Ideal S256x1024 .f32) (x5 x6 : Vec Ideal S8x1024 .f32) (x7 x8 x9 : Vec Ideal S2816x1024 .bf16) : Prop where
  b0 : ∀ r k, x0 (ix2 r k) = ((d.CT (t r) k : ℝ) : EReal)
  b1 : ∀ r k, x1 (ix2 r k) = ((d.f (t r) k : ℝ) : EReal)
  b2 : ∀ r j, x2 (ix2 r j) = ((d.b (t r) j * dsilu (d.a (t r) j) : ℝ) : EReal)
  b3 : ∀ r j, x3 (ix2 r j) = ((d.a (t r) j * sg (d.a (t r) j) : ℝ) : EReal)
  b4 : ∀ r k, x4 (ix2 r k) = ((d.X (t r) k : ℝ) : EReal)
  b54 : ∀ k, x5 (ix2 4 k) = ((d.sc k : ℝ) : EReal)
  b55 : ∀ k, x5 (ix2 5 k) = ((d.ga k : ℝ) : EReal)
  b62 : ∀ k, x6 (ix2 2 k) = ((d.gp k : ℝ) : EReal)
  b63 : ∀ k, x6 (ix2 3 k) = ((d.gq k : ℝ) : EReal)
  b7 : ∀ j k, x7 (ix2 j k) = ((d.WG k j : ℝ) : EReal)
  b8 : ∀ j k, x8 (ix2 j k) = ((d.WU k j : ℝ) : EReal)
  b9 : ∀ j k, x9 (ix2 j k) = ((d.WD j k : ℝ) : EReal)

/-- What a block of rows adds to the eight sums. -/
def part (d : Data) (t : Fin 256 → Fin 8192) (n : Fin 1024) : Fin 8 → ℝ
  | 0 => ∑ r, d.CT (t r) n * norm (d.f (t r)) n * d.gq n
  | 1 => ∑ r, d.CT (t r) n * norm (d.f (t r)) n * d.ga n
  | 2 => ∑ r, d.dh (t r) n
  | 3 => ∑ r, d.dh (t r) n * norm (d.X (t r)) n * d.gp n
  | 4 => ∑ r, d.dh (t r) n * norm (d.X (t r)) n * (1 + d.sc n)
  | _ => 0

section Loads

variable {d : Data} {t : Fin 256 → Fin 8192} {x0 x1 : Vec Ideal S256x1024 .f32} {x2 x3 : Vec Ideal S256x2816 .bf16} {x4 : Vec Ideal S256x1024 .f32}
  {x5 x6 : Vec Ideal S8x1024 .f32} {x7 x8 x9 : Vec Ideal S2816x1024 .bf16} (B : Blk d t x0 x1 x2 x3 x4 x5 x6 x7 x8 x9)
include B

theorem l0 : ∀ r k, View.ld x0 (Rect.unit (s := S256x1024) ![0, 0] ![256, 1024] inb_S256x1024_S256x1024_0_0) (ix2 r k) = ((d.CT (t r) k : ℝ) : EReal) :=
  fun r k => (ld2 x0 0 0 _ r k r k (Nat.zero_add _).symm (Nat.zero_add _).symm).trans (B.b0 r k)

theorem l1 : ∀ r k, View.ld x1 (Rect.unit (s := S256x1024) ![0, 0] ![256, 1024] inb_S256x1024_S256x1024_0_0) (ix2 r k) = ((d.f (t r) k : ℝ) : EReal) :=
  fun r k => (ld2 x1 0 0 _ r k r k (Nat.zero_add _).symm (Nat.zero_add _).symm).trans (B.b1 r k)

theorem l4 : ∀ r k, View.ld x4 (Rect.unit (s := S256x1024) ![0, 0] ![256, 1024] inb_S256x1024_S256x1024_0_0) (ix2 r k) = ((d.X (t r) k : ℝ) : EReal) :=
  fun r k => (ld2 x4 0 0 _ r k r k (Nat.zero_add _).symm (Nat.zero_add _).symm).trans (B.b4 r k)

theorem l54 : ∀ k, View.ld x5 (Rect.unit (s := S8x1024) ![4, 0] ![1, 1024] inb_S8x1024_S1x1024_4_0) (ix2 0 k) = ((d.sc k : ℝ) : EReal) :=
  fun k => (ld2 x5 4 0 _ 0 k 4 k rfl (Nat.zero_add _).symm).trans (B.b54 k)

theorem l55 : ∀ k, View.ld x5 (Rect.unit (s := S8x1024) ![5, 0] ![1, 1024] inb_S8x1024_S1x1024_5_0) (ix2 0 k) = ((d.ga k : ℝ) : EReal) :=
  fun k => (ld2 x5 5 0 _ 0 k 5 k rfl (Nat.zero_add _).symm).trans (B.b55 k)

theorem l62 : ∀ k, View.ld x6 (Rect.unit (s := S8x1024) ![2, 0] ![1, 1024] inb_S8x1024_S1x1024_2_0) (ix2 0 k) = ((d.gp k : ℝ) : EReal) :=
  fun k => (ld2 x6 2 0 _ 0 k 2 k rfl (Nat.zero_add _).symm).trans (B.b62 k)

theorem l63 : ∀ k, View.ld x6 (Rect.unit (s := S8x1024) ![3, 0] ![1, 1024] inb_S8x1024_S1x1024_3_0) (ix2 0 k) = ((d.gq k : ℝ) : EReal) :=
  fun k => (ld2 x6 3 0 _ 0 k 3 k rfl (Nat.zero_add _).symm).trans (B.b63 k)

theorem l2_0 : ∀ r j, View.ld x2 (Rect.unit (s := S256x2816) ![0, 0] ![256, 1024] inb_S256x2816_S256x1024_0_0) (ix2 r j) = ((d.b (t r) (J0 j) * dsilu (d.a (t r) (J0 j)) : ℝ) : EReal) :=
  fun r j => (ld2 x2 0 0 _ r j r (J0 j) (Nat.zero_add _).symm (Nat.zero_add _).symm).trans (B.b2 r (J0 j))

theorem l3_0 : ∀ r j, View.ld x3 (Rect.unit (s := S256x2816) ![0, 0] ![256, 1024] inb_S256x2816_S256x1024_0_0) (ix2 r j) = ((d.a (t r) (J0 j) * sg (d.a (t r) (J0 j)) : ℝ) : EReal) :=
  fun r j => (ld2 x3 0 0 _ r j r (J0 j) (Nat.zero_add _).symm (Nat.zero_add _).symm).trans (B.b3 r (J0 j))

theorem l7_0 : ∀ j k, View.ld x7 (Rect.unit (s := S2816x1024) ![0, 0] ![1024, 1024] inb_S2816x1024_S1024x1024_0_0) (ix2 j k) = ((d.WG k (J0 j) : ℝ) : EReal) :=
  fun j k => (ld2 x7 0 0 _ j k (J0 j) k (Nat.zero_add _).symm (Nat.zero_add _).symm).trans (B.b7 (J0 j) k)

theorem l8_0 : ∀ j k, View.ld x8 (Rect.unit (s := S2816x1024) ![0, 0] ![1024, 1024] inb_S2816x1024_S1024x1024_0_0) (ix2 j k) = ((d.WU k (J0 j) : ℝ) : EReal) :=
  fun j k => (ld2 x8 0 0 _ j k (J0 j) k (Nat.zero_add _).symm (Nat.zero_add _).symm).trans (B.b8 (J0 j) k)

theorem l9_0 : ∀ j k, View.ld x9 (Rect.unit (s := S2816x1024) ![0, 0] ![1024, 1024] inb_S2816x1024_S1024x1024_0_0) (ix2 j k) = ((d.WD (J0 j) k : ℝ) : EReal) :=
  fun j k => (ld2 x9 0 0 _ j k (J0 j) k (Nat.zero_add _).symm (Nat.zero_add _).symm).trans (B.b9 (J0 j) k)

theorem l2_1 : ∀ r j, View.ld x2 (Rect.unit (s := S256x2816) ![0, 1024] ![256, 1024] inb_S256x2816_S256x1024_0_1024) (ix2 r j) = ((d.b (t r) (J1 j) * dsilu (d.a (t r) (J1 j)) : ℝ) : EReal) :=
  fun r j => (ld2 x2 0 1024 _ r j r (J1 j) (Nat.zero_add _).symm rfl).trans (B.b2 r (J1 j))

theorem l3_1 : ∀ r j, View.ld x3 (Rect.unit (s := S256x2816) ![0, 1024] ![256, 1024] inb_S256x2816_S256x1024_0_1024) (ix2 r j) = ((d.a (t r) (J1 j) * sg (d.a (t r) (J1 j)) : ℝ) : EReal) :=
  fun r j => (ld2 x3 0 1024 _ r j r (J1 j) (Nat.zero_add _).symm rfl).trans (B.b3 r (J1 j))

theorem l7_1 : ∀ j k, View.ld x7 (Rect.unit (s := S2816x1024) ![1024, 0] ![1024, 1024] inb_S2816x1024_S1024x1024_1024_0) (ix2 j k) = ((d.WG k (J1 j) : ℝ) : EReal) :=
  fun j k => (ld2 x7 1024 0 _ j k (J1 j) k rfl (Nat.zero_add _).symm).trans (B.b7 (J1 j) k)

theorem l8_1 : ∀ j k, View.ld x8 (Rect.unit (s := S2816x1024) ![1024, 0] ![1024, 1024] inb_S2816x1024_S1024x1024_1024_0) (ix2 j k) = ((d.WU k (J1 j) : ℝ) : EReal) :=
  fun j k => (ld2 x8 1024 0 _ j k (J1 j) k rfl (Nat.zero_add _).symm).trans (B.b8 (J1 j) k)

theorem l9_1 : ∀ j k, View.ld x9 (Rect.unit (s := S2816x1024) ![1024, 0] ![1024, 1024] inb_S2816x1024_S1024x1024_1024_0) (ix2 j k) = ((d.WD (J1 j) k : ℝ) : EReal) :=
  fun j k => (ld2 x9 1024 0 _ j k (J1 j) k rfl (Nat.zero_add _).symm).trans (B.b9 (J1 j) k)

theorem l2_2 : ∀ r j, View.ld x2 (Rect.unit (s := S256x2816) ![0, 2048] ![256, 768] inb_S256x2816_S256x768_0_2048) (ix2 r j) = ((d.b (t r) (J2 j) * dsilu (d.a (t r) (J2 j)) : ℝ) : EReal) :=
  fun r j => (ld2 x2 0 2048 _ r j r (J2 j) (Nat.zero_add _).symm rfl).trans (B.b2 r (J2 j))

theorem l3_2 : ∀ r j, View.ld x3 (Rect.unit (s := S256x2816) ![0, 2048] ![256, 768] inb_S256x2816_S256x768_0_2048) (ix2 r j) = ((d.a (t r) (J2 j) * sg (d.a (t r) (J2 j)) : ℝ) : EReal) :=
  fun r j => (ld2 x3 0 2048 _ r j r (J2 j) (Nat.zero_add _).symm rfl).trans (B.b3 r (J2 j))

theorem l7_2 : ∀ j k, View.ld x7 (Rect.unit (s := S2816x1024) ![2048, 0] ![768, 1024] inb_S2816x1024_S768x1024_2048_0) (ix2 j k) = ((d.WG k (J2 j) : ℝ) : EReal) :=
  fun j k => (ld2 x7 2048 0 _ j k (J2 j) k rfl (Nat.zero_add _).symm).trans (B.b7 (J2 j) k)

theorem l8_2 : ∀ j k, View.ld x8 (Rect.unit (s := S2816x1024) ![2048, 0] ![768, 1024] inb_S2816x1024_S768x1024_2048_0) (ix2 j k) = ((d.WU k (J2 j) : ℝ) : EReal) :=
  fun j k => (ld2 x8 2048 0 _ j k (J2 j) k rfl (Nat.zero_add _).symm).trans (B.b8 (J2 j) k)

theorem l9_2 : ∀ j k, View.ld x9 (Rect.unit (s := S2816x1024) ![2048, 0] ![768, 1024] inb_S2816x1024_S768x1024_2048_0) (ix2 j k) = ((d.WD (J2 j) k : ℝ) : EReal) :=
  fun j k => (ld2 x9 2048 0 _ j k (J2 j) k rfl (Nat.zero_add _).symm).trans (B.b9 (J2 j) k)

end Loads

section Out

variable (c : Dev nD) (i : grid0.Coords) (arg1 : Memref sig .tc .vmem S256x1024 .f32) (h1 : arg1.IsWhole)
  (arg2 : Memref sig .tc .vmem S256x1024 .f32) (h2 : arg2.IsWhole) (arg3 : Memref sig .tc .vmem S256x2816 .bf16) (h3 : arg3.IsWhole)
  (arg4 : Memref sig .tc .vmem S256x2816 .bf16) (h4 : arg4.IsWhole) (arg5 : Memref sig .tc .vmem S256x1024 .f32) (h5 : arg5.IsWhole)
  (arg6 : Memref sig .tc .vmem S8x1024 .f32) (h6 : arg6.IsWhole) (arg7 : Memref sig .tc .vmem S8x1024 .f32) (h7 : arg7.IsWhole)
  (arg8 : Memref sig .tc .vmem S2816x1024 .bf16) (h8 : arg8.IsWhole) (arg9 : Memref sig .tc .vmem S2816x1024 .bf16) (h9 : arg9.IsWhole)
  (arg10 : Memref sig .tc .vmem S2816x1024 .bf16) (h10 : arg10.IsWhole) (arg11 : Memref sig .tc .vmem S256x1024 .f32) (h11 : arg11.IsWhole)
  (arg12 : Memref sig .tc .vmem S256x1024 .bf16) (h12 : arg12.IsWhole) (arg13 : Memref sig .tc .vmem S256x2816 .bf16) (h13 : arg13.IsWhole)
  (arg14 : Memref sig .tc .vmem S256x2816 .bf16) (h14 : arg14.IsWhole) (arg15 : Memref sig .tc .vmem S8x1024 .f32) (h15 : arg15.IsWhole)
  (x0 x1 : Vec Ideal S256x1024 .f32) (x2 x3 : Vec Ideal S256x2816 .bf16) (x4 : Vec Ideal S256x1024 .f32) (x5 x6 : Vec Ideal S8x1024 .f32)
  (x7 x8 x9 : Vec Ideal S2816x1024 .bf16) (xo14 : Vec Ideal S8x1024 .f32)

  {d : Data} {t : Fin 256 → Fin 8192} (B : Blk d t x0 x1 x2 x3 x4 x5 x6 x7 x8 x9)
include B

theorem out_A_10 (hc : cond0_0 i) (r : Fin 256) (k : Fin 1024) :
    out0_A_10 c i arg1 h1 arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 x9 (ix2 r k) = ((d.dx (t r) k : ℝ) : EReal) := by
  unfold out0_A_10
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine (hit _ _ _ _ _ _ _ _ _ r k (Nat.zero_add _).symm (Nat.zero_add _).symm).trans ?_
  exact pay5_apply (pay37_apply (l3_2 B) (l7_2 B) (l8_2 B) (l4 B) (pay27_apply (pay19_apply (pay13_apply (l0 B) (l1 B) (l63 B) (l55 B))) (l9_1 B) (l2_1 B) (l3_1 B) (l8_0 B) (l7_1 B) (l8_1 B) (pay22_apply (pay13_apply (l0 B) (l1 B) (l63 B) (l55 B)) (l9_0 B) (l3_0 B)) (pay23_apply (pay13_apply (l0 B) (l1 B) (l63 B) (l55 B)) (l9_0 B) (l2_0 B) (l7_0 B))) (pay28_apply (pay19_apply (pay13_apply (l0 B) (l1 B) (l63 B) (l55 B))) (l9_2 B)) (pay29_apply (pay19_apply (pay13_apply (l0 B) (l1 B) (l63 B) (l55 B))) (l9_2 B) (l2_2 B))) (l0 B) (pay32_apply (l4 B)) (pay33_apply (l4 B)) (pay38_apply (l3_2 B) (l7_2 B) (l8_2 B) (l62 B) (l54 B) (pay27_apply (pay19_apply (pay13_apply (l0 B) (l1 B) (l63 B) (l55 B))) (l9_1 B) (l2_1 B) (l3_1 B) (l8_0 B) (l7_1 B) (l8_1 B) (pay22_apply (pay13_apply (l0 B) (l1 B) (l63 B) (l55 B)) (l9_0 B) (l3_0 B)) (pay23_apply (pay13_apply (l0 B) (l1 B) (l63 B) (l55 B)) (l9_0 B) (l2_0 B) (l7_0 B))) (pay28_apply (pay19_apply (pay13_apply (l0 B) (l1 B) (l63 B) (l55 B))) (l9_2 B)) (pay29_apply (pay19_apply (pay13_apply (l0 B) (l1 B) (l63 B) (l55 B))) (l9_2 B) (l2_2 B))) (pay39_apply (l62 B) (l54 B)) r k

theorem out_A_11 (hc : cond0_0 i) (r : Fin 256) (k : Fin 1024) :
    out0_A_11 c i arg1 h1 arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 x9 (ix2 r k) = ((d.df (t r) k : ℝ) : EReal) := by
  unfold out0_A_11
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine (hit _ _ _ _ _ _ _ _ _ r k (Nat.zero_add _).symm (Nat.zero_add _).symm).trans ?_
  exact pay19_apply (pay13_apply (l0 B) (l1 B) (l63 B) (l55 B)) r k

theorem out_A_12 (hc : cond0_0 i) (r : Fin 256) (j : Fin 2816) :
    out0_A_12 c i arg1 h1 arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 x9 (ix2 r j) = ((d.da (t r) j : ℝ) : EReal) := by
  unfold out0_A_12
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine three (e := .bf16) _ _ _ _ _ _ _ _ (fun j => ((d.da (t r) j : ℝ) : EReal)) r ?_ ?_ ?_ j
  · exact pay21_apply (pay13_apply (l0 B) (l1 B) (l63 B) (l55 B)) (l9_0 B) (l2_0 B) r
  · exact pay25_apply (pay19_apply (pay13_apply (l0 B) (l1 B) (l63 B) (l55 B))) (l9_1 B) (l2_1 B) r
  · exact pay29_apply (pay19_apply (pay13_apply (l0 B) (l1 B) (l63 B) (l55 B))) (l9_2 B) (l2_2 B) r

theorem out_A_13 (hc : cond0_0 i) (r : Fin 256) (j : Fin 2816) :
    out0_A_13 c i arg1 h1 arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 x9 (ix2 r j) = ((d.db (t r) j : ℝ) : EReal) := by
  unfold out0_A_13
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine three (e := .bf16) _ _ _ _ _ _ _ _ (fun j => ((d.db (t r) j : ℝ) : EReal)) r ?_ ?_ ?_ j
  · exact pay22_apply (pay13_apply (l0 B) (l1 B) (l63 B) (l55 B)) (l9_0 B) (l3_0 B) r
  · exact pay26_apply (pay19_apply (pay13_apply (l0 B) (l1 B) (l63 B) (l55 B))) (l9_1 B) (l3_1 B) r
  · exact pay30_apply (l3_2 B) (pay28_apply (pay19_apply (pay13_apply (l0 B) (l1 B) (l63 B) (l55 B))) (l9_2 B)) r

theorem out_A_14 (hc : cond0_0 i) (n : Fin 8) (k : Fin 1024) :
    out0_A_14 c i arg1 h1 arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 x9 (ix2 n k) = 0 + ((part d t k n : ℝ) : EReal) := by
  unfold out0_A_14
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  simp (disch := decide) only [↓ View.readCov_skip, ↓ View.readCov_cons_toLoadRect, ↓ View.readCov_fill]
  match n with
  | 0 =>
    refine (missRow _ _ _ _ _ _ _ _ _ (Or.inl (by decide))).trans ?_
    refine (missRow _ _ _ _ _ _ _ _ _ (Or.inl (by decide))).trans ?_
    refine (missRow _ _ _ _ _ _ _ _ _ (Or.inl (by decide))).trans ?_
    refine (missRow _ _ _ _ _ _ _ _ _ (Or.inl (by decide))).trans ?_
    refine (hit _ _ _ _ _ _ _ _ _ 0 k rfl (Nat.zero_add _).symm).trans ?_
    exact (pay17_apply _ _ k).trans (congrArg₂ (· + ·) (by pointwise [k0_pay6]) (pay16_apply (l0 B) (l1 B) (l63 B) k))
  | 1 =>
    refine (missRow _ _ _ _ _ _ _ _ _ (Or.inl (by decide))).trans ?_
    refine (missRow _ _ _ _ _ _ _ _ _ (Or.inl (by decide))).trans ?_
    refine (missRow _ _ _ _ _ _ _ _ _ (Or.inl (by decide))).trans ?_
    refine (hit _ _ _ _ _ _ _ _ _ 0 k rfl (Nat.zero_add _).symm).trans ?_
    exact (pay18_apply _ _ _ (l55 B) (pay14_apply (l0 B) (l1 B)) k).trans (congrArg (· + _) (by pointwise [k0_pay6]))
  | 2 =>
    refine (missRow _ _ _ _ _ _ _ _ _ (Or.inl (by decide))).trans ?_
    refine (missRow _ _ _ _ _ _ _ _ _ (Or.inl (by decide))).trans ?_
    refine (hit _ _ _ _ _ _ _ _ _ 0 k rfl (Nat.zero_add _).symm).trans ?_
    exact (pay2_apply _ (pay31_apply (l3_2 B) (l7_2 B) (l8_2 B) (pay27_apply (pay19_apply (pay13_apply (l0 B) (l1 B) (l63 B) (l55 B))) (l9_1 B) (l2_1 B) (l3_1 B) (l8_0 B) (l7_1 B) (l8_1 B) (pay22_apply (pay13_apply (l0 B) (l1 B) (l63 B) (l55 B)) (l9_0 B) (l3_0 B)) (pay23_apply (pay13_apply (l0 B) (l1 B) (l63 B) (l55 B)) (l9_0 B) (l2_0 B) (l7_0 B))) (pay28_apply (pay19_apply (pay13_apply (l0 B) (l1 B) (l63 B) (l55 B))) (l9_2 B)) (pay29_apply (pay19_apply (pay13_apply (l0 B) (l1 B) (l63 B) (l55 B))) (l9_2 B) (l2_2 B))) k).trans (congrArg (· + _) (by pointwise [k0_pay6]))
  | 3 =>
    refine (missRow _ _ _ _ _ _ _ _ _ (Or.inl (by decide))).trans ?_
    refine (hit _ _ _ _ _ _ _ _ _ 0 k rfl (Nat.zero_add _).symm).trans ?_
    exact (pay3_apply (pay37_apply (l3_2 B) (l7_2 B) (l8_2 B) (l4 B) (pay27_apply (pay19_apply (pay13_apply (l0 B) (l1 B) (l63 B) (l55 B))) (l9_1 B) (l2_1 B) (l3_1 B) (l8_0 B) (l7_1 B) (l8_1 B) (pay22_apply (pay13_apply (l0 B) (l1 B) (l63 B) (l55 B)) (l9_0 B) (l3_0 B)) (pay23_apply (pay13_apply (l0 B) (l1 B) (l63 B) (l55 B)) (l9_0 B) (l2_0 B) (l7_0 B))) (pay28_apply (pay19_apply (pay13_apply (l0 B) (l1 B) (l63 B) (l55 B))) (l9_2 B)) (pay29_apply (pay19_apply (pay13_apply (l0 B) (l1 B) (l63 B) (l55 B))) (l9_2 B) (l2_2 B))) _ (l62 B) k).trans (congrArg (· + _) (by pointwise [k0_pay6]))
  | 4 =>
    refine (hit _ _ _ _ _ _ _ _ _ 0 k rfl (Nat.zero_add _).symm).trans ?_
    exact (pay4_apply (pay37_apply (l3_2 B) (l7_2 B) (l8_2 B) (l4 B) (pay27_apply (pay19_apply (pay13_apply (l0 B) (l1 B) (l63 B) (l55 B))) (l9_1 B) (l2_1 B) (l3_1 B) (l8_0 B) (l7_1 B) (l8_1 B) (pay22_apply (pay13_apply (l0 B) (l1 B) (l63 B) (l55 B)) (l9_0 B) (l3_0 B)) (pay23_apply (pay13_apply (l0 B) (l1 B) (l63 B) (l55 B)) (l9_0 B) (l2_0 B) (l7_0 B))) (pay28_apply (pay19_apply (pay13_apply (l0 B) (l1 B) (l63 B) (l55 B))) (l9_2 B)) (pay29_apply (pay19_apply (pay13_apply (l0 B) (l1 B) (l63 B) (l55 B))) (l9_2 B) (l2_2 B))) _ (pay35_apply (l54 B)) k).trans (congrArg (· + _) (by pointwise [k0_pay6]))
  | 5 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (congrFun (View.read_writes_full _ _ _ _ _) _).trans ?_
    pointwise [k0_pay6]
    exact EReal.coe_zero.symm
  | 6 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (congrFun (View.read_writes_full _ _ _ _ _) _).trans ?_
    pointwise [k0_pay6]
    exact EReal.coe_zero.symm
  | 7 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (congrFun (View.read_writes_full _ _ _ _ _) _).trans ?_
    pointwise [k0_pay6]
    exact EReal.coe_zero.symm

theorem out_B_10 (hc : ¬ cond0_0 i) (r : Fin 256) (k : Fin 1024) :
    out0_B_10 c i arg1 h1 arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 x9 xo14 (ix2 r k) = ((d.dx (t r) k : ℝ) : EReal) := by
  unfold out0_B_10
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h15.read_unread]
  refine (hit _ _ _ _ _ _ _ _ _ r k (Nat.zero_add _).symm (Nat.zero_add _).symm).trans ?_
  exact pay5_apply (pay37_apply (l3_2 B) (l7_2 B) (l8_2 B) (l4 B) (pay27_apply (pay19_apply (pay13_apply (l0 B) (l1 B) (l63 B) (l55 B))) (l9_1 B) (l2_1 B) (l3_1 B) (l8_0 B) (l7_1 B) (l8_1 B) (pay22_apply (pay13_apply (l0 B) (l1 B) (l63 B) (l55 B)) (l9_0 B) (l3_0 B)) (pay23_apply (pay13_apply (l0 B) (l1 B) (l63 B) (l55 B)) (l9_0 B) (l2_0 B) (l7_0 B))) (pay28_apply (pay19_apply (pay13_apply (l0 B) (l1 B) (l63 B) (l55 B))) (l9_2 B)) (pay29_apply (pay19_apply (pay13_apply (l0 B) (l1 B) (l63 B) (l55 B))) (l9_2 B) (l2_2 B))) (l0 B) (pay32_apply (l4 B)) (pay33_apply (l4 B)) (pay38_apply (l3_2 B) (l7_2 B) (l8_2 B) (l62 B) (l54 B) (pay27_apply (pay19_apply (pay13_apply (l0 B) (l1 B) (l63 B) (l55 B))) (l9_1 B) (l2_1 B) (l3_1 B) (l8_0 B) (l7_1 B) (l8_1 B) (pay22_apply (pay13_apply (l0 B) (l1 B) (l63 B) (l55 B)) (l9_0 B) (l3_0 B)) (pay23_apply (pay13_apply (l0 B) (l1 B) (l63 B) (l55 B)) (l9_0 B) (l2_0 B) (l7_0 B))) (pay28_apply (pay19_apply (pay13_apply (l0 B) (l1 B) (l63 B) (l55 B))) (l9_2 B)) (pay29_apply (pay19_apply (pay13_apply (l0 B) (l1 B) (l63 B) (l55 B))) (l9_2 B) (l2_2 B))) (pay39_apply (l62 B) (l54 B)) r k

theorem out_B_11 (hc : ¬ cond0_0 i) (r : Fin 256) (k : Fin 1024) :
    out0_B_11 c i arg1 h1 arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 x9 xo14 (ix2 r k) = ((d.df (t r) k : ℝ) : EReal) := by
  unfold out0_B_11
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h15.read_unread]
  refine (hit _ _ _ _ _ _ _ _ _ r k (Nat.zero_add _).symm (Nat.zero_add _).symm).trans ?_
  exact pay19_apply (pay13_apply (l0 B) (l1 B) (l63 B) (l55 B)) r k

theorem out_B_12 (hc : ¬ cond0_0 i) (r : Fin 256) (j : Fin 2816) :
    out0_B_12 c i arg1 h1 arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 x9 xo14 (ix2 r j) = ((d.da (t r) j : ℝ) : EReal) := by
  unfold out0_B_12
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h15.read_unread]
  refine three (e := .bf16) _ _ _ _ _ _ _ _ (fun j => ((d.da (t r) j : ℝ) : EReal)) r ?_ ?_ ?_ j
  · exact pay21_apply (pay13_apply (l0 B) (l1 B) (l63 B) (l55 B)) (l9_0 B) (l2_0 B) r
  · exact pay25_apply (pay19_apply (pay13_apply (l0 B) (l1 B) (l63 B) (l55 B))) (l9_1 B) (l2_1 B) r
  · exact pay29_apply (pay19_apply (pay13_apply (l0 B) (l1 B) (l63 B) (l55 B))) (l9_2 B) (l2_2 B) r

theorem out_B_13 (hc : ¬ cond0_0 i) (r : Fin 256) (j : Fin 2816) :
    out0_B_13 c i arg1 h1 arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 x9 xo14 (ix2 r j) = ((d.db (t r) j : ℝ) : EReal) := by
  unfold out0_B_13
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h15.read_unread]
  refine three (e := .bf16) _ _ _ _ _ _ _ _ (fun j => ((d.db (t r) j : ℝ) : EReal)) r ?_ ?_ ?_ j
  · exact pay22_apply (pay13_apply (l0 B) (l1 B) (l63 B) (l55 B)) (l9_0 B) (l3_0 B) r
  · exact pay26_apply (pay19_apply (pay13_apply (l0 B) (l1 B) (l63 B) (l55 B))) (l9_1 B) (l3_1 B) r
  · exact pay30_apply (l3_2 B) (pay28_apply (pay19_apply (pay13_apply (l0 B) (l1 B) (l63 B) (l55 B))) (l9_2 B)) r

theorem out_B_14 (hc : ¬ cond0_0 i) (n : Fin 8) (k : Fin 1024) :
    out0_B_14 c i arg1 h1 arg2 h2 arg3 h3 arg4 h4 arg5 h5 arg6 h6 arg7 h7 arg8 h8 arg9 h9 arg10 h10 arg11 h11 arg12 h12 arg13 h13 arg14 h14 arg15 h15 hc x0 x1 x2 x3 x4 x5 x6 x7 x8 x9 xo14 (ix2 n k) = xo14 (ix2 n k) + ((part d t k n : ℝ) : EReal) := by
  unfold out0_B_14
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h15.read_unread]
  match n with
  | 0 =>
    refine (missRow _ _ _ _ _ _ _ _ _ (Or.inl (by decide))).trans ?_
    refine (missRow _ _ _ _ _ _ _ _ _ (Or.inl (by decide))).trans ?_
    refine (missRow _ _ _ _ _ _ _ _ _ (Or.inl (by decide))).trans ?_
    refine (missRow _ _ _ _ _ _ _ _ _ (Or.inl (by decide))).trans ?_
    refine (hit _ _ _ _ _ _ _ _ _ 0 k rfl (Nat.zero_add _).symm).trans ?_
    exact (pay17_apply _ _ k).trans (congrArg₂ (· + ·) (ld2 xo14 0 0 _ 0 k 0 k rfl (Nat.zero_add _).symm) (pay16_apply (l0 B) (l1 B) (l63 B) k))
  | 1 =>
    refine (missRow _ _ _ _ _ _ _ _ _ (Or.inl (by decide))).trans ?_
    refine (missRow _ _ _ _ _ _ _ _ _ (Or.inl (by decide))).trans ?_
    refine (missRow _ _ _ _ _ _ _ _ _ (Or.inl (by decide))).trans ?_
    refine (hit _ _ _ _ _ _ _ _ _ 0 k rfl (Nat.zero_add _).symm).trans ?_
    exact (pay18_apply _ _ _ (l55 B) (pay14_apply (l0 B) (l1 B)) k).trans (congrArg (· + _) (ld2 xo14 1 0 _ 0 k 1 k rfl (Nat.zero_add _).symm))
  | 2 =>
    refine (missRow _ _ _ _ _ _ _ _ _ (Or.inl (by decide))).trans ?_
    refine (missRow _ _ _ _ _ _ _ _ _ (Or.inl (by decide))).trans ?_
    refine (hit _ _ _ _ _ _ _ _ _ 0 k rfl (Nat.zero_add _).symm).trans ?_
    exact (pay2_apply _ (pay31_apply (l3_2 B) (l7_2 B) (l8_2 B) (pay27_apply (pay19_apply (pay13_apply (l0 B) (l1 B) (l63 B) (l55 B))) (l9_1 B) (l2_1 B) (l3_1 B) (l8_0 B) (l7_1 B) (l8_1 B) (pay22_apply (pay13_apply (l0 B) (l1 B) (l63 B) (l55 B)) (l9_0 B) (l3_0 B)) (pay23_apply (pay13_apply (l0 B) (l1 B) (l63 B) (l55 B)) (l9_0 B) (l2_0 B) (l7_0 B))) (pay28_apply (pay19_apply (pay13_apply (l0 B) (l1 B) (l63 B) (l55 B))) (l9_2 B)) (pay29_apply (pay19_apply (pay13_apply (l0 B) (l1 B) (l63 B) (l55 B))) (l9_2 B) (l2_2 B))) k).trans (congrArg (· + _) (ld2 xo14 2 0 _ 0 k 2 k rfl (Nat.zero_add _).symm))
  | 3 =>
    refine (missRow _ _ _ _ _ _ _ _ _ (Or.inl (by decide))).trans ?_
    refine (hit _ _ _ _ _ _ _ _ _ 0 k rfl (Nat.zero_add _).symm).trans ?_
    exact (pay3_apply (pay37_apply (l3_2 B) (l7_2 B) (l8_2 B) (l4 B) (pay27_apply (pay19_apply (pay13_apply (l0 B) (l1 B) (l63 B) (l55 B))) (l9_1 B) (l2_1 B) (l3_1 B) (l8_0 B) (l7_1 B) (l8_1 B) (pay22_apply (pay13_apply (l0 B) (l1 B) (l63 B) (l55 B)) (l9_0 B) (l3_0 B)) (pay23_apply (pay13_apply (l0 B) (l1 B) (l63 B) (l55 B)) (l9_0 B) (l2_0 B) (l7_0 B))) (pay28_apply (pay19_apply (pay13_apply (l0 B) (l1 B) (l63 B) (l55 B))) (l9_2 B)) (pay29_apply (pay19_apply (pay13_apply (l0 B) (l1 B) (l63 B) (l55 B))) (l9_2 B) (l2_2 B))) _ (l62 B) k).trans (congrArg (· + _) (ld2 xo14 3 0 _ 0 k 3 k rfl (Nat.zero_add _).symm))
  | 4 =>
    refine (hit _ _ _ _ _ _ _ _ _ 0 k rfl (Nat.zero_add _).symm).trans ?_
    exact (pay4_apply (pay37_apply (l3_2 B) (l7_2 B) (l8_2 B) (l4 B) (pay27_apply (pay19_apply (pay13_apply (l0 B) (l1 B) (l63 B) (l55 B))) (l9_1 B) (l2_1 B) (l3_1 B) (l8_0 B) (l7_1 B) (l8_1 B) (pay22_apply (pay13_apply (l0 B) (l1 B) (l63 B) (l55 B)) (l9_0 B) (l3_0 B)) (pay23_apply (pay13_apply (l0 B) (l1 B) (l63 B) (l55 B)) (l9_0 B) (l2_0 B) (l7_0 B))) (pay28_apply (pay19_apply (pay13_apply (l0 B) (l1 B) (l63 B) (l55 B))) (l9_2 B)) (pay29_apply (pay19_apply (pay13_apply (l0 B) (l1 B) (l63 B) (l55 B))) (l9_2 B) (l2_2 B))) _ (pay35_apply (l54 B)) k).trans (congrArg (· + _) (ld2 xo14 4 0 _ 0 k 4 k rfl (Nat.zero_add _).symm))
  | 5 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    rw [View.writes_nil, h15.read_unread]
    exact (add_zero _).symm
  | 6 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    rw [View.writes_nil, h15.read_unread]
    exact (add_zero _).symm
  | 7 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    rw [View.writes_nil, h15.read_unread]
    exact (add_zero _).symm

end Out

end Cert.FfnIdeal.Blocks
-- ==== Proof.Ffn.Arrays.lean ====
/-
  What the feed-forward backward kernel leaves in its five result arrays, from real arrays: a block of 256 rows at each
  point, and the eight rows of sums added up over the points.
-/
module

public import proofs.«01_k».proof.Proof.Ffn.Block

@[expose] public section

set_option maxRecDepth 16384

noncomputable section

open Idealize.ShloMosaic Idealize.ShloMosaic.TcCoe Idealize.SL.Sem

namespace Cert.FfnIdeal.Blocks

open Cert.FfnIdeal Cert.FfnIdeal.Gen Cert.FfnIdeal.Value Cert.Proof.Net

variable (m : (ℓ : Loc nD τ sig) → Buf (Elt Ideal) ℓ) (c : Dev nD) (d : Data)

/-- The arrays that the kernel is called with hold these real numbers. -/
structure Entry : Prop where
  e0 : ∀ t k, V m c main_arg9 (ix2 t k) = ((d.CT t k : ℝ) : EReal)
  e1 : ∀ t k, V m c main_v39 (ix2 t k) = ((d.f t k : ℝ) : EReal)
  e2 : ∀ t j, V m c main_v37 (ix2 t j) = ((d.b t j * dsilu (d.a t j) : ℝ) : EReal)
  e3 : ∀ t j, V m c main_v41 (ix2 t j) = ((d.a t j * sg (d.a t j) : ℝ) : EReal)
  e4 : ∀ t k, V m c main_arg0 (ix2 t k) = ((d.X t k : ℝ) : EReal)
  e54 : ∀ k, V m c main_v50 (ix2 4 k) = ((d.sc k : ℝ) : EReal)
  e55 : ∀ k, V m c main_v50 (ix2 5 k) = ((d.ga k : ℝ) : EReal)
  e62 : ∀ k, V m c main_v57 (ix2 2 k) = ((d.gp k : ℝ) : EReal)
  e63 : ∀ k, V m c main_v57 (ix2 3 k) = ((d.gq k : ℝ) : EReal)
  e7 : ∀ j k, V m c main_v59 (ix2 j k) = ((d.WG k j : ℝ) : EReal)
  e8 : ∀ j k, V m c main_v61 (ix2 j k) = ((d.WU k j : ℝ) : EReal)
  e9 : ∀ j k, V m c main_v62 (ix2 j k) = ((d.WD j k : ℝ) : EReal)

theorem size : cfg0.N = 32 := N_0
/-- The last point. -/
def last : Fin cfg0.N := ⟨31, by rw [size]; decide⟩
theorem last_val : last.val = 31 := rfl

/-- Row `r` of the block that point `t` works on. -/
def row (t : Fin cfg0.N) (r : Fin 256) : Fin 8192 := ⟨256 * t.val + r.val, by have := t.isLt; have := size; omega⟩

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i10 : ∀ t : Fin cfg0.N, win0_10.index t = ![t.val, 0] := by decide +kernel
theorem i11 : ∀ t : Fin cfg0.N, win0_11.index t = ![t.val, 0] := by decide +kernel
theorem i12 : ∀ t : Fin cfg0.N, win0_12.index t = ![t.val, 0] := by decide +kernel
theorem i13 : ∀ t : Fin cfg0.N, win0_13.index t = ![t.val, 0] := by decide +kernel
theorem i5 : ∀ t : Fin cfg0.N, win0_5.index t = ![0, 0] := by decide +kernel
theorem i6 : ∀ t : Fin cfg0.N, win0_6.index t = ![0, 0] := by decide +kernel
theorem i7 : ∀ t : Fin cfg0.N, win0_7.index t = ![0, 0] := by decide +kernel
theorem i8 : ∀ t : Fin cfg0.N, win0_8.index t = ![0, 0] := by decide +kernel
theorem i9 : ∀ t : Fin cfg0.N, win0_9.index t = ![0, 0] := by decide +kernel

theorem blk0 (t : Fin cfg0.N) (r : Fin 256) (k : Fin 1024) : iblk m c 0 t (ix2 r k) = V m c main_arg9 (ix2 (row t r) k) := by
  unfold row
  blk_simp [iblk]
  refine congrArg _ ?_
  blk_ext [i0]
theorem blk1 (t : Fin cfg0.N) (r : Fin 256) (k : Fin 1024) : iblk m c 1 t (ix2 r k) = V m c main_v39 (ix2 (row t r) k) := by
  unfold row
  blk_simp [iblk]
  refine congrArg _ ?_
  blk_ext [i1]
theorem blk2 (t : Fin cfg0.N) (r : Fin 256) (k : Fin 2816) : iblk m c 2 t (ix2 r k) = V m c main_v37 (ix2 (row t r) k) := by
  unfold row
  blk_simp [iblk]
  refine congrArg _ ?_
  blk_ext [i2]
theorem blk3 (t : Fin cfg0.N) (r : Fin 256) (k : Fin 2816) : iblk m c 3 t (ix2 r k) = V m c main_v41 (ix2 (row t r) k) := by
  unfold row
  blk_simp [iblk]
  refine congrArg _ ?_
  blk_ext [i3]
theorem blk4 (t : Fin cfg0.N) (r : Fin 256) (k : Fin 1024) : iblk m c 4 t (ix2 r k) = V m c main_arg0 (ix2 (row t r) k) := by
  unfold row
  blk_simp [iblk]
  refine congrArg _ ?_
  blk_ext [i4]
theorem blk5 (t : Fin cfg0.N) (r : Fin 8) (k : Fin 1024) : iblk m c 5 t (ix2 r k) = V m c main_v50 (ix2 r k) := by
  blk_simp [iblk]
  refine congrArg _ ?_
  blk_ext [i5]
theorem blk6 (t : Fin cfg0.N) (r : Fin 8) (k : Fin 1024) : iblk m c 6 t (ix2 r k) = V m c main_v57 (ix2 r k) := by
  blk_simp [iblk]
  refine congrArg _ ?_
  blk_ext [i6]
theorem blk7 (t : Fin cfg0.N) (r : Fin 2816) (k : Fin 1024) : iblk m c 7 t (ix2 r k) = V m c main_v59 (ix2 r k) := by
  blk_simp [iblk]
  refine congrArg _ ?_
  blk_ext [i7]
theorem blk8 (t : Fin cfg0.N) (r : Fin 2816) (k : Fin 1024) : iblk m c 8 t (ix2 r k) = V m c main_v61 (ix2 r k) := by
  blk_simp [iblk]
  refine congrArg _ ?_
  blk_ext [i8]
theorem blk9 (t : Fin cfg0.N) (r : Fin 2816) (k : Fin 1024) : iblk m c 9 t (ix2 r k) = V m c main_v62 (ix2 r k) := by
  blk_simp [iblk]
  refine congrArg _ ?_
  blk_ext [i9]

variable {m c d} (E : Entry m c d)
include E

/-- The blocks of a point, in real numbers. -/
theorem blks (t : Fin cfg0.N) : Blk d (row t) (iblk m c 0 t) (iblk m c 1 t) (iblk m c 2 t) (iblk m c 3 t) (iblk m c 4 t) (iblk m c 5 t)
    (iblk m c 6 t) (iblk m c 7 t) (iblk m c 8 t) (iblk m c 9 t) where
  b0 r k := (blk0 m c t r k).trans (E.e0 _ _)
  b1 r k := (blk1 m c t r k).trans (E.e1 _ _)
  b2 r k := (blk2 m c t r k).trans (E.e2 _ _)
  b3 r k := (blk3 m c t r k).trans (E.e3 _ _)
  b4 r k := (blk4 m c t r k).trans (E.e4 _ _)
  b54 k := (blk5 m c t 4 k).trans (E.e54 _)
  b55 k := (blk5 m c t 5 k).trans (E.e55 _)
  b62 k := (blk6 m c t 2 k).trans (E.e62 _)
  b63 k := (blk6 m c t 3 k).trans (E.e63 _)
  b7 j k := (blk7 m c t j k).trans (E.e7 _ _)
  b8 j k := (blk8 m c t j k).trans (E.e8 _ _)
  b9 j k := (blk9 m c t j k).trans (E.e9 _ _)

theorem out10 (t : Fin cfg0.N) (r : Fin 256) (k : Fin 1024) : (outsAt0 m c t.val t.isLt).1 (ix2 r k) = ((d.dx (row t r) k : ℝ) : EReal) := by
  by_cases h : t.val % 32 = 0
  · rw [outsAt0_A m c t h]; dsimp only; rw [out_A_10 (B := blks E t)]
  · rw [outsAt0_B m c t h]; dsimp only; rw [out_B_10 (B := blks E t)]

theorem out11 (t : Fin cfg0.N) (r : Fin 256) (k : Fin 1024) : (outsAt0 m c t.val t.isLt).2.1 (ix2 r k) = ((d.df (row t r) k : ℝ) : EReal) := by
  by_cases h : t.val % 32 = 0
  · rw [outsAt0_A m c t h]; dsimp only; rw [out_A_11 (B := blks E t)]
  · rw [outsAt0_B m c t h]; dsimp only; rw [out_B_11 (B := blks E t)]

theorem out12 (t : Fin cfg0.N) (r : Fin 256) (k : Fin 2816) : (outsAt0 m c t.val t.isLt).2.2.1 (ix2 r k) = ((d.da (row t r) k : ℝ) : EReal) := by
  by_cases h : t.val % 32 = 0
  · rw [outsAt0_A m c t h]; dsimp only; rw [out_A_12 (B := blks E t)]
  · rw [outsAt0_B m c t h]; dsimp only; rw [out_B_12 (B := blks E t)]

theorem out13 (t : Fin cfg0.N) (r : Fin 256) (k : Fin 2816) : (outsAt0 m c t.val t.isLt).2.2.2.1 (ix2 r k) = ((d.db (row t r) k : ℝ) : EReal) := by
  by_cases h : t.val % 32 = 0
  · rw [outsAt0_A m c t h]; dsimp only; rw [out_A_13 (B := blks E t)]
  · rw [outsAt0_B m c t h]; dsimp only; rw [out_B_13 (B := blks E t)]

/-- A point adds its rows' part to the sums. -/
theorem out14_zero (h : 0 < cfg0.N) (n : Fin 8) (k : Fin 1024) :
    (outsAt0 m c 0 h).2.2.2.2 (ix2 n k) = 0 + ((part d (row ⟨0, h⟩) k n : ℝ) : EReal) := by
  rw [outsAt0_A m c ⟨0, h⟩ rfl]; dsimp only; rw [out_A_14 (B := blks E ⟨0, h⟩)]

theorem out14_succ (i : ℕ) (h : i + 1 < cfg0.N) (n : Fin 8) (k : Fin 1024) :
    (outsAt0 m c (i + 1) h).2.2.2.2 (ix2 n k)
      = (outsAt0 m c i (Nat.lt_of_succ_lt h)).2.2.2.2 (ix2 n k) + ((part d (row ⟨i + 1, h⟩) k n : ℝ) : EReal) := by
  have hB : ¬ (⟨i + 1, h⟩ : Fin cfg0.N).val % 32 = 0 := by rw [size] at h; show ¬ (i + 1) % 32 = 0; omega
  rw [outsAt0_B m c ⟨i + 1, h⟩ hB]; dsimp only; rw [out_B_14 (B := blks E ⟨i + 1, h⟩)]; rfl

omit E

/-- What the points up to the `i`-th have added. -/
def upto (d : Data) (n : Fin 8) (k : Fin 1024) (i : ℕ) : ℝ := ∑ s ∈ Finset.range (i + 1), if h : s < cfg0.N then part d (row ⟨s, h⟩) k n else 0

include E in
theorem out14 (n : Fin 8) (k : Fin 1024) : ∀ (i : ℕ) (h : i < cfg0.N), (outsAt0 m c i h).2.2.2.2 (ix2 n k) = ((upto d n k i : ℝ) : EReal)
  | 0, h => by
    rw [out14_zero E h n k, zero_add, upto, Finset.sum_range_one, dif_pos h]
  | i + 1, h => by
    rw [out14_succ E i h n k, out14 n k i _, add]
    refine congrArg _ ?_
    rw [upto, upto, Finset.sum_range_succ _ (i + 1), dif_pos h]

/-- A sum over all rows, block by block. -/
theorem sum_rows (f : Fin 8192 → ℝ) : ∑ t : Fin cfg0.N, ∑ r : Fin 256, f (row t r) = ∑ n : Fin 8192, f n := by
  rw [Fintype.sum_prod_type' (f := fun (t : Fin cfg0.N) (r : Fin 256) => f (row t r)) |>.symm]
  refine Fintype.sum_bijective (fun x : Fin cfg0.N × Fin 256 => row x.1 x.2) ⟨?_, fun n => ?_⟩ _ _ fun _ => rfl
  · rintro ⟨a, r⟩ ⟨b, s⟩ h
    have h' : 256 * a.val + r.val = 256 * b.val + s.val := congrArg Fin.val h
    exact Prod.ext (Fin.ext (by show a.val = b.val; omega)) (Fin.ext (by show r.val = s.val; omega))
  · refine ⟨(⟨n.val / 256, by rw [size]; omega⟩, ⟨n.val % 256, by omega⟩), Fin.ext ?_⟩
    show 256 * (n.val / 256) + n.val % 256 = n.val
    omega

theorem upto_last (n : Fin 8) (k : Fin 1024) : upto d n k 31 = d.rows k n := by
  have e : upto d n k 31 = ∑ t : Fin cfg0.N, part d (row t) k n := by
    rw [upto, ← Fin.sum_univ_eq_sum_range (fun s => if h : s < cfg0.N then part d (row ⟨s, h⟩) k n else 0)]
    exact Fintype.sum_equiv (finCongr size.symm) _ _ fun x => dif_pos (lt_of_lt_of_eq x.isLt size.symm)
  rw [e]
  match n with
  | 0 => exact sum_rows fun t => d.CT t k * norm (d.f t) k * d.gq k
  | 1 => exact sum_rows fun t => d.CT t k * norm (d.f t) k * d.ga k
  | 2 => exact sum_rows fun t => d.dh t k
  | 3 => exact sum_rows fun t => d.dh t k * norm (d.X t) k * d.gp k
  | 4 => exact sum_rows fun t => d.dh t k * norm (d.X t) k * (1 + d.sc k)
  | 5 => exact Finset.sum_const_zero
  | 6 => exact Finset.sum_const_zero
  | 7 => exact Finset.sum_const_zero

variable (d) in
/-- The five result arrays. -/
def G10 : S8192x1024.Idx → EReal := fun y => ((d.dx (y 0) (y 1) : ℝ) : EReal)
variable (d) in
def G11 : S8192x1024.Idx → EReal := fun y => ((d.df (y 0) (y 1) : ℝ) : EReal)
variable (d) in
def G12 : S8192x2816.Idx → EReal := fun y => ((d.da (y 0) (y 1) : ℝ) : EReal)
variable (d) in
def G13 : S8192x2816.Idx → EReal := fun y => ((d.db (y 0) (y 1) : ℝ) : EReal)
variable (d) in
def G14 : S8x1024.Idx → EReal := fun y => ((d.rows (y 1) (y 0) : ℝ) : EReal)

include E

theorem final10 : (dats m 0 c).arrAt 10 cfg0.N = G10 d := by
  refine (dats m 0 c).arrAt_eq_of_covers 10 (G10 d) (by decide +kernel) fun t hf y => ?_
  blk_simp
  rw [after0_10]
  idx_vars y
  refine (out10 E t y0 y1).trans ?_
  have e : ((View.whole main_v63_0).slice (win0_10.rect t)).emb (ix2 y0 y1) = ix2 (row t y0) y1 := by
    unfold row
    blk_ext [i10]
  rw [e]
  rfl

theorem final11 : (dats m 0 c).arrAt 11 cfg0.N = G11 d := by
  refine (dats m 0 c).arrAt_eq_of_covers 11 (G11 d) (by decide +kernel) fun t hf y => ?_
  blk_simp
  rw [after0_11]
  idx_vars y
  refine (out11 E t y0 y1).trans ?_
  have e : ((View.whole main_v63_1).slice (win0_11.rect t)).emb (ix2 y0 y1) = ix2 (row t y0) y1 := by
    unfold row
    blk_ext [i11]
  rw [e]
  rfl

theorem final12 : (dats m 0 c).arrAt 12 cfg0.N = G12 d := by
  refine (dats m 0 c).arrAt_eq_of_covers 12 (G12 d) (by decide +kernel) fun t hf y => ?_
  blk_simp
  rw [after0_12]
  idx_vars y
  refine (out12 E t y0 y1).trans ?_
  have e : ((View.whole main_v63_2).slice (win0_12.rect t)).emb (ix2 y0 y1) = ix2 (row t y0) y1 := by
    unfold row
    blk_ext [i12]
  rw [e]
  rfl

theorem final13 : (dats m 0 c).arrAt 13 cfg0.N = G13 d := by
  refine (dats m 0 c).arrAt_eq_of_covers 13 (G13 d) (by decide +kernel) fun t hf y => ?_
  blk_simp
  rw [after0_13]
  idx_vars y
  refine (out13 E t y0 y1).trans ?_
  have e : ((View.whole main_v63_3).slice (win0_13.rect t)).emb (ix2 y0 y1) = ix2 (row t y0) y1 := by
    unfold row
    blk_ext [i13]
  rw [e]
  rfl

theorem out14_last (n : Fin 8) (k : Fin 1024) : (outsAt0 m c last.val last.isLt).2.2.2.2 (ix2 n k) = ((d.rows k n : ℝ) : EReal) := by
  rw [out14 E n k last.val last.isLt, last_val, upto_last]

theorem final14 : (dats m 0 c).arrAt 14 cfg0.N = G14 d := by
  refine (dats m 0 c).arrAt_eq_of_after_last 14 last (by decide +kernel) (G14 d) fun y => ?_
  rw [after0_14]
  idx_vars y
  blk_simp
  exact out14_last E y0 y1

end Cert.FfnIdeal.Blocks
-- ==== Proof.Ffn.Entry.lean ====
/-
  The arrays that the feed-forward backward kernel is called with, from real arguments: what the forward pass saves, the
  packed gains and modulation, and the weights laid out for the products.
-/
module

public import proofs.«01_k».proof.Proof.Ffn.Arrays
public import Idealize.ShloMosaic.Lib.StableHlo.ReadAt

@[expose] public section

set_option maxRecDepth 16384

noncomputable section

open Idealize.ShloMosaic Idealize.ShloMosaic.TcCoe Idealize.SL.Sem

namespace Cert.FfnIdeal.Blocks

open Cert.FfnIdeal Cert.FfnIdeal.Gen Cert.FfnIdeal.Value Cert.Proof.Net

variable (m : (ℓ : Loc nD τ sig) → Buf (Elt Ideal) ℓ) (c : Dev nD) (d : Data)

/-- The program's arguments are these real numbers. -/
structure Args : Prop where
  r0 : ∀ t k, m (c, Proc.devRef .tc main_arg0) (ix2 t k) = ((d.X t k : ℝ) : EReal)
  r1 : ∀ k, m (c, Proc.devRef .tc main_arg1) (ix1 k) = ((d.gp k : ℝ) : EReal)
  r2 : ∀ k, m (c, Proc.devRef .tc main_arg2) (ix1 k) = ((d.gq k : ℝ) : EReal)
  r3 : ∀ k, m (c, Proc.devRef .tc main_arg3) (ix1 k) = ((d.sh k : ℝ) : EReal)
  r4 : ∀ k, m (c, Proc.devRef .tc main_arg4) (ix1 k) = ((d.sc k : ℝ) : EReal)
  r5 : ∀ k, m (c, Proc.devRef .tc main_arg5) (ix1 k) = ((d.ga k : ℝ) : EReal)
  r6 : ∀ k j, m (c, Proc.devRef .tc main_arg6) (ix2 k j) = ((d.WG k j : ℝ) : EReal)
  r7 : ∀ k j, m (c, Proc.devRef .tc main_arg7) (ix2 k j) = ((d.WU k j : ℝ) : EReal)
  r8 : ∀ j n, m (c, Proc.devRef .tc main_arg8) (ix2 j n) = ((d.WD j n : ℝ) : EReal)
  r9 : ∀ t n, m (c, Proc.devRef .tc main_arg9) (ix2 t n) = ((d.CT t n : ℝ) : EReal)

variable {m c d} (R : Args m c d) (t : Fin 8192) (k : Fin 1024) (j : Fin 2816)
include R

theorem at_v21 : V m c main_v21 (ix2 t j) = ((d.a t j : ℝ) : EReal) := by
  unfold V
  after_reads_at
  simp only [R.r0, R.r1, R.r3, R.r4, R.r6, bits_mean, bits_eps, mul, sum, add, one, div _ _ thousand]
  simp only [rsqrt_var, mul, sum, add]
  rfl

theorem at_v22 : V m c main_v22 (ix2 t j) = ((d.b t j : ℝ) : EReal) := by
  unfold V
  after_reads_at
  simp only [R.r0, R.r1, R.r3, R.r4, R.r7, bits_mean, bits_eps, mul, sum, add, one, div _ _ thousand]
  simp only [rsqrt_var, mul, sum, add]
  rfl

/-- Silu and its derivative, in the product that the forward pass takes. -/
theorem v37_of : V m c main_v37 (ix2 t j)
    = (show EReal from V m c main_v22 (ix2 t j)) * (Ideal.div 1 (1 + Ideal.exp (-(show EReal from V m c main_v21 (ix2 t j))))
        * (1 + (show EReal from V m c main_v21 (ix2 t j)) * (1 - Ideal.div 1 (1 + Ideal.exp (-(show EReal from V m c main_v21 (ix2 t j))))))) := by
  unfold V
  after_reads_at

theorem v41_of : V m c main_v41 (ix2 t j)
    = (show EReal from V m c main_v21 (ix2 t j)) * Ideal.div 1 (1 + Ideal.exp (-(show EReal from V m c main_v21 (ix2 t j)))) := by
  unfold V
  after_reads_at

theorem v39_of : V m c main_v39 (ix2 t k)
    = ∑ j, (show EReal from V m c main_v21 (ix2 t j)) * Ideal.div 1 (1 + Ideal.exp (-(show EReal from V m c main_v21 (ix2 t j))))
        * (show EReal from V m c main_v22 (ix2 t j)) * (show EReal from m (c, Proc.devRef .tc main_arg8) (ix2 j k)) := by
  unfold V
  after_reads_at

theorem entry : Entry m c d where
  e0 t k := by rw [V_main_arg9]; exact R.r9 t k
  e1 t k := by
    rw [v39_of R]
    simp only [at_v21 R, at_v22 R, R.r8, sg_eq, mul, sum]
    rfl
  e2 t j := by
    rw [v37_of R]
    simp only [at_v21 R, at_v22 R, sg_eq]
    simp only [mul, sub, add, one]
    rfl
  e3 t j := by
    rw [v41_of R]
    simp only [at_v21 R, sg_eq, mul]
  e4 t k := by rw [V_main_arg0]; exact R.r0 t k
  e54 k := by
    unfold V
    after_reads_at
    after_reads_at
    exact R.r4 k
  e55 k := by
    unfold V
    after_reads_at
    after_reads_at
    exact R.r5 k
  e62 k := by
    unfold V
    after_reads_at
    after_reads_at
    exact R.r1 k
  e63 k := by
    unfold V
    after_reads_at
    after_reads_at
    exact R.r2 k
  e7 j k := by
    unfold V
    after_reads_at
    exact R.r6 k j
  e8 j k := by
    unfold V
    after_reads_at
    exact R.r7 k j
  e9 j k := by
    unfold V
    after_reads_at
    exact R.r8 j k

end Cert.FfnIdeal.Blocks
-- ==== Proof.Ffn.Reference.lean ====
/-
  The reference's arrays of the feed-forward block's backward pass, read at an index over real arguments.
-/
module

public import proofs.«01_k».proof.Proof.Gen.FfnRefIdeal.Read
public import proofs.«01_k».proof.Proof.Net.Block
public import Idealize.ShloMosaic.Lib.Pointwise

@[expose] public section

set_option maxRecDepth 16384

noncomputable section

open Idealize.ShloMosaic Idealize.ShloMosaic.TcCoe Idealize.SL.Sem

namespace Cert.FfnRefIdeal.Value

open Cert.FfnRefIdeal Cert.FfnRefIdeal.Gen Cert.FfnRefIdeal.Read Cert.Proof Cert.Proof.Net

section

variable (x0 : FVec Ideal S8192x1024 .f32) (x1 x2 x3 x4 x5 : FVec Ideal S1024 .f32) (x6 x7 : FVec Ideal S1024x2816 .f32)
  (x8 : FVec Ideal S2816x1024 .f32) (x9 : FVec Ideal S8192x1024 .f32) (d : Data)

/-- The arguments are these real numbers. -/
structure Reads : Prop where
  r0 : ∀ t k, x0 (ix2 t k) = (d.X t k : EReal)
  r1 : ∀ k, x1 (ix1 k) = (d.gp k : EReal)
  r2 : ∀ k, x2 (ix1 k) = (d.gq k : EReal)
  r3 : ∀ k, x3 (ix1 k) = (d.sh k : EReal)
  r4 : ∀ k, x4 (ix1 k) = (d.sc k : EReal)
  r5 : ∀ k, x5 (ix1 k) = (d.ga k : EReal)
  r6 : ∀ k j, x6 (ix2 k j) = (d.WG k j : EReal)
  r7 : ∀ k j, x7 (ix2 k j) = (d.WU k j : EReal)
  r8 : ∀ j n, x8 (ix2 j n) = (d.WD j n : EReal)
  r9 : ∀ t n, x9 (ix2 t n) = (d.CT t n : EReal)

variable {x0 x1 x2 x3 x4 x5 x6 x7 x8 x9 d} (R : Reads x0 x1 x2 x3 x4 x5 x6 x7 x8 x9 d) (t : Fin 8192) (k : Fin 1024) (j : Fin 2816)
include R

/-- The first norm's factor. -/
theorem at_v6 : val_main_v6 (F := Ideal) x0 (ix2 t 0) = ((var (d.X t) : ℝ) : EReal) := by
  pointwise [val_main_v6, val_main_v5, val_main_v4, val_main_v3, val_main_v2, val_main_v1, val_main_v0, val_main_cst, val_main_cst_0, val_main_cst_1]
  simp only [R.r0, bits_zero, bits_mean, bits_eps, mul, sum, add, div _ _ (show (1024 : ℝ) ≠ 0 by norm_num), zero_add]
  rfl

theorem at_v7 : val_main_v7 (F := Ideal) x0 (ix2 t 0) = ((inv (d.X t) : ℝ) : EReal) := by
  pointwise [val_main_v7]
  simp only [at_v6 R, rsqrt _ (var_pos _)]
  rfl

theorem at_v10 : val_main_v10 (F := Ideal) x0 (ix2 t 0) = ((-(1 / 2) * (inv (d.X t) / var (d.X t)) : ℝ) : EReal) := by
  pointwise [val_main_v10, val_main_v9, val_main_v8, val_main_cst_2]
  simp only [at_v6 R, at_v7 R, bits_half, div _ _ (var_pos _).ne', mul]

theorem at_v12 : val_main_v12 (F := Ideal) x0 (ix2 t k) = ((norm (d.X t) k : ℝ) : EReal) := by
  pointwise [val_main_v12, val_main_v11]
  simp only [R.r0, at_v7 R, mul]
  rfl

theorem at_v23 : val_main_v23 (F := Ideal) x0 x1 x3 x4 (ix2 t k) = ((d.h t k : ℝ) : EReal) := by
  pointwise [val_main_v23, val_main_v22, val_main_v21, val_main_v20, val_main_v19, val_main_v18, val_main_v17, val_main_v16, val_main_v15, val_main_v14, val_main_v13, val_main_cst_3]
  simp only [at_v12 R, R.r1, R.r3, R.r4, bits_one, mul, add]
  rfl

theorem at_v24 : val_main_v24 (F := Ideal) x0 x1 x3 x4 x6 (ix2 t j) = ((d.a t j : ℝ) : EReal) := by
  pointwise [val_main_v24]
  simp only [at_v23 R, R.r6, mul, sum]
  rfl

theorem at_v25 : val_main_v25 (F := Ideal) x0 x1 x3 x4 x7 (ix2 t j) = ((d.b t j : ℝ) : EReal) := by
  pointwise [val_main_v25]
  simp only [at_v23 R, R.r7, mul, sum]
  rfl

theorem at_v26_2 : val_main_v26_2 (F := Ideal) x0 x1 x3 x4 x6 (ix2 t j) = ((sg (d.a t j) : ℝ) : EReal) := by
  pointwise [val_main_v26_2, val_main_call0_v0, val_main_call0_v1, val_main_call0_cst, val_main_call0_v2, val_main_call0_v3, val_main_call0_cst_0, val_main_call0_v4]
  simp only [at_v24 R, one, neg, exp, add, div _ _ (one_add_exp _)]
  rfl

theorem at_v26_1 : val_main_v26_1 (F := Ideal) x0 x1 x3 x4 x6 (ix2 t j) = ((sg (d.a t j) * (1 - sg (d.a t j)) : ℝ) : EReal) := by
  pointwise [val_main_v26_1, val_main_call0_v7, val_main_call0_v6, val_main_call0_cst_1]
  simp only [at_v26_2 R, one, sub, mul]

theorem at_v26_0 : val_main_v26_0 (F := Ideal) x0 x1 x3 x4 x6 (ix2 t j) = ((d.a t j * sg (d.a t j) : ℝ) : EReal) := by
  pointwise [val_main_v26_0]
  simp only [at_v24 R, at_v26_2 R, mul]

theorem at_v28 : val_main_v28 (F := Ideal) x0 x1 x3 x4 x6 x7 x8 (ix2 t k) = ((d.f t k : ℝ) : EReal) := by
  pointwise [val_main_v28, val_main_v27]
  simp only [at_v26_0 R, at_v25 R, R.r8, mul, sum]
  rfl

theorem at_v35 : val_main_v35 (F := Ideal) x0 x1 x3 x4 x6 x7 x8 (ix2 t 0) = ((var (d.f t) : ℝ) : EReal) := by
  pointwise [val_main_v35, val_main_v34, val_main_v33, val_main_v32, val_main_v31, val_main_v30, val_main_v29, val_main_cst_4, val_main_cst_5, val_main_cst_6]
  simp only [at_v28 R, bits_zero, bits_mean, bits_eps, mul, sum, add, div _ _ (show (1024 : ℝ) ≠ 0 by norm_num), zero_add]
  rfl

theorem at_v36 : val_main_v36 (F := Ideal) x0 x1 x3 x4 x6 x7 x8 (ix2 t 0) = ((inv (d.f t) : ℝ) : EReal) := by
  pointwise [val_main_v36]
  simp only [at_v35 R, rsqrt _ (var_pos _)]
  rfl

theorem at_v39 : val_main_v39 (F := Ideal) x0 x1 x3 x4 x6 x7 x8 (ix2 t 0) = ((-(1 / 2) * (inv (d.f t) / var (d.f t)) : ℝ) : EReal) := by
  pointwise [val_main_v39, val_main_v38, val_main_v37, val_main_cst_7]
  simp only [at_v35 R, at_v36 R, bits_half, div _ _ (var_pos _).ne', mul]

theorem at_v41 : val_main_v41 (F := Ideal) x0 x1 x3 x4 x6 x7 x8 (ix2 t k) = ((norm (d.f t) k : ℝ) : EReal) := by
  pointwise [val_main_v41, val_main_v40]
  simp only [at_v28 R, at_v36 R, mul]
  rfl

theorem at_v60 : val_main_v60 (F := Ideal) x2 x5 x9 (ix2 t k) = ((d.u t k : ℝ) : EReal) := by
  pointwise [val_main_v60, val_main_v59, val_main_v51, val_main_v50, val_main_v49, val_main_v45, val_main_v42]
  simp only [R.r2, R.r5, R.r9, mul]
  rfl

theorem at_v70 : val_main_v70 (F := Ideal) x0 x1 x2 x3 x4 x5 x6 x7 x8 x9 (ix1 t) = (((∑ i, d.f t i * d.u t i) * (-(1 / 2) * (inv (d.f t) / var (d.f t))) / 1024 : ℝ) : EReal) := by
  pointwise [val_main_v70, val_main_v69, val_main_v68, val_main_v67, val_main_v64, val_main_v63, val_main_v62, val_main_cst_12, val_main_cst_13, val_main_cst_14]
  simp only [at_v28 R, at_v39 R, at_v60 R, bits_zero, bits_mean, mul, sum, add, div _ _ (show (1024 : ℝ) ≠ 0 by norm_num), zero_add, Finset.univ_unique, Finset.sum_singleton, Fin.default_eq_zero]

theorem at_v75 : val_main_v75 (F := Ideal) x0 x1 x2 x3 x4 x5 x6 x7 x8 x9 (ix2 t k) = ((d.df t k : ℝ) : EReal) := by
  pointwise [val_main_v75, val_main_v74, val_main_v73, val_main_v72, val_main_v71, val_main_v66, val_main_v65]
  simp only [at_v28 R, at_v36 R, at_v60 R, at_v70 R, mul, add]
  exact congrArg _ (normBwd_eq _ _ _)

theorem at_v76 : val_main_v76 (F := Ideal) x0 x1 x2 x3 x4 x5 x6 x7 x8 x9 (ix2 t j) = ((d.dact t j : ℝ) : EReal) := by
  pointwise [val_main_v76]
  simp only [at_v75 R, R.r8, mul, sum]
  rfl

theorem at_v77 : val_main_v77 (F := Ideal) x0 x1 x2 x3 x4 x5 x6 x7 x8 x9 (ix2 t j) = ((d.db t j : ℝ) : EReal) := by
  pointwise [val_main_v77]
  simp only [at_v76 R, at_v26_0 R, mul]
  exact congrArg _ (mul_comm _ _)

theorem at_v79 : val_main_v79 (F := Ideal) x0 x1 x2 x3 x4 x5 x6 x7 x8 x9 (ix2 t j) = ((d.da t j : ℝ) : EReal) := by
  pointwise [val_main_v79, val_main_call1_v0, val_main_call1_v1, val_main_call1_v2, val_main_v78]
  simp only [at_v76 R, at_v25 R, at_v24 R, at_v26_2 R, at_v26_1 R, mul, add]
  refine congrArg _ ?_
  unfold Data.da dsilu
  ring

theorem at_v82 : val_main_v82 (F := Ideal) x0 x1 x2 x3 x4 x5 x6 x7 x8 x9 (ix2 t k) = ((d.dh t k : ℝ) : EReal) := by
  pointwise [val_main_v82, val_main_v81, val_main_v80]
  simp only [at_v77 R, at_v79 R, R.r6, R.r7, mul, sum, add]
  exact congrArg _ (add_comm _ _)

theorem at_v96 : val_main_v96 (F := Ideal) x0 x1 x2 x3 x4 x5 x6 x7 x8 x9 (ix2 t k) = ((d.dh t k * (1 + d.sc k) * d.gp k : ℝ) : EReal) := by
  pointwise [val_main_v96, val_main_v95, val_main_v90, val_main_v89, val_main_v18, val_main_v17, val_main_v16, val_main_v13, val_main_cst_3]
  simp only [at_v82 R, R.r1, R.r4, bits_one, mul, add]
  rfl

theorem at_v106 : val_main_v106 (F := Ideal) x0 x1 x2 x3 x4 x5 x6 x7 x8 x9 (ix1 t) = (((∑ i, d.X t i * (d.dh t i * (1 + d.sc i) * d.gp i)) * (-(1 / 2) * (inv (d.X t) / var (d.X t))) / 1024 : ℝ) : EReal) := by
  pointwise [val_main_v106, val_main_v105, val_main_v104, val_main_v103, val_main_v100, val_main_v99, val_main_v98, val_main_cst_21, val_main_cst_22, val_main_cst_23]
  simp only [R.r0, at_v10 R, at_v96 R, bits_zero, bits_mean, mul, sum, add, div _ _ (show (1024 : ℝ) ≠ 0 by norm_num), zero_add, Finset.univ_unique, Finset.sum_singleton, Fin.default_eq_zero]

theorem at_v112 : val_main_v112 (F := Ideal) x0 x1 x2 x3 x4 x5 x6 x7 x8 x9 (ix2 t k) = ((d.dx t k : ℝ) : EReal) := by
  pointwise [val_main_v112, val_main_v111, val_main_v110, val_main_v109, val_main_v108, val_main_v107, val_main_v102, val_main_v101]
  simp only [R.r0, R.r9, at_v7 R, at_v96 R, at_v106 R, mul, add]
  exact congrArg _ (congrArg (d.CT t k + ·) (normBwd_eq (d.X t) (fun k => d.dh t k * (1 + d.sc k) * d.gp k) k))

/-- The gradients that sum over the rows. -/
theorem at_v55 : val_main_v55 (F := Ideal) x0 x1 x2 x3 x4 x6 x7 x8 x9 (ix1 k) = ((d.rows k 0 : ℝ) : EReal) := by
  pointwise [val_main_v55, val_main_v54, val_main_v53, val_main_v52, val_main_v49, val_main_v44, val_main_v43, val_main_v42, val_main_cst_8, val_main_cst_9]
  simp only [at_v41 R, R.r2, R.r9, bits_zero, mul, sum, add, zero_add, Finset.univ_unique, Finset.sum_singleton, Fin.default_eq_zero]
  refine congrArg _ (Finset.sum_congr rfl fun t _ => ?_)
  ring

theorem at_v61 : val_main_v61 (F := Ideal) x0 x1 x3 x4 x5 x6 x7 x8 x9 (ix1 k) = ((d.rows k 1 : ℝ) : EReal) := by
  pointwise [val_main_v61, val_main_v58, val_main_v57, val_main_v56, val_main_v51, val_main_v50, val_main_v49, val_main_v45, val_main_cst_10, val_main_cst_11]
  simp only [at_v41 R, R.r5, R.r9, bits_zero, mul, sum, add, zero_add, Finset.univ_unique, Finset.sum_singleton, Fin.default_eq_zero]
  refine congrArg _ (Finset.sum_congr rfl fun t _ => ?_)
  ring

theorem at_v85 : val_main_v85 (F := Ideal) x0 x1 x2 x3 x4 x5 x6 x7 x8 x9 (ix1 k) = ((d.rows k 2 : ℝ) : EReal) := by
  pointwise [val_main_v85, val_main_v84, val_main_v83, val_main_cst_15, val_main_cst_16]
  simp only [at_v82 R, bits_zero, mul, sum, add, zero_add, Finset.univ_unique, Finset.sum_singleton, Fin.default_eq_zero]
  rfl

theorem at_v91 : val_main_v91 (F := Ideal) x0 x1 x2 x3 x4 x5 x6 x7 x8 x9 (ix1 k) = ((d.rows k 3 : ℝ) : EReal) := by
  pointwise [val_main_v91, val_main_v88, val_main_v87, val_main_v86, val_main_v15, val_main_v14, val_main_v13, val_main_cst_17, val_main_cst_18]
  simp only [at_v12 R, at_v82 R, R.r1, bits_zero, mul, sum, add, zero_add, Finset.univ_unique, Finset.sum_singleton, Fin.default_eq_zero]
  refine congrArg _ (Finset.sum_congr rfl fun t _ => ?_)
  ring

theorem at_v97 : val_main_v97 (F := Ideal) x0 x1 x2 x3 x4 x5 x6 x7 x8 x9 (ix1 k) = ((d.rows k 4 : ℝ) : EReal) := by
  pointwise [val_main_v97, val_main_v94, val_main_v93, val_main_v92, val_main_v90, val_main_v89, val_main_v18, val_main_v17, val_main_v16, val_main_cst_3, val_main_cst_19, val_main_cst_20]
  simp only [at_v12 R, at_v82 R, R.r4, one, bits_zero, mul, sum, add, zero_add, Finset.univ_unique, Finset.sum_singleton, Fin.default_eq_zero]
  refine congrArg _ (Finset.sum_congr rfl fun t _ => ?_)
  ring

theorem at_v113 : val_main_v113 (F := Ideal) x0 x1 x2 x3 x4 x5 x6 x7 x8 x9 (ix2 t k) = ((d.df t k : ℝ) : EReal) := by
  pointwise [val_main_v113]
  exact at_v75 R t k

theorem at_v114 : val_main_v114 (F := Ideal) x0 x1 x2 x3 x4 x5 x6 x7 x8 x9 (ix2 t j) = ((d.da t j : ℝ) : EReal) := by
  pointwise [val_main_v114]
  exact at_v79 R t j

theorem at_v115 : val_main_v115 (F := Ideal) x0 x1 x2 x3 x4 x5 x6 x7 x8 x9 (ix2 t j) = ((d.db t j : ℝ) : EReal) := by
  pointwise [val_main_v115]
  exact at_v77 R t j

theorem at_v123 (r : Fin 8) : val_main_v123 (F := Ideal) x0 x1 x2 x3 x4 x5 x6 x7 x8 x9 (ix2 r k) = ((d.rows k r : ℝ) : EReal) := by
  pointwise [val_main_v123, val_main_v121, val_main_v122, val_main_cst_24, val_main_v116, val_main_v117, val_main_v118, val_main_v119, val_main_v120]
  simp only [at_v55 R, at_v61 R, at_v85 R, at_v91 R, at_v97 R, bits_zero]
  match r with
  | 0 => rfl
  | 1 => rfl
  | 2 => rfl
  | 3 => rfl
  | 4 => rfl
  | 5 => rfl
  | 6 => rfl
  | 7 => rfl

end

end Cert.FfnRefIdeal.Value
-- ==== Proof.Ffn.Equation.lean ====
/-
  The feed-forward backward kernel and the reference end with the same five arrays, where the arguments are finite.
-/
module

public import proofs.«01_k».proof.Proof.Ffn.Entry
public import proofs.«01_k».proof.Proof.Ffn.Reference
public import proofs.«01_k».proof.Proof.Real
public import proofs.«01_k».proof.Proof.Gen.FfnIdeal.Value
public import proofs.«01_k».proof.Proof.Gen.Pre_ffn_finite
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Proof.Ffn

open Cert.Proof.Net
open Cert.FfnIdeal.Blocks (G10 G11 G12 G13 G14)

section Arrays

variable (x0 : FVec Ideal Cert.Pre_ffn_finite.S8192x1024 .f32) (x1 : FVec Ideal Cert.Pre_ffn_finite.S1024 .f32) (x2 : FVec Ideal Cert.Pre_ffn_finite.S1024 .f32) (x3 : FVec Ideal Cert.Pre_ffn_finite.S1024 .f32) (x4 : FVec Ideal Cert.Pre_ffn_finite.S1024 .f32) (x5 : FVec Ideal Cert.Pre_ffn_finite.S1024 .f32) (x6 : FVec Ideal Cert.Pre_ffn_finite.S1024x2816 .f32) (x7 : FVec Ideal Cert.Pre_ffn_finite.S1024x2816 .f32) (x8 : FVec Ideal Cert.Pre_ffn_finite.S2816x1024 .f32) (x9 : FVec Ideal Cert.Pre_ffn_finite.S8192x1024 .f32)

section Finite

open Cert.Pre_ffn_finite Cert.Pre_ffn_finite.Gen

instance : Subsingleton Cert.Pre_ffn_finite.S_.Idx := ⟨fun a b => funext fun i => i.elim0⟩

/-- The precondition says of each array that its elements are real. -/
theorem finite
    (h : Cert.Pre_ffn_finite.fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) := by
  have t9 := congrFun h (fun i => i.elim0)
  obtain ⟨t8, a9⟩ := IntOp.andi_eq_one.1 t9
  obtain ⟨t7, a8⟩ := IntOp.andi_eq_one.1 t8
  obtain ⟨t6, a7⟩ := IntOp.andi_eq_one.1 t7
  obtain ⟨t5, a6⟩ := IntOp.andi_eq_one.1 t6
  obtain ⟨t4, a5⟩ := IntOp.andi_eq_one.1 t5
  obtain ⟨t3, a4⟩ := IntOp.andi_eq_one.1 t4
  obtain ⟨t2, a3⟩ := IntOp.andi_eq_one.1 t3
  obtain ⟨t1, a2⟩ := IntOp.andi_eq_one.1 t2
  obtain ⟨t0, a1⟩ := IntOp.andi_eq_one.1 t1
  exact ⟨fun i => isReal_of_cmp _ (Host.reduce_andi_all _ _ _ _ _ t0 i),
    fun i => isReal_of_cmp _ (Host.reduce_andi_all _ _ _ _ _ a1 i),
    fun i => isReal_of_cmp _ (Host.reduce_andi_all _ _ _ _ _ a2 i),
    fun i => isReal_of_cmp _ (Host.reduce_andi_all _ _ _ _ _ a3 i),
    fun i => isReal_of_cmp _ (Host.reduce_andi_all _ _ _ _ _ a4 i),
    fun i => isReal_of_cmp _ (Host.reduce_andi_all _ _ _ _ _ a5 i),
    fun i => isReal_of_cmp _ (Host.reduce_andi_all _ _ _ _ _ a6 i),
    fun i => isReal_of_cmp _ (Host.reduce_andi_all _ _ _ _ _ a7 i),
    fun i => isReal_of_cmp _ (Host.reduce_andi_all _ _ _ _ _ a8 i),
    fun i => isReal_of_cmp _ (Host.reduce_andi_all _ _ _ _ _ a9 i)⟩

end Finite

/-- The real numbers in the arrays. -/
def real (x0 : FVec Ideal Cert.Pre_ffn_finite.S8192x1024 .f32) (x1 : FVec Ideal Cert.Pre_ffn_finite.S1024 .f32) (x2 : FVec Ideal Cert.Pre_ffn_finite.S1024 .f32) (x3 : FVec Ideal Cert.Pre_ffn_finite.S1024 .f32) (x4 : FVec Ideal Cert.Pre_ffn_finite.S1024 .f32) (x5 : FVec Ideal Cert.Pre_ffn_finite.S1024 .f32) (x6 : FVec Ideal Cert.Pre_ffn_finite.S1024x2816 .f32) (x7 : FVec Ideal Cert.Pre_ffn_finite.S1024x2816 .f32) (x8 : FVec Ideal Cert.Pre_ffn_finite.S2816x1024 .f32) (x9 : FVec Ideal Cert.Pre_ffn_finite.S8192x1024 .f32) : Data where
  X := fun t k => (x0 (ix2 t k)).toReal
  gp := fun k => (x1 (ix1 k)).toReal
  gq := fun k => (x2 (ix1 k)).toReal
  sh := fun k => (x3 (ix1 k)).toReal
  sc := fun k => (x4 (ix1 k)).toReal
  ga := fun k => (x5 (ix1 k)).toReal
  WG := fun t k => (x6 (ix2 t k)).toReal
  WU := fun t k => (x7 (ix2 t k)).toReal
  WD := fun t k => (x8 (ix2 t k)).toReal
  CT := fun t k => (x9 (ix2 t k)).toReal

theorem toReal_eq {x : EReal} (h : IsReal x) : x = ((x.toReal : ℝ) : EReal) := by
  obtain ⟨r, rfl⟩ := h
  rfl

/-- The arrays are their real numbers. -/
theorem reads
    (h : (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i))) :
    Cert.FfnRefIdeal.Value.Reads x0 x1 x2 x3 x4 x5 x6 x7 x8 x9 (real x0 x1 x2 x3 x4 x5 x6 x7 x8 x9) := by
  obtain ⟨h0, h1, h2, h3, h4, h5, h6, h7, h8, h9⟩ := h
  exact ⟨fun t k => toReal_eq (h0 _), fun k => toReal_eq (h1 _), fun k => toReal_eq (h2 _), fun k => toReal_eq (h3 _), fun k => toReal_eq (h4 _), fun k => toReal_eq (h5 _), fun t k => toReal_eq (h6 _), fun t k => toReal_eq (h7 _), fun t k => toReal_eq (h8 _), fun t k => toReal_eq (h9 _)⟩

end Arrays

section Equal

open Cert.FfnRefIdeal Cert.FfnRefIdeal.Value Cert.FfnRefIdeal.Read

variable {x0 : FVec Ideal S8192x1024 .f32} {x1 x2 x3 x4 x5 : FVec Ideal S1024 .f32} {x6 x7 : FVec Ideal S1024x2816 .f32}
  {x8 : FVec Ideal S2816x1024 .f32} {x9 : FVec Ideal S8192x1024 .f32} {d : Data} (R : Reads x0 x1 x2 x3 x4 x5 x6 x7 x8 x9 d)
include R

theorem equal10 : val_main_v112 (F := Ideal) x0 x1 x2 x3 x4 x5 x6 x7 x8 x9 = G10 d := by
  funext y
  idx_vars y
  exact at_v112 R y0 y1

theorem equal11 : val_main_v113 (F := Ideal) x0 x1 x2 x3 x4 x5 x6 x7 x8 x9 = G11 d := by
  funext y
  idx_vars y
  exact at_v113 R y0 y1

theorem equal12 : val_main_v114 (F := Ideal) x0 x1 x2 x3 x4 x5 x6 x7 x8 x9 = G12 d := by
  funext y
  idx_vars y
  exact at_v114 R y0 y1

theorem equal13 : val_main_v115 (F := Ideal) x0 x1 x2 x3 x4 x5 x6 x7 x8 x9 = G13 d := by
  funext y
  idx_vars y
  exact at_v115 R y0 y1

theorem equal14 : val_main_v123 (F := Ideal) x0 x1 x2 x3 x4 x5 x6 x7 x8 x9 = G14 d := by
  funext y
  idx_vars y
  exact at_v123 R y1 y0

end Equal

/-- The kernel and the reference end with the same five arrays. -/
theorem algebraic : Cert.algebraic_FfnIdeal_FfnRefIdeal_pre_ffn_finite := by
  intro m g m' g' hpre hagree
  have hr := fun c : Dev Cert.FfnIdeal.nD => reads _ _ _ _ _ _ _ _ _ _ (finite _ _ _ _ _ _ _ _ _ _ (hpre c))
  let D : Dev Cert.FfnIdeal.nD → Data := fun c => real (m (c, Proc.devRef .tc Cert.FfnIdeal.main_arg0)) (m (c, Proc.devRef .tc Cert.FfnIdeal.main_arg1)) (m (c, Proc.devRef .tc Cert.FfnIdeal.main_arg2)) (m (c, Proc.devRef .tc Cert.FfnIdeal.main_arg3)) (m (c, Proc.devRef .tc Cert.FfnIdeal.main_arg4)) (m (c, Proc.devRef .tc Cert.FfnIdeal.main_arg5)) (m (c, Proc.devRef .tc Cert.FfnIdeal.main_arg6)) (m (c, Proc.devRef .tc Cert.FfnIdeal.main_arg7)) (m (c, Proc.devRef .tc Cert.FfnIdeal.main_arg8)) (m (c, Proc.devRef .tc Cert.FfnIdeal.main_arg9))
  have hk : ∀ c, Cert.FfnIdeal.Blocks.Args m c (D c) := fun c => ⟨(hr c).r0, (hr c).r1, (hr c).r2, (hr c).r3, (hr c).r4, (hr c).r5, (hr c).r6, (hr c).r7, (hr c).r8, (hr c).r9⟩
  have hv : ∀ c, Cert.FfnRefIdeal.Value.Reads (StableHlo.launchContents m' c (Proc.devRef .tc Cert.FfnRefIdeal.main_arg0)) (StableHlo.launchContents m' c (Proc.devRef .tc Cert.FfnRefIdeal.main_arg1)) (StableHlo.launchContents m' c (Proc.devRef .tc Cert.FfnRefIdeal.main_arg2)) (StableHlo.launchContents m' c (Proc.devRef .tc Cert.FfnRefIdeal.main_arg3)) (StableHlo.launchContents m' c (Proc.devRef .tc Cert.FfnRefIdeal.main_arg4)) (StableHlo.launchContents m' c (Proc.devRef .tc Cert.FfnRefIdeal.main_arg5)) (StableHlo.launchContents m' c (Proc.devRef .tc Cert.FfnRefIdeal.main_arg6)) (StableHlo.launchContents m' c (Proc.devRef .tc Cert.FfnRefIdeal.main_arg7)) (StableHlo.launchContents m' c (Proc.devRef .tc Cert.FfnRefIdeal.main_arg8)) (StableHlo.launchContents m' c (Proc.devRef .tc Cert.FfnRefIdeal.main_arg9)) (D c) := fun c => by
    have h := hr c
    exact ⟨fun t k => (congrFun ((hagree c).1) _).trans (h.r0 t k),
      fun k => (congrFun ((hagree c).2.1) _).trans (h.r1 k),
      fun k => (congrFun ((hagree c).2.2.1) _).trans (h.r2 k),
      fun k => (congrFun ((hagree c).2.2.2.1) _).trans (h.r3 k),
      fun k => (congrFun ((hagree c).2.2.2.2.1) _).trans (h.r4 k),
      fun k => (congrFun ((hagree c).2.2.2.2.2.1) _).trans (h.r5 k),
      fun t k => (congrFun ((hagree c).2.2.2.2.2.2.1) _).trans (h.r6 t k),
      fun t k => (congrFun ((hagree c).2.2.2.2.2.2.2.1) _).trans (h.r7 t k),
      fun t k => (congrFun ((hagree c).2.2.2.2.2.2.2.2.1) _).trans (h.r8 t k),
      fun t k => (congrFun ((hagree c).2.2.2.2.2.2.2.2.2) _).trans (h.r9 t k)⟩
  refine ⟨fun c => G10 (D c), fun c => G11 (D c), fun c => G12 (D c), fun c => G13 (D c), fun c => G14 (D c), ?_, ?_⟩
  · refine (θ_run Cert.FfnIdeal.defs _ _).mono (fun r h c => ?_) (Cert.FfnIdeal.Value.run_blocks (F := Ideal) m g)
    have E := Cert.FfnIdeal.Blocks.entry (hk c)
    exact ⟨(h c).1.trans (Cert.FfnIdeal.Blocks.final10 E), (h c).2.1.trans (Cert.FfnIdeal.Blocks.final11 E), (h c).2.2.1.trans (Cert.FfnIdeal.Blocks.final12 E), (h c).2.2.2.1.trans (Cert.FfnIdeal.Blocks.final13 E), (h c).2.2.2.2.1.trans (Cert.FfnIdeal.Blocks.final14 E), (h c).2.2.2.2.2⟩
  · refine (θ_run Cert.FfnRefIdeal.defs _ _).mono (fun r h c => ?_) (Cert.FfnRefIdeal.Value.run (F := Ideal) m' g')
    exact ⟨((h c).1.trans (Cert.FfnRefIdeal.Read.val_main_v112_eq _)).trans (equal10 (hv c)),
      ((h c).2.1.trans (Cert.FfnRefIdeal.Read.val_main_v113_eq _)).trans (equal11 (hv c)),
      ((h c).2.2.1.trans (Cert.FfnRefIdeal.Read.val_main_v114_eq _)).trans (equal12 (hv c)),
      ((h c).2.2.2.1.trans (Cert.FfnRefIdeal.Read.val_main_v115_eq _)).trans (equal13 (hv c)),
      ((h c).2.2.2.2.1.trans (Cert.FfnRefIdeal.Read.val_main_v123_eq _)).trans (equal14 (hv c)),
      (h c).2.2.2.2.2⟩

/-- The reference ends, its arguments as they were and its semaphores at zero: it has none. -/
theorem frame_reference : Cert.quiescent_FfnRefIdeal := by
  intro m g _
  refine (θ_run Cert.FfnRefIdeal.defs _ _).mono (fun r h => ⟨fun c => (h c).2.2.2.2.2, ?_⟩) (Cert.FfnRefIdeal.Value.run (F := Ideal) m g)
  exact Idealize.ShloMosaic.sem_eq_zero_of_no_sems (by decide) r.2

end Cert.Proof.Ffn
-- ==== Proof.Net.Forward.lean ====
/-
  The output projection and the feed-forward block's forward pass over the real numbers: the arrays the kernels and the
  references leave.
-/
module

public import proofs.«01_k».proof.Proof.Net.Model

@[expose] public section

noncomputable section

open Idealize.ShloMosaic

namespace Cert.Proof.Net

theorem logistic_eq (a : ℝ) : Ideal.logistic (a : EReal) = ((sg a : ℝ) : EReal) := sg_eq a

theorem bits_two : Ideal.ofBits FTy.f32 0x40000000#32 = ((2 : ℝ) : EReal) := by
  simp [Ideal.ofBits, Ideal.ieee, zpow_ofNat]
  rw [← EReal.coe_mul]
  norm_num
theorem bits_plus_half : Ideal.ofBits FTy.f32 0x3F000000#32 = ((1 / 2 : ℝ) : EReal) := by
  simp [Ideal.ofBits, Ideal.ieee, zpow_ofNat]
  rw [← EReal.coe_mul]
  norm_num
theorem bits_inv_mean : Ideal.ofBits FTy.f32 0x3A800000#32 = ((1 / 1024 : ℝ) : EReal) := by
  simp [Ideal.ofBits, Ideal.ieee, zpow_ofNat]
  rw [← EReal.coe_mul]
  norm_num

/-- The attention's and the pooling's rows, the residual, the projection, the norms' gains, the modulation and the weights. -/
structure Fwd where
  A : Fin 8192 → Fin 512 → ℝ
  P : Fin 8192 → Fin 512 → ℝ
  X : Fin 8192 → Fin 1024 → ℝ
  WO : Fin 1024 → Fin 1024 → ℝ
  gm : Fin 1024 → ℝ
  gt : Fin 1024 → ℝ
  gp : Fin 1024 → ℝ
  gq : Fin 1024 → ℝ
  sh : Fin 1024 → ℝ
  sc : Fin 1024 → ℝ
  ga : Fin 1024 → ℝ
  WG : Fin 1024 → Fin 2816 → ℝ
  WU : Fin 1024 → Fin 2816 → ℝ
  WD : Fin 2816 → Fin 1024 → ℝ

/-- The projection's rows that the attention's columns meet, and the pooling's. -/
def lo (k : Fin 512) : Fin 1024 := ⟨k.val, by omega⟩
def hi (k : Fin 512) : Fin 1024 := ⟨512 + k.val, by omega⟩

theorem sum_halves (F : Fin 1024 → ℝ) : ∑ k, F k = ∑ k, F (lo k) + ∑ k, F (hi k) := Fin.sum_univ_add (a := 512) (b := 512) F

namespace Fwd

variable (d : Fwd) (t : Fin 8192)

def mix (n : Fin 1024) : ℝ := ∑ k, d.A t k * d.WO (lo k) n + ∑ k, d.P t k * d.WO (hi k) n
def x1 (k : Fin 1024) : ℝ := d.X t k + d.gt k * (norm (d.mix t) k * d.gm k)
def h : Fin 1024 → ℝ := hid (d.x1 t) d.gp d.sh d.sc
def a : Fin 2816 → ℝ := lin (d.h t) d.WG
def b : Fin 2816 → ℝ := lin (d.h t) d.WU
/-- What the last product takes, and the factors that the gradients of the two hidden products take. -/
def act (j : Fin 2816) : ℝ := Net.act (d.a t) (d.b t) j
def dga (j : Fin 2816) : ℝ := d.b t j * dsilu (d.a t j)
def dgb (j : Fin 2816) : ℝ := d.a t j * sg (d.a t j)
def f : Fin 1024 → ℝ := lin (d.act t) d.WD
def y (k : Fin 1024) : ℝ := d.x1 t k + d.ga k * (norm (d.f t) k * d.gq k)

/-- The block's output less the target, its share of the loss's gradient, and the loss of a row. -/
def err (T : Fin 8192 → Fin 1024 → ℝ) (k : Fin 1024) : ℝ := d.y t k - T t k
def dy (T : Fin 8192 → Fin 1024 → ℝ) (k : Fin 1024) : ℝ := d.err t T k / 1024
def rowLoss (T : Fin 8192 → Fin 1024 → ℝ) : ℝ := (∑ k, d.err t T k * d.err t T k) / 1024

end Fwd

end Cert.Proof.Net
-- ==== Proof.Fwd.Payload.lean ====
/-
  What the forward kernel computes from a block of 256 rows, value by value, over real numbers: the projection, the
  residual and the norms, and the three chunks of the hidden columns.
-/
module

public import proofs.«01_k».proof.Proof.Gen.FwdIdeal.Value
public import proofs.«01_k».proof.Proof.Net.Forward
public import proofs.«01_k».proof.Proof.Ffn.Payload
public import Idealize.ShloMosaic.Lib.Pointwise

@[expose] public section

set_option maxRecDepth 16384

noncomputable section

open Idealize.ShloMosaic Idealize.ShloMosaic.TcCoe Idealize.SL.Sem

namespace Cert.FwdIdeal.Blocks

open Cert.FwdIdeal Cert.FwdIdeal.Gen Cert.Proof.Net
open Cert.FfnIdeal.Blocks (J0 J1 J2 sum_chunks thousand)

variable {d : Fwd} {t : Fin 256 → Fin 8192}

section Projection

variable {v0 v5 : Vec Ideal S256x512 .bf16} {v2 v7 : Vec Ideal S512x1024 .bf16} {v12 : Vec Ideal S256x1024 .f32} {v13 v25 : Vec Ideal S1x1024 .f32}
  (h0 : ∀ r k, v0 (ix2 r k) = ((d.A (t r) k : ℝ) : EReal)) (h2 : ∀ k n, v2 (ix2 k n) = ((d.WO (lo k) n : ℝ) : EReal))
  (h5 : ∀ r k, v5 (ix2 r k) = ((d.P (t r) k : ℝ) : EReal)) (h7 : ∀ k n, v7 (ix2 k n) = ((d.WO (hi k) n : ℝ) : EReal))
  (h12 : ∀ r k, v12 (ix2 r k) = ((d.X (t r) k : ℝ) : EReal))
  (h13 : ∀ k, v13 (ix2 0 k) = ((d.gt k : ℝ) : EReal)) (h25 : ∀ k, v25 (ix2 0 k) = ((d.gm k : ℝ) : EReal))

include h0 h2 h5 h7 in
theorem pay2_apply (r : Fin 256) (k : Fin 1024) : k0_pay2 v0 v2 v5 v7 (ix2 r k) = ((d.mix (t r) k : ℝ) : EReal) := by
  pointwise [k0_pay2]
  simp only [h0, h2, h5, h7, mul, sum, add, zero_add]
  rfl

include h0 h2 h5 h7 h12 h13 h25 in
theorem pay3_apply (r : Fin 256) (k : Fin 1024) : k0_pay3 v0 v2 v5 v7 v12 v13 v25 (ix2 r k) = ((d.x1 (t r) k : ℝ) : EReal) := by
  pointwise [k0_pay3]
  simp only [pay2_apply h0 h2 h5 h7, h12, h13, h25, bits_mean, bits_eps, mul, sum, add, div _ _ thousand, zero_add, rsqrt_var]
  refine congrArg _ ?_
  unfold Fwd.x1 Proof.Net.norm
  ring

include h0 h2 h5 h7 h12 h13 h25 in
theorem pay4_apply (r : Fin 256) (k : Fin 1024) : k0_pay4 v0 v2 v5 v7 v12 v13 v25 (ix2 r k) = ((d.x1 (t r) k * d.x1 (t r) k : ℝ) : EReal) := by
  pointwise [k0_pay4]
  simp only [pay3_apply h0 h2 h5 h7 h12 h13 h25, mul]

end Projection

section First

variable {v31 v33 : FVec Ideal S256x1024 .f32} {v43 v47 v53 : Vec Ideal S1x1024 .f32} {v60 v63 : Vec Ideal S1024x1024 .bf16}
  (h31 : ∀ r k, v31 (ix2 r k) = ((d.x1 (t r) k : ℝ) : EReal)) (h33 : ∀ r k, v33 (ix2 r k) = ((d.x1 (t r) k * d.x1 (t r) k : ℝ) : EReal))
  (h43 : ∀ k, v43 (ix2 0 k) = ((d.gp k : ℝ) : EReal)) (h47 : ∀ k, v47 (ix2 0 k) = ((d.sc k : ℝ) : EReal))
  (h53 : ∀ k, v53 (ix2 0 k) = ((d.sh k : ℝ) : EReal))
  (h60 : ∀ j k, v60 (ix2 j k) = ((d.WG k (J0 j) : ℝ) : EReal)) (h63 : ∀ j k, v63 (ix2 j k) = ((d.WU k (J0 j) : ℝ) : EReal))

include h31 h33 h43 h47 h53 in
theorem pay5_apply (r : Fin 256) (k : Fin 1024) : k0_pay5 v31 v33 v43 v47 v53 (ix2 r k) = ((d.h (t r) k : ℝ) : EReal) := by
  pointwise [k0_pay5]
  simp only [h31, h33, h43, h47, h53, bits_one, one, bits_mean, bits_eps, mul, sum, add, div _ _ thousand, zero_add, rsqrt_var]
  rfl

include h31 h33 h43 h47 h53 h60 in
theorem pay7_apply (r : Fin 256) (j : Fin 1024) : k0_pay7 v31 v33 v43 v47 v53 v60 (ix2 r j) = ((d.a (t r) (J0 j) : ℝ) : EReal) := by
  pointwise [k0_pay7]
  simp only [pay5_apply h31 h33 h43 h47 h53, h60, mul, sum, zero_add]
  rfl

include h31 h33 h43 h47 h53 h63 in
theorem pay8_apply (r : Fin 256) (j : Fin 1024) : k0_pay8 v31 v33 v43 v47 v53 v63 (ix2 r j) = ((d.b (t r) (J0 j) : ℝ) : EReal) := by
  pointwise [k0_pay8]
  simp only [pay5_apply h31 h33 h43 h47 h53, h63, mul, sum, zero_add]
  rfl

include h31 h33 h43 h47 h53 h60 in
theorem pay9_apply (r : Fin 256) (j : Fin 1024) : k0_pay9 v31 v33 v43 v47 v53 v60 (ix2 r j) = ((sg (d.a (t r) (J0 j)) : ℝ) : EReal) := by
  pointwise [k0_pay9]
  simp only [pay7_apply h31 h33 h43 h47 h53 h60, logistic_eq]

include h31 h33 h43 h47 h53 h60 in
theorem pay10_apply (r : Fin 256) (j : Fin 1024) : k0_pay10 v31 v33 v43 v47 v53 v60 (ix2 r j) = ((d.dgb (t r) (J0 j) : ℝ) : EReal) := by
  pointwise [k0_pay10]
  simp only [pay7_apply h31 h33 h43 h47 h53 h60, pay9_apply h31 h33 h43 h47 h53 h60, mul]
  rfl

include h31 h33 h43 h47 h53 h60 h63 in
theorem pay11_apply (r : Fin 256) (j : Fin 1024) : k0_pay11 v31 v33 v43 v47 v53 v60 v63 (ix2 r j) = ((d.act (t r) (J0 j) : ℝ) : EReal) := by
  pointwise [k0_pay11]
  simp only [pay10_apply h31 h33 h43 h47 h53 h60, pay8_apply h31 h33 h43 h47 h53 h63, mul]
  rfl

end First

section Hidden

theorem pay12_apply {v62 v65 v66 : FVec Ideal S256x1024 .f32} (h62 : ∀ r j, v62 (ix2 r j) = ((d.a (t r) (J0 j) : ℝ) : EReal))
    (h65 : ∀ r j, v65 (ix2 r j) = ((d.b (t r) (J0 j) : ℝ) : EReal)) (h66 : ∀ r j, v66 (ix2 r j) = ((sg (d.a (t r) (J0 j)) : ℝ) : EReal))
    (r : Fin 256) (j : Fin 1024) : k0_pay12 v62 v65 v66 (ix2 r j) = ((d.dga (t r) (J0 j) : ℝ) : EReal) := by
  pointwise [k0_pay12]
  simp only [h62, h65, h66, bits_one, one, mul, sub, add]
  refine congrArg _ ?_
  unfold Fwd.dga dsilu
  ring

theorem pay13_apply {v67 : FVec Ideal S256x1024 .f32} (h67 : ∀ r j, v67 (ix2 r j) = ((d.dgb (t r) (J0 j) : ℝ) : EReal)) (r : Fin 256) (j : Fin 1024) : k0_pay13 v67 (ix2 r j) = ((d.dgb (t r) (J0 j) : ℝ) : EReal) := by
  pointwise [k0_pay13]
  simp only [h67]

theorem pay21_apply {v93 : FVec Ideal S256x1024 .f32} (h93 : ∀ r j, v93 (ix2 r j) = ((d.dgb (t r) (J1 j) : ℝ) : EReal)) (r : Fin 256) (j : Fin 1024) : k0_pay21 v93 (ix2 r j) = ((d.dgb (t r) (J1 j) : ℝ) : EReal) := by
  pointwise [k0_pay21]
  simp only [h93]

variable {v59 : FVec Ideal S256x1024 .f32} {v57 v69 v95 : FVec Ideal S256x1024 .bf16} {v85 : FVec Ideal S256x1024 .f32} {v82 v86 v89 v108 : Vec Ideal S1024x1024 .bf16}
  {v112 v115 v134 : Vec Ideal S768x1024 .bf16}
  (h59 : ∀ r k, v59 (ix2 r k) = ((0 : ℝ) : EReal)) (h69 : ∀ r j, v69 (ix2 r j) = ((d.act (t r) (J0 j) : ℝ) : EReal))
  (h82 : ∀ j k, v82 (ix2 j k) = ((d.WD (J0 j) k : ℝ) : EReal))
  (h57 : ∀ r k, v57 (ix2 r k) = ((d.h (t r) k : ℝ) : EReal))
  (h85 : ∀ r k, v85 (ix2 r k) = ((∑ j, d.act (t r) (J0 j) * d.WD (J0 j) k : ℝ) : EReal))
  (h86 : ∀ j k, v86 (ix2 j k) = ((d.WG k (J1 j) : ℝ) : EReal)) (h89 : ∀ j k, v89 (ix2 j k) = ((d.WU k (J1 j) : ℝ) : EReal))
  (h95 : ∀ r j, v95 (ix2 r j) = ((d.act (t r) (J1 j) : ℝ) : EReal)) (h108 : ∀ j k, v108 (ix2 j k) = ((d.WD (J1 j) k : ℝ) : EReal))
  (h112 : ∀ j k, v112 (ix2 j k) = ((d.WG k (J2 j) : ℝ) : EReal)) (h115 : ∀ j k, v115 (ix2 j k) = ((d.WU k (J2 j) : ℝ) : EReal))
  (h134 : ∀ j k, v134 (ix2 j k) = ((d.WD (J2 j) k : ℝ) : EReal))

include h59 h69 h82 in
theorem pay14_apply (r : Fin 256) (k : Fin 1024) : k0_pay14 v59 v69 v82 (ix2 r k) = ((∑ j, d.act (t r) (J0 j) * d.WD (J0 j) k : ℝ) : EReal) := by
  pointwise [k0_pay14]
  simp only [h59, h69, h82, mul, sum, add, zero_add]

include h57 h86 in
theorem pay15_apply (r : Fin 256) (j : Fin 1024) : k0_pay15 v57 v86 (ix2 r j) = ((d.a (t r) (J1 j) : ℝ) : EReal) := by
  pointwise [k0_pay15]
  simp only [h57, h86, mul, sum, zero_add]
  rfl

include h57 h89 in
theorem pay16_apply (r : Fin 256) (j : Fin 1024) : k0_pay16 v57 v89 (ix2 r j) = ((d.b (t r) (J1 j) : ℝ) : EReal) := by
  pointwise [k0_pay16]
  simp only [h57, h89, mul, sum, zero_add]
  rfl

include h57 h86 in
theorem pay17_apply (r : Fin 256) (j : Fin 1024) : k0_pay17 v57 v86 (ix2 r j) = ((sg (d.a (t r) (J1 j)) : ℝ) : EReal) := by
  pointwise [k0_pay17]
  simp only [pay15_apply h57 h86, logistic_eq]

include h57 h86 in
theorem pay18_apply (r : Fin 256) (j : Fin 1024) : k0_pay18 v57 v86 (ix2 r j) = ((d.dgb (t r) (J1 j) : ℝ) : EReal) := by
  pointwise [k0_pay18]
  simp only [pay15_apply h57 h86, pay17_apply h57 h86, mul]
  rfl

include h57 h86 h89 in
theorem pay19_apply (r : Fin 256) (j : Fin 1024) : k0_pay19 v57 v86 v89 (ix2 r j) = ((d.act (t r) (J1 j) : ℝ) : EReal) := by
  pointwise [k0_pay19]
  simp only [pay18_apply h57 h86, pay16_apply h57 h89, mul]
  rfl

include h57 h86 h89 in
theorem pay20_apply (r : Fin 256) (j : Fin 1024) : k0_pay20 v57 v86 v89 (ix2 r j) = ((d.dga (t r) (J1 j) : ℝ) : EReal) := by
  pointwise [k0_pay20]
  simp only [pay15_apply h57 h86, pay16_apply h57 h89, pay17_apply h57 h86, bits_one, one, mul, sub, add]
  refine congrArg _ ?_
  unfold Fwd.dga dsilu
  ring

include h57 h112 in
theorem pay22_apply (r : Fin 256) (j : Fin 768) : k0_pay22 v57 v112 (ix2 r j) = ((d.a (t r) (J2 j) : ℝ) : EReal) := by
  pointwise [k0_pay22]
  simp only [h57, h112, mul, sum, zero_add]
  rfl

include h57 h115 in
theorem pay23_apply (r : Fin 256) (j : Fin 768) : k0_pay23 v57 v115 (ix2 r j) = ((d.b (t r) (J2 j) : ℝ) : EReal) := by
  pointwise [k0_pay23]
  simp only [h57, h115, mul, sum, zero_add]
  rfl

include h57 h112 in
theorem pay24_apply (r : Fin 256) (j : Fin 768) : k0_pay24 v57 v112 (ix2 r j) = ((sg (d.a (t r) (J2 j)) : ℝ) : EReal) := by
  pointwise [k0_pay24]
  simp only [pay22_apply h57 h112, logistic_eq]

include h57 h112 in
theorem pay25_apply (r : Fin 256) (j : Fin 768) : k0_pay25 v57 v112 (ix2 r j) = ((d.dgb (t r) (J2 j) : ℝ) : EReal) := by
  pointwise [k0_pay25]
  simp only [pay22_apply h57 h112, pay24_apply h57 h112, mul]
  rfl

include h57 h112 h115 in
theorem pay26_apply (r : Fin 256) (j : Fin 768) : k0_pay26 v57 v112 v115 (ix2 r j) = ((d.act (t r) (J2 j) : ℝ) : EReal) := by
  pointwise [k0_pay26]
  simp only [pay25_apply h57 h112, pay23_apply h57 h115, mul]
  rfl

include h57 h112 h115 in
theorem pay27_apply (r : Fin 256) (j : Fin 768) : k0_pay27 v57 v112 v115 (ix2 r j) = ((d.dga (t r) (J2 j) : ℝ) : EReal) := by
  pointwise [k0_pay27]
  simp only [pay22_apply h57 h112, pay23_apply h57 h115, pay24_apply h57 h112, bits_one, one, mul, sub, add]
  refine congrArg _ ?_
  unfold Fwd.dga dsilu
  ring

include h57 h112 in
theorem pay28_apply (r : Fin 256) (j : Fin 768) : k0_pay28 v57 v112 (ix2 r j) = ((d.dgb (t r) (J2 j) : ℝ) : EReal) := by
  pointwise [k0_pay28]
  simp only [pay25_apply h57 h112]

include h57 h85 h95 h108 h112 h115 h134 in
theorem pay29_apply (r : Fin 256) (k : Fin 1024) : k0_pay29 v57 v85 v95 v108 v112 v115 v134 (ix2 r k) = ((d.f (t r) k : ℝ) : EReal) := by
  pointwise [k0_pay29]
  simp only [pay26_apply h57 h112 h115, h85, h95, h108, h134, mul, sum, add, zero_add]
  exact congrArg _ (sum_chunks fun j => d.act (t r) j * d.WD j k).symm

end Hidden

section Last

variable {v31 v137 : FVec Ideal S256x1024 .f32} {v139 v151 : Vec Ideal S1x1024 .f32}
  (h31 : ∀ r k, v31 (ix2 r k) = ((d.x1 (t r) k : ℝ) : EReal)) (h137 : ∀ r k, v137 (ix2 r k) = ((d.f (t r) k : ℝ) : EReal))
  (h139 : ∀ k, v139 (ix2 0 k) = ((d.ga k : ℝ) : EReal)) (h151 : ∀ k, v151 (ix2 0 k) = ((d.gq k : ℝ) : EReal))

include h31 h137 h139 h151 in
theorem pay1_apply (r : Fin 256) (k : Fin 1024) : k0_pay1 v31 v137 v139 v151 (ix2 r k) = ((d.y (t r) k : ℝ) : EReal) := by
  pointwise [k0_pay1]
  simp only [h31, h137, h139, h151, bits_mean, bits_eps, mul, sum, add, div _ _ thousand, zero_add, rsqrt_var]
  refine congrArg _ ?_
  unfold Fwd.y Proof.Net.norm
  ring

end Last

end Cert.FwdIdeal.Blocks
-- ==== Proof.Fwd.Block.lean ====
/-
  One point of the forward kernel: what it leaves in its eight result buffers, from the blocks it is given, over real numbers.
-/
module

public import proofs.«01_k».proof.Proof.Fwd.Payload
public import proofs.«01_k».proof.Proof.Ffn.Block

@[expose] public section

set_option maxRecDepth 16384

noncomputable section

open Idealize.ShloMosaic Idealize.ShloMosaic.TcCoe Idealize.SL.Sem

namespace Cert.FwdIdeal.Blocks

open Cert.FwdIdeal Cert.FwdIdeal.Gen Cert.Proof.Net
open Cert.FfnIdeal.Blocks (J0 J1 J2 ld2 hit missRow missCol three)

/-- The blocks that a point is given hold these real numbers: its rows are the rows `t` of the arrays. -/
structure Blk (d : Fwd) (t : Fin 256 → Fin 8192) (x0 : Vec Ideal S256x512 .bf16) (x1 : Vec Ideal S256x512 .bf16) (x2 : Vec Ideal S256x1024 .f32) (x3 : Vec Ideal S1024x1024 .bf16) (x4 :
    Vec Ideal S8x1024 .f32) (x5 : Vec Ideal S8x1024 .f32) (x6 : Vec Ideal S2816x1024 .bf16) (x7 : Vec Ideal S2816x1024 .bf16) (x8 : Vec
    Ideal S2816x1024 .bf16) : Prop where
  b0 : ∀ r k, x0 (ix2 r k) = ((d.A (t r) k : ℝ) : EReal)
  b1 : ∀ r k, x1 (ix2 r k) = ((d.P (t r) k : ℝ) : EReal)
  b2 : ∀ r k, x2 (ix2 r k) = ((d.X (t r) k : ℝ) : EReal)
  b3 : ∀ k n, x3 (ix2 k n) = ((d.WO k n : ℝ) : EReal)
  b42 : ∀ k, x4 (ix2 2 k) = ((d.gt k : ℝ) : EReal)
  b43 : ∀ k, x4 (ix2 3 k) = ((d.sh k : ℝ) : EReal)
  b44 : ∀ k, x4 (ix2 4 k) = ((d.sc k : ℝ) : EReal)
  b45 : ∀ k, x4 (ix2 5 k) = ((d.ga k : ℝ) : EReal)
  b51 : ∀ k, x5 (ix2 1 k) = ((d.gm k : ℝ) : EReal)
  b52 : ∀ k, x5 (ix2 2 k) = ((d.gp k : ℝ) : EReal)
  b53 : ∀ k, x5 (ix2 3 k) = ((d.gq k : ℝ) : EReal)
  b6 : ∀ j k, x6 (ix2 j k) = ((d.WG k j : ℝ) : EReal)
  b7 : ∀ j k, x7 (ix2 j k) = ((d.WU k j : ℝ) : EReal)
  b8 : ∀ j k, x8 (ix2 j k) = ((d.WD j k : ℝ) : EReal)

section Loads

variable {d : Fwd} {t : Fin 256 → Fin 8192} {x0 : Vec Ideal S256x512 .bf16} {x1 : Vec Ideal S256x512 .bf16} {x2 : Vec Ideal S256x1024 .f32} {x3 : Vec Ideal S1024x1024 .bf16} {x4 :
  Vec Ideal S8x1024 .f32} {x5 : Vec Ideal S8x1024 .f32} {x6 : Vec Ideal S2816x1024 .bf16} {x7 : Vec Ideal S2816x1024 .bf16} {x8 : Vec
  Ideal S2816x1024 .bf16}
  (B : Blk d t x0 x1 x2 x3 x4 x5 x6 x7 x8)
include B

theorem l0 : ∀ r k, View.ld x0 (Rect.unit (s := S256x512) ![0, 0] ![256, 512] inb_S256x512_S256x512_0_0) (ix2 r k) = ((d.A (t r) k : ℝ) : EReal) :=
  fun r k => (ld2 x0 0 0 _ r k r k (Nat.zero_add _).symm (Nat.zero_add _).symm).trans (B.b0 r k)
theorem l1 : ∀ r k, View.ld x1 (Rect.unit (s := S256x512) ![0, 0] ![256, 512] inb_S256x512_S256x512_0_0) (ix2 r k) = ((d.P (t r) k : ℝ) : EReal) :=
  fun r k => (ld2 x1 0 0 _ r k r k (Nat.zero_add _).symm (Nat.zero_add _).symm).trans (B.b1 r k)
theorem l2 : ∀ r k, View.ld x2 (Rect.unit (s := S256x1024) ![0, 0] ![256, 1024] inb_S256x1024_S256x1024_0_0) (ix2 r k) = ((d.X (t r) k : ℝ) : EReal) :=
  fun r k => (ld2 x2 0 0 _ r k r k (Nat.zero_add _).symm (Nat.zero_add _).symm).trans (B.b2 r k)
theorem l3lo : ∀ k n, View.ld x3 (Rect.unit (s := S1024x1024) ![0, 0] ![512, 1024] inb_S1024x1024_S512x1024_0_0) (ix2 k n) = ((d.WO (lo k) n : ℝ) : EReal) :=
  fun k n => (ld2 x3 0 0 _ k n (lo k) n (Nat.zero_add _).symm (Nat.zero_add _).symm).trans (B.b3 (lo k) n)
theorem l3hi : ∀ k n, View.ld x3 (Rect.unit (s := S1024x1024) ![512, 0] ![512, 1024] inb_S1024x1024_S512x1024_512_0) (ix2 k n) = ((d.WO (hi k) n : ℝ) : EReal) :=
  fun k n => (ld2 x3 512 0 _ k n (hi k) n rfl (Nat.zero_add _).symm).trans (B.b3 (hi k) n)
theorem l42 : ∀ k, View.ld x4 (Rect.unit (s := S8x1024) ![2, 0] ![1, 1024] inb_S8x1024_S1x1024_2_0) (ix2 0 k) = ((d.gt k : ℝ) : EReal) :=
  fun k => (ld2 x4 2 0 _ 0 k 2 k rfl (Nat.zero_add _).symm).trans (B.b42 k)
theorem l43 : ∀ k, View.ld x4 (Rect.unit (s := S8x1024) ![3, 0] ![1, 1024] inb_S8x1024_S1x1024_3_0) (ix2 0 k) = ((d.sh k : ℝ) : EReal) :=
  fun k => (ld2 x4 3 0 _ 0 k 3 k rfl (Nat.zero_add _).symm).trans (B.b43 k)
theorem l44 : ∀ k, View.ld x4 (Rect.unit (s := S8x1024) ![4, 0] ![1, 1024] inb_S8x1024_S1x1024_4_0) (ix2 0 k) = ((d.sc k : ℝ) : EReal) :=
  fun k => (ld2 x4 4 0 _ 0 k 4 k rfl (Nat.zero_add _).symm).trans (B.b44 k)
theorem l45 : ∀ k, View.ld x4 (Rect.unit (s := S8x1024) ![5, 0] ![1, 1024] inb_S8x1024_S1x1024_5_0) (ix2 0 k) = ((d.ga k : ℝ) : EReal) :=
  fun k => (ld2 x4 5 0 _ 0 k 5 k rfl (Nat.zero_add _).symm).trans (B.b45 k)
theorem l51 : ∀ k, View.ld x5 (Rect.unit (s := S8x1024) ![1, 0] ![1, 1024] inb_S8x1024_S1x1024_1_0) (ix2 0 k) = ((d.gm k : ℝ) : EReal) :=
  fun k => (ld2 x5 1 0 _ 0 k 1 k rfl (Nat.zero_add _).symm).trans (B.b51 k)
theorem l52 : ∀ k, View.ld x5 (Rect.unit (s := S8x1024) ![2, 0] ![1, 1024] inb_S8x1024_S1x1024_2_0) (ix2 0 k) = ((d.gp k : ℝ) : EReal) :=
  fun k => (ld2 x5 2 0 _ 0 k 2 k rfl (Nat.zero_add _).symm).trans (B.b52 k)
theorem l53 : ∀ k, View.ld x5 (Rect.unit (s := S8x1024) ![3, 0] ![1, 1024] inb_S8x1024_S1x1024_3_0) (ix2 0 k) = ((d.gq k : ℝ) : EReal) :=
  fun k => (ld2 x5 3 0 _ 0 k 3 k rfl (Nat.zero_add _).symm).trans (B.b53 k)
theorem l6_0 : ∀ j k, View.ld x6 (Rect.unit (s := S2816x1024) ![0, 0] ![1024, 1024] inb_S2816x1024_S1024x1024_0_0) (ix2 j k) = ((d.WG k (J0 j) : ℝ) : EReal) :=
  fun j k => (ld2 x6 0 0 _ j k (J0 j) k (Nat.zero_add _).symm (Nat.zero_add _).symm).trans (B.b6 (J0 j) k)
theorem l7_0 : ∀ j k, View.ld x7 (Rect.unit (s := S2816x1024) ![0, 0] ![1024, 1024] inb_S2816x1024_S1024x1024_0_0) (ix2 j k) = ((d.WU k (J0 j) : ℝ) : EReal) :=
  fun j k => (ld2 x7 0 0 _ j k (J0 j) k (Nat.zero_add _).symm (Nat.zero_add _).symm).trans (B.b7 (J0 j) k)
theorem l8_0 : ∀ j k, View.ld x8 (Rect.unit (s := S2816x1024) ![0, 0] ![1024, 1024] inb_S2816x1024_S1024x1024_0_0) (ix2 j k) = ((d.WD (J0 j) k : ℝ) : EReal) :=
  fun j k => (ld2 x8 0 0 _ j k (J0 j) k (Nat.zero_add _).symm (Nat.zero_add _).symm).trans (B.b8 (J0 j) k)
theorem l6_1 : ∀ j k, View.ld x6 (Rect.unit (s := S2816x1024) ![1024, 0] ![1024, 1024] inb_S2816x1024_S1024x1024_1024_0) (ix2 j k) = ((d.WG k (J1 j) : ℝ) : EReal) :=
  fun j k => (ld2 x6 1024 0 _ j k (J1 j) k rfl (Nat.zero_add _).symm).trans (B.b6 (J1 j) k)
theorem l7_1 : ∀ j k, View.ld x7 (Rect.unit (s := S2816x1024) ![1024, 0] ![1024, 1024] inb_S2816x1024_S1024x1024_1024_0) (ix2 j k) = ((d.WU k (J1 j) : ℝ) : EReal) :=
  fun j k => (ld2 x7 1024 0 _ j k (J1 j) k rfl (Nat.zero_add _).symm).trans (B.b7 (J1 j) k)
theorem l8_1 : ∀ j k, View.ld x8 (Rect.unit (s := S2816x1024) ![1024, 0] ![1024, 1024] inb_S2816x1024_S1024x1024_1024_0) (ix2 j k) = ((d.WD (J1 j) k : ℝ) : EReal) :=
  fun j k => (ld2 x8 1024 0 _ j k (J1 j) k rfl (Nat.zero_add _).symm).trans (B.b8 (J1 j) k)
theorem l6_2 : ∀ j k, View.ld x6 (Rect.unit (s := S2816x1024) ![2048, 0] ![768, 1024] inb_S2816x1024_S768x1024_2048_0) (ix2 j k) = ((d.WG k (J2 j) : ℝ) : EReal) :=
  fun j k => (ld2 x6 2048 0 _ j k (J2 j) k rfl (Nat.zero_add _).symm).trans (B.b6 (J2 j) k)
theorem l7_2 : ∀ j k, View.ld x7 (Rect.unit (s := S2816x1024) ![2048, 0] ![768, 1024] inb_S2816x1024_S768x1024_2048_0) (ix2 j k) = ((d.WU k (J2 j) : ℝ) : EReal) :=
  fun j k => (ld2 x7 2048 0 _ j k (J2 j) k rfl (Nat.zero_add _).symm).trans (B.b7 (J2 j) k)
theorem l8_2 : ∀ j k, View.ld x8 (Rect.unit (s := S2816x1024) ![2048, 0] ![768, 1024] inb_S2816x1024_S768x1024_2048_0) (ix2 j k) = ((d.WD (J2 j) k : ℝ) : EReal) :=
  fun j k => (ld2 x8 2048 0 _ j k (J2 j) k rfl (Nat.zero_add _).symm).trans (B.b8 (J2 j) k)

end Loads

/-- The last product's sum starts from zeros. -/
theorem pay6_apply (r : Fin 256) (k : Fin 1024) : k0_pay6 (F := Ideal) (ix2 r k) = ((0 : ℝ) : EReal) := by
  pointwise [k0_pay6]
  exact EReal.coe_zero.symm

section Out

variable (c : Dev nD) (i : grid0.Coords) (arg1 : Memref sig .tc .vmem S256x512 .bf16) (h1 : arg1.IsWhole) (arg2 : Memref sig .tc .vmem S256x512
  .bf16) (h2 : arg2.IsWhole) (arg3 : Memref sig .tc .vmem S256x1024 .f32) (h3 : arg3.IsWhole) (arg4 : Memref sig .tc .vmem S1024x1024
  .bf16) (h4 : arg4.IsWhole) (arg5 : Memref sig .tc .vmem S8x1024 .f32) (h5 : arg5.IsWhole) (arg6 : Memref sig .tc .vmem S8x1024 .f32)
  (h6 : arg6.IsWhole) (arg7 : Memref sig .tc .vmem S2816x1024 .bf16) (h7 : arg7.IsWhole) (arg8 : Memref sig .tc .vmem S2816x1024 .bf16)
  (h8 : arg8.IsWhole) (arg9 : Memref sig .tc .vmem S2816x1024 .bf16) (h9 : arg9.IsWhole) (arg10 : Memref sig .tc .vmem S256x1024 .f32)
  (h10 : arg10.IsWhole) (arg11 : Memref sig .tc .vmem S256x1024 .f32) (h11 : arg11.IsWhole) (arg12 : Memref sig .tc .vmem S256x1024
  .bf16) (h12 : arg12.IsWhole) (arg13 : Memref sig .tc .vmem S256x2816 .bf16) (h13 : arg13.IsWhole) (arg14 : Memref sig .tc .vmem
  S256x2816 .bf16) (h14 : arg14.IsWhole) (arg15 : Memref sig .tc .vmem S256x2816 .bf16) (h15 : arg15.IsWhole) (arg16 : Memref sig .tc
  .vmem S256x1024 .f32) (h16 : arg16.IsWhole) (arg17 : Memref sig .tc .vmem S256x1024 .f32) (h17 : arg17.IsWhole)
  (x0 : Vec Ideal S256x512 .bf16) (x1 : Vec Ideal S256x512 .bf16) (x2 : Vec Ideal S256x1024 .f32) (x3 : Vec Ideal S1024x1024 .bf16) (x4 :
  Vec Ideal S8x1024 .f32) (x5 : Vec Ideal S8x1024 .f32) (x6 : Vec Ideal S2816x1024 .bf16) (x7 : Vec Ideal S2816x1024 .bf16) (x8 : Vec
  Ideal S2816x1024 .bf16)
  {d : Fwd} {t : Fin 256 → Fin 8192} (B : Blk d t x0 x1 x2 x3 x4 x5 x6 x7 x8)
include B

theorem out_A_9 (r : Fin 256) (k : Fin 1024) :
    out0_A_9 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix2 r k) = ((d.mix (t r) k : ℝ) : EReal) := by
  unfold out0_A_9
  unfold kernelRun0_A; dsimp only; sl_unfold_words
  simp only [View.readAt_eq_ld, h1.read_unread, h2.read_unread, h3.read_unread, h4.read_unread, h5.read_unread, h6.read_unread, h7.read_unread, h8.read_unread, h9.read_unread]
  refine (hit _ _ _ _ _ _ _ _ _ r k (Nat.zero_add _).symm (Nat.zero_add _).symm).trans ?_
  exact pay2_apply (l0 B) (l3lo B) (l1 B) (l3hi B) r k

theorem out_A_10 (r : Fin 256) (k : Fin 1024) :
    out0_A_10 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix2 r k) = ((d.x1 (t r) k : ℝ) : EReal) := by
  unfold out0_A_10
  unfold kernelRun0_A; dsimp only; sl_unfold_words
  simp only [View.readAt_eq_ld, h1.read_unread, h2.read_unread, h3.read_unread, h4.read_unread, h5.read_unread, h6.read_unread, h7.read_unread, h8.read_unread, h9.read_unread]
  refine (hit _ _ _ _ _ _ _ _ _ r k (Nat.zero_add _).symm (Nat.zero_add _).symm).trans ?_
  exact pay3_apply (l0 B) (l3lo B) (l1 B) (l3hi B) (l2 B) (l42 B) (l51 B) r k

theorem out_A_11 (r : Fin 256) (k : Fin 1024) :
    out0_A_11 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix2 r k) = ((d.h (t r) k : ℝ) : EReal) := by
  unfold out0_A_11
  unfold kernelRun0_A; dsimp only; sl_unfold_words
  simp only [View.readAt_eq_ld, h1.read_unread, h2.read_unread, h3.read_unread, h4.read_unread, h5.read_unread, h6.read_unread, h7.read_unread, h8.read_unread, h9.read_unread]
  refine (hit _ _ _ _ _ _ _ _ _ r k (Nat.zero_add _).symm (Nat.zero_add _).symm).trans ?_
  exact pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) r k

theorem out_A_12 (r : Fin 256) (j : Fin 2816) :
    out0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix2 r j) = ((d.act (t r) j : ℝ) : EReal) := by
  unfold out0_A_12
  unfold kernelRun0_A; dsimp only; sl_unfold_words
  simp only [View.readAt_eq_ld, h1.read_unread, h2.read_unread, h3.read_unread, h4.read_unread, h5.read_unread, h6.read_unread, h7.read_unread, h8.read_unread, h9.read_unread]
  refine three (e := .bf16) _ _ _ _ _ _ _ _ (fun j => ((d.act (t r) j : ℝ) : EReal)) r ?_ ?_ ?_ j
  · exact pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B) r
  · exact pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B) r
  · exact pay26_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_2 B) (l7_2 B) r

theorem out_A_13 (r : Fin 256) (j : Fin 2816) :
    out0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix2 r j) = ((d.dga (t r) j : ℝ) : EReal) := by
  unfold out0_A_13
  unfold kernelRun0_A; dsimp only; sl_unfold_words
  simp only [View.readAt_eq_ld, h1.read_unread, h2.read_unread, h3.read_unread, h4.read_unread, h5.read_unread, h6.read_unread, h7.read_unread, h8.read_unread, h9.read_unread]
  refine three (e := .bf16) _ _ _ _ _ _ _ _ (fun j => ((d.dga (t r) j : ℝ) : EReal)) r ?_ ?_ ?_ j
  · exact pay12_apply (pay7_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B)) (pay8_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l7_0 B)) (pay9_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B)) r
  · exact pay20_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B) r
  · exact pay27_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_2 B) (l7_2 B) r

theorem out_A_14 (r : Fin 256) (j : Fin 2816) :
    out0_A_14 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix2 r j) = ((d.dgb (t r) j : ℝ) : EReal) := by
  unfold out0_A_14
  unfold kernelRun0_A; dsimp only; sl_unfold_words
  simp only [View.readAt_eq_ld, h1.read_unread, h2.read_unread, h3.read_unread, h4.read_unread, h5.read_unread, h6.read_unread, h7.read_unread, h8.read_unread, h9.read_unread]
  refine three (e := .bf16) _ _ _ _ _ _ _ _ (fun j => ((d.dgb (t r) j : ℝ) : EReal)) r ?_ ?_ ?_ j
  · exact pay13_apply (pay10_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B)) r
  · exact pay21_apply (pay18_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B)) r
  · exact pay28_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_2 B) r

theorem out_A_15 (r : Fin 256) (k : Fin 1024) :
    out0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix2 r k) = ((d.f (t r) k : ℝ) : EReal) := by
  unfold out0_A_15
  unfold kernelRun0_A; dsimp only; sl_unfold_words
  simp only [View.readAt_eq_ld, h1.read_unread, h2.read_unread, h3.read_unread, h4.read_unread, h5.read_unread, h6.read_unread, h7.read_unread, h8.read_unread, h9.read_unread]
  refine (hit _ _ _ _ _ _ _ _ _ r k (Nat.zero_add _).symm (Nat.zero_add _).symm).trans ?_
  exact pay29_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (pay14_apply pay6_apply (pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B)) (l8_0 B)) (pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B)) (l8_1 B) (l6_2 B) (l7_2 B) (l8_2 B) r k

theorem out_A_16 (r : Fin 256) (k : Fin 1024) :
    out0_A_16 c i arg1 h1 arg2 h2 arg3 h3 arg4 h4 arg5 h5 arg6 h6 arg7 h7 arg8 h8 arg9 h9 arg10 h10 arg11 h11 arg12 h12 arg13 h13 arg14 h14 arg15 h15 arg16 h16 arg17 h17 x0 x1 x2 x3 x4 x5 x6 x7 x8 (ix2 r k) = ((d.y (t r) k : ℝ) : EReal) := by
  unfold out0_A_16
  unfold kernelRun0_A; dsimp only; sl_unfold_words
  simp only [View.readAt_eq_ld, h1.read_unread, h2.read_unread, h3.read_unread, h4.read_unread, h5.read_unread, h6.read_unread, h7.read_unread, h8.read_unread, h9.read_unread]
  refine (hit _ _ _ _ _ _ _ _ _ r k (Nat.zero_add _).symm (Nat.zero_add _).symm).trans ?_
  exact pay1_apply (pay3_apply (l0 B) (l3lo B) (l1 B) (l3hi B) (l2 B) (l42 B) (l51 B)) (pay29_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (pay14_apply pay6_apply (pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B)) (l8_0 B)) (pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B)) (l8_1 B) (l6_2 B) (l7_2 B) (l8_2 B)) (l45 B) (l53 B) r k

end Out

end Cert.FwdIdeal.Blocks
-- ==== Proof.Fwd.Arrays.lean ====
/-
  What the forward kernel leaves in its eight result arrays, from real arrays: a block of 256 rows at each point.
-/
module

public import proofs.«01_k».proof.Proof.Fwd.Block
public import proofs.«01_k».proof.Proof.Gen.FwdIdeal.Value
public import Idealize.ShloMosaic.Lib.StableHlo.ReadAt

@[expose] public section

set_option maxRecDepth 16384

noncomputable section

open Idealize.ShloMosaic Idealize.ShloMosaic.TcCoe Idealize.SL.Sem

namespace Cert.FwdIdeal.Blocks

open Cert.FwdIdeal Cert.FwdIdeal.Gen Cert.FwdIdeal.Value Cert.Proof.Net

variable (m : (ℓ : Loc nD τ sig) → Buf (Elt Ideal) ℓ) (c : Dev nD) (d : Fwd)

/-- The arrays that the kernel is called with hold these real numbers. -/
structure Entry : Prop where
  e0 : ∀ t k, V m c main_v1 (ix2 t k) = ((d.A t k : ℝ) : EReal)
  e1 : ∀ t k, V m c main_v2 (ix2 t k) = ((d.P t k : ℝ) : EReal)
  e2 : ∀ t k, V m c main_arg2 (ix2 t k) = ((d.X t k : ℝ) : EReal)
  e3 : ∀ k n, V m c main_v3 (ix2 k n) = ((d.WO k n : ℝ) : EReal)
  e42 : ∀ k, V m c main_v12 (ix2 2 k) = ((d.gt k : ℝ) : EReal)
  e43 : ∀ k, V m c main_v12 (ix2 3 k) = ((d.sh k : ℝ) : EReal)
  e44 : ∀ k, V m c main_v12 (ix2 4 k) = ((d.sc k : ℝ) : EReal)
  e45 : ∀ k, V m c main_v12 (ix2 5 k) = ((d.ga k : ℝ) : EReal)
  e51 : ∀ k, V m c main_v19 (ix2 1 k) = ((d.gm k : ℝ) : EReal)
  e52 : ∀ k, V m c main_v19 (ix2 2 k) = ((d.gp k : ℝ) : EReal)
  e53 : ∀ k, V m c main_v19 (ix2 3 k) = ((d.gq k : ℝ) : EReal)
  e6 : ∀ j k, V m c main_v21 (ix2 j k) = ((d.WG k j : ℝ) : EReal)
  e7 : ∀ j k, V m c main_v23 (ix2 j k) = ((d.WU k j : ℝ) : EReal)
  e8 : ∀ j k, V m c main_v24 (ix2 j k) = ((d.WD j k : ℝ) : EReal)

/-- The program's arguments are these real numbers. -/
structure Args : Prop where
  r0 : ∀ t k, m (c, Proc.devRef .tc main_arg0) (ix2 t k) = ((d.A t k : ℝ) : EReal)
  r1 : ∀ t k, m (c, Proc.devRef .tc main_arg1) (ix2 t k) = ((d.P t k : ℝ) : EReal)
  r2 : ∀ t k, m (c, Proc.devRef .tc main_arg2) (ix2 t k) = ((d.X t k : ℝ) : EReal)
  r3 : ∀ t k, m (c, Proc.devRef .tc main_arg3) (ix2 t k) = ((d.WO t k : ℝ) : EReal)
  r4 : ∀ k, m (c, Proc.devRef .tc main_arg4) (ix1 k) = ((d.gm k : ℝ) : EReal)
  r5 : ∀ k, m (c, Proc.devRef .tc main_arg5) (ix1 k) = ((d.gt k : ℝ) : EReal)
  r6 : ∀ k, m (c, Proc.devRef .tc main_arg6) (ix1 k) = ((d.gp k : ℝ) : EReal)
  r7 : ∀ k, m (c, Proc.devRef .tc main_arg7) (ix1 k) = ((d.gq k : ℝ) : EReal)
  r8 : ∀ k, m (c, Proc.devRef .tc main_arg8) (ix1 k) = ((d.sh k : ℝ) : EReal)
  r9 : ∀ k, m (c, Proc.devRef .tc main_arg9) (ix1 k) = ((d.sc k : ℝ) : EReal)
  r10 : ∀ k, m (c, Proc.devRef .tc main_arg10) (ix1 k) = ((d.ga k : ℝ) : EReal)
  r11 : ∀ t k, m (c, Proc.devRef .tc main_arg11) (ix2 t k) = ((d.WG t k : ℝ) : EReal)
  r12 : ∀ t k, m (c, Proc.devRef .tc main_arg12) (ix2 t k) = ((d.WU t k : ℝ) : EReal)
  r13 : ∀ t k, m (c, Proc.devRef .tc main_arg13) (ix2 t k) = ((d.WD t k : ℝ) : EReal)

variable {m c d} in
/-- The host's casts, transposes and packed rows hand the kernel the arguments' numbers. -/
theorem entry (R : Args m c d) : Entry m c d where
  e0 t k := by
    unfold V
    after_reads_at
    exact R.r0 t k
  e1 t k := by
    unfold V
    after_reads_at
    exact R.r1 t k
  e2 t k := by rw [V_main_arg2]; exact R.r2 t k
  e3 k n := by
    unfold V
    after_reads_at
    exact R.r3 k n
  e42 k := by
    unfold V
    after_reads_at
    after_reads_at
    exact R.r5 k
  e43 k := by
    unfold V
    after_reads_at
    after_reads_at
    exact R.r8 k
  e44 k := by
    unfold V
    after_reads_at
    after_reads_at
    exact R.r9 k
  e45 k := by
    unfold V
    after_reads_at
    after_reads_at
    exact R.r10 k
  e51 k := by
    unfold V
    after_reads_at
    after_reads_at
    exact R.r4 k
  e52 k := by
    unfold V
    after_reads_at
    after_reads_at
    exact R.r6 k
  e53 k := by
    unfold V
    after_reads_at
    after_reads_at
    exact R.r7 k
  e6 j k := by
    unfold V
    after_reads_at
    exact R.r11 k j
  e7 j k := by
    unfold V
    after_reads_at
    exact R.r12 k j
  e8 j k := by
    unfold V
    after_reads_at
    exact R.r13 j k

theorem size : cfg0.N = 32 := N_0

/-- Row `r` of the block that point `t` works on. -/
def row (t : Fin cfg0.N) (r : Fin 256) : Fin 8192 := ⟨256 * t.val + r.val, by have := t.isLt; have := size; omega⟩

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i9 : ∀ t : Fin cfg0.N, win0_9.index t = ![t.val, 0] := by decide +kernel
theorem i10 : ∀ t : Fin cfg0.N, win0_10.index t = ![t.val, 0] := by decide +kernel
theorem i11 : ∀ t : Fin cfg0.N, win0_11.index t = ![t.val, 0] := by decide +kernel
theorem i12 : ∀ t : Fin cfg0.N, win0_12.index t = ![t.val, 0] := by decide +kernel
theorem i13 : ∀ t : Fin cfg0.N, win0_13.index t = ![t.val, 0] := by decide +kernel
theorem i14 : ∀ t : Fin cfg0.N, win0_14.index t = ![t.val, 0] := by decide +kernel
theorem i15 : ∀ t : Fin cfg0.N, win0_15.index t = ![t.val, 0] := by decide +kernel
theorem i16 : ∀ t : Fin cfg0.N, win0_16.index t = ![t.val, 0] := by decide +kernel
theorem i3 : ∀ t : Fin cfg0.N, win0_3.index t = ![0, 0] := by decide +kernel
theorem i4 : ∀ t : Fin cfg0.N, win0_4.index t = ![0, 0] := by decide +kernel
theorem i5 : ∀ t : Fin cfg0.N, win0_5.index t = ![0, 0] := by decide +kernel
theorem i6 : ∀ t : Fin cfg0.N, win0_6.index t = ![0, 0] := by decide +kernel
theorem i7 : ∀ t : Fin cfg0.N, win0_7.index t = ![0, 0] := by decide +kernel
theorem i8 : ∀ t : Fin cfg0.N, win0_8.index t = ![0, 0] := by decide +kernel

theorem blk0 (t : Fin cfg0.N) (r : Fin 256) (k : Fin 512) : iblk m c 0 t (ix2 r k) = V m c main_v1 (ix2 (row t r) k) := by
  unfold row
  blk_simp [iblk]
  refine congrArg _ ?_
  blk_ext [i0]

theorem blk1 (t : Fin cfg0.N) (r : Fin 256) (k : Fin 512) : iblk m c 1 t (ix2 r k) = V m c main_v2 (ix2 (row t r) k) := by
  unfold row
  blk_simp [iblk]
  refine congrArg _ ?_
  blk_ext [i1]

theorem blk2 (t : Fin cfg0.N) (r : Fin 256) (k : Fin 1024) : iblk m c 2 t (ix2 r k) = V m c main_arg2 (ix2 (row t r) k) := by
  unfold row
  blk_simp [iblk]
  refine congrArg _ ?_
  blk_ext [i2]

theorem blk3 (t : Fin cfg0.N) (r : Fin 1024) (k : Fin 1024) : iblk m c 3 t (ix2 r k) = V m c main_v3 (ix2 r k) := by
  blk_simp [iblk]
  refine congrArg _ ?_
  blk_ext [i3]

theorem blk4 (t : Fin cfg0.N) (r : Fin 8) (k : Fin 1024) : iblk m c 4 t (ix2 r k) = V m c main_v12 (ix2 r k) := by
  blk_simp [iblk]
  refine congrArg _ ?_
  blk_ext [i4]

theorem blk5 (t : Fin cfg0.N) (r : Fin 8) (k : Fin 1024) : iblk m c 5 t (ix2 r k) = V m c main_v19 (ix2 r k) := by
  blk_simp [iblk]
  refine congrArg _ ?_
  blk_ext [i5]

theorem blk6 (t : Fin cfg0.N) (r : Fin 2816) (k : Fin 1024) : iblk m c 6 t (ix2 r k) = V m c main_v21 (ix2 r k) := by
  blk_simp [iblk]
  refine congrArg _ ?_
  blk_ext [i6]

theorem blk7 (t : Fin cfg0.N) (r : Fin 2816) (k : Fin 1024) : iblk m c 7 t (ix2 r k) = V m c main_v23 (ix2 r k) := by
  blk_simp [iblk]
  refine congrArg _ ?_
  blk_ext [i7]

theorem blk8 (t : Fin cfg0.N) (r : Fin 2816) (k : Fin 1024) : iblk m c 8 t (ix2 r k) = V m c main_v24 (ix2 r k) := by
  blk_simp [iblk]
  refine congrArg _ ?_
  blk_ext [i8]

variable {m c d} (E : Entry m c d)
include E

/-- The blocks of a point, in real numbers. -/
theorem blks (t : Fin cfg0.N) : Blk d (row t) (iblk m c 0 t) (iblk m c 1 t) (iblk m c 2 t) (iblk m c 3 t) (iblk m c 4 t) (iblk m c 5 t)
    (iblk m c 6 t) (iblk m c 7 t) (iblk m c 8 t) where
  b0 r k := (blk0 m c t r k).trans (E.e0 _ _)
  b1 r k := (blk1 m c t r k).trans (E.e1 _ _)
  b2 r k := (blk2 m c t r k).trans (E.e2 _ _)
  b3 k n := (blk3 m c t k n).trans (E.e3 _ _)
  b42 k := (blk4 m c t 2 k).trans (E.e42 _)
  b43 k := (blk4 m c t 3 k).trans (E.e43 _)
  b44 k := (blk4 m c t 4 k).trans (E.e44 _)
  b45 k := (blk4 m c t 5 k).trans (E.e45 _)
  b51 k := (blk5 m c t 1 k).trans (E.e51 _)
  b52 k := (blk5 m c t 2 k).trans (E.e52 _)
  b53 k := (blk5 m c t 3 k).trans (E.e53 _)
  b6 j k := (blk6 m c t j k).trans (E.e6 _ _)
  b7 j k := (blk7 m c t j k).trans (E.e7 _ _)
  b8 j k := (blk8 m c t j k).trans (E.e8 _ _)

theorem out9 (t : Fin cfg0.N) (r : Fin 256) (k : Fin 1024) : (outsAt0 m c t).1 (ix2 r k) = ((d.mix (row t r) k : ℝ) : EReal) := by
  unfold outsAt0; dsimp only; rw [out_A_9 (B := blks E t)]

theorem out10 (t : Fin cfg0.N) (r : Fin 256) (k : Fin 1024) : (outsAt0 m c t).2.1 (ix2 r k) = ((d.x1 (row t r) k : ℝ) : EReal) := by
  unfold outsAt0; dsimp only; rw [out_A_10 (B := blks E t)]

theorem out11 (t : Fin cfg0.N) (r : Fin 256) (k : Fin 1024) : (outsAt0 m c t).2.2.1 (ix2 r k) = ((d.h (row t r) k : ℝ) : EReal) := by
  unfold outsAt0; dsimp only; rw [out_A_11 (B := blks E t)]

theorem out12 (t : Fin cfg0.N) (r : Fin 256) (k : Fin 2816) : (outsAt0 m c t).2.2.2.1 (ix2 r k) = ((d.act (row t r) k : ℝ) : EReal) := by
  unfold outsAt0; dsimp only; rw [out_A_12 (B := blks E t)]

theorem out13 (t : Fin cfg0.N) (r : Fin 256) (k : Fin 2816) : (outsAt0 m c t).2.2.2.2.1 (ix2 r k) = ((d.dga (row t r) k : ℝ) : EReal) := by
  unfold outsAt0; dsimp only; rw [out_A_13 (B := blks E t)]

theorem out14 (t : Fin cfg0.N) (r : Fin 256) (k : Fin 2816) : (outsAt0 m c t).2.2.2.2.2.1 (ix2 r k) = ((d.dgb (row t r) k : ℝ) : EReal) := by
  unfold outsAt0; dsimp only; rw [out_A_14 (B := blks E t)]

theorem out15 (t : Fin cfg0.N) (r : Fin 256) (k : Fin 1024) : (outsAt0 m c t).2.2.2.2.2.2.1 (ix2 r k) = ((d.f (row t r) k : ℝ) : EReal) := by
  unfold outsAt0; dsimp only; rw [out_A_15 (B := blks E t)]

theorem out16 (t : Fin cfg0.N) (r : Fin 256) (k : Fin 1024) : (outsAt0 m c t).2.2.2.2.2.2.2 (ix2 r k) = ((d.y (row t r) k : ℝ) : EReal) := by
  unfold outsAt0; dsimp only; rw [out_A_16 (B := blks E t)]

omit E

/-! The result arrays. -/

def G9 (d : Fwd) : S8192x1024.Idx → EReal := fun y => ((d.mix (y 0) (y 1) : ℝ) : EReal)
def G10 (d : Fwd) : S8192x1024.Idx → EReal := fun y => ((d.x1 (y 0) (y 1) : ℝ) : EReal)
def G11 (d : Fwd) : S8192x1024.Idx → EReal := fun y => ((d.h (y 0) (y 1) : ℝ) : EReal)
def G12 (d : Fwd) : S8192x2816.Idx → EReal := fun y => ((d.act (y 0) (y 1) : ℝ) : EReal)
def G13 (d : Fwd) : S8192x2816.Idx → EReal := fun y => ((d.dga (y 0) (y 1) : ℝ) : EReal)
def G14 (d : Fwd) : S8192x2816.Idx → EReal := fun y => ((d.dgb (y 0) (y 1) : ℝ) : EReal)
def G15 (d : Fwd) : S8192x1024.Idx → EReal := fun y => ((d.f (y 0) (y 1) : ℝ) : EReal)
def G16 (d : Fwd) : S8192x1024.Idx → EReal := fun y => ((d.y (y 0) (y 1) : ℝ) : EReal)

include E

theorem final9 : (dats m 0 c).arrAt 9 cfg0.N = G9 d := by
  refine (dats m 0 c).arrAt_eq_of_covers 9 (G9 d) (by decide +kernel) fun t hf y => ?_
  blk_simp
  rw [after0_9]
  idx_vars y
  refine (out9 E t y0 y1).trans ?_
  have e : ((View.whole main_v25_0).slice (win0_9.rect t)).emb (ix2 y0 y1) = ix2 (row t y0) y1 := by
    unfold row
    blk_ext [i9]
  rw [e]
  rfl

theorem final10 : (dats m 0 c).arrAt 10 cfg0.N = G10 d := by
  refine (dats m 0 c).arrAt_eq_of_covers 10 (G10 d) (by decide +kernel) fun t hf y => ?_
  blk_simp
  rw [after0_10]
  idx_vars y
  refine (out10 E t y0 y1).trans ?_
  have e : ((View.whole main_v25_1).slice (win0_10.rect t)).emb (ix2 y0 y1) = ix2 (row t y0) y1 := by
    unfold row
    blk_ext [i10]
  rw [e]
  rfl

theorem final11 : (dats m 0 c).arrAt 11 cfg0.N = G11 d := by
  refine (dats m 0 c).arrAt_eq_of_covers 11 (G11 d) (by decide +kernel) fun t hf y => ?_
  blk_simp
  rw [after0_11]
  idx_vars y
  refine (out11 E t y0 y1).trans ?_
  have e : ((View.whole main_v25_2).slice (win0_11.rect t)).emb (ix2 y0 y1) = ix2 (row t y0) y1 := by
    unfold row
    blk_ext [i11]
  rw [e]
  rfl

theorem final12 : (dats m 0 c).arrAt 12 cfg0.N = G12 d := by
  refine (dats m 0 c).arrAt_eq_of_covers 12 (G12 d) (by decide +kernel) fun t hf y => ?_
  blk_simp
  rw [after0_12]
  idx_vars y
  refine (out12 E t y0 y1).trans ?_
  have e : ((View.whole main_v25_3).slice (win0_12.rect t)).emb (ix2 y0 y1) = ix2 (row t y0) y1 := by
    unfold row
    blk_ext [i12]
  rw [e]
  rfl

theorem final13 : (dats m 0 c).arrAt 13 cfg0.N = G13 d := by
  refine (dats m 0 c).arrAt_eq_of_covers 13 (G13 d) (by decide +kernel) fun t hf y => ?_
  blk_simp
  rw [after0_13]
  idx_vars y
  refine (out13 E t y0 y1).trans ?_
  have e : ((View.whole main_v25_4).slice (win0_13.rect t)).emb (ix2 y0 y1) = ix2 (row t y0) y1 := by
    unfold row
    blk_ext [i13]
  rw [e]
  rfl

theorem final14 : (dats m 0 c).arrAt 14 cfg0.N = G14 d := by
  refine (dats m 0 c).arrAt_eq_of_covers 14 (G14 d) (by decide +kernel) fun t hf y => ?_
  blk_simp
  rw [after0_14]
  idx_vars y
  refine (out14 E t y0 y1).trans ?_
  have e : ((View.whole main_v25_5).slice (win0_14.rect t)).emb (ix2 y0 y1) = ix2 (row t y0) y1 := by
    unfold row
    blk_ext [i14]
  rw [e]
  rfl

theorem final15 : (dats m 0 c).arrAt 15 cfg0.N = G15 d := by
  refine (dats m 0 c).arrAt_eq_of_covers 15 (G15 d) (by decide +kernel) fun t hf y => ?_
  blk_simp
  rw [after0_15]
  idx_vars y
  refine (out15 E t y0 y1).trans ?_
  have e : ((View.whole main_v25_6).slice (win0_15.rect t)).emb (ix2 y0 y1) = ix2 (row t y0) y1 := by
    unfold row
    blk_ext [i15]
  rw [e]
  rfl

theorem final16 : (dats m 0 c).arrAt 16 cfg0.N = G16 d := by
  refine (dats m 0 c).arrAt_eq_of_covers 16 (G16 d) (by decide +kernel) fun t hf y => ?_
  blk_simp
  rw [after0_16]
  idx_vars y
  refine (out16 E t y0 y1).trans ?_
  have e : ((View.whole main_v25_7).slice (win0_16.rect t)).emb (ix2 y0 y1) = ix2 (row t y0) y1 := by
    unfold row
    blk_ext [i16]
  rw [e]
  rfl

end Cert.FwdIdeal.Blocks
-- ==== Proof.Fwd.Reference.lean ====
/-
  The reference's arrays of the output projection and the feed-forward block's forward pass, read at an index over real arguments.
-/
module

public import proofs.«01_k».proof.Proof.Gen.FwdRefIdeal.Read
public import proofs.«01_k».proof.Proof.Net.Forward
public import Idealize.ShloMosaic.Lib.Pointwise

@[expose] public section

set_option maxRecDepth 16384

noncomputable section

open Idealize.ShloMosaic Idealize.ShloMosaic.TcCoe Idealize.SL.Sem

namespace Cert.FwdRefIdeal.Value

open Cert.FwdRefIdeal Cert.FwdRefIdeal.Gen Cert.FwdRefIdeal.Read Cert.Proof Cert.Proof.Net

section

variable (x0 x1 : FVec Ideal S8192x512 .f32) (x2 : FVec Ideal S8192x1024 .f32) (x3 : FVec Ideal S1024x1024 .f32)
  (x4 x5 x6 x7 x8 x9 x10 : FVec Ideal S1024 .f32) (x11 x12 : FVec Ideal S1024x2816 .f32) (x13 : FVec Ideal S2816x1024 .f32) (d : Fwd)

/-- The arguments are these real numbers. -/
structure Reads : Prop where
  r0 : ∀ t k, x0 (ix2 t k) = (d.A t k : EReal)
  r1 : ∀ t k, x1 (ix2 t k) = (d.P t k : EReal)
  r2 : ∀ t k, x2 (ix2 t k) = (d.X t k : EReal)
  r3 : ∀ k n, x3 (ix2 k n) = (d.WO k n : EReal)
  r4 : ∀ k, x4 (ix1 k) = (d.gm k : EReal)
  r5 : ∀ k, x5 (ix1 k) = (d.gt k : EReal)
  r6 : ∀ k, x6 (ix1 k) = (d.gp k : EReal)
  r7 : ∀ k, x7 (ix1 k) = (d.gq k : EReal)
  r8 : ∀ k, x8 (ix1 k) = (d.sh k : EReal)
  r9 : ∀ k, x9 (ix1 k) = (d.sc k : EReal)
  r10 : ∀ k, x10 (ix1 k) = (d.ga k : EReal)
  r11 : ∀ k j, x11 (ix2 k j) = (d.WG k j : EReal)
  r12 : ∀ k j, x12 (ix2 k j) = (d.WU k j : EReal)
  r13 : ∀ j n, x13 (ix2 j n) = (d.WD j n : EReal)

variable {x0 x1 x2 x3 x4 x5 x6 x7 x8 x9 x10 x11 x12 x13 d} (R : Reads x0 x1 x2 x3 x4 x5 x6 x7 x8 x9 x10 x11 x12 x13 d) (t : Fin 8192) (k : Fin 1024) (j : Fin 2816)
include R

omit R in
variable (x0 x1) in
/-- The two inputs side by side. -/
theorem at_lo (i : Fin 512) : val_main_v0 (F := Ideal) x0 x1 (ix2 t (lo i)) = x0 (ix2 t i) := by
  pointwise [val_main_v0]
  rw [dif_pos (show (lo i).val < 512 from i.isLt)]
  rfl

omit R in
variable (x0 x1) in
theorem at_hi (i : Fin 512) : val_main_v0 (F := Ideal) x0 x1 (ix2 t (hi i)) = x1 (ix2 t i) := by
  pointwise [val_main_v0]
  rw [dif_neg (show ¬ (hi i).val < 512 by unfold hi; simp)]
  exact congrArg x1 (congrArg (ix2 t) (Fin.ext (by unfold hi; simp)))

/-- The two inputs side by side are real numbers. -/
theorem at_v0 (i : Fin 1024) : val_main_v0 (F := Ideal) x0 x1 (ix2 t i)
    = (((if h : i.val < 512 then d.A t ⟨i.val, h⟩ else d.P t ⟨i.val - 512, by omega⟩) : ℝ) : EReal) := by
  by_cases h : i.val < 512
  · rw [dif_pos h]
    exact (at_lo x0 x1 t ⟨i.val, h⟩).trans (R.r0 _ _)
  · rw [dif_neg h, ← R.r1]
    refine Eq.trans (congrArg _ (congrArg (ix2 t) (Fin.ext ?_))) (at_hi x0 x1 t ⟨i.val - 512, by omega⟩)
    show i.val = 512 + (i.val - 512)
    omega

theorem at_v1 : val_main_v1 (F := Ideal) x0 x1 x3 (ix2 t k) = ((d.mix t k : ℝ) : EReal) := by
  pointwise [val_main_v1]
  simp only [at_v0 R, R.r3, mul, sum]
  refine congrArg _ ((sum_halves _).trans ?_)
  refine congrArg₂ (· + ·) (Finset.sum_congr rfl fun i _ => ?_) (Finset.sum_congr rfl fun i _ => ?_)
  · rw [dif_pos (show (lo i).val < 512 from i.isLt)]
    rfl
  · rw [dif_neg (show ¬ (hi i).val < 512 by unfold hi; simp)]
    exact congrArg (· * _) (congrArg (d.P t) (Fin.ext (by unfold hi; simp)))

/-- The norm of the projection. -/
theorem at_v8 : val_main_v8 (F := Ideal) x0 x1 x3 (ix2 t 0) = ((var (d.mix t) : ℝ) : EReal) := by
  pointwise [val_main_v8, val_main_v7, val_main_v6, val_main_v5, val_main_v4, val_main_v3, val_main_v2, val_main_cst, val_main_cst_0, val_main_cst_1]
  simp only [at_v1 R, bits_zero, bits_mean, bits_eps, mul, sum, add, div _ _ (show (1024 : ℝ) ≠ 0 by norm_num), zero_add]
  rfl

theorem at_v9 : val_main_v9 (F := Ideal) x0 x1 x3 (ix2 t 0) = ((inv (d.mix t) : ℝ) : EReal) := by
  pointwise [val_main_v9]
  simp only [at_v8 R, rsqrt _ (var_pos _)]
  rfl

theorem at_v11 : val_main_v11 (F := Ideal) x0 x1 x3 (ix2 t k) = ((norm (d.mix t) k : ℝ) : EReal) := by
  pointwise [val_main_v11, val_main_v10]
  simp only [at_v1 R, at_v9 R, mul]
  rfl

theorem at_v18 : val_main_v18 (F := Ideal) x0 x1 x2 x3 x4 x5 (ix2 t k) = ((d.x1 t k : ℝ) : EReal) := by
  pointwise [val_main_v18, val_main_v17, val_main_v16, val_main_v15, val_main_v14, val_main_v13, val_main_v12]
  simp only [at_v11 R, R.r2, R.r4, R.r5, mul, add]
  rfl

/-- The second norm. -/
theorem at_v25 : val_main_v25 (F := Ideal) x0 x1 x2 x3 x4 x5 (ix2 t 0) = ((var (d.x1 t) : ℝ) : EReal) := by
  pointwise [val_main_v25, val_main_v24, val_main_v23, val_main_v22, val_main_v21, val_main_v20, val_main_v19, val_main_cst_2, val_main_cst_3, val_main_cst_4]
  simp only [at_v18 R, bits_zero, bits_mean, bits_eps, mul, sum, add, div _ _ (show (1024 : ℝ) ≠ 0 by norm_num), zero_add]
  rfl

theorem at_v26 : val_main_v26 (F := Ideal) x0 x1 x2 x3 x4 x5 (ix2 t 0) = ((inv (d.x1 t) : ℝ) : EReal) := by
  pointwise [val_main_v26]
  simp only [at_v25 R, rsqrt _ (var_pos _)]
  rfl

theorem at_v28 : val_main_v28 (F := Ideal) x0 x1 x2 x3 x4 x5 (ix2 t k) = ((norm (d.x1 t) k : ℝ) : EReal) := by
  pointwise [val_main_v28, val_main_v27]
  simp only [at_v18 R, at_v26 R, mul]
  rfl

theorem at_v39 : val_main_v39 (F := Ideal) x0 x1 x2 x3 x4 x5 x6 x8 x9 (ix2 t k) = ((d.h t k : ℝ) : EReal) := by
  pointwise [val_main_v39, val_main_v38, val_main_v37, val_main_v36, val_main_v35, val_main_v34, val_main_v33, val_main_v32, val_main_v31, val_main_v30, val_main_v29, val_main_cst_5]
  simp only [at_v28 R, R.r6, R.r8, R.r9, bits_one, mul, add]
  rfl

theorem at_v40 : val_main_v40 (F := Ideal) x0 x1 x2 x3 x4 x5 x6 x8 x9 x11 (ix2 t j) = ((d.a t j : ℝ) : EReal) := by
  pointwise [val_main_v40]
  simp only [at_v39 R, R.r11, mul, sum]
  rfl

theorem at_v41 : val_main_v41 (F := Ideal) x0 x1 x2 x3 x4 x5 x6 x8 x9 x12 (ix2 t j) = ((d.b t j : ℝ) : EReal) := by
  pointwise [val_main_v41]
  simp only [at_v39 R, R.r12, mul, sum]
  rfl

theorem at_v42_2 : val_main_v42_2 (F := Ideal) x0 x1 x2 x3 x4 x5 x6 x8 x9 x11 (ix2 t j) = ((sg (d.a t j) : ℝ) : EReal) := by
  pointwise [val_main_v42_2, val_main_call0_v0, val_main_call0_v1, val_main_call0_cst, val_main_call0_v2, val_main_call0_v3, val_main_call0_cst_0, val_main_call0_v4]
  simp only [at_v40 R, one, neg, exp, add, div _ _ (one_add_exp _)]
  rfl

theorem at_v42_1 : val_main_v42_1 (F := Ideal) x0 x1 x2 x3 x4 x5 x6 x8 x9 x11 (ix2 t j) = ((sg (d.a t j) * (1 - sg (d.a t j)) : ℝ) : EReal) := by
  pointwise [val_main_v42_1, val_main_call0_v7, val_main_call0_v6, val_main_call0_cst_1]
  simp only [at_v42_2 R, one, sub, mul]

theorem at_v42_0 : val_main_v42_0 (F := Ideal) x0 x1 x2 x3 x4 x5 x6 x8 x9 x11 (ix2 t j) = ((d.dgb t j : ℝ) : EReal) := by
  pointwise [val_main_v42_0]
  simp only [at_v40 R, at_v42_2 R, mul]
  rfl

theorem at_v43 : val_main_v43 (F := Ideal) x0 x1 x2 x3 x4 x5 x6 x8 x9 x11 x12 (ix2 t j) = ((d.act t j : ℝ) : EReal) := by
  pointwise [val_main_v43]
  simp only [at_v42_0 R, at_v41 R, mul]
  rfl

theorem at_v44 : val_main_v44 (F := Ideal) x0 x1 x2 x3 x4 x5 x6 x8 x9 x11 x12 x13 (ix2 t k) = ((d.f t k : ℝ) : EReal) := by
  pointwise [val_main_v44]
  simp only [at_v43 R, R.r13, mul, sum]
  rfl

theorem at_v45 : val_main_v45 (F := Ideal) x0 x1 x2 x3 x4 x5 x6 x8 x9 (ix2 t k) = ((d.h t k : ℝ) : EReal) := by
  pointwise [val_main_v45]
  simp only [at_v39 R]

theorem at_v46 : val_main_v46 (F := Ideal) x0 x1 x2 x3 x4 x5 x6 x8 x9 x11 x12 (ix2 t j) = ((d.act t j : ℝ) : EReal) := by
  pointwise [val_main_v46]
  simp only [at_v43 R]

/-- Silu's derivative, as the sum of its two terms. -/
theorem at_v48 : val_main_v48 (F := Ideal) x0 x1 x2 x3 x4 x5 x6 x8 x9 x11 x12 (ix2 t j) = ((d.dga t j : ℝ) : EReal) := by
  pointwise [val_main_v48, val_main_v47, val_main_call1_v2, val_main_call1_v1, val_main_call1_v0]
  simp only [at_v40 R, at_v41 R, at_v42_1 R, at_v42_2 R, mul, add]
  refine congrArg _ ?_
  unfold Fwd.dga dsilu
  ring

theorem at_v49 : val_main_v49 (F := Ideal) x0 x1 x2 x3 x4 x5 x6 x8 x9 x11 (ix2 t j) = ((d.dgb t j : ℝ) : EReal) := by
  pointwise [val_main_v49]
  simp only [at_v42_0 R]

/-- The last norm. -/
theorem at_v56 : val_main_v56 (F := Ideal) x0 x1 x2 x3 x4 x5 x6 x8 x9 x11 x12 x13 (ix2 t 0) = ((var (d.f t) : ℝ) : EReal) := by
  pointwise [val_main_v56, val_main_v55, val_main_v54, val_main_v53, val_main_v52, val_main_v51, val_main_v50, val_main_cst_6, val_main_cst_7, val_main_cst_8]
  simp only [at_v44 R, bits_zero, bits_mean, bits_eps, mul, sum, add, div _ _ (show (1024 : ℝ) ≠ 0 by norm_num), zero_add]
  rfl

theorem at_v57 : val_main_v57 (F := Ideal) x0 x1 x2 x3 x4 x5 x6 x8 x9 x11 x12 x13 (ix2 t 0) = ((inv (d.f t) : ℝ) : EReal) := by
  pointwise [val_main_v57]
  simp only [at_v56 R, rsqrt _ (var_pos _)]
  rfl

theorem at_v59 : val_main_v59 (F := Ideal) x0 x1 x2 x3 x4 x5 x6 x8 x9 x11 x12 x13 (ix2 t k) = ((norm (d.f t) k : ℝ) : EReal) := by
  pointwise [val_main_v59, val_main_v58]
  simp only [at_v44 R, at_v57 R, mul]
  rfl

theorem at_v66 : val_main_v66 (F := Ideal) x0 x1 x2 x3 x4 x5 x6 x7 x8 x9 x10 x11 x12 x13 (ix2 t k) = ((d.y t k : ℝ) : EReal) := by
  pointwise [val_main_v66, val_main_v65, val_main_v64, val_main_v63, val_main_v62, val_main_v61, val_main_v60]
  simp only [at_v18 R, at_v59 R, R.r7, R.r10, mul, add]
  rfl

end

end Cert.FwdRefIdeal.Value
-- ==== Proof.Fwd.Equation.lean ====
/-
  The forward kernel and the reference end with the same eight arrays, where the arguments are finite.
-/
module

public import proofs.«01_k».proof.Proof.Fwd.Arrays
public import proofs.«01_k».proof.Proof.Fwd.Reference
public import proofs.«01_k».proof.Proof.Real
public import proofs.«01_k».proof.Proof.Gen.FwdIdeal.Value
public import proofs.«01_k».proof.Proof.Gen.Pre_fwd_finite
public import proofs.«01_k».proof.Proof.Ffn.Equation
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Proof.Fwd

open Cert.Proof.Net
open Cert.Proof.Ffn (toReal_eq)
open Cert.FwdIdeal.Blocks (G9 G10 G11 G12 G13 G14 G15 G16)

section Arrays

variable (x0 : FVec Ideal Cert.Pre_fwd_finite.S8192x512 .f32) (x1 : FVec Ideal Cert.Pre_fwd_finite.S8192x512 .f32) (x2 : FVec Ideal
    Cert.Pre_fwd_finite.S8192x1024 .f32) (x3 : FVec Ideal Cert.Pre_fwd_finite.S1024x1024 .f32) (x4 : FVec Ideal Cert.Pre_fwd_finite.S1024 .f32)
    (x5 : FVec Ideal Cert.Pre_fwd_finite.S1024 .f32) (x6 : FVec Ideal Cert.Pre_fwd_finite.S1024 .f32) (x7 : FVec Ideal Cert.Pre_fwd_finite.S1024
    .f32) (x8 : FVec Ideal Cert.Pre_fwd_finite.S1024 .f32) (x9 : FVec Ideal Cert.Pre_fwd_finite.S1024 .f32) (x10 : FVec Ideal
    Cert.Pre_fwd_finite.S1024 .f32) (x11 : FVec Ideal Cert.Pre_fwd_finite.S1024x2816 .f32) (x12 : FVec Ideal Cert.Pre_fwd_finite.S1024x2816
    .f32) (x13 : FVec Ideal Cert.Pre_fwd_finite.S2816x1024 .f32)

section Finite

open Cert.Pre_fwd_finite Cert.Pre_fwd_finite.Gen

instance : Subsingleton Cert.Pre_fwd_finite.S_.Idx := ⟨fun a b => funext fun i => i.elim0⟩

/-- The precondition says of each array that its elements are real. -/
theorem finite
    (h : Cert.Pre_fwd_finite.fn (F := Ideal) x0 x1 x2 x3 x4 x5 x6 x7 x8 x9 x10 x11 x12 x13 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀
      i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀
      i, IsReal (x12 i)) ∧ (∀ i, IsReal (x13 i)) := by
  have t13 := congrFun h (fun i => i.elim0)
  obtain ⟨t12, a13⟩ := IntOp.andi_eq_one.1 t13
  obtain ⟨t11, a12⟩ := IntOp.andi_eq_one.1 t12
  obtain ⟨t10, a11⟩ := IntOp.andi_eq_one.1 t11
  obtain ⟨t9, a10⟩ := IntOp.andi_eq_one.1 t10
  obtain ⟨t8, a9⟩ := IntOp.andi_eq_one.1 t9
  obtain ⟨t7, a8⟩ := IntOp.andi_eq_one.1 t8
  obtain ⟨t6, a7⟩ := IntOp.andi_eq_one.1 t7
  obtain ⟨t5, a6⟩ := IntOp.andi_eq_one.1 t6
  obtain ⟨t4, a5⟩ := IntOp.andi_eq_one.1 t5
  obtain ⟨t3, a4⟩ := IntOp.andi_eq_one.1 t4
  obtain ⟨t2, a3⟩ := IntOp.andi_eq_one.1 t3
  obtain ⟨t1, a2⟩ := IntOp.andi_eq_one.1 t2
  obtain ⟨t0, a1⟩ := IntOp.andi_eq_one.1 t1
  exact ⟨fun i => isReal_of_cmp _ (Host.reduce_andi_all _ _ _ _ _ t0 i),
    fun i => isReal_of_cmp _ (Host.reduce_andi_all _ _ _ _ _ a1 i),
    fun i => isReal_of_cmp _ (Host.reduce_andi_all _ _ _ _ _ a2 i),
    fun i => isReal_of_cmp _ (Host.reduce_andi_all _ _ _ _ _ a3 i),
    fun i => isReal_of_cmp _ (Host.reduce_andi_all _ _ _ _ _ a4 i),
    fun i => isReal_of_cmp _ (Host.reduce_andi_all _ _ _ _ _ a5 i),
    fun i => isReal_of_cmp _ (Host.reduce_andi_all _ _ _ _ _ a6 i),
    fun i => isReal_of_cmp _ (Host.reduce_andi_all _ _ _ _ _ a7 i),
    fun i => isReal_of_cmp _ (Host.reduce_andi_all _ _ _ _ _ a8 i),
    fun i => isReal_of_cmp _ (Host.reduce_andi_all _ _ _ _ _ a9 i),
    fun i => isReal_of_cmp _ (Host.reduce_andi_all _ _ _ _ _ a10 i),
    fun i => isReal_of_cmp _ (Host.reduce_andi_all _ _ _ _ _ a11 i),
    fun i => isReal_of_cmp _ (Host.reduce_andi_all _ _ _ _ _ a12 i),
    fun i => isReal_of_cmp _ (Host.reduce_andi_all _ _ _ _ _ a13 i)⟩

end Finite

/-- The real numbers in the arrays. -/
def real (x0 : FVec Ideal Cert.Pre_fwd_finite.S8192x512 .f32) (x1 : FVec Ideal Cert.Pre_fwd_finite.S8192x512 .f32) (x2 : FVec Ideal
    Cert.Pre_fwd_finite.S8192x1024 .f32) (x3 : FVec Ideal Cert.Pre_fwd_finite.S1024x1024 .f32) (x4 : FVec Ideal Cert.Pre_fwd_finite.S1024 .f32)
    (x5 : FVec Ideal Cert.Pre_fwd_finite.S1024 .f32) (x6 : FVec Ideal Cert.Pre_fwd_finite.S1024 .f32) (x7 : FVec Ideal Cert.Pre_fwd_finite.S1024
    .f32) (x8 : FVec Ideal Cert.Pre_fwd_finite.S1024 .f32) (x9 : FVec Ideal Cert.Pre_fwd_finite.S1024 .f32) (x10 : FVec Ideal
    Cert.Pre_fwd_finite.S1024 .f32) (x11 : FVec Ideal Cert.Pre_fwd_finite.S1024x2816 .f32) (x12 : FVec Ideal Cert.Pre_fwd_finite.S1024x2816
    .f32) (x13 : FVec Ideal Cert.Pre_fwd_finite.S2816x1024 .f32) : Fwd where
  A := fun t k => (x0 (ix2 t k)).toReal
  P := fun t k => (x1 (ix2 t k)).toReal
  X := fun t k => (x2 (ix2 t k)).toReal
  WO := fun t k => (x3 (ix2 t k)).toReal
  gm := fun k => (x4 (ix1 k)).toReal
  gt := fun k => (x5 (ix1 k)).toReal
  gp := fun k => (x6 (ix1 k)).toReal
  gq := fun k => (x7 (ix1 k)).toReal
  sh := fun k => (x8 (ix1 k)).toReal
  sc := fun k => (x9 (ix1 k)).toReal
  ga := fun k => (x10 (ix1 k)).toReal
  WG := fun t k => (x11 (ix2 t k)).toReal
  WU := fun t k => (x12 (ix2 t k)).toReal
  WD := fun t k => (x13 (ix2 t k)).toReal

/-- The arrays are their real numbers. -/
theorem reads
    (h : (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀
      i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀
      i, IsReal (x12 i)) ∧ (∀ i, IsReal (x13 i))) :
    Cert.FwdRefIdeal.Value.Reads x0 x1 x2 x3 x4 x5 x6 x7 x8 x9 x10 x11 x12 x13 (real x0 x1 x2 x3 x4 x5 x6 x7 x8 x9 x10 x11 x12 x13) := by
  obtain ⟨h0, h1, h2, h3, h4, h5, h6, h7, h8, h9, h10, h11, h12, h13⟩ := h
  exact ⟨fun t k => toReal_eq (h0 _),
    fun t k => toReal_eq (h1 _),
    fun t k => toReal_eq (h2 _),
    fun t k => toReal_eq (h3 _),
    fun k => toReal_eq (h4 _),
    fun k => toReal_eq (h5 _),
    fun k => toReal_eq (h6 _),
    fun k => toReal_eq (h7 _),
    fun k => toReal_eq (h8 _),
    fun k => toReal_eq (h9 _),
    fun k => toReal_eq (h10 _),
    fun t k => toReal_eq (h11 _),
    fun t k => toReal_eq (h12 _),
    fun t k => toReal_eq (h13 _)⟩

end Arrays

section Equal

open Cert.FwdRefIdeal Cert.FwdRefIdeal.Value Cert.FwdRefIdeal.Read

variable {x0 : FVec Ideal S8192x512 .f32} {x1 : FVec Ideal S8192x512 .f32} {x2 : FVec Ideal S8192x1024 .f32} {x3 : FVec Ideal S1024x1024 .f32} {x4 :
  FVec Ideal S1024 .f32} {x5 : FVec Ideal S1024 .f32} {x6 : FVec Ideal S1024 .f32} {x7 : FVec Ideal S1024 .f32} {x8 : FVec Ideal S1024 .f32}
  {x9 : FVec Ideal S1024 .f32} {x10 : FVec Ideal S1024 .f32} {x11 : FVec Ideal S1024x2816 .f32} {x12 : FVec Ideal S1024x2816 .f32} {x13 : FVec
  Ideal S2816x1024 .f32}
  {d : Fwd} (R : Reads x0 x1 x2 x3 x4 x5 x6 x7 x8 x9 x10 x11 x12 x13 d)
include R

theorem equal9 : val_main_v1 (F := Ideal) x0 x1 x3 = G9 d := by
  funext y
  idx_vars y
  exact at_v1 R y0 y1

theorem equal10 : val_main_v18 (F := Ideal) x0 x1 x2 x3 x4 x5 = G10 d := by
  funext y
  idx_vars y
  exact at_v18 R y0 y1

theorem equal11 : val_main_v45 (F := Ideal) x0 x1 x2 x3 x4 x5 x6 x8 x9 = G11 d := by
  funext y
  idx_vars y
  exact at_v45 R y0 y1

theorem equal12 : val_main_v46 (F := Ideal) x0 x1 x2 x3 x4 x5 x6 x8 x9 x11 x12 = G12 d := by
  funext y
  idx_vars y
  exact at_v46 R y0 y1

theorem equal13 : val_main_v48 (F := Ideal) x0 x1 x2 x3 x4 x5 x6 x8 x9 x11 x12 = G13 d := by
  funext y
  idx_vars y
  exact at_v48 R y0 y1

theorem equal14 : val_main_v49 (F := Ideal) x0 x1 x2 x3 x4 x5 x6 x8 x9 x11 = G14 d := by
  funext y
  idx_vars y
  exact at_v49 R y0 y1

theorem equal15 : val_main_v44 (F := Ideal) x0 x1 x2 x3 x4 x5 x6 x8 x9 x11 x12 x13 = G15 d := by
  funext y
  idx_vars y
  exact at_v44 R y0 y1

theorem equal16 : val_main_v66 (F := Ideal) x0 x1 x2 x3 x4 x5 x6 x7 x8 x9 x10 x11 x12 x13 = G16 d := by
  funext y
  idx_vars y
  exact at_v66 R y0 y1

end Equal

set_option maxHeartbeats 4000000 in
/-- The kernel and the reference end with the same eight arrays. -/
theorem algebraic : Cert.algebraic_FwdIdeal_FwdRefIdeal_pre_fwd_finite := by
  intro m g m' g' hpre hagree
  have hr := fun c : Dev Cert.FwdIdeal.nD => reads _ _ _ _ _ _ _ _ _ _ _ _ _ _ (finite _ _ _ _ _ _ _ _ _ _ _ _ _ _ (hpre c))
  let D : Dev Cert.FwdIdeal.nD → Fwd := fun c => real (m (c, Proc.devRef .tc Cert.FwdIdeal.main_arg0)) (m (c, Proc.devRef .tc Cert.FwdIdeal.main_arg1)) (m (c, Proc.devRef .tc
    Cert.FwdIdeal.main_arg2)) (m (c, Proc.devRef .tc Cert.FwdIdeal.main_arg3)) (m (c, Proc.devRef .tc Cert.FwdIdeal.main_arg4)) (m (c,
    Proc.devRef .tc Cert.FwdIdeal.main_arg5)) (m (c, Proc.devRef .tc Cert.FwdIdeal.main_arg6)) (m (c, Proc.devRef .tc Cert.FwdIdeal.main_arg7))
    (m (c, Proc.devRef .tc Cert.FwdIdeal.main_arg8)) (m (c, Proc.devRef .tc Cert.FwdIdeal.main_arg9)) (m (c, Proc.devRef .tc
    Cert.FwdIdeal.main_arg10)) (m (c, Proc.devRef .tc Cert.FwdIdeal.main_arg11)) (m (c, Proc.devRef .tc Cert.FwdIdeal.main_arg12)) (m (c,
    Proc.devRef .tc Cert.FwdIdeal.main_arg13))
  have hk : ∀ c, Cert.FwdIdeal.Blocks.Args m c (D c) := fun c => ⟨(hr c).r0, (hr c).r1, (hr c).r2, (hr c).r3, (hr c).r4, (hr c).r5, (hr c).r6, (hr c).r7, (hr c).r8, (hr c).r9, (hr c).r10, (hr c).r11, (hr c).r12, (hr c).r13⟩
  have hv : ∀ c : Dev Cert.FwdRefIdeal.nD, Cert.FwdRefIdeal.Value.Reads (m' ((c.tc : Thread Cert.FwdRefIdeal.nD Cert.FwdRefIdeal.τ).loc Cert.FwdRefIdeal.main_arg0)) (m' ((c.tc : Thread Cert.FwdRefIdeal.nD
      Cert.FwdRefIdeal.τ).loc Cert.FwdRefIdeal.main_arg1)) (m' ((c.tc : Thread Cert.FwdRefIdeal.nD Cert.FwdRefIdeal.τ).loc
      Cert.FwdRefIdeal.main_arg2)) (m' ((c.tc : Thread Cert.FwdRefIdeal.nD Cert.FwdRefIdeal.τ).loc Cert.FwdRefIdeal.main_arg3)) (m' ((c.tc :
      Thread Cert.FwdRefIdeal.nD Cert.FwdRefIdeal.τ).loc Cert.FwdRefIdeal.main_arg4)) (m' ((c.tc : Thread Cert.FwdRefIdeal.nD
      Cert.FwdRefIdeal.τ).loc Cert.FwdRefIdeal.main_arg5)) (m' ((c.tc : Thread Cert.FwdRefIdeal.nD Cert.FwdRefIdeal.τ).loc
      Cert.FwdRefIdeal.main_arg6)) (m' ((c.tc : Thread Cert.FwdRefIdeal.nD Cert.FwdRefIdeal.τ).loc Cert.FwdRefIdeal.main_arg7)) (m' ((c.tc :
      Thread Cert.FwdRefIdeal.nD Cert.FwdRefIdeal.τ).loc Cert.FwdRefIdeal.main_arg8)) (m' ((c.tc : Thread Cert.FwdRefIdeal.nD
      Cert.FwdRefIdeal.τ).loc Cert.FwdRefIdeal.main_arg9)) (m' ((c.tc : Thread Cert.FwdRefIdeal.nD Cert.FwdRefIdeal.τ).loc
      Cert.FwdRefIdeal.main_arg10)) (m' ((c.tc : Thread Cert.FwdRefIdeal.nD Cert.FwdRefIdeal.τ).loc Cert.FwdRefIdeal.main_arg11)) (m' ((c.tc :
      Thread Cert.FwdRefIdeal.nD Cert.FwdRefIdeal.τ).loc Cert.FwdRefIdeal.main_arg12)) (m' ((c.tc : Thread Cert.FwdRefIdeal.nD
      Cert.FwdRefIdeal.τ).loc Cert.FwdRefIdeal.main_arg13)) (D c) := fun c => by
    have h := hr c
    exact ⟨fun t k => (congrFun ((hagree c).1) _).trans (h.r0 t k),
      fun t k => (congrFun ((hagree c).2.1) _).trans (h.r1 t k),
      fun t k => (congrFun ((hagree c).2.2.1) _).trans (h.r2 t k),
      fun t k => (congrFun ((hagree c).2.2.2.1) _).trans (h.r3 t k),
      fun k => (congrFun ((hagree c).2.2.2.2.1) _).trans (h.r4 k),
      fun k => (congrFun ((hagree c).2.2.2.2.2.1) _).trans (h.r5 k),
      fun k => (congrFun ((hagree c).2.2.2.2.2.2.1) _).trans (h.r6 k),
      fun k => (congrFun ((hagree c).2.2.2.2.2.2.2.1) _).trans (h.r7 k),
      fun k => (congrFun ((hagree c).2.2.2.2.2.2.2.2.1) _).trans (h.r8 k),
      fun k => (congrFun ((hagree c).2.2.2.2.2.2.2.2.2.1) _).trans (h.r9 k),
      fun k => (congrFun ((hagree c).2.2.2.2.2.2.2.2.2.2.1) _).trans (h.r10 k),
      fun t k => (congrFun ((hagree c).2.2.2.2.2.2.2.2.2.2.2.1) _).trans (h.r11 t k),
      fun t k => (congrFun ((hagree c).2.2.2.2.2.2.2.2.2.2.2.2.1) _).trans (h.r12 t k),
      fun t k => (congrFun ((hagree c).2.2.2.2.2.2.2.2.2.2.2.2.2) _).trans (h.r13 t k)⟩
  refine ⟨fun c => G9 (D c), fun c => G10 (D c), fun c => G11 (D c), fun c => G12 (D c), fun c => G13 (D c), fun c => G14 (D c), fun c => G15 (D c), fun c => G16 (D c), ?_, ?_⟩
  · refine (θ_run Cert.FwdIdeal.defs _ _).mono (fun r h c => ?_) (Cert.FwdIdeal.Value.run_blocks (F := Ideal) m g)
    have E := Cert.FwdIdeal.Blocks.entry (hk c)
    exact ⟨(h c).1.trans (Cert.FwdIdeal.Blocks.final9 E),
      (h c).2.1.trans (Cert.FwdIdeal.Blocks.final10 E),
      (h c).2.2.1.trans (Cert.FwdIdeal.Blocks.final11 E),
      (h c).2.2.2.1.trans (Cert.FwdIdeal.Blocks.final12 E),
      (h c).2.2.2.2.1.trans (Cert.FwdIdeal.Blocks.final13 E),
      (h c).2.2.2.2.2.1.trans (Cert.FwdIdeal.Blocks.final14 E),
      (h c).2.2.2.2.2.2.1.trans (Cert.FwdIdeal.Blocks.final15 E),
      (h c).2.2.2.2.2.2.2.1.trans (Cert.FwdIdeal.Blocks.final16 E), (h c).2.2.2.2.2.2.2.2⟩
  · refine (θ_run Cert.FwdRefIdeal.defs _ _).mono (fun r h c => ?_) (Cert.FwdRefIdeal.Value.run (F := Ideal) m' g')
    exact ⟨((h c).1.trans (Cert.FwdRefIdeal.Read.val_main_v1_eq _ _ _)).trans (equal9 (hv c)),
      ((h c).2.1.trans (Cert.FwdRefIdeal.Read.val_main_v18_eq _ _ _ _ _ _)).trans (equal10 (hv c)),
      ((h c).2.2.1.trans (Cert.FwdRefIdeal.Read.val_main_v45_eq m' c)).trans (equal11 (hv c)),
      ((h c).2.2.2.1.trans (Cert.FwdRefIdeal.Read.val_main_v46_eq m' c)).trans (equal12 (hv c)),
      ((h c).2.2.2.2.1.trans (Cert.FwdRefIdeal.Read.val_main_v48_eq m' c)).trans (equal13 (hv c)),
      ((h c).2.2.2.2.2.1.trans (Cert.FwdRefIdeal.Read.val_main_v49_eq m' c)).trans (equal14 (hv c)),
      ((h c).2.2.2.2.2.2.1.trans (Cert.FwdRefIdeal.Read.val_main_v44_eq m' c)).trans (equal15 (hv c)),
      ((h c).2.2.2.2.2.2.2.1.trans (Cert.FwdRefIdeal.Read.val_main_v66_eq m' c)).trans (equal16 (hv c)),
      (h c).2.2.2.2.2.2.2.2⟩

/-- The reference ends, its arguments as they were and its semaphores at zero: it has none. -/
theorem frame_reference : Cert.quiescent_FwdRefIdeal := by
  intro m g _
  refine (θ_run Cert.FwdRefIdeal.defs _ _).mono (fun r h => ⟨fun c => (h c).2.2.2.2.2.2.2.2, ?_⟩) (Cert.FwdRefIdeal.Value.run (F := Ideal) m g)
  exact Idealize.ShloMosaic.sem_eq_zero_of_no_sems (by decide) r.2

end Cert.Proof.Fwd
-- ==== Proof.Loss.Payload.lean ====
/-
  What the forward kernel of the last layer computes from a block of 256 rows, value by value, over real numbers: the projection, the
  residual and the norms, and the three chunks of the hidden columns, and the block's loss.
-/
module

public import proofs.«01_k».proof.Proof.Gen.LossIdeal.Value
public import proofs.«01_k».proof.Proof.Net.Forward
public import proofs.«01_k».proof.Proof.Ffn.Payload
public import Idealize.ShloMosaic.Lib.Pointwise

@[expose] public section

set_option maxRecDepth 16384

noncomputable section

open Idealize.ShloMosaic Idealize.ShloMosaic.TcCoe Idealize.SL.Sem

namespace Cert.LossIdeal.Blocks

open Cert.LossIdeal Cert.LossIdeal.Gen Cert.Proof.Net
open Cert.FfnIdeal.Blocks (J0 J1 J2 sum_chunks thousand)

variable {d : Fwd} {t : Fin 256 → Fin 8192}

section Projection

variable {v0 v5 : Vec Ideal S256x512 .bf16} {v2 v7 : Vec Ideal S512x1024 .bf16} {v12 : Vec Ideal S256x1024 .f32} {v13 v25 : Vec Ideal S1x1024 .f32}
  (h0 : ∀ r k, v0 (ix2 r k) = ((d.A (t r) k : ℝ) : EReal)) (h2 : ∀ k n, v2 (ix2 k n) = ((d.WO (lo k) n : ℝ) : EReal))
  (h5 : ∀ r k, v5 (ix2 r k) = ((d.P (t r) k : ℝ) : EReal)) (h7 : ∀ k n, v7 (ix2 k n) = ((d.WO (hi k) n : ℝ) : EReal))
  (h12 : ∀ r k, v12 (ix2 r k) = ((d.X (t r) k : ℝ) : EReal))
  (h13 : ∀ k, v13 (ix2 0 k) = ((d.gt k : ℝ) : EReal)) (h25 : ∀ k, v25 (ix2 0 k) = ((d.gm k : ℝ) : EReal))

include h0 h2 h5 h7 in
theorem pay2_apply (r : Fin 256) (k : Fin 1024) : k0_pay2 v0 v2 v5 v7 (ix2 r k) = ((d.mix (t r) k : ℝ) : EReal) := by
  pointwise [k0_pay2]
  simp only [h0, h2, h5, h7, mul, sum, add, zero_add]
  rfl

include h0 h2 h5 h7 h12 h13 h25 in
theorem pay3_apply (r : Fin 256) (k : Fin 1024) : k0_pay3 v0 v2 v5 v7 v12 v13 v25 (ix2 r k) = ((d.x1 (t r) k : ℝ) : EReal) := by
  pointwise [k0_pay3]
  simp only [pay2_apply h0 h2 h5 h7, h12, h13, h25, bits_mean, bits_eps, mul, sum, add, div _ _ thousand, zero_add, rsqrt_var]
  refine congrArg _ ?_
  unfold Fwd.x1 Proof.Net.norm
  ring

include h0 h2 h5 h7 h12 h13 h25 in
theorem pay4_apply (r : Fin 256) (k : Fin 1024) : k0_pay4 v0 v2 v5 v7 v12 v13 v25 (ix2 r k) = ((d.x1 (t r) k * d.x1 (t r) k : ℝ) : EReal) := by
  pointwise [k0_pay4]
  simp only [pay3_apply h0 h2 h5 h7 h12 h13 h25, mul]

end Projection

section First

variable {v31 v33 : FVec Ideal S256x1024 .f32} {v43 v47 v53 : Vec Ideal S1x1024 .f32} {v60 v63 : Vec Ideal S1024x1024 .bf16}
  (h31 : ∀ r k, v31 (ix2 r k) = ((d.x1 (t r) k : ℝ) : EReal)) (h33 : ∀ r k, v33 (ix2 r k) = ((d.x1 (t r) k * d.x1 (t r) k : ℝ) : EReal))
  (h43 : ∀ k, v43 (ix2 0 k) = ((d.gp k : ℝ) : EReal)) (h47 : ∀ k, v47 (ix2 0 k) = ((d.sc k : ℝ) : EReal))
  (h53 : ∀ k, v53 (ix2 0 k) = ((d.sh k : ℝ) : EReal))
  (h60 : ∀ j k, v60 (ix2 j k) = ((d.WG k (J0 j) : ℝ) : EReal)) (h63 : ∀ j k, v63 (ix2 j k) = ((d.WU k (J0 j) : ℝ) : EReal))

include h31 h33 h43 h47 h53 in
theorem pay5_apply (r : Fin 256) (k : Fin 1024) : k0_pay5 v31 v33 v43 v47 v53 (ix2 r k) = ((d.h (t r) k : ℝ) : EReal) := by
  pointwise [k0_pay5]
  simp only [h31, h33, h43, h47, h53, bits_one, one, bits_mean, bits_eps, mul, sum, add, div _ _ thousand, zero_add, rsqrt_var]
  rfl

include h31 h33 h43 h47 h53 h60 in
theorem pay7_apply (r : Fin 256) (j : Fin 1024) : k0_pay7 v31 v33 v43 v47 v53 v60 (ix2 r j) = ((d.a (t r) (J0 j) : ℝ) : EReal) := by
  pointwise [k0_pay7]
  simp only [pay5_apply h31 h33 h43 h47 h53, h60, mul, sum, zero_add]
  rfl

include h31 h33 h43 h47 h53 h63 in
theorem pay8_apply (r : Fin 256) (j : Fin 1024) : k0_pay8 v31 v33 v43 v47 v53 v63 (ix2 r j) = ((d.b (t r) (J0 j) : ℝ) : EReal) := by
  pointwise [k0_pay8]
  simp only [pay5_apply h31 h33 h43 h47 h53, h63, mul, sum, zero_add]
  rfl

include h31 h33 h43 h47 h53 h60 in
theorem pay9_apply (r : Fin 256) (j : Fin 1024) : k0_pay9 v31 v33 v43 v47 v53 v60 (ix2 r j) = ((sg (d.a (t r) (J0 j)) : ℝ) : EReal) := by
  pointwise [k0_pay9]
  simp only [pay7_apply h31 h33 h43 h47 h53 h60, logistic_eq]

include h31 h33 h43 h47 h53 h60 in
theorem pay10_apply (r : Fin 256) (j : Fin 1024) : k0_pay10 v31 v33 v43 v47 v53 v60 (ix2 r j) = ((d.dgb (t r) (J0 j) : ℝ) : EReal) := by
  pointwise [k0_pay10]
  simp only [pay7_apply h31 h33 h43 h47 h53 h60, pay9_apply h31 h33 h43 h47 h53 h60, mul]
  rfl

include h31 h33 h43 h47 h53 h60 h63 in
theorem pay11_apply (r : Fin 256) (j : Fin 1024) : k0_pay11 v31 v33 v43 v47 v53 v60 v63 (ix2 r j) = ((d.act (t r) (J0 j) : ℝ) : EReal) := by
  pointwise [k0_pay11]
  simp only [pay10_apply h31 h33 h43 h47 h53 h60, pay8_apply h31 h33 h43 h47 h53 h63, mul]
  rfl

end First

section Hidden

theorem pay12_apply {v62 v65 v66 : FVec Ideal S256x1024 .f32} (h62 : ∀ r j, v62 (ix2 r j) = ((d.a (t r) (J0 j) : ℝ) : EReal))
    (h65 : ∀ r j, v65 (ix2 r j) = ((d.b (t r) (J0 j) : ℝ) : EReal)) (h66 : ∀ r j, v66 (ix2 r j) = ((sg (d.a (t r) (J0 j)) : ℝ) : EReal))
    (r : Fin 256) (j : Fin 1024) : k0_pay12 v62 v65 v66 (ix2 r j) = ((d.dga (t r) (J0 j) : ℝ) : EReal) := by
  pointwise [k0_pay12]
  simp only [h62, h65, h66, bits_one, one, mul, sub, add]
  refine congrArg _ ?_
  unfold Fwd.dga dsilu
  ring

theorem pay13_apply {v67 : FVec Ideal S256x1024 .f32} (h67 : ∀ r j, v67 (ix2 r j) = ((d.dgb (t r) (J0 j) : ℝ) : EReal)) (r : Fin 256) (j : Fin 1024) : k0_pay13 v67 (ix2 r j) = ((d.dgb (t r) (J0 j) : ℝ) : EReal) := by
  pointwise [k0_pay13]
  simp only [h67]

theorem pay21_apply {v93 : FVec Ideal S256x1024 .f32} (h93 : ∀ r j, v93 (ix2 r j) = ((d.dgb (t r) (J1 j) : ℝ) : EReal)) (r : Fin 256) (j : Fin 1024) : k0_pay21 v93 (ix2 r j) = ((d.dgb (t r) (J1 j) : ℝ) : EReal) := by
  pointwise [k0_pay21]
  simp only [h93]

variable {v59 : FVec Ideal S256x1024 .f32} {v57 v69 v95 : FVec Ideal S256x1024 .bf16} {v85 : FVec Ideal S256x1024 .f32} {v82 v86 v89 v108 : Vec Ideal S1024x1024 .bf16}
  {v112 v115 v134 : Vec Ideal S768x1024 .bf16}
  (h59 : ∀ r k, v59 (ix2 r k) = ((0 : ℝ) : EReal)) (h69 : ∀ r j, v69 (ix2 r j) = ((d.act (t r) (J0 j) : ℝ) : EReal))
  (h82 : ∀ j k, v82 (ix2 j k) = ((d.WD (J0 j) k : ℝ) : EReal))
  (h57 : ∀ r k, v57 (ix2 r k) = ((d.h (t r) k : ℝ) : EReal))
  (h85 : ∀ r k, v85 (ix2 r k) = ((∑ j, d.act (t r) (J0 j) * d.WD (J0 j) k : ℝ) : EReal))
  (h86 : ∀ j k, v86 (ix2 j k) = ((d.WG k (J1 j) : ℝ) : EReal)) (h89 : ∀ j k, v89 (ix2 j k) = ((d.WU k (J1 j) : ℝ) : EReal))
  (h95 : ∀ r j, v95 (ix2 r j) = ((d.act (t r) (J1 j) : ℝ) : EReal)) (h108 : ∀ j k, v108 (ix2 j k) = ((d.WD (J1 j) k : ℝ) : EReal))
  (h112 : ∀ j k, v112 (ix2 j k) = ((d.WG k (J2 j) : ℝ) : EReal)) (h115 : ∀ j k, v115 (ix2 j k) = ((d.WU k (J2 j) : ℝ) : EReal))
  (h134 : ∀ j k, v134 (ix2 j k) = ((d.WD (J2 j) k : ℝ) : EReal))

include h59 h69 h82 in
theorem pay14_apply (r : Fin 256) (k : Fin 1024) : k0_pay14 v59 v69 v82 (ix2 r k) = ((∑ j, d.act (t r) (J0 j) * d.WD (J0 j) k : ℝ) : EReal) := by
  pointwise [k0_pay14]
  simp only [h59, h69, h82, mul, sum, add, zero_add]

include h57 h86 in
theorem pay15_apply (r : Fin 256) (j : Fin 1024) : k0_pay15 v57 v86 (ix2 r j) = ((d.a (t r) (J1 j) : ℝ) : EReal) := by
  pointwise [k0_pay15]
  simp only [h57, h86, mul, sum, zero_add]
  rfl

include h57 h89 in
theorem pay16_apply (r : Fin 256) (j : Fin 1024) : k0_pay16 v57 v89 (ix2 r j) = ((d.b (t r) (J1 j) : ℝ) : EReal) := by
  pointwise [k0_pay16]
  simp only [h57, h89, mul, sum, zero_add]
  rfl

include h57 h86 in
theorem pay17_apply (r : Fin 256) (j : Fin 1024) : k0_pay17 v57 v86 (ix2 r j) = ((sg (d.a (t r) (J1 j)) : ℝ) : EReal) := by
  pointwise [k0_pay17]
  simp only [pay15_apply h57 h86, logistic_eq]

include h57 h86 in
theorem pay18_apply (r : Fin 256) (j : Fin 1024) : k0_pay18 v57 v86 (ix2 r j) = ((d.dgb (t r) (J1 j) : ℝ) : EReal) := by
  pointwise [k0_pay18]
  simp only [pay15_apply h57 h86, pay17_apply h57 h86, mul]
  rfl

include h57 h86 h89 in
theorem pay19_apply (r : Fin 256) (j : Fin 1024) : k0_pay19 v57 v86 v89 (ix2 r j) = ((d.act (t r) (J1 j) : ℝ) : EReal) := by
  pointwise [k0_pay19]
  simp only [pay18_apply h57 h86, pay16_apply h57 h89, mul]
  rfl

include h57 h86 h89 in
theorem pay20_apply (r : Fin 256) (j : Fin 1024) : k0_pay20 v57 v86 v89 (ix2 r j) = ((d.dga (t r) (J1 j) : ℝ) : EReal) := by
  pointwise [k0_pay20]
  simp only [pay15_apply h57 h86, pay16_apply h57 h89, pay17_apply h57 h86, bits_one, one, mul, sub, add]
  refine congrArg _ ?_
  unfold Fwd.dga dsilu
  ring

include h57 h112 in
theorem pay22_apply (r : Fin 256) (j : Fin 768) : k0_pay22 v57 v112 (ix2 r j) = ((d.a (t r) (J2 j) : ℝ) : EReal) := by
  pointwise [k0_pay22]
  simp only [h57, h112, mul, sum, zero_add]
  rfl

include h57 h115 in
theorem pay23_apply (r : Fin 256) (j : Fin 768) : k0_pay23 v57 v115 (ix2 r j) = ((d.b (t r) (J2 j) : ℝ) : EReal) := by
  pointwise [k0_pay23]
  simp only [h57, h115, mul, sum, zero_add]
  rfl

include h57 h112 in
theorem pay24_apply (r : Fin 256) (j : Fin 768) : k0_pay24 v57 v112 (ix2 r j) = ((sg (d.a (t r) (J2 j)) : ℝ) : EReal) := by
  pointwise [k0_pay24]
  simp only [pay22_apply h57 h112, logistic_eq]

include h57 h112 in
theorem pay25_apply (r : Fin 256) (j : Fin 768) : k0_pay25 v57 v112 (ix2 r j) = ((d.dgb (t r) (J2 j) : ℝ) : EReal) := by
  pointwise [k0_pay25]
  simp only [pay22_apply h57 h112, pay24_apply h57 h112, mul]
  rfl

include h57 h112 h115 in
theorem pay26_apply (r : Fin 256) (j : Fin 768) : k0_pay26 v57 v112 v115 (ix2 r j) = ((d.act (t r) (J2 j) : ℝ) : EReal) := by
  pointwise [k0_pay26]
  simp only [pay25_apply h57 h112, pay23_apply h57 h115, mul]
  rfl

include h57 h112 h115 in
theorem pay27_apply (r : Fin 256) (j : Fin 768) : k0_pay27 v57 v112 v115 (ix2 r j) = ((d.dga (t r) (J2 j) : ℝ) : EReal) := by
  pointwise [k0_pay27]
  simp only [pay22_apply h57 h112, pay23_apply h57 h115, pay24_apply h57 h112, bits_one, one, mul, sub, add]
  refine congrArg _ ?_
  unfold Fwd.dga dsilu
  ring

include h57 h112 in
theorem pay28_apply (r : Fin 256) (j : Fin 768) : k0_pay28 v57 v112 (ix2 r j) = ((d.dgb (t r) (J2 j) : ℝ) : EReal) := by
  pointwise [k0_pay28]
  simp only [pay25_apply h57 h112]

include h57 h85 h95 h108 h112 h115 h134 in
theorem pay29_apply (r : Fin 256) (k : Fin 1024) : k0_pay29 v57 v85 v95 v108 v112 v115 v134 (ix2 r k) = ((d.f (t r) k : ℝ) : EReal) := by
  pointwise [k0_pay29]
  simp only [pay26_apply h57 h112 h115, h85, h95, h108, h134, mul, sum, add, zero_add]
  exact congrArg _ (sum_chunks fun j => d.act (t r) j * d.WD j k).symm

end Hidden

section Last

variable {v31 v137 : FVec Ideal S256x1024 .f32} {v139 v151 : Vec Ideal S1x1024 .f32} {T : Fin 8192 → Fin 1024 → ℝ} {v161 : Vec Ideal S256x1024 .f32}
  (h31 : ∀ r k, v31 (ix2 r k) = ((d.x1 (t r) k : ℝ) : EReal)) (h137 : ∀ r k, v137 (ix2 r k) = ((d.f (t r) k : ℝ) : EReal))
  (h139 : ∀ k, v139 (ix2 0 k) = ((d.ga k : ℝ) : EReal)) (h151 : ∀ k, v151 (ix2 0 k) = ((d.gq k : ℝ) : EReal))
  (h161 : ∀ r k, v161 (ix2 r k) = ((T (t r) k : ℝ) : EReal))

include h31 h137 h139 h151 h161 in
theorem pay31_apply (r : Fin 256) (k : Fin 1024) : k0_pay31 v31 v137 v139 v151 v161 (ix2 r k) = ((d.err (t r) T k : ℝ) : EReal) := by
  pointwise [k0_pay31]
  simp only [h31, h137, h139, h151, h161, bits_mean, bits_eps, mul, sum, add, div _ _ thousand, zero_add, sub, rsqrt_var]
  refine congrArg _ ?_
  unfold Fwd.err Fwd.y Proof.Net.norm
  ring

include h31 h137 h139 h151 h161 in
theorem pay32_apply (r : Fin 256) (k : Fin 1024) : k0_pay32 v31 v137 v139 v151 v161 (ix2 r k) = ((d.dy (t r) T k : ℝ) : EReal) := by
  pointwise [k0_pay32]
  simp only [pay31_apply h31 h137 h139 h151 h161, bits_inv_mean, mul]
  refine congrArg _ ?_
  unfold Fwd.dy
  ring

include h31 h137 h139 h151 h161 in
theorem pay34_apply : k0_pay34 v31 v137 v139 v151 v161 (ix2 0 0) = ((∑ r, d.rowLoss (t r) T : ℝ) : EReal) := by
  pointwise [k0_pay34]
  simp only [pay31_apply h31 h137 h139 h151 h161, bits_mean, mul, sum, div _ _ thousand, zero_add]
  rfl

/-- What a block adds to its device's loss. -/
theorem pay1_apply (v167 : FVec Ideal S8x128 .f32) {v174 : FVec Ideal S1x1 .f32} {q : ℝ} (h174 : v174 (ix2 0 0) = (q : EReal)) (r : Fin 8) (k : Fin 128) :
    k0_pay1 v167 v174 (Scalar.ofBits .f32 0x3F000000#32) (ix2 r k) = v167 (ix2 r k) + ((1 / 2 * q : ℝ) : EReal) := by
  pointwise [k0_pay1]
  rw [h174]
  refine congrArg (v167 (ix2 r k) + ·) ?_
  exact (congrArg (· * _) bits_plus_half).trans (mul _ _)

theorem pay33_apply (v166 : Vec Ideal S8x128 .f32) (r : Fin 8) (k : Fin 128) : k0_pay33 v166 (ix2 r k) = v166 (ix2 r k) := by
  pointwise [k0_pay33]

end Last

end Cert.LossIdeal.Blocks
-- ==== Proof.Loss.Block.lean ====
/-
  One point of the forward kernel of the last layer: what it leaves in its nine result buffers, from the blocks it is given, over real numbers.
-/
module

public import proofs.«01_k».proof.Proof.Loss.Payload
public import proofs.«01_k».proof.Proof.Ffn.Block

@[expose] public section

set_option maxRecDepth 16384

noncomputable section

open Idealize.ShloMosaic Idealize.ShloMosaic.TcCoe Idealize.SL.Sem

namespace Cert.LossIdeal.Blocks

open Cert.LossIdeal Cert.LossIdeal.Gen Cert.Proof.Net
open Cert.FfnIdeal.Blocks (J0 J1 J2 ld2 hit missRow missCol three)

/-- The blocks that a point is given hold these real numbers: its rows are the rows `t` of the arrays. -/
structure Blk (d : Fwd) (T : Fin 8192 → Fin 1024 → ℝ) (t : Fin 256 → Fin 8192) (x0 : Vec Ideal S256x512 .bf16) (x1 : Vec Ideal S256x512 .bf16) (x2 : Vec Ideal S256x1024 .f32) (x3 : Vec Ideal S1024x1024 .bf16) (x4 :
    Vec Ideal S8x1024 .f32) (x5 : Vec Ideal S8x1024 .f32) (x6 : Vec Ideal S2816x1024 .bf16) (x7 : Vec Ideal S2816x1024 .bf16) (x8 : Vec
    Ideal S2816x1024 .bf16) (x9 : Vec Ideal S256x1024 .f32) : Prop where
  b0 : ∀ r k, x0 (ix2 r k) = ((d.A (t r) k : ℝ) : EReal)
  b1 : ∀ r k, x1 (ix2 r k) = ((d.P (t r) k : ℝ) : EReal)
  b2 : ∀ r k, x2 (ix2 r k) = ((d.X (t r) k : ℝ) : EReal)
  b3 : ∀ k n, x3 (ix2 k n) = ((d.WO k n : ℝ) : EReal)
  b42 : ∀ k, x4 (ix2 2 k) = ((d.gt k : ℝ) : EReal)
  b43 : ∀ k, x4 (ix2 3 k) = ((d.sh k : ℝ) : EReal)
  b44 : ∀ k, x4 (ix2 4 k) = ((d.sc k : ℝ) : EReal)
  b45 : ∀ k, x4 (ix2 5 k) = ((d.ga k : ℝ) : EReal)
  b51 : ∀ k, x5 (ix2 1 k) = ((d.gm k : ℝ) : EReal)
  b52 : ∀ k, x5 (ix2 2 k) = ((d.gp k : ℝ) : EReal)
  b53 : ∀ k, x5 (ix2 3 k) = ((d.gq k : ℝ) : EReal)
  b6 : ∀ j k, x6 (ix2 j k) = ((d.WG k j : ℝ) : EReal)
  b7 : ∀ j k, x7 (ix2 j k) = ((d.WU k j : ℝ) : EReal)
  b8 : ∀ j k, x8 (ix2 j k) = ((d.WD j k : ℝ) : EReal)
  b9 : ∀ r k, x9 (ix2 r k) = ((T (t r) k : ℝ) : EReal)

section Loads

variable {d : Fwd} {T : Fin 8192 → Fin 1024 → ℝ} {t : Fin 256 → Fin 8192} {x0 : Vec Ideal S256x512 .bf16} {x1 : Vec Ideal S256x512 .bf16} {x2 : Vec Ideal S256x1024 .f32} {x3 : Vec Ideal S1024x1024 .bf16} {x4 :
  Vec Ideal S8x1024 .f32} {x5 : Vec Ideal S8x1024 .f32} {x6 : Vec Ideal S2816x1024 .bf16} {x7 : Vec Ideal S2816x1024 .bf16} {x8 : Vec
  Ideal S2816x1024 .bf16} {x9 : Vec Ideal S256x1024 .f32}
  (B : Blk d T t x0 x1 x2 x3 x4 x5 x6 x7 x8 x9)
include B

theorem l0 : ∀ r k, View.ld x0 (Rect.unit (s := S256x512) ![0, 0] ![256, 512] inb_S256x512_S256x512_0_0) (ix2 r k) = ((d.A (t r) k : ℝ) : EReal) :=
  fun r k => (ld2 x0 0 0 _ r k r k (Nat.zero_add _).symm (Nat.zero_add _).symm).trans (B.b0 r k)
theorem l1 : ∀ r k, View.ld x1 (Rect.unit (s := S256x512) ![0, 0] ![256, 512] inb_S256x512_S256x512_0_0) (ix2 r k) = ((d.P (t r) k : ℝ) : EReal) :=
  fun r k => (ld2 x1 0 0 _ r k r k (Nat.zero_add _).symm (Nat.zero_add _).symm).trans (B.b1 r k)
theorem l2 : ∀ r k, View.ld x2 (Rect.unit (s := S256x1024) ![0, 0] ![256, 1024] inb_S256x1024_S256x1024_0_0) (ix2 r k) = ((d.X (t r) k : ℝ) : EReal) :=
  fun r k => (ld2 x2 0 0 _ r k r k (Nat.zero_add _).symm (Nat.zero_add _).symm).trans (B.b2 r k)
theorem l3lo : ∀ k n, View.ld x3 (Rect.unit (s := S1024x1024) ![0, 0] ![512, 1024] inb_S1024x1024_S512x1024_0_0) (ix2 k n) = ((d.WO (lo k) n : ℝ) : EReal) :=
  fun k n => (ld2 x3 0 0 _ k n (lo k) n (Nat.zero_add _).symm (Nat.zero_add _).symm).trans (B.b3 (lo k) n)
theorem l3hi : ∀ k n, View.ld x3 (Rect.unit (s := S1024x1024) ![512, 0] ![512, 1024] inb_S1024x1024_S512x1024_512_0) (ix2 k n) = ((d.WO (hi k) n : ℝ) : EReal) :=
  fun k n => (ld2 x3 512 0 _ k n (hi k) n rfl (Nat.zero_add _).symm).trans (B.b3 (hi k) n)
theorem l42 : ∀ k, View.ld x4 (Rect.unit (s := S8x1024) ![2, 0] ![1, 1024] inb_S8x1024_S1x1024_2_0) (ix2 0 k) = ((d.gt k : ℝ) : EReal) :=
  fun k => (ld2 x4 2 0 _ 0 k 2 k rfl (Nat.zero_add _).symm).trans (B.b42 k)
theorem l43 : ∀ k, View.ld x4 (Rect.unit (s := S8x1024) ![3, 0] ![1, 1024] inb_S8x1024_S1x1024_3_0) (ix2 0 k) = ((d.sh k : ℝ) : EReal) :=
  fun k => (ld2 x4 3 0 _ 0 k 3 k rfl (Nat.zero_add _).symm).trans (B.b43 k)
theorem l44 : ∀ k, View.ld x4 (Rect.unit (s := S8x1024) ![4, 0] ![1, 1024] inb_S8x1024_S1x1024_4_0) (ix2 0 k) = ((d.sc k : ℝ) : EReal) :=
  fun k => (ld2 x4 4 0 _ 0 k 4 k rfl (Nat.zero_add _).symm).trans (B.b44 k)
theorem l45 : ∀ k, View.ld x4 (Rect.unit (s := S8x1024) ![5, 0] ![1, 1024] inb_S8x1024_S1x1024_5_0) (ix2 0 k) = ((d.ga k : ℝ) : EReal) :=
  fun k => (ld2 x4 5 0 _ 0 k 5 k rfl (Nat.zero_add _).symm).trans (B.b45 k)
theorem l51 : ∀ k, View.ld x5 (Rect.unit (s := S8x1024) ![1, 0] ![1, 1024] inb_S8x1024_S1x1024_1_0) (ix2 0 k) = ((d.gm k : ℝ) : EReal) :=
  fun k => (ld2 x5 1 0 _ 0 k 1 k rfl (Nat.zero_add _).symm).trans (B.b51 k)
theorem l52 : ∀ k, View.ld x5 (Rect.unit (s := S8x1024) ![2, 0] ![1, 1024] inb_S8x1024_S1x1024_2_0) (ix2 0 k) = ((d.gp k : ℝ) : EReal) :=
  fun k => (ld2 x5 2 0 _ 0 k 2 k rfl (Nat.zero_add _).symm).trans (B.b52 k)
theorem l53 : ∀ k, View.ld x5 (Rect.unit (s := S8x1024) ![3, 0] ![1, 1024] inb_S8x1024_S1x1024_3_0) (ix2 0 k) = ((d.gq k : ℝ) : EReal) :=
  fun k => (ld2 x5 3 0 _ 0 k 3 k rfl (Nat.zero_add _).symm).trans (B.b53 k)
theorem l6_0 : ∀ j k, View.ld x6 (Rect.unit (s := S2816x1024) ![0, 0] ![1024, 1024] inb_S2816x1024_S1024x1024_0_0) (ix2 j k) = ((d.WG k (J0 j) : ℝ) : EReal) :=
  fun j k => (ld2 x6 0 0 _ j k (J0 j) k (Nat.zero_add _).symm (Nat.zero_add _).symm).trans (B.b6 (J0 j) k)
theorem l7_0 : ∀ j k, View.ld x7 (Rect.unit (s := S2816x1024) ![0, 0] ![1024, 1024] inb_S2816x1024_S1024x1024_0_0) (ix2 j k) = ((d.WU k (J0 j) : ℝ) : EReal) :=
  fun j k => (ld2 x7 0 0 _ j k (J0 j) k (Nat.zero_add _).symm (Nat.zero_add _).symm).trans (B.b7 (J0 j) k)
theorem l8_0 : ∀ j k, View.ld x8 (Rect.unit (s := S2816x1024) ![0, 0] ![1024, 1024] inb_S2816x1024_S1024x1024_0_0) (ix2 j k) = ((d.WD (J0 j) k : ℝ) : EReal) :=
  fun j k => (ld2 x8 0 0 _ j k (J0 j) k (Nat.zero_add _).symm (Nat.zero_add _).symm).trans (B.b8 (J0 j) k)
theorem l6_1 : ∀ j k, View.ld x6 (Rect.unit (s := S2816x1024) ![1024, 0] ![1024, 1024] inb_S2816x1024_S1024x1024_1024_0) (ix2 j k) = ((d.WG k (J1 j) : ℝ) : EReal) :=
  fun j k => (ld2 x6 1024 0 _ j k (J1 j) k rfl (Nat.zero_add _).symm).trans (B.b6 (J1 j) k)
theorem l7_1 : ∀ j k, View.ld x7 (Rect.unit (s := S2816x1024) ![1024, 0] ![1024, 1024] inb_S2816x1024_S1024x1024_1024_0) (ix2 j k) = ((d.WU k (J1 j) : ℝ) : EReal) :=
  fun j k => (ld2 x7 1024 0 _ j k (J1 j) k rfl (Nat.zero_add _).symm).trans (B.b7 (J1 j) k)
theorem l8_1 : ∀ j k, View.ld x8 (Rect.unit (s := S2816x1024) ![1024, 0] ![1024, 1024] inb_S2816x1024_S1024x1024_1024_0) (ix2 j k) = ((d.WD (J1 j) k : ℝ) : EReal) :=
  fun j k => (ld2 x8 1024 0 _ j k (J1 j) k rfl (Nat.zero_add _).symm).trans (B.b8 (J1 j) k)
theorem l6_2 : ∀ j k, View.ld x6 (Rect.unit (s := S2816x1024) ![2048, 0] ![768, 1024] inb_S2816x1024_S768x1024_2048_0) (ix2 j k) = ((d.WG k (J2 j) : ℝ) : EReal) :=
  fun j k => (ld2 x6 2048 0 _ j k (J2 j) k rfl (Nat.zero_add _).symm).trans (B.b6 (J2 j) k)
theorem l7_2 : ∀ j k, View.ld x7 (Rect.unit (s := S2816x1024) ![2048, 0] ![768, 1024] inb_S2816x1024_S768x1024_2048_0) (ix2 j k) = ((d.WU k (J2 j) : ℝ) : EReal) :=
  fun j k => (ld2 x7 2048 0 _ j k (J2 j) k rfl (Nat.zero_add _).symm).trans (B.b7 (J2 j) k)
theorem l8_2 : ∀ j k, View.ld x8 (Rect.unit (s := S2816x1024) ![2048, 0] ![768, 1024] inb_S2816x1024_S768x1024_2048_0) (ix2 j k) = ((d.WD (J2 j) k : ℝ) : EReal) :=
  fun j k => (ld2 x8 2048 0 _ j k (J2 j) k rfl (Nat.zero_add _).symm).trans (B.b8 (J2 j) k)
theorem l9 : ∀ r k, View.ld x9 (Rect.unit (s := S256x1024) ![0, 0] ![256, 1024] inb_S256x1024_S256x1024_0_0) (ix2 r k) = ((T (t r) k : ℝ) : EReal) :=
  fun r k => (ld2 x9 0 0 _ r k r k (Nat.zero_add _).symm (Nat.zero_add _).symm).trans (B.b9 r k)

end Loads

/-- The last product's sum starts from zeros. -/
theorem pay6_apply (r : Fin 256) (k : Fin 1024) : k0_pay6 (F := Ideal) (ix2 r k) = ((0 : ℝ) : EReal) := by
  pointwise [k0_pay6]
  exact EReal.coe_zero.symm

section Out

variable (c : Dev nD) (i : grid0.Coords) (arg1 : Memref sig .tc .vmem S256x512 .bf16) (h1 : arg1.IsWhole) (arg2 : Memref sig .tc .vmem S256x512
  .bf16) (h2 : arg2.IsWhole) (arg3 : Memref sig .tc .vmem S256x1024 .f32) (h3 : arg3.IsWhole) (arg4 : Memref sig .tc .vmem S1024x1024
  .bf16) (h4 : arg4.IsWhole) (arg5 : Memref sig .tc .vmem S8x1024 .f32) (h5 : arg5.IsWhole) (arg6 : Memref sig .tc .vmem S8x1024 .f32)
  (h6 : arg6.IsWhole) (arg7 : Memref sig .tc .vmem S2816x1024 .bf16) (h7 : arg7.IsWhole) (arg8 : Memref sig .tc .vmem S2816x1024 .bf16)
  (h8 : arg8.IsWhole) (arg9 : Memref sig .tc .vmem S2816x1024 .bf16) (h9 : arg9.IsWhole) (arg10 : Memref sig .tc .vmem S256x1024 .f32)
  (h10 : arg10.IsWhole) (arg11 : Memref sig .tc .vmem S256x1024 .f32) (h11 : arg11.IsWhole) (arg12 : Memref sig .tc .vmem S256x1024 .f32)
  (h12 : arg12.IsWhole) (arg13 : Memref sig .tc .vmem S256x1024 .bf16) (h13 : arg13.IsWhole) (arg14 : Memref sig .tc .vmem S256x2816
  .bf16) (h14 : arg14.IsWhole) (arg15 : Memref sig .tc .vmem S256x2816 .bf16) (h15 : arg15.IsWhole) (arg16 : Memref sig .tc .vmem
  S256x2816 .bf16) (h16 : arg16.IsWhole) (arg17 : Memref sig .tc .vmem S256x1024 .f32) (h17 : arg17.IsWhole) (arg18 : Memref sig .tc
  .vmem S256x1024 .f32) (h18 : arg18.IsWhole) (arg19 : Memref sig .tc .vmem S8x128 .f32) (h19 : arg19.IsWhole)
  (x0 : Vec Ideal S256x512 .bf16) (x1 : Vec Ideal S256x512 .bf16) (x2 : Vec Ideal S256x1024 .f32) (x3 : Vec Ideal S1024x1024 .bf16) (x4 :
  Vec Ideal S8x1024 .f32) (x5 : Vec Ideal S8x1024 .f32) (x6 : Vec Ideal S2816x1024 .bf16) (x7 : Vec Ideal S2816x1024 .bf16) (x8 : Vec
  Ideal S2816x1024 .bf16) (x9 : Vec Ideal S256x1024 .f32) (xo18 : Vec Ideal S8x128 .f32)
  {d : Fwd} {T : Fin 8192 → Fin 1024 → ℝ} {t : Fin 256 → Fin 8192} (B : Blk d T t x0 x1 x2 x3 x4 x5 x6 x7 x8 x9)
include B

theorem out_A_10 (hc : cond0_0 i) (r : Fin 256) (k : Fin 1024) :
    out0_A_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 (ix2 r k) = ((d.mix (t r) k : ℝ) : EReal) := by
  unfold out0_A_10
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine (hit _ _ _ _ _ _ _ _ _ r k (Nat.zero_add _).symm (Nat.zero_add _).symm).trans ?_
  exact pay2_apply (l0 B) (l3lo B) (l1 B) (l3hi B) r k

theorem out_A_11 (hc : cond0_0 i) (r : Fin 256) (k : Fin 1024) :
    out0_A_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 (ix2 r k) = ((d.x1 (t r) k : ℝ) : EReal) := by
  unfold out0_A_11
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine (hit _ _ _ _ _ _ _ _ _ r k (Nat.zero_add _).symm (Nat.zero_add _).symm).trans ?_
  exact pay3_apply (l0 B) (l3lo B) (l1 B) (l3hi B) (l2 B) (l42 B) (l51 B) r k

theorem out_A_12 (hc : cond0_0 i) (r : Fin 256) (k : Fin 1024) :
    out0_A_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 (ix2 r k) = ((d.h (t r) k : ℝ) : EReal) := by
  unfold out0_A_12
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine (hit _ _ _ _ _ _ _ _ _ r k (Nat.zero_add _).symm (Nat.zero_add _).symm).trans ?_
  exact pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) r k

theorem out_A_13 (hc : cond0_0 i) (r : Fin 256) (j : Fin 2816) :
    out0_A_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 (ix2 r j) = ((d.act (t r) j : ℝ) : EReal) := by
  unfold out0_A_13
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine three (e := .bf16) _ _ _ _ _ _ _ _ (fun j => ((d.act (t r) j : ℝ) : EReal)) r ?_ ?_ ?_ j
  · exact pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B) r
  · exact pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B) r
  · exact pay26_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_2 B) (l7_2 B) r

theorem out_A_14 (hc : cond0_0 i) (r : Fin 256) (j : Fin 2816) :
    out0_A_14 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 (ix2 r j) = ((d.dga (t r) j : ℝ) : EReal) := by
  unfold out0_A_14
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine three (e := .bf16) _ _ _ _ _ _ _ _ (fun j => ((d.dga (t r) j : ℝ) : EReal)) r ?_ ?_ ?_ j
  · exact pay12_apply (pay7_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B)) (pay8_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l7_0 B)) (pay9_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B)) r
  · exact pay20_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B) r
  · exact pay27_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_2 B) (l7_2 B) r

theorem out_A_15 (hc : cond0_0 i) (r : Fin 256) (j : Fin 2816) :
    out0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 (ix2 r j) = ((d.dgb (t r) j : ℝ) : EReal) := by
  unfold out0_A_15
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine three (e := .bf16) _ _ _ _ _ _ _ _ (fun j => ((d.dgb (t r) j : ℝ) : EReal)) r ?_ ?_ ?_ j
  · exact pay13_apply (pay10_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B)) r
  · exact pay21_apply (pay18_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B)) r
  · exact pay28_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_2 B) r

theorem out_A_16 (hc : cond0_0 i) (r : Fin 256) (k : Fin 1024) :
    out0_A_16 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 (ix2 r k) = ((d.f (t r) k : ℝ) : EReal) := by
  unfold out0_A_16
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine (hit _ _ _ _ _ _ _ _ _ r k (Nat.zero_add _).symm (Nat.zero_add _).symm).trans ?_
  exact pay29_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (pay14_apply pay6_apply (pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B)) (l8_0 B)) (pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B)) (l8_1 B) (l6_2 B) (l7_2 B) (l8_2 B) r k

theorem out_A_17 (hc : cond0_0 i) (r : Fin 256) (k : Fin 1024) :
    out0_A_17 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 (ix2 r k) = ((d.dy (t r) T k : ℝ) : EReal) := by
  unfold out0_A_17
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  refine (hit _ _ _ _ _ _ _ _ _ r k (Nat.zero_add _).symm (Nat.zero_add _).symm).trans ?_
  exact pay32_apply (pay3_apply (l0 B) (l3lo B) (l1 B) (l3hi B) (l2 B) (l42 B) (l51 B)) (pay29_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (pay14_apply pay6_apply (pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B)) (l8_0 B)) (pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B)) (l8_1 B) (l6_2 B) (l7_2 B) (l8_2 B)) (l45 B) (l53 B) (l9 B) r k

/-- The first point's sum starts from nothing; -/
theorem out_A_18 (hc : cond0_0 i) (r : Fin 8) (k : Fin 128) :
    out0_A_18 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 (ix2 r k) = 0 + ((1 / 2 * ∑ s, d.rowLoss (t s) T : ℝ) : EReal) := by
  unfold out0_A_18
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread]
  simp (disch := decide) only [↓ View.readCov_skip, ↓ View.readCov_cons_toLoadRect, ↓ View.readCov_fill]
  refine (hit _ _ _ _ _ _ _ _ _ r k (Nat.zero_add _).symm (Nat.zero_add _).symm).trans ?_
  refine (pay1_apply _ (pay34_apply (pay3_apply (l0 B) (l3lo B) (l1 B) (l3hi B) (l2 B) (l42 B) (l51 B)) (pay29_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (pay14_apply pay6_apply (pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B)) (l8_0 B)) (pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B)) (l8_1 B) (l6_2 B) (l7_2 B) (l8_2 B)) (l45 B) (l53 B) (l9 B)) r k).trans (congrArg (· + _) ?_)
  exact (pay33_apply _ r k).trans (by pointwise [k0_pay30])

theorem out_B_10 (hc : ¬ cond0_0 i) (r : Fin 256) (k : Fin 1024) :
    out0_B_10 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo18 (ix2 r k) = ((d.mix (t r) k : ℝ) : EReal) := by
  unfold out0_B_10
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h19.read_unread]
  refine (hit _ _ _ _ _ _ _ _ _ r k (Nat.zero_add _).symm (Nat.zero_add _).symm).trans ?_
  exact pay2_apply (l0 B) (l3lo B) (l1 B) (l3hi B) r k

theorem out_B_11 (hc : ¬ cond0_0 i) (r : Fin 256) (k : Fin 1024) :
    out0_B_11 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo18 (ix2 r k) = ((d.x1 (t r) k : ℝ) : EReal) := by
  unfold out0_B_11
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h19.read_unread]
  refine (hit _ _ _ _ _ _ _ _ _ r k (Nat.zero_add _).symm (Nat.zero_add _).symm).trans ?_
  exact pay3_apply (l0 B) (l3lo B) (l1 B) (l3hi B) (l2 B) (l42 B) (l51 B) r k

theorem out_B_12 (hc : ¬ cond0_0 i) (r : Fin 256) (k : Fin 1024) :
    out0_B_12 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo18 (ix2 r k) = ((d.h (t r) k : ℝ) : EReal) := by
  unfold out0_B_12
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h19.read_unread]
  refine (hit _ _ _ _ _ _ _ _ _ r k (Nat.zero_add _).symm (Nat.zero_add _).symm).trans ?_
  exact pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) r k

theorem out_B_13 (hc : ¬ cond0_0 i) (r : Fin 256) (j : Fin 2816) :
    out0_B_13 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo18 (ix2 r j) = ((d.act (t r) j : ℝ) : EReal) := by
  unfold out0_B_13
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h19.read_unread]
  refine three (e := .bf16) _ _ _ _ _ _ _ _ (fun j => ((d.act (t r) j : ℝ) : EReal)) r ?_ ?_ ?_ j
  · exact pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B) r
  · exact pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B) r
  · exact pay26_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_2 B) (l7_2 B) r

theorem out_B_14 (hc : ¬ cond0_0 i) (r : Fin 256) (j : Fin 2816) :
    out0_B_14 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo18 (ix2 r j) = ((d.dga (t r) j : ℝ) : EReal) := by
  unfold out0_B_14
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h19.read_unread]
  refine three (e := .bf16) _ _ _ _ _ _ _ _ (fun j => ((d.dga (t r) j : ℝ) : EReal)) r ?_ ?_ ?_ j
  · exact pay12_apply (pay7_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B)) (pay8_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l7_0 B)) (pay9_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B)) r
  · exact pay20_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B) r
  · exact pay27_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_2 B) (l7_2 B) r

theorem out_B_15 (hc : ¬ cond0_0 i) (r : Fin 256) (j : Fin 2816) :
    out0_B_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo18 (ix2 r j) = ((d.dgb (t r) j : ℝ) : EReal) := by
  unfold out0_B_15
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h19.read_unread]
  refine three (e := .bf16) _ _ _ _ _ _ _ _ (fun j => ((d.dgb (t r) j : ℝ) : EReal)) r ?_ ?_ ?_ j
  · exact pay13_apply (pay10_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B)) r
  · exact pay21_apply (pay18_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B)) r
  · exact pay28_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_2 B) r

theorem out_B_16 (hc : ¬ cond0_0 i) (r : Fin 256) (k : Fin 1024) :
    out0_B_16 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo18 (ix2 r k) = ((d.f (t r) k : ℝ) : EReal) := by
  unfold out0_B_16
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h19.read_unread]
  refine (hit _ _ _ _ _ _ _ _ _ r k (Nat.zero_add _).symm (Nat.zero_add _).symm).trans ?_
  exact pay29_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (pay14_apply pay6_apply (pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B)) (l8_0 B)) (pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B)) (l8_1 B) (l6_2 B) (l7_2 B) (l8_2 B) r k

theorem out_B_17 (hc : ¬ cond0_0 i) (r : Fin 256) (k : Fin 1024) :
    out0_B_17 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo18 (ix2 r k) = ((d.dy (t r) T k : ℝ) : EReal) := by
  unfold out0_B_17
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h19.read_unread]
  refine (hit _ _ _ _ _ _ _ _ _ r k (Nat.zero_add _).symm (Nat.zero_add _).symm).trans ?_
  exact pay32_apply (pay3_apply (l0 B) (l3lo B) (l1 B) (l3hi B) (l2 B) (l42 B) (l51 B)) (pay29_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (pay14_apply pay6_apply (pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B)) (l8_0 B)) (pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B)) (l8_1 B) (l6_2 B) (l7_2 B) (l8_2 B)) (l45 B) (l53 B) (l9 B) r k

/-- a later point adds to it. -/
theorem out_B_18 (hc : ¬ cond0_0 i) (r : Fin 8) (k : Fin 128) :
    out0_B_18 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 hc x0 x1 x2 x3 x4 x5 x6 x7 x8 x9 xo18 (ix2 r k) = xo18 (ix2 r k) + ((1 / 2 * ∑ s, d.rowLoss (t s) T : ℝ) : EReal) := by
  unfold out0_B_18
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h19.read_unread]
  refine (hit _ _ _ _ _ _ _ _ _ r k (Nat.zero_add _).symm (Nat.zero_add _).symm).trans ?_
  refine (pay1_apply _ (pay34_apply (pay3_apply (l0 B) (l3lo B) (l1 B) (l3hi B) (l2 B) (l42 B) (l51 B)) (pay29_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (pay14_apply pay6_apply (pay11_apply (pay3_apply (l0 B) (l3lo B) (l1 B) (l3hi B) (l2 B) (l42 B) (l51 B)) (pay4_apply (l0 B) (l3lo B) (l1 B) (l3hi B) (l2 B) (l42 B) (l51 B)) (l52 B) (l44 B) (l43 B) (l6_0 B) (l7_0 B)) (l8_0 B)) (pay19_apply (pay5_apply (pay3_apply (l0 B) (l3lo B) (l1 B) (l3hi B) (l2 B) (l42 B) (l51 B)) (pay4_apply (l0 B) (l3lo B) (l1 B) (l3hi B) (l2 B) (l42 B) (l51 B)) (l52 B) (l44 B) (l43 B)) (l6_1 B) (l7_1 B)) (l8_1 B) (l6_2 B) (l7_2 B) (l8_2 B)) (l45 B) (l53 B) (l9 B)) r k).trans (congrArg (· + _) ?_)
  exact (pay33_apply _ r k).trans (ld2 xo18 0 0 _ r k r k (Nat.zero_add _).symm (Nat.zero_add _).symm)

end Out

end Cert.LossIdeal.Blocks
-- ==== Proof.Loss.Arrays.lean ====
/-
  What the forward kernel of the last layer leaves in its nine result arrays, from real arrays: a block of 256 rows at each point,
  and the loss added up over the points.
-/
module

public import proofs.«01_k».proof.Proof.Loss.Block
public import proofs.«01_k».proof.Proof.Gen.LossIdeal.Value
public import Idealize.ShloMosaic.Lib.StableHlo.ReadAt

@[expose] public section

set_option maxRecDepth 16384

noncomputable section

open Idealize.ShloMosaic Idealize.ShloMosaic.TcCoe Idealize.SL.Sem

namespace Cert.LossIdeal.Blocks

open Cert.LossIdeal Cert.LossIdeal.Gen Cert.LossIdeal.Value Cert.Proof.Net

variable (m : (ℓ : Loc nD τ sig) → Buf (Elt Ideal) ℓ) (c : Dev nD) (d : Fwd) (T : Fin 8192 → Fin 1024 → ℝ)

/-- The arrays that the kernel is called with hold these real numbers. -/
structure Entry : Prop where
  e0 : ∀ t k, V m c main_v1 (ix2 t k) = ((d.A t k : ℝ) : EReal)
  e1 : ∀ t k, V m c main_v2 (ix2 t k) = ((d.P t k : ℝ) : EReal)
  e2 : ∀ t k, V m c main_arg2 (ix2 t k) = ((d.X t k : ℝ) : EReal)
  e3 : ∀ k n, V m c main_v3 (ix2 k n) = ((d.WO k n : ℝ) : EReal)
  e42 : ∀ k, V m c main_v12 (ix2 2 k) = ((d.gt k : ℝ) : EReal)
  e43 : ∀ k, V m c main_v12 (ix2 3 k) = ((d.sh k : ℝ) : EReal)
  e44 : ∀ k, V m c main_v12 (ix2 4 k) = ((d.sc k : ℝ) : EReal)
  e45 : ∀ k, V m c main_v12 (ix2 5 k) = ((d.ga k : ℝ) : EReal)
  e51 : ∀ k, V m c main_v19 (ix2 1 k) = ((d.gm k : ℝ) : EReal)
  e52 : ∀ k, V m c main_v19 (ix2 2 k) = ((d.gp k : ℝ) : EReal)
  e53 : ∀ k, V m c main_v19 (ix2 3 k) = ((d.gq k : ℝ) : EReal)
  e6 : ∀ j k, V m c main_v21 (ix2 j k) = ((d.WG k j : ℝ) : EReal)
  e7 : ∀ j k, V m c main_v23 (ix2 j k) = ((d.WU k j : ℝ) : EReal)
  e8 : ∀ j k, V m c main_v24 (ix2 j k) = ((d.WD j k : ℝ) : EReal)
  e9 : ∀ t k, V m c main_arg14 (ix2 t k) = ((T t k : ℝ) : EReal)

/-- The program's arguments are these real numbers. -/
structure Args : Prop where
  r0 : ∀ t k, m (c, Proc.devRef .tc main_arg0) (ix2 t k) = ((d.A t k : ℝ) : EReal)
  r1 : ∀ t k, m (c, Proc.devRef .tc main_arg1) (ix2 t k) = ((d.P t k : ℝ) : EReal)
  r2 : ∀ t k, m (c, Proc.devRef .tc main_arg2) (ix2 t k) = ((d.X t k : ℝ) : EReal)
  r3 : ∀ t k, m (c, Proc.devRef .tc main_arg3) (ix2 t k) = ((d.WO t k : ℝ) : EReal)
  r4 : ∀ k, m (c, Proc.devRef .tc main_arg4) (ix1 k) = ((d.gm k : ℝ) : EReal)
  r5 : ∀ k, m (c, Proc.devRef .tc main_arg5) (ix1 k) = ((d.gt k : ℝ) : EReal)
  r6 : ∀ k, m (c, Proc.devRef .tc main_arg6) (ix1 k) = ((d.gp k : ℝ) : EReal)
  r7 : ∀ k, m (c, Proc.devRef .tc main_arg7) (ix1 k) = ((d.gq k : ℝ) : EReal)
  r8 : ∀ k, m (c, Proc.devRef .tc main_arg8) (ix1 k) = ((d.sh k : ℝ) : EReal)
  r9 : ∀ k, m (c, Proc.devRef .tc main_arg9) (ix1 k) = ((d.sc k : ℝ) : EReal)
  r10 : ∀ k, m (c, Proc.devRef .tc main_arg10) (ix1 k) = ((d.ga k : ℝ) : EReal)
  r11 : ∀ t k, m (c, Proc.devRef .tc main_arg11) (ix2 t k) = ((d.WG t k : ℝ) : EReal)
  r12 : ∀ t k, m (c, Proc.devRef .tc main_arg12) (ix2 t k) = ((d.WU t k : ℝ) : EReal)
  r13 : ∀ t k, m (c, Proc.devRef .tc main_arg13) (ix2 t k) = ((d.WD t k : ℝ) : EReal)
  r14 : ∀ t k, m (c, Proc.devRef .tc main_arg14) (ix2 t k) = ((T t k : ℝ) : EReal)

variable {m c d T} in
/-- The host's casts, transposes and packed rows hand the kernel the arguments' numbers. -/
theorem entry (R : Args m c d T) : Entry m c d T where
  e0 t k := by
    unfold V
    after_reads_at
    exact R.r0 t k
  e1 t k := by
    unfold V
    after_reads_at
    exact R.r1 t k
  e2 t k := by rw [V_main_arg2]; exact R.r2 t k
  e3 k n := by
    unfold V
    after_reads_at
    exact R.r3 k n
  e42 k := by
    unfold V
    after_reads_at
    after_reads_at
    exact R.r5 k
  e43 k := by
    unfold V
    after_reads_at
    after_reads_at
    exact R.r8 k
  e44 k := by
    unfold V
    after_reads_at
    after_reads_at
    exact R.r9 k
  e45 k := by
    unfold V
    after_reads_at
    after_reads_at
    exact R.r10 k
  e51 k := by
    unfold V
    after_reads_at
    after_reads_at
    exact R.r4 k
  e52 k := by
    unfold V
    after_reads_at
    after_reads_at
    exact R.r6 k
  e53 k := by
    unfold V
    after_reads_at
    after_reads_at
    exact R.r7 k
  e6 j k := by
    unfold V
    after_reads_at
    exact R.r11 k j
  e7 j k := by
    unfold V
    after_reads_at
    exact R.r12 k j
  e8 j k := by
    unfold V
    after_reads_at
    exact R.r13 j k
  e9 t k := by rw [V_main_arg14]; exact R.r14 t k

theorem size : cfg0.N = 32 := N_0
/-- The last point. -/
def last : Fin cfg0.N := ⟨31, by rw [size]; decide⟩
theorem last_val : last.val = 31 := rfl

/-- Row `r` of the block that point `t` works on. -/
def row (t : Fin cfg0.N) (r : Fin 256) : Fin 8192 := ⟨256 * t.val + r.val, by have := t.isLt; have := size; omega⟩

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i9 : ∀ t : Fin cfg0.N, win0_9.index t = ![t.val, 0] := by decide +kernel
theorem i10 : ∀ t : Fin cfg0.N, win0_10.index t = ![t.val, 0] := by decide +kernel
theorem i11 : ∀ t : Fin cfg0.N, win0_11.index t = ![t.val, 0] := by decide +kernel
theorem i12 : ∀ t : Fin cfg0.N, win0_12.index t = ![t.val, 0] := by decide +kernel
theorem i13 : ∀ t : Fin cfg0.N, win0_13.index t = ![t.val, 0] := by decide +kernel
theorem i14 : ∀ t : Fin cfg0.N, win0_14.index t = ![t.val, 0] := by decide +kernel
theorem i15 : ∀ t : Fin cfg0.N, win0_15.index t = ![t.val, 0] := by decide +kernel
theorem i16 : ∀ t : Fin cfg0.N, win0_16.index t = ![t.val, 0] := by decide +kernel
theorem i17 : ∀ t : Fin cfg0.N, win0_17.index t = ![t.val, 0] := by decide +kernel
theorem i3 : ∀ t : Fin cfg0.N, win0_3.index t = ![0, 0] := by decide +kernel
theorem i4 : ∀ t : Fin cfg0.N, win0_4.index t = ![0, 0] := by decide +kernel
theorem i5 : ∀ t : Fin cfg0.N, win0_5.index t = ![0, 0] := by decide +kernel
theorem i6 : ∀ t : Fin cfg0.N, win0_6.index t = ![0, 0] := by decide +kernel
theorem i7 : ∀ t : Fin cfg0.N, win0_7.index t = ![0, 0] := by decide +kernel
theorem i8 : ∀ t : Fin cfg0.N, win0_8.index t = ![0, 0] := by decide +kernel

theorem blk0 (t : Fin cfg0.N) (r : Fin 256) (k : Fin 512) : iblk m c 0 t (ix2 r k) = V m c main_v1 (ix2 (row t r) k) := by
  unfold row
  blk_simp [iblk]
  refine congrArg _ ?_
  blk_ext [i0]

theorem blk1 (t : Fin cfg0.N) (r : Fin 256) (k : Fin 512) : iblk m c 1 t (ix2 r k) = V m c main_v2 (ix2 (row t r) k) := by
  unfold row
  blk_simp [iblk]
  refine congrArg _ ?_
  blk_ext [i1]

theorem blk2 (t : Fin cfg0.N) (r : Fin 256) (k : Fin 1024) : iblk m c 2 t (ix2 r k) = V m c main_arg2 (ix2 (row t r) k) := by
  unfold row
  blk_simp [iblk]
  refine congrArg _ ?_
  blk_ext [i2]

theorem blk3 (t : Fin cfg0.N) (r : Fin 1024) (k : Fin 1024) : iblk m c 3 t (ix2 r k) = V m c main_v3 (ix2 r k) := by
  blk_simp [iblk]
  refine congrArg _ ?_
  blk_ext [i3]

theorem blk4 (t : Fin cfg0.N) (r : Fin 8) (k : Fin 1024) : iblk m c 4 t (ix2 r k) = V m c main_v12 (ix2 r k) := by
  blk_simp [iblk]
  refine congrArg _ ?_
  blk_ext [i4]

theorem blk5 (t : Fin cfg0.N) (r : Fin 8) (k : Fin 1024) : iblk m c 5 t (ix2 r k) = V m c main_v19 (ix2 r k) := by
  blk_simp [iblk]
  refine congrArg _ ?_
  blk_ext [i5]

theorem blk6 (t : Fin cfg0.N) (r : Fin 2816) (k : Fin 1024) : iblk m c 6 t (ix2 r k) = V m c main_v21 (ix2 r k) := by
  blk_simp [iblk]
  refine congrArg _ ?_
  blk_ext [i6]

theorem blk7 (t : Fin cfg0.N) (r : Fin 2816) (k : Fin 1024) : iblk m c 7 t (ix2 r k) = V m c main_v23 (ix2 r k) := by
  blk_simp [iblk]
  refine congrArg _ ?_
  blk_ext [i7]

theorem blk8 (t : Fin cfg0.N) (r : Fin 2816) (k : Fin 1024) : iblk m c 8 t (ix2 r k) = V m c main_v24 (ix2 r k) := by
  blk_simp [iblk]
  refine congrArg _ ?_
  blk_ext [i8]

theorem blk9 (t : Fin cfg0.N) (r : Fin 256) (k : Fin 1024) : iblk m c 9 t (ix2 r k) = V m c main_arg14 (ix2 (row t r) k) := by
  unfold row
  blk_simp [iblk]
  refine congrArg _ ?_
  blk_ext [i9]

variable {m c d T} (E : Entry m c d T)
include E

/-- The blocks of a point, in real numbers. -/
theorem blks (t : Fin cfg0.N) : Blk d T (row t) (iblk m c 0 t) (iblk m c 1 t) (iblk m c 2 t) (iblk m c 3 t) (iblk m c 4 t) (iblk m c 5 t)
    (iblk m c 6 t) (iblk m c 7 t) (iblk m c 8 t) (iblk m c 9 t) where
  b0 r k := (blk0 m c t r k).trans (E.e0 _ _)
  b1 r k := (blk1 m c t r k).trans (E.e1 _ _)
  b2 r k := (blk2 m c t r k).trans (E.e2 _ _)
  b3 k n := (blk3 m c t k n).trans (E.e3 _ _)
  b42 k := (blk4 m c t 2 k).trans (E.e42 _)
  b43 k := (blk4 m c t 3 k).trans (E.e43 _)
  b44 k := (blk4 m c t 4 k).trans (E.e44 _)
  b45 k := (blk4 m c t 5 k).trans (E.e45 _)
  b51 k := (blk5 m c t 1 k).trans (E.e51 _)
  b52 k := (blk5 m c t 2 k).trans (E.e52 _)
  b53 k := (blk5 m c t 3 k).trans (E.e53 _)
  b6 j k := (blk6 m c t j k).trans (E.e6 _ _)
  b7 j k := (blk7 m c t j k).trans (E.e7 _ _)
  b8 j k := (blk8 m c t j k).trans (E.e8 _ _)
  b9 r k := (blk9 m c t r k).trans (E.e9 _ _)

theorem out10 (t : Fin cfg0.N) (r : Fin 256) (k : Fin 1024) : (outsAt0 m c t.val t.isLt).1 (ix2 r k) = ((d.mix (row t r) k : ℝ) : EReal) := by
  by_cases h : t.val % 32 = 0
  · rw [outsAt0_A m c t h]; dsimp only; rw [out_A_10 (B := blks E t)]
  · rw [outsAt0_B m c t h]; dsimp only; rw [out_B_10 (B := blks E t)]

theorem out11 (t : Fin cfg0.N) (r : Fin 256) (k : Fin 1024) : (outsAt0 m c t.val t.isLt).2.1 (ix2 r k) = ((d.x1 (row t r) k : ℝ) : EReal) := by
  by_cases h : t.val % 32 = 0
  · rw [outsAt0_A m c t h]; dsimp only; rw [out_A_11 (B := blks E t)]
  · rw [outsAt0_B m c t h]; dsimp only; rw [out_B_11 (B := blks E t)]

theorem out12 (t : Fin cfg0.N) (r : Fin 256) (k : Fin 1024) : (outsAt0 m c t.val t.isLt).2.2.1 (ix2 r k) = ((d.h (row t r) k : ℝ) : EReal) := by
  by_cases h : t.val % 32 = 0
  · rw [outsAt0_A m c t h]; dsimp only; rw [out_A_12 (B := blks E t)]
  · rw [outsAt0_B m c t h]; dsimp only; rw [out_B_12 (B := blks E t)]

theorem out13 (t : Fin cfg0.N) (r : Fin 256) (k : Fin 2816) : (outsAt0 m c t.val t.isLt).2.2.2.1 (ix2 r k) = ((d.act (row t r) k : ℝ) : EReal) := by
  by_cases h : t.val % 32 = 0
  · rw [outsAt0_A m c t h]; dsimp only; rw [out_A_13 (B := blks E t)]
  · rw [outsAt0_B m c t h]; dsimp only; rw [out_B_13 (B := blks E t)]

theorem out14 (t : Fin cfg0.N) (r : Fin 256) (k : Fin 2816) : (outsAt0 m c t.val t.isLt).2.2.2.2.1 (ix2 r k) = ((d.dga (row t r) k : ℝ) : EReal) := by
  by_cases h : t.val % 32 = 0
  · rw [outsAt0_A m c t h]; dsimp only; rw [out_A_14 (B := blks E t)]
  · rw [outsAt0_B m c t h]; dsimp only; rw [out_B_14 (B := blks E t)]

theorem out15 (t : Fin cfg0.N) (r : Fin 256) (k : Fin 2816) : (outsAt0 m c t.val t.isLt).2.2.2.2.2.1 (ix2 r k) = ((d.dgb (row t r) k : ℝ) : EReal) := by
  by_cases h : t.val % 32 = 0
  · rw [outsAt0_A m c t h]; dsimp only; rw [out_A_15 (B := blks E t)]
  · rw [outsAt0_B m c t h]; dsimp only; rw [out_B_15 (B := blks E t)]

theorem out16 (t : Fin cfg0.N) (r : Fin 256) (k : Fin 1024) : (outsAt0 m c t.val t.isLt).2.2.2.2.2.2.1 (ix2 r k) = ((d.f (row t r) k : ℝ) : EReal) := by
  by_cases h : t.val % 32 = 0
  · rw [outsAt0_A m c t h]; dsimp only; rw [out_A_16 (B := blks E t)]
  · rw [outsAt0_B m c t h]; dsimp only; rw [out_B_16 (B := blks E t)]

theorem out17 (t : Fin cfg0.N) (r : Fin 256) (k : Fin 1024) : (outsAt0 m c t.val t.isLt).2.2.2.2.2.2.2.1 (ix2 r k) = ((d.dy (row t r) T k : ℝ) : EReal) := by
  by_cases h : t.val % 32 = 0
  · rw [outsAt0_A m c t h]; dsimp only; rw [out_A_17 (B := blks E t)]
  · rw [outsAt0_B m c t h]; dsimp only; rw [out_B_17 (B := blks E t)]

/-- A point adds its rows' loss to the sum. -/
theorem out18_zero (h : 0 < cfg0.N) (n : Fin 8) (k : Fin 128) :
    (outsAt0 m c 0 h).2.2.2.2.2.2.2.2 (ix2 n k) = 0 + ((1 / 2 * ∑ r, d.rowLoss (row ⟨0, h⟩ r) T : ℝ) : EReal) := by
  rw [outsAt0_A m c ⟨0, h⟩ rfl]; dsimp only; rw [out_A_18 (B := blks E ⟨0, h⟩)]

theorem out18_succ (i : ℕ) (h : i + 1 < cfg0.N) (n : Fin 8) (k : Fin 128) :
    (outsAt0 m c (i + 1) h).2.2.2.2.2.2.2.2 (ix2 n k)
      = (outsAt0 m c i (Nat.lt_of_succ_lt h)).2.2.2.2.2.2.2.2 (ix2 n k) + ((1 / 2 * ∑ r, d.rowLoss (row ⟨i + 1, h⟩ r) T : ℝ) : EReal) := by
  have hB : ¬ (⟨i + 1, h⟩ : Fin cfg0.N).val % 32 = 0 := by rw [size] at h; show ¬ (i + 1) % 32 = 0; omega
  rw [outsAt0_B m c ⟨i + 1, h⟩ hB]; dsimp only; rw [out_B_18 (B := blks E ⟨i + 1, h⟩)]; rfl

omit E

/-- What the points up to the `i`-th have added. -/
def upto (d : Fwd) (T : Fin 8192 → Fin 1024 → ℝ) (i : ℕ) : ℝ :=
  ∑ s ∈ Finset.range (i + 1), if h : s < cfg0.N then 1 / 2 * ∑ r, d.rowLoss (row ⟨s, h⟩ r) T else 0

include E in
theorem out18 (n : Fin 8) (k : Fin 128) : ∀ (i : ℕ) (h : i < cfg0.N), (outsAt0 m c i h).2.2.2.2.2.2.2.2 (ix2 n k) = ((upto d T i : ℝ) : EReal)
  | 0, h => by
    rw [out18_zero E h n k, zero_add, upto, Finset.sum_range_one, dif_pos h]
  | i + 1, h => by
    rw [out18_succ E i h n k, out18 n k i _, add]
    refine congrArg _ ?_
    rw [upto, upto, Finset.sum_range_succ _ (i + 1), dif_pos h]

/-- A sum over all rows, block by block. -/
theorem sum_rows (f : Fin 8192 → ℝ) : ∑ t : Fin cfg0.N, ∑ r : Fin 256, f (row t r) = ∑ n : Fin 8192, f n := by
  rw [Fintype.sum_prod_type' (f := fun (t : Fin cfg0.N) (r : Fin 256) => f (row t r)) |>.symm]
  refine Fintype.sum_bijective (fun x : Fin cfg0.N × Fin 256 => row x.1 x.2) ⟨?_, fun n => ?_⟩ _ _ fun _ => rfl
  · rintro ⟨a, r⟩ ⟨b, s⟩ h
    have h' : 256 * a.val + r.val = 256 * b.val + s.val := congrArg Fin.val h
    exact Prod.ext (Fin.ext (by show a.val = b.val; omega)) (Fin.ext (by show r.val = s.val; omega))
  · refine ⟨(⟨n.val / 256, by rw [size]; omega⟩, ⟨n.val % 256, by omega⟩), Fin.ext ?_⟩
    show 256 * (n.val / 256) + n.val % 256 = n.val
    omega

theorem upto_last : upto d T 31 = 1 / 2 * ∑ t, d.rowLoss t T := by
  have e : upto d T 31 = ∑ t : Fin cfg0.N, 1 / 2 * ∑ r, d.rowLoss (row t r) T := by
    rw [upto, ← Fin.sum_univ_eq_sum_range (fun s => if h : s < cfg0.N then 1 / 2 * ∑ r, d.rowLoss (row ⟨s, h⟩ r) T else 0)]
    exact Fintype.sum_equiv (finCongr size.symm) _ _ fun x => dif_pos (lt_of_lt_of_eq x.isLt size.symm)
  rw [e, ← Finset.mul_sum]
  exact congrArg _ (sum_rows fun t => d.rowLoss t T)

/-! The result arrays. -/

def G10 (d : Fwd) : S8192x1024.Idx → EReal := fun y => ((d.mix (y 0) (y 1) : ℝ) : EReal)
def G11 (d : Fwd) : S8192x1024.Idx → EReal := fun y => ((d.x1 (y 0) (y 1) : ℝ) : EReal)
def G12 (d : Fwd) : S8192x1024.Idx → EReal := fun y => ((d.h (y 0) (y 1) : ℝ) : EReal)
def G13 (d : Fwd) : S8192x2816.Idx → EReal := fun y => ((d.act (y 0) (y 1) : ℝ) : EReal)
def G14 (d : Fwd) : S8192x2816.Idx → EReal := fun y => ((d.dga (y 0) (y 1) : ℝ) : EReal)
def G15 (d : Fwd) : S8192x2816.Idx → EReal := fun y => ((d.dgb (y 0) (y 1) : ℝ) : EReal)
def G16 (d : Fwd) : S8192x1024.Idx → EReal := fun y => ((d.f (y 0) (y 1) : ℝ) : EReal)
def G17 (d : Fwd) (T : Fin 8192 → Fin 1024 → ℝ) : S8192x1024.Idx → EReal := fun y => ((d.dy (y 0) T (y 1) : ℝ) : EReal)
def G18 (d : Fwd) (T : Fin 8192 → Fin 1024 → ℝ) : S8x128.Idx → EReal := fun _ => ((1 / 2 * ∑ t, d.rowLoss t T : ℝ) : EReal)

include E

theorem final10 : (dats m 0 c).arrAt 10 cfg0.N = G10 d := by
  refine (dats m 0 c).arrAt_eq_of_covers 10 (G10 d) (by decide +kernel) fun t hf y => ?_
  blk_simp
  rw [after0_10]
  idx_vars y
  refine (out10 E t y0 y1).trans ?_
  have e : ((View.whole main_v25_0).slice (win0_10.rect t)).emb (ix2 y0 y1) = ix2 (row t y0) y1 := by
    unfold row
    blk_ext [i10]
  rw [e]
  rfl

theorem final11 : (dats m 0 c).arrAt 11 cfg0.N = G11 d := by
  refine (dats m 0 c).arrAt_eq_of_covers 11 (G11 d) (by decide +kernel) fun t hf y => ?_
  blk_simp
  rw [after0_11]
  idx_vars y
  refine (out11 E t y0 y1).trans ?_
  have e : ((View.whole main_v25_1).slice (win0_11.rect t)).emb (ix2 y0 y1) = ix2 (row t y0) y1 := by
    unfold row
    blk_ext [i11]
  rw [e]
  rfl

theorem final12 : (dats m 0 c).arrAt 12 cfg0.N = G12 d := by
  refine (dats m 0 c).arrAt_eq_of_covers 12 (G12 d) (by decide +kernel) fun t hf y => ?_
  blk_simp
  rw [after0_12]
  idx_vars y
  refine (out12 E t y0 y1).trans ?_
  have e : ((View.whole main_v25_2).slice (win0_12.rect t)).emb (ix2 y0 y1) = ix2 (row t y0) y1 := by
    unfold row
    blk_ext [i12]
  rw [e]
  rfl

theorem final13 : (dats m 0 c).arrAt 13 cfg0.N = G13 d := by
  refine (dats m 0 c).arrAt_eq_of_covers 13 (G13 d) (by decide +kernel) fun t hf y => ?_
  blk_simp
  rw [after0_13]
  idx_vars y
  refine (out13 E t y0 y1).trans ?_
  have e : ((View.whole main_v25_3).slice (win0_13.rect t)).emb (ix2 y0 y1) = ix2 (row t y0) y1 := by
    unfold row
    blk_ext [i13]
  rw [e]
  rfl

theorem final14 : (dats m 0 c).arrAt 14 cfg0.N = G14 d := by
  refine (dats m 0 c).arrAt_eq_of_covers 14 (G14 d) (by decide +kernel) fun t hf y => ?_
  blk_simp
  rw [after0_14]
  idx_vars y
  refine (out14 E t y0 y1).trans ?_
  have e : ((View.whole main_v25_4).slice (win0_14.rect t)).emb (ix2 y0 y1) = ix2 (row t y0) y1 := by
    unfold row
    blk_ext [i14]
  rw [e]
  rfl

theorem final15 : (dats m 0 c).arrAt 15 cfg0.N = G15 d := by
  refine (dats m 0 c).arrAt_eq_of_covers 15 (G15 d) (by decide +kernel) fun t hf y => ?_
  blk_simp
  rw [after0_15]
  idx_vars y
  refine (out15 E t y0 y1).trans ?_
  have e : ((View.whole main_v25_5).slice (win0_15.rect t)).emb (ix2 y0 y1) = ix2 (row t y0) y1 := by
    unfold row
    blk_ext [i15]
  rw [e]
  rfl

theorem final16 : (dats m 0 c).arrAt 16 cfg0.N = G16 d := by
  refine (dats m 0 c).arrAt_eq_of_covers 16 (G16 d) (by decide +kernel) fun t hf y => ?_
  blk_simp
  rw [after0_16]
  idx_vars y
  refine (out16 E t y0 y1).trans ?_
  have e : ((View.whole main_v25_6).slice (win0_16.rect t)).emb (ix2 y0 y1) = ix2 (row t y0) y1 := by
    unfold row
    blk_ext [i16]
  rw [e]
  rfl

theorem final17 : (dats m 0 c).arrAt 17 cfg0.N = G17 d T := by
  refine (dats m 0 c).arrAt_eq_of_covers 17 (G17 d T) (by decide +kernel) fun t hf y => ?_
  blk_simp
  rw [after0_17]
  idx_vars y
  refine (out17 E t y0 y1).trans ?_
  have e : ((View.whole main_v25_7).slice (win0_17.rect t)).emb (ix2 y0 y1) = ix2 (row t y0) y1 := by
    unfold row
    blk_ext [i17]
  rw [e]
  rfl

theorem out18_last (n : Fin 8) (k : Fin 128) : (outsAt0 m c last.val last.isLt).2.2.2.2.2.2.2.2 (ix2 n k) = ((1 / 2 * ∑ t, d.rowLoss t T : ℝ) : EReal) := by
  rw [out18 E n k last.val last.isLt, last_val, upto_last]

theorem final18 : (dats m 0 c).arrAt 18 cfg0.N = G18 d T := by
  refine (dats m 0 c).arrAt_eq_of_after_last 18 last (by decide +kernel) (G18 d T) fun y => ?_
  rw [after0_18]
  idx_vars y
  blk_simp
  exact out18_last E y0 y1

end Cert.LossIdeal.Blocks
-- ==== Proof.Loss.Reference.lean ====
/-
  The reference's arrays of the output projection and the feed-forward block's forward pass, with the loss, read at an index over real arguments.
-/
module

public import proofs.«01_k».proof.Proof.Gen.LossRefIdeal.Read
public import proofs.«01_k».proof.Proof.Net.Forward
public import Idealize.ShloMosaic.Lib.Pointwise

@[expose] public section

set_option maxRecDepth 16384

noncomputable section

open Idealize.ShloMosaic Idealize.ShloMosaic.TcCoe Idealize.SL.Sem

namespace Cert.LossRefIdeal.Value

open Cert.LossRefIdeal Cert.LossRefIdeal.Gen Cert.LossRefIdeal.Read Cert.Proof Cert.Proof.Net

section

variable (x0 x1 : FVec Ideal S8192x512 .f32) (x2 : FVec Ideal S8192x1024 .f32) (x3 : FVec Ideal S1024x1024 .f32)
  (x4 x5 x6 x7 x8 x9 x10 : FVec Ideal S1024 .f32) (x11 x12 : FVec Ideal S1024x2816 .f32) (x13 : FVec Ideal S2816x1024 .f32) (x14 : FVec Ideal S8192x1024 .f32) (d : Fwd) (T : Fin 8192 → Fin 1024 → ℝ)

/-- The arguments are these real numbers. -/
structure Reads : Prop where
  r0 : ∀ t k, x0 (ix2 t k) = (d.A t k : EReal)
  r1 : ∀ t k, x1 (ix2 t k) = (d.P t k : EReal)
  r2 : ∀ t k, x2 (ix2 t k) = (d.X t k : EReal)
  r3 : ∀ k n, x3 (ix2 k n) = (d.WO k n : EReal)
  r4 : ∀ k, x4 (ix1 k) = (d.gm k : EReal)
  r5 : ∀ k, x5 (ix1 k) = (d.gt k : EReal)
  r6 : ∀ k, x6 (ix1 k) = (d.gp k : EReal)
  r7 : ∀ k, x7 (ix1 k) = (d.gq k : EReal)
  r8 : ∀ k, x8 (ix1 k) = (d.sh k : EReal)
  r9 : ∀ k, x9 (ix1 k) = (d.sc k : EReal)
  r10 : ∀ k, x10 (ix1 k) = (d.ga k : EReal)
  r11 : ∀ k j, x11 (ix2 k j) = (d.WG k j : EReal)
  r12 : ∀ k j, x12 (ix2 k j) = (d.WU k j : EReal)
  r13 : ∀ j n, x13 (ix2 j n) = (d.WD j n : EReal)
  r14 : ∀ t n, x14 (ix2 t n) = (T t n : EReal)

variable {x0 x1 x2 x3 x4 x5 x6 x7 x8 x9 x10 x11 x12 x13 x14 d T} (R : Reads x0 x1 x2 x3 x4 x5 x6 x7 x8 x9 x10 x11 x12 x13 x14 d T) (t : Fin 8192) (k : Fin 1024) (j : Fin 2816)
include R

omit R in
variable (x0 x1) in
/-- The two inputs side by side. -/
theorem at_lo (i : Fin 512) : val_main_v0 (F := Ideal) x0 x1 (ix2 t (lo i)) = x0 (ix2 t i) := by
  pointwise [val_main_v0]
  rw [dif_pos (show (lo i).val < 512 from i.isLt)]
  rfl

omit R in
variable (x0 x1) in
theorem at_hi (i : Fin 512) : val_main_v0 (F := Ideal) x0 x1 (ix2 t (hi i)) = x1 (ix2 t i) := by
  pointwise [val_main_v0]
  rw [dif_neg (show ¬ (hi i).val < 512 by unfold hi; simp)]
  exact congrArg x1 (congrArg (ix2 t) (Fin.ext (by unfold hi; simp)))

/-- The two inputs side by side are real numbers. -/
theorem at_v0 (i : Fin 1024) : val_main_v0 (F := Ideal) x0 x1 (ix2 t i)
    = (((if h : i.val < 512 then d.A t ⟨i.val, h⟩ else d.P t ⟨i.val - 512, by omega⟩) : ℝ) : EReal) := by
  by_cases h : i.val < 512
  · rw [dif_pos h]
    exact (at_lo x0 x1 t ⟨i.val, h⟩).trans (R.r0 _ _)
  · rw [dif_neg h, ← R.r1]
    refine Eq.trans (congrArg _ (congrArg (ix2 t) (Fin.ext ?_))) (at_hi x0 x1 t ⟨i.val - 512, by omega⟩)
    show i.val = 512 + (i.val - 512)
    omega

theorem at_v1 : val_main_v1 (F := Ideal) x0 x1 x3 (ix2 t k) = ((d.mix t k : ℝ) : EReal) := by
  pointwise [val_main_v1]
  simp only [at_v0 R, R.r3, mul, sum]
  refine congrArg _ ((sum_halves _).trans ?_)
  refine congrArg₂ (· + ·) (Finset.sum_congr rfl fun i _ => ?_) (Finset.sum_congr rfl fun i _ => ?_)
  · rw [dif_pos (show (lo i).val < 512 from i.isLt)]
    rfl
  · rw [dif_neg (show ¬ (hi i).val < 512 by unfold hi; simp)]
    exact congrArg (· * _) (congrArg (d.P t) (Fin.ext (by unfold hi; simp)))

/-- The norm of the projection. -/
theorem at_v8 : val_main_v8 (F := Ideal) x0 x1 x3 (ix2 t 0) = ((var (d.mix t) : ℝ) : EReal) := by
  pointwise [val_main_v8, val_main_v7, val_main_v6, val_main_v5, val_main_v4, val_main_v3, val_main_v2, val_main_cst, val_main_cst_0, val_main_cst_1]
  simp only [at_v1 R, bits_zero, bits_mean, bits_eps, mul, sum, add, div _ _ (show (1024 : ℝ) ≠ 0 by norm_num), zero_add]
  rfl

theorem at_v9 : val_main_v9 (F := Ideal) x0 x1 x3 (ix2 t 0) = ((inv (d.mix t) : ℝ) : EReal) := by
  pointwise [val_main_v9]
  simp only [at_v8 R, rsqrt _ (var_pos _)]
  rfl

theorem at_v11 : val_main_v11 (F := Ideal) x0 x1 x3 (ix2 t k) = ((norm (d.mix t) k : ℝ) : EReal) := by
  pointwise [val_main_v11, val_main_v10]
  simp only [at_v1 R, at_v9 R, mul]
  rfl

theorem at_v18 : val_main_v18 (F := Ideal) x0 x1 x2 x3 x4 x5 (ix2 t k) = ((d.x1 t k : ℝ) : EReal) := by
  pointwise [val_main_v18, val_main_v17, val_main_v16, val_main_v15, val_main_v14, val_main_v13, val_main_v12]
  simp only [at_v11 R, R.r2, R.r4, R.r5, mul, add]
  rfl

/-- The second norm. -/
theorem at_v25 : val_main_v25 (F := Ideal) x0 x1 x2 x3 x4 x5 (ix2 t 0) = ((var (d.x1 t) : ℝ) : EReal) := by
  pointwise [val_main_v25, val_main_v24, val_main_v23, val_main_v22, val_main_v21, val_main_v20, val_main_v19, val_main_cst_2, val_main_cst_3, val_main_cst_4]
  simp only [at_v18 R, bits_zero, bits_mean, bits_eps, mul, sum, add, div _ _ (show (1024 : ℝ) ≠ 0 by norm_num), zero_add]
  rfl

theorem at_v26 : val_main_v26 (F := Ideal) x0 x1 x2 x3 x4 x5 (ix2 t 0) = ((inv (d.x1 t) : ℝ) : EReal) := by
  pointwise [val_main_v26]
  simp only [at_v25 R, rsqrt _ (var_pos _)]
  rfl

theorem at_v28 : val_main_v28 (F := Ideal) x0 x1 x2 x3 x4 x5 (ix2 t k) = ((norm (d.x1 t) k : ℝ) : EReal) := by
  pointwise [val_main_v28, val_main_v27]
  simp only [at_v18 R, at_v26 R, mul]
  rfl

theorem at_v39 : val_main_v39 (F := Ideal) x0 x1 x2 x3 x4 x5 x6 x8 x9 (ix2 t k) = ((d.h t k : ℝ) : EReal) := by
  pointwise [val_main_v39, val_main_v38, val_main_v37, val_main_v36, val_main_v35, val_main_v34, val_main_v33, val_main_v32, val_main_v31, val_main_v30, val_main_v29, val_main_cst_5]
  simp only [at_v28 R, R.r6, R.r8, R.r9, bits_one, mul, add]
  rfl

theorem at_v40 : val_main_v40 (F := Ideal) x0 x1 x2 x3 x4 x5 x6 x8 x9 x11 (ix2 t j) = ((d.a t j : ℝ) : EReal) := by
  pointwise [val_main_v40]
  simp only [at_v39 R, R.r11, mul, sum]
  rfl

theorem at_v41 : val_main_v41 (F := Ideal) x0 x1 x2 x3 x4 x5 x6 x8 x9 x12 (ix2 t j) = ((d.b t j : ℝ) : EReal) := by
  pointwise [val_main_v41]
  simp only [at_v39 R, R.r12, mul, sum]
  rfl

theorem at_v42_2 : val_main_v42_2 (F := Ideal) x0 x1 x2 x3 x4 x5 x6 x8 x9 x11 (ix2 t j) = ((sg (d.a t j) : ℝ) : EReal) := by
  pointwise [val_main_v42_2, val_main_call0_v0, val_main_call0_v1, val_main_call0_cst, val_main_call0_v2, val_main_call0_v3, val_main_call0_cst_0, val_main_call0_v4]
  simp only [at_v40 R, one, neg, exp, add, div _ _ (one_add_exp _)]
  rfl

theorem at_v42_1 : val_main_v42_1 (F := Ideal) x0 x1 x2 x3 x4 x5 x6 x8 x9 x11 (ix2 t j) = ((sg (d.a t j) * (1 - sg (d.a t j)) : ℝ) : EReal) := by
  pointwise [val_main_v42_1, val_main_call0_v7, val_main_call0_v6, val_main_call0_cst_1]
  simp only [at_v42_2 R, one, sub, mul]

theorem at_v42_0 : val_main_v42_0 (F := Ideal) x0 x1 x2 x3 x4 x5 x6 x8 x9 x11 (ix2 t j) = ((d.dgb t j : ℝ) : EReal) := by
  pointwise [val_main_v42_0]
  simp only [at_v40 R, at_v42_2 R, mul]
  rfl

theorem at_v43 : val_main_v43 (F := Ideal) x0 x1 x2 x3 x4 x5 x6 x8 x9 x11 x12 (ix2 t j) = ((d.act t j : ℝ) : EReal) := by
  pointwise [val_main_v43]
  simp only [at_v42_0 R, at_v41 R, mul]
  rfl

theorem at_v44 : val_main_v44 (F := Ideal) x0 x1 x2 x3 x4 x5 x6 x8 x9 x11 x12 x13 (ix2 t k) = ((d.f t k : ℝ) : EReal) := by
  pointwise [val_main_v44]
  simp only [at_v43 R, R.r13, mul, sum]
  rfl

theorem at_v45 : val_main_v45 (F := Ideal) x0 x1 x2 x3 x4 x5 x6 x8 x9 (ix2 t k) = ((d.h t k : ℝ) : EReal) := by
  pointwise [val_main_v45]
  simp only [at_v39 R]

theorem at_v46 : val_main_v46 (F := Ideal) x0 x1 x2 x3 x4 x5 x6 x8 x9 x11 x12 (ix2 t j) = ((d.act t j : ℝ) : EReal) := by
  pointwise [val_main_v46]
  simp only [at_v43 R]

/-- Silu's derivative, as the sum of its two terms. -/
theorem at_v48 : val_main_v48 (F := Ideal) x0 x1 x2 x3 x4 x5 x6 x8 x9 x11 x12 (ix2 t j) = ((d.dga t j : ℝ) : EReal) := by
  pointwise [val_main_v48, val_main_v47, val_main_call1_v2, val_main_call1_v1, val_main_call1_v0]
  simp only [at_v40 R, at_v41 R, at_v42_1 R, at_v42_2 R, mul, add]
  refine congrArg _ ?_
  unfold Fwd.dga dsilu
  ring

theorem at_v49 : val_main_v49 (F := Ideal) x0 x1 x2 x3 x4 x5 x6 x8 x9 x11 (ix2 t j) = ((d.dgb t j : ℝ) : EReal) := by
  pointwise [val_main_v49]
  simp only [at_v42_0 R]

/-- The last norm. -/
theorem at_v56 : val_main_v56 (F := Ideal) x0 x1 x2 x3 x4 x5 x6 x8 x9 x11 x12 x13 (ix2 t 0) = ((var (d.f t) : ℝ) : EReal) := by
  pointwise [val_main_v56, val_main_v55, val_main_v54, val_main_v53, val_main_v52, val_main_v51, val_main_v50, val_main_cst_6, val_main_cst_7, val_main_cst_8]
  simp only [at_v44 R, bits_zero, bits_mean, bits_eps, mul, sum, add, div _ _ (show (1024 : ℝ) ≠ 0 by norm_num), zero_add]
  rfl

theorem at_v57 : val_main_v57 (F := Ideal) x0 x1 x2 x3 x4 x5 x6 x8 x9 x11 x12 x13 (ix2 t 0) = ((inv (d.f t) : ℝ) : EReal) := by
  pointwise [val_main_v57]
  simp only [at_v56 R, rsqrt _ (var_pos _)]
  rfl

theorem at_v59 : val_main_v59 (F := Ideal) x0 x1 x2 x3 x4 x5 x6 x8 x9 x11 x12 x13 (ix2 t k) = ((norm (d.f t) k : ℝ) : EReal) := by
  pointwise [val_main_v59, val_main_v58]
  simp only [at_v44 R, at_v57 R, mul]
  rfl

theorem at_v66 : val_main_v66 (F := Ideal) x0 x1 x2 x3 x4 x5 x6 x7 x8 x9 x10 x11 x12 x13 (ix2 t k) = ((d.y t k : ℝ) : EReal) := by
  pointwise [val_main_v66, val_main_v65, val_main_v64, val_main_v63, val_main_v62, val_main_v61, val_main_v60]
  simp only [at_v18 R, at_v59 R, R.r7, R.r10, mul, add]
  rfl

theorem at_v67 : val_main_v67 (F := Ideal) x0 x1 x2 x3 x4 x5 x6 x7 x8 x9 x10 x11 x12 x13 x14 (ix2 t k) = ((d.err t T k : ℝ) : EReal) := by
  pointwise [val_main_v67]
  simp only [at_v66 R, R.r14, sub]
  rfl

theorem at_v73 : val_main_v73 (F := Ideal) x0 x1 x2 x3 x4 x5 x6 x7 x8 x9 x10 x11 x12 x13 x14 (ix1 t) = ((d.rowLoss t T : ℝ) : EReal) := by
  pointwise [val_main_v73, val_main_v72, val_main_v71, val_main_v68, val_main_cst_10, val_main_cst_11]
  simp only [at_v67 R, bits_zero, bits_mean, mul, sum, add, div _ _ (show (1024 : ℝ) ≠ 0 by norm_num), zero_add]
  rfl

/-- The device's part of the loss. -/
theorem at_v82 (r : Fin 8) (q : Fin 128) : val_main_v82 (F := Ideal) x0 x1 x2 x3 x4 x5 x6 x7 x8 x9 x10 x11 x12 x13 x14 (ix2 r q)
    = ((1 / 2 * ∑ t, d.rowLoss t T : ℝ) : EReal) := by
  pointwise [val_main_v82, val_main_v75, val_main_v74, val_main_cst_12, val_main_cst_13]
  simp only [at_v73 R, bits_zero, bits_plus_half, mul, sum, add, zero_add]

theorem at_v81 : val_main_v81 (F := Ideal) x0 x1 x2 x3 x4 x5 x6 x7 x8 x9 x10 x11 x12 x13 x14 (ix2 t k) = ((d.dy t T k : ℝ) : EReal) := by
  pointwise [val_main_v81, val_main_v80, val_main_v79, val_main_v78, val_main_v77, val_main_v76, val_main_v70, val_main_v69, val_main_cst_9, val_main_cst_14, val_main_cst_15, val_main_cst_16]
  simp only [at_v67 R, bits_two, bits_plus_half, bits_one, bits_mean, one, mul, div _ _ (show (1024 : ℝ) ≠ 0 by norm_num)]
  refine congrArg _ ?_
  unfold Fwd.dy
  ring

end

end Cert.LossRefIdeal.Value
-- ==== Proof.Loss.Equation.lean ====
/-
  The forward kernel of the last layer and the reference end with the same nine arrays, where the arguments are finite.
-/
module

public import proofs.«01_k».proof.Proof.Loss.Arrays
public import proofs.«01_k».proof.Proof.Loss.Reference
public import proofs.«01_k».proof.Proof.Real
public import proofs.«01_k».proof.Proof.Gen.LossIdeal.Value
public import proofs.«01_k».proof.Proof.Gen.Pre_loss_finite
public import proofs.«01_k».proof.Proof.Ffn.Equation
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Proof.Loss

open Cert.Proof.Net
open Cert.Proof.Ffn (toReal_eq)
open Cert.LossIdeal.Blocks (G10 G11 G12 G13 G14 G15 G16 G17 G18)

section Arrays

variable (x0 : FVec Ideal Cert.Pre_loss_finite.S8192x512 .f32) (x1 : FVec Ideal Cert.Pre_loss_finite.S8192x512 .f32) (x2 : FVec Ideal
    Cert.Pre_loss_finite.S8192x1024 .f32) (x3 : FVec Ideal Cert.Pre_loss_finite.S1024x1024 .f32) (x4 : FVec Ideal Cert.Pre_loss_finite.S1024
    .f32) (x5 : FVec Ideal Cert.Pre_loss_finite.S1024 .f32) (x6 : FVec Ideal Cert.Pre_loss_finite.S1024 .f32) (x7 : FVec Ideal
    Cert.Pre_loss_finite.S1024 .f32) (x8 : FVec Ideal Cert.Pre_loss_finite.S1024 .f32) (x9 : FVec Ideal Cert.Pre_loss_finite.S1024 .f32) (x10 :
    FVec Ideal Cert.Pre_loss_finite.S1024 .f32) (x11 : FVec Ideal Cert.Pre_loss_finite.S1024x2816 .f32) (x12 : FVec Ideal
    Cert.Pre_loss_finite.S1024x2816 .f32) (x13 : FVec Ideal Cert.Pre_loss_finite.S2816x1024 .f32) (x14 : FVec Ideal
    Cert.Pre_loss_finite.S8192x1024 .f32)

section Finite

open Cert.Pre_loss_finite Cert.Pre_loss_finite.Gen

instance : Subsingleton Cert.Pre_loss_finite.S_.Idx := ⟨fun a b => funext fun i => i.elim0⟩

/-- The precondition says of each array that its elements are real. -/
theorem finite
    (h : Cert.Pre_loss_finite.fn (F := Ideal) x0 x1 x2 x3 x4 x5 x6 x7 x8 x9 x10 x11 x12 x13 x14 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀
      i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀
      i, IsReal (x12 i)) ∧ (∀ i, IsReal (x13 i)) ∧ (∀ i, IsReal (x14 i)) := by
  have t14 := congrFun h (fun i => i.elim0)
  obtain ⟨t13, a14⟩ := IntOp.andi_eq_one.1 t14
  obtain ⟨t12, a13⟩ := IntOp.andi_eq_one.1 t13
  obtain ⟨t11, a12⟩ := IntOp.andi_eq_one.1 t12
  obtain ⟨t10, a11⟩ := IntOp.andi_eq_one.1 t11
  obtain ⟨t9, a10⟩ := IntOp.andi_eq_one.1 t10
  obtain ⟨t8, a9⟩ := IntOp.andi_eq_one.1 t9
  obtain ⟨t7, a8⟩ := IntOp.andi_eq_one.1 t8
  obtain ⟨t6, a7⟩ := IntOp.andi_eq_one.1 t7
  obtain ⟨t5, a6⟩ := IntOp.andi_eq_one.1 t6
  obtain ⟨t4, a5⟩ := IntOp.andi_eq_one.1 t5
  obtain ⟨t3, a4⟩ := IntOp.andi_eq_one.1 t4
  obtain ⟨t2, a3⟩ := IntOp.andi_eq_one.1 t3
  obtain ⟨t1, a2⟩ := IntOp.andi_eq_one.1 t2
  obtain ⟨t0, a1⟩ := IntOp.andi_eq_one.1 t1
  exact ⟨fun i => isReal_of_cmp _ (Host.reduce_andi_all _ _ _ _ _ t0 i),
    fun i => isReal_of_cmp _ (Host.reduce_andi_all _ _ _ _ _ a1 i),
    fun i => isReal_of_cmp _ (Host.reduce_andi_all _ _ _ _ _ a2 i),
    fun i => isReal_of_cmp _ (Host.reduce_andi_all _ _ _ _ _ a3 i),
    fun i => isReal_of_cmp _ (Host.reduce_andi_all _ _ _ _ _ a4 i),
    fun i => isReal_of_cmp _ (Host.reduce_andi_all _ _ _ _ _ a5 i),
    fun i => isReal_of_cmp _ (Host.reduce_andi_all _ _ _ _ _ a6 i),
    fun i => isReal_of_cmp _ (Host.reduce_andi_all _ _ _ _ _ a7 i),
    fun i => isReal_of_cmp _ (Host.reduce_andi_all _ _ _ _ _ a8 i),
    fun i => isReal_of_cmp _ (Host.reduce_andi_all _ _ _ _ _ a9 i),
    fun i => isReal_of_cmp _ (Host.reduce_andi_all _ _ _ _ _ a10 i),
    fun i => isReal_of_cmp _ (Host.reduce_andi_all _ _ _ _ _ a11 i),
    fun i => isReal_of_cmp _ (Host.reduce_andi_all _ _ _ _ _ a12 i),
    fun i => isReal_of_cmp _ (Host.reduce_andi_all _ _ _ _ _ a13 i),
    fun i => isReal_of_cmp _ (Host.reduce_andi_all _ _ _ _ _ a14 i)⟩

end Finite

/-- The real numbers in the arrays. -/
def real (x0 : FVec Ideal Cert.Pre_loss_finite.S8192x512 .f32) (x1 : FVec Ideal Cert.Pre_loss_finite.S8192x512 .f32) (x2 : FVec Ideal
    Cert.Pre_loss_finite.S8192x1024 .f32) (x3 : FVec Ideal Cert.Pre_loss_finite.S1024x1024 .f32) (x4 : FVec Ideal Cert.Pre_loss_finite.S1024
    .f32) (x5 : FVec Ideal Cert.Pre_loss_finite.S1024 .f32) (x6 : FVec Ideal Cert.Pre_loss_finite.S1024 .f32) (x7 : FVec Ideal
    Cert.Pre_loss_finite.S1024 .f32) (x8 : FVec Ideal Cert.Pre_loss_finite.S1024 .f32) (x9 : FVec Ideal Cert.Pre_loss_finite.S1024 .f32) (x10 :
    FVec Ideal Cert.Pre_loss_finite.S1024 .f32) (x11 : FVec Ideal Cert.Pre_loss_finite.S1024x2816 .f32) (x12 : FVec Ideal
    Cert.Pre_loss_finite.S1024x2816 .f32) (x13 : FVec Ideal Cert.Pre_loss_finite.S2816x1024 .f32) : Fwd where
  A := fun t k => (x0 (ix2 t k)).toReal
  P := fun t k => (x1 (ix2 t k)).toReal
  X := fun t k => (x2 (ix2 t k)).toReal
  WO := fun t k => (x3 (ix2 t k)).toReal
  gm := fun k => (x4 (ix1 k)).toReal
  gt := fun k => (x5 (ix1 k)).toReal
  gp := fun k => (x6 (ix1 k)).toReal
  gq := fun k => (x7 (ix1 k)).toReal
  sh := fun k => (x8 (ix1 k)).toReal
  sc := fun k => (x9 (ix1 k)).toReal
  ga := fun k => (x10 (ix1 k)).toReal
  WG := fun t k => (x11 (ix2 t k)).toReal
  WU := fun t k => (x12 (ix2 t k)).toReal
  WD := fun t k => (x13 (ix2 t k)).toReal

def target (x14 : FVec Ideal Cert.Pre_loss_finite.S8192x1024 .f32) (t : Fin 8192) (k : Fin 1024) : ℝ := (x14 (ix2 t k)).toReal

/-- The arrays are their real numbers. -/
theorem reads
    (h : (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀
      i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀
      i, IsReal (x12 i)) ∧ (∀ i, IsReal (x13 i)) ∧ (∀ i, IsReal (x14 i))) :
    Cert.LossRefIdeal.Value.Reads x0 x1 x2 x3 x4 x5 x6 x7 x8 x9 x10 x11 x12 x13 x14 (real x0 x1 x2 x3 x4 x5 x6 x7 x8 x9 x10 x11 x12 x13) (target x14) := by
  obtain ⟨h0, h1, h2, h3, h4, h5, h6, h7, h8, h9, h10, h11, h12, h13, h14⟩ := h
  exact ⟨fun t k => toReal_eq (h0 _),
    fun t k => toReal_eq (h1 _),
    fun t k => toReal_eq (h2 _),
    fun t k => toReal_eq (h3 _),
    fun k => toReal_eq (h4 _),
    fun k => toReal_eq (h5 _),
    fun k => toReal_eq (h6 _),
    fun k => toReal_eq (h7 _),
    fun k => toReal_eq (h8 _),
    fun k => toReal_eq (h9 _),
    fun k => toReal_eq (h10 _),
    fun t k => toReal_eq (h11 _),
    fun t k => toReal_eq (h12 _),
    fun t k => toReal_eq (h13 _),
    fun t k => toReal_eq (h14 _)⟩

end Arrays

section Equal

open Cert.LossRefIdeal Cert.LossRefIdeal.Value Cert.LossRefIdeal.Read

variable {x0 : FVec Ideal S8192x512 .f32} {x1 : FVec Ideal S8192x512 .f32} {x2 : FVec Ideal S8192x1024 .f32} {x3 : FVec Ideal S1024x1024 .f32} {x4 :
  FVec Ideal S1024 .f32} {x5 : FVec Ideal S1024 .f32} {x6 : FVec Ideal S1024 .f32} {x7 : FVec Ideal S1024 .f32} {x8 : FVec Ideal S1024 .f32}
  {x9 : FVec Ideal S1024 .f32} {x10 : FVec Ideal S1024 .f32} {x11 : FVec Ideal S1024x2816 .f32} {x12 : FVec Ideal S1024x2816 .f32} {x13 : FVec
  Ideal S2816x1024 .f32} {x14 : FVec Ideal S8192x1024 .f32}
  {d : Fwd} {T : Fin 8192 → Fin 1024 → ℝ} (R : Reads x0 x1 x2 x3 x4 x5 x6 x7 x8 x9 x10 x11 x12 x13 x14 d T)
include R

theorem equal10 : val_main_v1 (F := Ideal) x0 x1 x3 = G10 d := by
  funext y
  idx_vars y
  exact at_v1 R y0 y1

theorem equal11 : val_main_v18 (F := Ideal) x0 x1 x2 x3 x4 x5 = G11 d := by
  funext y
  idx_vars y
  exact at_v18 R y0 y1

theorem equal12 : val_main_v45 (F := Ideal) x0 x1 x2 x3 x4 x5 x6 x8 x9 = G12 d := by
  funext y
  idx_vars y
  exact at_v45 R y0 y1

theorem equal13 : val_main_v46 (F := Ideal) x0 x1 x2 x3 x4 x5 x6 x8 x9 x11 x12 = G13 d := by
  funext y
  idx_vars y
  exact at_v46 R y0 y1

theorem equal14 : val_main_v48 (F := Ideal) x0 x1 x2 x3 x4 x5 x6 x8 x9 x11 x12 = G14 d := by
  funext y
  idx_vars y
  exact at_v48 R y0 y1

theorem equal15 : val_main_v49 (F := Ideal) x0 x1 x2 x3 x4 x5 x6 x8 x9 x11 = G15 d := by
  funext y
  idx_vars y
  exact at_v49 R y0 y1

theorem equal16 : val_main_v44 (F := Ideal) x0 x1 x2 x3 x4 x5 x6 x8 x9 x11 x12 x13 = G16 d := by
  funext y
  idx_vars y
  exact at_v44 R y0 y1

theorem equal17 : val_main_v81 (F := Ideal) x0 x1 x2 x3 x4 x5 x6 x7 x8 x9 x10 x11 x12 x13 x14 = G17 d T := by
  funext y
  idx_vars y
  exact at_v81 R y0 y1

theorem equal18 : val_main_v82 (F := Ideal) x0 x1 x2 x3 x4 x5 x6 x7 x8 x9 x10 x11 x12 x13 x14 = G18 d T := by
  funext y
  idx_vars y
  exact at_v82 R y0 y1

end Equal

/-- The kernel and the reference end with the same nine arrays. -/
theorem algebraic : Cert.algebraic_LossIdeal_LossRefIdeal_pre_loss_finite := by
  intro m g m' g' hpre hagree
  have hr := fun c : Dev Cert.LossIdeal.nD => reads _ _ _ _ _ _ _ _ _ _ _ _ _ _ _ (finite _ _ _ _ _ _ _ _ _ _ _ _ _ _ _ (hpre c))
  let D : Dev Cert.LossIdeal.nD → Fwd := fun c => real (m (c, Proc.devRef .tc Cert.LossIdeal.main_arg0)) (m (c, Proc.devRef .tc Cert.LossIdeal.main_arg1)) (m (c, Proc.devRef .tc
    Cert.LossIdeal.main_arg2)) (m (c, Proc.devRef .tc Cert.LossIdeal.main_arg3)) (m (c, Proc.devRef .tc Cert.LossIdeal.main_arg4)) (m (c,
    Proc.devRef .tc Cert.LossIdeal.main_arg5)) (m (c, Proc.devRef .tc Cert.LossIdeal.main_arg6)) (m (c, Proc.devRef .tc
    Cert.LossIdeal.main_arg7)) (m (c, Proc.devRef .tc Cert.LossIdeal.main_arg8)) (m (c, Proc.devRef .tc Cert.LossIdeal.main_arg9)) (m (c,
    Proc.devRef .tc Cert.LossIdeal.main_arg10)) (m (c, Proc.devRef .tc Cert.LossIdeal.main_arg11)) (m (c, Proc.devRef .tc
    Cert.LossIdeal.main_arg12)) (m (c, Proc.devRef .tc Cert.LossIdeal.main_arg13))
  let T : Dev Cert.LossIdeal.nD → Fin 8192 → Fin 1024 → ℝ := fun c => target (m (c, Proc.devRef .tc Cert.LossIdeal.main_arg14))
  have hk : ∀ c, Cert.LossIdeal.Blocks.Args m c (D c) (T c) := fun c => ⟨(hr c).r0, (hr c).r1, (hr c).r2, (hr c).r3, (hr c).r4, (hr c).r5, (hr c).r6, (hr c).r7, (hr c).r8, (hr c).r9, (hr c).r10, (hr c).r11, (hr c).r12, (hr c).r13, (hr c).r14⟩
  have hv : ∀ c : Dev Cert.LossRefIdeal.nD, Cert.LossRefIdeal.Value.Reads (StableHlo.launchContents m' c (Proc.devRef .tc Cert.LossRefIdeal.main_arg0)) (StableHlo.launchContents m' c (Proc.devRef .tc
      Cert.LossRefIdeal.main_arg1)) (StableHlo.launchContents m' c (Proc.devRef .tc Cert.LossRefIdeal.main_arg2)) (StableHlo.launchContents m' c
      (Proc.devRef .tc Cert.LossRefIdeal.main_arg3)) (StableHlo.launchContents m' c (Proc.devRef .tc Cert.LossRefIdeal.main_arg4))
      (StableHlo.launchContents m' c (Proc.devRef .tc Cert.LossRefIdeal.main_arg5)) (StableHlo.launchContents m' c (Proc.devRef .tc
      Cert.LossRefIdeal.main_arg6)) (StableHlo.launchContents m' c (Proc.devRef .tc Cert.LossRefIdeal.main_arg7)) (StableHlo.launchContents m' c
      (Proc.devRef .tc Cert.LossRefIdeal.main_arg8)) (StableHlo.launchContents m' c (Proc.devRef .tc Cert.LossRefIdeal.main_arg9))
      (StableHlo.launchContents m' c (Proc.devRef .tc Cert.LossRefIdeal.main_arg10)) (StableHlo.launchContents m' c (Proc.devRef .tc
      Cert.LossRefIdeal.main_arg11)) (StableHlo.launchContents m' c (Proc.devRef .tc Cert.LossRefIdeal.main_arg12)) (StableHlo.launchContents m' c
      (Proc.devRef .tc Cert.LossRefIdeal.main_arg13)) (StableHlo.launchContents m' c (Proc.devRef .tc Cert.LossRefIdeal.main_arg14)) (D c) (T c) := fun c => by
    have h := hr c
    exact ⟨fun t k => (congrFun ((hagree c).1) _).trans (h.r0 t k),
      fun t k => (congrFun ((hagree c).2.1) _).trans (h.r1 t k),
      fun t k => (congrFun ((hagree c).2.2.1) _).trans (h.r2 t k),
      fun t k => (congrFun ((hagree c).2.2.2.1) _).trans (h.r3 t k),
      fun k => (congrFun ((hagree c).2.2.2.2.1) _).trans (h.r4 k),
      fun k => (congrFun ((hagree c).2.2.2.2.2.1) _).trans (h.r5 k),
      fun k => (congrFun ((hagree c).2.2.2.2.2.2.1) _).trans (h.r6 k),
      fun k => (congrFun ((hagree c).2.2.2.2.2.2.2.1) _).trans (h.r7 k),
      fun k => (congrFun ((hagree c).2.2.2.2.2.2.2.2.1) _).trans (h.r8 k),
      fun k => (congrFun ((hagree c).2.2.2.2.2.2.2.2.2.1) _).trans (h.r9 k),
      fun k => (congrFun ((hagree c).2.2.2.2.2.2.2.2.2.2.1) _).trans (h.r10 k),
      fun t k => (congrFun ((hagree c).2.2.2.2.2.2.2.2.2.2.2.1) _).trans (h.r11 t k),
      fun t k => (congrFun ((hagree c).2.2.2.2.2.2.2.2.2.2.2.2.1) _).trans (h.r12 t k),
      fun t k => (congrFun ((hagree c).2.2.2.2.2.2.2.2.2.2.2.2.2.1) _).trans (h.r13 t k),
      fun t k => (congrFun ((hagree c).2.2.2.2.2.2.2.2.2.2.2.2.2.2) _).trans (h.r14 t k)⟩
  refine ⟨fun c => G10 (D c), fun c => G11 (D c), fun c => G12 (D c), fun c => G13 (D c), fun c => G14 (D c), fun c => G15 (D c), fun c => G16 (D c), fun c => G17 (D c) (T c), fun c => G18 (D c) (T c), ?_, ?_⟩
  · refine (θ_run Cert.LossIdeal.defs _ _).mono (fun r h c => ?_) (Cert.LossIdeal.Value.run_blocks (F := Ideal) m g)
    have E := Cert.LossIdeal.Blocks.entry (hk c)
    exact ⟨(h c).1.trans (Cert.LossIdeal.Blocks.final10 E),
      (h c).2.1.trans (Cert.LossIdeal.Blocks.final11 E),
      (h c).2.2.1.trans (Cert.LossIdeal.Blocks.final12 E),
      (h c).2.2.2.1.trans (Cert.LossIdeal.Blocks.final13 E),
      (h c).2.2.2.2.1.trans (Cert.LossIdeal.Blocks.final14 E),
      (h c).2.2.2.2.2.1.trans (Cert.LossIdeal.Blocks.final15 E),
      (h c).2.2.2.2.2.2.1.trans (Cert.LossIdeal.Blocks.final16 E),
      (h c).2.2.2.2.2.2.2.1.trans (Cert.LossIdeal.Blocks.final17 E),
      (h c).2.2.2.2.2.2.2.2.1.trans (Cert.LossIdeal.Blocks.final18 E), (h c).2.2.2.2.2.2.2.2.2⟩
  · refine (θ_run Cert.LossRefIdeal.defs _ _).mono (fun r h c => ?_) (Cert.LossRefIdeal.Value.run (F := Ideal) m' g')
    exact ⟨((h c).1.trans (Cert.LossRefIdeal.Read.val_main_v1_eq _)).trans (equal10 (hv c)),
      ((h c).2.1.trans (Cert.LossRefIdeal.Read.val_main_v18_eq _)).trans (equal11 (hv c)),
      ((h c).2.2.1.trans (Cert.LossRefIdeal.Read.val_main_v45_eq _)).trans (equal12 (hv c)),
      ((h c).2.2.2.1.trans (Cert.LossRefIdeal.Read.val_main_v46_eq _)).trans (equal13 (hv c)),
      ((h c).2.2.2.2.1.trans (Cert.LossRefIdeal.Read.val_main_v48_eq _)).trans (equal14 (hv c)),
      ((h c).2.2.2.2.2.1.trans (Cert.LossRefIdeal.Read.val_main_v49_eq _)).trans (equal15 (hv c)),
      ((h c).2.2.2.2.2.2.1.trans (Cert.LossRefIdeal.Read.val_main_v44_eq _)).trans (equal16 (hv c)),
      ((h c).2.2.2.2.2.2.2.1.trans (Cert.LossRefIdeal.Read.val_main_v81_eq _)).trans (equal17 (hv c)),
      ((h c).2.2.2.2.2.2.2.2.1.trans (Cert.LossRefIdeal.Read.val_main_v82_eq _)).trans (equal18 (hv c)),
      (h c).2.2.2.2.2.2.2.2.2⟩

/-- The reference ends, its arguments as they were and its semaphores at zero: it has none. -/
theorem frame_reference : Cert.quiescent_LossRefIdeal := by
  intro m g _
  refine (θ_run Cert.LossRefIdeal.defs _ _).mono (fun r h => ⟨fun c => (h c).2.2.2.2.2.2.2.2.2, ?_⟩) (Cert.LossRefIdeal.Value.run (F := Ideal) m g)
  exact Idealize.ShloMosaic.sem_eq_zero_of_no_sems (by decide) r.2

end Cert.Proof.Loss
-- ==== Proof.Adam.Step.lean ====
/-
  One number's AdamW step: the new first moment, the new second moment and the change of the weight.
-/
module

public import Idealize.ShloMosaic.Lib.Pointwise

@[expose] public section

noncomputable section

open Idealize.ShloMosaic

namespace Cert.Proof.Adam

/-- The new first moment, from the old one and the gradient. -/
def newM (m g : Ideal .f32) : Ideal .f32 :=
  FloatOps.addf (FloatOps.mulf (Scalar.ofBits .f32 0x3F666666#32) m) (FloatOps.mulf (Scalar.ofBits .f32 0x3DCCCCCD#32) g)

/-- The new second moment, from the old one and the gradient. -/
def newV (v g : Ideal .f32) : Ideal .f32 :=
  FloatOps.addf (FloatOps.mulf (Scalar.ofBits .f32 0x3F7FBE77#32) v) (FloatOps.mulf (Scalar.ofBits .f32 0x3A83126F#32) (FloatOps.mulf g g))

/-- The change of the weight, from the weight, the gradient and the old moments. -/
def delta (w g m v : Ideal .f32) : Ideal .f32 :=
  FloatOps.mulf (Scalar.ofBits .f32 0xBA83126F#32) (FloatOps.addf
    (FloatOps.divf (FloatOps.divf (newM m g) (Scalar.ofBits .f32 0x3F26BD02#32))
      (FloatOps.addf (FloatOps.sqrt (FloatOps.divf (newV v g) (Scalar.ofBits .f32 0x3C231ACC#32))) (Scalar.ofBits .f32 0x322BCC77#32)))
    (FloatOps.mulf (Scalar.ofBits .f32 0x3C23D70A#32) w))

end Cert.Proof.Adam

end
-- ==== Proof.AdamAdaW.Equation.lean ====
/-
  The AdamW step of `ada_w`: the kernel and the reference leave the same three arrays.
-/
module

public import proofs.«01_k».proof.Defs
public import proofs.«01_k».proof.Proof.Gen.AdamAdaWIdeal.Value
public import proofs.«01_k».proof.Proof.Gen.AdamAdaWRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamAdaW

section Kernel

open Cert.AdamAdaWIdeal Cert.AdamAdaWIdeal.Gen Cert.AdamAdaWIdeal.Value Cert.Proof.Adam

variable (m : (ℓ : Loc nD τ sig) → Buf (Elt Ideal) ℓ) (c : Dev nD)

theorem size : cfg0.N = 8 := rfl

/-- Row `r` of the block that point `t` works on. -/
def row (t : Fin cfg0.N) (r : Fin 256) : Fin 2048 := ⟨256 * t.val + r.val, by have := t.isLt; have := size; omega⟩

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![t.val, 0] := by decide +kernel
theorem i6 : ∀ t : Fin cfg0.N, win0_6.index t = ![t.val, 0] := by decide +kernel

theorem blk0 (t : Fin cfg0.N) (r : Fin 256) (k : Fin 1536) : iblk m c 0 t (ix2 r k) = V m c main_v0 (ix2 (row t r) k) := by
  unfold row
  blk_simp [iblk]
  refine congrArg _ ?_
  blk_ext [i0]

theorem blk1 (t : Fin cfg0.N) (r : Fin 256) (k : Fin 1536) : iblk m c 1 t (ix2 r k) = V m c main_v1 (ix2 (row t r) k) := by
  unfold row
  blk_simp [iblk]
  refine congrArg _ ?_
  blk_ext [i1]

theorem blk2 (t : Fin cfg0.N) (r : Fin 256) (k : Fin 1536) : iblk m c 2 t (ix2 r k) = V m c main_v2 (ix2 (row t r) k) := by
  unfold row
  blk_simp [iblk]
  refine congrArg _ ?_
  blk_ext [i2]

theorem blk3 (t : Fin cfg0.N) (r : Fin 256) (k : Fin 1536) : iblk m c 3 t (ix2 r k) = V m c main_v3 (ix2 (row t r) k) := by
  unfold row
  blk_simp [iblk]
  refine congrArg _ ?_
  blk_ext [i3]

/-- A load of a whole block is the block. -/
theorem whole (x : Vec Ideal S256x1536 .f32) : View.ld x r0_0 = x :=
  View.ld_unit_zero (funext fun a => by fin_cases a <;> rfl) _ _

theorem out4 (x0 x1 x2 x3 : Vec Ideal S256x1536 .f32) (y : S256x1536.Idx) : out0_4 x0 x1 x2 x3 y = delta (x0 y) (x1 y) (x2 y) (x3 y) := by
  unfold out0_4
  rw [canon4_eq]
  simp only [whole]
  have e : ix4_0 y = y := funext fun a => by fin_cases a <;> rfl
  exact (show E4 x2 x1 x3 x0 y = delta (x0 (ix4_0 y)) (x1 (ix4_0 y)) (x2 (ix4_0 y)) (x3 (ix4_0 y)) from rfl).trans (by rw [e])

theorem out5 (x0 x1 x2 x3 : Vec Ideal S256x1536 .f32) (y : S256x1536.Idx) : out0_5 x0 x1 x2 x3 y = newM (x2 y) (x1 y) := by
  unfold out0_5
  rw [canon5_eq]
  simp only [whole]
  have e : ix5_0 y = y := funext fun a => by fin_cases a <;> rfl
  exact (show E5 x2 x1 y = newM (x2 (ix5_0 y)) (x1 (ix5_0 y)) from rfl).trans (by rw [e])

theorem out6 (x0 x1 x2 x3 : Vec Ideal S256x1536 .f32) (y : S256x1536.Idx) : out0_6 x0 x1 x2 x3 y = newV (x3 y) (x1 y) := by
  unfold out0_6
  rw [canon6_eq]
  simp only [whole]
  have e : ix6_0 y = y := funext fun a => by fin_cases a <;> rfl
  exact (show E6 x3 x1 y = newV (x3 (ix6_0 y)) (x1 (ix6_0 y)) from rfl).trans (by rw [e])

/-- The three result arrays. -/
def G4 : S2048x1536.Idx → EReal := fun y => delta (V m c main_v0 y) (V m c main_v1 y) (V m c main_v2 y) (V m c main_v3 y)
def G5 : S2048x1536.Idx → EReal := fun y => newM (V m c main_v2 y) (V m c main_v1 y)
def G6 : S2048x1536.Idx → EReal := fun y => newV (V m c main_v3 y) (V m c main_v1 y)

theorem final4 : (dats m 0 c).arrAt 4 cfg0.N = G4 m c := by
  refine (dats m 0 c).arrAt_eq_of_covers 4 (G4 m c) (by decide +kernel) fun t hf y => ?_
  blk_simp
  rw [after0_4]
  idx_vars y
  rw [out4, blk0, blk1, blk2, blk3]
  have e : ((View.whole main_v4_0).slice (win0_4.rect t)).emb (ix2 y0 y1) = ix2 (row t y0) y1 := by
    unfold row
    blk_ext [i4]
  rw [e]
  rfl

theorem final5 : (dats m 0 c).arrAt 5 cfg0.N = G5 m c := by
  refine (dats m 0 c).arrAt_eq_of_covers 5 (G5 m c) (by decide +kernel) fun t hf y => ?_
  blk_simp
  rw [after0_5]
  idx_vars y
  rw [out5, blk2, blk1]
  have e : ((View.whole main_v4_1).slice (win0_5.rect t)).emb (ix2 y0 y1) = ix2 (row t y0) y1 := by
    unfold row
    blk_ext [i5]
  rw [e]
  rfl

theorem final6 : (dats m 0 c).arrAt 6 cfg0.N = G6 m c := by
  refine (dats m 0 c).arrAt_eq_of_covers 6 (G6 m c) (by decide +kernel) fun t hf y => ?_
  blk_simp
  rw [after0_6]
  idx_vars y
  rw [out6, blk3, blk1]
  have e : ((View.whole main_v4_2).slice (win0_6.rect t)).emb (ix2 y0 y1) = ix2 (row t y0) y1 := by
    unfold row
    blk_ext [i6]
  rw [e]
  rfl

theorem entry0 : V m c main_v0 = shapeCast _ (m ((c : Thread nD τ).loc main_arg0)) shapeCasts_S2x1024x1536_S2048x1536 := by
  unfold V
  after_reads_simp
  rfl

theorem entry1 : V m c main_v1 = shapeCast _ (m ((c : Thread nD τ).loc main_arg1)) shapeCasts_S2x1024x1536_S2048x1536 := by
  unfold V
  after_reads_simp
  rfl

theorem entry2 : V m c main_v2 = shapeCast _ (m ((c : Thread nD τ).loc main_arg2)) shapeCasts_S2x1024x1536_S2048x1536 := by
  unfold V
  after_reads_simp
  rfl

theorem entry3 : V m c main_v3 = shapeCast _ (m ((c : Thread nD τ).loc main_arg3)) shapeCasts_S2x1024x1536_S2048x1536 := by
  unfold V
  after_reads_simp
  rfl

end Kernel

/-- The kernel and the reference end with the same three arrays. -/
theorem algebraic : Cert.algebraic_AdamAdaWIdeal_AdamAdaWRefIdeal := by
  intro m g m' g' _ hagree
  refine ⟨fun c => G4 m c, fun c => G5 m c, fun c => G6 m c, ?_, ?_⟩
  · refine (θ_run Cert.AdamAdaWIdeal.defs _ _).mono (fun r h c => ?_) (Cert.AdamAdaWIdeal.Value.run_blocks (F := Ideal) m g)
    exact ⟨(h c).1.trans (final4 m c), (h c).2.1.trans (final5 m c), (h c).2.2.1.trans (final6 m c), (h c).2.2.2⟩
  · refine (θ_run Cert.AdamAdaWRefIdeal.defs _ _).mono (fun r h c => ?_) (Cert.AdamAdaWRefIdeal.Value.run (F := Ideal) m' g')
    refine ⟨(h c).1.trans ?_, (h c).2.1.trans ?_, (h c).2.2.1.trans ?_, (h c).2.2.2⟩
    · funext y
      unfold G4
      beta_reduce
      rw [entry0, entry1, entry2, entry3, (hagree c).1, (hagree c).2.1, (hagree c).2.2.1, (hagree c).2.2.2]
      rfl
    · funext y
      unfold G5
      beta_reduce
      rw [entry1, entry2, (hagree c).2.1, (hagree c).2.2.1]
      rfl
    · funext y
      unfold G6
      beta_reduce
      rw [entry1, entry3, (hagree c).2.1, (hagree c).2.2.2]
      rfl

/-- The reference ends, its arguments as they were and its semaphores at zero: it has none. -/
theorem frame_reference : Cert.quiescent_AdamAdaWRefIdeal := by
  intro m g _
  refine (θ_run Cert.AdamAdaWRefIdeal.defs _ _).mono (fun r h => ⟨fun c => (h c).2.2.2, ?_⟩) (Cert.AdamAdaWRefIdeal.Value.run (F := Ideal) m g)
  exact Idealize.ShloMosaic.sem_eq_zero_of_no_sems (by decide) r.2

end Cert.Proof.AdamAdaW

end
-- ==== Proof.AdamAdaB.Equation.lean ====
/-
  The AdamW step of `ada_b`: the kernel and the reference leave the same three arrays.
-/
module

public import proofs.«01_k».proof.Defs
public import proofs.«01_k».proof.Proof.Gen.AdamAdaBIdeal.Value
public import proofs.«01_k».proof.Proof.Gen.AdamAdaBRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamAdaB

/-- The kernel and the reference end with the same three arrays. -/
theorem algebraic : Cert.algebraic_AdamAdaBIdeal_AdamAdaBRefIdeal := by
  intro m g m' g' _ hagree
  refine ⟨fun c => Cert.AdamAdaBIdeal.Value.G4 (F := Ideal) (m ((c.tc : Thread Cert.AdamAdaBIdeal.nD Cert.AdamAdaBIdeal.τ).loc Cert.AdamAdaBIdeal.main_arg1)) (m ((c.tc : Thread Cert.AdamAdaBIdeal.nD Cert.AdamAdaBIdeal.τ).loc Cert.AdamAdaBIdeal.main_arg2))
      (m ((c.tc : Thread Cert.AdamAdaBIdeal.nD Cert.AdamAdaBIdeal.τ).loc Cert.AdamAdaBIdeal.main_arg3)) (m ((c.tc : Thread Cert.AdamAdaBIdeal.nD Cert.AdamAdaBIdeal.τ).loc Cert.AdamAdaBIdeal.main_arg0)),
    fun c => Cert.AdamAdaBIdeal.Value.G5 (F := Ideal) (m ((c.tc : Thread Cert.AdamAdaBIdeal.nD Cert.AdamAdaBIdeal.τ).loc Cert.AdamAdaBIdeal.main_arg1)) (m ((c.tc : Thread Cert.AdamAdaBIdeal.nD Cert.AdamAdaBIdeal.τ).loc Cert.AdamAdaBIdeal.main_arg2)),
    fun c => Cert.AdamAdaBIdeal.Value.G6 (F := Ideal) (m ((c.tc : Thread Cert.AdamAdaBIdeal.nD Cert.AdamAdaBIdeal.τ).loc Cert.AdamAdaBIdeal.main_arg1)) (m ((c.tc : Thread Cert.AdamAdaBIdeal.nD Cert.AdamAdaBIdeal.τ).loc Cert.AdamAdaBIdeal.main_arg3)), ?_, ?_⟩
  · exact (θ_run Cert.AdamAdaBIdeal.defs _ _).mono (fun r h c => h c) (Cert.AdamAdaBIdeal.Value.run (F := Ideal) m g)
  · refine (θ_run Cert.AdamAdaBRefIdeal.defs _ _).mono (fun r h c => ?_) (Cert.AdamAdaBRefIdeal.Value.run (F := Ideal) m' g')
    refine ⟨(h c).1.trans ?_, (h c).2.1.trans ?_, (h c).2.2.1.trans ?_, (h c).2.2.2⟩
    · rw [(hagree c).1, (hagree c).2.1, (hagree c).2.2.1, (hagree c).2.2.2]
      rfl
    · rw [(hagree c).2.1, (hagree c).2.2.1]
      rfl
    · rw [(hagree c).2.1, (hagree c).2.2.2]
      rfl

/-- The reference ends, its arguments as they were and its semaphores at zero: it has none. -/
theorem frame_reference : Cert.quiescent_AdamAdaBRefIdeal := by
  intro m g _
  refine (θ_run Cert.AdamAdaBRefIdeal.defs _ _).mono (fun r h => ⟨fun c => (h c).2.2.2, ?_⟩) (Cert.AdamAdaBRefIdeal.Value.run (F := Ideal) m g)
  exact Idealize.ShloMosaic.sem_eq_zero_of_no_sems (by decide) r.2

end Cert.Proof.AdamAdaB

end
-- ==== Proof.AdamIn.Equation.lean ====
/-
  The AdamW step of `w_in`: the kernel and the reference leave the same three arrays.
-/
module

public import proofs.«01_k».proof.Defs
public import proofs.«01_k».proof.Proof.Gen.AdamInIdeal.Value
public import proofs.«01_k».proof.Proof.Gen.AdamInRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamIn

section Kernel

open Cert.AdamInIdeal Cert.AdamInIdeal.Gen Cert.AdamInIdeal.Value Cert.Proof.Adam

variable (m : (ℓ : Loc nD τ sig) → Buf (Elt Ideal) ℓ) (c : Dev nD)

theorem size : cfg0.N = 5 := rfl

/-- Row `r` of the block that point `t` works on. -/
def row (t : Fin cfg0.N) (r : Fin 128) : Fin 640 := ⟨128 * t.val + r.val, by have := t.isLt; have := size; omega⟩

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![t.val, 0] := by decide +kernel
theorem i6 : ∀ t : Fin cfg0.N, win0_6.index t = ![t.val, 0] := by decide +kernel

theorem blk0 (t : Fin cfg0.N) (r : Fin 128) (k : Fin 1024) : iblk m c 0 t (ix2 r k) = V m c main_v4 (ix2 (row t r) k) := by
  unfold row
  blk_simp [iblk]
  refine congrArg _ ?_
  blk_ext [i0]

theorem blk1 (t : Fin cfg0.N) (r : Fin 128) (k : Fin 1024) : iblk m c 1 t (ix2 r k) = V m c main_v5 (ix2 (row t r) k) := by
  unfold row
  blk_simp [iblk]
  refine congrArg _ ?_
  blk_ext [i1]

theorem blk2 (t : Fin cfg0.N) (r : Fin 128) (k : Fin 1024) : iblk m c 2 t (ix2 r k) = V m c main_v6 (ix2 (row t r) k) := by
  unfold row
  blk_simp [iblk]
  refine congrArg _ ?_
  blk_ext [i2]

theorem blk3 (t : Fin cfg0.N) (r : Fin 128) (k : Fin 1024) : iblk m c 3 t (ix2 r k) = V m c main_v7 (ix2 (row t r) k) := by
  unfold row
  blk_simp [iblk]
  refine congrArg _ ?_
  blk_ext [i3]

/-- A load of a whole block is the block. -/
theorem whole (x : Vec Ideal S128x1024 .f32) : View.ld x r0_0 = x :=
  View.ld_unit_zero (funext fun a => by fin_cases a <;> rfl) _ _

theorem out4 (x0 x1 x2 x3 : Vec Ideal S128x1024 .f32) (y : S128x1024.Idx) : out0_4 x0 x1 x2 x3 y = delta (x0 y) (x1 y) (x2 y) (x3 y) := by
  unfold out0_4
  rw [canon4_eq]
  simp only [whole]
  have e : ix4_0 y = y := funext fun a => by fin_cases a <;> rfl
  exact (show E4 x2 x1 x3 x0 y = delta (x0 (ix4_0 y)) (x1 (ix4_0 y)) (x2 (ix4_0 y)) (x3 (ix4_0 y)) from rfl).trans (by rw [e])

theorem out5 (x0 x1 x2 x3 : Vec Ideal S128x1024 .f32) (y : S128x1024.Idx) : out0_5 x0 x1 x2 x3 y = newM (x2 y) (x1 y) := by
  unfold out0_5
  rw [canon5_eq]
  simp only [whole]
  have e : ix5_0 y = y := funext fun a => by fin_cases a <;> rfl
  exact (show E5 x2 x1 y = newM (x2 (ix5_0 y)) (x1 (ix5_0 y)) from rfl).trans (by rw [e])

theorem out6 (x0 x1 x2 x3 : Vec Ideal S128x1024 .f32) (y : S128x1024.Idx) : out0_6 x0 x1 x2 x3 y = newV (x3 y) (x1 y) := by
  unfold out0_6
  rw [canon6_eq]
  simp only [whole]
  have e : ix6_0 y = y := funext fun a => by fin_cases a <;> rfl
  exact (show E6 x3 x1 y = newV (x3 (ix6_0 y)) (x1 (ix6_0 y)) from rfl).trans (by rw [e])

/-- The three result arrays. -/
def G4 : S640x1024.Idx → EReal := fun y => delta (V m c main_v4 y) (V m c main_v5 y) (V m c main_v6 y) (V m c main_v7 y)
def G5 : S640x1024.Idx → EReal := fun y => newM (V m c main_v6 y) (V m c main_v5 y)
def G6 : S640x1024.Idx → EReal := fun y => newV (V m c main_v7 y) (V m c main_v5 y)

theorem final4 : (dats m 0 c).arrAt 4 cfg0.N = G4 m c := by
  refine (dats m 0 c).arrAt_eq_of_covers 4 (G4 m c) (by decide +kernel) fun t hf y => ?_
  blk_simp
  rw [after0_4]
  idx_vars y
  rw [out4, blk0, blk1, blk2, blk3]
  have e : ((View.whole main_v8_0).slice (win0_4.rect t)).emb (ix2 y0 y1) = ix2 (row t y0) y1 := by
    unfold row
    blk_ext [i4]
  rw [e]
  rfl

theorem final5 : (dats m 0 c).arrAt 5 cfg0.N = G5 m c := by
  refine (dats m 0 c).arrAt_eq_of_covers 5 (G5 m c) (by decide +kernel) fun t hf y => ?_
  blk_simp
  rw [after0_5]
  idx_vars y
  rw [out5, blk2, blk1]
  have e : ((View.whole main_v8_1).slice (win0_5.rect t)).emb (ix2 y0 y1) = ix2 (row t y0) y1 := by
    unfold row
    blk_ext [i5]
  rw [e]
  rfl

theorem final6 : (dats m 0 c).arrAt 6 cfg0.N = G6 m c := by
  refine (dats m 0 c).arrAt_eq_of_covers 6 (G6 m c) (by decide +kernel) fun t hf y => ?_
  blk_simp
  rw [after0_6]
  idx_vars y
  rw [out6, blk3, blk1]
  have e : ((View.whole main_v8_2).slice (win0_6.rect t)).emb (ix2 y0 y1) = ix2 (row t y0) y1 := by
    unfold row
    blk_ext [i6]
  rw [e]
  rfl

theorem entry0 : V m c main_v4 = shapeCast _ (transpose _ [0, 2, 1] (m ((c : Thread nD τ).loc main_arg0)) transposes_S2x1024x320_S2x320x1024_0_2_1) shapeCasts_S2x320x1024_S640x1024 := by
  unfold V
  after_reads_simp
  rfl

theorem entry1 : V m c main_v5 = shapeCast _ (transpose _ [0, 2, 1] (m ((c : Thread nD τ).loc main_arg1)) transposes_S2x1024x320_S2x320x1024_0_2_1) shapeCasts_S2x320x1024_S640x1024 := by
  unfold V
  after_reads_simp
  rfl

theorem entry2 : V m c main_v6 = shapeCast _ (transpose _ [0, 2, 1] (m ((c : Thread nD τ).loc main_arg2)) transposes_S2x1024x320_S2x320x1024_0_2_1) shapeCasts_S2x320x1024_S640x1024 := by
  unfold V
  after_reads_simp
  rfl

theorem entry3 : V m c main_v7 = shapeCast _ (transpose _ [0, 2, 1] (m ((c : Thread nD τ).loc main_arg3)) transposes_S2x1024x320_S2x320x1024_0_2_1) shapeCasts_S2x320x1024_S640x1024 := by
  unfold V
  after_reads_simp
  rfl

end Kernel

/-- The kernel and the reference end with the same three arrays. -/
theorem algebraic : Cert.algebraic_AdamInIdeal_AdamInRefIdeal := by
  intro m g m' g' _ hagree
  refine ⟨fun c => G4 m c, fun c => G5 m c, fun c => G6 m c, ?_, ?_⟩
  · refine (θ_run Cert.AdamInIdeal.defs _ _).mono (fun r h c => ?_) (Cert.AdamInIdeal.Value.run_blocks (F := Ideal) m g)
    exact ⟨(h c).1.trans (final4 m c), (h c).2.1.trans (final5 m c), (h c).2.2.1.trans (final6 m c), (h c).2.2.2⟩
  · refine (θ_run Cert.AdamInRefIdeal.defs _ _).mono (fun r h c => ?_) (Cert.AdamInRefIdeal.Value.run (F := Ideal) m' g')
    refine ⟨(h c).1.trans ?_, (h c).2.1.trans ?_, (h c).2.2.1.trans ?_, (h c).2.2.2⟩
    · funext y
      unfold G4
      beta_reduce
      rw [entry0, entry1, entry2, entry3, (hagree c).1, (hagree c).2.1, (hagree c).2.2.1, (hagree c).2.2.2]
      rfl
    · funext y
      unfold G5
      beta_reduce
      rw [entry1, entry2, (hagree c).2.1, (hagree c).2.2.1]
      rfl
    · funext y
      unfold G6
      beta_reduce
      rw [entry1, entry3, (hagree c).2.1, (hagree c).2.2.2]
      rfl

/-- The reference ends, its arguments as they were and its semaphores at zero: it has none. -/
theorem frame_reference : Cert.quiescent_AdamInRefIdeal := by
  intro m g _
  refine (θ_run Cert.AdamInRefIdeal.defs _ _).mono (fun r h => ⟨fun c => (h c).2.2.2, ?_⟩) (Cert.AdamInRefIdeal.Value.run (F := Ideal) m g)
  exact Idealize.ShloMosaic.sem_eq_zero_of_no_sems (by decide) r.2

end Cert.Proof.AdamIn

end
-- ==== Proof.AdamBIn.Equation.lean ====
/-
  The AdamW step of `b_in`: the kernel and the reference leave the same three arrays.
-/
module

public import proofs.«01_k».proof.Defs
public import proofs.«01_k».proof.Proof.Gen.AdamBInIdeal.Value
public import proofs.«01_k».proof.Proof.Gen.AdamBInRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamBIn

/-- The kernel and the reference end with the same three arrays. -/
theorem algebraic : Cert.algebraic_AdamBInIdeal_AdamBInRefIdeal := by
  intro m g m' g' _ hagree
  refine ⟨fun c => Cert.AdamBInIdeal.Value.G4 (F := Ideal) (m ((c.tc : Thread Cert.AdamBInIdeal.nD Cert.AdamBInIdeal.τ).loc Cert.AdamBInIdeal.main_arg1)) (m ((c.tc : Thread Cert.AdamBInIdeal.nD Cert.AdamBInIdeal.τ).loc Cert.AdamBInIdeal.main_arg2))
      (m ((c.tc : Thread Cert.AdamBInIdeal.nD Cert.AdamBInIdeal.τ).loc Cert.AdamBInIdeal.main_arg3)) (m ((c.tc : Thread Cert.AdamBInIdeal.nD Cert.AdamBInIdeal.τ).loc Cert.AdamBInIdeal.main_arg0)),
    fun c => Cert.AdamBInIdeal.Value.G5 (F := Ideal) (m ((c.tc : Thread Cert.AdamBInIdeal.nD Cert.AdamBInIdeal.τ).loc Cert.AdamBInIdeal.main_arg1)) (m ((c.tc : Thread Cert.AdamBInIdeal.nD Cert.AdamBInIdeal.τ).loc Cert.AdamBInIdeal.main_arg2)),
    fun c => Cert.AdamBInIdeal.Value.G6 (F := Ideal) (m ((c.tc : Thread Cert.AdamBInIdeal.nD Cert.AdamBInIdeal.τ).loc Cert.AdamBInIdeal.main_arg1)) (m ((c.tc : Thread Cert.AdamBInIdeal.nD Cert.AdamBInIdeal.τ).loc Cert.AdamBInIdeal.main_arg3)), ?_, ?_⟩
  · exact (θ_run Cert.AdamBInIdeal.defs _ _).mono (fun r h c => h c) (Cert.AdamBInIdeal.Value.run (F := Ideal) m g)
  · refine (θ_run Cert.AdamBInRefIdeal.defs _ _).mono (fun r h c => ?_) (Cert.AdamBInRefIdeal.Value.run (F := Ideal) m' g')
    refine ⟨(h c).1.trans ?_, (h c).2.1.trans ?_, (h c).2.2.1.trans ?_, (h c).2.2.2⟩
    · rw [(hagree c).1, (hagree c).2.1, (hagree c).2.2.1, (hagree c).2.2.2]
      rfl
    · rw [(hagree c).2.1, (hagree c).2.2.1]
      rfl
    · rw [(hagree c).2.1, (hagree c).2.2.2]
      rfl

/-- The reference ends, its arguments as they were and its semaphores at zero: it has none. -/
theorem frame_reference : Cert.quiescent_AdamBInRefIdeal := by
  intro m g _
  refine (θ_run Cert.AdamBInRefIdeal.defs _ _).mono (fun r h => ⟨fun c => (h c).2.2.2, ?_⟩) (Cert.AdamBInRefIdeal.Value.run (F := Ideal) m g)
  exact Idealize.ShloMosaic.sem_eq_zero_of_no_sems (by decide) r.2

end Cert.Proof.AdamBIn

end
-- ==== Proof.AdamSinks.Equation.lean ====
/-
  The AdamW step of `sinks`: the kernel and the reference leave the same three arrays.
-/
module

public import proofs.«01_k».proof.Defs
public import proofs.«01_k».proof.Proof.Gen.AdamSinksIdeal.Value
public import proofs.«01_k».proof.Proof.Gen.AdamSinksRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamSinks

section Kernel

open Cert.AdamSinksIdeal Cert.AdamSinksIdeal.Gen Cert.AdamSinksIdeal.Value Cert.Proof.Adam

variable (m : (ℓ : Loc nD τ sig) → Buf (Elt Ideal) ℓ) (c : Dev nD)

theorem size : cfg0.N = 1 := rfl

/-- Row `r` of the block that point `t` works on. -/
def row (t : Fin cfg0.N) (r : Fin 1) : Fin 1 := ⟨1 * t.val + r.val, by have := t.isLt; have := size; omega⟩

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![t.val, 0] := by decide +kernel
theorem i6 : ∀ t : Fin cfg0.N, win0_6.index t = ![t.val, 0] := by decide +kernel

theorem blk0 (t : Fin cfg0.N) (r : Fin 1) (k : Fin 16) : iblk m c 0 t (ix2 r k) = V m c main_v0 (ix2 (row t r) k) := by
  unfold row
  blk_simp [iblk]
  refine congrArg _ ?_
  blk_ext [i0]

theorem blk1 (t : Fin cfg0.N) (r : Fin 1) (k : Fin 16) : iblk m c 1 t (ix2 r k) = V m c main_v1 (ix2 (row t r) k) := by
  unfold row
  blk_simp [iblk]
  refine congrArg _ ?_
  blk_ext [i1]

theorem blk2 (t : Fin cfg0.N) (r : Fin 1) (k : Fin 16) : iblk m c 2 t (ix2 r k) = V m c main_v2 (ix2 (row t r) k) := by
  unfold row
  blk_simp [iblk]
  refine congrArg _ ?_
  blk_ext [i2]

theorem blk3 (t : Fin cfg0.N) (r : Fin 1) (k : Fin 16) : iblk m c 3 t (ix2 r k) = V m c main_v3 (ix2 (row t r) k) := by
  unfold row
  blk_simp [iblk]
  refine congrArg _ ?_
  blk_ext [i3]

/-- A load of a whole block is the block. -/
theorem whole (x : Vec Ideal S1x16 .f32) : View.ld x r0_0 = x :=
  View.ld_unit_zero (funext fun a => by fin_cases a <;> rfl) _ _

theorem out4 (x0 x1 x2 x3 : Vec Ideal S1x16 .f32) (y : S1x16.Idx) : out0_4 x0 x1 x2 x3 y = delta (x0 y) (x1 y) (x2 y) (x3 y) := by
  unfold out0_4
  rw [canon4_eq]
  simp only [whole]
  have e : ix4_0 y = y := funext fun a => by fin_cases a <;> first | rfl | exact Fin.ext (by have h : (y 0).val < 1 := (y 0).isLt; show 0 = (y 0).val; omega)
  exact (show E4 x2 x1 x3 x0 y = delta (x0 (ix4_0 y)) (x1 (ix4_0 y)) (x2 (ix4_0 y)) (x3 (ix4_0 y)) from rfl).trans (by rw [e])

theorem out5 (x0 x1 x2 x3 : Vec Ideal S1x16 .f32) (y : S1x16.Idx) : out0_5 x0 x1 x2 x3 y = newM (x2 y) (x1 y) := by
  unfold out0_5
  rw [canon5_eq]
  simp only [whole]
  have e : ix5_0 y = y := funext fun a => by fin_cases a <;> first | rfl | exact Fin.ext (by have h : (y 0).val < 1 := (y 0).isLt; show 0 = (y 0).val; omega)
  exact (show E5 x2 x1 y = newM (x2 (ix5_0 y)) (x1 (ix5_0 y)) from rfl).trans (by rw [e])

theorem out6 (x0 x1 x2 x3 : Vec Ideal S1x16 .f32) (y : S1x16.Idx) : out0_6 x0 x1 x2 x3 y = newV (x3 y) (x1 y) := by
  unfold out0_6
  rw [canon6_eq]
  simp only [whole]
  have e : ix6_0 y = y := funext fun a => by fin_cases a <;> first | rfl | exact Fin.ext (by have h : (y 0).val < 1 := (y 0).isLt; show 0 = (y 0).val; omega)
  exact (show E6 x3 x1 y = newV (x3 (ix6_0 y)) (x1 (ix6_0 y)) from rfl).trans (by rw [e])

/-- The three result arrays. -/
def G4 : S1x16.Idx → EReal := fun y => delta (V m c main_v0 y) (V m c main_v1 y) (V m c main_v2 y) (V m c main_v3 y)
def G5 : S1x16.Idx → EReal := fun y => newM (V m c main_v2 y) (V m c main_v1 y)
def G6 : S1x16.Idx → EReal := fun y => newV (V m c main_v3 y) (V m c main_v1 y)

theorem final4 : (dats m 0 c).arrAt 4 cfg0.N = G4 m c := by
  refine (dats m 0 c).arrAt_eq_of_covers 4 (G4 m c) (by decide +kernel) fun t hf y => ?_
  blk_simp
  rw [after0_4]
  idx_vars y
  rw [out4, blk0, blk1, blk2, blk3]
  have e : ((View.whole main_v4_0).slice (win0_4.rect t)).emb (ix2 y0 y1) = ix2 (row t y0) y1 := by
    unfold row
    blk_ext [i4]
  rw [e]
  rfl

theorem final5 : (dats m 0 c).arrAt 5 cfg0.N = G5 m c := by
  refine (dats m 0 c).arrAt_eq_of_covers 5 (G5 m c) (by decide +kernel) fun t hf y => ?_
  blk_simp
  rw [after0_5]
  idx_vars y
  rw [out5, blk2, blk1]
  have e : ((View.whole main_v4_1).slice (win0_5.rect t)).emb (ix2 y0 y1) = ix2 (row t y0) y1 := by
    unfold row
    blk_ext [i5]
  rw [e]
  rfl

theorem final6 : (dats m 0 c).arrAt 6 cfg0.N = G6 m c := by
  refine (dats m 0 c).arrAt_eq_of_covers 6 (G6 m c) (by decide +kernel) fun t hf y => ?_
  blk_simp
  rw [after0_6]
  idx_vars y
  rw [out6, blk3, blk1]
  have e : ((View.whole main_v4_2).slice (win0_6.rect t)).emb (ix2 y0 y1) = ix2 (row t y0) y1 := by
    unfold row
    blk_ext [i6]
  rw [e]
  rfl

theorem entry0 : V m c main_v0 = shapeCast _ (m ((c : Thread nD τ).loc main_arg0)) shapeCasts_S2x8_S1x16 := by
  unfold V
  after_reads_simp
  rfl

theorem entry1 : V m c main_v1 = shapeCast _ (m ((c : Thread nD τ).loc main_arg1)) shapeCasts_S2x8_S1x16 := by
  unfold V
  after_reads_simp
  rfl

theorem entry2 : V m c main_v2 = shapeCast _ (m ((c : Thread nD τ).loc main_arg2)) shapeCasts_S2x8_S1x16 := by
  unfold V
  after_reads_simp
  rfl

theorem entry3 : V m c main_v3 = shapeCast _ (m ((c : Thread nD τ).loc main_arg3)) shapeCasts_S2x8_S1x16 := by
  unfold V
  after_reads_simp
  rfl

end Kernel

/-- The kernel and the reference end with the same three arrays. -/
theorem algebraic : Cert.algebraic_AdamSinksIdeal_AdamSinksRefIdeal := by
  intro m g m' g' _ hagree
  refine ⟨fun c => G4 m c, fun c => G5 m c, fun c => G6 m c, ?_, ?_⟩
  · refine (θ_run Cert.AdamSinksIdeal.defs _ _).mono (fun r h c => ?_) (Cert.AdamSinksIdeal.Value.run_blocks (F := Ideal) m g)
    exact ⟨(h c).1.trans (final4 m c), (h c).2.1.trans (final5 m c), (h c).2.2.1.trans (final6 m c), (h c).2.2.2⟩
  · refine (θ_run Cert.AdamSinksRefIdeal.defs _ _).mono (fun r h c => ?_) (Cert.AdamSinksRefIdeal.Value.run (F := Ideal) m' g')
    refine ⟨(h c).1.trans ?_, (h c).2.1.trans ?_, (h c).2.2.1.trans ?_, (h c).2.2.2⟩
    · funext y
      unfold G4
      beta_reduce
      rw [entry0, entry1, entry2, entry3, (hagree c).1, (hagree c).2.1, (hagree c).2.2.1, (hagree c).2.2.2]
      rfl
    · funext y
      unfold G5
      beta_reduce
      rw [entry1, entry2, (hagree c).2.1, (hagree c).2.2.1]
      rfl
    · funext y
      unfold G6
      beta_reduce
      rw [entry1, entry3, (hagree c).2.1, (hagree c).2.2.2]
      rfl

/-- The reference ends, its arguments as they were and its semaphores at zero: it has none. -/
theorem frame_reference : Cert.quiescent_AdamSinksRefIdeal := by
  intro m g _
  refine (θ_run Cert.AdamSinksRefIdeal.defs _ _).mono (fun r h => ⟨fun c => (h c).2.2.2, ?_⟩) (Cert.AdamSinksRefIdeal.Value.run (F := Ideal) m g)
  exact Idealize.ShloMosaic.sem_eq_zero_of_no_sems (by decide) r.2

end Cert.Proof.AdamSinks

end
-- ==== Proof.AdamPoolW.Equation.lean ====
/-
  The AdamW step of `pool_w`: the kernel and the reference leave the same three arrays.
-/
module

public import proofs.«01_k».proof.Defs
public import proofs.«01_k».proof.Proof.Gen.AdamPoolWIdeal.Value
public import proofs.«01_k».proof.Proof.Gen.AdamPoolWRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamPoolW

section Kernel

open Cert.AdamPoolWIdeal Cert.AdamPoolWIdeal.Gen Cert.AdamPoolWIdeal.Value Cert.Proof.Adam

variable (m : (ℓ : Loc nD τ sig) → Buf (Elt Ideal) ℓ) (c : Dev nD)

theorem size : cfg0.N = 4 := rfl

/-- Row `r` of the block that point `t` works on. -/
def row (t : Fin cfg0.N) (r : Fin 256) : Fin 1024 := ⟨256 * t.val + r.val, by have := t.isLt; have := size; omega⟩

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![t.val, 0] := by decide +kernel
theorem i6 : ∀ t : Fin cfg0.N, win0_6.index t = ![t.val, 0] := by decide +kernel

theorem blk0 (t : Fin cfg0.N) (r : Fin 256) (k : Fin 128) : iblk m c 0 t (ix2 r k) = V m c main_v0 (ix2 (row t r) k) := by
  unfold row
  blk_simp [iblk]
  refine congrArg _ ?_
  blk_ext [i0]

theorem blk1 (t : Fin cfg0.N) (r : Fin 256) (k : Fin 128) : iblk m c 1 t (ix2 r k) = V m c main_v1 (ix2 (row t r) k) := by
  unfold row
  blk_simp [iblk]
  refine congrArg _ ?_
  blk_ext [i1]

theorem blk2 (t : Fin cfg0.N) (r : Fin 256) (k : Fin 128) : iblk m c 2 t (ix2 r k) = V m c main_v2 (ix2 (row t r) k) := by
  unfold row
  blk_simp [iblk]
  refine congrArg _ ?_
  blk_ext [i2]

theorem blk3 (t : Fin cfg0.N) (r : Fin 256) (k : Fin 128) : iblk m c 3 t (ix2 r k) = V m c main_v3 (ix2 (row t r) k) := by
  unfold row
  blk_simp [iblk]
  refine congrArg _ ?_
  blk_ext [i3]

/-- A load of a whole block is the block. -/
theorem whole (x : Vec Ideal S256x128 .f32) : View.ld x r0_0 = x :=
  View.ld_unit_zero (funext fun a => by fin_cases a <;> rfl) _ _

theorem out4 (x0 x1 x2 x3 : Vec Ideal S256x128 .f32) (y : S256x128.Idx) : out0_4 x0 x1 x2 x3 y = delta (x0 y) (x1 y) (x2 y) (x3 y) := by
  unfold out0_4
  rw [canon4_eq]
  simp only [whole]
  have e : ix4_0 y = y := funext fun a => by fin_cases a <;> rfl
  exact (show E4 x2 x1 x3 x0 y = delta (x0 (ix4_0 y)) (x1 (ix4_0 y)) (x2 (ix4_0 y)) (x3 (ix4_0 y)) from rfl).trans (by rw [e])

theorem out5 (x0 x1 x2 x3 : Vec Ideal S256x128 .f32) (y : S256x128.Idx) : out0_5 x0 x1 x2 x3 y = newM (x2 y) (x1 y) := by
  unfold out0_5
  rw [canon5_eq]
  simp only [whole]
  have e : ix5_0 y = y := funext fun a => by fin_cases a <;> rfl
  exact (show E5 x2 x1 y = newM (x2 (ix5_0 y)) (x1 (ix5_0 y)) from rfl).trans (by rw [e])

theorem out6 (x0 x1 x2 x3 : Vec Ideal S256x128 .f32) (y : S256x128.Idx) : out0_6 x0 x1 x2 x3 y = newV (x3 y) (x1 y) := by
  unfold out0_6
  rw [canon6_eq]
  simp only [whole]
  have e : ix6_0 y = y := funext fun a => by fin_cases a <;> rfl
  exact (show E6 x3 x1 y = newV (x3 (ix6_0 y)) (x1 (ix6_0 y)) from rfl).trans (by rw [e])

/-- The three result arrays. -/
def G4 : S1024x128.Idx → EReal := fun y => delta (V m c main_v0 y) (V m c main_v1 y) (V m c main_v2 y) (V m c main_v3 y)
def G5 : S1024x128.Idx → EReal := fun y => newM (V m c main_v2 y) (V m c main_v1 y)
def G6 : S1024x128.Idx → EReal := fun y => newV (V m c main_v3 y) (V m c main_v1 y)

theorem final4 : (dats m 0 c).arrAt 4 cfg0.N = G4 m c := by
  refine (dats m 0 c).arrAt_eq_of_covers 4 (G4 m c) (by decide +kernel) fun t hf y => ?_
  blk_simp
  rw [after0_4]
  idx_vars y
  rw [out4, blk0, blk1, blk2, blk3]
  have e : ((View.whole main_v4_0).slice (win0_4.rect t)).emb (ix2 y0 y1) = ix2 (row t y0) y1 := by
    unfold row
    blk_ext [i4]
  rw [e]
  rfl

theorem final5 : (dats m 0 c).arrAt 5 cfg0.N = G5 m c := by
  refine (dats m 0 c).arrAt_eq_of_covers 5 (G5 m c) (by decide +kernel) fun t hf y => ?_
  blk_simp
  rw [after0_5]
  idx_vars y
  rw [out5, blk2, blk1]
  have e : ((View.whole main_v4_1).slice (win0_5.rect t)).emb (ix2 y0 y1) = ix2 (row t y0) y1 := by
    unfold row
    blk_ext [i5]
  rw [e]
  rfl

theorem final6 : (dats m 0 c).arrAt 6 cfg0.N = G6 m c := by
  refine (dats m 0 c).arrAt_eq_of_covers 6 (G6 m c) (by decide +kernel) fun t hf y => ?_
  blk_simp
  rw [after0_6]
  idx_vars y
  rw [out6, blk3, blk1]
  have e : ((View.whole main_v4_2).slice (win0_6.rect t)).emb (ix2 y0 y1) = ix2 (row t y0) y1 := by
    unfold row
    blk_ext [i6]
  rw [e]
  rfl

theorem entry0 : V m c main_v0 = shapeCast _ (m ((c : Thread nD τ).loc main_arg0)) shapeCasts_S2x4x128x128_S1024x128 := by
  unfold V
  after_reads_simp
  rfl

theorem entry1 : V m c main_v1 = shapeCast _ (m ((c : Thread nD τ).loc main_arg1)) shapeCasts_S2x4x128x128_S1024x128 := by
  unfold V
  after_reads_simp
  rfl

theorem entry2 : V m c main_v2 = shapeCast _ (m ((c : Thread nD τ).loc main_arg2)) shapeCasts_S2x4x128x128_S1024x128 := by
  unfold V
  after_reads_simp
  rfl

theorem entry3 : V m c main_v3 = shapeCast _ (m ((c : Thread nD τ).loc main_arg3)) shapeCasts_S2x4x128x128_S1024x128 := by
  unfold V
  after_reads_simp
  rfl

end Kernel

/-- The kernel and the reference end with the same three arrays. -/
theorem algebraic : Cert.algebraic_AdamPoolWIdeal_AdamPoolWRefIdeal := by
  intro m g m' g' _ hagree
  refine ⟨fun c => G4 m c, fun c => G5 m c, fun c => G6 m c, ?_, ?_⟩
  · refine (θ_run Cert.AdamPoolWIdeal.defs _ _).mono (fun r h c => ?_) (Cert.AdamPoolWIdeal.Value.run_blocks (F := Ideal) m g)
    exact ⟨(h c).1.trans (final4 m c), (h c).2.1.trans (final5 m c), (h c).2.2.1.trans (final6 m c), (h c).2.2.2⟩
  · refine (θ_run Cert.AdamPoolWRefIdeal.defs _ _).mono (fun r h c => ?_) (Cert.AdamPoolWRefIdeal.Value.run (F := Ideal) m' g')
    refine ⟨(h c).1.trans ?_, (h c).2.1.trans ?_, (h c).2.2.1.trans ?_, (h c).2.2.2⟩
    · funext y
      unfold G4
      beta_reduce
      rw [entry0, entry1, entry2, entry3, (hagree c).1, (hagree c).2.1, (hagree c).2.2.1, (hagree c).2.2.2]
      rfl
    · funext y
      unfold G5
      beta_reduce
      rw [entry1, entry2, (hagree c).2.1, (hagree c).2.2.1]
      rfl
    · funext y
      unfold G6
      beta_reduce
      rw [entry1, entry3, (hagree c).2.1, (hagree c).2.2.2]
      rfl

/-- The reference ends, its arguments as they were and its semaphores at zero: it has none. -/
theorem frame_reference : Cert.quiescent_AdamPoolWRefIdeal := by
  intro m g _
  refine (θ_run Cert.AdamPoolWRefIdeal.defs _ _).mono (fun r h => ⟨fun c => (h c).2.2.2, ?_⟩) (Cert.AdamPoolWRefIdeal.Value.run (F := Ideal) m g)
  exact Idealize.ShloMosaic.sem_eq_zero_of_no_sems (by decide) r.2

end Cert.Proof.AdamPoolW

end
-- ==== Proof.AdamPoolS.Equation.lean ====
/-
  The AdamW step of `pool_scale`: the kernel and the reference leave the same three arrays.
-/
module

public import proofs.«01_k».proof.Defs
public import proofs.«01_k».proof.Proof.Gen.AdamPoolSIdeal.Value
public import proofs.«01_k».proof.Proof.Gen.AdamPoolSRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamPoolS

/-- The kernel and the reference end with the same three arrays. -/
theorem algebraic : Cert.algebraic_AdamPoolSIdeal_AdamPoolSRefIdeal := by
  intro m g m' g' _ hagree
  refine ⟨fun c => Cert.AdamPoolSIdeal.Value.G4 (F := Ideal) (m ((c.tc : Thread Cert.AdamPoolSIdeal.nD Cert.AdamPoolSIdeal.τ).loc Cert.AdamPoolSIdeal.main_arg1)) (m ((c.tc : Thread Cert.AdamPoolSIdeal.nD Cert.AdamPoolSIdeal.τ).loc Cert.AdamPoolSIdeal.main_arg2))
      (m ((c.tc : Thread Cert.AdamPoolSIdeal.nD Cert.AdamPoolSIdeal.τ).loc Cert.AdamPoolSIdeal.main_arg3)) (m ((c.tc : Thread Cert.AdamPoolSIdeal.nD Cert.AdamPoolSIdeal.τ).loc Cert.AdamPoolSIdeal.main_arg0)),
    fun c => Cert.AdamPoolSIdeal.Value.G5 (F := Ideal) (m ((c.tc : Thread Cert.AdamPoolSIdeal.nD Cert.AdamPoolSIdeal.τ).loc Cert.AdamPoolSIdeal.main_arg1)) (m ((c.tc : Thread Cert.AdamPoolSIdeal.nD Cert.AdamPoolSIdeal.τ).loc Cert.AdamPoolSIdeal.main_arg2)),
    fun c => Cert.AdamPoolSIdeal.Value.G6 (F := Ideal) (m ((c.tc : Thread Cert.AdamPoolSIdeal.nD Cert.AdamPoolSIdeal.τ).loc Cert.AdamPoolSIdeal.main_arg1)) (m ((c.tc : Thread Cert.AdamPoolSIdeal.nD Cert.AdamPoolSIdeal.τ).loc Cert.AdamPoolSIdeal.main_arg3)), ?_, ?_⟩
  · exact (θ_run Cert.AdamPoolSIdeal.defs _ _).mono (fun r h c => h c) (Cert.AdamPoolSIdeal.Value.run (F := Ideal) m g)
  · refine (θ_run Cert.AdamPoolSRefIdeal.defs _ _).mono (fun r h c => ?_) (Cert.AdamPoolSRefIdeal.Value.run (F := Ideal) m' g')
    refine ⟨(h c).1.trans ?_, (h c).2.1.trans ?_, (h c).2.2.1.trans ?_, (h c).2.2.2⟩
    · rw [(hagree c).1, (hagree c).2.1, (hagree c).2.2.1, (hagree c).2.2.2]
      rfl
    · rw [(hagree c).2.1, (hagree c).2.2.1]
      rfl
    · rw [(hagree c).2.1, (hagree c).2.2.2]
      rfl

/-- The reference ends, its arguments as they were and its semaphores at zero: it has none. -/
theorem frame_reference : Cert.quiescent_AdamPoolSRefIdeal := by
  intro m g _
  refine (θ_run Cert.AdamPoolSRefIdeal.defs _ _).mono (fun r h => ⟨fun c => (h c).2.2.2, ?_⟩) (Cert.AdamPoolSRefIdeal.Value.run (F := Ideal) m g)
  exact Idealize.ShloMosaic.sem_eq_zero_of_no_sems (by decide) r.2

end Cert.Proof.AdamPoolS

end
-- ==== Proof.AdamOut.Equation.lean ====
/-
  The AdamW step of `w_out`: the kernel and the reference leave the same three arrays.
-/
module

public import proofs.«01_k».proof.Defs
public import proofs.«01_k».proof.Proof.Gen.AdamOutIdeal.Value
public import proofs.«01_k».proof.Proof.Gen.AdamOutRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamOut

section Kernel

open Cert.AdamOutIdeal Cert.AdamOutIdeal.Gen Cert.AdamOutIdeal.Value Cert.Proof.Adam

variable (m : (ℓ : Loc nD τ sig) → Buf (Elt Ideal) ℓ) (c : Dev nD)

theorem size : cfg0.N = 2 := rfl

/-- Row `r` of the block that point `t` works on. -/
def row (t : Fin cfg0.N) (r : Fin 256) : Fin 512 := ⟨256 * t.val + r.val, by have := t.isLt; have := size; omega⟩

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![t.val, 0] := by decide +kernel
theorem i6 : ∀ t : Fin cfg0.N, win0_6.index t = ![t.val, 0] := by decide +kernel

theorem blk0 (t : Fin cfg0.N) (r : Fin 256) (k : Fin 1024) : iblk m c 0 t (ix2 r k) = V m c main_v0 (ix2 (row t r) k) := by
  unfold row
  blk_simp [iblk]
  refine congrArg _ ?_
  blk_ext [i0]

theorem blk1 (t : Fin cfg0.N) (r : Fin 256) (k : Fin 1024) : iblk m c 1 t (ix2 r k) = V m c main_v1 (ix2 (row t r) k) := by
  unfold row
  blk_simp [iblk]
  refine congrArg _ ?_
  blk_ext [i1]

theorem blk2 (t : Fin cfg0.N) (r : Fin 256) (k : Fin 1024) : iblk m c 2 t (ix2 r k) = V m c main_v2 (ix2 (row t r) k) := by
  unfold row
  blk_simp [iblk]
  refine congrArg _ ?_
  blk_ext [i2]

theorem blk3 (t : Fin cfg0.N) (r : Fin 256) (k : Fin 1024) : iblk m c 3 t (ix2 r k) = V m c main_v3 (ix2 (row t r) k) := by
  unfold row
  blk_simp [iblk]
  refine congrArg _ ?_
  blk_ext [i3]

/-- A load of a whole block is the block. -/
theorem whole (x : Vec Ideal S256x1024 .f32) : View.ld x r0_0 = x :=
  View.ld_unit_zero (funext fun a => by fin_cases a <;> rfl) _ _

theorem out4 (x0 x1 x2 x3 : Vec Ideal S256x1024 .f32) (y : S256x1024.Idx) : out0_4 x0 x1 x2 x3 y = delta (x0 y) (x1 y) (x2 y) (x3 y) := by
  unfold out0_4
  rw [canon4_eq]
  simp only [whole]
  have e : ix4_0 y = y := funext fun a => by fin_cases a <;> rfl
  exact (show E4 x2 x1 x3 x0 y = delta (x0 (ix4_0 y)) (x1 (ix4_0 y)) (x2 (ix4_0 y)) (x3 (ix4_0 y)) from rfl).trans (by rw [e])

theorem out5 (x0 x1 x2 x3 : Vec Ideal S256x1024 .f32) (y : S256x1024.Idx) : out0_5 x0 x1 x2 x3 y = newM (x2 y) (x1 y) := by
  unfold out0_5
  rw [canon5_eq]
  simp only [whole]
  have e : ix5_0 y = y := funext fun a => by fin_cases a <;> rfl
  exact (show E5 x2 x1 y = newM (x2 (ix5_0 y)) (x1 (ix5_0 y)) from rfl).trans (by rw [e])

theorem out6 (x0 x1 x2 x3 : Vec Ideal S256x1024 .f32) (y : S256x1024.Idx) : out0_6 x0 x1 x2 x3 y = newV (x3 y) (x1 y) := by
  unfold out0_6
  rw [canon6_eq]
  simp only [whole]
  have e : ix6_0 y = y := funext fun a => by fin_cases a <;> rfl
  exact (show E6 x3 x1 y = newV (x3 (ix6_0 y)) (x1 (ix6_0 y)) from rfl).trans (by rw [e])

/-- The three result arrays. -/
def G4 : S512x1024.Idx → EReal := fun y => delta (V m c main_v0 y) (V m c main_v1 y) (V m c main_v2 y) (V m c main_v3 y)
def G5 : S512x1024.Idx → EReal := fun y => newM (V m c main_v2 y) (V m c main_v1 y)
def G6 : S512x1024.Idx → EReal := fun y => newV (V m c main_v3 y) (V m c main_v1 y)

theorem final4 : (dats m 0 c).arrAt 4 cfg0.N = G4 m c := by
  refine (dats m 0 c).arrAt_eq_of_covers 4 (G4 m c) (by decide +kernel) fun t hf y => ?_
  blk_simp
  rw [after0_4]
  idx_vars y
  rw [out4, blk0, blk1, blk2, blk3]
  have e : ((View.whole main_v4_0).slice (win0_4.rect t)).emb (ix2 y0 y1) = ix2 (row t y0) y1 := by
    unfold row
    blk_ext [i4]
  rw [e]
  rfl

theorem final5 : (dats m 0 c).arrAt 5 cfg0.N = G5 m c := by
  refine (dats m 0 c).arrAt_eq_of_covers 5 (G5 m c) (by decide +kernel) fun t hf y => ?_
  blk_simp
  rw [after0_5]
  idx_vars y
  rw [out5, blk2, blk1]
  have e : ((View.whole main_v4_1).slice (win0_5.rect t)).emb (ix2 y0 y1) = ix2 (row t y0) y1 := by
    unfold row
    blk_ext [i5]
  rw [e]
  rfl

theorem final6 : (dats m 0 c).arrAt 6 cfg0.N = G6 m c := by
  refine (dats m 0 c).arrAt_eq_of_covers 6 (G6 m c) (by decide +kernel) fun t hf y => ?_
  blk_simp
  rw [after0_6]
  idx_vars y
  rw [out6, blk3, blk1]
  have e : ((View.whole main_v4_2).slice (win0_6.rect t)).emb (ix2 y0 y1) = ix2 (row t y0) y1 := by
    unfold row
    blk_ext [i6]
  rw [e]
  rfl

theorem entry0 : V m c main_v0 = shapeCast _ (m ((c : Thread nD τ).loc main_arg0)) shapeCasts_S2x256x1024_S512x1024 := by
  unfold V
  after_reads_simp
  rfl

theorem entry1 : V m c main_v1 = shapeCast _ (m ((c : Thread nD τ).loc main_arg1)) shapeCasts_S2x256x1024_S512x1024 := by
  unfold V
  after_reads_simp
  rfl

theorem entry2 : V m c main_v2 = shapeCast _ (m ((c : Thread nD τ).loc main_arg2)) shapeCasts_S2x256x1024_S512x1024 := by
  unfold V
  after_reads_simp
  rfl

theorem entry3 : V m c main_v3 = shapeCast _ (m ((c : Thread nD τ).loc main_arg3)) shapeCasts_S2x256x1024_S512x1024 := by
  unfold V
  after_reads_simp
  rfl

end Kernel

/-- The kernel and the reference end with the same three arrays. -/
theorem algebraic : Cert.algebraic_AdamOutIdeal_AdamOutRefIdeal := by
  intro m g m' g' _ hagree
  refine ⟨fun c => G4 m c, fun c => G5 m c, fun c => G6 m c, ?_, ?_⟩
  · refine (θ_run Cert.AdamOutIdeal.defs _ _).mono (fun r h c => ?_) (Cert.AdamOutIdeal.Value.run_blocks (F := Ideal) m g)
    exact ⟨(h c).1.trans (final4 m c), (h c).2.1.trans (final5 m c), (h c).2.2.1.trans (final6 m c), (h c).2.2.2⟩
  · refine (θ_run Cert.AdamOutRefIdeal.defs _ _).mono (fun r h c => ?_) (Cert.AdamOutRefIdeal.Value.run (F := Ideal) m' g')
    refine ⟨(h c).1.trans ?_, (h c).2.1.trans ?_, (h c).2.2.1.trans ?_, (h c).2.2.2⟩
    · funext y
      unfold G4
      beta_reduce
      rw [entry0, entry1, entry2, entry3, (hagree c).1, (hagree c).2.1, (hagree c).2.2.1, (hagree c).2.2.2]
      rfl
    · funext y
      unfold G5
      beta_reduce
      rw [entry1, entry2, (hagree c).2.1, (hagree c).2.2.1]
      rfl
    · funext y
      unfold G6
      beta_reduce
      rw [entry1, entry3, (hagree c).2.1, (hagree c).2.2.2]
      rfl

/-- The reference ends, its arguments as they were and its semaphores at zero: it has none. -/
theorem frame_reference : Cert.quiescent_AdamOutRefIdeal := by
  intro m g _
  refine (θ_run Cert.AdamOutRefIdeal.defs _ _).mono (fun r h => ⟨fun c => (h c).2.2.2, ?_⟩) (Cert.AdamOutRefIdeal.Value.run (F := Ideal) m g)
  exact Idealize.ShloMosaic.sem_eq_zero_of_no_sems (by decide) r.2

end Cert.Proof.AdamOut

end
-- ==== Proof.AdamUp.Equation.lean ====
/-
  The AdamW step of `w_gate` and `w_up`: the kernel and the reference leave the same three arrays.
-/
module

public import proofs.«01_k».proof.Defs
public import proofs.«01_k».proof.Proof.Gen.AdamUpIdeal.Value
public import proofs.«01_k».proof.Proof.Gen.AdamUpRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamUp

section Kernel

open Cert.AdamUpIdeal Cert.AdamUpIdeal.Gen Cert.AdamUpIdeal.Value Cert.Proof.Adam

variable (m : (ℓ : Loc nD τ sig) → Buf (Elt Ideal) ℓ) (c : Dev nD)

theorem size : cfg0.N = 11 := rfl

/-- Row `r` of the block that point `t` works on. -/
def row (t : Fin cfg0.N) (r : Fin 128) : Fin 1408 := ⟨128 * t.val + r.val, by have := t.isLt; have := size; omega⟩

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![t.val, 0] := by decide +kernel
theorem i6 : ∀ t : Fin cfg0.N, win0_6.index t = ![t.val, 0] := by decide +kernel

theorem blk0 (t : Fin cfg0.N) (r : Fin 128) (k : Fin 1024) : iblk m c 0 t (ix2 r k) = V m c main_v4 (ix2 (row t r) k) := by
  unfold row
  blk_simp [iblk]
  refine congrArg _ ?_
  blk_ext [i0]

theorem blk1 (t : Fin cfg0.N) (r : Fin 128) (k : Fin 1024) : iblk m c 1 t (ix2 r k) = V m c main_v5 (ix2 (row t r) k) := by
  unfold row
  blk_simp [iblk]
  refine congrArg _ ?_
  blk_ext [i1]

theorem blk2 (t : Fin cfg0.N) (r : Fin 128) (k : Fin 1024) : iblk m c 2 t (ix2 r k) = V m c main_v6 (ix2 (row t r) k) := by
  unfold row
  blk_simp [iblk]
  refine congrArg _ ?_
  blk_ext [i2]

theorem blk3 (t : Fin cfg0.N) (r : Fin 128) (k : Fin 1024) : iblk m c 3 t (ix2 r k) = V m c main_v7 (ix2 (row t r) k) := by
  unfold row
  blk_simp [iblk]
  refine congrArg _ ?_
  blk_ext [i3]

/-- A load of a whole block is the block. -/
theorem whole (x : Vec Ideal S128x1024 .f32) : View.ld x r0_0 = x :=
  View.ld_unit_zero (funext fun a => by fin_cases a <;> rfl) _ _

theorem out4 (x0 x1 x2 x3 : Vec Ideal S128x1024 .f32) (y : S128x1024.Idx) : out0_4 x0 x1 x2 x3 y = delta (x0 y) (x1 y) (x2 y) (x3 y) := by
  unfold out0_4
  rw [canon4_eq]
  simp only [whole]
  have e : ix4_0 y = y := funext fun a => by fin_cases a <;> rfl
  exact (show E4 x2 x1 x3 x0 y = delta (x0 (ix4_0 y)) (x1 (ix4_0 y)) (x2 (ix4_0 y)) (x3 (ix4_0 y)) from rfl).trans (by rw [e])

theorem out5 (x0 x1 x2 x3 : Vec Ideal S128x1024 .f32) (y : S128x1024.Idx) : out0_5 x0 x1 x2 x3 y = newM (x2 y) (x1 y) := by
  unfold out0_5
  rw [canon5_eq]
  simp only [whole]
  have e : ix5_0 y = y := funext fun a => by fin_cases a <;> rfl
  exact (show E5 x2 x1 y = newM (x2 (ix5_0 y)) (x1 (ix5_0 y)) from rfl).trans (by rw [e])

theorem out6 (x0 x1 x2 x3 : Vec Ideal S128x1024 .f32) (y : S128x1024.Idx) : out0_6 x0 x1 x2 x3 y = newV (x3 y) (x1 y) := by
  unfold out0_6
  rw [canon6_eq]
  simp only [whole]
  have e : ix6_0 y = y := funext fun a => by fin_cases a <;> rfl
  exact (show E6 x3 x1 y = newV (x3 (ix6_0 y)) (x1 (ix6_0 y)) from rfl).trans (by rw [e])

/-- The three result arrays. -/
def G4 : S1408x1024.Idx → EReal := fun y => delta (V m c main_v4 y) (V m c main_v5 y) (V m c main_v6 y) (V m c main_v7 y)
def G5 : S1408x1024.Idx → EReal := fun y => newM (V m c main_v6 y) (V m c main_v5 y)
def G6 : S1408x1024.Idx → EReal := fun y => newV (V m c main_v7 y) (V m c main_v5 y)

theorem final4 : (dats m 0 c).arrAt 4 cfg0.N = G4 m c := by
  refine (dats m 0 c).arrAt_eq_of_covers 4 (G4 m c) (by decide +kernel) fun t hf y => ?_
  blk_simp
  rw [after0_4]
  idx_vars y
  rw [out4, blk0, blk1, blk2, blk3]
  have e : ((View.whole main_v8_0).slice (win0_4.rect t)).emb (ix2 y0 y1) = ix2 (row t y0) y1 := by
    unfold row
    blk_ext [i4]
  rw [e]
  rfl

theorem final5 : (dats m 0 c).arrAt 5 cfg0.N = G5 m c := by
  refine (dats m 0 c).arrAt_eq_of_covers 5 (G5 m c) (by decide +kernel) fun t hf y => ?_
  blk_simp
  rw [after0_5]
  idx_vars y
  rw [out5, blk2, blk1]
  have e : ((View.whole main_v8_1).slice (win0_5.rect t)).emb (ix2 y0 y1) = ix2 (row t y0) y1 := by
    unfold row
    blk_ext [i5]
  rw [e]
  rfl

theorem final6 : (dats m 0 c).arrAt 6 cfg0.N = G6 m c := by
  refine (dats m 0 c).arrAt_eq_of_covers 6 (G6 m c) (by decide +kernel) fun t hf y => ?_
  blk_simp
  rw [after0_6]
  idx_vars y
  rw [out6, blk3, blk1]
  have e : ((View.whole main_v8_2).slice (win0_6.rect t)).emb (ix2 y0 y1) = ix2 (row t y0) y1 := by
    unfold row
    blk_ext [i6]
  rw [e]
  rfl

theorem entry0 : V m c main_v4 = shapeCast _ (transpose _ [0, 2, 1] (m ((c : Thread nD τ).loc main_arg0)) transposes_S2x1024x704_S2x704x1024_0_2_1) shapeCasts_S2x704x1024_S1408x1024 := by
  unfold V
  after_reads_simp
  rfl

theorem entry1 : V m c main_v5 = shapeCast _ (transpose _ [0, 2, 1] (m ((c : Thread nD τ).loc main_arg1)) transposes_S2x1024x704_S2x704x1024_0_2_1) shapeCasts_S2x704x1024_S1408x1024 := by
  unfold V
  after_reads_simp
  rfl

theorem entry2 : V m c main_v6 = shapeCast _ (transpose _ [0, 2, 1] (m ((c : Thread nD τ).loc main_arg2)) transposes_S2x1024x704_S2x704x1024_0_2_1) shapeCasts_S2x704x1024_S1408x1024 := by
  unfold V
  after_reads_simp
  rfl

theorem entry3 : V m c main_v7 = shapeCast _ (transpose _ [0, 2, 1] (m ((c : Thread nD τ).loc main_arg3)) transposes_S2x1024x704_S2x704x1024_0_2_1) shapeCasts_S2x704x1024_S1408x1024 := by
  unfold V
  after_reads_simp
  rfl

end Kernel

/-- The kernel and the reference end with the same three arrays. -/
theorem algebraic : Cert.algebraic_AdamUpIdeal_AdamUpRefIdeal := by
  intro m g m' g' _ hagree
  refine ⟨fun c => G4 m c, fun c => G5 m c, fun c => G6 m c, ?_, ?_⟩
  · refine (θ_run Cert.AdamUpIdeal.defs _ _).mono (fun r h c => ?_) (Cert.AdamUpIdeal.Value.run_blocks (F := Ideal) m g)
    exact ⟨(h c).1.trans (final4 m c), (h c).2.1.trans (final5 m c), (h c).2.2.1.trans (final6 m c), (h c).2.2.2⟩
  · refine (θ_run Cert.AdamUpRefIdeal.defs _ _).mono (fun r h c => ?_) (Cert.AdamUpRefIdeal.Value.run (F := Ideal) m' g')
    refine ⟨(h c).1.trans ?_, (h c).2.1.trans ?_, (h c).2.2.1.trans ?_, (h c).2.2.2⟩
    · funext y
      unfold G4
      beta_reduce
      rw [entry0, entry1, entry2, entry3, (hagree c).1, (hagree c).2.1, (hagree c).2.2.1, (hagree c).2.2.2]
      rfl
    · funext y
      unfold G5
      beta_reduce
      rw [entry1, entry2, (hagree c).2.1, (hagree c).2.2.1]
      rfl
    · funext y
      unfold G6
      beta_reduce
      rw [entry1, entry3, (hagree c).2.1, (hagree c).2.2.2]
      rfl

/-- The reference ends, its arguments as they were and its semaphores at zero: it has none. -/
theorem frame_reference : Cert.quiescent_AdamUpRefIdeal := by
  intro m g _
  refine (θ_run Cert.AdamUpRefIdeal.defs _ _).mono (fun r h => ⟨fun c => (h c).2.2.2, ?_⟩) (Cert.AdamUpRefIdeal.Value.run (F := Ideal) m g)
  exact Idealize.ShloMosaic.sem_eq_zero_of_no_sems (by decide) r.2

end Cert.Proof.AdamUp

end
-- ==== Proof.AdamDown.Equation.lean ====
/-
  The AdamW step of `w_down`: the kernel and the reference leave the same three arrays.
-/
module

public import proofs.«01_k».proof.Defs
public import proofs.«01_k».proof.Proof.Gen.AdamDownIdeal.Value
public import proofs.«01_k».proof.Proof.Gen.AdamDownRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamDown

section Kernel

open Cert.AdamDownIdeal Cert.AdamDownIdeal.Gen Cert.AdamDownIdeal.Value Cert.Proof.Adam

variable (m : (ℓ : Loc nD τ sig) → Buf (Elt Ideal) ℓ) (c : Dev nD)

theorem size : cfg0.N = 11 := rfl

/-- Row `r` of the block that point `t` works on. -/
def row (t : Fin cfg0.N) (r : Fin 128) : Fin 1408 := ⟨128 * t.val + r.val, by have := t.isLt; have := size; omega⟩

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![t.val, 0] := by decide +kernel
theorem i6 : ∀ t : Fin cfg0.N, win0_6.index t = ![t.val, 0] := by decide +kernel

theorem blk0 (t : Fin cfg0.N) (r : Fin 128) (k : Fin 1024) : iblk m c 0 t (ix2 r k) = V m c main_v0 (ix2 (row t r) k) := by
  unfold row
  blk_simp [iblk]
  refine congrArg _ ?_
  blk_ext [i0]

theorem blk1 (t : Fin cfg0.N) (r : Fin 128) (k : Fin 1024) : iblk m c 1 t (ix2 r k) = V m c main_v1 (ix2 (row t r) k) := by
  unfold row
  blk_simp [iblk]
  refine congrArg _ ?_
  blk_ext [i1]

theorem blk2 (t : Fin cfg0.N) (r : Fin 128) (k : Fin 1024) : iblk m c 2 t (ix2 r k) = V m c main_v2 (ix2 (row t r) k) := by
  unfold row
  blk_simp [iblk]
  refine congrArg _ ?_
  blk_ext [i2]

theorem blk3 (t : Fin cfg0.N) (r : Fin 128) (k : Fin 1024) : iblk m c 3 t (ix2 r k) = V m c main_v3 (ix2 (row t r) k) := by
  unfold row
  blk_simp [iblk]
  refine congrArg _ ?_
  blk_ext [i3]

/-- A load of a whole block is the block. -/
theorem whole (x : Vec Ideal S128x1024 .f32) : View.ld x r0_0 = x :=
  View.ld_unit_zero (funext fun a => by fin_cases a <;> rfl) _ _

theorem out4 (x0 x1 x2 x3 : Vec Ideal S128x1024 .f32) (y : S128x1024.Idx) : out0_4 x0 x1 x2 x3 y = delta (x0 y) (x1 y) (x2 y) (x3 y) := by
  unfold out0_4
  rw [canon4_eq]
  simp only [whole]
  have e : ix4_0 y = y := funext fun a => by fin_cases a <;> rfl
  exact (show E4 x2 x1 x3 x0 y = delta (x0 (ix4_0 y)) (x1 (ix4_0 y)) (x2 (ix4_0 y)) (x3 (ix4_0 y)) from rfl).trans (by rw [e])

theorem out5 (x0 x1 x2 x3 : Vec Ideal S128x1024 .f32) (y : S128x1024.Idx) : out0_5 x0 x1 x2 x3 y = newM (x2 y) (x1 y) := by
  unfold out0_5
  rw [canon5_eq]
  simp only [whole]
  have e : ix5_0 y = y := funext fun a => by fin_cases a <;> rfl
  exact (show E5 x2 x1 y = newM (x2 (ix5_0 y)) (x1 (ix5_0 y)) from rfl).trans (by rw [e])

theorem out6 (x0 x1 x2 x3 : Vec Ideal S128x1024 .f32) (y : S128x1024.Idx) : out0_6 x0 x1 x2 x3 y = newV (x3 y) (x1 y) := by
  unfold out0_6
  rw [canon6_eq]
  simp only [whole]
  have e : ix6_0 y = y := funext fun a => by fin_cases a <;> rfl
  exact (show E6 x3 x1 y = newV (x3 (ix6_0 y)) (x1 (ix6_0 y)) from rfl).trans (by rw [e])

/-- The three result arrays. -/
def G4 : S1408x1024.Idx → EReal := fun y => delta (V m c main_v0 y) (V m c main_v1 y) (V m c main_v2 y) (V m c main_v3 y)
def G5 : S1408x1024.Idx → EReal := fun y => newM (V m c main_v2 y) (V m c main_v1 y)
def G6 : S1408x1024.Idx → EReal := fun y => newV (V m c main_v3 y) (V m c main_v1 y)

theorem final4 : (dats m 0 c).arrAt 4 cfg0.N = G4 m c := by
  refine (dats m 0 c).arrAt_eq_of_covers 4 (G4 m c) (by decide +kernel) fun t hf y => ?_
  blk_simp
  rw [after0_4]
  idx_vars y
  rw [out4, blk0, blk1, blk2, blk3]
  have e : ((View.whole main_v4_0).slice (win0_4.rect t)).emb (ix2 y0 y1) = ix2 (row t y0) y1 := by
    unfold row
    blk_ext [i4]
  rw [e]
  rfl

theorem final5 : (dats m 0 c).arrAt 5 cfg0.N = G5 m c := by
  refine (dats m 0 c).arrAt_eq_of_covers 5 (G5 m c) (by decide +kernel) fun t hf y => ?_
  blk_simp
  rw [after0_5]
  idx_vars y
  rw [out5, blk2, blk1]
  have e : ((View.whole main_v4_1).slice (win0_5.rect t)).emb (ix2 y0 y1) = ix2 (row t y0) y1 := by
    unfold row
    blk_ext [i5]
  rw [e]
  rfl

theorem final6 : (dats m 0 c).arrAt 6 cfg0.N = G6 m c := by
  refine (dats m 0 c).arrAt_eq_of_covers 6 (G6 m c) (by decide +kernel) fun t hf y => ?_
  blk_simp
  rw [after0_6]
  idx_vars y
  rw [out6, blk3, blk1]
  have e : ((View.whole main_v4_2).slice (win0_6.rect t)).emb (ix2 y0 y1) = ix2 (row t y0) y1 := by
    unfold row
    blk_ext [i6]
  rw [e]
  rfl

theorem entry0 : V m c main_v0 = shapeCast _ (m ((c : Thread nD τ).loc main_arg0)) shapeCasts_S2x704x1024_S1408x1024 := by
  unfold V
  after_reads_simp
  rfl

theorem entry1 : V m c main_v1 = shapeCast _ (m ((c : Thread nD τ).loc main_arg1)) shapeCasts_S2x704x1024_S1408x1024 := by
  unfold V
  after_reads_simp
  rfl

theorem entry2 : V m c main_v2 = shapeCast _ (m ((c : Thread nD τ).loc main_arg2)) shapeCasts_S2x704x1024_S1408x1024 := by
  unfold V
  after_reads_simp
  rfl

theorem entry3 : V m c main_v3 = shapeCast _ (m ((c : Thread nD τ).loc main_arg3)) shapeCasts_S2x704x1024_S1408x1024 := by
  unfold V
  after_reads_simp
  rfl

end Kernel

/-- The kernel and the reference end with the same three arrays. -/
theorem algebraic : Cert.algebraic_AdamDownIdeal_AdamDownRefIdeal := by
  intro m g m' g' _ hagree
  refine ⟨fun c => G4 m c, fun c => G5 m c, fun c => G6 m c, ?_, ?_⟩
  · refine (θ_run Cert.AdamDownIdeal.defs _ _).mono (fun r h c => ?_) (Cert.AdamDownIdeal.Value.run_blocks (F := Ideal) m g)
    exact ⟨(h c).1.trans (final4 m c), (h c).2.1.trans (final5 m c), (h c).2.2.1.trans (final6 m c), (h c).2.2.2⟩
  · refine (θ_run Cert.AdamDownRefIdeal.defs _ _).mono (fun r h c => ?_) (Cert.AdamDownRefIdeal.Value.run (F := Ideal) m' g')
    refine ⟨(h c).1.trans ?_, (h c).2.1.trans ?_, (h c).2.2.1.trans ?_, (h c).2.2.2⟩
    · funext y
      unfold G4
      beta_reduce
      rw [entry0, entry1, entry2, entry3, (hagree c).1, (hagree c).2.1, (hagree c).2.2.1, (hagree c).2.2.2]
      rfl
    · funext y
      unfold G5
      beta_reduce
      rw [entry1, entry2, (hagree c).2.1, (hagree c).2.2.1]
      rfl
    · funext y
      unfold G6
      beta_reduce
      rw [entry1, entry3, (hagree c).2.1, (hagree c).2.2.2]
      rfl

/-- The reference ends, its arguments as they were and its semaphores at zero: it has none. -/
theorem frame_reference : Cert.quiescent_AdamDownRefIdeal := by
  intro m g _
  refine (θ_run Cert.AdamDownRefIdeal.defs _ _).mono (fun r h => ⟨fun c => (h c).2.2.2, ?_⟩) (Cert.AdamDownRefIdeal.Value.run (F := Ideal) m g)
  exact Idealize.ShloMosaic.sem_eq_zero_of_no_sems (by decide) r.2

end Cert.Proof.AdamDown

end
-- ==== Proof.AdamG.Equation.lean ====
/-
  The AdamW step of the four norms' gains: the kernel and the reference leave the same three arrays.
-/
module

public import proofs.«01_k».proof.Defs
public import proofs.«01_k».proof.Proof.Gen.AdamGIdeal.Value
public import proofs.«01_k».proof.Proof.Gen.AdamGRefIdeal.Run
public import proofs.«01_k».proof.Proof.Adam.Step
public import Idealize.ShloMosaic.Lib.Pipeline.ValueKit
public import Idealize.ShloMosaic.Lib.StableHlo.RunRead
public import Idealize.ShloMosaic.Lib.Pointwise.Sums
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdamG

/-- The kernel and the reference end with the same three arrays. -/
theorem algebraic : Cert.algebraic_AdamGIdeal_AdamGRefIdeal := by
  intro m g m' g' _ hagree
  refine ⟨fun c => Cert.AdamGIdeal.Value.G4 (F := Ideal) (m ((c.tc : Thread Cert.AdamGIdeal.nD Cert.AdamGIdeal.τ).loc Cert.AdamGIdeal.main_arg1)) (m ((c.tc : Thread Cert.AdamGIdeal.nD Cert.AdamGIdeal.τ).loc Cert.AdamGIdeal.main_arg2))
      (m ((c.tc : Thread Cert.AdamGIdeal.nD Cert.AdamGIdeal.τ).loc Cert.AdamGIdeal.main_arg3)) (m ((c.tc : Thread Cert.AdamGIdeal.nD Cert.AdamGIdeal.τ).loc Cert.AdamGIdeal.main_arg0)),
    fun c => Cert.AdamGIdeal.Value.G5 (F := Ideal) (m ((c.tc : Thread Cert.AdamGIdeal.nD Cert.AdamGIdeal.τ).loc Cert.AdamGIdeal.main_arg1)) (m ((c.tc : Thread Cert.AdamGIdeal.nD Cert.AdamGIdeal.τ).loc Cert.AdamGIdeal.main_arg2)),
    fun c => Cert.AdamGIdeal.Value.G6 (F := Ideal) (m ((c.tc : Thread Cert.AdamGIdeal.nD Cert.AdamGIdeal.τ).loc Cert.AdamGIdeal.main_arg1)) (m ((c.tc : Thread Cert.AdamGIdeal.nD Cert.AdamGIdeal.τ).loc Cert.AdamGIdeal.main_arg3)), ?_, ?_⟩
  · exact (θ_run Cert.AdamGIdeal.defs _ _).mono (fun r h c => h c) (Cert.AdamGIdeal.Value.run (F := Ideal) m g)
  · refine (θ_run Cert.AdamGRefIdeal.defs _ _).mono (fun r h c => ?_) (Cert.AdamGRefIdeal.Value.run (F := Ideal) m' g')
    refine ⟨(h c).1.trans ?_, (h c).2.1.trans ?_, (h c).2.2.1.trans ?_, (h c).2.2.2⟩
    · rw [(hagree c).1, (hagree c).2.1, (hagree c).2.2.1, (hagree c).2.2.2]
      rfl
    · rw [(hagree c).2.1, (hagree c).2.2.1]
      rfl
    · rw [(hagree c).2.1, (hagree c).2.2.2]
      rfl

/-- The reference ends, its arguments as they were and its semaphores at zero: it has none. -/
theorem frame_reference : Cert.quiescent_AdamGRefIdeal := by
  intro m g _
  refine (θ_run Cert.AdamGRefIdeal.defs _ _).mono (fun r h => ⟨fun c => (h c).2.2.2, ?_⟩) (Cert.AdamGRefIdeal.Value.run (F := Ideal) m g)
  exact Idealize.ShloMosaic.sem_eq_zero_of_no_sems (by decide) r.2

end Cert.Proof.AdamG

end
-- ==== Proof.AdaGrad.Equation.lean ====
/-
  The gradient of the modulation's weight: the kernel and the reference end with the same array, whatever the arguments.
-/
module

public import proofs.«01_k».proof.Defs
public import proofs.«01_k».proof.Proof.Gen.AdaGradIdeal.Value
public import proofs.«01_k».proof.Proof.Gen.AdaGradRefIdeal.Run
public import Idealize.ShloMosaic.Lib.Pipeline.ValueKit
public import Idealize.ShloMosaic.Lib.StableHlo.RunRead
public import Idealize.ShloMosaic.Lib.StableHlo.ReadAt
public import Idealize.ShloMosaic.Lib.Pointwise
public import Idealize.ShloMosaic.Lib.Pointwise.Sums
public import Idealize.ShloMosaic.Lib.Pointwise.Reshape
public import Idealize.ShloMosaic.Adequacy
public import Idealize.ShloMosaic.Init

@[expose] public section

set_option maxRecDepth 16384

noncomputable section

open Idealize.ShloMosaic Idealize.ShloMosaic.TcCoe Idealize.SL.Sem

namespace Cert.Proof.AdaGrad

section Kernel

open Cert.AdaGradIdeal Cert.AdaGradIdeal.Gen Cert.AdaGradIdeal.Value

variable (m : (ℓ : Loc nD τ sig) → Buf (Elt Ideal) ℓ) (c : Dev nD)

theorem size : cfg0.N = 6 := rfl

/-- The block that point `t` works on. -/
theorem i0 : ∀ t : Fin cfg0.N, win0_0.index t = ![0, 0] := by decide +kernel
theorem i1 : ∀ t : Fin cfg0.N, win0_1.index t = ![t.val / 3, 0, t.val % 3] := by decide +kernel
theorem i2 : ∀ t : Fin cfg0.N, win0_2.index t = ![t.val / 3, 0, t.val % 3] := by decide +kernel

/-- What a point stores: its block of columns of the product of the activation and the modulation's gradient. -/
theorem pay (x0 : Vec Ideal S1024x8 .f32) (x1 : Vec Ideal S1x8x512 .f32) (k : Fin 1024) (n : Fin 512) :
    k0_pay1 x0 x1 (ix3 0 k n) = ∑ b : Fin 8, x0 (ix2 k b) * Ideal.logistic (x0 (ix2 k b)) * x1 (ix3 0 b n) := by
  pointwise [k0_pay1]

/-- The blocks of the operands. -/
theorem blk0 (t : Fin cfg0.N) (k : Fin 1024) (b : Fin 8) : iblk m c 0 t (ix2 k b) = V m c main_v0 (ix2 k b) := by
  blk_simp [iblk]
  refine congrArg _ ?_
  blk_ext [i0]

/-- The layer and the column that point `t` works on. -/
def layer (t : Fin cfg0.N) : Fin 2 := ⟨t.val / 3, by have := t.isLt; have := size; omega⟩
def col (t : Fin cfg0.N) (n : Fin 512) : Fin 1536 := ⟨512 * (t.val % 3) + n.val, by omega⟩

theorem blk1 (t : Fin cfg0.N) (b : Fin 8) (n : Fin 512) : iblk m c 1 t (ix3 0 b n) = V m c main_v1 (ix3 (layer t) b (col t n)) := by
  unfold layer col
  blk_simp [iblk]
  refine congrArg _ ?_
  blk_ext [i1]

/-- The kernel's operands are the arguments with two axes exchanged. -/
theorem entry0 (k : Fin 1024) (b : Fin 8) : V m c main_v0 (ix2 k b) = m ((c.tc : Thread nD τ).loc main_arg0) (ix2 b k) := by
  unfold V
  after_reads_at

theorem entry1 (l : Fin 2) (b : Fin 8) (n : Fin 1536) : V m c main_v1 (ix3 l b n) = m ((c.tc : Thread nD τ).loc main_arg1) (ix3 b l n) := by
  unfold V
  after_reads_at

/-- A load of a whole block is the block. -/
theorem whole0 (x : Vec Ideal S1024x8 .f32) : View.ld x r0_0 = x :=
  View.ld_unit_zero (funext fun a => by fin_cases a <;> rfl) _ _
theorem whole1 (x : Vec Ideal S1x8x512 .f32) : View.ld x r0_1 = x :=
  View.ld_unit_zero (funext fun a => by fin_cases a <;> rfl) _ _

theorem out (x0 : Vec Ideal S1024x8 .f32) (x1 : Vec Ideal S1x8x512 .f32) (k : Fin 1024) (n : Fin 512) :
    out0_2 x0 x1 (ix3 0 k n) = ∑ b : Fin 8, x0 (ix2 k b) * Ideal.logistic (x0 (ix2 k b)) * x1 (ix3 0 b n) := by
  unfold out0_2
  rw [whole0, whole1, ← pay]
  exact congrFun (View.canon_unit_zero (funext fun a => by fin_cases a <;> rfl) _ _) _

/-- The product of the activation and the modulation's gradient over the batch, at one layer. -/
def grad (x0 : FVec Ideal S8x1024 .f32) (x1 : FVec Ideal S8x2x1536 .f32) (l : Fin 2) (k : Fin 1024) (n : Fin 1536) : EReal :=
  ∑ b : Fin 8, x0 (ix2 b k) * Ideal.logistic (x0 (ix2 b k)) * x1 (ix3 b l n)

/-- The result array. -/
def G : Buf (Elt Ideal) ((c.tc : Thread nD τ).loc main_v2) :=
  fun y => grad (m ((c.tc : Thread nD τ).loc main_arg0)) (m ((c.tc : Thread nD τ).loc main_arg1)) (y 0) (y 1) (y 2)

theorem final : (dats m 0 c).arrAt 2 cfg0.N = G m c := by
  refine (dats m 0 c).arrAt_eq_of_covers 2 (G m c) (by decide +kernel) fun t hf y => ?_
  blk_simp
  rw [after0_2]
  idx_vars y
  have e0 : y0 = 0 := Fin.ext (by omega)
  subst e0
  rw [out]
  have e : ((View.whole main_v2).slice (win0_2.rect t)).emb (ix3 0 y1 y2) = ix3 (layer t) y1 (col t y2) := by
    unfold layer col
    blk_ext [i2]
  rw [e]
  show _ = grad _ _ (layer t) y1 (col t y2)
  unfold grad
  refine Finset.sum_congr rfl fun b _ => ?_
  rw [blk0, blk1, entry0, entry1]

end Kernel

section Reference

open Cert.AdaGradRefIdeal Cert.AdaGradRefIdeal.Gen

/-- An element of the reference's array is the sum over the batch. -/
theorem reference (x0 : FVec Ideal S8x1024 .f32) (x1 : FVec Ideal S8x2x1536 .f32) (l : Fin 2) (k : Fin 1024) (n : Fin 1536) :
    concatenate S2x1024x1536 0 [⟨S1x1024x1536, (broadcastInDim S1x1024x1536 ![1, 2] bcast_S1024x1536_S1x1024x1536_1_2 (transpose S1024x1536 [1, 0] (Host.dotGeneral (F := Ideal) (φ₁ := .f32) (φ₂ := .f32) dot_S8x1536_S8x1024_S1536x1024_0_0_1_1_n_n none (shapeCast _ (extractStridedSlice S8x1x1536 ![0, 0, 0] x1 slices_S8x2x1536_S8x1x1536_0_0_0) shapeCasts_S8x1x1536_S8x1536) (mulf x0 (Host.divf (broadcastInDim S8x1024 ![] bcast_S_S8x1024 (constant S_ .f32 0x3F800000#32)) (addf (broadcastInDim S8x1024 ![] bcast_S_S8x1024 (constant S_ .f32 0x3F800000#32)) (Host.exp (Host.negf x0)))))) transposes_S1536x1024_S1024x1536_1_0))⟩, ⟨S1x1024x1536, (broadcastInDim S1x1024x1536 ![1, 2] bcast_S1024x1536_S1x1024x1536_1_2 (transpose S1024x1536 [1, 0] (Host.dotGeneral (F := Ideal) (φ₁ := .f32) (φ₂ := .f32) dot_S8x1536_S8x1024_S1536x1024_0_0_1_1_n_n none (shapeCast _ (extractStridedSlice S8x1x1536 ![0, 1, 0] x1 slices_S8x2x1536_S8x1x1536_0_1_0) shapeCasts_S8x1x1536_S8x1536) (mulf x0 (Host.divf (broadcastInDim S8x1024 ![] bcast_S_S8x1024 (constant S_ .f32 0x3F800000#32)) (addf (broadcastInDim S8x1024 ![] bcast_S_S8x1024 (constant S_ .f32 0x3F800000#32)) (Host.exp (Host.negf x0)))))) transposes_S1536x1024_S1024x1536_1_0))⟩] concatenates_S1x1024x1536_S1x1024x1536_S2x1024x1536_d0 (ix3 l k n)
      = ∑ b : Fin 8, x0 (ix2 b k) * Ideal.logistic (x0 (ix2 b k)) * x1 (ix3 b l n) := by
  pointwise []
  split_ifs with h
  · have e : l = 0 := Fin.ext (by show l.val = 0; omega)
    subst e
    exact Finset.sum_congr rfl fun b _ => mul_comm _ _
  · have e : l = 1 := Fin.ext (by show l.val = 1; omega)
    subst e
    exact Finset.sum_congr rfl fun b _ => mul_comm _ _

end Reference

/-- The kernel and the reference end with the same array. -/
theorem algebraic : Cert.algebraic_AdaGradIdeal_AdaGradRefIdeal := by
  intro m g m' g' _ hagree
  refine ⟨fun c => G m c, ?_, ?_⟩
  · refine (θ_run Cert.AdaGradIdeal.defs _ _).mono (fun r h c => ?_) (Cert.AdaGradIdeal.Value.run_blocks (F := Ideal) m g)
    exact ⟨(h c).1.trans (final m c), (h c).2⟩
  · refine (θ_run Cert.AdaGradRefIdeal.defs _ _).mono (fun r h c => ?_) (Cert.AdaGradRefIdeal.Value.run (F := Ideal) m' g')
    refine ⟨(h c).1.trans ?_, (h c).2⟩
    funext y
    idx_vars y
    refine (reference _ _ y0 y1 y2).trans ?_
    rw [(hagree c).1, (hagree c).2]
    rfl

/-- The reference ends, its arguments as they were and its semaphores at zero: it has none. -/
theorem frame_reference : Cert.quiescent_AdaGradRefIdeal := by
  intro m g _
  refine (θ_run Cert.AdaGradRefIdeal.defs _ _).mono (fun r h => ⟨fun c => (h c).2, ?_⟩) (Cert.AdaGradRefIdeal.Value.run (F := Ideal) m g)
  exact Idealize.ShloMosaic.sem_eq_zero_of_no_sems (by decide) r.2

end Cert.Proof.AdaGrad

end
-- ==== Proof.SumDev.Equation.lean ====
/-
  The sums of the gradients over the devices: the kernel and the reference end with the same array, whatever the arguments.
-/
module

public import proofs.«01_k».proof.Defs
public import proofs.«01_k».proof.Proof.Gen.SumDevIdeal.Value
public import proofs.«01_k».proof.Proof.Gen.SumDevRefIdeal.Run
public import Idealize.ShloMosaic.Lib.Pipeline.ValueKit
public import Idealize.ShloMosaic.Lib.StableHlo.RunRead
public import Idealize.ShloMosaic.Lib.StableHlo.ReadAt
public import Idealize.ShloMosaic.Lib.Pointwise
public import Idealize.ShloMosaic.Lib.Pointwise.Sums
public import Idealize.ShloMosaic.Lib.Pointwise.Reshape
public import Idealize.ShloMosaic.Adequacy
public import Idealize.ShloMosaic.Init

@[expose] public section

set_option maxRecDepth 16384

noncomputable section

open Idealize.ShloMosaic Idealize.ShloMosaic.TcCoe Idealize.SL.Sem

namespace Cert.Proof.SumDev

section Kernel

open Cert.SumDevIdeal Cert.SumDevIdeal.Gen Cert.SumDevIdeal.Value

variable (m : (ℓ : Loc nD τ sig) → Buf (Elt Ideal) ℓ) (c : Dev nD)

/-- What the kernel stores: the devices' arrays added one after the other. -/
theorem pay (x0 x1 x2 x3 x4 x5 x6 x7 : Vec Ideal S1x1216x128 .f32) (r : Fin 1216) (l : Fin 128) :
    k0_pay1 x0 x1 x2 x3 x4 x5 x6 x7 (ix2 r l) = x0 (ix3 0 r l) + x1 (ix3 0 r l) + x2 (ix3 0 r l) + x3 (ix3 0 r l) + x4 (ix3 0 r l) + x5 (ix3 0 r l) + x6 (ix3 0 r l) + x7 (ix3 0 r l) := by
  pointwise [k0_pay1]

/-- The rows of every layer's small gradients, one device after the other. -/
def rows (x0 : FVec Ideal S8x2x1024 .f32) (x1 : FVec Ideal S8x2x1024 .f32) (x2 : FVec Ideal S8x2x1024 .f32) (x3 : FVec Ideal S8x2x1024 .f32) (x4 : FVec Ideal S8x2x1280 .f32) (x5 : FVec Ideal S8x2x512 .f32) (x6 : FVec Ideal S8x2x8 .f32) (x7 : FVec Ideal S8x2x4x128x128 .f32) : FVec Ideal S8x2x71552 .f32 :=
  concatenate S8x2x71552 2 [⟨S8x2x1024, x0⟩, ⟨S8x2x1024, x1⟩, ⟨S8x2x1024, x2⟩, ⟨S8x2x1024, x3⟩, ⟨S8x2x1280, x4⟩, ⟨S8x2x512, x5⟩, ⟨S8x2x8, x6⟩,
    ⟨S8x2x120, broadcastInDim S8x2x120 ![] bcast_S_S8x2x120 (constant (F := Ideal) S_ .f32 0x00000000#32)⟩,
    ⟨S8x2x65536, shapeCast S8x2x65536 x7 shapeCasts_S8x2x4x128x128_S8x2x65536⟩]
    concatenates_S8x2x1024_S8x2x1024_S8x2x1024_S8x2x1024_S8x2x1280_S8x2x512_S8x2x8_S8x2x120_S8x2x65536_S8x2x71552_d2

/-- The kernel's operand: those rows, the modulation's gradients and zeros in one array for every device. -/
def packed (s : FVec Ideal S8x2x71552 .f32) (x8 : FVec Ideal S8x2x6144 .f32) : FVec Ideal S8x1216x128 .f32 :=
  shapeCast S8x1216x128 (concatenate S8x155648 1 [⟨S8x143104, shapeCast S8x143104 s shapeCasts_S8x2x71552_S8x143104⟩,
    ⟨S8x12288, shapeCast S8x12288 x8 shapeCasts_S8x2x6144_S8x12288⟩,
    ⟨S8x256, broadcastInDim S8x256 ![] bcast_S_S8x256 (constant (F := Ideal) S_ .f32 0x00000000#32)⟩]
    concatenates_S8x143104_S8x12288_S8x256_S8x155648_d1) shapeCasts_S8x155648_S8x1216x128

/-- The kernel's operand is that array of the arguments. -/
theorem entry : V m c main_v7 = packed (rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) := by
  unfold V packed rows
  after_results <;> rfl

end Kernel

section Reference

open Cert.SumDevRefIdeal Cert.SumDevRefIdeal.Gen

/-- The same rows, of the sums over the devices. -/
def sums (x0 : FVec Ideal S8x2x1024 .f32) (x1 : FVec Ideal S8x2x1024 .f32) (x2 : FVec Ideal S8x2x1024 .f32) (x3 : FVec Ideal S8x2x1024 .f32) (x4 : FVec Ideal S8x2x1280 .f32) (x5 : FVec Ideal S8x2x512 .f32) (x6 : FVec Ideal S8x2x8 .f32) (x7 : FVec Ideal S8x2x4x128x128 .f32) : FVec Ideal S2x71552 .f32 :=
  concatenate S2x71552 1 [⟨S2x1024, Host.reduceAdd (F := Ideal) (φ := .f32) x0 (constant (F := Ideal) S_ .f32 0x00000000#32) reducesTo_S8x2x1024_S2x1024_d0 h_S_⟩,
    ⟨S2x1024, Host.reduceAdd (F := Ideal) (φ := .f32) x1 (constant (F := Ideal) S_ .f32 0x00000000#32) reducesTo_S8x2x1024_S2x1024_d0 h_S_⟩,
    ⟨S2x1024, Host.reduceAdd (F := Ideal) (φ := .f32) x2 (constant (F := Ideal) S_ .f32 0x00000000#32) reducesTo_S8x2x1024_S2x1024_d0 h_S_⟩,
    ⟨S2x1024, Host.reduceAdd (F := Ideal) (φ := .f32) x3 (constant (F := Ideal) S_ .f32 0x00000000#32) reducesTo_S8x2x1024_S2x1024_d0 h_S_⟩,
    ⟨S2x1280, Host.reduceAdd (F := Ideal) (φ := .f32) x4 (constant (F := Ideal) S_ .f32 0x00000000#32) reducesTo_S8x2x1280_S2x1280_d0 h_S_⟩,
    ⟨S2x512, Host.reduceAdd (F := Ideal) (φ := .f32) x5 (constant (F := Ideal) S_ .f32 0x00000000#32) reducesTo_S8x2x512_S2x512_d0 h_S_⟩,
    ⟨S2x8, Host.reduceAdd (F := Ideal) (φ := .f32) x6 (constant (F := Ideal) S_ .f32 0x00000000#32) reducesTo_S8x2x8_S2x8_d0 h_S_⟩,
    ⟨S2x120, broadcastInDim S2x120 ![] bcast_S_S2x120 (constant (F := Ideal) S_ .f32 0x00000000#32)⟩,
    ⟨S2x65536, shapeCast S2x65536 (Host.reduceAdd (F := Ideal) (φ := .f32) x7 (constant (F := Ideal) S_ .f32 0x00000000#32) reducesTo_S8x2x4x128x128_S2x4x128x128_d0 h_S_) shapeCasts_S2x4x128x128_S2x65536⟩]
    concatenates_S2x1024_S2x1024_S2x1024_S2x1024_S2x1280_S2x512_S2x8_S2x120_S2x65536_S2x71552_d1

/-- The reference's array. -/
def laid (s : FVec Ideal S2x71552 .f32) (x8 : FVec Ideal S8x2x6144 .f32) : FVec Ideal S1216x128 .f32 :=
  shapeCast S1216x128 (concatenate S155648 0 [⟨S143104, shapeCast S143104 s shapeCasts_S2x71552_S143104⟩,
    ⟨S12288, shapeCast S12288 (Host.reduceAdd (F := Ideal) (φ := .f32) x8 (constant (F := Ideal) S_ .f32 0x00000000#32) reducesTo_S8x2x6144_S2x6144_d0 h_S_) shapeCasts_S2x6144_S12288⟩,
    ⟨S256, broadcastInDim S256 ![] bcast_S_S256 (constant (F := Ideal) S_ .f32 0x00000000#32)⟩]
    concatenates_S143104_S12288_S256_S155648_d0) shapeCasts_S155648_S1216x128

end Reference

section Sums

/-- An element of an array laid out at another shape, read where it was. -/
theorem unflat (X : FVec Ideal Cert.SumDevRefIdeal.S155648 .f32) (r : Fin 1216) (l : Fin 128) : shapeCast Cert.SumDevRefIdeal.S1216x128 X Cert.SumDevRefIdeal.Gen.shapeCasts_S155648_S1216x128 (ix2 r l) = X (ix1 ⟨r.val * 128 + l.val, by omega⟩) := by
  pointwise []
theorem unflat8 (X : FVec Ideal Cert.SumDevIdeal.S8x155648 .f32) (d : Fin 8) (r : Fin 1216) (l : Fin 128) : shapeCast Cert.SumDevIdeal.S8x1216x128 X Cert.SumDevIdeal.Gen.shapeCasts_S8x155648_S8x1216x128 (ix3 d r l) = X (ix2 d ⟨r.val * 128 + l.val, by omega⟩) := by
  pointwise []
theorem flat8 (X : FVec Ideal Cert.SumDevIdeal.S8x2x71552 .f32) (d : Fin 8) (p : Fin 143104) : shapeCast Cert.SumDevIdeal.S8x143104 X Cert.SumDevIdeal.Gen.shapeCasts_S8x2x71552_S8x143104 (ix2 d p) = X (ix3 d ⟨p.val / 71552, by omega⟩ ⟨p.val % 71552, by omega⟩) := by
  pointwise []
theorem flat (X : FVec Ideal Cert.SumDevRefIdeal.S2x71552 .f32) (p : Fin 143104) : shapeCast Cert.SumDevRefIdeal.S143104 X Cert.SumDevRefIdeal.Gen.shapeCasts_S2x71552_S143104 (ix1 p) = X (ix2 ⟨p.val / 71552, by omega⟩ ⟨p.val % 71552, by omega⟩) := by
  pointwise []
theorem flatMod8 (X : FVec Ideal Cert.SumDevIdeal.S8x2x6144 .f32) (d : Fin 8) (p : Fin 12288) : shapeCast Cert.SumDevIdeal.S8x12288 X Cert.SumDevIdeal.Gen.shapeCasts_S8x2x6144_S8x12288 (ix2 d p) = X (ix3 d ⟨p.val / 6144, by omega⟩ ⟨p.val % 6144, by omega⟩) := by
  pointwise []
theorem flatMod (X : FVec Ideal Cert.SumDevRefIdeal.S2x6144 .f32) (p : Fin 12288) : shapeCast Cert.SumDevRefIdeal.S12288 X Cert.SumDevRefIdeal.Gen.shapeCasts_S2x6144_S12288 (ix1 p) = X (ix2 ⟨p.val / 6144, by omega⟩ ⟨p.val % 6144, by omega⟩) := by
  pointwise []

/-- A column of the joined rows, read in the piece that holds it. -/
theorem wide {xs : List ((s : Shape) × (s.Idx → EReal))} (h : Shape.Concatenates (xs.map (·.1)) Cert.SumDevIdeal.S8x2x71552 2) {k n pre : ℕ} {x : (⟨3, ![8, 2, n]⟩ : Shape).Idx → EReal}
    (hk : k < xs.length) (hx : xs[k] = ⟨⟨3, ![8, 2, n]⟩, x⟩)
    (hpre : (((xs.take k).map (·.1)).map fun s => if h : s.rank = 3 then s.size ((2 : Fin 3).cast h.symm) else 0).sum = pre)
    (d : Fin 8) (l : Fin 2) (j : Fin 71552) (i : Fin n) (hj : pre + i.val = j.val) :
    concatenate Cert.SumDevIdeal.S8x2x71552 2 xs h (ix3 d l j) = x (ix3 d l i) :=
  concatenate_apply_piece 2 xs h (ix3 d l j) k hk _ x hx rfl pre hpre (ix3 d l i)
    (fun b hb => by match b with | 0 => rfl | 1 => rfl | 2 => exact absurd rfl hb) hj

/-- The same for the rows of the sums. -/
theorem narrow {xs : List ((s : Shape) × (s.Idx → EReal))} (h : Shape.Concatenates (xs.map (·.1)) Cert.SumDevRefIdeal.S2x71552 1) {k n pre : ℕ} {x : (⟨2, ![2, n]⟩ : Shape).Idx → EReal}
    (hk : k < xs.length) (hx : xs[k] = ⟨⟨2, ![2, n]⟩, x⟩)
    (hpre : (((xs.take k).map (·.1)).map fun s => if h : s.rank = 2 then s.size ((1 : Fin 2).cast h.symm) else 0).sum = pre)
    (l : Fin 2) (j : Fin 71552) (i : Fin n) (hj : pre + i.val = j.val) :
    concatenate Cert.SumDevRefIdeal.S2x71552 1 xs h (ix2 l j) = x (ix2 l i) :=
  concatenate_apply_piece 1 xs h (ix2 l j) k hk _ x hx rfl pre hpre (ix2 l i)
    (fun b hb => by match b with | 0 => rfl | 1 => exact absurd rfl hb) hj

/-- In a piece whose columns are the sums of the other's columns, so are the joined rows'. -/
theorem piece {xs ys : List ((s : Shape) × (s.Idx → EReal))} (hx : Shape.Concatenates (xs.map (·.1)) Cert.SumDevIdeal.S8x2x71552 2)
    (hy : Shape.Concatenates (ys.map (·.1)) Cert.SumDevRefIdeal.S2x71552 1) (k n pre : ℕ) (x : (⟨3, ![8, 2, n]⟩ : Shape).Idx → EReal) (y : (⟨2, ![2, n]⟩ : Shape).Idx → EReal)
    (kx : k < xs.length) (ky : k < ys.length) (ex : xs[k] = ⟨⟨3, ![8, 2, n]⟩, x⟩) (ey : ys[k] = ⟨⟨2, ![2, n]⟩, y⟩)
    (px : (((xs.take k).map (·.1)).map fun s => if h : s.rank = 3 then s.size ((2 : Fin 3).cast h.symm) else 0).sum = pre)
    (py : (((ys.take k).map (·.1)).map fun s => if h : s.rank = 2 then s.size ((1 : Fin 2).cast h.symm) else 0).sum = pre)
    (hxy : ∀ (l : Fin 2) (i : Fin n), ∑ d : Fin 8, x (ix3 d l i) = y (ix2 l i))
    (l : Fin 2) (j : Fin 71552) (i : Fin n) (hj : pre + i.val = j.val) :
    ∑ d : Fin 8, concatenate Cert.SumDevIdeal.S8x2x71552 2 xs hx (ix3 d l j) = concatenate Cert.SumDevRefIdeal.S2x71552 1 ys hy (ix2 l j) :=
  (Finset.sum_congr rfl fun d _ => wide hx kx ex px d l j i hj).trans ((hxy l i).trans (narrow hy ky ey py l j i hj).symm)

/-- The reference's sum over the devices, at an index. -/
theorem total1024 (x : FVec Ideal Cert.SumDevRefIdeal.S8x2x1024 .f32) (l : Fin 2) (i : Fin 1024) :
    ∑ d : Fin 8, x (ix3 d l i) = Host.reduceAdd (F := Ideal) (φ := .f32) x (constant (F := Ideal) Cert.SumDevRefIdeal.S_ .f32 0x00000000#32) Cert.SumDevRefIdeal.Gen.reducesTo_S8x2x1024_S2x1024_d0 Cert.SumDevRefIdeal.Gen.h_S_ (ix2 l i) := by
  pointwise []

theorem total1280 (x : FVec Ideal Cert.SumDevRefIdeal.S8x2x1280 .f32) (l : Fin 2) (i : Fin 1280) :
    ∑ d : Fin 8, x (ix3 d l i) = Host.reduceAdd (F := Ideal) (φ := .f32) x (constant (F := Ideal) Cert.SumDevRefIdeal.S_ .f32 0x00000000#32) Cert.SumDevRefIdeal.Gen.reducesTo_S8x2x1280_S2x1280_d0 Cert.SumDevRefIdeal.Gen.h_S_ (ix2 l i) := by
  pointwise []

theorem total512 (x : FVec Ideal Cert.SumDevRefIdeal.S8x2x512 .f32) (l : Fin 2) (i : Fin 512) :
    ∑ d : Fin 8, x (ix3 d l i) = Host.reduceAdd (F := Ideal) (φ := .f32) x (constant (F := Ideal) Cert.SumDevRefIdeal.S_ .f32 0x00000000#32) Cert.SumDevRefIdeal.Gen.reducesTo_S8x2x512_S2x512_d0 Cert.SumDevRefIdeal.Gen.h_S_ (ix2 l i) := by
  pointwise []

theorem total8 (x : FVec Ideal Cert.SumDevRefIdeal.S8x2x8 .f32) (l : Fin 2) (i : Fin 8) :
    ∑ d : Fin 8, x (ix3 d l i) = Host.reduceAdd (F := Ideal) (φ := .f32) x (constant (F := Ideal) Cert.SumDevRefIdeal.S_ .f32 0x00000000#32) Cert.SumDevRefIdeal.Gen.reducesTo_S8x2x8_S2x8_d0 Cert.SumDevRefIdeal.Gen.h_S_ (ix2 l i) := by
  pointwise []

theorem total6144 (x : FVec Ideal Cert.SumDevRefIdeal.S8x2x6144 .f32) (l : Fin 2) (i : Fin 6144) :
    ∑ d : Fin 8, x (ix3 d l i) = Host.reduceAdd (F := Ideal) (φ := .f32) x (constant (F := Ideal) Cert.SumDevRefIdeal.S_ .f32 0x00000000#32) Cert.SumDevRefIdeal.Gen.reducesTo_S8x2x6144_S2x6144_d0 Cert.SumDevRefIdeal.Gen.h_S_ (ix2 l i) := by
  pointwise []

/-- The gaps are zero on both sides. -/
theorem zeros (l : Fin 2) (i : Fin 120) :
    ∑ d : Fin 8, broadcastInDim Cert.SumDevIdeal.S8x2x120 ![] Cert.SumDevIdeal.Gen.bcast_S_S8x2x120 (constant (F := Ideal) Cert.SumDevIdeal.S_ .f32 0x00000000#32) (ix3 d l i)
      = broadcastInDim Cert.SumDevRefIdeal.S2x120 ![] Cert.SumDevRefIdeal.Gen.bcast_S_S2x120 (constant (F := Ideal) Cert.SumDevRefIdeal.S_ .f32 0x00000000#32) (ix2 l i) := by
  pointwise []
  exact Finset.sum_const_zero

/-- The pooling weights' gradients, laid out as one row for every layer. -/
theorem totalPool (x : FVec Ideal Cert.SumDevRefIdeal.S8x2x4x128x128 .f32) (l : Fin 2) (i : Fin 65536) :
    ∑ d : Fin 8, shapeCast Cert.SumDevIdeal.S8x2x65536 x Cert.SumDevIdeal.Gen.shapeCasts_S8x2x4x128x128_S8x2x65536 (ix3 d l i)
      = shapeCast Cert.SumDevRefIdeal.S2x65536 (Host.reduceAdd (F := Ideal) (φ := .f32) x (constant (F := Ideal) Cert.SumDevRefIdeal.S_ .f32 0x00000000#32) Cert.SumDevRefIdeal.Gen.reducesTo_S8x2x4x128x128_S2x4x128x128_d0 Cert.SumDevRefIdeal.Gen.h_S_) Cert.SumDevRefIdeal.Gen.shapeCasts_S2x4x128x128_S2x65536 (ix2 l i) := by
  pointwise []

/-- The same for the arrays of all rows. -/
theorem piece2 {xs ys : List ((s : Shape) × (s.Idx → EReal))} (hx : Shape.Concatenates (xs.map (·.1)) Cert.SumDevIdeal.S8x155648 1)
    (hy : Shape.Concatenates (ys.map (·.1)) Cert.SumDevRefIdeal.S155648 0) (k n pre : ℕ) (x : (⟨2, ![8, n]⟩ : Shape).Idx → EReal) (y : (⟨1, ![n]⟩ : Shape).Idx → EReal)
    (kx : k < xs.length) (ky : k < ys.length) (ex : xs[k] = ⟨⟨2, ![8, n]⟩, x⟩) (ey : ys[k] = ⟨⟨1, ![n]⟩, y⟩)
    (px : (((xs.take k).map (·.1)).map fun s => if h : s.rank = 2 then s.size ((1 : Fin 2).cast h.symm) else 0).sum = pre)
    (py : (((ys.take k).map (·.1)).map fun s => if h : s.rank = 1 then s.size ((0 : Fin 1).cast h.symm) else 0).sum = pre)
    (hxy : ∀ i : Fin n, ∑ d : Fin 8, x (ix2 d i) = y (ix1 i)) (j : Fin 155648) (i : Fin n) (hj : pre + i.val = j.val) :
    ∑ d : Fin 8, concatenate Cert.SumDevIdeal.S8x155648 1 xs hx (ix2 d j) = concatenate Cert.SumDevRefIdeal.S155648 0 ys hy (ix1 j) :=
  (Finset.sum_congr rfl fun d _ => concatenate_apply_piece 1 xs hx (ix2 d j) k kx _ x ex rfl pre px (ix2 d i)
      (fun b hb => by match b with | 0 => rfl | 1 => exact absurd rfl hb) hj).trans
    ((hxy i).trans (concatenate_apply_piece 0 ys hy (ix1 j) k ky _ y ey rfl pre py (ix1 i)
      (fun b hb => by match b with | 0 => exact absurd rfl hb) hj).symm)

theorem zeros256 (i : Fin 256) :
    ∑ d : Fin 8, broadcastInDim Cert.SumDevIdeal.S8x256 ![] Cert.SumDevIdeal.Gen.bcast_S_S8x256 (constant (F := Ideal) Cert.SumDevIdeal.S_ .f32 0x00000000#32) (ix2 d i)
      = broadcastInDim Cert.SumDevRefIdeal.S256 ![] Cert.SumDevRefIdeal.Gen.bcast_S_S256 (constant (F := Ideal) Cert.SumDevRefIdeal.S_ .f32 0x00000000#32) (ix1 i) := by
  pointwise []
  exact Finset.sum_const_zero

/-- The kernel's operands add up over the devices to the reference's array, if their rows do. -/
theorem packed_sum (s : FVec Ideal Cert.SumDevIdeal.S8x2x71552 .f32) (s' : FVec Ideal Cert.SumDevRefIdeal.S2x71552 .f32) (x8 : FVec Ideal Cert.SumDevIdeal.S8x2x6144 .f32)
    (h : ∀ (l : Fin 2) (j : Fin 71552), ∑ d : Fin 8, s (ix3 d l j) = s' (ix2 l j)) (r : Fin 1216) (l : Fin 128) :
    ∑ d : Fin 8, packed s x8 (ix3 d r l) = laid s' x8 (ix2 r l) := by
  unfold packed laid
  rw [unflat]
  refine (Finset.sum_congr rfl fun d _ => unflat8 _ d r l).trans ?_
  generalize hj : (⟨r.val * 128 + l.val, _⟩ : Fin 155648) = j
  have hl := j.isLt
  by_cases h0 : j.val < 143104
  · exact piece2 _ _ 0 143104 0 _ _ (by show 0 < 3; omega) (by show 0 < 3; omega) rfl rfl rfl rfl
      (fun i => (Finset.sum_congr rfl fun d _ => flat8 s d i).trans ((h _ _).trans (flat s' i).symm)) j ⟨j.val - 0, by omega⟩ (show 0 + (j.val - 0) = j.val by omega)
  by_cases h1 : j.val < 155392
  · exact piece2 _ _ 1 12288 143104 _ _ (by show 1 < 3; omega) (by show 1 < 3; omega) rfl rfl rfl rfl
      (fun i => (Finset.sum_congr rfl fun d _ => flatMod8 x8 d i).trans ((total6144 x8 _ _).trans (flatMod _ i).symm)) j ⟨j.val - 143104, by omega⟩ (show 143104 + (j.val - 143104) = j.val by omega)
  exact piece2 _ _ 2 256 155392 _ _ (by show 2 < 3; omega) (by show 2 < 3; omega) rfl rfl rfl rfl
    zeros256 j ⟨j.val - 155392, by omega⟩ (show 155392 + (j.val - 155392) = j.val by omega)

/-- The rows add up over the devices to the rows of the sums. -/
theorem rows_sum (x0 : FVec Ideal Cert.SumDevRefIdeal.S8x2x1024 .f32) (x1 : FVec Ideal Cert.SumDevRefIdeal.S8x2x1024 .f32) (x2 : FVec Ideal Cert.SumDevRefIdeal.S8x2x1024 .f32) (x3 : FVec Ideal Cert.SumDevRefIdeal.S8x2x1024 .f32) (x4 : FVec Ideal Cert.SumDevRefIdeal.S8x2x1280 .f32) (x5 : FVec Ideal Cert.SumDevRefIdeal.S8x2x512 .f32) (x6 : FVec Ideal Cert.SumDevRefIdeal.S8x2x8 .f32) (x7 : FVec Ideal Cert.SumDevRefIdeal.S8x2x4x128x128 .f32) (l : Fin 2) (j : Fin 71552) :
    ∑ d : Fin 8, rows x0 x1 x2 x3 x4 x5 x6 x7 (ix3 d l j) = sums x0 x1 x2 x3 x4 x5 x6 x7 (ix2 l j) := by
  unfold rows sums
  have hj := j.isLt
  by_cases h0 : j.val < 1024
  · refine piece _ _ 0 1024 0 _ _ (by show 0 < 9; omega) (by show 0 < 9; omega) rfl rfl rfl rfl (fun l i => total1024 x0 l i) l j ⟨j.val - 0, by omega⟩ (show 0 + (j.val - 0) = j.val by omega)
  by_cases h1 : j.val < 2048
  · refine piece _ _ 1 1024 1024 _ _ (by show 1 < 9; omega) (by show 1 < 9; omega) rfl rfl rfl rfl (fun l i => total1024 x1 l i) l j ⟨j.val - 1024, by omega⟩ (show 1024 + (j.val - 1024) = j.val by omega)
  by_cases h2 : j.val < 3072
  · refine piece _ _ 2 1024 2048 _ _ (by show 2 < 9; omega) (by show 2 < 9; omega) rfl rfl rfl rfl (fun l i => total1024 x2 l i) l j ⟨j.val - 2048, by omega⟩ (show 2048 + (j.val - 2048) = j.val by omega)
  by_cases h3 : j.val < 4096
  · refine piece _ _ 3 1024 3072 _ _ (by show 3 < 9; omega) (by show 3 < 9; omega) rfl rfl rfl rfl (fun l i => total1024 x3 l i) l j ⟨j.val - 3072, by omega⟩ (show 3072 + (j.val - 3072) = j.val by omega)
  by_cases h4 : j.val < 5376
  · refine piece _ _ 4 1280 4096 _ _ (by show 4 < 9; omega) (by show 4 < 9; omega) rfl rfl rfl rfl (fun l i => total1280 x4 l i) l j ⟨j.val - 4096, by omega⟩ (show 4096 + (j.val - 4096) = j.val by omega)
  by_cases h5 : j.val < 5888
  · refine piece _ _ 5 512 5376 _ _ (by show 5 < 9; omega) (by show 5 < 9; omega) rfl rfl rfl rfl (fun l i => total512 x5 l i) l j ⟨j.val - 5376, by omega⟩ (show 5376 + (j.val - 5376) = j.val by omega)
  by_cases h6 : j.val < 5896
  · refine piece _ _ 6 8 5888 _ _ (by show 6 < 9; omega) (by show 6 < 9; omega) rfl rfl rfl rfl (fun l i => total8 x6 l i) l j ⟨j.val - 5888, by omega⟩ (show 5888 + (j.val - 5888) = j.val by omega)
  by_cases h7 : j.val < 6016
  · refine piece _ _ 7 120 5896 _ _ (by show 7 < 9; omega) (by show 7 < 9; omega) rfl rfl rfl rfl (fun l i => zeros l i) l j ⟨j.val - 5896, by omega⟩ (show 5896 + (j.val - 5896) = j.val by omega)
  refine piece _ _ 8 65536 6016 _ _ (by show 8 < 9; omega) (by show 8 < 9; omega) rfl rfl rfl rfl (fun l i => totalPool x7 l i) l j ⟨j.val - 6016, by omega⟩ (show 6016 + (j.val - 6016) = j.val by omega)

end Sums

section Result

open Cert.SumDevIdeal Cert.SumDevIdeal.Gen Cert.SumDevIdeal.Value

variable (m : (ℓ : Loc nD τ sig) → Buf (Elt Ideal) ℓ) (c : Dev nD)

/-- The result array. -/
def G : Buf (Elt Ideal) ((c.tc : Thread nD τ).loc main_v8) :=
  laid (sums (m ((c.tc : Thread Cert.SumDevIdeal.nD Cert.SumDevIdeal.τ).loc Cert.SumDevIdeal.main_arg0)) (m ((c.tc : Thread Cert.SumDevIdeal.nD Cert.SumDevIdeal.τ).loc Cert.SumDevIdeal.main_arg1)) (m ((c.tc : Thread Cert.SumDevIdeal.nD Cert.SumDevIdeal.τ).loc Cert.SumDevIdeal.main_arg2)) (m ((c.tc : Thread Cert.SumDevIdeal.nD Cert.SumDevIdeal.τ).loc Cert.SumDevIdeal.main_arg3)) (m ((c.tc : Thread Cert.SumDevIdeal.nD Cert.SumDevIdeal.τ).loc Cert.SumDevIdeal.main_arg4)) (m ((c.tc : Thread Cert.SumDevIdeal.nD Cert.SumDevIdeal.τ).loc Cert.SumDevIdeal.main_arg5)) (m ((c.tc : Thread Cert.SumDevIdeal.nD Cert.SumDevIdeal.τ).loc Cert.SumDevIdeal.main_arg6)) (m ((c.tc : Thread Cert.SumDevIdeal.nD Cert.SumDevIdeal.τ).loc Cert.SumDevIdeal.main_arg7))) (m ((c.tc : Thread Cert.SumDevIdeal.nD Cert.SumDevIdeal.τ).loc Cert.SumDevIdeal.main_arg8))

/-- The kernel has one point, whose blocks are the whole arrays. -/
theorem i0 : ∀ t : Fin cfg0.N, win0_0.index t = ![0, 0, 0] := by decide +kernel
theorem i1 : ∀ t : Fin cfg0.N, win0_1.index t = ![0, 0] := by decide +kernel

theorem blk0 (t : Fin cfg0.N) (d : Fin 8) (r : Fin 1216) (l : Fin 128) : iblk m c 0 t (ix3 d r l) = V m c main_v7 (ix3 d r l) := by
  blk_simp [iblk]
  refine congrArg _ ?_
  blk_ext [i0]

/-- What the kernel stores is the sum over the devices. -/
theorem out (x : Vec Ideal S8x1216x128 .f32) (r : Fin 1216) (l : Fin 128) : out0_1 x (ix2 r l) = ∑ d : Fin 8, x (ix3 d r l) := by
  unfold out0_1
  refine (congrFun (View.canon_unit_zero (funext fun a => by fin_cases a <;> rfl) _ _) _).trans ?_
  refine (pay _ _ _ _ _ _ _ _ r l).trans ?_
  rw [Fin.sum_univ_eight]
  have e0 : r0_0.emb (ix3 0 r l) = ix3 0 r l := by blk_ext
  have e1 : r0_1.emb (ix3 0 r l) = ix3 1 r l := by blk_ext
  have e2 : r0_2.emb (ix3 0 r l) = ix3 2 r l := by blk_ext
  have e3 : r0_3.emb (ix3 0 r l) = ix3 3 r l := by blk_ext
  have e4 : r0_4.emb (ix3 0 r l) = ix3 4 r l := by blk_ext
  have e5 : r0_5.emb (ix3 0 r l) = ix3 5 r l := by blk_ext
  have e6 : r0_6.emb (ix3 0 r l) = ix3 6 r l := by blk_ext
  have e7 : r0_7.emb (ix3 0 r l) = ix3 7 r l := by blk_ext
  rw [← e0, ← e1, ← e2, ← e3, ← e4, ← e5, ← e6, ← e7]
  rfl

theorem final : (dats m 0 c).arrAt 1 cfg0.N = G m c := by
  refine (dats m 0 c).arrAt_eq_of_covers 1 (G m c) (by decide +kernel) fun t hf y => ?_
  blk_simp
  rw [after0_1]
  idx_vars y
  have e : ((View.whole main_v8).slice (win0_1.rect t)).emb (ix2 y0 y1) = ix2 y0 y1 := by
    blk_ext [i1]
  rw [e, out]
  show _ = laid _ _ (ix2 y0 y1)
  rw [← packed_sum _ _ _ (rows_sum _ _ _ _ _ _ _ _)]
  refine Finset.sum_congr rfl fun d _ => ?_
  rw [blk0, entry]

end Result

/-- The kernel and the reference end with the same array. -/
theorem algebraic : Cert.algebraic_SumDevIdeal_SumDevRefIdeal := by
  intro m g m' g' _ hagree
  refine ⟨fun c => G m c, ?_, ?_⟩
  · refine (θ_run Cert.SumDevIdeal.defs _ _).mono (fun r h c => ?_) (Cert.SumDevIdeal.Value.run_blocks (F := Ideal) m g)
    exact ⟨(h c).1.trans (final m c), (h c).2⟩
  · refine (θ_run Cert.SumDevRefIdeal.defs _ _).mono (fun r h c => ?_) (Cert.SumDevRefIdeal.Value.run (F := Ideal) m' g')
    refine ⟨(h c).1.trans ?_, (h c).2⟩
    obtain ⟨e0, e1, e2, e3, e4, e5, e6, e7, e8⟩ := hagree c
    unfold G
    rw [e0, e1, e2, e3, e4, e5, e6, e7, e8]
    rfl

/-- The reference ends, its arguments as they were and its semaphores at zero: it has none. -/
theorem frame_reference : Cert.quiescent_SumDevRefIdeal := by
  intro m g _
  refine (θ_run Cert.SumDevRefIdeal.defs _ _).mono (fun r h => ⟨fun c => (h c).2, ?_⟩) (Cert.SumDevRefIdeal.Value.run (F := Ideal) m g)
  exact Idealize.ShloMosaic.sem_eq_zero_of_no_sems (by decide) r.2

end Cert.Proof.SumDev

end
-- ==== Proof.Net.InBlock.lean ====
/-
  The input block's backward pass over the real numbers: the rotary embedding's gradient, the gradient of the projection's
  output, and the arrays that the kernel and the reference both leave. Also: a rotation and a concatenation read at an index.
-/
module

public import proofs.«01_k».proof.Proof.Net.Model
public import Idealize.ShloMosaic.Lib.KernelVsHost
public import Idealize.ShloMosaic.Lib.Pipeline.Value

@[expose] public section

noncomputable section

open Idealize.ShloMosaic

namespace Cert.Proof.Net

theorem bits_eighth : Ideal.ofBits FTy.f32 0x3E000000#32 = ((1 / 8 : ℝ) : EReal) := by
  simp [Ideal.ofBits, Ideal.ieee, zpow_ofNat]
  rw [← EReal.coe_mul]
  norm_num

/-! ## The rotary embedding's gradient, columns counted through the heads of 64 -/

/-- Of a row of gradients, the gradient before the rotation: the first eight lanes of a head turn with the next eight. -/
def turn (v : ℕ → ℝ) (co si : ℕ → ℝ) (c : ℕ) : ℝ :=
  if c % 64 < 8 then v c * co (c % 64) + v (c + 8) * si (c % 64)
  else if c % 64 < 16 then v c * co (c % 64 - 8) - v (c - 8) * si (c % 64 - 8)
  else v c

/-- The kernel's three tables at a lane: the cosine over both halves, the sine negated over the first, the sine over the second. -/
def tabC (co : ℕ → ℝ) (l : ℕ) : ℝ := if l % 64 < 8 then co (l % 64) else if l % 64 < 16 then co (l % 64 - 8) else 1
def tabN (si : ℕ → ℝ) (l : ℕ) : ℝ := if l % 64 < 8 then -si (l % 64) else 0
def tabS (si : ℕ → ℝ) (l : ℕ) : ℝ := if l % 64 < 8 then 0 else if l % 64 < 16 then si (l % 64 - 8) else 0

/-- The kernel's rotation by two rolls is the gradient. -/
theorem turn_eq (v co si : ℕ → ℝ) (w c p q : ℕ) (hw : w % 128 = 0) (hc : c < w) (hp : p = (c + w - 8) % w) (hq : q = (c + 8) % w) :
    v c * tabC co (c % 128) + v p * tabN si (p % 128) + v q * tabS si (q % 128) = turn v co si c := by
  have hw0 : 128 ≤ w := by omega
  have dc : c % 128 % 64 = c % 64 := by omega
  by_cases h1 : c % 64 < 8
  · have hq1 : q = c + 8 := by rw [hq, Nat.mod_eq_of_lt (by omega)]
    have hq2 : q % 128 % 64 = c % 64 + 8 := by omega
    have hp2 : 8 ≤ p % 128 % 64 := by
      by_cases h8 : c < 8
      · have : p = c + w - 8 := by rw [hp, Nat.mod_eq_of_lt (by omega)]
        omega
      · have : p = c - 8 := by rw [hp, show c + w - 8 = (c - 8) + w by omega, Nat.add_mod_right, Nat.mod_eq_of_lt (by omega)]
        omega
    unfold turn tabC tabN tabS
    rw [dc, hq2, if_pos h1, if_neg (by omega : ¬ p % 128 % 64 < 8), if_neg (by omega : ¬ c % 64 + 8 < 8), if_pos (by omega : c % 64 + 8 < 16), if_pos h1, hq1,
      Nat.add_sub_cancel]
    ring
  · have hp1 : p = c - 8 := by rw [hp, show c + w - 8 = (c - 8) + w by omega, Nat.add_mod_right, Nat.mod_eq_of_lt (by omega)]
    have hp2 : p % 128 % 64 = c % 64 - 8 := by omega
    have hq2 : q % 128 % 64 < 8 ∨ 16 ≤ q % 128 % 64 := by
      by_cases h8 : c + 8 < w
      · have : q = c + 8 := by rw [hq, Nat.mod_eq_of_lt h8]
        omega
      · have : q = c + 8 - w := by rw [hq, Nat.mod_eq_sub_mod (by omega), Nat.mod_eq_of_lt (by omega)]
        omega
    have hS : tabS si (q % 128) = 0 := by
      unfold tabS
      split
      · rfl
      · rw [if_neg (by omega)]
    rw [hS]
    by_cases h2 : c % 64 < 16
    · unfold turn tabC tabN
      rw [dc, hp2, if_neg h1, if_pos h2, if_pos (by omega : c % 64 - 8 < 8), if_neg h1, if_pos h2, hp1]
      ring
    · unfold turn tabC tabN
      rw [dc, hp2, if_neg h1, if_neg h2, if_neg (by omega : ¬ c % 64 - 8 < 8), if_neg h1, if_neg h2]
      ring

/-! ## The block -/

/-- The block's input, gain, modulation, weight, tables and the gradients it takes, real numbers. The heads' gradients are
    counted along the row: of the queries 64 to a head, of the keys and values 128 to a head, 64 to each copy. -/
structure InData where
  X : Fin 8192 → Fin 1024 → ℝ
  gp : Fin 1024 → ℝ
  sh : Fin 1024 → ℝ
  sc : Fin 1024 → ℝ
  W : Fin 1024 → Fin 1280 → ℝ
  CT : Fin 8192 → Fin 1024 → ℝ
  DQ : Fin 8192 → ℕ → ℝ
  DK : Fin 8192 → ℕ → ℝ
  DV : Fin 8192 → ℕ → ℝ
  DU : Fin 8192 → ℕ → ℝ
  CO : Fin 8192 → ℕ → ℝ
  SI : Fin 8192 → ℕ → ℝ

/-- The sum of the two copies of a head. -/
def fold (v : ℕ → ℝ) (c : ℕ) : ℝ := v (c / 64 * 128 + c % 64) + v (c / 64 * 128 + (64 + c % 64))

namespace InData

variable (d : InData) (t : Fin 8192)

def pq : ℕ → ℝ := turn (fun c => d.DQ t c * (1 / 8)) (d.CO t) (d.SI t)
def pk : ℕ → ℝ := turn (fold (d.DK t)) (d.CO t) (d.SI t)
def pv : ℕ → ℝ := fold (d.DV t)
/-- The gradient of the projection's output. -/
def P (j : ℕ) : ℝ := if j < 512 then d.pq t j else if j < 640 then d.pk t (j - 512) else if j < 768 then d.pv t (j - 640) else d.DU t (j - 768)
def dh (k : Fin 1024) : ℝ := ∑ j : Fin 1280, d.P t j.val * d.W k j
def dx (k : Fin 1024) : ℝ := d.CT t k + normBwd (d.X t) (fun k => d.dh t k * (1 + d.sc k) * d.gp k) k
/-- The gradients of the shift, of the scale and of the gain. -/
def rows (n : Fin 1024) : Fin 8 → ℝ
  | 0 => ∑ t, d.dh t n
  | 1 => ∑ t, d.dh t n * norm (d.X t) n * d.gp n
  | 2 => ∑ t, d.dh t n * norm (d.X t) n * (1 + d.sc n)
  | _ => 0
/-- The gradient of the bias. -/
def bias (j : ℕ) : Fin 8 → ℝ
  | 0 => ∑ t, d.P t j
  | _ => 0

theorem P_q {j : ℕ} (h : j < 512) : d.P t j = d.pq t j := if_pos h
theorem P_k {j : ℕ} (h : 512 ≤ j) (h' : j < 640) : d.P t j = d.pk t (j - 512) := by
  unfold P; rw [if_neg (by omega), if_pos h']
theorem P_v {j : ℕ} (h : 640 ≤ j) (h' : j < 768) : d.P t j = d.pv t (j - 640) := by
  unfold P; rw [if_neg (by omega), if_neg (by omega), if_pos h']
theorem P_u {j : ℕ} (h : 768 ≤ j) : d.P t j = d.DU t (j - 768) := by
  unfold P; rw [if_neg (by omega), if_neg (by omega), if_neg (by omega)]

end InData

/-! ## A rotation and a concatenation read at an index -/

section Read

variable {α : Type} {n w : ℕ}

theorem roll_at (sb : BitVec 32) (x : (⟨2, ![n, w]⟩ : Shape).Idx → α) (h : (⟨2, ![n, w]⟩ : Shape).Rotates 1 none) (r : Fin n) (c p : Fin w)
    (hp : p.val = (c.val + w - sb.toNat % w) % w) : dynamicRotate 1 sb none x h (ix2 r c) = x (ix2 r p) :=
  dynamicRotate_apply 1 sb x h (ix2 r c) (ix2 r p) fun b => by
    match b with
    | 0 => rfl
    | 1 => exact hp

/-- A column of the joined columns, read in the piece that holds it; -/
theorem cat1 {xs : List ((s : Shape) × (s.Idx → α))} (h : Shape.Concatenates (xs.map (·.1)) ⟨2, ![n, w]⟩ 1) {k m pre : ℕ} {x : (⟨2, ![n, m]⟩ : Shape).Idx → α}
    (hk : k < xs.length) (hx : xs[k] = ⟨⟨2, ![n, m]⟩, x⟩)
    (hpre : (((xs.take k).map (·.1)).map fun s => if h : s.rank = 2 then s.size ((1 : Fin 2).cast h.symm) else 0).sum = pre)
    (r : Fin n) (c : Fin w) (l : Fin m) (hl : pre + l.val = c.val) :
    concatenate ⟨2, ![n, w]⟩ 1 xs h (ix2 r c) = x (ix2 r l) :=
  concatenate_apply_piece 1 xs h (ix2 r c) k hk _ x hx rfl pre hpre (ix2 r l)
    (fun b hb => by match b with | 0 => rfl | 1 => exact absurd rfl hb) hl

/-- a row of the joined rows; -/
theorem cat0 {xs : List ((s : Shape) × (s.Idx → α))} (h : Shape.Concatenates (xs.map (·.1)) ⟨2, ![n, w]⟩ 0) {k m pre : ℕ} {x : (⟨2, ![m, w]⟩ : Shape).Idx → α}
    (hk : k < xs.length) (hx : xs[k] = ⟨⟨2, ![m, w]⟩, x⟩)
    (hpre : (((xs.take k).map (·.1)).map fun s => if h : s.rank = 2 then s.size ((0 : Fin 2).cast h.symm) else 0).sum = pre)
    (r : Fin n) (c : Fin w) (l : Fin m) (hl : pre + l.val = r.val) :
    concatenate ⟨2, ![n, w]⟩ 0 xs h (ix2 r c) = x (ix2 l c) :=
  concatenate_apply_piece 0 xs h (ix2 r c) k hk _ x hx rfl pre hpre (ix2 l c)
    (fun b hb => by match b with | 1 => rfl | 0 => exact absurd rfl hb) hl

/-- and a lane of the joined lanes of heads. -/
theorem cat2 {p : ℕ} {xs : List ((s : Shape) × (s.Idx → α))} (h : Shape.Concatenates (xs.map (·.1)) ⟨3, ![p, n, w]⟩ 2) {k m pre : ℕ} {x : (⟨3, ![p, n, m]⟩ : Shape).Idx → α}
    (hk : k < xs.length) (hx : xs[k] = ⟨⟨3, ![p, n, m]⟩, x⟩)
    (hpre : (((xs.take k).map (·.1)).map fun s => if h : s.rank = 3 then s.size ((2 : Fin 3).cast h.symm) else 0).sum = pre)
    (q : Fin p) (r : Fin n) (c : Fin w) (l : Fin m) (hl : pre + l.val = c.val) :
    concatenate ⟨3, ![p, n, w]⟩ 2 xs h (ix3 q r c) = x (ix3 q r l) :=
  concatenate_apply_piece 2 xs h (ix3 q r c) k hk _ x hx rfl pre hpre (ix3 q r l)
    (fun b hb => by match b with | 0 => rfl | 1 => rfl | 2 => exact absurd rfl hb) hl

end Read

end Cert.Proof.Net
-- ==== Proof.InBwd.Payload.lean ====
/-
  What the input block's backward kernel computes from a block of 1024 rows, value by value, over real numbers: the rotary
  embedding's gradient on the queries and keys, the heads' two copies added, the projection's gradient and the norm's.
-/
module

public import proofs.«01_k».proof.Proof.Gen.InBwdIdeal.Skeleton
public import proofs.«01_k».proof.Proof.Net.InBlock
public import Idealize.ShloMosaic.Lib.Pointwise

@[expose] public section

set_option maxRecDepth 16384

noncomputable section

open Idealize.ShloMosaic Idealize.ShloMosaic.TcCoe Idealize.SL.Sem

namespace Cert.InBwdIdeal.Blocks

open Cert.InBwdIdeal Cert.InBwdIdeal.Gen Cert.Proof.Net

theorem thousand : (1024 : ℝ) ≠ 0 := by norm_num

section Rotary

variable {d : InData} {t : Fin 1024 → Fin 8192} {v13 v15 v17 : Vec Ideal S1024x128 .f32} {v19 : Vec Ideal S1024x512 .f32}
  (h13 : ∀ r (l : Fin 128), v13 (ix2 r l) = ((tabC (d.CO (t r)) l.val : ℝ) : EReal))
  (h15 : ∀ r (l : Fin 128), v15 (ix2 r l) = ((tabN (d.SI (t r)) l.val : ℝ) : EReal))
  (h17 : ∀ r (l : Fin 128), v17 (ix2 r l) = ((tabS (d.SI (t r)) l.val : ℝ) : EReal))
  (h19 : ∀ r (c : Fin 512), v19 (ix2 r c) = ((d.DQ (t r) c.val : ℝ) : EReal))

include h13 in
theorem pay10_apply (r : Fin 1024) (l : Fin 128) : k0_pay10 v13 (ix2 r l) = ((tabC (d.CO (t r)) l.val : ℝ) : EReal) := by
  pointwise [k0_pay10]
  exact h13 r l
include h15 in
theorem pay11_apply (r : Fin 1024) (l : Fin 128) : k0_pay11 v15 (ix2 r l) = ((tabN (d.SI (t r)) l.val : ℝ) : EReal) := by
  pointwise [k0_pay11]
  exact h15 r l
include h17 in
theorem pay12_apply (r : Fin 1024) (l : Fin 128) : k0_pay12 v17 (ix2 r l) = ((tabS (d.SI (t r)) l.val : ℝ) : EReal) := by
  pointwise [k0_pay12]
  exact h17 r l

/-- A table repeated four times. -/
theorem tile (x : FVec Ideal S1024x128 .f32) (r : Fin 1024) (c : Fin 512) :
    concatenate S1024x512 1 [⟨S1024x128, x⟩, ⟨S1024x128, x⟩, ⟨S1024x128, x⟩, ⟨S1024x128, x⟩] concatenates_S1024x128_S1024x128_S1024x128_S1024x128_S1024x512_d1 (ix2 r c)
      = x (ix2 r ⟨c.val % 128, Nat.mod_lt _ (by decide)⟩) := by
  by_cases h0 : c.val < 128
  · exact cat1 _ (k := 0) (m := 128) (pre := 0) (by show 0 < 4; decide) rfl rfl r c ⟨c.val % 128, Nat.mod_lt _ (by decide)⟩ (by show 0 + c.val % 128 = c.val; omega)
  by_cases h1 : c.val < 256
  · exact cat1 _ (k := 1) (m := 128) (pre := 128) (by show 1 < 4; decide) rfl rfl r c ⟨c.val % 128, Nat.mod_lt _ (by decide)⟩ (by show 128 + c.val % 128 = c.val; omega)
  by_cases h2 : c.val < 384
  · exact cat1 _ (k := 2) (m := 128) (pre := 256) (by show 2 < 4; decide) rfl rfl r c ⟨c.val % 128, Nat.mod_lt _ (by decide)⟩ (by show 256 + c.val % 128 = c.val; omega)
  · exact cat1 _ (k := 3) (m := 128) (pre := 384) (by show 3 < 4; decide) rfl rfl r c ⟨c.val % 128, Nat.mod_lt _ (by decide)⟩ (by show 384 + c.val % 128 = c.val; omega)

include h13 h15 h17 h19 in
/-- The queries' part of the projection's gradient. -/
theorem pay13_apply (r : Fin 1024) (c : Fin 512) : k0_pay13 v13 v15 v17 v19 (ix2 r c) = ((d.pq (t r) c.val : ℝ) : EReal) := by
  have hd : ∀ c : Fin 512, (mulf (shapeCast S1024x512 v19 shapeCasts_S1024x512_S1024x512) (broadcast S1024x512 (Scalar.ofBits (F := Ideal) .f32 0x3E000000#32)) : FVec Ideal S1024x512 .f32) (ix2 r c)
      = ((d.DQ (t r) c.val * (1 / 8) : ℝ) : EReal) := by
    intro c
    pointwise []
    simp only [h19, bits_eighth, mul]
  have eC := fun c => (tile (k0_pay10 v13) r c).trans (pay10_apply h13 r _)
  have eN := fun c => (tile (k0_pay11 v15) r c).trans (pay11_apply h15 r _)
  have eS := fun c => (tile (k0_pay12 v17) r c).trans (pay12_apply h17 r _)
  unfold k0_pay13
  dsimp only
  refine (congrArg₂ (fun a b : EReal => a + b) (congrArg₂ (fun a b : EReal => a + b) (congrArg₂ (fun a b : EReal => a * b) (hd c) (eC c))
    ((roll_at 8#32 _ _ r c ⟨(c.val + 512 - 8) % 512, Nat.mod_lt _ (by decide)⟩ rfl).trans (congrArg₂ (fun a b : EReal => a * b) (hd _) (eN _))))
    ((roll_at 504#32 _ _ r c ⟨(c.val + 8) % 512, Nat.mod_lt _ (by decide)⟩ (by show (c.val + 8) % 512 = (c.val + 512 - 504) % 512; congr 1)).trans
      (congrArg₂ (fun a b : EReal => a * b) (hd _) (eS _)))).trans ?_
  simp only [mul, add]
  exact congrArg _ (turn_eq (fun c => d.DQ (t r) c * (1 / 8)) _ _ 512 c.val _ _ (by decide) c.isLt rfl rfl)

/-- The lanes below 64. -/
theorem pay14_apply (r : Fin 1024) (l : Fin 128) : k0_pay14 (ix2 r l) = if l.val < 64 then 1#1 else 0#1 := by
  pointwise [k0_pay14]
  revert l
  decide +kernel

/-- The two copies of a head added, where `mask` says which lanes are the first head's. -/
theorem folded {mask : IVec S1024x128 1} (hm : ∀ r (l : Fin 128), mask (ix2 r l) = if l.val < 64 then 1#1 else 0#1)
    {x : FVec Ideal S1024x256 .f32} {v : Fin 8192 → ℕ → ℝ} (hx : ∀ r (c : Fin 256), x (ix2 r c) = ((v (t r) c.val : ℝ) : EReal)) (r : Fin 1024) (l : Fin 128) :
    (select mask
      (addf (extractStridedSlice S1024x128 ![0, 0] x slices_S1024x256_o0_0_S1024x128)
        (dynamicRotate 1 64#32 none (extractStridedSlice S1024x128 ![0, 0] x slices_S1024x256_o0_0_S1024x128) rotates_S1024x128_d1))
      (addf (extractStridedSlice S1024x128 ![0, 128] x slices_S1024x256_o0_128_S1024x128)
        (dynamicRotate 1 64#32 none (extractStridedSlice S1024x128 ![0, 128] x slices_S1024x256_o0_128_S1024x128) rotates_S1024x128_d1)) : FVec Ideal S1024x128 .f32) (ix2 r l)
      = ((fold (v (t r)) l.val : ℝ) : EReal) := by
  have e0 : ∀ l : Fin 128, extractStridedSlice S1024x128 ![0, 0] x slices_S1024x256_o0_0_S1024x128 (ix2 r l) = ((v (t r) l.val : ℝ) : EReal) := by
    intro l
    pointwise []
    exact hx r ⟨l.val, by omega⟩
  have e1 : ∀ l : Fin 128, extractStridedSlice S1024x128 ![0, 128] x slices_S1024x256_o0_128_S1024x128 (ix2 r l) = ((v (t r) (128 + l.val) : ℝ) : EReal) := by
    intro l
    pointwise []
    exact hx r ⟨128 + l.val, by omega⟩
  rw [ValueIdx.select_apply, hm]
  by_cases h : l.val < 64
  · rw [if_pos h]
    refine (congrArg₂ (fun a b : EReal => a + b) (e0 l) ((roll_at 64#32 _ _ r l ⟨l.val + 64, by omega⟩ (by show l.val + 64 = (l.val + 128 - 64) % 128; omega)).trans (e0 _))).trans ?_
    simp only [add]
    refine congrArg _ ?_
    unfold fold
    rw [show l.val / 64 * 128 + l.val % 64 = l.val by omega, show l.val / 64 * 128 + (64 + l.val % 64) = l.val + 64 by omega]
  · rw [if_neg h]
    refine (congrArg₂ (fun a b : EReal => a + b) (e1 l) ((roll_at 64#32 _ _ r l ⟨l.val - 64, by omega⟩ (by show l.val - 64 = (l.val + 128 - 64) % 128; omega)).trans (e1 _))).trans ?_
    simp only [add]
    refine congrArg _ ?_
    unfold fold
    rw [show l.val / 64 * 128 + l.val % 64 = 128 + (l.val - 64) by omega, show l.val / 64 * 128 + (64 + l.val % 64) = 128 + l.val by omega, add_comm]

/-- A block's rows joined from the two arrays. -/
theorem joined {x : Vec Ideal S896x256 .f32} {y : Vec Ideal S128x256 .f32} {v : Fin 8192 → ℕ → ℝ}
    (hx : ∀ (r : Fin 896) (c : Fin 256), x (ix2 r c) = ((v (t ⟨r.val, by omega⟩) c.val : ℝ) : EReal))
    (hy : ∀ (r : Fin 128) (c : Fin 256), y (ix2 r c) = ((v (t ⟨896 + r.val, by omega⟩) c.val : ℝ) : EReal)) (r : Fin 1024) (c : Fin 256) :
    k0_pay6 x y (ix2 r c) = ((v (t r) c.val : ℝ) : EReal) := by
  have ex : ∀ (r : Fin 896) (c : Fin 256), shapeCast S896x256 x shapeCasts_S896x256_S896x256 (ix2 r c) = x (ix2 r c) := by intro r c; pointwise []
  have ey : ∀ (r : Fin 128) (c : Fin 256), shapeCast S128x256 y shapeCasts_S128x256_S128x256 (ix2 r c) = y (ix2 r c) := by intro r c; pointwise []
  unfold k0_pay6
  by_cases h : r.val < 896
  · exact (cat0 _ (k := 0) (m := 896) (pre := 0) (by show 0 < 2; decide) rfl rfl r c ⟨r.val, h⟩ (Nat.zero_add _)).trans ((ex _ _).trans (hx _ _))
  · refine (cat0 _ (k := 1) (m := 128) (pre := 896) (by show 1 < 2; decide) rfl rfl r c ⟨r.val - 896, by omega⟩ (by show 896 + (r.val - 896) = r.val; omega)).trans ((ey _ _).trans ((hy _ _).trans ?_))
    have e : (⟨896 + (r.val - 896), by omega⟩ : Fin 1024) = r := Fin.ext (by show 896 + (r.val - 896) = r.val; omega)
    rw [e]

theorem joined' {x : Vec Ideal S896x256 .f32} {y : Vec Ideal S128x256 .f32} {v : Fin 8192 → ℕ → ℝ}
    (hx : ∀ (r : Fin 896) (c : Fin 256), x (ix2 r c) = ((v (t ⟨r.val, by omega⟩) c.val : ℝ) : EReal))
    (hy : ∀ (r : Fin 128) (c : Fin 256), y (ix2 r c) = ((v (t ⟨896 + r.val, by omega⟩) c.val : ℝ) : EReal)) (r : Fin 1024) (c : Fin 256) :
    k0_pay7 x y (ix2 r c) = ((v (t r) c.val : ℝ) : EReal) := joined hx hy r c

/-- The keys' part. -/
theorem pay15_apply {v4 : FVec Ideal S1024x256 .f32} {v14 v16 v18 : FVec Ideal S1024x128 .f32} {v35 : IVec S1024x128 1}
    (h4 : ∀ r (c : Fin 256), v4 (ix2 r c) = ((d.DK (t r) c.val : ℝ) : EReal))
    (h14 : ∀ r (l : Fin 128), v14 (ix2 r l) = ((tabC (d.CO (t r)) l.val : ℝ) : EReal))
    (h16 : ∀ r (l : Fin 128), v16 (ix2 r l) = ((tabN (d.SI (t r)) l.val : ℝ) : EReal))
    (h18 : ∀ r (l : Fin 128), v18 (ix2 r l) = ((tabS (d.SI (t r)) l.val : ℝ) : EReal))
    (hm : ∀ r (l : Fin 128), v35 (ix2 r l) = if l.val < 64 then 1#1 else 0#1) (r : Fin 1024) (c : Fin 128) :
    k0_pay15 v4 v14 v16 v18 v35 (ix2 r c) = ((d.pk (t r) c.val : ℝ) : EReal) := by
  have hf := folded (t := t) hm h4 r
  unfold k0_pay15
  dsimp only
  refine (congrArg₂ (fun a b : EReal => a + b) (congrArg₂ (fun a b : EReal => a + b) (congrArg₂ (fun a b : EReal => a * b) (hf c) (h14 r c))
    ((roll_at 8#32 _ _ r c ⟨(c.val + 128 - 8) % 128, Nat.mod_lt _ (by decide)⟩ rfl).trans (congrArg₂ (fun a b : EReal => a * b) (hf _) (h16 r _))))
    ((roll_at 120#32 _ _ r c ⟨(c.val + 8) % 128, Nat.mod_lt _ (by decide)⟩ (by show (c.val + 8) % 128 = (c.val + 128 - 120) % 128; congr 1)).trans
      (congrArg₂ (fun a b : EReal => a * b) (hf _) (h18 r _)))).trans ?_
  simp only [mul, add]
  refine congrArg _ ?_
  have e := turn_eq (fold (d.DK (t r))) (d.CO (t r)) (d.SI (t r)) 128 c.val _ _ (by decide) c.isLt rfl rfl
  rw [Nat.mod_mod, Nat.mod_mod, Nat.mod_eq_of_lt c.isLt] at e
  exact e

/-- The values' part. -/
theorem pay16_apply {v9 : FVec Ideal S1024x256 .f32} (h9 : ∀ r (c : Fin 256), v9 (ix2 r c) = ((d.DV (t r) c.val : ℝ) : EReal)) (r : Fin 1024) (c : Fin 128) :
    k0_pay16 v9 (ix2 r c) = ((d.pv (t r) c.val : ℝ) : EReal) :=
  folded (t := t) (mask := k0_pay14) pay14_apply h9 r c

theorem pay17_apply {v32 : FVec Ideal S1024x512 .f32} (h32 : ∀ r (c : Fin 512), v32 (ix2 r c) = ((d.pq (t r) c.val : ℝ) : EReal)) (r : Fin 1024) (c : Fin 512) :
    k0_pay17 v32 (ix2 r c) = ((d.pq (t r) c.val : ℝ) : EReal) := by
  pointwise [k0_pay17]
  exact h32 r c
theorem pay18_apply {v4 : FVec Ideal S1024x256 .f32} {v14 v16 v18 : FVec Ideal S1024x128 .f32} {v35 : IVec S1024x128 1}
    (h : ∀ r (c : Fin 128), k0_pay15 v4 v14 v16 v18 v35 (ix2 r c) = ((d.pk (t r) c.val : ℝ) : EReal)) (r : Fin 1024) (c : Fin 128) :
    k0_pay18 v4 v14 v16 v18 v35 (ix2 r c) = ((d.pk (t r) c.val : ℝ) : EReal) := h r c
theorem pay19_apply {v9 : FVec Ideal S1024x256 .f32} (h : ∀ r (c : Fin 128), k0_pay16 v9 (ix2 r c) = ((d.pv (t r) c.val : ℝ) : EReal)) (r : Fin 1024) (c : Fin 128) :
    k0_pay19 v9 (ix2 r c) = ((d.pv (t r) c.val : ℝ) : EReal) := h r c
theorem pay20_apply {v60 : Vec Ideal S1024x512 .f32} (h : ∀ r (c : Fin 512), v60 (ix2 r c) = ((d.DU (t r) c.val : ℝ) : EReal)) (r : Fin 1024) (c : Fin 512) :
    k0_pay20 v60 (ix2 r c) = ((d.DU (t r) c.val : ℝ) : EReal) := h r c

/-- What the block adds to the bias's gradient. -/
theorem pay23_apply {v49 v59 : FVec Ideal S1024x128 .f32} {v60 : Vec Ideal S1024x512 .f32} {v32 : FVec Ideal S1024x512 .f32} (v69 : Vec Ideal S1x1280 .f32)
    (h32 : ∀ r (c : Fin 512), v32 (ix2 r c) = ((d.pq (t r) c.val : ℝ) : EReal))
    (h49 : ∀ r (c : Fin 128), v49 (ix2 r c) = ((d.pk (t r) c.val : ℝ) : EReal))
    (h59 : ∀ r (c : Fin 128), v59 (ix2 r c) = ((d.pv (t r) c.val : ℝ) : EReal))
    (h60 : ∀ r (c : Fin 512), v60 (ix2 r c) = ((d.DU (t r) c.val : ℝ) : EReal)) (j : Fin 1280) :
    k0_pay23 v49 v59 v60 (k0_pay21 v69) (k0_pay22 v32) (ix2 0 j) = v69 (ix2 0 j) + ((∑ r, d.P (t r) j.val : ℝ) : EReal) := by
  have s32 : ∀ c : Fin 512, shapeCast S1x512 (k0_pay22 v32) shapeCasts_S512_S1x512 (ix2 0 c) = ((∑ r, d.pq (t r) c.val : ℝ) : EReal) := by
    intro c; pointwise [k0_pay22]; simp only [h32, sum, zero_add]
  have s49 : ∀ c : Fin 128, shapeCast S1x128 (multiReduction .add [0] S128 v49 0x00000000#32 reduces_S1024x128_S128 (.inl rfl) rfl : FVec Ideal S128 .f32) shapeCasts_S128_S1x128 (ix2 0 c) = ((∑ r, d.pk (t r) c.val : ℝ) : EReal) := by
    intro c; pointwise []; simp only [h49, sum, zero_add]
  have s59 : ∀ c : Fin 128, shapeCast S1x128 (multiReduction .add [0] S128 v59 0x00000000#32 reduces_S1024x128_S128 (.inl rfl) rfl : FVec Ideal S128 .f32) shapeCasts_S128_S1x128 (ix2 0 c) = ((∑ r, d.pv (t r) c.val : ℝ) : EReal) := by
    intro c; pointwise []; simp only [h59, sum, zero_add]
  have s60 : ∀ c : Fin 512, shapeCast S1x512 (multiReduction .add [0] S512 (v60 : FVec Ideal S1024x512 .f32) 0x00000000#32 reduces_S1024x512_S512 (.inl rfl) rfl : FVec Ideal S512 .f32) shapeCasts_S512_S1x512 (ix2 0 c) = ((∑ r, d.DU (t r) c.val : ℝ) : EReal) := by
    intro c; pointwise []; simp only [h60, sum, zero_add]
  have e21 : k0_pay21 v69 (ix2 0 j) = v69 (ix2 0 j) := by pointwise [k0_pay21]
  unfold k0_pay23
  dsimp only
  refine congrArg₂ (fun a b : EReal => a + b) e21 ?_
  by_cases h0 : j.val < 512
  · refine (cat1 _ (k := 0) (m := 512) (pre := 0) (by show 0 < 4; decide) rfl rfl 0 j ⟨j.val, h0⟩ (Nat.zero_add _)).trans ((s32 _).trans ?_)
    exact congrArg _ (Finset.sum_congr rfl fun r _ => (d.P_q (t r) h0).symm)
  by_cases h1 : j.val < 640
  · refine (cat1 _ (k := 1) (m := 128) (pre := 512) (by show 1 < 4; decide) rfl rfl 0 j ⟨j.val - 512, by omega⟩ (by show 512 + (j.val - 512) = j.val; omega)).trans ((s49 _).trans ?_)
    exact congrArg _ (Finset.sum_congr rfl fun r _ => (d.P_k (t r) (by omega) h1).symm)
  by_cases h2 : j.val < 768
  · refine (cat1 _ (k := 2) (m := 128) (pre := 640) (by show 2 < 4; decide) rfl rfl 0 j ⟨j.val - 640, by omega⟩ (by show 640 + (j.val - 640) = j.val; omega)).trans ((s59 _).trans ?_)
    exact congrArg _ (Finset.sum_congr rfl fun r _ => (d.P_v (t r) (by omega) h2).symm)
  · refine (cat1 _ (k := 3) (m := 512) (pre := 768) (by show 3 < 4; decide) rfl rfl 0 j ⟨j.val - 768, by omega⟩ (by show 768 + (j.val - 768) = j.val; omega)).trans ((s60 _).trans ?_)
    exact congrArg _ (Finset.sum_congr rfl fun r _ => (d.P_u (t r) (by omega)).symm)

end Rotary

section Norm

variable {d : InData} {t : Fin 1024 → Fin 8192} {v82 : Vec Ideal S1024x1280 .bf16} {v84 : Vec Ideal S1280x1024 .bf16} {v87 : Vec Ideal S1024x1024 .f32}
  {v98 v100 : Vec Ideal S1x1024 .f32}
  (h82 : ∀ r (j : Fin 1280), v82 (ix2 r j) = ((d.P (t r) j.val : ℝ) : EReal)) (h84 : ∀ j k, v84 (ix2 j k) = ((d.W k j : ℝ) : EReal))
  (h87 : ∀ r k, v87 (ix2 r k) = ((d.X (t r) k : ℝ) : EReal)) (h98 : ∀ k, v98 (ix2 0 k) = ((d.gp k : ℝ) : EReal)) (h100 : ∀ k, v100 (ix2 0 k) = ((d.sc k : ℝ) : EReal))

include h82 h84 in
theorem pay24_apply (r : Fin 1024) (k : Fin 1024) : k0_pay24 v82 v84 (ix2 r k) = ((d.dh (t r) k : ℝ) : EReal) := by
  pointwise [k0_pay24]
  simp only [h82, h84, mul, sum, zero_add]
  rfl

include h87 in
theorem pay25_apply (r : Fin 1024) : k0_pay25 v87 (ix2 r 0) = ((inv (d.X (t r)) : ℝ) : EReal) := by
  pointwise [k0_pay25]
  simp only [h87, bits_mean, bits_eps, mul, sum, add, div _ _ thousand, zero_add]
  exact rsqrt _ (var_pos _)

include h87 in
theorem pay26_apply (r : Fin 1024) (k : Fin 1024) : k0_pay26 v87 (ix2 r k) = ((norm (d.X (t r)) k : ℝ) : EReal) := by
  pointwise [k0_pay26]
  simp only [pay25_apply h87, h87, mul]
  rfl

include h98 in
theorem pay27_apply (k : Fin 1024) : k0_pay27 v98 (ix2 0 k) = ((d.gp k : ℝ) : EReal) := by
  pointwise [k0_pay27]
  exact h98 k

include h100 in
theorem pay28_apply (k : Fin 1024) : k0_pay28 v100 (ix2 0 k) = ((1 + d.sc k : ℝ) : EReal) := by
  pointwise [k0_pay28]
  simp only [h100, bits_one, one, add]

include h98 h100 in
theorem pay29_apply (k : Fin 1024) : k0_pay29 v98 v100 (ix2 0 k) = (((1 + d.sc k) * d.gp k : ℝ) : EReal) := by
  pointwise [k0_pay29]
  simp only [pay28_apply h100, pay27_apply h98, mul]

include h82 h84 h87 in
theorem pay30_apply (r : Fin 1024) (k : Fin 1024) : k0_pay30 v82 v84 v87 (ix2 r k) = ((d.dh (t r) k * norm (d.X (t r)) k : ℝ) : EReal) := by
  pointwise [k0_pay30]
  simp only [pay24_apply h82 h84, pay26_apply h87, mul]

include h82 h84 h98 h100 in
theorem pay31_apply (r : Fin 1024) (k : Fin 1024) : k0_pay31 v82 v84 v98 v100 (ix2 r k) = ((d.dh (t r) k * ((1 + d.sc k) * d.gp k) : ℝ) : EReal) := by
  pointwise [k0_pay31]
  simp only [pay24_apply h82 h84, pay29_apply h98 h100, mul]

include h82 h84 h87 h98 h100 in
theorem pay32_apply (r : Fin 1024) (k : Fin 1024) :
    k0_pay32 v82 v84 v87 v98 v100 (ix2 r k) = ((d.dh (t r) k * norm (d.X (t r)) k * ((1 + d.sc k) * d.gp k) : ℝ) : EReal) := by
  pointwise [k0_pay32]
  simp only [pay30_apply h82 h84 h87, pay29_apply h98 h100, mul]

include h82 h84 h87 h98 h100 in
/-- The gradient of the block's input. -/
theorem pay5_apply {v137 : Vec Ideal S1024x1024 .f32} (h137 : ∀ r k, v137 (ix2 r k) = ((d.CT (t r) k : ℝ) : EReal)) (r : Fin 1024) (k : Fin 1024) :
    k0_pay5 (k0_pay25 v87) (k0_pay26 v87) (k0_pay31 v82 v84 v98 v100) (k0_pay32 v82 v84 v87 v98 v100) v137 (ix2 r k) = ((d.dx (t r) k : ℝ) : EReal) := by
  pointwise [k0_pay5]
  simp only [pay25_apply h87, pay26_apply h87, pay31_apply h82 h84 h98 h100, pay32_apply h82 h84 h87 h98 h100, h137, bits_mean, mul, sum, sub, add, div _ _ thousand, zero_add]
  refine congrArg _ ?_
  unfold InData.dx normBwd
  have e : ∀ k, d.dh (t r) k * ((1 + d.sc k) * d.gp k) = d.dh (t r) k * (1 + d.sc k) * d.gp k := fun k => by ring
  have e' : ∀ k, d.dh (t r) k * norm (d.X (t r)) k * ((1 + d.sc k) * d.gp k) = d.dh (t r) k * (1 + d.sc k) * d.gp k * norm (d.X (t r)) k := fun k => by ring
  simp only [e, e']

include h82 h84 in
theorem pay2_apply (v121 : Vec Ideal S1x1024 .f32) (k : Fin 1024) :
    k0_pay2 (k0_pay24 v82 v84) v121 (ix2 0 k) = v121 (ix2 0 k) + ((∑ r, d.dh (t r) k : ℝ) : EReal) := by
  pointwise [k0_pay2]
  simp only [pay24_apply h82 h84, sum, zero_add]

include h82 h84 h87 in
theorem pay1_apply (k : Fin 1024) : k0_pay1 (k0_pay30 v82 v84 v87) (ix2 0 k) = ((∑ r, d.dh (t r) k * norm (d.X (t r)) k : ℝ) : EReal) := by
  pointwise [k0_pay1]
  simp only [pay30_apply h82 h84 h87, sum, zero_add]

include h82 h84 h87 h98 in
theorem pay3_apply (v127 : Vec Ideal S1x1024 .f32) (k : Fin 1024) :
    k0_pay3 (k0_pay27 v98) (k0_pay30 v82 v84 v87) v127 (ix2 0 k) = v127 (ix2 0 k) + ((∑ r, d.dh (t r) k * norm (d.X (t r)) k * d.gp k : ℝ) : EReal) := by
  pointwise [k0_pay3]
  simp only [pay27_apply h98, pay1_apply h82 h84 h87, mul]
  rw [mul_comm, Finset.sum_mul]

include h82 h84 h87 h100 in
theorem pay4_apply (v132 : Vec Ideal S1x1024 .f32) (k : Fin 1024) :
    k0_pay4 (k0_pay28 v100) (k0_pay30 v82 v84 v87) v132 (ix2 0 k) = v132 (ix2 0 k) + ((∑ r, d.dh (t r) k * norm (d.X (t r)) k * (1 + d.sc k) : ℝ) : EReal) := by
  pointwise [k0_pay4]
  simp only [pay28_apply h100, pay1_apply h82 h84 h87, mul]
  rw [mul_comm, Finset.sum_mul]

end Norm

end Cert.InBwdIdeal.Blocks
-- ==== Proof.InBwd.Block.lean ====
/-
  One point of the input block's backward kernel: what it leaves in its four result buffers, from the blocks it is given, over
  real numbers.
-/
module

public import proofs.«01_k».proof.Proof.InBwd.Payload
public import proofs.«01_k».proof.Proof.Gen.InBwdIdeal.Value
public import Idealize.ShloMosaic.Lib.Pipeline.ValueKit
public import Idealize.ShloMosaic.Lib.Pipeline.ReadBack
public import Idealize.ShloMosaic.Lib.WritesUnit
public import Idealize.ShloMosaic.Lib.VecWindow

@[expose] public section

set_option maxRecDepth 16384

noncomputable section

open Idealize.ShloMosaic Idealize.ShloMosaic.TcCoe Idealize.SL.Sem

namespace Cert.InBwdIdeal.Blocks

open Cert.InBwdIdeal Cert.InBwdIdeal.Gen Cert.Proof.Net

/-- A load of a box of a block is the block's elements from the box's corner on. -/
theorem ld2 {e : EltTy} {n m n' m' : ℕ} (x : (⟨2, ![n, m]⟩ : Shape).Idx → Elt Ideal e) (a b : ℕ)
    (inb : ∀ ax : Fin 2, (![a, b] : Fin 2 → ℕ) ax + (![n', m'] : Fin 2 → ℕ) ax ≤ (⟨2, ![n, m]⟩ : Shape).size ax)
    (r : Fin n') (k : Fin m') (R : Fin n) (K : Fin m) (hR : R.val = a + r.val) (hK : K.val = b + k.val) :
    View.ld x (Rect.unit (s := ⟨2, ![n, m]⟩) ![a, b] ![n', m'] inb) (ix2 r k) = x (ix2 R K) := by
  rw [View.ld_unit]
  refine congrArg x (funext fun ax => Fin.ext ?_)
  match ax with
  | 0 => exact hR.symm
  | 1 => exact hK.symm

section Stores

variable {sg : RefSig} {κ : Kind} {sp : Space} {e : EltTy} {n m n' m' : ℕ} (v : View sg κ sp ⟨2, ![n, m]⟩ e) (f : v.ty.Contents (Elt Ideal)) (a b : ℕ)
  (inb : ∀ ax : Fin 2, (![a, b] : Fin 2 → ℕ) ax + (![n', m'] : Fin 2 → ℕ) ax ≤ (⟨2, ![n, m]⟩ : Shape).size ax)
  (w : (Rect.unit (s := ⟨2, ![n, m]⟩) ![a, b] ![n', m'] inb).shape.Idx → Elt Ideal e) (L : List (View.Piece (Elt Ideal) ⟨2, ![n, m]⟩ e))
  (R : Fin n) (K : Fin m)

/-- A read inside the last store's box finds what it stored; -/
theorem hit (r : Fin n') (k : Fin m') (hR : R.val = a + r.val) (hK : K.val = b + k.val) :
    v.read (Elt Ideal) (v.writes (Elt Ideal) f ((⟨Rect.unit (s := ⟨2, ![n, m]⟩) ![a, b] ![n', m'] inb, w⟩ : View.Piece (Elt Ideal) ⟨2, ![n, m]⟩ e) :: L)) (ix2 R K)
      = w (ix2 r k) :=
  View.read_writes_cons_unit_of_mem v f inb w L _ (ix2 r k) rfl fun ax => by
    match ax with
    | 0 => exact hR
    | 1 => exact hK

/-- one above or below it, or beside it, looks further back. -/
theorem missRow (h : R.val < a ∨ a + n' ≤ R.val) :
    v.read (Elt Ideal) (v.writes (Elt Ideal) f ((⟨Rect.unit (s := ⟨2, ![n, m]⟩) ![a, b] ![n', m'] inb, w⟩ : View.Piece (Elt Ideal) ⟨2, ![n, m]⟩ e) :: L)) (ix2 R K)
      = v.read (Elt Ideal) (v.writes (Elt Ideal) f L) (ix2 R K) :=
  View.read_writes_cons_unit_of_not_mem v f inb w L _ rfl 0 h
theorem missCol (h : K.val < b ∨ b + m' ≤ K.val) :
    v.read (Elt Ideal) (v.writes (Elt Ideal) f ((⟨Rect.unit (s := ⟨2, ![n, m]⟩) ![a, b] ![n', m'] inb, w⟩ : View.Piece (Elt Ideal) ⟨2, ![n, m]⟩ e) :: L)) (ix2 R K)
      = v.read (Elt Ideal) (v.writes (Elt Ideal) f L) (ix2 R K) :=
  View.read_writes_cons_unit_of_not_mem v f inb w L _ rfl 1 h

end Stores

/-- A row stored in four chunks of columns, 512, 128, 128 and 512, read back. -/
theorem four {sg : RefSig} {κ : Kind} {sp : Space} {e : EltTy} (v : View sg κ sp ⟨2, ![1024, 1280]⟩ e) (f : v.ty.Contents (Elt Ideal))
    (i0 : ∀ ax : Fin 2, (![0, 0] : Fin 2 → ℕ) ax + (![1024, 512] : Fin 2 → ℕ) ax ≤ (⟨2, ![1024, 1280]⟩ : Shape).size ax)
    (i1 : ∀ ax : Fin 2, (![0, 512] : Fin 2 → ℕ) ax + (![1024, 128] : Fin 2 → ℕ) ax ≤ (⟨2, ![1024, 1280]⟩ : Shape).size ax)
    (i2 : ∀ ax : Fin 2, (![0, 640] : Fin 2 → ℕ) ax + (![1024, 128] : Fin 2 → ℕ) ax ≤ (⟨2, ![1024, 1280]⟩ : Shape).size ax)
    (i3 : ∀ ax : Fin 2, (![0, 768] : Fin 2 → ℕ) ax + (![1024, 512] : Fin 2 → ℕ) ax ≤ (⟨2, ![1024, 1280]⟩ : Shape).size ax)
    (w0 : (Rect.unit (s := ⟨2, ![1024, 1280]⟩) ![0, 0] ![1024, 512] i0).shape.Idx → Elt Ideal e)
    (w1 : (Rect.unit (s := ⟨2, ![1024, 1280]⟩) ![0, 512] ![1024, 128] i1).shape.Idx → Elt Ideal e)
    (w2 : (Rect.unit (s := ⟨2, ![1024, 1280]⟩) ![0, 640] ![1024, 128] i2).shape.Idx → Elt Ideal e)
    (w3 : (Rect.unit (s := ⟨2, ![1024, 1280]⟩) ![0, 768] ![1024, 512] i3).shape.Idx → Elt Ideal e)
    (G : ℕ → Elt Ideal e) (r : Fin 1024)
    (h0 : ∀ j : Fin 512, w0 (ix2 r j) = G j.val) (h1 : ∀ j : Fin 128, w1 (ix2 r j) = G (512 + j.val))
    (h2 : ∀ j : Fin 128, w2 (ix2 r j) = G (640 + j.val)) (h3 : ∀ j : Fin 512, w3 (ix2 r j) = G (768 + j.val)) (j : Fin 1280) :
    v.read (Elt Ideal) (v.writes (Elt Ideal) f
      [⟨Rect.unit (s := ⟨2, ![1024, 1280]⟩) ![0, 768] ![1024, 512] i3, w3⟩, ⟨Rect.unit (s := ⟨2, ![1024, 1280]⟩) ![0, 640] ![1024, 128] i2, w2⟩,
        ⟨Rect.unit (s := ⟨2, ![1024, 1280]⟩) ![0, 512] ![1024, 128] i1, w1⟩, ⟨Rect.unit (s := ⟨2, ![1024, 1280]⟩) ![0, 0] ![1024, 512] i0, w0⟩]) (ix2 r j) = G j.val := by
  by_cases c3 : 768 ≤ j.val
  · exact (hit v f 0 768 i3 w3 _ r j r ⟨j.val - 768, by omega⟩ (Nat.zero_add _).symm (show j.val = 768 + (j.val - 768) by omega)).trans
      ((h3 _).trans (congrArg G (show 768 + (j.val - 768) = j.val by omega)))
  refine (missCol v f 0 768 i3 w3 _ r j (Or.inl (by omega))).trans ?_
  by_cases c2 : 640 ≤ j.val
  · exact (hit v f 0 640 i2 w2 _ r j r ⟨j.val - 640, by omega⟩ (Nat.zero_add _).symm (show j.val = 640 + (j.val - 640) by omega)).trans
      ((h2 _).trans (congrArg G (show 640 + (j.val - 640) = j.val by omega)))
  refine (missCol v f 0 640 i2 w2 _ r j (Or.inl (by omega))).trans ?_
  by_cases c1 : 512 ≤ j.val
  · exact (hit v f 0 512 i1 w1 _ r j r ⟨j.val - 512, by omega⟩ (Nat.zero_add _).symm (show j.val = 512 + (j.val - 512) by omega)).trans
      ((h1 _).trans (congrArg G (show 512 + (j.val - 512) = j.val by omega)))
  refine (missCol v f 0 512 i1 w1 _ r j (Or.inl (by omega))).trans ?_
  exact (hit v f 0 0 i0 w0 _ r j r ⟨j.val, by omega⟩ (Nat.zero_add _).symm (Nat.zero_add _).symm).trans (h0 ⟨j.val, by omega⟩)

/-- A load of the whole of such a buffer. -/
theorem load4 {sg : RefSig} {κ : Kind} {sp : Space} {e : EltTy} (v : View sg κ sp ⟨2, ![1024, 1280]⟩ e) (L : List (View.Piece (Elt Ideal) ⟨2, ![1024, 1280]⟩ e))
    (inb : ∀ ax : Fin 2, (![0, 0] : Fin 2 → ℕ) ax + (![1024, 1280] : Fin 2 → ℕ) ax ≤ (⟨2, ![1024, 1280]⟩ : Shape).size ax) (r : Fin 1024) (j : Fin 1280) :
    v.readCov L (Rect.unit (s := ⟨2, ![1024, 1280]⟩) ![0, 0] ![1024, 1280] inb).toLoadRect (ix2 r j) = v.read (Elt Ideal) (v.writes (Elt Ideal) v.junk L) (ix2 r j) := by
  unfold View.readCov
  rw [View.readAt_eq_ld]
  exact ld2 _ 0 0 inb r j r j (Nat.zero_add _).symm (Nat.zero_add _).symm

/-- The projection's gradient, piece by piece. -/
theorem P0 (d : InData) (t : Fin 8192) (j : Fin 512) : d.pq t j.val = d.P t j.val := (d.P_q t j.isLt).symm
theorem P1 (d : InData) (t : Fin 8192) (j : Fin 128) : d.pk t j.val = d.P t (512 + j.val) := by
  rw [d.P_k t (Nat.le_add_right _ _) (by omega), Nat.add_sub_cancel_left]
theorem P2 (d : InData) (t : Fin 8192) (j : Fin 128) : d.pv t j.val = d.P t (640 + j.val) := by
  rw [d.P_v t (Nat.le_add_right _ _) (by omega), Nat.add_sub_cancel_left]
theorem P3 (d : InData) (t : Fin 8192) (j : Fin 512) : d.DU t j.val = d.P t (768 + j.val) := by
  rw [d.P_u t (Nat.le_add_right _ _), Nat.add_sub_cancel_left]

/-- The blocks that a point is given hold these real numbers: its rows are the rows `t` of the arrays. -/
structure Blk (d : InData) (t : Fin 1024 → Fin 8192) (x0 : Vec Ideal S1024x512 .f32) (x1 : Vec Ideal S896x256 .f32) (x2 : Vec Ideal S128x256 .f32)
    (x3 : Vec Ideal S896x256 .f32) (x4 : Vec Ideal S128x256 .f32) (x5 : Vec Ideal S1024x512 .f32) (x6 x7 x8 : Vec Ideal S1024x128 .f32)
    (x9 x10 : Vec Ideal S1024x1024 .f32) (x11 x12 : Vec Ideal S8x1024 .f32) (x13 : Vec Ideal S1280x1024 .bf16) : Prop where
  b0 : ∀ r (c : Fin 512), x0 (ix2 r c) = ((d.DQ (t r) c.val : ℝ) : EReal)
  b1 : ∀ (r : Fin 896) (c : Fin 256), x1 (ix2 r c) = ((d.DK (t ⟨r.val, by omega⟩) c.val : ℝ) : EReal)
  b2 : ∀ (r : Fin 128) (c : Fin 256), x2 (ix2 r c) = ((d.DK (t ⟨896 + r.val, by omega⟩) c.val : ℝ) : EReal)
  b3 : ∀ (r : Fin 896) (c : Fin 256), x3 (ix2 r c) = ((d.DV (t ⟨r.val, by omega⟩) c.val : ℝ) : EReal)
  b4 : ∀ (r : Fin 128) (c : Fin 256), x4 (ix2 r c) = ((d.DV (t ⟨896 + r.val, by omega⟩) c.val : ℝ) : EReal)
  b5 : ∀ r (c : Fin 512), x5 (ix2 r c) = ((d.DU (t r) c.val : ℝ) : EReal)
  b6 : ∀ r (l : Fin 128), x6 (ix2 r l) = ((tabC (d.CO (t r)) l.val : ℝ) : EReal)
  b7 : ∀ r (l : Fin 128), x7 (ix2 r l) = ((tabN (d.SI (t r)) l.val : ℝ) : EReal)
  b8 : ∀ r (l : Fin 128), x8 (ix2 r l) = ((tabS (d.SI (t r)) l.val : ℝ) : EReal)
  b9 : ∀ r k, x9 (ix2 r k) = ((d.X (t r) k : ℝ) : EReal)
  b10 : ∀ r k, x10 (ix2 r k) = ((d.CT (t r) k : ℝ) : EReal)
  b11 : ∀ k, x11 (ix2 1 k) = ((d.sc k : ℝ) : EReal)
  b12 : ∀ k, x12 (ix2 0 k) = ((d.gp k : ℝ) : EReal)
  b13 : ∀ j k, x13 (ix2 j k) = ((d.W k j : ℝ) : EReal)

/-- What a block of rows adds to the eight rows of sums, -/
def part (d : InData) (t : Fin 1024 → Fin 8192) (n : Fin 1024) : Fin 8 → ℝ
  | 0 => ∑ r, d.dh (t r) n
  | 1 => ∑ r, d.dh (t r) n * norm (d.X (t r)) n * d.gp n
  | 2 => ∑ r, d.dh (t r) n * norm (d.X (t r)) n * (1 + d.sc n)
  | _ => 0
/-- and to the bias's. -/
def partB (d : InData) (t : Fin 1024 → Fin 8192) (j : ℕ) : Fin 8 → ℝ
  | 0 => ∑ r, d.P (t r) j
  | _ => 0

section Loads

variable {d : InData} {t : Fin 1024 → Fin 8192} {x0 : Vec Ideal S1024x512 .f32} {x1 : Vec Ideal S896x256 .f32} {x2 : Vec Ideal S128x256 .f32}
  {x3 : Vec Ideal S896x256 .f32} {x4 : Vec Ideal S128x256 .f32} {x5 : Vec Ideal S1024x512 .f32} {x6 x7 x8 : Vec Ideal S1024x128 .f32}
  {x9 x10 : Vec Ideal S1024x1024 .f32} {x11 x12 : Vec Ideal S8x1024 .f32} {x13 : Vec Ideal S1280x1024 .bf16}
  (B : Blk d t x0 x1 x2 x3 x4 x5 x6 x7 x8 x9 x10 x11 x12 x13)
include B

theorem l0 : ∀ (r : Fin 1024) (c : Fin 512), View.ld x0 (Rect.unit (s := S1024x512) ![0, 0] ![1024, 512] inb_S1024x512_S1024x512_0_0) (ix2 r c) = ((d.DQ (t r) c.val : ℝ) : EReal) :=
  fun r c => (ld2 x0 0 0 _ r c r c (Nat.zero_add _).symm (Nat.zero_add _).symm).trans (B.b0 r c)
theorem l1 : ∀ (r : Fin 896) (c : Fin 256), View.ld x1 (Rect.unit (s := S896x256) ![0, 0] ![896, 256] inb_S896x256_S896x256_0_0) (ix2 r c) = ((d.DK (t ⟨r.val, by omega⟩) c.val : ℝ) : EReal) :=
  fun r c => (ld2 x1 0 0 _ r c r c (Nat.zero_add _).symm (Nat.zero_add _).symm).trans (B.b1 r c)
theorem l2 : ∀ (r : Fin 128) (c : Fin 256), View.ld x2 (Rect.unit (s := S128x256) ![0, 0] ![128, 256] inb_S128x256_S128x256_0_0) (ix2 r c) = ((d.DK (t ⟨896 + r.val, by omega⟩) c.val : ℝ) : EReal) :=
  fun r c => (ld2 x2 0 0 _ r c r c (Nat.zero_add _).symm (Nat.zero_add _).symm).trans (B.b2 r c)
theorem l3 : ∀ (r : Fin 896) (c : Fin 256), View.ld x3 (Rect.unit (s := S896x256) ![0, 0] ![896, 256] inb_S896x256_S896x256_0_0) (ix2 r c) = ((d.DV (t ⟨r.val, by omega⟩) c.val : ℝ) : EReal) :=
  fun r c => (ld2 x3 0 0 _ r c r c (Nat.zero_add _).symm (Nat.zero_add _).symm).trans (B.b3 r c)
theorem l4 : ∀ (r : Fin 128) (c : Fin 256), View.ld x4 (Rect.unit (s := S128x256) ![0, 0] ![128, 256] inb_S128x256_S128x256_0_0) (ix2 r c) = ((d.DV (t ⟨896 + r.val, by omega⟩) c.val : ℝ) : EReal) :=
  fun r c => (ld2 x4 0 0 _ r c r c (Nat.zero_add _).symm (Nat.zero_add _).symm).trans (B.b4 r c)
theorem l5 : ∀ (r : Fin 1024) (c : Fin 512), View.ld x5 (Rect.unit (s := S1024x512) ![0, 0] ![1024, 512] inb_S1024x512_S1024x512_0_0) (ix2 r c) = ((d.DU (t r) c.val : ℝ) : EReal) :=
  fun r c => (ld2 x5 0 0 _ r c r c (Nat.zero_add _).symm (Nat.zero_add _).symm).trans (B.b5 r c)
theorem l6 : ∀ (r : Fin 1024) (c : Fin 128), View.ld x6 (Rect.unit (s := S1024x128) ![0, 0] ![1024, 128] inb_S1024x128_S1024x128_0_0) (ix2 r c) = ((tabC (d.CO (t r)) c.val : ℝ) : EReal) :=
  fun r c => (ld2 x6 0 0 _ r c r c (Nat.zero_add _).symm (Nat.zero_add _).symm).trans (B.b6 r c)
theorem l7 : ∀ (r : Fin 1024) (c : Fin 128), View.ld x7 (Rect.unit (s := S1024x128) ![0, 0] ![1024, 128] inb_S1024x128_S1024x128_0_0) (ix2 r c) = ((tabN (d.SI (t r)) c.val : ℝ) : EReal) :=
  fun r c => (ld2 x7 0 0 _ r c r c (Nat.zero_add _).symm (Nat.zero_add _).symm).trans (B.b7 r c)
theorem l8 : ∀ (r : Fin 1024) (c : Fin 128), View.ld x8 (Rect.unit (s := S1024x128) ![0, 0] ![1024, 128] inb_S1024x128_S1024x128_0_0) (ix2 r c) = ((tabS (d.SI (t r)) c.val : ℝ) : EReal) :=
  fun r c => (ld2 x8 0 0 _ r c r c (Nat.zero_add _).symm (Nat.zero_add _).symm).trans (B.b8 r c)
theorem l9 : ∀ (r : Fin 1024) (c : Fin 1024), View.ld x9 (Rect.unit (s := S1024x1024) ![0, 0] ![1024, 1024] inb_S1024x1024_S1024x1024_0_0) (ix2 r c) = ((d.X (t r) c : ℝ) : EReal) :=
  fun r c => (ld2 x9 0 0 _ r c r c (Nat.zero_add _).symm (Nat.zero_add _).symm).trans (B.b9 r c)
theorem l10 : ∀ (r : Fin 1024) (c : Fin 1024), View.ld x10 (Rect.unit (s := S1024x1024) ![0, 0] ![1024, 1024] inb_S1024x1024_S1024x1024_0_0) (ix2 r c) = ((d.CT (t r) c : ℝ) : EReal) :=
  fun r c => (ld2 x10 0 0 _ r c r c (Nat.zero_add _).symm (Nat.zero_add _).symm).trans (B.b10 r c)
theorem l13 : ∀ (r : Fin 1280) (c : Fin 1024), View.ld x13 (Rect.unit (s := S1280x1024) ![0, 0] ![1280, 1024] inb_S1280x1024_S1280x1024_0_0) (ix2 r c) = ((d.W c r : ℝ) : EReal) :=
  fun r c => (ld2 x13 0 0 _ r c r c (Nat.zero_add _).symm (Nat.zero_add _).symm).trans (B.b13 r c)
theorem l11 : ∀ k : Fin 1024, View.ld x11 (Rect.unit (s := S8x1024) ![1, 0] ![1, 1024] inb_S8x1024_S1x1024_1_0) (ix2 0 k) = ((d.sc k : ℝ) : EReal) :=
  fun k => (ld2 x11 1 0 _ 0 k 1 k rfl (Nat.zero_add _).symm).trans (B.b11 k)
theorem l12 : ∀ k : Fin 1024, View.ld x12 (Rect.unit (s := S8x1024) ![0, 0] ![1, 1024] inb_S8x1024_S1x1024_0_0) (ix2 0 k) = ((d.gp k : ℝ) : EReal) :=
  fun k => (ld2 x12 0 0 _ 0 k 0 k rfl (Nat.zero_add _).symm).trans (B.b12 k)

end Loads

section Out

variable (c : Dev nD) (i : grid0.Coords) (arg1 : Memref sig .tc .vmem S1024x512 .f32) (h1 : arg1.IsWhole) (arg2 : Memref sig .tc .vmem S896x256 .f32) (h2 : arg2.IsWhole)
  (arg3 : Memref sig .tc .vmem S128x256 .f32) (h3 : arg3.IsWhole) (arg4 : Memref sig .tc .vmem S896x256 .f32) (h4 : arg4.IsWhole)
  (arg5 : Memref sig .tc .vmem S128x256 .f32) (h5 : arg5.IsWhole) (arg6 : Memref sig .tc .vmem S1024x512 .f32) (h6 : arg6.IsWhole)
  (arg7 : Memref sig .tc .vmem S1024x128 .f32) (h7 : arg7.IsWhole) (arg8 : Memref sig .tc .vmem S1024x128 .f32) (h8 : arg8.IsWhole)
  (arg9 : Memref sig .tc .vmem S1024x128 .f32) (h9 : arg9.IsWhole) (arg10 : Memref sig .tc .vmem S1024x1024 .f32) (h10 : arg10.IsWhole)
  (arg11 : Memref sig .tc .vmem S1024x1024 .f32) (h11 : arg11.IsWhole) (arg12 : Memref sig .tc .vmem S8x1024 .f32) (h12 : arg12.IsWhole)
  (arg13 : Memref sig .tc .vmem S8x1024 .f32) (h13 : arg13.IsWhole) (arg14 : Memref sig .tc .vmem S1280x1024 .bf16) (h14 : arg14.IsWhole)
  (arg15 : Memref sig .tc .vmem S1024x1024 .f32) (h15 : arg15.IsWhole) (arg16 : Memref sig .tc .vmem S1024x1280 .bf16) (h16 : arg16.IsWhole)
  (arg17 : Memref sig .tc .vmem S8x1024 .f32) (h17 : arg17.IsWhole) (arg18 : Memref sig .tc .vmem S8x1280 .f32) (h18 : arg18.IsWhole)
  (x0 : Vec Ideal S1024x512 .f32) (x1 : Vec Ideal S896x256 .f32) (x2 : Vec Ideal S128x256 .f32)
  (x3 : Vec Ideal S896x256 .f32) (x4 : Vec Ideal S128x256 .f32) (x5 : Vec Ideal S1024x512 .f32) (x6 x7 x8 : Vec Ideal S1024x128 .f32)
  (x9 x10 : Vec Ideal S1024x1024 .f32) (x11 x12 : Vec Ideal S8x1024 .f32) (x13 : Vec Ideal S1280x1024 .bf16) (xo16 : Vec Ideal S8x1024 .f32) (xo17 : Vec Ideal S8x1280 .f32)
  {d : InData} {t : Fin 1024 → Fin 8192} (B : Blk d t x0 x1 x2 x3 x4 x5 x6 x7 x8 x9 x10 x11 x12 x13)
include B

theorem out_A_14 (hc : cond0_0 i) (r : Fin 1024) (k : Fin 1024) :
    out0_A_14 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 x10 x11 x12 x13 (ix2 r k) = ((d.dx (t r) k : ℝ) : EReal) := by
  unfold out0_A_14
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread]
  refine (hit _ _ _ _ _ _ _ _ _ r k (Nat.zero_add _).symm (Nat.zero_add _).symm).trans ?_
  exact pay5_apply (fun r j => (load4 (e := .bf16) _ _ _ r j).trans (four (e := .bf16) _ _ _ _ _ _ _ _ _ _ (fun j => ((d.P (t r) j : ℝ) : EReal)) r (fun j => (pay17_apply (pay13_apply (l6 B) (l7 B) (l8 B) (l0 B)) r j).trans (congrArg _ (P0 d (t r) j))) (fun j => (pay18_apply (pay15_apply (joined (l1 B) (l2 B)) (pay10_apply (l6 B)) (pay11_apply (l7 B)) (pay12_apply (l8 B)) pay14_apply) r j).trans (congrArg _ (P1 d (t r) j))) (fun j => (pay19_apply (pay16_apply (joined' (l3 B) (l4 B))) r j).trans (congrArg _ (P2 d (t r) j))) (fun j => (pay20_apply (l5 B) r j).trans (congrArg _ (P3 d (t r) j))) j)) (l13 B) (l9 B) (l12 B) (l11 B) (l10 B) r k

theorem out_A_15 (hc : cond0_0 i) (r : Fin 1024) (j : Fin 1280) :
    out0_A_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 x10 x11 x12 x13 (ix2 r j) = ((d.P (t r) j.val : ℝ) : EReal) := by
  unfold out0_A_15
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread]
  exact four (e := .bf16) _ _ _ _ _ _ _ _ _ _ (fun j => ((d.P (t r) j : ℝ) : EReal)) r (fun j => (pay17_apply (pay13_apply (l6 B) (l7 B) (l8 B) (l0 B)) r j).trans (congrArg _ (P0 d (t r) j))) (fun j => (pay18_apply (pay15_apply (joined (l1 B) (l2 B)) (pay10_apply (l6 B)) (pay11_apply (l7 B)) (pay12_apply (l8 B)) pay14_apply) r j).trans (congrArg _ (P1 d (t r) j))) (fun j => (pay19_apply (pay16_apply (joined' (l3 B) (l4 B))) r j).trans (congrArg _ (P2 d (t r) j))) (fun j => (pay20_apply (l5 B) r j).trans (congrArg _ (P3 d (t r) j))) j

theorem out_A_16 (hc : cond0_0 i) (n : Fin 8) (k : Fin 1024) :
    out0_A_16 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 x10 x11 x12 x13 (ix2 n k) = 0 + ((part d t k n : ℝ) : EReal) := by
  unfold out0_A_16
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread]
  simp (disch := decide) only [↓ View.readCov_skip, ↓ View.readCov_cons_toLoadRect, ↓ View.readCov_fill]
  match n with
  | 0 =>
    refine (missRow _ _ _ _ _ _ _ _ _ (Or.inl (by decide))).trans ?_
    refine (missRow _ _ _ _ _ _ _ _ _ (Or.inl (by decide))).trans ?_
    refine (hit _ _ _ _ _ _ _ _ _ 0 k rfl (Nat.zero_add _).symm).trans ?_
    exact (pay2_apply (fun r j => (load4 (e := .bf16) _ _ _ r j).trans (four (e := .bf16) _ _ _ _ _ _ _ _ _ _ (fun j => ((d.P (t r) j : ℝ) : EReal)) r (fun j => (pay17_apply (pay13_apply (l6 B) (l7 B) (l8 B) (l0 B)) r j).trans (congrArg _ (P0 d (t r) j))) (fun j => (pay18_apply (pay15_apply (joined (l1 B) (l2 B)) (pay10_apply (l6 B)) (pay11_apply (l7 B)) (pay12_apply (l8 B)) pay14_apply) r j).trans (congrArg _ (P1 d (t r) j))) (fun j => (pay19_apply (pay16_apply (joined' (l3 B) (l4 B))) r j).trans (congrArg _ (P2 d (t r) j))) (fun j => (pay20_apply (l5 B) r j).trans (congrArg _ (P3 d (t r) j))) j)) (l13 B) _ k).trans (congrArg (· + _) (by pointwise [k0_pay8]))
  | 1 =>
    refine (missRow _ _ _ _ _ _ _ _ _ (Or.inl (by decide))).trans ?_
    refine (hit _ _ _ _ _ _ _ _ _ 0 k rfl (Nat.zero_add _).symm).trans ?_
    exact (pay3_apply (fun r j => (load4 (e := .bf16) _ _ _ r j).trans (four (e := .bf16) _ _ _ _ _ _ _ _ _ _ (fun j => ((d.P (t r) j : ℝ) : EReal)) r (fun j => (pay17_apply (pay13_apply (l6 B) (l7 B) (l8 B) (l0 B)) r j).trans (congrArg _ (P0 d (t r) j))) (fun j => (pay18_apply (pay15_apply (joined (l1 B) (l2 B)) (pay10_apply (l6 B)) (pay11_apply (l7 B)) (pay12_apply (l8 B)) pay14_apply) r j).trans (congrArg _ (P1 d (t r) j))) (fun j => (pay19_apply (pay16_apply (joined' (l3 B) (l4 B))) r j).trans (congrArg _ (P2 d (t r) j))) (fun j => (pay20_apply (l5 B) r j).trans (congrArg _ (P3 d (t r) j))) j)) (l13 B) (l9 B) (l12 B) _ k).trans (congrArg (· + _) (by pointwise [k0_pay8]))
  | 2 =>
    refine (hit _ _ _ _ _ _ _ _ _ 0 k rfl (Nat.zero_add _).symm).trans ?_
    exact (pay4_apply (fun r j => (load4 (e := .bf16) _ _ _ r j).trans (four (e := .bf16) _ _ _ _ _ _ _ _ _ _ (fun j => ((d.P (t r) j : ℝ) : EReal)) r (fun j => (pay17_apply (pay13_apply (l6 B) (l7 B) (l8 B) (l0 B)) r j).trans (congrArg _ (P0 d (t r) j))) (fun j => (pay18_apply (pay15_apply (joined (l1 B) (l2 B)) (pay10_apply (l6 B)) (pay11_apply (l7 B)) (pay12_apply (l8 B)) pay14_apply) r j).trans (congrArg _ (P1 d (t r) j))) (fun j => (pay19_apply (pay16_apply (joined' (l3 B) (l4 B))) r j).trans (congrArg _ (P2 d (t r) j))) (fun j => (pay20_apply (l5 B) r j).trans (congrArg _ (P3 d (t r) j))) j)) (l13 B) (l9 B) (l11 B) _ k).trans (congrArg (· + _) (by pointwise [k0_pay8]))
  | 3 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (congrFun (View.read_writes_full _ _ _ _ _) _).trans ?_
    pointwise [k0_pay8]
    exact EReal.coe_zero.symm
  | 4 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (congrFun (View.read_writes_full _ _ _ _ _) _).trans ?_
    pointwise [k0_pay8]
    exact EReal.coe_zero.symm
  | 5 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (congrFun (View.read_writes_full _ _ _ _ _) _).trans ?_
    pointwise [k0_pay8]
    exact EReal.coe_zero.symm
  | 6 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (congrFun (View.read_writes_full _ _ _ _ _) _).trans ?_
    pointwise [k0_pay8]
    exact EReal.coe_zero.symm
  | 7 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    refine (congrFun (View.read_writes_full _ _ _ _ _) _).trans ?_
    pointwise [k0_pay8]
    exact EReal.coe_zero.symm

theorem out_A_17 (hc : cond0_0 i) (n : Fin 8) (j : Fin 1280) :
    out0_A_17 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 x10 x11 x12 x13 (ix2 n j) = 0 + ((partB d t j.val n : ℝ) : EReal) := by
  unfold out0_A_17
  unfold kernelRun0_A; dsimp only; sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread]
  simp (disch := decide) only [↓ View.readCov_skip, ↓ View.readCov_cons_toLoadRect, ↓ View.readCov_fill]
  match n with
  | 0 =>
    refine (hit _ _ _ _ _ _ _ _ _ 0 j rfl (Nat.zero_add _).symm).trans ?_
    exact (pay23_apply _ (pay13_apply (l6 B) (l7 B) (l8 B) (l0 B)) (pay15_apply (joined (l1 B) (l2 B)) (pay10_apply (l6 B)) (pay11_apply (l7 B)) (pay12_apply (l8 B)) pay14_apply) (pay16_apply (joined' (l3 B) (l4 B))) (l5 B) j).trans (congrArg (· + _) (by pointwise [k0_pay9]))
  | 1 =>
    refine (missRow _ _ _ _ _ _ _ _ _ (Or.inr (by decide))).trans ?_
    refine (congrFun (View.read_writes_full _ _ _ _ _) _).trans ?_
    pointwise [k0_pay9]
    exact EReal.coe_zero.symm
  | 2 =>
    refine (missRow _ _ _ _ _ _ _ _ _ (Or.inr (by decide))).trans ?_
    refine (congrFun (View.read_writes_full _ _ _ _ _) _).trans ?_
    pointwise [k0_pay9]
    exact EReal.coe_zero.symm
  | 3 =>
    refine (missRow _ _ _ _ _ _ _ _ _ (Or.inr (by decide))).trans ?_
    refine (congrFun (View.read_writes_full _ _ _ _ _) _).trans ?_
    pointwise [k0_pay9]
    exact EReal.coe_zero.symm
  | 4 =>
    refine (missRow _ _ _ _ _ _ _ _ _ (Or.inr (by decide))).trans ?_
    refine (congrFun (View.read_writes_full _ _ _ _ _) _).trans ?_
    pointwise [k0_pay9]
    exact EReal.coe_zero.symm
  | 5 =>
    refine (missRow _ _ _ _ _ _ _ _ _ (Or.inr (by decide))).trans ?_
    refine (congrFun (View.read_writes_full _ _ _ _ _) _).trans ?_
    pointwise [k0_pay9]
    exact EReal.coe_zero.symm
  | 6 =>
    refine (missRow _ _ _ _ _ _ _ _ _ (Or.inr (by decide))).trans ?_
    refine (congrFun (View.read_writes_full _ _ _ _ _) _).trans ?_
    pointwise [k0_pay9]
    exact EReal.coe_zero.symm
  | 7 =>
    refine (missRow _ _ _ _ _ _ _ _ _ (Or.inr (by decide))).trans ?_
    refine (congrFun (View.read_writes_full _ _ _ _ _) _).trans ?_
    pointwise [k0_pay9]
    exact EReal.coe_zero.symm

theorem out_B_14 (hc : ¬ cond0_0 i) (r : Fin 1024) (k : Fin 1024) :
    out0_B_14 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 x10 x11 x12 x13 xo16 xo17 (ix2 r k) = ((d.dx (t r) k : ℝ) : EReal) := by
  unfold out0_B_14
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread]
  refine (hit _ _ _ _ _ _ _ _ _ r k (Nat.zero_add _).symm (Nat.zero_add _).symm).trans ?_
  exact pay5_apply (fun r j => (load4 (e := .bf16) _ _ _ r j).trans (four (e := .bf16) _ _ _ _ _ _ _ _ _ _ (fun j => ((d.P (t r) j : ℝ) : EReal)) r (fun j => (pay17_apply (pay13_apply (l6 B) (l7 B) (l8 B) (l0 B)) r j).trans (congrArg _ (P0 d (t r) j))) (fun j => (pay18_apply (pay15_apply (joined (l1 B) (l2 B)) (pay10_apply (l6 B)) (pay11_apply (l7 B)) (pay12_apply (l8 B)) pay14_apply) r j).trans (congrArg _ (P1 d (t r) j))) (fun j => (pay19_apply (pay16_apply (joined' (l3 B) (l4 B))) r j).trans (congrArg _ (P2 d (t r) j))) (fun j => (pay20_apply (l5 B) r j).trans (congrArg _ (P3 d (t r) j))) j)) (l13 B) (l9 B) (l12 B) (l11 B) (l10 B) r k

theorem out_B_15 (hc : ¬ cond0_0 i) (r : Fin 1024) (j : Fin 1280) :
    out0_B_15 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 x10 x11 x12 x13 xo16 xo17 (ix2 r j) = ((d.P (t r) j.val : ℝ) : EReal) := by
  unfold out0_B_15
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread]
  exact four (e := .bf16) _ _ _ _ _ _ _ _ _ _ (fun j => ((d.P (t r) j : ℝ) : EReal)) r (fun j => (pay17_apply (pay13_apply (l6 B) (l7 B) (l8 B) (l0 B)) r j).trans (congrArg _ (P0 d (t r) j))) (fun j => (pay18_apply (pay15_apply (joined (l1 B) (l2 B)) (pay10_apply (l6 B)) (pay11_apply (l7 B)) (pay12_apply (l8 B)) pay14_apply) r j).trans (congrArg _ (P1 d (t r) j))) (fun j => (pay19_apply (pay16_apply (joined' (l3 B) (l4 B))) r j).trans (congrArg _ (P2 d (t r) j))) (fun j => (pay20_apply (l5 B) r j).trans (congrArg _ (P3 d (t r) j))) j

theorem out_B_16 (hc : ¬ cond0_0 i) (n : Fin 8) (k : Fin 1024) :
    out0_B_16 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 x10 x11 x12 x13 xo16 xo17 (ix2 n k) = xo16 (ix2 n k) + ((part d t k n : ℝ) : EReal) := by
  unfold out0_B_16
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread]
  match n with
  | 0 =>
    refine (missRow _ _ _ _ _ _ _ _ _ (Or.inl (by decide))).trans ?_
    refine (missRow _ _ _ _ _ _ _ _ _ (Or.inl (by decide))).trans ?_
    refine (hit _ _ _ _ _ _ _ _ _ 0 k rfl (Nat.zero_add _).symm).trans ?_
    exact (pay2_apply (fun r j => (load4 (e := .bf16) _ _ _ r j).trans (four (e := .bf16) _ _ _ _ _ _ _ _ _ _ (fun j => ((d.P (t r) j : ℝ) : EReal)) r (fun j => (pay17_apply (pay13_apply (l6 B) (l7 B) (l8 B) (l0 B)) r j).trans (congrArg _ (P0 d (t r) j))) (fun j => (pay18_apply (pay15_apply (joined (l1 B) (l2 B)) (pay10_apply (l6 B)) (pay11_apply (l7 B)) (pay12_apply (l8 B)) pay14_apply) r j).trans (congrArg _ (P1 d (t r) j))) (fun j => (pay19_apply (pay16_apply (joined' (l3 B) (l4 B))) r j).trans (congrArg _ (P2 d (t r) j))) (fun j => (pay20_apply (l5 B) r j).trans (congrArg _ (P3 d (t r) j))) j)) (l13 B) _ k).trans (congrArg (· + _) (ld2 xo16 0 0 _ 0 k 0 k rfl (Nat.zero_add _).symm))
  | 1 =>
    refine (missRow _ _ _ _ _ _ _ _ _ (Or.inl (by decide))).trans ?_
    refine (hit _ _ _ _ _ _ _ _ _ 0 k rfl (Nat.zero_add _).symm).trans ?_
    exact (pay3_apply (fun r j => (load4 (e := .bf16) _ _ _ r j).trans (four (e := .bf16) _ _ _ _ _ _ _ _ _ _ (fun j => ((d.P (t r) j : ℝ) : EReal)) r (fun j => (pay17_apply (pay13_apply (l6 B) (l7 B) (l8 B) (l0 B)) r j).trans (congrArg _ (P0 d (t r) j))) (fun j => (pay18_apply (pay15_apply (joined (l1 B) (l2 B)) (pay10_apply (l6 B)) (pay11_apply (l7 B)) (pay12_apply (l8 B)) pay14_apply) r j).trans (congrArg _ (P1 d (t r) j))) (fun j => (pay19_apply (pay16_apply (joined' (l3 B) (l4 B))) r j).trans (congrArg _ (P2 d (t r) j))) (fun j => (pay20_apply (l5 B) r j).trans (congrArg _ (P3 d (t r) j))) j)) (l13 B) (l9 B) (l12 B) _ k).trans (congrArg (· + _) (ld2 xo16 1 0 _ 0 k 1 k rfl (Nat.zero_add _).symm))
  | 2 =>
    refine (hit _ _ _ _ _ _ _ _ _ 0 k rfl (Nat.zero_add _).symm).trans ?_
    exact (pay4_apply (fun r j => (load4 (e := .bf16) _ _ _ r j).trans (four (e := .bf16) _ _ _ _ _ _ _ _ _ _ (fun j => ((d.P (t r) j : ℝ) : EReal)) r (fun j => (pay17_apply (pay13_apply (l6 B) (l7 B) (l8 B) (l0 B)) r j).trans (congrArg _ (P0 d (t r) j))) (fun j => (pay18_apply (pay15_apply (joined (l1 B) (l2 B)) (pay10_apply (l6 B)) (pay11_apply (l7 B)) (pay12_apply (l8 B)) pay14_apply) r j).trans (congrArg _ (P1 d (t r) j))) (fun j => (pay19_apply (pay16_apply (joined' (l3 B) (l4 B))) r j).trans (congrArg _ (P2 d (t r) j))) (fun j => (pay20_apply (l5 B) r j).trans (congrArg _ (P3 d (t r) j))) j)) (l13 B) (l9 B) (l11 B) _ k).trans (congrArg (· + _) (ld2 xo16 2 0 _ 0 k 2 k rfl (Nat.zero_add _).symm))
  | 3 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    rw [View.writes_nil, h17.read_unread]
    exact (add_zero _).symm
  | 4 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    rw [View.writes_nil, h17.read_unread]
    exact (add_zero _).symm
  | 5 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    rw [View.writes_nil, h17.read_unread]
    exact (add_zero _).symm
  | 6 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    rw [View.writes_nil, h17.read_unread]
    exact (add_zero _).symm
  | 7 =>
    refine (missRow _ _ _ _ _ _ _ _ _ (Or.inr (by decide))).trans ?_
    refine (missRow _ _ _ _ _ _ _ _ _ (Or.inr (by decide))).trans ?_
    refine (missRow _ _ _ _ _ _ _ _ _ (Or.inr (by decide))).trans ?_
    rw [View.writes_nil, h17.read_unread]
    exact (add_zero _).symm

theorem out_B_17 (hc : ¬ cond0_0 i) (n : Fin 8) (j : Fin 1280) :
    out0_B_17 c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 hc x0 x1 x2 x3 x4 x5 x6 x7 x8 x9 x10 x11 x12 x13 xo16 xo17 (ix2 n j) = xo17 (ix2 n j) + ((partB d t j.val n : ℝ) : EReal) := by
  unfold out0_B_17
  unfold kernelRun0_B; dsimp only; sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread]
  match n with
  | 0 =>
    refine (hit _ _ _ _ _ _ _ _ _ 0 j rfl (Nat.zero_add _).symm).trans ?_
    exact (pay23_apply _ (pay13_apply (l6 B) (l7 B) (l8 B) (l0 B)) (pay15_apply (joined (l1 B) (l2 B)) (pay10_apply (l6 B)) (pay11_apply (l7 B)) (pay12_apply (l8 B)) pay14_apply) (pay16_apply (joined' (l3 B) (l4 B))) (l5 B) j).trans (congrArg (· + _) (ld2 xo17 0 0 _ 0 j 0 j rfl (Nat.zero_add _).symm))
  | 1 =>
    refine (missRow _ _ _ _ _ _ _ _ _ (Or.inr (by decide))).trans ?_
    rw [View.writes_nil, h18.read_unread]
    exact (add_zero _).symm
  | 2 =>
    refine (missRow _ _ _ _ _ _ _ _ _ (Or.inr (by decide))).trans ?_
    rw [View.writes_nil, h18.read_unread]
    exact (add_zero _).symm
  | 3 =>
    refine (missRow _ _ _ _ _ _ _ _ _ (Or.inr (by decide))).trans ?_
    rw [View.writes_nil, h18.read_unread]
    exact (add_zero _).symm
  | 4 =>
    refine (missRow _ _ _ _ _ _ _ _ _ (Or.inr (by decide))).trans ?_
    rw [View.writes_nil, h18.read_unread]
    exact (add_zero _).symm
  | 5 =>
    refine (missRow _ _ _ _ _ _ _ _ _ (Or.inr (by decide))).trans ?_
    rw [View.writes_nil, h18.read_unread]
    exact (add_zero _).symm
  | 6 =>
    refine (missRow _ _ _ _ _ _ _ _ _ (Or.inr (by decide))).trans ?_
    rw [View.writes_nil, h18.read_unread]
    exact (add_zero _).symm
  | 7 =>
    refine (missRow _ _ _ _ _ _ _ _ _ (Or.inr (by decide))).trans ?_
    rw [View.writes_nil, h18.read_unread]
    exact (add_zero _).symm

end Out

end Cert.InBwdIdeal.Blocks
-- ==== Proof.InBwd.Arrays.lean ====
/-
  What the input block's backward kernel leaves in its four result arrays, from real arrays: a block of 1024 rows at each
  point, and the rows of sums added up over the points.
-/
module

public import proofs.«01_k».proof.Proof.InBwd.Block

@[expose] public section

set_option maxRecDepth 16384

noncomputable section

open Idealize.ShloMosaic Idealize.ShloMosaic.TcCoe Idealize.SL.Sem

namespace Cert.InBwdIdeal.Blocks

open Cert.InBwdIdeal Cert.InBwdIdeal.Gen Cert.InBwdIdeal.Value Cert.Proof.Net

variable (m : (ℓ : Loc nD τ sig) → Buf (Elt Ideal) ℓ) (c : Dev nD) (d : InData)

/-- The row of the arrays that the first 896 rows of each block, kept together, hold, -/
def mainRow (r : Fin 7168) : Fin 8192 := ⟨1024 * (r.val / 896) + r.val % 896, by omega⟩
/-- and the one that the last 128 rows of each block hold. -/
def tailRow (r : Fin 1024) : Fin 8192 := ⟨1024 * (r.val / 128) + (896 + r.val % 128), by omega⟩

/-- The arrays that the kernel is called with hold these real numbers. -/
structure Entry : Prop where
  e0 : ∀ t (j : Fin 512), V m c main_v10 (ix2 t j) = ((d.DQ t j.val : ℝ) : EReal)
  e1 : ∀ r (j : Fin 256), V m c main_v13 (ix2 r j) = ((d.DK (mainRow r) j.val : ℝ) : EReal)
  e2 : ∀ r (j : Fin 256), V m c main_v15 (ix2 r j) = ((d.DK (tailRow r) j.val : ℝ) : EReal)
  e3 : ∀ r (j : Fin 256), V m c main_v18 (ix2 r j) = ((d.DV (mainRow r) j.val : ℝ) : EReal)
  e4 : ∀ r (j : Fin 256), V m c main_v20 (ix2 r j) = ((d.DV (tailRow r) j.val : ℝ) : EReal)
  e5 : ∀ t (j : Fin 512), V m c main_arg11 (ix2 t j) = ((d.DU t j.val : ℝ) : EReal)
  e6 : ∀ t (l : Fin 128), V m c main_v4 (ix2 t l) = ((tabC (d.CO t) l.val : ℝ) : EReal)
  e7 : ∀ t (l : Fin 128), V m c main_v7 (ix2 t l) = ((tabN (d.SI t) l.val : ℝ) : EReal)
  e8 : ∀ t (l : Fin 128), V m c main_v9 (ix2 t l) = ((tabS (d.SI t) l.val : ℝ) : EReal)
  e9 : ∀ t k, V m c main_arg0 (ix2 t k) = ((d.X t k : ℝ) : EReal)
  e10 : ∀ t k, V m c main_arg12 (ix2 t k) = ((d.CT t k : ℝ) : EReal)
  e11 : ∀ k, V m c main_v25 (ix2 1 k) = ((d.sc k : ℝ) : EReal)
  e12 : ∀ k, V m c main_v28 (ix2 0 k) = ((d.gp k : ℝ) : EReal)
  e13 : ∀ j k, V m c main_v30 (ix2 j k) = ((d.W k j : ℝ) : EReal)

theorem size : cfg0.N = 8 := N_0
/-- The last point. -/
def last : Fin cfg0.N := ⟨7, by rw [size]; decide⟩
theorem last_val : last.val = 7 := rfl

/-- Row `r` of the block that point `t` works on. -/
def row (t : Fin cfg0.N) (r : Fin 1024) : Fin 8192 := ⟨1024 * t.val + r.val, by have := t.isLt; have := size; omega⟩
/-- The same in the two parts of the keys' and values' arrays. -/
def rowM (t : Fin cfg0.N) (r : Fin 896) : Fin 7168 := ⟨896 * t.val + r.val, by have := t.isLt; have := size; omega⟩
def rowT (t : Fin cfg0.N) (r : Fin 128) : Fin 1024 := ⟨128 * t.val + r.val, by have := t.isLt; have := size; omega⟩

theorem mainRow_eq (t : Fin cfg0.N) (r : Fin 896) : mainRow (rowM t r) = row t ⟨r.val, by omega⟩ :=
  Fin.ext (by show 1024 * ((896 * t.val + r.val) / 896) + (896 * t.val + r.val) % 896 = 1024 * t.val + r.val; omega)
theorem tailRow_eq (t : Fin cfg0.N) (r : Fin 128) : tailRow (rowT t r) = row t ⟨896 + r.val, by omega⟩ :=
  Fin.ext (by show 1024 * ((128 * t.val + r.val) / 128) + (896 + (128 * t.val + r.val) % 128) = 1024 * t.val + (896 + r.val); omega)

theorem i0 : ∀ t : Fin cfg0.N, win0_0.index t = ![t.val, 0] := by decide +kernel
theorem i1 : ∀ t : Fin cfg0.N, win0_1.index t = ![t.val, 0] := by decide +kernel
theorem i2 : ∀ t : Fin cfg0.N, win0_2.index t = ![t.val, 0] := by decide +kernel
theorem i3 : ∀ t : Fin cfg0.N, win0_3.index t = ![t.val, 0] := by decide +kernel
theorem i4 : ∀ t : Fin cfg0.N, win0_4.index t = ![t.val, 0] := by decide +kernel
theorem i5 : ∀ t : Fin cfg0.N, win0_5.index t = ![t.val, 0] := by decide +kernel
theorem i6 : ∀ t : Fin cfg0.N, win0_6.index t = ![t.val, 0] := by decide +kernel
theorem i7 : ∀ t : Fin cfg0.N, win0_7.index t = ![t.val, 0] := by decide +kernel
theorem i8 : ∀ t : Fin cfg0.N, win0_8.index t = ![t.val, 0] := by decide +kernel
theorem i9 : ∀ t : Fin cfg0.N, win0_9.index t = ![t.val, 0] := by decide +kernel
theorem i10 : ∀ t : Fin cfg0.N, win0_10.index t = ![t.val, 0] := by decide +kernel
theorem i14 : ∀ t : Fin cfg0.N, win0_14.index t = ![t.val, 0] := by decide +kernel
theorem i15 : ∀ t : Fin cfg0.N, win0_15.index t = ![t.val, 0] := by decide +kernel
theorem i11 : ∀ t : Fin cfg0.N, win0_11.index t = ![0, 0] := by decide +kernel
theorem i12 : ∀ t : Fin cfg0.N, win0_12.index t = ![0, 0] := by decide +kernel
theorem i13 : ∀ t : Fin cfg0.N, win0_13.index t = ![0, 0] := by decide +kernel

theorem blk0 (t : Fin cfg0.N) (r : Fin 1024) (k : Fin 512) : iblk m c 0 t (ix2 r k) = V m c main_v10 (ix2 (row t r) k) := by
  unfold row
  blk_simp [iblk]
  refine congrArg _ ?_
  blk_ext [i0]
theorem blk1 (t : Fin cfg0.N) (r : Fin 896) (k : Fin 256) : iblk m c 1 t (ix2 r k) = V m c main_v13 (ix2 (rowM t r) k) := by
  unfold rowM
  blk_simp [iblk]
  refine congrArg _ ?_
  blk_ext [i1]
theorem blk2 (t : Fin cfg0.N) (r : Fin 128) (k : Fin 256) : iblk m c 2 t (ix2 r k) = V m c main_v15 (ix2 (rowT t r) k) := by
  unfold rowT
  blk_simp [iblk]
  refine congrArg _ ?_
  blk_ext [i2]
theorem blk3 (t : Fin cfg0.N) (r : Fin 896) (k : Fin 256) : iblk m c 3 t (ix2 r k) = V m c main_v18 (ix2 (rowM t r) k) := by
  unfold rowM
  blk_simp [iblk]
  refine congrArg _ ?_
  blk_ext [i3]
theorem blk4 (t : Fin cfg0.N) (r : Fin 128) (k : Fin 256) : iblk m c 4 t (ix2 r k) = V m c main_v20 (ix2 (rowT t r) k) := by
  unfold rowT
  blk_simp [iblk]
  refine congrArg _ ?_
  blk_ext [i4]
theorem blk5 (t : Fin cfg0.N) (r : Fin 1024) (k : Fin 512) : iblk m c 5 t (ix2 r k) = V m c main_arg11 (ix2 (row t r) k) := by
  unfold row
  blk_simp [iblk]
  refine congrArg _ ?_
  blk_ext [i5]
theorem blk6 (t : Fin cfg0.N) (r : Fin 1024) (k : Fin 128) : iblk m c 6 t (ix2 r k) = V m c main_v4 (ix2 (row t r) k) := by
  unfold row
  blk_simp [iblk]
  refine congrArg _ ?_
  blk_ext [i6]
theorem blk7 (t : Fin cfg0.N) (r : Fin 1024) (k : Fin 128) : iblk m c 7 t (ix2 r k) = V m c main_v7 (ix2 (row t r) k) := by
  unfold row
  blk_simp [iblk]
  refine congrArg _ ?_
  blk_ext [i7]
theorem blk8 (t : Fin cfg0.N) (r : Fin 1024) (k : Fin 128) : iblk m c 8 t (ix2 r k) = V m c main_v9 (ix2 (row t r) k) := by
  unfold row
  blk_simp [iblk]
  refine congrArg _ ?_
  blk_ext [i8]
theorem blk9 (t : Fin cfg0.N) (r : Fin 1024) (k : Fin 1024) : iblk m c 9 t (ix2 r k) = V m c main_arg0 (ix2 (row t r) k) := by
  unfold row
  blk_simp [iblk]
  refine congrArg _ ?_
  blk_ext [i9]
theorem blk10 (t : Fin cfg0.N) (r : Fin 1024) (k : Fin 1024) : iblk m c 10 t (ix2 r k) = V m c main_arg12 (ix2 (row t r) k) := by
  unfold row
  blk_simp [iblk]
  refine congrArg _ ?_
  blk_ext [i10]
theorem blk11 (t : Fin cfg0.N) (r : Fin 8) (k : Fin 1024) : iblk m c 11 t (ix2 r k) = V m c main_v25 (ix2 r k) := by
  blk_simp [iblk]
  refine congrArg _ ?_
  blk_ext [i11]
theorem blk12 (t : Fin cfg0.N) (r : Fin 8) (k : Fin 1024) : iblk m c 12 t (ix2 r k) = V m c main_v28 (ix2 r k) := by
  blk_simp [iblk]
  refine congrArg _ ?_
  blk_ext [i12]
theorem blk13 (t : Fin cfg0.N) (r : Fin 1280) (k : Fin 1024) : iblk m c 13 t (ix2 r k) = V m c main_v30 (ix2 r k) := by
  blk_simp [iblk]
  refine congrArg _ ?_
  blk_ext [i13]

variable {m c d} (E : Entry m c d)
include E

/-- The blocks of a point, in real numbers. -/
theorem blks (t : Fin cfg0.N) : Blk d (row t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) where
  b0 r k := (blk0 m c t r k).trans (E.e0 _ _)
  b1 r k := (blk1 m c t r k).trans ((E.e1 _ _).trans (by rw [mainRow_eq]))
  b2 r k := (blk2 m c t r k).trans ((E.e2 _ _).trans (by rw [tailRow_eq]))
  b3 r k := (blk3 m c t r k).trans ((E.e3 _ _).trans (by rw [mainRow_eq]))
  b4 r k := (blk4 m c t r k).trans ((E.e4 _ _).trans (by rw [tailRow_eq]))
  b5 r k := (blk5 m c t r k).trans (E.e5 _ _)
  b6 r k := (blk6 m c t r k).trans (E.e6 _ _)
  b7 r k := (blk7 m c t r k).trans (E.e7 _ _)
  b8 r k := (blk8 m c t r k).trans (E.e8 _ _)
  b9 r k := (blk9 m c t r k).trans (E.e9 _ _)
  b10 r k := (blk10 m c t r k).trans (E.e10 _ _)
  b11 k := (blk11 m c t 1 k).trans (E.e11 _)
  b12 k := (blk12 m c t 0 k).trans (E.e12 _)
  b13 j k := (blk13 m c t j k).trans (E.e13 _ _)

theorem out14 (t : Fin cfg0.N) (r : Fin 1024) (k : Fin 1024) : (outsAt0 m c t.val t.isLt).1 (ix2 r k) = ((d.dx (row t r) k : ℝ) : EReal) := by
  by_cases h : t.val % 8 = 0
  · rw [outsAt0_A m c t h]; dsimp only; rw [out_A_14 (B := blks E t)]
  · rw [outsAt0_B m c t h]; dsimp only; rw [out_B_14 (B := blks E t)]

theorem out15 (t : Fin cfg0.N) (r : Fin 1024) (j : Fin 1280) : (outsAt0 m c t.val t.isLt).2.1 (ix2 r j) = ((d.P (row t r) j.val : ℝ) : EReal) := by
  by_cases h : t.val % 8 = 0
  · rw [outsAt0_A m c t h]; dsimp only; rw [out_A_15 (B := blks E t)]
  · rw [outsAt0_B m c t h]; dsimp only; rw [out_B_15 (B := blks E t)]

/-- A point adds its rows' part to the sums. -/
theorem out16_zero (h : 0 < cfg0.N) (n : Fin 8) (k : Fin 1024) :
    (outsAt0 m c 0 h).2.2.1 (ix2 n k) = 0 + ((part d (row ⟨0, h⟩) k n : ℝ) : EReal) := by
  rw [outsAt0_A m c ⟨0, h⟩ rfl]; dsimp only; rw [out_A_16 (B := blks E ⟨0, h⟩)]
theorem out16_succ (i : ℕ) (h : i + 1 < cfg0.N) (n : Fin 8) (k : Fin 1024) :
    (outsAt0 m c (i + 1) h).2.2.1 (ix2 n k)
      = (outsAt0 m c i (Nat.lt_of_succ_lt h)).2.2.1 (ix2 n k) + ((part d (row ⟨i + 1, h⟩) k n : ℝ) : EReal) := by
  have hB : ¬ (⟨i + 1, h⟩ : Fin cfg0.N).val % 8 = 0 := by rw [size] at h; show ¬ (i + 1) % 8 = 0; omega
  rw [outsAt0_B m c ⟨i + 1, h⟩ hB]; dsimp only; rw [out_B_16 (B := blks E ⟨i + 1, h⟩)]; rfl
theorem out17_zero (h : 0 < cfg0.N) (n : Fin 8) (j : Fin 1280) :
    (outsAt0 m c 0 h).2.2.2 (ix2 n j) = 0 + ((partB d (row ⟨0, h⟩) j.val n : ℝ) : EReal) := by
  rw [outsAt0_A m c ⟨0, h⟩ rfl]; dsimp only; rw [out_A_17 (B := blks E ⟨0, h⟩)]
theorem out17_succ (i : ℕ) (h : i + 1 < cfg0.N) (n : Fin 8) (j : Fin 1280) :
    (outsAt0 m c (i + 1) h).2.2.2 (ix2 n j)
      = (outsAt0 m c i (Nat.lt_of_succ_lt h)).2.2.2 (ix2 n j) + ((partB d (row ⟨i + 1, h⟩) j.val n : ℝ) : EReal) := by
  have hB : ¬ (⟨i + 1, h⟩ : Fin cfg0.N).val % 8 = 0 := by rw [size] at h; show ¬ (i + 1) % 8 = 0; omega
  rw [outsAt0_B m c ⟨i + 1, h⟩ hB]; dsimp only; rw [out_B_17 (B := blks E ⟨i + 1, h⟩)]; rfl

omit E

/-- What the points up to the `i`-th have added, of parts `f`. -/
def upto (f : Fin cfg0.N → ℝ) (i : ℕ) : ℝ := ∑ s ∈ Finset.range (i + 1), if h : s < cfg0.N then f ⟨s, h⟩ else 0

/-- Values that begin with the first part and take each next one are those sums. -/
theorem upto_of (f : Fin cfg0.N → ℝ) (v : (i : ℕ) → i < cfg0.N → EReal) (h0 : ∀ h, v 0 h = 0 + ((f ⟨0, h⟩ : ℝ) : EReal))
    (hs : ∀ i h, v (i + 1) h = v i (Nat.lt_of_succ_lt h) + ((f ⟨i + 1, h⟩ : ℝ) : EReal)) : ∀ i h, v i h = ((upto f i : ℝ) : EReal)
  | 0, h => by
    rw [h0, zero_add, upto, Finset.sum_range_one, dif_pos h]
  | i + 1, h => by
    rw [hs i h, upto_of f v h0 hs i _, add]
    refine congrArg _ ?_
    rw [upto, upto, Finset.sum_range_succ _ (i + 1), dif_pos h]

theorem upto_all (f : Fin cfg0.N → ℝ) : upto f 7 = ∑ t, f t := by
  rw [upto, ← Fin.sum_univ_eq_sum_range (fun s => if h : s < cfg0.N then f ⟨s, h⟩ else 0)]
  exact Fintype.sum_equiv (finCongr size.symm) _ _ fun x => dif_pos (lt_of_lt_of_eq x.isLt size.symm)

/-- A sum over all rows, block by block. -/
theorem sum_rows (f : Fin 8192 → ℝ) : ∑ t : Fin cfg0.N, ∑ r : Fin 1024, f (row t r) = ∑ n : Fin 8192, f n := by
  rw [Fintype.sum_prod_type' (f := fun (t : Fin cfg0.N) (r : Fin 1024) => f (row t r)) |>.symm]
  refine Fintype.sum_bijective (fun x : Fin cfg0.N × Fin 1024 => row x.1 x.2) ⟨?_, fun n => ?_⟩ _ _ fun _ => rfl
  · rintro ⟨a, r⟩ ⟨b, s⟩ h
    have h' : 1024 * a.val + r.val = 1024 * b.val + s.val := congrArg Fin.val h
    exact Prod.ext (Fin.ext (by show a.val = b.val; omega)) (Fin.ext (by show r.val = s.val; omega))
  · refine ⟨(⟨n.val / 1024, by rw [size]; omega⟩, ⟨n.val % 1024, by omega⟩), Fin.ext ?_⟩
    show 1024 * (n.val / 1024) + n.val % 1024 = n.val
    omega

theorem rows_last (n : Fin 8) (k : Fin 1024) : ∑ t : Fin cfg0.N, part d (row t) k n = d.rows k n := by
  match n with
  | 0 => exact sum_rows fun t => d.dh t k
  | 1 => exact sum_rows fun t => d.dh t k * norm (d.X t) k * d.gp k
  | 2 => exact sum_rows fun t => d.dh t k * norm (d.X t) k * (1 + d.sc k)
  | 3 => exact Finset.sum_const_zero
  | 4 => exact Finset.sum_const_zero
  | 5 => exact Finset.sum_const_zero
  | 6 => exact Finset.sum_const_zero
  | 7 => exact Finset.sum_const_zero
theorem bias_last (n : Fin 8) (j : ℕ) : ∑ t : Fin cfg0.N, partB d (row t) j n = d.bias j n := by
  match n with
  | 0 => exact sum_rows fun t => d.P t j
  | 1 => exact Finset.sum_const_zero
  | 2 => exact Finset.sum_const_zero
  | 3 => exact Finset.sum_const_zero
  | 4 => exact Finset.sum_const_zero
  | 5 => exact Finset.sum_const_zero
  | 6 => exact Finset.sum_const_zero
  | 7 => exact Finset.sum_const_zero

variable (d) in
/-- The four result arrays. -/
def G14 : S8192x1024.Idx → EReal := fun y => ((d.dx (y 0) (y 1) : ℝ) : EReal)
variable (d) in
def G15 : S8192x1280.Idx → EReal := fun y => ((d.P (y 0) (y 1).val : ℝ) : EReal)
variable (d) in
def G16 : S8x1024.Idx → EReal := fun y => ((d.rows (y 1) (y 0) : ℝ) : EReal)
variable (d) in
def G17 : S8x1280.Idx → EReal := fun y => ((d.bias (y 1).val (y 0) : ℝ) : EReal)

include E

theorem final14 : (dats m 0 c).arrAt 14 cfg0.N = G14 d := by
  refine (dats m 0 c).arrAt_eq_of_covers 14 (G14 d) (by decide +kernel) fun t hf y => ?_
  blk_simp
  rw [after0_14]
  idx_vars y
  refine (out14 E t y0 y1).trans ?_
  have e : ((View.whole main_v31_0).slice (win0_14.rect t)).emb (ix2 y0 y1) = ix2 (row t y0) y1 := by
    unfold row
    blk_ext [i14]
  rw [e]
  rfl

theorem final15 : (dats m 0 c).arrAt 15 cfg0.N = G15 d := by
  refine (dats m 0 c).arrAt_eq_of_covers 15 (G15 d) (by decide +kernel) fun t hf y => ?_
  blk_simp
  rw [after0_15]
  idx_vars y
  refine (out15 E t y0 y1).trans ?_
  have e : ((View.whole main_v31_1).slice (win0_15.rect t)).emb (ix2 y0 y1) = ix2 (row t y0) y1 := by
    unfold row
    blk_ext [i15]
  rw [e]
  rfl

theorem out16_last (n : Fin 8) (k : Fin 1024) : (outsAt0 m c last.val last.isLt).2.2.1 (ix2 n k) = ((d.rows k n : ℝ) : EReal) := by
  rw [upto_of (fun t => part d (row t) k n) (fun i h => (outsAt0 m c i h).2.2.1 (ix2 n k)) (fun h => out16_zero E h n k) (fun i h => out16_succ E i h n k) last.val last.isLt,
    last_val, upto_all, rows_last]

theorem final16 : (dats m 0 c).arrAt 16 cfg0.N = G16 d := by
  refine (dats m 0 c).arrAt_eq_of_after_last 16 last (by decide +kernel) (G16 d) fun y => ?_
  rw [after0_16]
  idx_vars y
  blk_simp
  exact out16_last E y0 y1

theorem out17_last (n : Fin 8) (j : Fin 1280) : (outsAt0 m c last.val last.isLt).2.2.2 (ix2 n j) = ((d.bias j.val n : ℝ) : EReal) := by
  rw [upto_of (fun t => partB d (row t) j.val n) (fun i h => (outsAt0 m c i h).2.2.2 (ix2 n j)) (fun h => out17_zero E h n j) (fun i h => out17_succ E i h n j) last.val last.isLt,
    last_val, upto_all, bias_last]

theorem final17 : (dats m 0 c).arrAt 17 cfg0.N = G17 d := by
  refine (dats m 0 c).arrAt_eq_of_after_last 17 last (by decide +kernel) (G17 d) fun y => ?_
  rw [after0_17]
  idx_vars y
  blk_simp
  exact out17_last E y0 y1

end Cert.InBwdIdeal.Blocks
-- ==== Proof.InBwd.Entry.lean ====
/-
  The arrays that the input block's backward kernel is called with, from real arguments: the heads' gradients laid out in rows,
  the rotary tables, the packed gain and modulation, and the weight laid out for the product.
-/
module

public import proofs.«01_k».proof.Proof.InBwd.Arrays
public import Idealize.ShloMosaic.Lib.StableHlo.ReadAt

@[expose] public section

set_option maxRecDepth 16384

noncomputable section

open Idealize.ShloMosaic Idealize.ShloMosaic.TcCoe Idealize.SL.Sem

namespace Cert.InBwdIdeal.Blocks

open Cert.InBwdIdeal Cert.InBwdIdeal.Gen Cert.InBwdIdeal.Value Cert.Proof.Net

variable (m : (ℓ : Loc nD τ sig) → Buf (Elt Ideal) ℓ) (c : Dev nD) (d : InData)

/-- The program's arguments are these real numbers. -/
structure Args : Prop where
  r0 : ∀ t k, m (c, Proc.devRef .tc main_arg0) (ix2 t k) = ((d.X t k : ℝ) : EReal)
  r1 : ∀ k, m (c, Proc.devRef .tc main_arg1) (ix1 k) = ((d.gp k : ℝ) : EReal)
  r3 : ∀ k, m (c, Proc.devRef .tc main_arg3) (ix1 k) = ((d.sc k : ℝ) : EReal)
  r5 : ∀ t (a : Fin 8), m (c, Proc.devRef .tc main_arg5) (ix2 t a) = ((d.CO t a.val : ℝ) : EReal)
  r6 : ∀ t (a : Fin 8), m (c, Proc.devRef .tc main_arg6) (ix2 t a) = ((d.SI t a.val : ℝ) : EReal)
  r7 : ∀ k j, m (c, Proc.devRef .tc main_arg7) (ix2 k j) = ((d.W k j : ℝ) : EReal)
  r8 : ∀ t (h : Fin 8) (a : Fin 64), m (c, Proc.devRef .tc main_arg8) (ix3 t h a) = ((d.DQ t (64 * h.val + a.val) : ℝ) : EReal)
  r9 : ∀ t (g k : Fin 2) (a : Fin 64), m (c, Proc.devRef .tc main_arg9) (ix4 t g k a) = ((d.DK t (128 * g.val + (64 * k.val + a.val)) : ℝ) : EReal)
  r10 : ∀ t (g k : Fin 2) (a : Fin 64), m (c, Proc.devRef .tc main_arg10) (ix4 t g k a) = ((d.DV t (128 * g.val + (64 * k.val + a.val)) : ℝ) : EReal)
  r11 : ∀ t (j : Fin 512), m (c, Proc.devRef .tc main_arg11) (ix2 t j) = ((d.DU t j.val : ℝ) : EReal)
  r12 : ∀ t k, m (c, Proc.devRef .tc main_arg12) (ix2 t k) = ((d.CT t k : ℝ) : EReal)

/-- A rotary table: two pieces of eight columns and one of the rest, twice over. -/
def twice (a b : FVec Ideal S8192x8 .f32) (z : FVec Ideal S8192x48 .f32) : FVec Ideal S8192x128 .f32 :=
  concatenate S8192x128 1 [
    ⟨S8192x64, concatenate S8192x64 1 [⟨S8192x8, a⟩, ⟨S8192x8, b⟩, ⟨S8192x48, z⟩] concatenates_S8192x8_S8192x8_S8192x48_S8192x64_d1⟩,
    ⟨S8192x64, concatenate S8192x64 1 [⟨S8192x8, a⟩, ⟨S8192x8, b⟩, ⟨S8192x48, z⟩] concatenates_S8192x8_S8192x8_S8192x48_S8192x64_d1⟩]
    concatenates_S8192x64_S8192x64_S8192x128_d1

theorem piece_at (a b : FVec Ideal S8192x8 .f32) (z : FVec Ideal S8192x48 .f32) (A B : ℕ → ℝ) (Z : ℝ) (t : Fin 8192)
    (ha : ∀ i : Fin 8, a (ix2 t i) = ((A i.val : ℝ) : EReal)) (hb : ∀ i : Fin 8, b (ix2 t i) = ((B i.val : ℝ) : EReal))
    (hz : ∀ i : Fin 48, z (ix2 t i) = ((Z : ℝ) : EReal)) (l : Fin 64) :
    concatenate S8192x64 1 [⟨S8192x8, a⟩, ⟨S8192x8, b⟩, ⟨S8192x48, z⟩] concatenates_S8192x8_S8192x8_S8192x48_S8192x64_d1 (ix2 t l)
      = (((if l.val < 8 then A l.val else if l.val < 16 then B (l.val - 8) else Z) : ℝ) : EReal) := by
  by_cases h1 : l.val < 8
  · rw [if_pos h1, cat1 _ (k := 0) (by show 0 < 3; decide) rfl rfl t l ⟨l.val, h1⟩ (Nat.zero_add _), ha]
  · rw [if_neg h1]
    by_cases h2 : l.val < 16
    · rw [if_pos h2, cat1 _ (k := 1) (by show 1 < 3; decide) rfl rfl t l (⟨l.val - 8, by omega⟩ : Fin 8) (by show 8 + (l.val - 8) = l.val; omega), hb]
    · rw [if_neg h2, cat1 _ (k := 2) (by show 2 < 3; decide) rfl rfl t l (⟨l.val - 16, by omega⟩ : Fin 48) (by show 16 + (l.val - 16) = l.val; omega), hz]

theorem twice_at (a b : FVec Ideal S8192x8 .f32) (z : FVec Ideal S8192x48 .f32) (A B : ℕ → ℝ) (Z : ℝ) (t : Fin 8192)
    (ha : ∀ i : Fin 8, a (ix2 t i) = ((A i.val : ℝ) : EReal)) (hb : ∀ i : Fin 8, b (ix2 t i) = ((B i.val : ℝ) : EReal))
    (hz : ∀ i : Fin 48, z (ix2 t i) = ((Z : ℝ) : EReal)) (l : Fin 128) :
    twice a b z (ix2 t l) = (((if l.val % 64 < 8 then A (l.val % 64) else if l.val % 64 < 16 then B (l.val % 64 - 8) else Z) : ℝ) : EReal) := by
  unfold twice
  by_cases h1 : l.val < 64
  · rw [cat1 _ (k := 0) (by show 0 < 2; decide) rfl rfl t l ⟨l.val, h1⟩ (Nat.zero_add _), piece_at a b z A B Z t ha hb hz]
    rw [Nat.mod_eq_of_lt h1]
  · rw [cat1 _ (k := 1) (by show 1 < 2; decide) rfl rfl t l (⟨l.val - 64, by omega⟩ : Fin 64) (by show 64 + (l.val - 64) = l.val; omega), piece_at a b z A B Z t ha hb hz]
    rw [show l.val % 64 = l.val - 64 by omega]

/-- A piece of eight columns, or one of the rest, with one value throughout. -/
def all8 (b : BitVec 32) : FVec Ideal S8192x8 .f32 := broadcastInDim S8192x8 ![] bcast_S_S8192x8 (constant (F := Ideal) S_ .f32 b)
def all48 (b : BitVec 32) : FVec Ideal S8192x48 .f32 := broadcastInDim S8192x48 ![] bcast_S_S8192x48 (constant (F := Ideal) S_ .f32 b)

theorem v4_eq : V m c main_v4 = twice (m (c, Proc.devRef .tc main_arg5)) (m (c, Proc.devRef .tc main_arg5)) (all48 0x3f800000#32) := by
  unfold V twice all48
  after_results <;> rfl
theorem v7_eq : V m c main_v7 = twice (Host.negf (F := Ideal) (φ := .f32) (s := S8192x8) (m (c, Proc.devRef .tc main_arg6))) (all8 0x00000000#32) (all48 0x00000000#32) := by
  unfold V twice all48 all8
  after_results <;> rfl
theorem v9_eq : V m c main_v9 = twice (all8 0x00000000#32) (m (c, Proc.devRef .tc main_arg6)) (all48 0x00000000#32) := by
  unfold V twice all48 all8
  after_results <;> rfl

theorem zero8 (t : Fin 8192) (i : Fin 8) : all8 0x00000000#32 (ix2 t i) = ((0 : ℝ) : EReal) := bits_zero
theorem zero48 (t : Fin 8192) (i : Fin 48) : all48 0x00000000#32 (ix2 t i) = ((0 : ℝ) : EReal) := bits_zero
theorem one48 (t : Fin 8192) (i : Fin 48) : all48 0x3f800000#32 (ix2 t i) = ((1 : ℝ) : EReal) := bits_one

variable {m c d} (R : Args m c d)
include R

theorem e0 (t : Fin 8192) (j : Fin 512) : V m c main_v10 (ix2 t j) = ((d.DQ t j.val : ℝ) : EReal) := by
  unfold V
  after_reads_at
  rw [R.r8]
  refine congrArg _ (congrArg _ ?_)
  show 64 * (j.val / 64) + j.val % 64 = j.val
  omega

theorem e1 (r : Fin 7168) (j : Fin 256) : V m c main_v13 (ix2 r j) = ((d.DK (mainRow r) j.val : ℝ) : EReal) := by
  unfold V
  after_reads_at
  rw [R.r9]
  refine congrArg _ (congr (congrArg _ (Fin.ext ?_)) ?_)
  · simp only [mainRow]
    omega
  · show 128 * (j.val / 128) + (64 * (j.val / 64 % 2) + j.val % 64) = j.val
    omega

theorem e2 (r : Fin 1024) (j : Fin 256) : V m c main_v15 (ix2 r j) = ((d.DK (tailRow r) j.val : ℝ) : EReal) := by
  unfold V
  after_reads_at
  rw [R.r9]
  refine congrArg _ (congr (congrArg _ (Fin.ext ?_)) ?_)
  · simp only [tailRow]
    omega
  · show 128 * (j.val / 128) + (64 * (j.val / 64 % 2) + j.val % 64) = j.val
    omega

theorem e3 (r : Fin 7168) (j : Fin 256) : V m c main_v18 (ix2 r j) = ((d.DV (mainRow r) j.val : ℝ) : EReal) := by
  unfold V
  after_reads_at
  rw [R.r10]
  refine congrArg _ (congr (congrArg _ (Fin.ext ?_)) ?_)
  · simp only [mainRow]
    omega
  · show 128 * (j.val / 128) + (64 * (j.val / 64 % 2) + j.val % 64) = j.val
    omega

theorem e4 (r : Fin 1024) (j : Fin 256) : V m c main_v20 (ix2 r j) = ((d.DV (tailRow r) j.val : ℝ) : EReal) := by
  unfold V
  after_reads_at
  rw [R.r10]
  refine congrArg _ (congr (congrArg _ (Fin.ext ?_)) ?_)
  · simp only [tailRow]
    omega
  · show 128 * (j.val / 128) + (64 * (j.val / 64 % 2) + j.val % 64) = j.val
    omega

theorem e6 (t : Fin 8192) (l : Fin 128) : V m c main_v4 (ix2 t l) = ((tabC (d.CO t) l.val : ℝ) : EReal) := by
  rw [v4_eq, twice_at _ _ _ (d.CO t) (d.CO t) 1 t (R.r5 t) (R.r5 t) (one48 t)]
  rfl
theorem e7 (t : Fin 8192) (l : Fin 128) : V m c main_v7 (ix2 t l) = ((tabN (d.SI t) l.val : ℝ) : EReal) := by
  rw [v7_eq, twice_at _ _ _ (fun i => -d.SI t i) (fun _ => 0) 0 t (fun i => (congrArg (fun v : EReal => -v) (R.r6 t i)).trans (EReal.coe_neg _).symm) (zero8 t) (zero48 t)]
  unfold tabN
  rw [ite_self]
theorem e8 (t : Fin 8192) (l : Fin 128) : V m c main_v9 (ix2 t l) = ((tabS (d.SI t) l.val : ℝ) : EReal) := by
  rw [v9_eq, twice_at _ _ _ (fun _ => 0) (d.SI t) 0 t (zero8 t) (R.r6 t) (zero48 t)]
  rfl

theorem e11 (k : Fin 1024) : V m c main_v25 (ix2 1 k) = ((d.sc k : ℝ) : EReal) := by
  unfold V
  after_reads_at
  after_reads_at
  exact R.r3 k
theorem e12 (k : Fin 1024) : V m c main_v28 (ix2 0 k) = ((d.gp k : ℝ) : EReal) := by
  unfold V
  after_reads_at
  exact R.r1 k
theorem e13 (j : Fin 1280) (k : Fin 1024) : V m c main_v30 (ix2 j k) = ((d.W k j : ℝ) : EReal) := by
  unfold V
  after_reads_at
  exact R.r7 k j

/-- The arrays the kernel is called with. -/
theorem entry : Entry m c d where
  e0 := e0 R
  e1 := e1 R
  e2 := e2 R
  e3 := e3 R
  e4 := e4 R
  e5 := by rw [V_main_arg11 m c]; exact R.r11
  e6 := e6 R
  e7 := e7 R
  e8 := e8 R
  e9 := by rw [V_main_arg0 m c]; exact R.r0
  e10 := by rw [V_main_arg12 m c]; exact R.r12
  e11 := e11 R
  e12 := e12 R
  e13 := e13 R

end Cert.InBwdIdeal.Blocks
-- ==== Proof.InBwd.Reference.lean ====
/-
  The reference's arrays of the input block's backward pass, read at an index over real arguments.
-/
module

public import proofs.«01_k».proof.Proof.Gen.InBwdRefIdeal.Read
public import proofs.«01_k».proof.Proof.Net.InBlock
public import Idealize.ShloMosaic.Lib.Pointwise

@[expose] public section

set_option maxRecDepth 16384

noncomputable section

open Idealize.ShloMosaic Idealize.ShloMosaic.TcCoe Idealize.SL.Sem

namespace Cert.InBwdRefIdeal.Value

open Cert.InBwdRefIdeal Cert.InBwdRefIdeal.Gen Cert.InBwdRefIdeal.Read Cert.Proof Cert.Proof.Net

/-! ## Columns counted through the heads -/

theorem turn_lo (v co si : ℕ → ℝ) (h a : ℕ) (ha : a < 8) : turn v co si (64 * h + a) = v (64 * h + a) * co a + v (64 * h + (8 + a)) * si a := by
  unfold turn
  rw [show (64 * h + a) % 64 = a by omega, if_pos ha, show 64 * h + a + 8 = 64 * h + (8 + a) by omega]
theorem turn_mid (v co si : ℕ → ℝ) (h a : ℕ) (ha : a < 8) : turn v co si (64 * h + (8 + a)) = v (64 * h + (8 + a)) * co a - v (64 * h + a) * si a := by
  unfold turn
  rw [show (64 * h + (8 + a)) % 64 = 8 + a by omega, if_neg (by omega), if_pos (by omega), show 64 * h + (8 + a) - 8 = 64 * h + a by omega,
    Nat.add_sub_cancel_left]
theorem turn_hi (v co si : ℕ → ℝ) (h a : ℕ) (ha : a < 48) : turn v co si (64 * h + (16 + a)) = v (64 * h + (16 + a)) := by
  unfold turn
  rw [show (64 * h + (16 + a)) % 64 = 16 + a by omega, if_neg (by omega), if_neg (by omega)]
theorem fold_at (v : ℕ → ℝ) (g a : ℕ) (ha : a < 64) : fold v (64 * g + a) = v (128 * g + a) + v (128 * g + (64 + a)) := by
  unfold fold
  rw [show (64 * g + a) / 64 * 128 = 128 * g by omega, show (64 * g + a) % 64 = a by omega]

section

variable (x0 : FVec Ideal S8192x1024 .f32) (x1 x3 : FVec Ideal S1024 .f32) (x5 x6 : FVec Ideal S8192x8 .f32) (x7 : FVec Ideal S1024x1280 .f32)
  (x8 : FVec Ideal S8192x8x64 .f32) (x9 x10 : FVec Ideal S8192x2x2x64 .f32) (x11 : FVec Ideal S8192x512 .f32) (x12 : FVec Ideal S8192x1024 .f32) (d : InData)

/-- The arguments are these real numbers. -/
structure Reads : Prop where
  r0 : ∀ t k, x0 (ix2 t k) = (d.X t k : EReal)
  r1 : ∀ k, x1 (ix1 k) = (d.gp k : EReal)
  r3 : ∀ k, x3 (ix1 k) = (d.sc k : EReal)
  r5 : ∀ t (a : Fin 8), x5 (ix2 t a) = (d.CO t a.val : EReal)
  r6 : ∀ t (a : Fin 8), x6 (ix2 t a) = (d.SI t a.val : EReal)
  r7 : ∀ k j, x7 (ix2 k j) = (d.W k j : EReal)
  r8 : ∀ t (h : Fin 8) (a : Fin 64), x8 (ix3 t h a) = (d.DQ t (64 * h.val + a.val) : EReal)
  r9 : ∀ t (g c : Fin 2) (a : Fin 64), x9 (ix4 t g c a) = (d.DK t (128 * g.val + (64 * c.val + a.val)) : EReal)
  r10 : ∀ t (g c : Fin 2) (a : Fin 64), x10 (ix4 t g c a) = (d.DV t (128 * g.val + (64 * c.val + a.val)) : EReal)
  r11 : ∀ t (c : Fin 512), x11 (ix2 t c) = (d.DU t c.val : EReal)
  r12 : ∀ t k, x12 (ix2 t k) = (d.CT t k : EReal)

variable {x0 x1 x3 x5 x6 x7 x8 x9 x10 x11 x12 d} (R : Reads x0 x1 x3 x5 x6 x7 x8 x9 x10 x11 x12 d) (t : Fin 8192) (k : Fin 1024)
include R

/-! ## The gradient of the projection's output -/

theorem at_v75 (g : Fin 2) (a : Fin 64) : val_main_v75 (F := Ideal) x10 (ix3 t g a) = ((fold (d.DV t) (64 * g.val + a.val) : ℝ) : EReal) := by
  pointwise [val_main_v75, val_main_v74, val_main_v73, val_main_cst_5, val_main_cst_6]
  simp only [R.r10, bits_zero, zero_add, Finset.univ_unique, Finset.sum_singleton, Fin.default_eq_zero, Fin.sum_univ_two, add]
  refine congrArg _ ?_
  rw [fold_at _ _ _ a.isLt]
  congr 2
  show 128 * g.val + (64 * 0 + a.val) = 128 * g.val + a.val
  omega

theorem at_v78 (g : Fin 2) (a : Fin 64) : val_main_v78 (F := Ideal) x9 (ix3 t g a) = ((fold (d.DK t) (64 * g.val + a.val) : ℝ) : EReal) := by
  pointwise [val_main_v78, val_main_v77, val_main_v76, val_main_cst_7, val_main_cst_8]
  simp only [R.r9, bits_zero, zero_add, Finset.univ_unique, Finset.sum_singleton, Fin.default_eq_zero, Fin.sum_univ_two, add]
  refine congrArg _ ?_
  rw [fold_at _ _ _ a.isLt]
  congr 2
  show 128 * g.val + (64 * 0 + a.val) = 128 * g.val + a.val
  omega

theorem at_v97 (h : Fin 8) (a : Fin 64) : val_main_v97 (F := Ideal) x8 (ix3 t h a) = ((d.DQ t (64 * h.val + a.val) * (1 / 8) : ℝ) : EReal) := by
  pointwise [val_main_v97, val_main_v96, val_main_cst_9]
  simp only [R.r8, bits_eighth, mul]

theorem at_v93 (g : Fin 2) (a : Fin 8) : val_main_v93 (F := Ideal) x5 x6 x9 (ix3 t g a) = ((turn (fold (d.DK t)) (d.CO t) (d.SI t) (64 * g.val + a.val) : ℝ) : EReal) := by
  pointwise [val_main_v93, val_main_v92, val_main_v91, val_main_v84, val_main_v83, val_main_v80, val_main_v81, val_main_v52, val_main_v53]
  simp only [at_v78 R, R.r5, R.r6, mul, add]
  refine congrArg _ ?_
  rw [turn_lo _ _ _ _ _ a.isLt]
  exact add_comm _ _

theorem at_v90 (g : Fin 2) (a : Fin 8) : val_main_v90 (F := Ideal) x5 x6 x9 (ix3 t g a) = ((turn (fold (d.DK t)) (d.CO t) (d.SI t) (64 * g.val + (8 + a.val)) : ℝ) : EReal) := by
  pointwise [val_main_v90, val_main_v89, val_main_v88, val_main_v87, val_main_v86, val_main_v85, val_main_v80, val_main_v81, val_main_v52, val_main_v53]
  simp only [at_v78 R, R.r5, R.r6, mul, neg, add]
  refine congrArg _ ?_
  rw [turn_mid _ _ _ _ _ a.isLt]
  ring

theorem at_v82 (g : Fin 2) (a : Fin 48) : val_main_v82 (F := Ideal) x9 (ix3 t g a) = ((turn (fold (d.DK t)) (d.CO t) (d.SI t) (64 * g.val + (16 + a.val)) : ℝ) : EReal) := by
  pointwise [val_main_v82]
  rw [at_v78 R, turn_hi _ _ _ _ _ a.isLt]

theorem at_v94 (g : Fin 2) (a : Fin 64) : val_main_v94 (F := Ideal) x5 x6 x9 (ix3 t g a) = ((turn (fold (d.DK t)) (d.CO t) (d.SI t) (64 * g.val + a.val) : ℝ) : EReal) := by
  unfold val_main_v94
  by_cases h1 : a.val < 8
  · exact (cat2 _ (k := 0) (m := 8) (pre := 0) (by show 0 < 3; decide) rfl rfl t g a ⟨a.val, h1⟩ (Nat.zero_add _)).trans (at_v93 R t g _)
  by_cases h2 : a.val < 16
  · refine (cat2 _ (k := 1) (m := 8) (pre := 8) (by show 1 < 3; decide) rfl rfl t g a ⟨a.val - 8, by omega⟩ (by show 8 + (a.val - 8) = a.val; omega)).trans ((at_v90 R t g _).trans ?_)
    rw [show 8 + (a.val - 8) = a.val by omega]
  · refine (cat2 _ (k := 2) (m := 48) (pre := 16) (by show 2 < 3; decide) rfl rfl t g a ⟨a.val - 16, by omega⟩ (by show 16 + (a.val - 16) = a.val; omega)).trans ((at_v82 R t g _).trans ?_)
    rw [show 16 + (a.val - 16) = a.val by omega]

theorem at_v111 (h : Fin 8) (a : Fin 8) : val_main_v111 (F := Ideal) x5 x6 x8 (ix3 t h a) = ((d.pq t (64 * h.val + a.val) : ℝ) : EReal) := by
  pointwise [val_main_v111, val_main_v110, val_main_v109, val_main_v102, val_main_v101, val_main_v98, val_main_v99, val_main_v33, val_main_v34]
  simp only [at_v97 R, R.r5, R.r6, mul, add]
  refine congrArg _ ?_
  unfold InData.pq
  rw [turn_lo _ _ _ _ _ a.isLt]
  exact add_comm _ _

theorem at_v108 (h : Fin 8) (a : Fin 8) : val_main_v108 (F := Ideal) x5 x6 x8 (ix3 t h a) = ((d.pq t (64 * h.val + (8 + a.val)) : ℝ) : EReal) := by
  pointwise [val_main_v108, val_main_v107, val_main_v106, val_main_v105, val_main_v104, val_main_v103, val_main_v98, val_main_v99, val_main_v33, val_main_v34]
  simp only [at_v97 R, R.r5, R.r6, mul, neg, add]
  refine congrArg _ ?_
  unfold InData.pq
  rw [turn_mid _ _ _ _ _ a.isLt]
  ring

theorem at_v100 (h : Fin 8) (a : Fin 48) : val_main_v100 (F := Ideal) x8 (ix3 t h a) = ((d.pq t (64 * h.val + (16 + a.val)) : ℝ) : EReal) := by
  pointwise [val_main_v100]
  unfold InData.pq
  rw [at_v97 R, turn_hi _ _ _ _ _ a.isLt]

theorem at_v112 (h : Fin 8) (a : Fin 64) : val_main_v112 (F := Ideal) x5 x6 x8 (ix3 t h a) = ((d.pq t (64 * h.val + a.val) : ℝ) : EReal) := by
  unfold val_main_v112
  by_cases h1 : a.val < 8
  · exact (cat2 _ (k := 0) (m := 8) (pre := 0) (by show 0 < 3; decide) rfl rfl t h a ⟨a.val, h1⟩ (Nat.zero_add _)).trans (at_v111 R t h _)
  by_cases h2 : a.val < 16
  · refine (cat2 _ (k := 1) (m := 8) (pre := 8) (by show 1 < 3; decide) rfl rfl t h a ⟨a.val - 8, by omega⟩ (by show 8 + (a.val - 8) = a.val; omega)).trans ((at_v108 R t h _).trans ?_)
    rw [show 8 + (a.val - 8) = a.val by omega]
  · refine (cat2 _ (k := 2) (m := 48) (pre := 16) (by show 2 < 3; decide) rfl rfl t h a ⟨a.val - 16, by omega⟩ (by show 16 + (a.val - 16) = a.val; omega)).trans ((at_v100 R t h _).trans ?_)
    rw [show 16 + (a.val - 16) = a.val by omega]

theorem at_v113 (c : Fin 512) : val_main_v113 (F := Ideal) x5 x6 x8 (ix2 t c) = ((d.pq t c.val : ℝ) : EReal) := by
  have e : idx_main_v113 (ix2 t c) = ix3 t ⟨c.val / 64, by omega⟩ ⟨c.val % 64, by omega⟩ := by
    funext a
    match a with
    | 0 => exact Fin.ext (by show (t.val * 512 + c.val) / 512 = t.val; omega)
    | 1 => exact Fin.ext (by show (t.val * 512 + c.val) / 64 % 8 = c.val / 64; omega)
    | 2 => exact Fin.ext (by show (t.val * 512 + c.val) % 64 = c.val % 64; omega)
  rw [val_main_v113_apply, e, at_v112 R, show 64 * (c.val / 64) + c.val % 64 = c.val by omega]

theorem at_v95 (c : Fin 128) : val_main_v95 (F := Ideal) x5 x6 x9 (ix2 t c) = ((d.pk t c.val : ℝ) : EReal) := by
  have e : idx_main_v95 (ix2 t c) = ix3 t ⟨c.val / 64, by omega⟩ ⟨c.val % 64, by omega⟩ := by
    funext a
    match a with
    | 0 => exact Fin.ext (by show (t.val * 128 + c.val) / 128 = t.val; omega)
    | 1 => exact Fin.ext (by show (t.val * 128 + c.val) / 64 % 2 = c.val / 64; omega)
    | 2 => exact Fin.ext (by show (t.val * 128 + c.val) % 64 = c.val % 64; omega)
  rw [val_main_v95_apply, e, at_v94 R, show 64 * (c.val / 64) + c.val % 64 = c.val by omega]
  rfl

theorem at_v79 (c : Fin 128) : val_main_v79 (F := Ideal) x10 (ix2 t c) = ((d.pv t c.val : ℝ) : EReal) := by
  have e : idx_main_v79 (ix2 t c) = ix3 t ⟨c.val / 64, by omega⟩ ⟨c.val % 64, by omega⟩ := by
    funext a
    match a with
    | 0 => exact Fin.ext (by show (t.val * 128 + c.val) / 128 = t.val; omega)
    | 1 => exact Fin.ext (by show (t.val * 128 + c.val) / 64 % 2 = c.val / 64; omega)
    | 2 => exact Fin.ext (by show (t.val * 128 + c.val) % 64 = c.val % 64; omega)
  rw [val_main_v79_apply, e, at_v75 R, show 64 * (c.val / 64) + c.val % 64 = c.val by omega]
  rfl

theorem at_v114 (j : Fin 1280) : val_main_v114 (F := Ideal) x5 x6 x8 x9 x10 x11 (ix2 t j) = ((d.P t j.val : ℝ) : EReal) := by
  unfold val_main_v114
  by_cases h0 : j.val < 512
  · refine (cat1 _ (k := 0) (m := 512) (pre := 0) (by show 0 < 4; decide) rfl rfl t j ⟨j.val, h0⟩ (Nat.zero_add _)).trans ((at_v113 R t _).trans ?_)
    exact congrArg _ (d.P_q t h0).symm
  by_cases h1 : j.val < 640
  · refine (cat1 _ (k := 1) (m := 128) (pre := 512) (by show 1 < 4; decide) rfl rfl t j ⟨j.val - 512, by omega⟩ (by show 512 + (j.val - 512) = j.val; omega)).trans ((at_v95 R t _).trans ?_)
    exact congrArg _ (d.P_k t (by omega) h1).symm
  by_cases h2 : j.val < 768
  · refine (cat1 _ (k := 2) (m := 128) (pre := 640) (by show 2 < 4; decide) rfl rfl t j ⟨j.val - 640, by omega⟩ (by show 640 + (j.val - 640) = j.val; omega)).trans ((at_v79 R t _).trans ?_)
    exact congrArg _ (d.P_v t (by omega) h2).symm
  · refine (cat1 _ (k := 3) (m := 512) (pre := 768) (by show 3 < 4; decide) rfl rfl t j ⟨j.val - 768, by omega⟩ (by show 768 + (j.val - 768) = j.val; omega)).trans ((R.r11 t _).trans ?_)
    exact congrArg _ (d.P_u t (by omega)).symm

/-! ## The norm -/

theorem at_v6 : val_main_v6 (F := Ideal) x0 (ix2 t 0) = ((var (d.X t) : ℝ) : EReal) := by
  pointwise [val_main_v6, val_main_v5, val_main_v4, val_main_v3, val_main_v2, val_main_v1, val_main_v0, val_main_cst, val_main_cst_0, val_main_cst_1]
  simp only [R.r0, bits_zero, bits_mean, bits_eps, mul, sum, add, div _ _ (show (1024 : ℝ) ≠ 0 by norm_num), zero_add]
  rfl

theorem at_v7 : val_main_v7 (F := Ideal) x0 (ix2 t 0) = ((inv (d.X t) : ℝ) : EReal) := by
  pointwise [val_main_v7]
  simp only [at_v6 R, rsqrt _ (var_pos _)]
  rfl

theorem at_v10 : val_main_v10 (F := Ideal) x0 (ix2 t 0) = ((-(1 / 2) * (inv (d.X t) / var (d.X t)) : ℝ) : EReal) := by
  pointwise [val_main_v10, val_main_v9, val_main_v8, val_main_cst_2]
  simp only [at_v6 R, at_v7 R, bits_half, div _ _ (var_pos _).ne', mul]

theorem at_v12 : val_main_v12 (F := Ideal) x0 (ix2 t k) = ((norm (d.X t) k : ℝ) : EReal) := by
  pointwise [val_main_v12, val_main_v11]
  simp only [R.r0, at_v7 R, mul]
  rfl

theorem at_v118 : val_main_v118 (F := Ideal) x5 x6 x7 x8 x9 x10 x11 (ix2 t k) = ((d.dh t k : ℝ) : EReal) := by
  pointwise [val_main_v118]
  simp only [at_v114 R, R.r7, mul, sum]
  rfl

theorem at_v132 : val_main_v132 (F := Ideal) x1 x3 x5 x6 x7 x8 x9 x10 x11 (ix2 t k) = ((d.dh t k * (1 + d.sc k) * d.gp k : ℝ) : EReal) := by
  pointwise [val_main_v132, val_main_v131, val_main_v126, val_main_v125, val_main_v18, val_main_v17, val_main_v16, val_main_v13, val_main_cst_3]
  simp only [at_v118 R, R.r1, R.r3, bits_one, mul, add]
  rfl

theorem at_v142 : val_main_v142 (F := Ideal) x0 x1 x3 x5 x6 x7 x8 x9 x10 x11 (ix1 t) = (((∑ i, d.X t i * (d.dh t i * (1 + d.sc i) * d.gp i)) * (-(1 / 2) * (inv (d.X t) / var (d.X t))) / 1024 : ℝ) : EReal) := by
  pointwise [val_main_v142, val_main_v141, val_main_v140, val_main_v139, val_main_v136, val_main_v135, val_main_v134, val_main_cst_18, val_main_cst_19, val_main_cst_20]
  simp only [R.r0, at_v10 R, at_v132 R, bits_zero, bits_mean, mul, sum, add, div _ _ (show (1024 : ℝ) ≠ 0 by norm_num), zero_add, Finset.univ_unique, Finset.sum_singleton, Fin.default_eq_zero]

theorem at_v148 : val_main_v148 (F := Ideal) x0 x1 x3 x5 x6 x7 x8 x9 x10 x11 x12 (ix2 t k) = ((d.dx t k : ℝ) : EReal) := by
  pointwise [val_main_v148, val_main_v147, val_main_v146, val_main_v145, val_main_v144, val_main_v143, val_main_v138, val_main_v137]
  simp only [R.r0, R.r12, at_v7 R, at_v132 R, at_v142 R, mul, add]
  exact congrArg _ (congrArg (d.CT t k + ·) (normBwd_eq (d.X t) (fun k => d.dh t k * (1 + d.sc k) * d.gp k) k))

theorem at_v149 (j : Fin 1280) : val_main_v149 (F := Ideal) x5 x6 x8 x9 x10 x11 (ix2 t j) = ((d.P t j.val : ℝ) : EReal) := by
  pointwise [val_main_v149]
  exact at_v114 R t j

/-! ## The sums over the rows -/

theorem at_v121 : val_main_v121 (F := Ideal) x5 x6 x7 x8 x9 x10 x11 (ix1 k) = ((d.rows k 0 : ℝ) : EReal) := by
  pointwise [val_main_v121, val_main_v120, val_main_v119, val_main_cst_12, val_main_cst_13]
  simp only [at_v118 R, bits_zero, mul, sum, add, zero_add, Finset.univ_unique, Finset.sum_singleton, Fin.default_eq_zero]
  rfl

theorem at_v127 : val_main_v127 (F := Ideal) x0 x1 x5 x6 x7 x8 x9 x10 x11 (ix1 k) = ((d.rows k 1 : ℝ) : EReal) := by
  pointwise [val_main_v127, val_main_v124, val_main_v123, val_main_v122, val_main_v15, val_main_v14, val_main_v13, val_main_cst_14, val_main_cst_15]
  simp only [at_v12 R, at_v118 R, R.r1, bits_zero, mul, sum, add, zero_add, Finset.univ_unique, Finset.sum_singleton, Fin.default_eq_zero]
  refine congrArg _ (Finset.sum_congr rfl fun t _ => ?_)
  ring

theorem at_v133 : val_main_v133 (F := Ideal) x0 x3 x5 x6 x7 x8 x9 x10 x11 (ix1 k) = ((d.rows k 2 : ℝ) : EReal) := by
  pointwise [val_main_v133, val_main_v130, val_main_v129, val_main_v128, val_main_v126, val_main_v125, val_main_v18, val_main_v17, val_main_v16, val_main_cst_3, val_main_cst_16, val_main_cst_17]
  simp only [at_v12 R, at_v118 R, R.r3, one, bits_one, bits_zero, mul, sum, add, zero_add, Finset.univ_unique, Finset.sum_singleton, Fin.default_eq_zero]
  refine congrArg _ (Finset.sum_congr rfl fun t _ => ?_)
  ring

theorem at_v155 (r : Fin 8) : val_main_v155 (F := Ideal) x0 x1 x3 x5 x6 x7 x8 x9 x10 x11 (ix2 r k) = ((d.rows k r : ℝ) : EReal) := by
  pointwise [val_main_v155, val_main_v153, val_main_v154, val_main_cst_21, val_main_v150, val_main_v151, val_main_v152]
  simp only [at_v121 R, at_v127 R, at_v133 R, bits_zero]
  match r with
  | 0 => rfl
  | 1 => rfl
  | 2 => rfl
  | 3 => rfl
  | 4 => rfl
  | 5 => rfl
  | 6 => rfl
  | 7 => rfl

theorem at_v117 (j : Fin 1280) : val_main_v117 (F := Ideal) x5 x6 x8 x9 x10 x11 (ix1 j) = ((d.bias j.val 0 : ℝ) : EReal) := by
  pointwise [val_main_v117, val_main_v116, val_main_v115, val_main_cst_10, val_main_cst_11]
  simp only [at_v114 R, bits_zero, mul, sum, add, zero_add, Finset.univ_unique, Finset.sum_singleton, Fin.default_eq_zero]
  rfl

theorem at_v158 (r : Fin 8) (j : Fin 1280) : val_main_v158 (F := Ideal) x5 x6 x8 x9 x10 x11 (ix2 r j) = ((d.bias j.val r : ℝ) : EReal) := by
  pointwise [val_main_v158, val_main_v156, val_main_v157, val_main_cst_22]
  simp only [at_v117 R, bits_zero]
  match r with
  | 0 => rfl
  | 1 => rfl
  | 2 => rfl
  | 3 => rfl
  | 4 => rfl
  | 5 => rfl
  | 6 => rfl
  | 7 => rfl

end

end Cert.InBwdRefIdeal.Value
-- ==== Proof.InBwd.Equation.lean ====
/-
  The input block's backward kernel and the reference end with the same four arrays, where the arguments are finite.
-/
module

public import proofs.«01_k».proof.Proof.InBwd.Entry
public import proofs.«01_k».proof.Proof.InBwd.Reference
public import proofs.«01_k».proof.Proof.Real
public import proofs.«01_k».proof.Proof.Gen.InBwdIdeal.Value
public import proofs.«01_k».proof.Proof.Gen.InBwdRefIdeal.Run
public import proofs.«01_k».proof.Proof.Gen.Pre_in_finite
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Proof.InBwd

open Cert.Proof.Net
open Cert.InBwdIdeal.Blocks (G14 G15 G16 G17)

section Arrays

variable (x0 : FVec Ideal Cert.Pre_in_finite.S8192x1024 .f32) (x1 : FVec Ideal Cert.Pre_in_finite.S1024 .f32) (x2 : FVec Ideal Cert.Pre_in_finite.S1024 .f32) (x3 : FVec Ideal Cert.Pre_in_finite.S1024 .f32) (x4 : FVec Ideal Cert.Pre_in_finite.S1280 .f32) (x5 : FVec Ideal Cert.Pre_in_finite.S8192x8 .f32) (x6 : FVec Ideal Cert.Pre_in_finite.S8192x8 .f32) (x7 : FVec Ideal Cert.Pre_in_finite.S1024x1280 .f32) (x8 : FVec Ideal Cert.Pre_in_finite.S8192x8x64 .f32) (x9 : FVec Ideal Cert.Pre_in_finite.S8192x2x2x64 .f32) (x10 : FVec Ideal Cert.Pre_in_finite.S8192x2x2x64 .f32) (x11 : FVec Ideal Cert.Pre_in_finite.S8192x512 .f32) (x12 : FVec Ideal Cert.Pre_in_finite.S8192x1024 .f32)

section Finite

open Cert.Pre_in_finite Cert.Pre_in_finite.Gen

instance : Subsingleton Cert.Pre_in_finite.S_.Idx := ⟨fun a b => funext fun i => i.elim0⟩

/-- The precondition says of each array it names that its elements are real. -/
theorem finite
    (h : Cert.Pre_in_finite.fn (F := Ideal) x0 x1 x2 x3 x4 x5 x6 x7 x8 x9 x10 x11 x12 = fun _ => 1#1) :
    (∀ i, IsReal (x0 i)) ∧ (∀ i, IsReal (x1 i)) ∧ (∀ i, IsReal (x3 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) := by
  have t10 := congrFun h (fun i => i.elim0)
  obtain ⟨t9, a10⟩ := IntOp.andi_eq_one.1 t10
  obtain ⟨t8, a9⟩ := IntOp.andi_eq_one.1 t9
  obtain ⟨t7, a8⟩ := IntOp.andi_eq_one.1 t8
  obtain ⟨t6, a7⟩ := IntOp.andi_eq_one.1 t7
  obtain ⟨t5, a6⟩ := IntOp.andi_eq_one.1 t6
  obtain ⟨t4, a5⟩ := IntOp.andi_eq_one.1 t5
  obtain ⟨t3, a4⟩ := IntOp.andi_eq_one.1 t4
  obtain ⟨t2, a3⟩ := IntOp.andi_eq_one.1 t3
  obtain ⟨t1, a2⟩ := IntOp.andi_eq_one.1 t2
  obtain ⟨t0, a1⟩ := IntOp.andi_eq_one.1 t1
  exact ⟨fun i => isReal_of_cmp _ (Host.reduce_andi_all _ _ _ _ _ t0 i),
    fun i => isReal_of_cmp _ (Host.reduce_andi_all _ _ _ _ _ a1 i),
    fun i => isReal_of_cmp _ (Host.reduce_andi_all _ _ _ _ _ a2 i),
    fun i => isReal_of_cmp _ (Host.reduce_andi_all _ _ _ _ _ a3 i),
    fun i => isReal_of_cmp _ (Host.reduce_andi_all _ _ _ _ _ a4 i),
    fun i => isReal_of_cmp _ (Host.reduce_andi_all _ _ _ _ _ a5 i),
    fun i => isReal_of_cmp _ (Host.reduce_andi_all _ _ _ _ _ a6 i),
    fun i => isReal_of_cmp _ (Host.reduce_andi_all _ _ _ _ _ a7 i),
    fun i => isReal_of_cmp _ (Host.reduce_andi_all _ _ _ _ _ a8 i),
    fun i => isReal_of_cmp _ (Host.reduce_andi_all _ _ _ _ _ a9 i),
    fun i => isReal_of_cmp _ (Host.reduce_andi_all _ _ _ _ _ a10 i)⟩

end Finite

/-- The real numbers in the arrays; the heads' gradients along the row. -/
def real (x0 : FVec Ideal Cert.Pre_in_finite.S8192x1024 .f32) (x1 : FVec Ideal Cert.Pre_in_finite.S1024 .f32) (x2 : FVec Ideal Cert.Pre_in_finite.S1024 .f32) (x3 : FVec Ideal Cert.Pre_in_finite.S1024 .f32) (x4 : FVec Ideal Cert.Pre_in_finite.S1280 .f32) (x5 : FVec Ideal Cert.Pre_in_finite.S8192x8 .f32) (x6 : FVec Ideal Cert.Pre_in_finite.S8192x8 .f32) (x7 : FVec Ideal Cert.Pre_in_finite.S1024x1280 .f32) (x8 : FVec Ideal Cert.Pre_in_finite.S8192x8x64 .f32) (x9 : FVec Ideal Cert.Pre_in_finite.S8192x2x2x64 .f32) (x10 : FVec Ideal Cert.Pre_in_finite.S8192x2x2x64 .f32) (x11 : FVec Ideal Cert.Pre_in_finite.S8192x512 .f32) (x12 : FVec Ideal Cert.Pre_in_finite.S8192x1024 .f32) : InData where
  X := fun t k => (x0 (ix2 t k)).toReal
  gp := fun k => (x1 (ix1 k)).toReal
  sh := fun k => (x2 (ix1 k)).toReal
  sc := fun k => (x3 (ix1 k)).toReal
  CO := fun t a => (x5 (ix2 t (⟨a % 8, by omega⟩ : Fin 8))).toReal
  SI := fun t a => (x6 (ix2 t (⟨a % 8, by omega⟩ : Fin 8))).toReal
  W := fun k j => (x7 (ix2 k j)).toReal
  DQ := fun t j => (x8 (ix3 t (⟨j / 64 % 8, by omega⟩ : Fin 8) (⟨j % 64, by omega⟩ : Fin 64))).toReal
  DK := fun t j => (x9 (ix4 t (⟨j / 128 % 2, by omega⟩ : Fin 2) (⟨j / 64 % 2, by omega⟩ : Fin 2) (⟨j % 64, by omega⟩ : Fin 64))).toReal
  DV := fun t j => (x10 (ix4 t (⟨j / 128 % 2, by omega⟩ : Fin 2) (⟨j / 64 % 2, by omega⟩ : Fin 2) (⟨j % 64, by omega⟩ : Fin 64))).toReal
  DU := fun t j => (x11 (ix2 t (⟨j % 512, by omega⟩ : Fin 512))).toReal
  CT := fun t k => (x12 (ix2 t k)).toReal

theorem toReal_eq {x : EReal} (h : IsReal x) : x = ((x.toReal : ℝ) : EReal) := by
  obtain ⟨r, rfl⟩ := h
  rfl

theorem eight (a : Fin 8) : (⟨a.val % 8, by omega⟩ : Fin 8) = a := Fin.ext (Nat.mod_eq_of_lt a.isLt)
theorem columns (a : Fin 512) : (⟨a.val % 512, by omega⟩ : Fin 512) = a := Fin.ext (Nat.mod_eq_of_lt a.isLt)
theorem head (h : Fin 8) (a : Fin 64) : (⟨(64 * h.val + a.val) / 64 % 8, by omega⟩ : Fin 8) = h := Fin.ext (by show (64 * h.val + a.val) / 64 % 8 = h.val; omega)
theorem lane (h : Fin 8) (a : Fin 64) : (⟨(64 * h.val + a.val) % 64, by omega⟩ : Fin 64) = a := Fin.ext (by show (64 * h.val + a.val) % 64 = a.val; omega)
theorem group (g c : Fin 2) (a : Fin 64) : (⟨(128 * g.val + (64 * c.val + a.val)) / 128 % 2, by omega⟩ : Fin 2) = g :=
  Fin.ext (by show (128 * g.val + (64 * c.val + a.val)) / 128 % 2 = g.val; omega)
theorem copy (g c : Fin 2) (a : Fin 64) : (⟨(128 * g.val + (64 * c.val + a.val)) / 64 % 2, by omega⟩ : Fin 2) = c :=
  Fin.ext (by show (128 * g.val + (64 * c.val + a.val)) / 64 % 2 = c.val; omega)
theorem lane2 (g c : Fin 2) (a : Fin 64) : (⟨(128 * g.val + (64 * c.val + a.val)) % 64, by omega⟩ : Fin 64) = a :=
  Fin.ext (by show (128 * g.val + (64 * c.val + a.val)) % 64 = a.val; omega)

/-- The arrays are their real numbers. -/
theorem reads
    (h : (∀ i, IsReal (x0 i)) ∧ (∀ i, IsReal (x1 i)) ∧ (∀ i, IsReal (x3 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i))) :
    Cert.InBwdRefIdeal.Value.Reads x0 x1 x3 x5 x6 x7 x8 x9 x10 x11 x12 (real x0 x1 x2 x3 x4 x5 x6 x7 x8 x9 x10 x11 x12) := by
  obtain ⟨h0, h1, h3, h5, h6, h7, h8, h9, h10, h11, h12⟩ := h
  exact ⟨fun t k => toReal_eq (h0 _), fun k => toReal_eq (h1 _), fun k => toReal_eq (h3 _),
    fun t a => by simp only [real, eight]; exact toReal_eq (h5 _),
    fun t a => by simp only [real, eight]; exact toReal_eq (h6 _),
    fun k j => toReal_eq (h7 _),
    fun t h a => by simp only [real, head, lane]; exact toReal_eq (h8 _),
    fun t g c a => by simp only [real, group, copy, lane2]; exact toReal_eq (h9 _),
    fun t g c a => by simp only [real, group, copy, lane2]; exact toReal_eq (h10 _),
    fun t a => by simp only [real, columns]; exact toReal_eq (h11 _),
    fun t k => toReal_eq (h12 _)⟩

end Arrays

section Equal

open Cert.InBwdRefIdeal Cert.InBwdRefIdeal.Value Cert.InBwdRefIdeal.Read

variable {x0 : FVec Ideal S8192x1024 .f32} {x1 x3 : FVec Ideal S1024 .f32} {x5 x6 : FVec Ideal S8192x8 .f32} {x7 : FVec Ideal S1024x1280 .f32}
  {x8 : FVec Ideal S8192x8x64 .f32} {x9 x10 : FVec Ideal S8192x2x2x64 .f32} {x11 : FVec Ideal S8192x512 .f32} {x12 : FVec Ideal S8192x1024 .f32} {d : InData} (R : Reads x0 x1 x3 x5 x6 x7 x8 x9 x10 x11 x12 d)
include R

theorem equal14 : val_main_v148 (F := Ideal) x0 x1 x3 x5 x6 x7 x8 x9 x10 x11 x12 = G14 d := by
  funext y
  idx_vars y
  exact at_v148 R y0 y1

theorem equal15 : val_main_v149 (F := Ideal) x5 x6 x8 x9 x10 x11 = G15 d := by
  funext y
  idx_vars y
  exact at_v149 R y0 y1

theorem equal16 : val_main_v155 (F := Ideal) x0 x1 x3 x5 x6 x7 x8 x9 x10 x11 = G16 d := by
  funext y
  idx_vars y
  exact at_v155 R y1 y0

theorem equal17 : val_main_v158 (F := Ideal) x5 x6 x8 x9 x10 x11 = G17 d := by
  funext y
  idx_vars y
  exact at_v158 R y0 y1

end Equal

/-- The kernel and the reference end with the same four arrays. -/
theorem algebraic : Cert.algebraic_InBwdIdeal_InBwdRefIdeal_pre_in_finite := by
  intro m g m' g' hpre hagree
  have hr := fun c : Dev Cert.InBwdIdeal.nD => reads (m (c, Proc.devRef .tc Cert.InBwdIdeal.main_arg0)) (m (c, Proc.devRef .tc Cert.InBwdIdeal.main_arg1)) (m (c, Proc.devRef .tc Cert.InBwdIdeal.main_arg2)) (m (c, Proc.devRef .tc Cert.InBwdIdeal.main_arg3)) (m (c, Proc.devRef .tc Cert.InBwdIdeal.main_arg4)) (m (c, Proc.devRef .tc Cert.InBwdIdeal.main_arg5)) (m (c, Proc.devRef .tc Cert.InBwdIdeal.main_arg6)) (m (c, Proc.devRef .tc Cert.InBwdIdeal.main_arg7)) (m (c, Proc.devRef .tc Cert.InBwdIdeal.main_arg8)) (m (c, Proc.devRef .tc Cert.InBwdIdeal.main_arg9)) (m (c, Proc.devRef .tc Cert.InBwdIdeal.main_arg10)) (m (c, Proc.devRef .tc Cert.InBwdIdeal.main_arg11)) (m (c, Proc.devRef .tc Cert.InBwdIdeal.main_arg12))
    (finite _ _ _ _ _ _ _ _ _ _ _ _ _ (hpre c))
  let D : Dev Cert.InBwdIdeal.nD → InData := fun c => real (m (c, Proc.devRef .tc Cert.InBwdIdeal.main_arg0)) (m (c, Proc.devRef .tc Cert.InBwdIdeal.main_arg1)) (m (c, Proc.devRef .tc Cert.InBwdIdeal.main_arg2)) (m (c, Proc.devRef .tc Cert.InBwdIdeal.main_arg3)) (m (c, Proc.devRef .tc Cert.InBwdIdeal.main_arg4)) (m (c, Proc.devRef .tc Cert.InBwdIdeal.main_arg5)) (m (c, Proc.devRef .tc Cert.InBwdIdeal.main_arg6)) (m (c, Proc.devRef .tc Cert.InBwdIdeal.main_arg7)) (m (c, Proc.devRef .tc Cert.InBwdIdeal.main_arg8)) (m (c, Proc.devRef .tc Cert.InBwdIdeal.main_arg9)) (m (c, Proc.devRef .tc Cert.InBwdIdeal.main_arg10)) (m (c, Proc.devRef .tc Cert.InBwdIdeal.main_arg11)) (m (c, Proc.devRef .tc Cert.InBwdIdeal.main_arg12))
  have hk : ∀ c, Cert.InBwdIdeal.Blocks.Args m c (D c) := fun c => ⟨(hr c).r0, (hr c).r1, (hr c).r3, (hr c).r5, (hr c).r6, (hr c).r7, (hr c).r8, (hr c).r9, (hr c).r10, (hr c).r11, (hr c).r12⟩
  have hv : ∀ c, Cert.InBwdRefIdeal.Value.Reads (StableHlo.launchContents m' c (Proc.devRef .tc Cert.InBwdRefIdeal.main_arg0)) (StableHlo.launchContents m' c (Proc.devRef .tc Cert.InBwdRefIdeal.main_arg1)) (StableHlo.launchContents m' c (Proc.devRef .tc Cert.InBwdRefIdeal.main_arg3)) (StableHlo.launchContents m' c (Proc.devRef .tc Cert.InBwdRefIdeal.main_arg5)) (StableHlo.launchContents m' c (Proc.devRef .tc Cert.InBwdRefIdeal.main_arg6)) (StableHlo.launchContents m' c (Proc.devRef .tc Cert.InBwdRefIdeal.main_arg7)) (StableHlo.launchContents m' c (Proc.devRef .tc Cert.InBwdRefIdeal.main_arg8)) (StableHlo.launchContents m' c (Proc.devRef .tc Cert.InBwdRefIdeal.main_arg9)) (StableHlo.launchContents m' c (Proc.devRef .tc Cert.InBwdRefIdeal.main_arg10)) (StableHlo.launchContents m' c (Proc.devRef .tc Cert.InBwdRefIdeal.main_arg11)) (StableHlo.launchContents m' c (Proc.devRef .tc Cert.InBwdRefIdeal.main_arg12)) (D c) := fun c => by
    have h := hr c
    exact ⟨fun t k => (congrFun ((hagree c).1) _).trans (h.r0 t k),
      fun k => (congrFun ((hagree c).2.1) _).trans (h.r1 k),
      fun k => (congrFun ((hagree c).2.2.2.1) _).trans (h.r3 k),
      fun t k => (congrFun ((hagree c).2.2.2.2.2.1) _).trans (h.r5 t k),
      fun t k => (congrFun ((hagree c).2.2.2.2.2.2.1) _).trans (h.r6 t k),
      fun t k => (congrFun ((hagree c).2.2.2.2.2.2.2.1) _).trans (h.r7 t k),
      fun t b a => (congrFun ((hagree c).2.2.2.2.2.2.2.2.1) _).trans (h.r8 t b a),
      fun t g k a => (congrFun ((hagree c).2.2.2.2.2.2.2.2.2.1) _).trans (h.r9 t g k a),
      fun t g k a => (congrFun ((hagree c).2.2.2.2.2.2.2.2.2.2.1) _).trans (h.r10 t g k a),
      fun t k => (congrFun ((hagree c).2.2.2.2.2.2.2.2.2.2.2.1) _).trans (h.r11 t k),
      fun t k => (congrFun ((hagree c).2.2.2.2.2.2.2.2.2.2.2.2) _).trans (h.r12 t k)⟩
  refine ⟨fun c => G14 (D c), fun c => G15 (D c), fun c => G16 (D c), fun c => G17 (D c), ?_, ?_⟩
  · refine (θ_run Cert.InBwdIdeal.defs _ _).mono (fun r h c => ?_) (Cert.InBwdIdeal.Value.run_blocks (F := Ideal) m g)
    have E := Cert.InBwdIdeal.Blocks.entry (hk c)
    exact ⟨(h c).1.trans (Cert.InBwdIdeal.Blocks.final14 E), (h c).2.1.trans (Cert.InBwdIdeal.Blocks.final15 E), (h c).2.2.1.trans (Cert.InBwdIdeal.Blocks.final16 E), (h c).2.2.2.1.trans (Cert.InBwdIdeal.Blocks.final17 E), (h c).2.2.2.2⟩
  · refine (θ_run Cert.InBwdRefIdeal.defs _ _).mono (fun r h c => ?_) (Cert.InBwdRefIdeal.Value.run (F := Ideal) m' g')
    exact ⟨((h c).1.trans (Cert.InBwdRefIdeal.Read.val_main_v148_eq _)).trans (equal14 (hv c)),
      ((h c).2.1.trans (Cert.InBwdRefIdeal.Read.val_main_v149_eq _)).trans (equal15 (hv c)),
      ((h c).2.2.1.trans (Cert.InBwdRefIdeal.Read.val_main_v155_eq _)).trans (equal16 (hv c)),
      ((h c).2.2.2.1.trans (Cert.InBwdRefIdeal.Read.val_main_v158_eq _)).trans (equal17 (hv c)),
      (h c).2.2.2.2⟩

/-- The reference ends, its arguments as they were and its semaphores at zero: it has none. -/
theorem frame_reference : Cert.quiescent_InBwdRefIdeal := by
  intro m g _
  refine (θ_run Cert.InBwdRefIdeal.defs _ _).mono (fun r h => ⟨fun c => (h c).2.2.2.2, ?_⟩) (Cert.InBwdRefIdeal.Value.run (F := Ideal) m g)
  exact Idealize.ShloMosaic.sem_eq_zero_of_no_sems (by decide) r.2

end Cert.Proof.InBwd
-- ==== Proof.lean ====
/-
  The proof of `Cert.Claim`: the frames are the generated ones and the references' own runs, and the equations of the
  kernels' and the references' results are in the modules under Proof.
-/
module

public import proofs.«01_k».proof.Defs
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolRefIdeal
public import proofs.«01_k».proof.Proof.Gen.Pre_pool_finite
public import proofs.«01_k».proof.Proof.Gen.PoolIdeal.Value
public import proofs.«01_k».proof.Proof.Gen.PoolRefIdeal.Run
public import proofs.«01_k».proof.Proof.Gen.PoolRefIdeal.Read
public import proofs.«01_k».proof.Proof.Pool.Equation
public import proofs.«01_k».proof.Proof.Gen.WGate
public import proofs.«01_k».proof.Proof.Gen.WGate.Skeleton
public import proofs.«01_k».proof.Proof.Gen.WGate.Launch
public import proofs.«01_k».proof.Proof.Gen.WGate.Points
public import proofs.«01_k».proof.Proof.Gen.WGate.Frame
public import proofs.«01_k».proof.Proof.Gen.WGateIdeal
public import proofs.«01_k».proof.Proof.Gen.WGateIdeal.Skeleton
public import proofs.«01_k».proof.Proof.Gen.WGateIdeal.Launch
public import proofs.«01_k».proof.Proof.Gen.WGateIdeal.Points
public import proofs.«01_k».proof.Proof.Gen.WGateIdeal.Frame
public import proofs.«01_k».proof.Proof.Gen.WGateRefIdeal
public import proofs.«01_k».proof.Proof.Gen.WGateIdeal.Value
public import proofs.«01_k».proof.Proof.Gen.WGateRefIdeal.Run
public import proofs.«01_k».proof.Proof.WGate.Equation
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_ffn_finite
public import proofs.«01_k».proof.Proof.Gen.FfnIdeal.Value
public import proofs.«01_k».proof.Proof.Gen.FfnRefIdeal.Run
public import proofs.«01_k».proof.Proof.Gen.FfnRefIdeal.Read
public import proofs.«01_k».proof.Proof.Ffn.Equation
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.Pre_fwd_finite
public import proofs.«01_k».proof.Proof.Gen.FwdIdeal.Value
public import proofs.«01_k».proof.Proof.Gen.FwdRefIdeal.Run
public import proofs.«01_k».proof.Proof.Gen.FwdRefIdeal.Read
public import proofs.«01_k».proof.Proof.Fwd.Equation
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Pre_loss_finite
public import proofs.«01_k».proof.Proof.Gen.LossIdeal.Value
public import proofs.«01_k».proof.Proof.Gen.LossRefIdeal.Run
public import proofs.«01_k».proof.Proof.Gen.LossRefIdeal.Read
public import proofs.«01_k».proof.Proof.Loss.Equation
public import proofs.«01_k».proof.Proof.Gen.AdamAdaW
public import proofs.«01_k».proof.Proof.Gen.AdamAdaW.Skeleton
public import proofs.«01_k».proof.Proof.Gen.AdamAdaW.Launch
public import proofs.«01_k».proof.Proof.Gen.AdamAdaW.Points
public import proofs.«01_k».proof.Proof.Gen.AdamAdaW.Frame
public import proofs.«01_k».proof.Proof.Gen.AdamAdaWIdeal
public import proofs.«01_k».proof.Proof.Gen.AdamAdaWIdeal.Skeleton
public import proofs.«01_k».proof.Proof.Gen.AdamAdaWIdeal.Launch
public import proofs.«01_k».proof.Proof.Gen.AdamAdaWIdeal.Points
public import proofs.«01_k».proof.Proof.Gen.AdamAdaWIdeal.Frame
public import proofs.«01_k».proof.Proof.Gen.AdamAdaWRefIdeal
public import proofs.«01_k».proof.Proof.Gen.AdamAdaWIdeal.Value
public import proofs.«01_k».proof.Proof.Gen.AdamAdaWRefIdeal.Run
public import proofs.«01_k».proof.Proof.AdamAdaW.Equation
public import proofs.«01_k».proof.Proof.Gen.AdamAdaB
public import proofs.«01_k».proof.Proof.Gen.AdamAdaB.Skeleton
public import proofs.«01_k».proof.Proof.Gen.AdamAdaB.Launch
public import proofs.«01_k».proof.Proof.Gen.AdamAdaB.Points
public import proofs.«01_k».proof.Proof.Gen.AdamAdaB.Frame
public import proofs.«01_k».proof.Proof.Gen.AdamAdaBIdeal
public import proofs.«01_k».proof.Proof.Gen.AdamAdaBIdeal.Skeleton
public import proofs.«01_k».proof.Proof.Gen.AdamAdaBIdeal.Launch
public import proofs.«01_k».proof.Proof.Gen.AdamAdaBIdeal.Points
public import proofs.«01_k».proof.Proof.Gen.AdamAdaBIdeal.Frame
public import proofs.«01_k».proof.Proof.Gen.AdamAdaBRefIdeal
public import proofs.«01_k».proof.Proof.Gen.AdamAdaBIdeal.Value
public import proofs.«01_k».proof.Proof.Gen.AdamAdaBRefIdeal.Run
public import proofs.«01_k».proof.Proof.AdamAdaB.Equation
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInRefIdeal
public import proofs.«01_k».proof.Proof.Gen.AdamInIdeal.Value
public import proofs.«01_k».proof.Proof.Gen.AdamInRefIdeal.Run
public import proofs.«01_k».proof.Proof.AdamIn.Equation
public import proofs.«01_k».proof.Proof.Gen.AdamBIn
public import proofs.«01_k».proof.Proof.Gen.AdamBIn.Skeleton
public import proofs.«01_k».proof.Proof.Gen.AdamBIn.Launch
public import proofs.«01_k».proof.Proof.Gen.AdamBIn.Points
public import proofs.«01_k».proof.Proof.Gen.AdamBIn.Frame
public import proofs.«01_k».proof.Proof.Gen.AdamBInIdeal
public import proofs.«01_k».proof.Proof.Gen.AdamBInIdeal.Skeleton
public import proofs.«01_k».proof.Proof.Gen.AdamBInIdeal.Launch
public import proofs.«01_k».proof.Proof.Gen.AdamBInIdeal.Points
public import proofs.«01_k».proof.Proof.Gen.AdamBInIdeal.Frame
public import proofs.«01_k».proof.Proof.Gen.AdamBInRefIdeal
public import proofs.«01_k».proof.Proof.Gen.AdamBInIdeal.Value
public import proofs.«01_k».proof.Proof.Gen.AdamBInRefIdeal.Run
public import proofs.«01_k».proof.Proof.AdamBIn.Equation
public import proofs.«01_k».proof.Proof.Gen.AdamSinks
public import proofs.«01_k».proof.Proof.Gen.AdamSinks.Skeleton
public import proofs.«01_k».proof.Proof.Gen.AdamSinks.Launch
public import proofs.«01_k».proof.Proof.Gen.AdamSinks.Points
public import proofs.«01_k».proof.Proof.Gen.AdamSinks.Frame
public import proofs.«01_k».proof.Proof.Gen.AdamSinksIdeal
public import proofs.«01_k».proof.Proof.Gen.AdamSinksIdeal.Skeleton
public import proofs.«01_k».proof.Proof.Gen.AdamSinksIdeal.Launch
public import proofs.«01_k».proof.Proof.Gen.AdamSinksIdeal.Points
public import proofs.«01_k».proof.Proof.Gen.AdamSinksIdeal.Frame
public import proofs.«01_k».proof.Proof.Gen.AdamSinksRefIdeal
public import proofs.«01_k».proof.Proof.Gen.AdamSinksIdeal.Value
public import proofs.«01_k».proof.Proof.Gen.AdamSinksRefIdeal.Run
public import proofs.«01_k».proof.Proof.AdamSinks.Equation
public import proofs.«01_k».proof.Proof.Gen.AdamPoolW
public import proofs.«01_k».proof.Proof.Gen.AdamPoolW.Skeleton
public import proofs.«01_k».proof.Proof.Gen.AdamPoolW.Launch
public import proofs.«01_k».proof.Proof.Gen.AdamPoolW.Points
public import proofs.«01_k».proof.Proof.Gen.AdamPoolW.Frame
public import proofs.«01_k».proof.Proof.Gen.AdamPoolWIdeal
public import proofs.«01_k».proof.Proof.Gen.AdamPoolWIdeal.Skeleton
public import proofs.«01_k».proof.Proof.Gen.AdamPoolWIdeal.Launch
public import proofs.«01_k».proof.Proof.Gen.AdamPoolWIdeal.Points
public import proofs.«01_k».proof.Proof.Gen.AdamPoolWIdeal.Frame
public import proofs.«01_k».proof.Proof.Gen.AdamPoolWRefIdeal
public import proofs.«01_k».proof.Proof.Gen.AdamPoolWIdeal.Value
public import proofs.«01_k».proof.Proof.Gen.AdamPoolWRefIdeal.Run
public import proofs.«01_k».proof.Proof.AdamPoolW.Equation
public import proofs.«01_k».proof.Proof.Gen.AdamPoolS
public import proofs.«01_k».proof.Proof.Gen.AdamPoolS.Skeleton
public import proofs.«01_k».proof.Proof.Gen.AdamPoolS.Launch
public import proofs.«01_k».proof.Proof.Gen.AdamPoolS.Points
public import proofs.«01_k».proof.Proof.Gen.AdamPoolS.Frame
public import proofs.«01_k».proof.Proof.Gen.AdamPoolSIdeal
public import proofs.«01_k».proof.Proof.Gen.AdamPoolSIdeal.Skeleton
public import proofs.«01_k».proof.Proof.Gen.AdamPoolSIdeal.Launch
public import proofs.«01_k».proof.Proof.Gen.AdamPoolSIdeal.Points
public import proofs.«01_k».proof.Proof.Gen.AdamPoolSIdeal.Frame
public import proofs.«01_k».proof.Proof.Gen.AdamPoolSRefIdeal
public import proofs.«01_k».proof.Proof.Gen.AdamPoolSIdeal.Value
public import proofs.«01_k».proof.Proof.Gen.AdamPoolSRefIdeal.Run
public import proofs.«01_k».proof.Proof.AdamPoolS.Equation
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutRefIdeal
public import proofs.«01_k».proof.Proof.Gen.AdamOutIdeal.Value
public import proofs.«01_k».proof.Proof.Gen.AdamOutRefIdeal.Run
public import proofs.«01_k».proof.Proof.AdamOut.Equation
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpRefIdeal
public import proofs.«01_k».proof.Proof.Gen.AdamUpIdeal.Value
public import proofs.«01_k».proof.Proof.Gen.AdamUpRefIdeal.Run
public import proofs.«01_k».proof.Proof.AdamUp.Equation
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownRefIdeal
public import proofs.«01_k».proof.Proof.Gen.AdamDownIdeal.Value
public import proofs.«01_k».proof.Proof.Gen.AdamDownRefIdeal.Run
public import proofs.«01_k».proof.Proof.AdamDown.Equation
public import proofs.«01_k».proof.Proof.Gen.AdamG
public import proofs.«01_k».proof.Proof.Gen.AdamG.Skeleton
public import proofs.«01_k».proof.Proof.Gen.AdamG.Launch
public import proofs.«01_k».proof.Proof.Gen.AdamG.Points
public import proofs.«01_k».proof.Proof.Gen.AdamG.Frame
public import proofs.«01_k».proof.Proof.Gen.AdamGIdeal
public import proofs.«01_k».proof.Proof.Gen.AdamGIdeal.Skeleton
public import proofs.«01_k».proof.Proof.Gen.AdamGIdeal.Launch
public import proofs.«01_k».proof.Proof.Gen.AdamGIdeal.Points
public import proofs.«01_k».proof.Proof.Gen.AdamGIdeal.Frame
public import proofs.«01_k».proof.Proof.Gen.AdamGRefIdeal
public import proofs.«01_k».proof.Proof.Gen.AdamGIdeal.Value
public import proofs.«01_k».proof.Proof.Gen.AdamGRefIdeal.Run
public import proofs.«01_k».proof.Proof.AdamG.Equation
public import proofs.«01_k».proof.Proof.Gen.AdaGrad
public import proofs.«01_k».proof.Proof.Gen.AdaGrad.Skeleton
public import proofs.«01_k».proof.Proof.Gen.AdaGrad.Launch
public import proofs.«01_k».proof.Proof.Gen.AdaGrad.Points
public import proofs.«01_k».proof.Proof.Gen.AdaGrad.Frame
public import proofs.«01_k».proof.Proof.Gen.AdaGradIdeal
public import proofs.«01_k».proof.Proof.Gen.AdaGradIdeal.Skeleton
public import proofs.«01_k».proof.Proof.Gen.AdaGradIdeal.Launch
public import proofs.«01_k».proof.Proof.Gen.AdaGradIdeal.Points
public import proofs.«01_k».proof.Proof.Gen.AdaGradIdeal.Frame
public import proofs.«01_k».proof.Proof.Gen.AdaGradRefIdeal
public import proofs.«01_k».proof.Proof.Gen.AdaGradIdeal.Value
public import proofs.«01_k».proof.Proof.Gen.AdaGradRefIdeal.Run
public import proofs.«01_k».proof.Proof.AdaGrad.Equation
public import proofs.«01_k».proof.Proof.Gen.SumDev
public import proofs.«01_k».proof.Proof.Gen.SumDev.Skeleton
public import proofs.«01_k».proof.Proof.Gen.SumDev.Launch
public import proofs.«01_k».proof.Proof.Gen.SumDev.Points
public import proofs.«01_k».proof.Proof.Gen.SumDev.Frame
public import proofs.«01_k».proof.Proof.Gen.SumDevIdeal
public import proofs.«01_k».proof.Proof.Gen.SumDevIdeal.Skeleton
public import proofs.«01_k».proof.Proof.Gen.SumDevIdeal.Launch
public import proofs.«01_k».proof.Proof.Gen.SumDevIdeal.Points
public import proofs.«01_k».proof.Proof.Gen.SumDevIdeal.Frame
public import proofs.«01_k».proof.Proof.Gen.SumDevRefIdeal
public import proofs.«01_k».proof.Proof.Gen.SumDevIdeal.Value
public import proofs.«01_k».proof.Proof.Gen.SumDevRefIdeal.Run
public import proofs.«01_k».proof.Proof.SumDev.Equation
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdRefIdeal
public import proofs.«01_k».proof.Proof.Gen.Pre_in_finite
public import proofs.«01_k».proof.Proof.Gen.InBwdIdeal.Value
public import proofs.«01_k».proof.Proof.Gen.InBwdRefIdeal.Run
public import proofs.«01_k».proof.Proof.Gen.InBwdRefIdeal.Read
public import proofs.«01_k».proof.Proof.InBwd.Equation
public import Idealize.ShloMosaic.Adequacy
public import Idealize.ShloMosaic.Init

@[expose] public section

noncomputable section

namespace Cert.Proof

open Idealize.ShloMosaic Idealize.SL.Sem

theorem claim : Cert.Claim := ⟨Cert.Pool.Gen.facts, Cert.PoolIdeal.Gen.facts, Cert.PoolRefIdeal.Gen.facts,
  Cert.WGate.Gen.facts, Cert.WGateIdeal.Gen.facts, Cert.WGateRefIdeal.Gen.facts,
  Cert.Ffn.Gen.facts, Cert.FfnIdeal.Gen.facts, Cert.FfnRefIdeal.Gen.facts,
  Cert.Fwd.Gen.facts, Cert.FwdIdeal.Gen.facts, Cert.FwdRefIdeal.Gen.facts,
  Cert.Loss.Gen.facts, Cert.LossIdeal.Gen.facts, Cert.LossRefIdeal.Gen.facts,
  Cert.AdamAdaW.Gen.facts, Cert.AdamAdaWIdeal.Gen.facts, Cert.AdamAdaWRefIdeal.Gen.facts,
  Cert.AdamAdaB.Gen.facts, Cert.AdamAdaBIdeal.Gen.facts, Cert.AdamAdaBRefIdeal.Gen.facts,
  Cert.AdamIn.Gen.facts, Cert.AdamInIdeal.Gen.facts, Cert.AdamInRefIdeal.Gen.facts,
  Cert.AdamBIn.Gen.facts, Cert.AdamBInIdeal.Gen.facts, Cert.AdamBInRefIdeal.Gen.facts,
  Cert.AdamSinks.Gen.facts, Cert.AdamSinksIdeal.Gen.facts, Cert.AdamSinksRefIdeal.Gen.facts,
  Cert.AdamPoolW.Gen.facts, Cert.AdamPoolWIdeal.Gen.facts, Cert.AdamPoolWRefIdeal.Gen.facts,
  Cert.AdamPoolS.Gen.facts, Cert.AdamPoolSIdeal.Gen.facts, Cert.AdamPoolSRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamG.Gen.facts, Cert.AdamGIdeal.Gen.facts, Cert.AdamGRefIdeal.Gen.facts,
  Cert.AdaGrad.Gen.facts, Cert.AdaGradIdeal.Gen.facts, Cert.AdaGradRefIdeal.Gen.facts,
  Cert.SumDev.Gen.facts, Cert.SumDevIdeal.Gen.facts, Cert.SumDevRefIdeal.Gen.facts,
  Cert.InBwd.Gen.facts, Cert.InBwdIdeal.Gen.facts, Cert.InBwdRefIdeal.Gen.facts,
  Cert.Pre_pool_finite.Gen.facts, Cert.Pre_ffn_finite.Gen.facts, Cert.Pre_fwd_finite.Gen.facts,
  Cert.Pre_loss_finite.Gen.facts, Cert.Pre_in_finite.Gen.facts,
  fun m ρ _ => Cert.Pool.Gen.frame m ρ, fun m ρ _ => Cert.PoolIdeal.Gen.frame m ρ, fun m ρ _ => Cert.PoolIdeal.Gen.frame m ρ,
  fun m ρ _ => Pool.frame_reference m ρ trivial, fun m ρ _ => Pool.frame_reference m ρ trivial, fun m ρ _ => Cert.WGate.Gen.frame m ρ,
  fun m ρ _ => Cert.WGateIdeal.Gen.frame m ρ, fun m ρ _ => WGate.frame_reference m ρ trivial, fun m ρ _ => Cert.Ffn.Gen.frame m ρ,
  fun m ρ _ => Cert.FfnIdeal.Gen.frame m ρ, fun m ρ _ => Cert.FfnIdeal.Gen.frame m ρ, fun m ρ _ => Ffn.frame_reference m ρ trivial,
  fun m ρ _ => Ffn.frame_reference m ρ trivial, fun m ρ _ => Cert.Fwd.Gen.frame m ρ, fun m ρ _ => Cert.FwdIdeal.Gen.frame m ρ,
  fun m ρ _ => Cert.FwdIdeal.Gen.frame m ρ, fun m ρ _ => Fwd.frame_reference m ρ trivial, fun m ρ _ => Fwd.frame_reference m ρ trivial,
  fun m ρ _ => Cert.Loss.Gen.frame m ρ, fun m ρ _ => Cert.LossIdeal.Gen.frame m ρ, fun m ρ _ => Cert.LossIdeal.Gen.frame m ρ,
  fun m ρ _ => Loss.frame_reference m ρ trivial, fun m ρ _ => Loss.frame_reference m ρ trivial, fun m ρ _ => Cert.AdamAdaW.Gen.frame m ρ,
  fun m ρ _ => Cert.AdamAdaWIdeal.Gen.frame m ρ, fun m ρ _ => AdamAdaW.frame_reference m ρ trivial, fun m ρ _ => Cert.AdamAdaB.Gen.frame m ρ,
  fun m ρ _ => Cert.AdamAdaBIdeal.Gen.frame m ρ, fun m ρ _ => AdamAdaB.frame_reference m ρ trivial, fun m ρ _ => Cert.AdamIn.Gen.frame m ρ,
  fun m ρ _ => Cert.AdamInIdeal.Gen.frame m ρ, fun m ρ _ => AdamIn.frame_reference m ρ trivial, fun m ρ _ => Cert.AdamBIn.Gen.frame m ρ,
  fun m ρ _ => Cert.AdamBInIdeal.Gen.frame m ρ, fun m ρ _ => AdamBIn.frame_reference m ρ trivial, fun m ρ _ => Cert.AdamSinks.Gen.frame m ρ,
  fun m ρ _ => Cert.AdamSinksIdeal.Gen.frame m ρ, fun m ρ _ => AdamSinks.frame_reference m ρ trivial, fun m ρ _ => Cert.AdamPoolW.Gen.frame m ρ,
  fun m ρ _ => Cert.AdamPoolWIdeal.Gen.frame m ρ, fun m ρ _ => AdamPoolW.frame_reference m ρ trivial, fun m ρ _ => Cert.AdamPoolS.Gen.frame m ρ,
  fun m ρ _ => Cert.AdamPoolSIdeal.Gen.frame m ρ, fun m ρ _ => AdamPoolS.frame_reference m ρ trivial, fun m ρ _ => Cert.AdamOut.Gen.frame m ρ,
  fun m ρ _ => Cert.AdamOutIdeal.Gen.frame m ρ, fun m ρ _ => AdamOut.frame_reference m ρ trivial, fun m ρ _ => Cert.AdamUp.Gen.frame m ρ,
  fun m ρ _ => Cert.AdamUpIdeal.Gen.frame m ρ, fun m ρ _ => AdamUp.frame_reference m ρ trivial, fun m ρ _ => Cert.AdamDown.Gen.frame m ρ,
  fun m ρ _ => Cert.AdamDownIdeal.Gen.frame m ρ, fun m ρ _ => AdamDown.frame_reference m ρ trivial, fun m ρ _ => Cert.AdamG.Gen.frame m ρ,
  fun m ρ _ => Cert.AdamGIdeal.Gen.frame m ρ, fun m ρ _ => AdamG.frame_reference m ρ trivial, fun m ρ _ => Cert.AdaGrad.Gen.frame m ρ,
  fun m ρ _ => Cert.AdaGradIdeal.Gen.frame m ρ, fun m ρ _ => AdaGrad.frame_reference m ρ trivial, fun m ρ _ => Cert.SumDev.Gen.frame m ρ,
  fun m ρ _ => Cert.SumDevIdeal.Gen.frame m ρ, fun m ρ _ => SumDev.frame_reference m ρ trivial, fun m ρ _ => Cert.InBwd.Gen.frame m ρ,
  fun m ρ _ => Cert.InBwdIdeal.Gen.frame m ρ, fun m ρ _ => Cert.InBwdIdeal.Gen.frame m ρ, fun m ρ _ => InBwd.frame_reference m ρ trivial,
  fun m ρ _ => InBwd.frame_reference m ρ trivial,
  trivial, Pool.algebraic, trivial, WGate.algebraic,
  trivial, Ffn.algebraic, trivial, Fwd.algebraic,
  trivial, Loss.algebraic, trivial, AdamAdaW.algebraic,
  trivial, AdamAdaB.algebraic, trivial, AdamIn.algebraic,
  trivial, AdamBIn.algebraic, trivial, AdamSinks.algebraic,
  trivial, AdamPoolW.algebraic, trivial, AdamPoolS.algebraic,
  trivial, AdamOut.algebraic, trivial, AdamUp.algebraic,
  trivial, AdamDown.algebraic, trivial, AdamG.algebraic,
  trivial, AdaGrad.algebraic, trivial, SumDev.algebraic,
  trivial, InBwd.algebraic⟩

end Cert.Proof

end
